-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_cotangent [hPre_finite_cotangent : Cert.Pre_finite_cotangent.Facts] (m : (ℓ : Loc Cert.ConvIdeal.nD Cert.ConvIdeal.τ Cert.ConvIdeal.sig) → Buf (Elt Ideal) ℓ) : Prop :=
  ∀ c : Dev Cert.ConvIdeal.nD,
    (Cert.Pre_finite_cotangent.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_cotangent [hPre_finite_cotangent : Cert.Pre_finite_cotangent.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_cotangent.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_activation [hPre_finite_activation : Cert.Pre_finite_activation.Facts] (m : (ℓ : Loc Cert.ActIdeal.nD Cert.ActIdeal.τ Cert.ActIdeal.sig) → Buf (Elt Ideal) ℓ) : Prop :=
  ∀ c : Dev Cert.ActIdeal.nD,
    (Cert.Pre_finite_activation.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_finite_activation.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_finite_activation.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_activation [hPre_finite_activation : Cert.Pre_finite_activation.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_activation.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_finite_activation.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_finite_activation.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.2 = (fun _ => 1#1)

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_GateUpGrad (m : (ℓ : Loc Cert.GateUpGrad.nD Cert.GateUpGrad.τ Cert.GateUpGrad.sig) → Buf (Elt Bits) ℓ) : Prop :=
  True

def Pre_GateUpGradIdeal (m : (ℓ : Loc Cert.GateUpGradIdeal.nD Cert.GateUpGradIdeal.τ Cert.GateUpGradIdeal.sig) → Buf (Elt Ideal) ℓ) : Prop :=
  True

def Pre_GateUpGradRefIdeal (m : (ℓ : Loc Cert.GateUpGradRefIdeal.nD Cert.GateUpGradRefIdeal.τ Cert.GateUpGradRefIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesRefIdeal (m : (ℓ : Loc Cert.BranchesRefIdeal.nD Cert.BranchesRefIdeal.τ Cert.BranchesRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_BranchGrad (m : (ℓ : Loc Cert.BranchGrad.nD Cert.BranchGrad.τ Cert.BranchGrad.sig) → Buf (Elt Bits) ℓ) : Prop :=
  True

def Pre_BranchGradIdeal (m : (ℓ : Loc Cert.BranchGradIdeal.nD Cert.BranchGradIdeal.τ Cert.BranchGradIdeal.sig) → Buf (Elt Ideal) ℓ) : Prop :=
  True

def Pre_BranchGradRefIdeal (m : (ℓ : Loc Cert.BranchGradRefIdeal.nD Cert.BranchGradRefIdeal.τ Cert.BranchGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite_hgrn [hPre_finite_hgrn : Cert.Pre_finite_hgrn.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_hgrn.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).1 = (fun _ => 1#1)
    ∧ (Cert.Pre_finite_hgrn.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2 = (fun _ => 1#1)

def Pre_HgrnIdeal_finite_query [hPre_finite_query : Cert.Pre_finite_query.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_query.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).1 = (fun _ => 1#1)
    ∧ (Cert.Pre_finite_query.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2.1 = (fun _ => 1#1)
    ∧ (Cert.Pre_finite_query.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2.2.1 = (fun _ => 1#1)
    ∧ (Cert.Pre_finite_query.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2.2.2.1 = (fun _ => 1#1)
    ∧ (Cert.Pre_finite_query.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2.2.2.2.1 = (fun _ => 1#1)
    ∧ (Cert.Pre_finite_query.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2.2.2.2.2.1 = (fun _ => 1#1)
    ∧ (Cert.Pre_finite_query.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2.2.2.2.2.2.1 = (fun _ => 1#1)
    ∧ (Cert.Pre_finite_query.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2.2.2.2.2.2.2 = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_finite_hgrn [hPre_finite_hgrn : Cert.Pre_finite_hgrn.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_finite_hgrn.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3)) (m ((c.tc : Thread Cert.HgrnRefIdeal.nD Cert.HgrnRefIdeal.τ).loc Cert.HgrnRefIdeal.main_arg4)) (m ((c.tc : Thread Cert.HgrnRefIdeal.nD Cert.HgrnRefIdeal.τ).loc Cert.HgrnRefIdeal.main_arg5))).1 = (fun _ => 1#1)
    ∧ (Cert.Pre_finite_hgrn.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3)) (m ((c.tc : Thread Cert.HgrnRefIdeal.nD Cert.HgrnRefIdeal.τ).loc Cert.HgrnRefIdeal.main_arg4)) (m ((c.tc : Thread Cert.HgrnRefIdeal.nD Cert.HgrnRefIdeal.τ).loc Cert.HgrnRefIdeal.main_arg5))).2 = (fun _ => 1#1)

def Pre_HgrnQueryRefIdeal (m : (ℓ : Loc Cert.HgrnQueryRefIdeal.nD Cert.HgrnQueryRefIdeal.τ Cert.HgrnQueryRefIdeal.sig) → Buf (Elt Ideal) ℓ) : Prop :=
  True

def Pre_HgrnQueryRefIdeal_finite_query [hPre_finite_query : Cert.Pre_finite_query.Facts] (m : (ℓ : Loc Cert.HgrnQueryRefIdeal.nD Cert.HgrnQueryRefIdeal.τ Cert.HgrnQueryRefIdeal.sig) → Buf (Elt Ideal) ℓ) : Prop :=
  ∀ c : Dev Cert.HgrnQueryRefIdeal.nD,
    (Cert.Pre_finite_query.fn (F := Ideal) (m ((c.tc : Thread Cert.HgrnQueryRefIdeal.nD Cert.HgrnQueryRefIdeal.τ).loc Cert.HgrnQueryRefIdeal.main_arg0)) (m ((c.tc : Thread Cert.HgrnQueryRefIdeal.nD Cert.HgrnQueryRefIdeal.τ).loc Cert.HgrnQueryRefIdeal.main_arg1)) (m ((c.tc : Thread Cert.HgrnQueryRefIdeal.nD Cert.HgrnQueryRefIdeal.τ).loc Cert.HgrnQueryRefIdeal.main_arg2)) (m ((c.tc : Thread Cert.HgrnQueryRefIdeal.nD Cert.HgrnQueryRefIdeal.τ).loc Cert.HgrnQueryRefIdeal.main_arg3)) (m ((c.tc : Thread Cert.HgrnQueryRefIdeal.nD Cert.HgrnQueryRefIdeal.τ).loc Cert.HgrnQueryRefIdeal.main_arg4)) (m ((c.tc : Thread Cert.HgrnQueryRefIdeal.nD Cert.HgrnQueryRefIdeal.τ).loc Cert.HgrnQueryRefIdeal.main_arg5))).1 = (fun _ => 1#1)
    ∧ (Cert.Pre_finite_query.fn (F := Ideal) (m ((c.tc : Thread Cert.HgrnQueryRefIdeal.nD Cert.HgrnQueryRefIdeal.τ).loc Cert.HgrnQueryRefIdeal.main_arg0)) (m ((c.tc : Thread Cert.HgrnQueryRefIdeal.nD Cert.HgrnQueryRefIdeal.τ).loc Cert.HgrnQueryRefIdeal.main_arg1)) (m ((c.tc : Thread Cert.HgrnQueryRefIdeal.nD Cert.HgrnQueryRefIdeal.τ).loc Cert.HgrnQueryRefIdeal.main_arg2)) (m ((c.tc : Thread Cert.HgrnQueryRefIdeal.nD Cert.HgrnQueryRefIdeal.τ).loc Cert.HgrnQueryRefIdeal.main_arg3)) (m ((c.tc : Thread Cert.HgrnQueryRefIdeal.nD Cert.HgrnQueryRefIdeal.τ).loc Cert.HgrnQueryRefIdeal.main_arg4)) (m ((c.tc : Thread Cert.HgrnQueryRefIdeal.nD Cert.HgrnQueryRefIdeal.τ).loc Cert.HgrnQueryRefIdeal.main_arg5))).2.1 = (fun _ => 1#1)
    ∧ (Cert.Pre_finite_query.fn (F := Ideal) (m ((c.tc : Thread Cert.HgrnQueryRefIdeal.nD Cert.HgrnQueryRefIdeal.τ).loc Cert.HgrnQueryRefIdeal.main_arg0)) (m ((c.tc : Thread Cert.HgrnQueryRefIdeal.nD Cert.HgrnQueryRefIdeal.τ).loc Cert.HgrnQueryRefIdeal.main_arg1)) (m ((c.tc : Thread Cert.HgrnQueryRefIdeal.nD Cert.HgrnQueryRefIdeal.τ).loc Cert.HgrnQueryRefIdeal.main_arg2)) (m ((c.tc : Thread Cert.HgrnQueryRefIdeal.nD Cert.HgrnQueryRefIdeal.τ).loc Cert.HgrnQueryRefIdeal.main_arg3)) (m ((c.tc : Thread Cert.HgrnQueryRefIdeal.nD Cert.HgrnQueryRefIdeal.τ).loc Cert.HgrnQueryRefIdeal.main_arg4)) (m ((c.tc : Thread Cert.HgrnQueryRefIdeal.nD Cert.HgrnQueryRefIdeal.τ).loc Cert.HgrnQueryRefIdeal.main_arg5))).2.2.1 = (fun _ => 1#1)
    ∧ (Cert.Pre_finite_query.fn (F := Ideal) (m ((c.tc : Thread Cert.HgrnQueryRefIdeal.nD Cert.HgrnQueryRefIdeal.τ).loc Cert.HgrnQueryRefIdeal.main_arg0)) (m ((c.tc : Thread Cert.HgrnQueryRefIdeal.nD Cert.HgrnQueryRefIdeal.τ).loc Cert.HgrnQueryRefIdeal.main_arg1)) (m ((c.tc : Thread Cert.HgrnQueryRefIdeal.nD Cert.HgrnQueryRefIdeal.τ).loc Cert.HgrnQueryRefIdeal.main_arg2)) (m ((c.tc : Thread Cert.HgrnQueryRefIdeal.nD Cert.HgrnQueryRefIdeal.τ).loc Cert.HgrnQueryRefIdeal.main_arg3)) (m ((c.tc : Thread Cert.HgrnQueryRefIdeal.nD Cert.HgrnQueryRefIdeal.τ).loc Cert.HgrnQueryRefIdeal.main_arg4)) (m ((c.tc : Thread Cert.HgrnQueryRefIdeal.nD Cert.HgrnQueryRefIdeal.τ).loc Cert.HgrnQueryRefIdeal.main_arg5))).2.2.2.1 = (fun _ => 1#1)
    ∧ (Cert.Pre_finite_query.fn (F := Ideal) (m ((c.tc : Thread Cert.HgrnQueryRefIdeal.nD Cert.HgrnQueryRefIdeal.τ).loc Cert.HgrnQueryRefIdeal.main_arg0)) (m ((c.tc : Thread Cert.HgrnQueryRefIdeal.nD Cert.HgrnQueryRefIdeal.τ).loc Cert.HgrnQueryRefIdeal.main_arg1)) (m ((c.tc : Thread Cert.HgrnQueryRefIdeal.nD Cert.HgrnQueryRefIdeal.τ).loc Cert.HgrnQueryRefIdeal.main_arg2)) (m ((c.tc : Thread Cert.HgrnQueryRefIdeal.nD Cert.HgrnQueryRefIdeal.τ).loc Cert.HgrnQueryRefIdeal.main_arg3)) (m ((c.tc : Thread Cert.HgrnQueryRefIdeal.nD Cert.HgrnQueryRefIdeal.τ).loc Cert.HgrnQueryRefIdeal.main_arg4)) (m ((c.tc : Thread Cert.HgrnQueryRefIdeal.nD Cert.HgrnQueryRefIdeal.τ).loc Cert.HgrnQueryRefIdeal.main_arg5))).2.2.2.2.1 = (fun _ => 1#1)
    ∧ (Cert.Pre_finite_query.fn (F := Ideal) (m ((c.tc : Thread Cert.HgrnQueryRefIdeal.nD Cert.HgrnQueryRefIdeal.τ).loc Cert.HgrnQueryRefIdeal.main_arg0)) (m ((c.tc : Thread Cert.HgrnQueryRefIdeal.nD Cert.HgrnQueryRefIdeal.τ).loc Cert.HgrnQueryRefIdeal.main_arg1)) (m ((c.tc : Thread Cert.HgrnQueryRefIdeal.nD Cert.HgrnQueryRefIdeal.τ).loc Cert.HgrnQueryRefIdeal.main_arg2)) (m ((c.tc : Thread Cert.HgrnQueryRefIdeal.nD Cert.HgrnQueryRefIdeal.τ).loc Cert.HgrnQueryRefIdeal.main_arg3)) (m ((c.tc : Thread Cert.HgrnQueryRefIdeal.nD Cert.HgrnQueryRefIdeal.τ).loc Cert.HgrnQueryRefIdeal.main_arg4)) (m ((c.tc : Thread Cert.HgrnQueryRefIdeal.nD Cert.HgrnQueryRefIdeal.τ).loc Cert.HgrnQueryRefIdeal.main_arg5))).2.2.2.2.2.1 = (fun _ => 1#1)
    ∧ (Cert.Pre_finite_query.fn (F := Ideal) (m ((c.tc : Thread Cert.HgrnQueryRefIdeal.nD Cert.HgrnQueryRefIdeal.τ).loc Cert.HgrnQueryRefIdeal.main_arg0)) (m ((c.tc : Thread Cert.HgrnQueryRefIdeal.nD Cert.HgrnQueryRefIdeal.τ).loc Cert.HgrnQueryRefIdeal.main_arg1)) (m ((c.tc : Thread Cert.HgrnQueryRefIdeal.nD Cert.HgrnQueryRefIdeal.τ).loc Cert.HgrnQueryRefIdeal.main_arg2)) (m ((c.tc : Thread Cert.HgrnQueryRefIdeal.nD Cert.HgrnQueryRefIdeal.τ).loc Cert.HgrnQueryRefIdeal.main_arg3)) (m ((c.tc : Thread Cert.HgrnQueryRefIdeal.nD Cert.HgrnQueryRefIdeal.τ).loc Cert.HgrnQueryRefIdeal.main_arg4)) (m ((c.tc : Thread Cert.HgrnQueryRefIdeal.nD Cert.HgrnQueryRefIdeal.τ).loc Cert.HgrnQueryRefIdeal.main_arg5))).2.2.2.2.2.2.1 = (fun _ => 1#1)
    ∧ (Cert.Pre_finite_query.fn (F := Ideal) (m ((c.tc : Thread Cert.HgrnQueryRefIdeal.nD Cert.HgrnQueryRefIdeal.τ).loc Cert.HgrnQueryRefIdeal.main_arg0)) (m ((c.tc : Thread Cert.HgrnQueryRefIdeal.nD Cert.HgrnQueryRefIdeal.τ).loc Cert.HgrnQueryRefIdeal.main_arg1)) (m ((c.tc : Thread Cert.HgrnQueryRefIdeal.nD Cert.HgrnQueryRefIdeal.τ).loc Cert.HgrnQueryRefIdeal.main_arg2)) (m ((c.tc : Thread Cert.HgrnQueryRefIdeal.nD Cert.HgrnQueryRefIdeal.τ).loc Cert.HgrnQueryRefIdeal.main_arg3)) (m ((c.tc : Thread Cert.HgrnQueryRefIdeal.nD Cert.HgrnQueryRefIdeal.τ).loc Cert.HgrnQueryRefIdeal.main_arg4)) (m ((c.tc : Thread Cert.HgrnQueryRefIdeal.nD Cert.HgrnQueryRefIdeal.τ).loc Cert.HgrnQueryRefIdeal.main_arg5))).2.2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradRefIdeal (m : (ℓ : Loc Cert.MergeGradRefIdeal.nD Cert.MergeGradRefIdeal.τ Cert.MergeGradRefIdeal.sig) → Buf (Elt Ideal) ℓ) : Prop :=
  True

def Pre_UnGrad (m : (ℓ : Loc Cert.UnGrad.nD Cert.UnGrad.τ Cert.UnGrad.sig) → Buf (Elt Bits) ℓ) : Prop :=
  True

def Pre_UnGradIdeal (m : (ℓ : Loc Cert.UnGradIdeal.nD Cert.UnGradIdeal.τ Cert.UnGradIdeal.sig) → Buf (Elt Ideal) ℓ) : Prop :=
  True

def Pre_UnGradIdeal_finite_un [hPre_finite_un : Cert.Pre_finite_un.Facts] (m : (ℓ : Loc Cert.UnGradIdeal.nD Cert.UnGradIdeal.τ Cert.UnGradIdeal.sig) → Buf (Elt Ideal) ℓ) : Prop :=
  ∀ c : Dev Cert.UnGradIdeal.nD,
    (Cert.Pre_finite_un.fn (F := Ideal) (m ((c.tc : Thread Cert.UnGradIdeal.nD Cert.UnGradIdeal.τ).loc Cert.UnGradIdeal.main_arg0)) (m ((c.tc : Thread Cert.UnGradIdeal.nD Cert.UnGradIdeal.τ).loc Cert.UnGradIdeal.main_arg1)) (m ((c.tc : Thread Cert.UnGradIdeal.nD Cert.UnGradIdeal.τ).loc Cert.UnGradIdeal.main_arg2)) (m ((c.tc : Thread Cert.UnGradIdeal.nD Cert.UnGradIdeal.τ).loc Cert.UnGradIdeal.main_arg3)) (m ((c.tc : Thread Cert.UnGradIdeal.nD Cert.UnGradIdeal.τ).loc Cert.UnGradIdeal.main_arg4)) (m ((c.tc : Thread Cert.UnGradIdeal.nD Cert.UnGradIdeal.τ).loc Cert.UnGradIdeal.main_arg5))).1 = (fun _ => 1#1)
    ∧ (Cert.Pre_finite_un.fn (F := Ideal) (m ((c.tc : Thread Cert.UnGradIdeal.nD Cert.UnGradIdeal.τ).loc Cert.UnGradIdeal.main_arg0)) (m ((c.tc : Thread Cert.UnGradIdeal.nD Cert.UnGradIdeal.τ).loc Cert.UnGradIdeal.main_arg1)) (m ((c.tc : Thread Cert.UnGradIdeal.nD Cert.UnGradIdeal.τ).loc Cert.UnGradIdeal.main_arg2)) (m ((c.tc : Thread Cert.UnGradIdeal.nD Cert.UnGradIdeal.τ).loc Cert.UnGradIdeal.main_arg3)) (m ((c.tc : Thread Cert.UnGradIdeal.nD Cert.UnGradIdeal.τ).loc Cert.UnGradIdeal.main_arg4)) (m ((c.tc : Thread Cert.UnGradIdeal.nD Cert.UnGradIdeal.τ).loc Cert.UnGradIdeal.main_arg5))).2.1 = (fun _ => 1#1)
    ∧ (Cert.Pre_finite_un.fn (F := Ideal) (m ((c.tc : Thread Cert.UnGradIdeal.nD Cert.UnGradIdeal.τ).loc Cert.UnGradIdeal.main_arg0)) (m ((c.tc : Thread Cert.UnGradIdeal.nD Cert.UnGradIdeal.τ).loc Cert.UnGradIdeal.main_arg1)) (m ((c.tc : Thread Cert.UnGradIdeal.nD Cert.UnGradIdeal.τ).loc Cert.UnGradIdeal.main_arg2)) (m ((c.tc : Thread Cert.UnGradIdeal.nD Cert.UnGradIdeal.τ).loc Cert.UnGradIdeal.main_arg3)) (m ((c.tc : Thread Cert.UnGradIdeal.nD Cert.UnGradIdeal.τ).loc Cert.UnGradIdeal.main_arg4)) (m ((c.tc : Thread Cert.UnGradIdeal.nD Cert.UnGradIdeal.τ).loc Cert.UnGradIdeal.main_arg5))).2.2.1 = (fun _ => 1#1)
    ∧ (Cert.Pre_finite_un.fn (F := Ideal) (m ((c.tc : Thread Cert.UnGradIdeal.nD Cert.UnGradIdeal.τ).loc Cert.UnGradIdeal.main_arg0)) (m ((c.tc : Thread Cert.UnGradIdeal.nD Cert.UnGradIdeal.τ).loc Cert.UnGradIdeal.main_arg1)) (m ((c.tc : Thread Cert.UnGradIdeal.nD Cert.UnGradIdeal.τ).loc Cert.UnGradIdeal.main_arg2)) (m ((c.tc : Thread Cert.UnGradIdeal.nD Cert.UnGradIdeal.τ).loc Cert.UnGradIdeal.main_arg3)) (m ((c.tc : Thread Cert.UnGradIdeal.nD Cert.UnGradIdeal.τ).loc Cert.UnGradIdeal.main_arg4)) (m ((c.tc : Thread Cert.UnGradIdeal.nD Cert.UnGradIdeal.τ).loc Cert.UnGradIdeal.main_arg5))).2.2.2.1 = (fun _ => 1#1)
    ∧ (Cert.Pre_finite_un.fn (F := Ideal) (m ((c.tc : Thread Cert.UnGradIdeal.nD Cert.UnGradIdeal.τ).loc Cert.UnGradIdeal.main_arg0)) (m ((c.tc : Thread Cert.UnGradIdeal.nD Cert.UnGradIdeal.τ).loc Cert.UnGradIdeal.main_arg1)) (m ((c.tc : Thread Cert.UnGradIdeal.nD Cert.UnGradIdeal.τ).loc Cert.UnGradIdeal.main_arg2)) (m ((c.tc : Thread Cert.UnGradIdeal.nD Cert.UnGradIdeal.τ).loc Cert.UnGradIdeal.main_arg3)) (m ((c.tc : Thread Cert.UnGradIdeal.nD Cert.UnGradIdeal.τ).loc Cert.UnGradIdeal.main_arg4)) (m ((c.tc : Thread Cert.UnGradIdeal.nD Cert.UnGradIdeal.τ).loc Cert.UnGradIdeal.main_arg5))).2.2.2.2 = (fun _ => 1#1)

def Pre_UnGradRefIdeal (m : (ℓ : Loc Cert.UnGradRefIdeal.nD Cert.UnGradRefIdeal.τ Cert.UnGradRefIdeal.sig) → Buf (Elt Ideal) ℓ) : Prop :=
  True

def Pre_UnGradRefIdeal_finite_un [hPre_finite_un : Cert.Pre_finite_un.Facts] (m : (ℓ : Loc Cert.UnGradRefIdeal.nD Cert.UnGradRefIdeal.τ Cert.UnGradRefIdeal.sig) → Buf (Elt Ideal) ℓ) : Prop :=
  ∀ c : Dev Cert.UnGradRefIdeal.nD,
    (Cert.Pre_finite_un.fn (F := Ideal) (m ((c.tc : Thread Cert.UnGradRefIdeal.nD Cert.UnGradRefIdeal.τ).loc Cert.UnGradRefIdeal.main_arg0)) (m ((c.tc : Thread Cert.UnGradRefIdeal.nD Cert.UnGradRefIdeal.τ).loc Cert.UnGradRefIdeal.main_arg1)) (m ((c.tc : Thread Cert.UnGradRefIdeal.nD Cert.UnGradRefIdeal.τ).loc Cert.UnGradRefIdeal.main_arg2)) (m ((c.tc : Thread Cert.UnGradRefIdeal.nD Cert.UnGradRefIdeal.τ).loc Cert.UnGradRefIdeal.main_arg3)) (m ((c.tc : Thread Cert.UnGradRefIdeal.nD Cert.UnGradRefIdeal.τ).loc Cert.UnGradRefIdeal.main_arg4)) (m ((c.tc : Thread Cert.UnGradRefIdeal.nD Cert.UnGradRefIdeal.τ).loc Cert.UnGradRefIdeal.main_arg5))).1 = (fun _ => 1#1)
    ∧ (Cert.Pre_finite_un.fn (F := Ideal) (m ((c.tc : Thread Cert.UnGradRefIdeal.nD Cert.UnGradRefIdeal.τ).loc Cert.UnGradRefIdeal.main_arg0)) (m ((c.tc : Thread Cert.UnGradRefIdeal.nD Cert.UnGradRefIdeal.τ).loc Cert.UnGradRefIdeal.main_arg1)) (m ((c.tc : Thread Cert.UnGradRefIdeal.nD Cert.UnGradRefIdeal.τ).loc Cert.UnGradRefIdeal.main_arg2)) (m ((c.tc : Thread Cert.UnGradRefIdeal.nD Cert.UnGradRefIdeal.τ).loc Cert.UnGradRefIdeal.main_arg3)) (m ((c.tc : Thread Cert.UnGradRefIdeal.nD Cert.UnGradRefIdeal.τ).loc Cert.UnGradRefIdeal.main_arg4)) (m ((c.tc : Thread Cert.UnGradRefIdeal.nD Cert.UnGradRefIdeal.τ).loc Cert.UnGradRefIdeal.main_arg5))).2.1 = (fun _ => 1#1)
    ∧ (Cert.Pre_finite_un.fn (F := Ideal) (m ((c.tc : Thread Cert.UnGradRefIdeal.nD Cert.UnGradRefIdeal.τ).loc Cert.UnGradRefIdeal.main_arg0)) (m ((c.tc : Thread Cert.UnGradRefIdeal.nD Cert.UnGradRefIdeal.τ).loc Cert.UnGradRefIdeal.main_arg1)) (m ((c.tc : Thread Cert.UnGradRefIdeal.nD Cert.UnGradRefIdeal.τ).loc Cert.UnGradRefIdeal.main_arg2)) (m ((c.tc : Thread Cert.UnGradRefIdeal.nD Cert.UnGradRefIdeal.τ).loc Cert.UnGradRefIdeal.main_arg3)) (m ((c.tc : Thread Cert.UnGradRefIdeal.nD Cert.UnGradRefIdeal.τ).loc Cert.UnGradRefIdeal.main_arg4)) (m ((c.tc : Thread Cert.UnGradRefIdeal.nD Cert.UnGradRefIdeal.τ).loc Cert.UnGradRefIdeal.main_arg5))).2.2.1 = (fun _ => 1#1)
    ∧ (Cert.Pre_finite_un.fn (F := Ideal) (m ((c.tc : Thread Cert.UnGradRefIdeal.nD Cert.UnGradRefIdeal.τ).loc Cert.UnGradRefIdeal.main_arg0)) (m ((c.tc : Thread Cert.UnGradRefIdeal.nD Cert.UnGradRefIdeal.τ).loc Cert.UnGradRefIdeal.main_arg1)) (m ((c.tc : Thread Cert.UnGradRefIdeal.nD Cert.UnGradRefIdeal.τ).loc Cert.UnGradRefIdeal.main_arg2)) (m ((c.tc : Thread Cert.UnGradRefIdeal.nD Cert.UnGradRefIdeal.τ).loc Cert.UnGradRefIdeal.main_arg3)) (m ((c.tc : Thread Cert.UnGradRefIdeal.nD Cert.UnGradRefIdeal.τ).loc Cert.UnGradRefIdeal.main_arg4)) (m ((c.tc : Thread Cert.UnGradRefIdeal.nD Cert.UnGradRefIdeal.τ).loc Cert.UnGradRefIdeal.main_arg5))).2.2.2.1 = (fun _ => 1#1)
    ∧ (Cert.Pre_finite_un.fn (F := Ideal) (m ((c.tc : Thread Cert.UnGradRefIdeal.nD Cert.UnGradRefIdeal.τ).loc Cert.UnGradRefIdeal.main_arg0)) (m ((c.tc : Thread Cert.UnGradRefIdeal.nD Cert.UnGradRefIdeal.τ).loc Cert.UnGradRefIdeal.main_arg1)) (m ((c.tc : Thread Cert.UnGradRefIdeal.nD Cert.UnGradRefIdeal.τ).loc Cert.UnGradRefIdeal.main_arg2)) (m ((c.tc : Thread Cert.UnGradRefIdeal.nD Cert.UnGradRefIdeal.τ).loc Cert.UnGradRefIdeal.main_arg3)) (m ((c.tc : Thread Cert.UnGradRefIdeal.nD Cert.UnGradRefIdeal.τ).loc Cert.UnGradRefIdeal.main_arg4)) (m ((c.tc : Thread Cert.UnGradRefIdeal.nD Cert.UnGradRefIdeal.τ).loc Cert.UnGradRefIdeal.main_arg5))).2.2.2.2 = (fun _ => 1#1)

def Pre_DownNorm (m : (ℓ : Loc Cert.DownNorm.nD Cert.DownNorm.τ Cert.DownNorm.sig) → Buf (Elt Bits) ℓ) : Prop :=
  True

def Pre_DownNormIdeal (m : (ℓ : Loc Cert.DownNormIdeal.nD Cert.DownNormIdeal.τ Cert.DownNormIdeal.sig) → Buf (Elt Ideal) ℓ) : Prop :=
  True

def Pre_DownNormRefIdeal (m : (ℓ : Loc Cert.DownNormRefIdeal.nD Cert.DownNormRefIdeal.τ Cert.DownNormRefIdeal.sig) → Buf (Elt Ideal) ℓ) : Prop :=
  True

def Pre_InProjDt (m : (ℓ : Loc Cert.InProjDt.nD Cert.InProjDt.τ Cert.InProjDt.sig) → Buf (Elt Bits) ℓ) : Prop :=
  True

def Pre_InProjDtIdeal (m : (ℓ : Loc Cert.InProjDtIdeal.nD Cert.InProjDtIdeal.τ Cert.InProjDtIdeal.sig) → Buf (Elt Ideal) ℓ) : Prop :=
  True

def Pre_InProjDtRefIdeal (m : (ℓ : Loc Cert.InProjDtRefIdeal.nD Cert.InProjDtRefIdeal.τ Cert.InProjDtRefIdeal.sig) → Buf (Elt Ideal) ℓ) : Prop :=
  True

def Pre_UnGradDt (m : (ℓ : Loc Cert.UnGradDt.nD Cert.UnGradDt.τ Cert.UnGradDt.sig) → Buf (Elt Bits) ℓ) : Prop :=
  True

def Pre_UnGradDtIdeal (m : (ℓ : Loc Cert.UnGradDtIdeal.nD Cert.UnGradDtIdeal.τ Cert.UnGradDtIdeal.sig) → Buf (Elt Ideal) ℓ) : Prop :=
  True

def Pre_UnGradDtRefIdeal (m : (ℓ : Loc Cert.UnGradDtRefIdeal.nD Cert.UnGradDtRefIdeal.τ Cert.UnGradDtRefIdeal.sig) → Buf (Elt Ideal) ℓ) : Prop :=
  True

def Pre_InGradDt (m : (ℓ : Loc Cert.InGradDt.nD Cert.InGradDt.τ Cert.InGradDt.sig) → Buf (Elt Bits) ℓ) : Prop :=
  True

def Pre_InGradDtIdeal (m : (ℓ : Loc Cert.InGradDtIdeal.nD Cert.InGradDtIdeal.τ Cert.InGradDtIdeal.sig) → Buf (Elt Ideal) ℓ) : Prop :=
  True

def Pre_InGradDtRefIdeal (m : (ℓ : Loc Cert.InGradDtRefIdeal.nD Cert.InGradDtRefIdeal.τ Cert.InGradDtRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvIdeal_pre_finite_cotangent [hConvIdeal : Cert.ConvIdeal.Facts] [hPre_finite_cotangent : Cert.Pre_finite_cotangent.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_cotangent m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_ConvRefIdeal_pre_finite_cotangent [hConvRefIdeal : Cert.ConvRefIdeal.Facts] [hPre_finite_cotangent : Cert.Pre_finite_cotangent.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_cotangent m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_activation [hActIdeal : Cert.ActIdeal.Facts] [hPre_finite_activation : Cert.Pre_finite_activation.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_activation m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite_activation [hActRefIdeal : Cert.ActRefIdeal.Facts] [hPre_finite_activation : Cert.Pre_finite_activation.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_activation m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_GateUpGrad [hGateUpGrad : Cert.GateUpGrad.Facts] : Prop :=
  ∀ (m : (ℓ : Loc Cert.GateUpGrad.nD Cert.GateUpGrad.τ Cert.GateUpGrad.sig) → Buf (Elt Bits) ℓ) (g : Dev Cert.GateUpGrad.nD → PrngReg), Pre_GateUpGrad m →
    θ_run (Cert.GateUpGrad.defs (F := Bits)) (onTc (τ := Cert.GateUpGrad.τ) (Cert.GateUpGrad.main (F := Bits))) ⟨m, fun _ => 0, g⟩ (fun r => (∀ c : Dev Cert.GateUpGrad.nD,
      r.2.mem ((c.tc : Thread Cert.GateUpGrad.nD Cert.GateUpGrad.τ).loc Cert.GateUpGrad.main_arg0) = m ((c.tc : Thread Cert.GateUpGrad.nD Cert.GateUpGrad.τ).loc Cert.GateUpGrad.main_arg0)
      ∧ r.2.mem ((c.tc : Thread Cert.GateUpGrad.nD Cert.GateUpGrad.τ).loc Cert.GateUpGrad.main_arg1) = m ((c.tc : Thread Cert.GateUpGrad.nD Cert.GateUpGrad.τ).loc Cert.GateUpGrad.main_arg1))
      ∧ r.2.sem = fun _ => 0)

def quiescent_GateUpGradIdeal [hGateUpGradIdeal : Cert.GateUpGradIdeal.Facts] : Prop :=
  ∀ (m : (ℓ : Loc Cert.GateUpGradIdeal.nD Cert.GateUpGradIdeal.τ Cert.GateUpGradIdeal.sig) → Buf (Elt Ideal) ℓ) (g : Dev Cert.GateUpGradIdeal.nD → PrngReg), Pre_GateUpGradIdeal m →
    θ_run (Cert.GateUpGradIdeal.defs (F := Ideal)) (onTc (τ := Cert.GateUpGradIdeal.τ) (Cert.GateUpGradIdeal.main (F := Ideal))) ⟨m, fun _ => 0, g⟩ (fun r => (∀ c : Dev Cert.GateUpGradIdeal.nD,
      r.2.mem ((c.tc : Thread Cert.GateUpGradIdeal.nD Cert.GateUpGradIdeal.τ).loc Cert.GateUpGradIdeal.main_arg0) = m ((c.tc : Thread Cert.GateUpGradIdeal.nD Cert.GateUpGradIdeal.τ).loc Cert.GateUpGradIdeal.main_arg0)
      ∧ r.2.mem ((c.tc : Thread Cert.GateUpGradIdeal.nD Cert.GateUpGradIdeal.τ).loc Cert.GateUpGradIdeal.main_arg1) = m ((c.tc : Thread Cert.GateUpGradIdeal.nD Cert.GateUpGradIdeal.τ).loc Cert.GateUpGradIdeal.main_arg1))
      ∧ r.2.sem = fun _ => 0)

def quiescent_GateUpGradRefIdeal [hGateUpGradRefIdeal : Cert.GateUpGradRefIdeal.Facts] : Prop :=
  ∀ (m : (ℓ : Loc Cert.GateUpGradRefIdeal.nD Cert.GateUpGradRefIdeal.τ Cert.GateUpGradRefIdeal.sig) → Buf (Elt Ideal) ℓ) (g : Dev Cert.GateUpGradRefIdeal.nD → PrngReg), Pre_GateUpGradRefIdeal m →
    θ_run (Cert.GateUpGradRefIdeal.defs (F := Ideal)) (onTc (τ := Cert.GateUpGradRefIdeal.τ) (Cert.GateUpGradRefIdeal.main (F := Ideal))) ⟨m, fun _ => 0, g⟩ (fun r => (∀ c : Dev Cert.GateUpGradRefIdeal.nD,
      r.2.mem ((c.tc : Thread Cert.GateUpGradRefIdeal.nD Cert.GateUpGradRefIdeal.τ).loc Cert.GateUpGradRefIdeal.main_arg0) = m ((c.tc : Thread Cert.GateUpGradRefIdeal.nD Cert.GateUpGradRefIdeal.τ).loc Cert.GateUpGradRefIdeal.main_arg0)
      ∧ r.2.mem ((c.tc : Thread Cert.GateUpGradRefIdeal.nD Cert.GateUpGradRefIdeal.τ).loc Cert.GateUpGradRefIdeal.main_arg1) = m ((c.tc : Thread Cert.GateUpGradRefIdeal.nD Cert.GateUpGradRefIdeal.τ).loc Cert.GateUpGradRefIdeal.main_arg1))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3)
      ∧ r.2.mem ((c.tc : Thread Cert.Branches.nD Cert.Branches.τ).loc Cert.Branches.main_arg4) = m ((c.tc : Thread Cert.Branches.nD Cert.Branches.τ).loc Cert.Branches.main_arg4))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
      ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4))
      ∧ r.2.sem = fun _ => 0)

def quiescent_BranchesRefIdeal [hBranchesRefIdeal : Cert.BranchesRefIdeal.Facts] : Prop :=
  ∀ (m : (ℓ : Loc Cert.BranchesRefIdeal.nD Cert.BranchesRefIdeal.τ Cert.BranchesRefIdeal.sig) → Buf (Elt Ideal) ℓ) (g : Dev Cert.BranchesRefIdeal.nD → PrngReg), Pre_BranchesRefIdeal m →
    θ_run (Cert.BranchesRefIdeal.defs (F := Ideal)) (onTc (τ := Cert.BranchesRefIdeal.τ) (Cert.BranchesRefIdeal.main (F := Ideal))) ⟨m, fun _ => 0, g⟩ (fun r => (∀ c : Dev Cert.BranchesRefIdeal.nD,
      r.2.mem ((c.tc : Thread Cert.BranchesRefIdeal.nD Cert.BranchesRefIdeal.τ).loc Cert.BranchesRefIdeal.main_arg0) = m ((c.tc : Thread Cert.BranchesRefIdeal.nD Cert.BranchesRefIdeal.τ).loc Cert.BranchesRefIdeal.main_arg0)
      ∧ r.2.mem ((c.tc : Thread Cert.BranchesRefIdeal.nD Cert.BranchesRefIdeal.τ).loc Cert.BranchesRefIdeal.main_arg1) = m ((c.tc : Thread Cert.BranchesRefIdeal.nD Cert.BranchesRefIdeal.τ).loc Cert.BranchesRefIdeal.main_arg1)
      ∧ r.2.mem ((c.tc : Thread Cert.BranchesRefIdeal.nD Cert.BranchesRefIdeal.τ).loc Cert.BranchesRefIdeal.main_arg2) = m ((c.tc : Thread Cert.BranchesRefIdeal.nD Cert.BranchesRefIdeal.τ).loc Cert.BranchesRefIdeal.main_arg2)
      ∧ r.2.mem ((c.tc : Thread Cert.BranchesRefIdeal.nD Cert.BranchesRefIdeal.τ).loc Cert.BranchesRefIdeal.main_arg3) = m ((c.tc : Thread Cert.BranchesRefIdeal.nD Cert.BranchesRefIdeal.τ).loc Cert.BranchesRefIdeal.main_arg3)
      ∧ r.2.mem ((c.tc : Thread Cert.BranchesRefIdeal.nD Cert.BranchesRefIdeal.τ).loc Cert.BranchesRefIdeal.main_arg4) = m ((c.tc : Thread Cert.BranchesRefIdeal.nD Cert.BranchesRefIdeal.τ).loc Cert.BranchesRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_BranchGrad [hBranchGrad : Cert.BranchGrad.Facts] : Prop :=
  ∀ (m : (ℓ : Loc Cert.BranchGrad.nD Cert.BranchGrad.τ Cert.BranchGrad.sig) → Buf (Elt Bits) ℓ) (g : Dev Cert.BranchGrad.nD → PrngReg), Pre_BranchGrad m →
    θ_run (Cert.BranchGrad.defs (F := Bits)) (onTc (τ := Cert.BranchGrad.τ) (Cert.BranchGrad.main (F := Bits))) ⟨m, fun _ => 0, g⟩ (fun r => (∀ c : Dev Cert.BranchGrad.nD,
      r.2.mem ((c.tc : Thread Cert.BranchGrad.nD Cert.BranchGrad.τ).loc Cert.BranchGrad.main_arg0) = m ((c.tc : Thread Cert.BranchGrad.nD Cert.BranchGrad.τ).loc Cert.BranchGrad.main_arg0)
      ∧ r.2.mem ((c.tc : Thread Cert.BranchGrad.nD Cert.BranchGrad.τ).loc Cert.BranchGrad.main_arg1) = m ((c.tc : Thread Cert.BranchGrad.nD Cert.BranchGrad.τ).loc Cert.BranchGrad.main_arg1)
      ∧ r.2.mem ((c.tc : Thread Cert.BranchGrad.nD Cert.BranchGrad.τ).loc Cert.BranchGrad.main_arg2) = m ((c.tc : Thread Cert.BranchGrad.nD Cert.BranchGrad.τ).loc Cert.BranchGrad.main_arg2)
      ∧ r.2.mem ((c.tc : Thread Cert.BranchGrad.nD Cert.BranchGrad.τ).loc Cert.BranchGrad.main_arg3) = m ((c.tc : Thread Cert.BranchGrad.nD Cert.BranchGrad.τ).loc Cert.BranchGrad.main_arg3))
      ∧ r.2.sem = fun _ => 0)

def quiescent_BranchGradIdeal [hBranchGradIdeal : Cert.BranchGradIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg), Pre_BranchGradIdeal m →
    θ_run (Cert.BranchGradIdeal.defs (F := Ideal)) (onTc (τ := Cert.BranchGradIdeal.τ) (Cert.BranchGradIdeal.main (F := Ideal))) ⟨m, fun _ => 0, g⟩ (fun r => (∀ c : Dev Cert.BranchGradIdeal.nD,
      r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
      ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1)
      ∧ r.2.mem ((c.tc : Thread Cert.BranchGradIdeal.nD Cert.BranchGradIdeal.τ).loc Cert.BranchGradIdeal.main_arg2) = m ((c.tc : Thread Cert.BranchGradIdeal.nD Cert.BranchGradIdeal.τ).loc Cert.BranchGradIdeal.main_arg2)
      ∧ r.2.mem ((c.tc : Thread Cert.BranchGradIdeal.nD Cert.BranchGradIdeal.τ).loc Cert.BranchGradIdeal.main_arg3) = m ((c.tc : Thread Cert.BranchGradIdeal.nD Cert.BranchGradIdeal.τ).loc Cert.BranchGradIdeal.main_arg3))
      ∧ r.2.sem = fun _ => 0)

def quiescent_BranchGradRefIdeal [hBranchGradRefIdeal : Cert.BranchGradRefIdeal.Facts] : Prop :=
  ∀ (m : (ℓ : Loc Cert.BranchGradRefIdeal.nD Cert.BranchGradRefIdeal.τ Cert.BranchGradRefIdeal.sig) → Buf (Elt Ideal) ℓ) (g : Dev Cert.BranchGradRefIdeal.nD → PrngReg), Pre_BranchGradRefIdeal m →
    θ_run (Cert.BranchGradRefIdeal.defs (F := Ideal)) (onTc (τ := Cert.BranchGradRefIdeal.τ) (Cert.BranchGradRefIdeal.main (F := Ideal))) ⟨m, fun _ => 0, g⟩ (fun r => (∀ c : Dev Cert.BranchGradRefIdeal.nD,
      r.2.mem ((c.tc : Thread Cert.BranchGradRefIdeal.nD Cert.BranchGradRefIdeal.τ).loc Cert.BranchGradRefIdeal.main_arg0) = m ((c.tc : Thread Cert.BranchGradRefIdeal.nD Cert.BranchGradRefIdeal.τ).loc Cert.BranchGradRefIdeal.main_arg0)
      ∧ r.2.mem ((c.tc : Thread Cert.BranchGradRefIdeal.nD Cert.BranchGradRefIdeal.τ).loc Cert.BranchGradRefIdeal.main_arg1) = m ((c.tc : Thread Cert.BranchGradRefIdeal.nD Cert.BranchGradRefIdeal.τ).loc Cert.BranchGradRefIdeal.main_arg1)
      ∧ r.2.mem ((c.tc : Thread Cert.BranchGradRefIdeal.nD Cert.BranchGradRefIdeal.τ).loc Cert.BranchGradRefIdeal.main_arg2) = m ((c.tc : Thread Cert.BranchGradRefIdeal.nD Cert.BranchGradRefIdeal.τ).loc Cert.BranchGradRefIdeal.main_arg2)
      ∧ r.2.mem ((c.tc : Thread Cert.BranchGradRefIdeal.nD Cert.BranchGradRefIdeal.τ).loc Cert.BranchGradRefIdeal.main_arg3) = m ((c.tc : Thread Cert.BranchGradRefIdeal.nD Cert.BranchGradRefIdeal.τ).loc Cert.BranchGradRefIdeal.main_arg3))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_HgrnIdeal_pre_finite_hgrn [hHgrnIdeal : Cert.HgrnIdeal.Facts] [hPre_finite_hgrn : Cert.Pre_finite_hgrn.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_hgrn m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_HgrnIdeal_pre_finite_query [hHgrnIdeal : Cert.HgrnIdeal.Facts] [hPre_finite_query : Cert.Pre_finite_query.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_query m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5))
      ∧ r.2.sem = fun _ => 0)

def quiescent_HgrnRefIdeal_pre_finite_hgrn [hHgrnRefIdeal : Cert.HgrnRefIdeal.Facts] [hPre_finite_hgrn : Cert.Pre_finite_hgrn.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_finite_hgrn m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5))
      ∧ r.2.sem = fun _ => 0)

def quiescent_HgrnQueryRefIdeal [hHgrnQueryRefIdeal : Cert.HgrnQueryRefIdeal.Facts] : Prop :=
  ∀ (m : (ℓ : Loc Cert.HgrnQueryRefIdeal.nD Cert.HgrnQueryRefIdeal.τ Cert.HgrnQueryRefIdeal.sig) → Buf (Elt Ideal) ℓ) (g : Dev Cert.HgrnQueryRefIdeal.nD → PrngReg), Pre_HgrnQueryRefIdeal m →
    θ_run (Cert.HgrnQueryRefIdeal.defs (F := Ideal)) (onTc (τ := Cert.HgrnQueryRefIdeal.τ) (Cert.HgrnQueryRefIdeal.main (F := Ideal))) ⟨m, fun _ => 0, g⟩ (fun r => (∀ c : Dev Cert.HgrnQueryRefIdeal.nD,
      r.2.mem ((c.tc : Thread Cert.HgrnQueryRefIdeal.nD Cert.HgrnQueryRefIdeal.τ).loc Cert.HgrnQueryRefIdeal.main_arg0) = m ((c.tc : Thread Cert.HgrnQueryRefIdeal.nD Cert.HgrnQueryRefIdeal.τ).loc Cert.HgrnQueryRefIdeal.main_arg0)
      ∧ r.2.mem ((c.tc : Thread Cert.HgrnQueryRefIdeal.nD Cert.HgrnQueryRefIdeal.τ).loc Cert.HgrnQueryRefIdeal.main_arg1) = m ((c.tc : Thread Cert.HgrnQueryRefIdeal.nD Cert.HgrnQueryRefIdeal.τ).loc Cert.HgrnQueryRefIdeal.main_arg1)
      ∧ r.2.mem ((c.tc : Thread Cert.HgrnQueryRefIdeal.nD Cert.HgrnQueryRefIdeal.τ).loc Cert.HgrnQueryRefIdeal.main_arg2) = m ((c.tc : Thread Cert.HgrnQueryRefIdeal.nD Cert.HgrnQueryRefIdeal.τ).loc Cert.HgrnQueryRefIdeal.main_arg2)
      ∧ r.2.mem ((c.tc : Thread Cert.HgrnQueryRefIdeal.nD Cert.HgrnQueryRefIdeal.τ).loc Cert.HgrnQueryRefIdeal.main_arg3) = m ((c.tc : Thread Cert.HgrnQueryRefIdeal.nD Cert.HgrnQueryRefIdeal.τ).loc Cert.HgrnQueryRefIdeal.main_arg3)
      ∧ r.2.mem ((c.tc : Thread Cert.HgrnQueryRefIdeal.nD Cert.HgrnQueryRefIdeal.τ).loc Cert.HgrnQueryRefIdeal.main_arg4) = m ((c.tc : Thread Cert.HgrnQueryRefIdeal.nD Cert.HgrnQueryRefIdeal.τ).loc Cert.HgrnQueryRefIdeal.main_arg4)
      ∧ r.2.mem ((c.tc : Thread Cert.HgrnQueryRefIdeal.nD Cert.HgrnQueryRefIdeal.τ).loc Cert.HgrnQueryRefIdeal.main_arg5) = m ((c.tc : Thread Cert.HgrnQueryRefIdeal.nD Cert.HgrnQueryRefIdeal.τ).loc Cert.HgrnQueryRefIdeal.main_arg5))
      ∧ r.2.sem = fun _ => 0)

def quiescent_HgrnQueryRefIdeal_pre_finite_query [hHgrnQueryRefIdeal : Cert.HgrnQueryRefIdeal.Facts] [hPre_finite_query : Cert.Pre_finite_query.Facts] : Prop :=
  ∀ (m : (ℓ : Loc Cert.HgrnQueryRefIdeal.nD Cert.HgrnQueryRefIdeal.τ Cert.HgrnQueryRefIdeal.sig) → Buf (Elt Ideal) ℓ) (g : Dev Cert.HgrnQueryRefIdeal.nD → PrngReg), Pre_HgrnQueryRefIdeal_finite_query m →
    θ_run (Cert.HgrnQueryRefIdeal.defs (F := Ideal)) (onTc (τ := Cert.HgrnQueryRefIdeal.τ) (Cert.HgrnQueryRefIdeal.main (F := Ideal))) ⟨m, fun _ => 0, g⟩ (fun r => (∀ c : Dev Cert.HgrnQueryRefIdeal.nD,
      r.2.mem ((c.tc : Thread Cert.HgrnQueryRefIdeal.nD Cert.HgrnQueryRefIdeal.τ).loc Cert.HgrnQueryRefIdeal.main_arg0) = m ((c.tc : Thread Cert.HgrnQueryRefIdeal.nD Cert.HgrnQueryRefIdeal.τ).loc Cert.HgrnQueryRefIdeal.main_arg0)
      ∧ r.2.mem ((c.tc : Thread Cert.HgrnQueryRefIdeal.nD Cert.HgrnQueryRefIdeal.τ).loc Cert.HgrnQueryRefIdeal.main_arg1) = m ((c.tc : Thread Cert.HgrnQueryRefIdeal.nD Cert.HgrnQueryRefIdeal.τ).loc Cert.HgrnQueryRefIdeal.main_arg1)
      ∧ r.2.mem ((c.tc : Thread Cert.HgrnQueryRefIdeal.nD Cert.HgrnQueryRefIdeal.τ).loc Cert.HgrnQueryRefIdeal.main_arg2) = m ((c.tc : Thread Cert.HgrnQueryRefIdeal.nD Cert.HgrnQueryRefIdeal.τ).loc Cert.HgrnQueryRefIdeal.main_arg2)
      ∧ r.2.mem ((c.tc : Thread Cert.HgrnQueryRefIdeal.nD Cert.HgrnQueryRefIdeal.τ).loc Cert.HgrnQueryRefIdeal.main_arg3) = m ((c.tc : Thread Cert.HgrnQueryRefIdeal.nD Cert.HgrnQueryRefIdeal.τ).loc Cert.HgrnQueryRefIdeal.main_arg3)
      ∧ r.2.mem ((c.tc : Thread Cert.HgrnQueryRefIdeal.nD Cert.HgrnQueryRefIdeal.τ).loc Cert.HgrnQueryRefIdeal.main_arg4) = m ((c.tc : Thread Cert.HgrnQueryRefIdeal.nD Cert.HgrnQueryRefIdeal.τ).loc Cert.HgrnQueryRefIdeal.main_arg4)
      ∧ r.2.mem ((c.tc : Thread Cert.HgrnQueryRefIdeal.nD Cert.HgrnQueryRefIdeal.τ).loc Cert.HgrnQueryRefIdeal.main_arg5) = m ((c.tc : Thread Cert.HgrnQueryRefIdeal.nD Cert.HgrnQueryRefIdeal.τ).loc Cert.HgrnQueryRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3)
      ∧ r.2.mem ((c.tc : Thread Cert.MergeGrad.nD Cert.MergeGrad.τ).loc Cert.MergeGrad.main_arg4) = m ((c.tc : Thread Cert.MergeGrad.nD Cert.MergeGrad.τ).loc Cert.MergeGrad.main_arg4))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
      ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4))
      ∧ r.2.sem = fun _ => 0)

def quiescent_MergeGradRefIdeal [hMergeGradRefIdeal : Cert.MergeGradRefIdeal.Facts] : Prop :=
  ∀ (m : (ℓ : Loc Cert.MergeGradRefIdeal.nD Cert.MergeGradRefIdeal.τ Cert.MergeGradRefIdeal.sig) → Buf (Elt Ideal) ℓ) (g : Dev Cert.MergeGradRefIdeal.nD → PrngReg), Pre_MergeGradRefIdeal m →
    θ_run (Cert.MergeGradRefIdeal.defs (F := Ideal)) (onTc (τ := Cert.MergeGradRefIdeal.τ) (Cert.MergeGradRefIdeal.main (F := Ideal))) ⟨m, fun _ => 0, g⟩ (fun r => (∀ c : Dev Cert.MergeGradRefIdeal.nD,
      r.2.mem ((c.tc : Thread Cert.MergeGradRefIdeal.nD Cert.MergeGradRefIdeal.τ).loc Cert.MergeGradRefIdeal.main_arg0) = m ((c.tc : Thread Cert.MergeGradRefIdeal.nD Cert.MergeGradRefIdeal.τ).loc Cert.MergeGradRefIdeal.main_arg0)
      ∧ r.2.mem ((c.tc : Thread Cert.MergeGradRefIdeal.nD Cert.MergeGradRefIdeal.τ).loc Cert.MergeGradRefIdeal.main_arg1) = m ((c.tc : Thread Cert.MergeGradRefIdeal.nD Cert.MergeGradRefIdeal.τ).loc Cert.MergeGradRefIdeal.main_arg1)
      ∧ r.2.mem ((c.tc : Thread Cert.MergeGradRefIdeal.nD Cert.MergeGradRefIdeal.τ).loc Cert.MergeGradRefIdeal.main_arg2) = m ((c.tc : Thread Cert.MergeGradRefIdeal.nD Cert.MergeGradRefIdeal.τ).loc Cert.MergeGradRefIdeal.main_arg2)
      ∧ r.2.mem ((c.tc : Thread Cert.MergeGradRefIdeal.nD Cert.MergeGradRefIdeal.τ).loc Cert.MergeGradRefIdeal.main_arg3) = m ((c.tc : Thread Cert.MergeGradRefIdeal.nD Cert.MergeGradRefIdeal.τ).loc Cert.MergeGradRefIdeal.main_arg3)
      ∧ r.2.mem ((c.tc : Thread Cert.MergeGradRefIdeal.nD Cert.MergeGradRefIdeal.τ).loc Cert.MergeGradRefIdeal.main_arg4) = m ((c.tc : Thread Cert.MergeGradRefIdeal.nD Cert.MergeGradRefIdeal.τ).loc Cert.MergeGradRefIdeal.main_arg4))
      ∧ r.2.sem = fun _ => 0)

def quiescent_UnGrad [hUnGrad : Cert.UnGrad.Facts] : Prop :=
  ∀ (m : (ℓ : Loc Cert.UnGrad.nD Cert.UnGrad.τ Cert.UnGrad.sig) → Buf (Elt Bits) ℓ) (g : Dev Cert.UnGrad.nD → PrngReg), Pre_UnGrad m →
    θ_run (Cert.UnGrad.defs (F := Bits)) (onTc (τ := Cert.UnGrad.τ) (Cert.UnGrad.main (F := Bits))) ⟨m, fun _ => 0, g⟩ (fun r => (∀ c : Dev Cert.UnGrad.nD,
      r.2.mem ((c.tc : Thread Cert.UnGrad.nD Cert.UnGrad.τ).loc Cert.UnGrad.main_arg0) = m ((c.tc : Thread Cert.UnGrad.nD Cert.UnGrad.τ).loc Cert.UnGrad.main_arg0)
      ∧ r.2.mem ((c.tc : Thread Cert.UnGrad.nD Cert.UnGrad.τ).loc Cert.UnGrad.main_arg1) = m ((c.tc : Thread Cert.UnGrad.nD Cert.UnGrad.τ).loc Cert.UnGrad.main_arg1)
      ∧ r.2.mem ((c.tc : Thread Cert.UnGrad.nD Cert.UnGrad.τ).loc Cert.UnGrad.main_arg2) = m ((c.tc : Thread Cert.UnGrad.nD Cert.UnGrad.τ).loc Cert.UnGrad.main_arg2)
      ∧ r.2.mem ((c.tc : Thread Cert.UnGrad.nD Cert.UnGrad.τ).loc Cert.UnGrad.main_arg3) = m ((c.tc : Thread Cert.UnGrad.nD Cert.UnGrad.τ).loc Cert.UnGrad.main_arg3)
      ∧ r.2.mem ((c.tc : Thread Cert.UnGrad.nD Cert.UnGrad.τ).loc Cert.UnGrad.main_arg4) = m ((c.tc : Thread Cert.UnGrad.nD Cert.UnGrad.τ).loc Cert.UnGrad.main_arg4)
      ∧ r.2.mem ((c.tc : Thread Cert.UnGrad.nD Cert.UnGrad.τ).loc Cert.UnGrad.main_arg5) = m ((c.tc : Thread Cert.UnGrad.nD Cert.UnGrad.τ).loc Cert.UnGrad.main_arg5))
      ∧ r.2.sem = fun _ => 0)

def quiescent_UnGradIdeal [hUnGradIdeal : Cert.UnGradIdeal.Facts] : Prop :=
  ∀ (m : (ℓ : Loc Cert.UnGradIdeal.nD Cert.UnGradIdeal.τ Cert.UnGradIdeal.sig) → Buf (Elt Ideal) ℓ) (g : Dev Cert.UnGradIdeal.nD → PrngReg), Pre_UnGradIdeal m →
    θ_run (Cert.UnGradIdeal.defs (F := Ideal)) (onTc (τ := Cert.UnGradIdeal.τ) (Cert.UnGradIdeal.main (F := Ideal))) ⟨m, fun _ => 0, g⟩ (fun r => (∀ c : Dev Cert.UnGradIdeal.nD,
      r.2.mem ((c.tc : Thread Cert.UnGradIdeal.nD Cert.UnGradIdeal.τ).loc Cert.UnGradIdeal.main_arg0) = m ((c.tc : Thread Cert.UnGradIdeal.nD Cert.UnGradIdeal.τ).loc Cert.UnGradIdeal.main_arg0)
      ∧ r.2.mem ((c.tc : Thread Cert.UnGradIdeal.nD Cert.UnGradIdeal.τ).loc Cert.UnGradIdeal.main_arg1) = m ((c.tc : Thread Cert.UnGradIdeal.nD Cert.UnGradIdeal.τ).loc Cert.UnGradIdeal.main_arg1)
      ∧ r.2.mem ((c.tc : Thread Cert.UnGradIdeal.nD Cert.UnGradIdeal.τ).loc Cert.UnGradIdeal.main_arg2) = m ((c.tc : Thread Cert.UnGradIdeal.nD Cert.UnGradIdeal.τ).loc Cert.UnGradIdeal.main_arg2)
      ∧ r.2.mem ((c.tc : Thread Cert.UnGradIdeal.nD Cert.UnGradIdeal.τ).loc Cert.UnGradIdeal.main_arg3) = m ((c.tc : Thread Cert.UnGradIdeal.nD Cert.UnGradIdeal.τ).loc Cert.UnGradIdeal.main_arg3)
      ∧ r.2.mem ((c.tc : Thread Cert.UnGradIdeal.nD Cert.UnGradIdeal.τ).loc Cert.UnGradIdeal.main_arg4) = m ((c.tc : Thread Cert.UnGradIdeal.nD Cert.UnGradIdeal.τ).loc Cert.UnGradIdeal.main_arg4)
      ∧ r.2.mem ((c.tc : Thread Cert.UnGradIdeal.nD Cert.UnGradIdeal.τ).loc Cert.UnGradIdeal.main_arg5) = m ((c.tc : Thread Cert.UnGradIdeal.nD Cert.UnGradIdeal.τ).loc Cert.UnGradIdeal.main_arg5))
      ∧ r.2.sem = fun _ => 0)

def quiescent_UnGradIdeal_pre_finite_un [hUnGradIdeal : Cert.UnGradIdeal.Facts] [hPre_finite_un : Cert.Pre_finite_un.Facts] : Prop :=
  ∀ (m : (ℓ : Loc Cert.UnGradIdeal.nD Cert.UnGradIdeal.τ Cert.UnGradIdeal.sig) → Buf (Elt Ideal) ℓ) (g : Dev Cert.UnGradIdeal.nD → PrngReg), Pre_UnGradIdeal_finite_un m →
    θ_run (Cert.UnGradIdeal.defs (F := Ideal)) (onTc (τ := Cert.UnGradIdeal.τ) (Cert.UnGradIdeal.main (F := Ideal))) ⟨m, fun _ => 0, g⟩ (fun r => (∀ c : Dev Cert.UnGradIdeal.nD,
      r.2.mem ((c.tc : Thread Cert.UnGradIdeal.nD Cert.UnGradIdeal.τ).loc Cert.UnGradIdeal.main_arg0) = m ((c.tc : Thread Cert.UnGradIdeal.nD Cert.UnGradIdeal.τ).loc Cert.UnGradIdeal.main_arg0)
      ∧ r.2.mem ((c.tc : Thread Cert.UnGradIdeal.nD Cert.UnGradIdeal.τ).loc Cert.UnGradIdeal.main_arg1) = m ((c.tc : Thread Cert.UnGradIdeal.nD Cert.UnGradIdeal.τ).loc Cert.UnGradIdeal.main_arg1)
      ∧ r.2.mem ((c.tc : Thread Cert.UnGradIdeal.nD Cert.UnGradIdeal.τ).loc Cert.UnGradIdeal.main_arg2) = m ((c.tc : Thread Cert.UnGradIdeal.nD Cert.UnGradIdeal.τ).loc Cert.UnGradIdeal.main_arg2)
      ∧ r.2.mem ((c.tc : Thread Cert.UnGradIdeal.nD Cert.UnGradIdeal.τ).loc Cert.UnGradIdeal.main_arg3) = m ((c.tc : Thread Cert.UnGradIdeal.nD Cert.UnGradIdeal.τ).loc Cert.UnGradIdeal.main_arg3)
      ∧ r.2.mem ((c.tc : Thread Cert.UnGradIdeal.nD Cert.UnGradIdeal.τ).loc Cert.UnGradIdeal.main_arg4) = m ((c.tc : Thread Cert.UnGradIdeal.nD Cert.UnGradIdeal.τ).loc Cert.UnGradIdeal.main_arg4)
      ∧ r.2.mem ((c.tc : Thread Cert.UnGradIdeal.nD Cert.UnGradIdeal.τ).loc Cert.UnGradIdeal.main_arg5) = m ((c.tc : Thread Cert.UnGradIdeal.nD Cert.UnGradIdeal.τ).loc Cert.UnGradIdeal.main_arg5))
      ∧ r.2.sem = fun _ => 0)

def quiescent_UnGradRefIdeal [hUnGradRefIdeal : Cert.UnGradRefIdeal.Facts] : Prop :=
  ∀ (m : (ℓ : Loc Cert.UnGradRefIdeal.nD Cert.UnGradRefIdeal.τ Cert.UnGradRefIdeal.sig) → Buf (Elt Ideal) ℓ) (g : Dev Cert.UnGradRefIdeal.nD → PrngReg), Pre_UnGradRefIdeal m →
    θ_run (Cert.UnGradRefIdeal.defs (F := Ideal)) (onTc (τ := Cert.UnGradRefIdeal.τ) (Cert.UnGradRefIdeal.main (F := Ideal))) ⟨m, fun _ => 0, g⟩ (fun r => (∀ c : Dev Cert.UnGradRefIdeal.nD,
      r.2.mem ((c.tc : Thread Cert.UnGradRefIdeal.nD Cert.UnGradRefIdeal.τ).loc Cert.UnGradRefIdeal.main_arg0) = m ((c.tc : Thread Cert.UnGradRefIdeal.nD Cert.UnGradRefIdeal.τ).loc Cert.UnGradRefIdeal.main_arg0)
      ∧ r.2.mem ((c.tc : Thread Cert.UnGradRefIdeal.nD Cert.UnGradRefIdeal.τ).loc Cert.UnGradRefIdeal.main_arg1) = m ((c.tc : Thread Cert.UnGradRefIdeal.nD Cert.UnGradRefIdeal.τ).loc Cert.UnGradRefIdeal.main_arg1)
      ∧ r.2.mem ((c.tc : Thread Cert.UnGradRefIdeal.nD Cert.UnGradRefIdeal.τ).loc Cert.UnGradRefIdeal.main_arg2) = m ((c.tc : Thread Cert.UnGradRefIdeal.nD Cert.UnGradRefIdeal.τ).loc Cert.UnGradRefIdeal.main_arg2)
      ∧ r.2.mem ((c.tc : Thread Cert.UnGradRefIdeal.nD Cert.UnGradRefIdeal.τ).loc Cert.UnGradRefIdeal.main_arg3) = m ((c.tc : Thread Cert.UnGradRefIdeal.nD Cert.UnGradRefIdeal.τ).loc Cert.UnGradRefIdeal.main_arg3)
      ∧ r.2.mem ((c.tc : Thread Cert.UnGradRefIdeal.nD Cert.UnGradRefIdeal.τ).loc Cert.UnGradRefIdeal.main_arg4) = m ((c.tc : Thread Cert.UnGradRefIdeal.nD Cert.UnGradRefIdeal.τ).loc Cert.UnGradRefIdeal.main_arg4)
      ∧ r.2.mem ((c.tc : Thread Cert.UnGradRefIdeal.nD Cert.UnGradRefIdeal.τ).loc Cert.UnGradRefIdeal.main_arg5) = m ((c.tc : Thread Cert.UnGradRefIdeal.nD Cert.UnGradRefIdeal.τ).loc Cert.UnGradRefIdeal.main_arg5))
      ∧ r.2.sem = fun _ => 0)

def quiescent_UnGradRefIdeal_pre_finite_un [hUnGradRefIdeal : Cert.UnGradRefIdeal.Facts] [hPre_finite_un : Cert.Pre_finite_un.Facts] : Prop :=
  ∀ (m : (ℓ : Loc Cert.UnGradRefIdeal.nD Cert.UnGradRefIdeal.τ Cert.UnGradRefIdeal.sig) → Buf (Elt Ideal) ℓ) (g : Dev Cert.UnGradRefIdeal.nD → PrngReg), Pre_UnGradRefIdeal_finite_un m →
    θ_run (Cert.UnGradRefIdeal.defs (F := Ideal)) (onTc (τ := Cert.UnGradRefIdeal.τ) (Cert.UnGradRefIdeal.main (F := Ideal))) ⟨m, fun _ => 0, g⟩ (fun r => (∀ c : Dev Cert.UnGradRefIdeal.nD,
      r.2.mem ((c.tc : Thread Cert.UnGradRefIdeal.nD Cert.UnGradRefIdeal.τ).loc Cert.UnGradRefIdeal.main_arg0) = m ((c.tc : Thread Cert.UnGradRefIdeal.nD Cert.UnGradRefIdeal.τ).loc Cert.UnGradRefIdeal.main_arg0)
      ∧ r.2.mem ((c.tc : Thread Cert.UnGradRefIdeal.nD Cert.UnGradRefIdeal.τ).loc Cert.UnGradRefIdeal.main_arg1) = m ((c.tc : Thread Cert.UnGradRefIdeal.nD Cert.UnGradRefIdeal.τ).loc Cert.UnGradRefIdeal.main_arg1)
      ∧ r.2.mem ((c.tc : Thread Cert.UnGradRefIdeal.nD Cert.UnGradRefIdeal.τ).loc Cert.UnGradRefIdeal.main_arg2) = m ((c.tc : Thread Cert.UnGradRefIdeal.nD Cert.UnGradRefIdeal.τ).loc Cert.UnGradRefIdeal.main_arg2)
      ∧ r.2.mem ((c.tc : Thread Cert.UnGradRefIdeal.nD Cert.UnGradRefIdeal.τ).loc Cert.UnGradRefIdeal.main_arg3) = m ((c.tc : Thread Cert.UnGradRefIdeal.nD Cert.UnGradRefIdeal.τ).loc Cert.UnGradRefIdeal.main_arg3)
      ∧ r.2.mem ((c.tc : Thread Cert.UnGradRefIdeal.nD Cert.UnGradRefIdeal.τ).loc Cert.UnGradRefIdeal.main_arg4) = m ((c.tc : Thread Cert.UnGradRefIdeal.nD Cert.UnGradRefIdeal.τ).loc Cert.UnGradRefIdeal.main_arg4)
      ∧ r.2.mem ((c.tc : Thread Cert.UnGradRefIdeal.nD Cert.UnGradRefIdeal.τ).loc Cert.UnGradRefIdeal.main_arg5) = m ((c.tc : Thread Cert.UnGradRefIdeal.nD Cert.UnGradRefIdeal.τ).loc Cert.UnGradRefIdeal.main_arg5))
      ∧ r.2.sem = fun _ => 0)

def quiescent_DownNorm [hDownNorm : Cert.DownNorm.Facts] : Prop :=
  ∀ (m : (ℓ : Loc Cert.DownNorm.nD Cert.DownNorm.τ Cert.DownNorm.sig) → Buf (Elt Bits) ℓ) (g : Dev Cert.DownNorm.nD → PrngReg), Pre_DownNorm m →
    θ_run (Cert.DownNorm.defs (F := Bits)) (onTc (τ := Cert.DownNorm.τ) (Cert.DownNorm.main (F := Bits))) ⟨m, fun _ => 0, g⟩ (fun r => (∀ c : Dev Cert.DownNorm.nD,
      r.2.mem ((c.tc : Thread Cert.DownNorm.nD Cert.DownNorm.τ).loc Cert.DownNorm.main_arg0) = m ((c.tc : Thread Cert.DownNorm.nD Cert.DownNorm.τ).loc Cert.DownNorm.main_arg0)
      ∧ r.2.mem ((c.tc : Thread Cert.DownNorm.nD Cert.DownNorm.τ).loc Cert.DownNorm.main_arg1) = m ((c.tc : Thread Cert.DownNorm.nD Cert.DownNorm.τ).loc Cert.DownNorm.main_arg1)
      ∧ r.2.mem ((c.tc : Thread Cert.DownNorm.nD Cert.DownNorm.τ).loc Cert.DownNorm.main_arg2) = m ((c.tc : Thread Cert.DownNorm.nD Cert.DownNorm.τ).loc Cert.DownNorm.main_arg2)
      ∧ r.2.mem ((c.tc : Thread Cert.DownNorm.nD Cert.DownNorm.τ).loc Cert.DownNorm.main_arg3) = m ((c.tc : Thread Cert.DownNorm.nD Cert.DownNorm.τ).loc Cert.DownNorm.main_arg3))
      ∧ r.2.sem = fun _ => 0)

def quiescent_DownNormIdeal [hDownNormIdeal : Cert.DownNormIdeal.Facts] : Prop :=
  ∀ (m : (ℓ : Loc Cert.DownNormIdeal.nD Cert.DownNormIdeal.τ Cert.DownNormIdeal.sig) → Buf (Elt Ideal) ℓ) (g : Dev Cert.DownNormIdeal.nD → PrngReg), Pre_DownNormIdeal m →
    θ_run (Cert.DownNormIdeal.defs (F := Ideal)) (onTc (τ := Cert.DownNormIdeal.τ) (Cert.DownNormIdeal.main (F := Ideal))) ⟨m, fun _ => 0, g⟩ (fun r => (∀ c : Dev Cert.DownNormIdeal.nD,
      r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
      ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
      ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
      ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ r.2.sem = fun _ => 0)

def quiescent_DownNormRefIdeal [hDownNormRefIdeal : Cert.DownNormRefIdeal.Facts] : Prop :=
  ∀ (m : (ℓ : Loc Cert.DownNormRefIdeal.nD Cert.DownNormRefIdeal.τ Cert.DownNormRefIdeal.sig) → Buf (Elt Ideal) ℓ) (g : Dev Cert.DownNormRefIdeal.nD → PrngReg), Pre_DownNormRefIdeal m →
    θ_run (Cert.DownNormRefIdeal.defs (F := Ideal)) (onTc (τ := Cert.DownNormRefIdeal.τ) (Cert.DownNormRefIdeal.main (F := Ideal))) ⟨m, fun _ => 0, g⟩ (fun r => (∀ c : Dev Cert.DownNormRefIdeal.nD,
      r.2.mem ((c.tc : Thread Cert.DownNormRefIdeal.nD Cert.DownNormRefIdeal.τ).loc Cert.DownNormRefIdeal.main_arg0) = m ((c.tc : Thread Cert.DownNormRefIdeal.nD Cert.DownNormRefIdeal.τ).loc Cert.DownNormRefIdeal.main_arg0)
      ∧ r.2.mem ((c.tc : Thread Cert.DownNormRefIdeal.nD Cert.DownNormRefIdeal.τ).loc Cert.DownNormRefIdeal.main_arg1) = m ((c.tc : Thread Cert.DownNormRefIdeal.nD Cert.DownNormRefIdeal.τ).loc Cert.DownNormRefIdeal.main_arg1)
      ∧ r.2.mem ((c.tc : Thread Cert.DownNormRefIdeal.nD Cert.DownNormRefIdeal.τ).loc Cert.DownNormRefIdeal.main_arg2) = m ((c.tc : Thread Cert.DownNormRefIdeal.nD Cert.DownNormRefIdeal.τ).loc Cert.DownNormRefIdeal.main_arg2)
      ∧ r.2.mem ((c.tc : Thread Cert.DownNormRefIdeal.nD Cert.DownNormRefIdeal.τ).loc Cert.DownNormRefIdeal.main_arg3) = m ((c.tc : Thread Cert.DownNormRefIdeal.nD Cert.DownNormRefIdeal.τ).loc Cert.DownNormRefIdeal.main_arg3))
      ∧ r.2.sem = fun _ => 0)

def quiescent_InProjDt [hInProjDt : Cert.InProjDt.Facts] : Prop :=
  ∀ (m : (ℓ : Loc Cert.InProjDt.nD Cert.InProjDt.τ Cert.InProjDt.sig) → Buf (Elt Bits) ℓ) (g : Dev Cert.InProjDt.nD → PrngReg), Pre_InProjDt m →
    θ_run (Cert.InProjDt.defs (F := Bits)) (onTc (τ := Cert.InProjDt.τ) (Cert.InProjDt.main (F := Bits))) ⟨m, fun _ => 0, g⟩ (fun r => (∀ c : Dev Cert.InProjDt.nD,
      r.2.mem ((c.tc : Thread Cert.InProjDt.nD Cert.InProjDt.τ).loc Cert.InProjDt.main_arg0) = m ((c.tc : Thread Cert.InProjDt.nD Cert.InProjDt.τ).loc Cert.InProjDt.main_arg0)
      ∧ r.2.mem ((c.tc : Thread Cert.InProjDt.nD Cert.InProjDt.τ).loc Cert.InProjDt.main_arg1) = m ((c.tc : Thread Cert.InProjDt.nD Cert.InProjDt.τ).loc Cert.InProjDt.main_arg1))
      ∧ r.2.sem = fun _ => 0)

def quiescent_InProjDtIdeal [hInProjDtIdeal : Cert.InProjDtIdeal.Facts] : Prop :=
  ∀ (m : (ℓ : Loc Cert.InProjDtIdeal.nD Cert.InProjDtIdeal.τ Cert.InProjDtIdeal.sig) → Buf (Elt Ideal) ℓ) (g : Dev Cert.InProjDtIdeal.nD → PrngReg), Pre_InProjDtIdeal m →
    θ_run (Cert.InProjDtIdeal.defs (F := Ideal)) (onTc (τ := Cert.InProjDtIdeal.τ) (Cert.InProjDtIdeal.main (F := Ideal))) ⟨m, fun _ => 0, g⟩ (fun r => (∀ c : Dev Cert.InProjDtIdeal.nD,
      r.2.mem ((c.tc : Thread Cert.InProjDtIdeal.nD Cert.InProjDtIdeal.τ).loc Cert.InProjDtIdeal.main_arg0) = m ((c.tc : Thread Cert.InProjDtIdeal.nD Cert.InProjDtIdeal.τ).loc Cert.InProjDtIdeal.main_arg0)
      ∧ r.2.mem ((c.tc : Thread Cert.InProjDtIdeal.nD Cert.InProjDtIdeal.τ).loc Cert.InProjDtIdeal.main_arg1) = m ((c.tc : Thread Cert.InProjDtIdeal.nD Cert.InProjDtIdeal.τ).loc Cert.InProjDtIdeal.main_arg1))
      ∧ r.2.sem = fun _ => 0)

def quiescent_InProjDtRefIdeal [hInProjDtRefIdeal : Cert.InProjDtRefIdeal.Facts] : Prop :=
  ∀ (m : (ℓ : Loc Cert.InProjDtRefIdeal.nD Cert.InProjDtRefIdeal.τ Cert.InProjDtRefIdeal.sig) → Buf (Elt Ideal) ℓ) (g : Dev Cert.InProjDtRefIdeal.nD → PrngReg), Pre_InProjDtRefIdeal m →
    θ_run (Cert.InProjDtRefIdeal.defs (F := Ideal)) (onTc (τ := Cert.InProjDtRefIdeal.τ) (Cert.InProjDtRefIdeal.main (F := Ideal))) ⟨m, fun _ => 0, g⟩ (fun r => (∀ c : Dev Cert.InProjDtRefIdeal.nD,
      r.2.mem ((c.tc : Thread Cert.InProjDtRefIdeal.nD Cert.InProjDtRefIdeal.τ).loc Cert.InProjDtRefIdeal.main_arg0) = m ((c.tc : Thread Cert.InProjDtRefIdeal.nD Cert.InProjDtRefIdeal.τ).loc Cert.InProjDtRefIdeal.main_arg0)
      ∧ r.2.mem ((c.tc : Thread Cert.InProjDtRefIdeal.nD Cert.InProjDtRefIdeal.τ).loc Cert.InProjDtRefIdeal.main_arg1) = m ((c.tc : Thread Cert.InProjDtRefIdeal.nD Cert.InProjDtRefIdeal.τ).loc Cert.InProjDtRefIdeal.main_arg1))
      ∧ r.2.sem = fun _ => 0)

def quiescent_UnGradDt [hUnGradDt : Cert.UnGradDt.Facts] : Prop :=
  ∀ (m : (ℓ : Loc Cert.UnGradDt.nD Cert.UnGradDt.τ Cert.UnGradDt.sig) → Buf (Elt Bits) ℓ) (g : Dev Cert.UnGradDt.nD → PrngReg), Pre_UnGradDt m →
    θ_run (Cert.UnGradDt.defs (F := Bits)) (onTc (τ := Cert.UnGradDt.τ) (Cert.UnGradDt.main (F := Bits))) ⟨m, fun _ => 0, g⟩ (fun r => (∀ c : Dev Cert.UnGradDt.nD,
      r.2.mem ((c.tc : Thread Cert.UnGradDt.nD Cert.UnGradDt.τ).loc Cert.UnGradDt.main_arg0) = m ((c.tc : Thread Cert.UnGradDt.nD Cert.UnGradDt.τ).loc Cert.UnGradDt.main_arg0)
      ∧ r.2.mem ((c.tc : Thread Cert.UnGradDt.nD Cert.UnGradDt.τ).loc Cert.UnGradDt.main_arg1) = m ((c.tc : Thread Cert.UnGradDt.nD Cert.UnGradDt.τ).loc Cert.UnGradDt.main_arg1))
      ∧ r.2.sem = fun _ => 0)

def quiescent_UnGradDtIdeal [hUnGradDtIdeal : Cert.UnGradDtIdeal.Facts] : Prop :=
  ∀ (m : (ℓ : Loc Cert.UnGradDtIdeal.nD Cert.UnGradDtIdeal.τ Cert.UnGradDtIdeal.sig) → Buf (Elt Ideal) ℓ) (g : Dev Cert.UnGradDtIdeal.nD → PrngReg), Pre_UnGradDtIdeal m →
    θ_run (Cert.UnGradDtIdeal.defs (F := Ideal)) (onTc (τ := Cert.UnGradDtIdeal.τ) (Cert.UnGradDtIdeal.main (F := Ideal))) ⟨m, fun _ => 0, g⟩ (fun r => (∀ c : Dev Cert.UnGradDtIdeal.nD,
      r.2.mem ((c.tc : Thread Cert.UnGradDtIdeal.nD Cert.UnGradDtIdeal.τ).loc Cert.UnGradDtIdeal.main_arg0) = m ((c.tc : Thread Cert.UnGradDtIdeal.nD Cert.UnGradDtIdeal.τ).loc Cert.UnGradDtIdeal.main_arg0)
      ∧ r.2.mem ((c.tc : Thread Cert.UnGradDtIdeal.nD Cert.UnGradDtIdeal.τ).loc Cert.UnGradDtIdeal.main_arg1) = m ((c.tc : Thread Cert.UnGradDtIdeal.nD Cert.UnGradDtIdeal.τ).loc Cert.UnGradDtIdeal.main_arg1))
      ∧ r.2.sem = fun _ => 0)

def quiescent_UnGradDtRefIdeal [hUnGradDtRefIdeal : Cert.UnGradDtRefIdeal.Facts] : Prop :=
  ∀ (m : (ℓ : Loc Cert.UnGradDtRefIdeal.nD Cert.UnGradDtRefIdeal.τ Cert.UnGradDtRefIdeal.sig) → Buf (Elt Ideal) ℓ) (g : Dev Cert.UnGradDtRefIdeal.nD → PrngReg), Pre_UnGradDtRefIdeal m →
    θ_run (Cert.UnGradDtRefIdeal.defs (F := Ideal)) (onTc (τ := Cert.UnGradDtRefIdeal.τ) (Cert.UnGradDtRefIdeal.main (F := Ideal))) ⟨m, fun _ => 0, g⟩ (fun r => (∀ c : Dev Cert.UnGradDtRefIdeal.nD,
      r.2.mem ((c.tc : Thread Cert.UnGradDtRefIdeal.nD Cert.UnGradDtRefIdeal.τ).loc Cert.UnGradDtRefIdeal.main_arg0) = m ((c.tc : Thread Cert.UnGradDtRefIdeal.nD Cert.UnGradDtRefIdeal.τ).loc Cert.UnGradDtRefIdeal.main_arg0)
      ∧ r.2.mem ((c.tc : Thread Cert.UnGradDtRefIdeal.nD Cert.UnGradDtRefIdeal.τ).loc Cert.UnGradDtRefIdeal.main_arg1) = m ((c.tc : Thread Cert.UnGradDtRefIdeal.nD Cert.UnGradDtRefIdeal.τ).loc Cert.UnGradDtRefIdeal.main_arg1))
      ∧ r.2.sem = fun _ => 0)

def quiescent_InGradDt [hInGradDt : Cert.InGradDt.Facts] : Prop :=
  ∀ (m : (ℓ : Loc Cert.InGradDt.nD Cert.InGradDt.τ Cert.InGradDt.sig) → Buf (Elt Bits) ℓ) (g : Dev Cert.InGradDt.nD → PrngReg), Pre_InGradDt m →
    θ_run (Cert.InGradDt.defs (F := Bits)) (onTc (τ := Cert.InGradDt.τ) (Cert.InGradDt.main (F := Bits))) ⟨m, fun _ => 0, g⟩ (fun r => (∀ c : Dev Cert.InGradDt.nD,
      r.2.mem ((c.tc : Thread Cert.InGradDt.nD Cert.InGradDt.τ).loc Cert.InGradDt.main_arg0) = m ((c.tc : Thread Cert.InGradDt.nD Cert.InGradDt.τ).loc Cert.InGradDt.main_arg0)
      ∧ r.2.mem ((c.tc : Thread Cert.InGradDt.nD Cert.InGradDt.τ).loc Cert.InGradDt.main_arg1) = m ((c.tc : Thread Cert.InGradDt.nD Cert.InGradDt.τ).loc Cert.InGradDt.main_arg1))
      ∧ r.2.sem = fun _ => 0)

def quiescent_InGradDtIdeal [hInGradDtIdeal : Cert.InGradDtIdeal.Facts] : Prop :=
  ∀ (m : (ℓ : Loc Cert.InGradDtIdeal.nD Cert.InGradDtIdeal.τ Cert.InGradDtIdeal.sig) → Buf (Elt Ideal) ℓ) (g : Dev Cert.InGradDtIdeal.nD → PrngReg), Pre_InGradDtIdeal m →
    θ_run (Cert.InGradDtIdeal.defs (F := Ideal)) (onTc (τ := Cert.InGradDtIdeal.τ) (Cert.InGradDtIdeal.main (F := Ideal))) ⟨m, fun _ => 0, g⟩ (fun r => (∀ c : Dev Cert.InGradDtIdeal.nD,
      r.2.mem ((c.tc : Thread Cert.InGradDtIdeal.nD Cert.InGradDtIdeal.τ).loc Cert.InGradDtIdeal.main_arg0) = m ((c.tc : Thread Cert.InGradDtIdeal.nD Cert.InGradDtIdeal.τ).loc Cert.InGradDtIdeal.main_arg0)
      ∧ r.2.mem ((c.tc : Thread Cert.InGradDtIdeal.nD Cert.InGradDtIdeal.τ).loc Cert.InGradDtIdeal.main_arg1) = m ((c.tc : Thread Cert.InGradDtIdeal.nD Cert.InGradDtIdeal.τ).loc Cert.InGradDtIdeal.main_arg1))
      ∧ r.2.sem = fun _ => 0)

def quiescent_InGradDtRefIdeal [hInGradDtRefIdeal : Cert.InGradDtRefIdeal.Facts] : Prop :=
  ∀ (m : (ℓ : Loc Cert.InGradDtRefIdeal.nD Cert.InGradDtRefIdeal.τ Cert.InGradDtRefIdeal.sig) → Buf (Elt Ideal) ℓ) (g : Dev Cert.InGradDtRefIdeal.nD → PrngReg), Pre_InGradDtRefIdeal m →
    θ_run (Cert.InGradDtRefIdeal.defs (F := Ideal)) (onTc (τ := Cert.InGradDtRefIdeal.τ) (Cert.InGradDtRefIdeal.main (F := Ideal))) ⟨m, fun _ => 0, g⟩ (fun r => (∀ c : Dev Cert.InGradDtRefIdeal.nD,
      r.2.mem ((c.tc : Thread Cert.InGradDtRefIdeal.nD Cert.InGradDtRefIdeal.τ).loc Cert.InGradDtRefIdeal.main_arg0) = m ((c.tc : Thread Cert.InGradDtRefIdeal.nD Cert.InGradDtRefIdeal.τ).loc Cert.InGradDtRefIdeal.main_arg0)
      ∧ r.2.mem ((c.tc : Thread Cert.InGradDtRefIdeal.nD Cert.InGradDtRefIdeal.τ).loc Cert.InGradDtRefIdeal.main_arg1) = m ((c.tc : Thread Cert.InGradDtRefIdeal.nD Cert.InGradDtRefIdeal.τ).loc Cert.InGradDtRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def preserves_Conv_ConvIdeal : Prop :=
  True

def algebraic_ConvIdeal_ConvRefIdeal_pre_finite_cotangent [hConvIdeal : Cert.ConvIdeal.Facts] [hConvRefIdeal : Cert.ConvRefIdeal.Facts] [hPre_finite_cotangent : Cert.Pre_finite_cotangent.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_cotangent m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v101) = v0 c
          ∧ r.2.mem ((c.tc : Thread Cert.ConvRefIdeal.nD Cert.ConvRefIdeal.τ).loc Cert.ConvRefIdeal.main_v94) = v1 c
          ∧ r.2.mem ((c.tc : Thread Cert.ConvRefIdeal.nD Cert.ConvRefIdeal.τ).loc Cert.ConvRefIdeal.main_v52) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v6) = v0 c
          ∧ r.2.mem ((c.tc : Thread Cert.GateUpRefIdeal.nD Cert.GateUpRefIdeal.τ).loc Cert.GateUpRefIdeal.main_v7) = v1 c
          ∧ r.2.mem ((c.tc : Thread Cert.GateUpRefIdeal.nD Cert.GateUpRefIdeal.τ).loc Cert.GateUpRefIdeal.main_v12) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Act_ActIdeal : Prop :=
  True

def algebraic_ActIdeal_ActRefIdeal_pre_finite_activation [hActIdeal : Cert.ActIdeal.Facts] [hActRefIdeal : Cert.ActRefIdeal.Facts] [hPre_finite_activation : Cert.Pre_finite_activation.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_activation m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v18) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v39) = v0 c
          ∧ r.2.mem ((c.tc : Thread Cert.NormRefIdeal.nD Cert.NormRefIdeal.τ).loc Cert.NormRefIdeal.main_v40) = v1 c
          ∧ r.2.mem ((c.tc : Thread Cert.NormRefIdeal.nD Cert.NormRefIdeal.τ).loc Cert.NormRefIdeal.main_v22) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v10) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_GateUpGrad_GateUpGradIdeal : Prop :=
  True

def algebraic_GateUpGradIdeal_GateUpGradRefIdeal [hGateUpGradIdeal : Cert.GateUpGradIdeal.Facts] [hGateUpGradRefIdeal : Cert.GateUpGradRefIdeal.Facts] : Prop :=
  ∀ (m : (ℓ : Loc Cert.GateUpGradIdeal.nD Cert.GateUpGradIdeal.τ Cert.GateUpGradIdeal.sig) → Buf (Elt Ideal) ℓ) (g : Dev Cert.GateUpGradIdeal.nD → PrngReg)
    (m' : (ℓ : Loc Cert.GateUpGradRefIdeal.nD Cert.GateUpGradRefIdeal.τ Cert.GateUpGradRefIdeal.sig) → Buf (Elt Ideal) ℓ) (g' : Dev Cert.GateUpGradRefIdeal.nD → PrngReg), Pre_GateUpGradIdeal m →
    (∀ c : Dev Cert.GateUpGradIdeal.nD,
      m' ((c.tc : Thread Cert.GateUpGradRefIdeal.nD Cert.GateUpGradRefIdeal.τ).loc Cert.GateUpGradRefIdeal.main_arg0) = m ((c.tc : Thread Cert.GateUpGradIdeal.nD Cert.GateUpGradIdeal.τ).loc Cert.GateUpGradIdeal.main_arg0)
      ∧ m' ((c.tc : Thread Cert.GateUpGradRefIdeal.nD Cert.GateUpGradRefIdeal.τ).loc Cert.GateUpGradRefIdeal.main_arg1) = m ((c.tc : Thread Cert.GateUpGradIdeal.nD Cert.GateUpGradIdeal.τ).loc Cert.GateUpGradIdeal.main_arg1)) →
    ∃ (v0 : (c : Dev Cert.GateUpGradIdeal.nD) → Buf (Elt Ideal) ((c.tc : Thread Cert.GateUpGradIdeal.nD Cert.GateUpGradIdeal.τ).loc Cert.GateUpGradIdeal.main_v0)),
      θ_run (Cert.GateUpGradIdeal.defs (F := Ideal)) (onTc (τ := Cert.GateUpGradIdeal.τ) (Cert.GateUpGradIdeal.main (F := Ideal))) ⟨m, fun _ => 0, g⟩ (fun r => ∀ c : Dev Cert.GateUpGradIdeal.nD,
          r.2.mem ((c.tc : Thread Cert.GateUpGradIdeal.nD Cert.GateUpGradIdeal.τ).loc Cert.GateUpGradIdeal.main_v0) = v0 c
          ∧ r.2.mem ((c.tc : Thread Cert.GateUpGradIdeal.nD Cert.GateUpGradIdeal.τ).loc Cert.GateUpGradIdeal.main_arg0) = m ((c.tc : Thread Cert.GateUpGradIdeal.nD Cert.GateUpGradIdeal.τ).loc Cert.GateUpGradIdeal.main_arg0)
          ∧ r.2.mem ((c.tc : Thread Cert.GateUpGradIdeal.nD Cert.GateUpGradIdeal.τ).loc Cert.GateUpGradIdeal.main_arg1) = m ((c.tc : Thread Cert.GateUpGradIdeal.nD Cert.GateUpGradIdeal.τ).loc Cert.GateUpGradIdeal.main_arg1))
      ∧ θ_run (Cert.GateUpGradRefIdeal.defs (F := Ideal)) (onTc (τ := Cert.GateUpGradRefIdeal.τ) (Cert.GateUpGradRefIdeal.main (F := Ideal))) ⟨m', fun _ => 0, g'⟩ (fun r => ∀ c : Dev Cert.GateUpGradRefIdeal.nD,
          r.2.mem ((c.tc : Thread Cert.GateUpGradRefIdeal.nD Cert.GateUpGradRefIdeal.τ).loc Cert.GateUpGradRefIdeal.main_v7) = v0 c
          ∧ r.2.mem ((c.tc : Thread Cert.GateUpGradRefIdeal.nD Cert.GateUpGradRefIdeal.τ).loc Cert.GateUpGradRefIdeal.main_arg0) = m' ((c.tc : Thread Cert.GateUpGradRefIdeal.nD Cert.GateUpGradRefIdeal.τ).loc Cert.GateUpGradRefIdeal.main_arg0)
          ∧ r.2.mem ((c.tc : Thread Cert.GateUpGradRefIdeal.nD Cert.GateUpGradRefIdeal.τ).loc Cert.GateUpGradRefIdeal.main_arg1) = m' ((c.tc : Thread Cert.GateUpGradRefIdeal.nD Cert.GateUpGradRefIdeal.τ).loc Cert.GateUpGradRefIdeal.main_arg1))

def preserves_Branches_BranchesIdeal : Prop :=
  True

def algebraic_BranchesIdeal_BranchesRefIdeal [hBranchesIdeal : Cert.BranchesIdeal.Facts] [hBranchesRefIdeal : Cert.BranchesRefIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesRefIdeal.nD Cert.BranchesRefIdeal.τ Cert.BranchesRefIdeal.sig) → Buf (Elt Ideal) ℓ) (g' : Dev Cert.BranchesRefIdeal.nD → PrngReg), Pre_BranchesIdeal m →
    (∀ c : Dev Cert.BranchesIdeal.nD,
      m' ((c.tc : Thread Cert.BranchesRefIdeal.nD Cert.BranchesRefIdeal.τ).loc Cert.BranchesRefIdeal.main_arg0) = m ((c.tc : Thread Cert.BranchesIdeal.nD Cert.BranchesIdeal.τ).loc Cert.BranchesIdeal.main_arg0)
      ∧ m' ((c.tc : Thread Cert.BranchesRefIdeal.nD Cert.BranchesRefIdeal.τ).loc Cert.BranchesRefIdeal.main_arg1) = m ((c.tc : Thread Cert.BranchesIdeal.nD Cert.BranchesIdeal.τ).loc Cert.BranchesIdeal.main_arg1)
      ∧ m' ((c.tc : Thread Cert.BranchesRefIdeal.nD Cert.BranchesRefIdeal.τ).loc Cert.BranchesRefIdeal.main_arg2) = m ((c.tc : Thread Cert.BranchesIdeal.nD Cert.BranchesIdeal.τ).loc Cert.BranchesIdeal.main_arg2)
      ∧ m' ((c.tc : Thread Cert.BranchesRefIdeal.nD Cert.BranchesRefIdeal.τ).loc Cert.BranchesRefIdeal.main_arg3) = m ((c.tc : Thread Cert.BranchesIdeal.nD Cert.BranchesIdeal.τ).loc Cert.BranchesIdeal.main_arg3)
      ∧ m' ((c.tc : Thread Cert.BranchesRefIdeal.nD Cert.BranchesRefIdeal.τ).loc Cert.BranchesRefIdeal.main_arg4) = m ((c.tc : Thread Cert.BranchesIdeal.nD Cert.BranchesIdeal.τ).loc Cert.BranchesIdeal.main_arg4)) →
    ∃ (v0 : (c : Dev Cert.BranchesIdeal.nD) → Buf (Elt Ideal) ((c.tc : Thread Cert.BranchesIdeal.nD Cert.BranchesIdeal.τ).loc Cert.BranchesIdeal.main_v0_0)) (v1 : (c : Dev Cert.BranchesIdeal.nD) → Buf (Elt Ideal) ((c.tc : Thread Cert.BranchesIdeal.nD Cert.BranchesIdeal.τ).loc Cert.BranchesIdeal.main_v0_1)) (v2 : (c : Dev Cert.BranchesIdeal.nD) → Buf (Elt Ideal) ((c.tc : Thread Cert.BranchesIdeal.nD Cert.BranchesIdeal.τ).loc Cert.BranchesIdeal.main_v0_2)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v0_0) = v0 c
          ∧ r.2.mem ((c.tc : Thread Cert.BranchesIdeal.nD Cert.BranchesIdeal.τ).loc Cert.BranchesIdeal.main_v0_1) = v1 c
          ∧ r.2.mem ((c.tc : Thread Cert.BranchesIdeal.nD Cert.BranchesIdeal.τ).loc Cert.BranchesIdeal.main_v0_2) = v2 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
          ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4))
      ∧ θ_run (Cert.BranchesRefIdeal.defs (F := Ideal)) (onTc (τ := Cert.BranchesRefIdeal.τ) (Cert.BranchesRefIdeal.main (F := Ideal))) ⟨m', fun _ => 0, g'⟩ (fun r => ∀ c : Dev Cert.BranchesRefIdeal.nD,
          r.2.mem ((c.tc : Thread Cert.BranchesRefIdeal.nD Cert.BranchesRefIdeal.τ).loc Cert.BranchesRefIdeal.main_v25) = v0 c
          ∧ r.2.mem ((c.tc : Thread Cert.BranchesRefIdeal.nD Cert.BranchesRefIdeal.τ).loc Cert.BranchesRefIdeal.main_v26) = v1 c
          ∧ r.2.mem ((c.tc : Thread Cert.BranchesRefIdeal.nD Cert.BranchesRefIdeal.τ).loc Cert.BranchesRefIdeal.main_v27) = v2 c
          ∧ r.2.mem ((c.tc : Thread Cert.BranchesRefIdeal.nD Cert.BranchesRefIdeal.τ).loc Cert.BranchesRefIdeal.main_arg0) = m' ((c.tc : Thread Cert.BranchesRefIdeal.nD Cert.BranchesRefIdeal.τ).loc Cert.BranchesRefIdeal.main_arg0)
          ∧ r.2.mem ((c.tc : Thread Cert.BranchesRefIdeal.nD Cert.BranchesRefIdeal.τ).loc Cert.BranchesRefIdeal.main_arg1) = m' ((c.tc : Thread Cert.BranchesRefIdeal.nD Cert.BranchesRefIdeal.τ).loc Cert.BranchesRefIdeal.main_arg1)
          ∧ r.2.mem ((c.tc : Thread Cert.BranchesRefIdeal.nD Cert.BranchesRefIdeal.τ).loc Cert.BranchesRefIdeal.main_arg2) = m' ((c.tc : Thread Cert.BranchesRefIdeal.nD Cert.BranchesRefIdeal.τ).loc Cert.BranchesRefIdeal.main_arg2)
          ∧ r.2.mem ((c.tc : Thread Cert.BranchesRefIdeal.nD Cert.BranchesRefIdeal.τ).loc Cert.BranchesRefIdeal.main_arg3) = m' ((c.tc : Thread Cert.BranchesRefIdeal.nD Cert.BranchesRefIdeal.τ).loc Cert.BranchesRefIdeal.main_arg3)
          ∧ r.2.mem ((c.tc : Thread Cert.BranchesRefIdeal.nD Cert.BranchesRefIdeal.τ).loc Cert.BranchesRefIdeal.main_arg4) = m' ((c.tc : Thread Cert.BranchesRefIdeal.nD Cert.BranchesRefIdeal.τ).loc Cert.BranchesRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_BranchGrad_BranchGradIdeal : Prop :=
  True

def algebraic_BranchGradIdeal_BranchGradRefIdeal [hBranchGradIdeal : Cert.BranchGradIdeal.Facts] [hBranchGradRefIdeal : Cert.BranchGradRefIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg)
    (m' : (ℓ : Loc Cert.BranchGradRefIdeal.nD Cert.BranchGradRefIdeal.τ Cert.BranchGradRefIdeal.sig) → Buf (Elt Ideal) ℓ) (g' : Dev Cert.BranchGradRefIdeal.nD → PrngReg), Pre_BranchGradIdeal m →
    (∀ c : Dev Cert.BranchGradIdeal.nD,
      m' ((c.tc : Thread Cert.BranchGradRefIdeal.nD Cert.BranchGradRefIdeal.τ).loc Cert.BranchGradRefIdeal.main_arg0) = m ((c.tc : Thread Cert.BranchGradIdeal.nD Cert.BranchGradIdeal.τ).loc Cert.BranchGradIdeal.main_arg0)
      ∧ m' ((c.tc : Thread Cert.BranchGradRefIdeal.nD Cert.BranchGradRefIdeal.τ).loc Cert.BranchGradRefIdeal.main_arg1) = m ((c.tc : Thread Cert.BranchGradIdeal.nD Cert.BranchGradIdeal.τ).loc Cert.BranchGradIdeal.main_arg1)
      ∧ m' ((c.tc : Thread Cert.BranchGradRefIdeal.nD Cert.BranchGradRefIdeal.τ).loc Cert.BranchGradRefIdeal.main_arg2) = m ((c.tc : Thread Cert.BranchGradIdeal.nD Cert.BranchGradIdeal.τ).loc Cert.BranchGradIdeal.main_arg2)
      ∧ m' ((c.tc : Thread Cert.BranchGradRefIdeal.nD Cert.BranchGradRefIdeal.τ).loc Cert.BranchGradRefIdeal.main_arg3) = m ((c.tc : Thread Cert.BranchGradIdeal.nD Cert.BranchGradIdeal.τ).loc Cert.BranchGradIdeal.main_arg3)) →
    ∃ (v0 : (c : Dev Cert.BranchGradIdeal.nD) → Buf (Elt Ideal) ((c.tc : Thread Cert.BranchGradIdeal.nD Cert.BranchGradIdeal.τ).loc Cert.BranchGradIdeal.main_v0_0)) (v1 : (c : Dev Cert.BranchGradIdeal.nD) → Buf (Elt Ideal) ((c.tc : Thread Cert.BranchGradIdeal.nD Cert.BranchGradIdeal.τ).loc Cert.BranchGradIdeal.main_v0_1)),
      θ_run (Cert.BranchGradIdeal.defs (F := Ideal)) (onTc (τ := Cert.BranchGradIdeal.τ) (Cert.BranchGradIdeal.main (F := Ideal))) ⟨m, fun _ => 0, g⟩ (fun r => ∀ c : Dev Cert.BranchGradIdeal.nD,
          r.2.mem ((c.tc : Thread Cert.BranchGradIdeal.nD Cert.BranchGradIdeal.τ).loc Cert.BranchGradIdeal.main_v0_0) = v0 c
          ∧ r.2.mem ((c.tc : Thread Cert.BranchGradIdeal.nD Cert.BranchGradIdeal.τ).loc Cert.BranchGradIdeal.main_v0_1) = v1 c
          ∧ r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
          ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1)
          ∧ r.2.mem ((c.tc : Thread Cert.BranchGradIdeal.nD Cert.BranchGradIdeal.τ).loc Cert.BranchGradIdeal.main_arg2) = m ((c.tc : Thread Cert.BranchGradIdeal.nD Cert.BranchGradIdeal.τ).loc Cert.BranchGradIdeal.main_arg2)
          ∧ r.2.mem ((c.tc : Thread Cert.BranchGradIdeal.nD Cert.BranchGradIdeal.τ).loc Cert.BranchGradIdeal.main_arg3) = m ((c.tc : Thread Cert.BranchGradIdeal.nD Cert.BranchGradIdeal.τ).loc Cert.BranchGradIdeal.main_arg3))
      ∧ θ_run (Cert.BranchGradRefIdeal.defs (F := Ideal)) (onTc (τ := Cert.BranchGradRefIdeal.τ) (Cert.BranchGradRefIdeal.main (F := Ideal))) ⟨m', fun _ => 0, g'⟩ (fun r => ∀ c : Dev Cert.BranchGradRefIdeal.nD,
          r.2.mem ((c.tc : Thread Cert.BranchGradRefIdeal.nD Cert.BranchGradRefIdeal.τ).loc Cert.BranchGradRefIdeal.main_v9) = v0 c
          ∧ r.2.mem ((c.tc : Thread Cert.BranchGradRefIdeal.nD Cert.BranchGradRefIdeal.τ).loc Cert.BranchGradRefIdeal.main_v10) = v1 c
          ∧ r.2.mem ((c.tc : Thread Cert.BranchGradRefIdeal.nD Cert.BranchGradRefIdeal.τ).loc Cert.BranchGradRefIdeal.main_arg0) = m' ((c.tc : Thread Cert.BranchGradRefIdeal.nD Cert.BranchGradRefIdeal.τ).loc Cert.BranchGradRefIdeal.main_arg0)
          ∧ r.2.mem ((c.tc : Thread Cert.BranchGradRefIdeal.nD Cert.BranchGradRefIdeal.τ).loc Cert.BranchGradRefIdeal.main_arg1) = m' ((c.tc : Thread Cert.BranchGradRefIdeal.nD Cert.BranchGradRefIdeal.τ).loc Cert.BranchGradRefIdeal.main_arg1)
          ∧ r.2.mem ((c.tc : Thread Cert.BranchGradRefIdeal.nD Cert.BranchGradRefIdeal.τ).loc Cert.BranchGradRefIdeal.main_arg2) = m' ((c.tc : Thread Cert.BranchGradRefIdeal.nD Cert.BranchGradRefIdeal.τ).loc Cert.BranchGradRefIdeal.main_arg2)
          ∧ r.2.mem ((c.tc : Thread Cert.BranchGradRefIdeal.nD Cert.BranchGradRefIdeal.τ).loc Cert.BranchGradRefIdeal.main_arg3) = m' ((c.tc : Thread Cert.BranchGradRefIdeal.nD Cert.BranchGradRefIdeal.τ).loc Cert.BranchGradRefIdeal.main_arg3))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v6) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v7) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_Hgrn_HgrnIdeal : Prop :=
  True

def algebraic_HgrnIdeal_HgrnRefIdeal_on_gate_columns_pre_finite_hgrn [hHgrnIdeal : Cert.HgrnIdeal.Facts] [hHgrnRefIdeal : Cert.HgrnRefIdeal.Facts] [hPre_finite_hgrn : Cert.Pre_finite_hgrn.Facts] [hOn_gate_columns : Cert.On_gate_columns.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_finite_hgrn m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)
      ∧ m' ((c.tc : Thread Cert.HgrnRefIdeal.nD Cert.HgrnRefIdeal.τ).loc Cert.HgrnRefIdeal.main_arg4) = m ((c.tc : Thread Cert.HgrnIdeal.nD Cert.HgrnIdeal.τ).loc Cert.HgrnIdeal.main_arg4)
      ∧ m' ((c.tc : Thread Cert.HgrnRefIdeal.nD Cert.HgrnRefIdeal.τ).loc Cert.HgrnRefIdeal.main_arg5) = m ((c.tc : Thread Cert.HgrnIdeal.nD Cert.HgrnIdeal.τ).loc Cert.HgrnIdeal.main_arg5)) →
    ∃ (v0 : (c : Dev Cert.HgrnIdeal.nD) → Buf (Elt Ideal) ((c.tc : Thread Cert.HgrnIdeal.nD Cert.HgrnIdeal.τ).loc Cert.HgrnIdeal.main_v0_0)) (v1 : (c : Dev Cert.HgrnIdeal.nD) → Buf (Elt Ideal) ((c.tc : Thread Cert.HgrnIdeal.nD Cert.HgrnIdeal.τ).loc Cert.HgrnIdeal.main_v0_2)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          (∀ i : (⟨2, ![4352, 4096]⟩ : Shape).Idx, (Cert.On_gate_columns.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).1 i = 1#1 → r.2.mem ((c.tc : Thread Cert.HgrnIdeal.nD Cert.HgrnIdeal.τ).loc Cert.HgrnIdeal.main_v0_0) i = v0 c i)
          ∧ (∀ i : (⟨2, ![1, 1024]⟩ : Shape).Idx, (Cert.On_gate_columns.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2 i = 1#1 → r.2.mem ((c.tc : Thread Cert.HgrnIdeal.nD Cert.HgrnIdeal.τ).loc Cert.HgrnIdeal.main_v0_2) i = v1 c i)
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
          ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
          ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          (∀ i : (⟨2, ![4352, 4096]⟩ : Shape).Idx, (Cert.On_gate_columns.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).1 i = 1#1 → r.2.mem ((c.tc : Thread Cert.HgrnRefIdeal.nD Cert.HgrnRefIdeal.τ).loc Cert.HgrnRefIdeal.main_v59) i = v0 c i)
          ∧ (∀ i : (⟨2, ![1, 1024]⟩ : Shape).Idx, (Cert.On_gate_columns.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2 i = 1#1 → r.2.mem ((c.tc : Thread Cert.HgrnRefIdeal.nD Cert.HgrnRefIdeal.τ).loc Cert.HgrnRefIdeal.main_v34) i = v1 c i)
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3)
          ∧ r.2.mem ((c.tc : Thread Cert.HgrnRefIdeal.nD Cert.HgrnRefIdeal.τ).loc Cert.HgrnRefIdeal.main_arg4) = m' ((c.tc : Thread Cert.HgrnRefIdeal.nD Cert.HgrnRefIdeal.τ).loc Cert.HgrnRefIdeal.main_arg4)
          ∧ r.2.mem ((c.tc : Thread Cert.HgrnRefIdeal.nD Cert.HgrnRefIdeal.τ).loc Cert.HgrnRefIdeal.main_arg5) = m' ((c.tc : Thread Cert.HgrnRefIdeal.nD Cert.HgrnRefIdeal.τ).loc Cert.HgrnRefIdeal.main_arg5))

def algebraic_HgrnIdeal_HgrnQueryRefIdeal_on_query_columns_pre_finite_query [hHgrnIdeal : Cert.HgrnIdeal.Facts] [hHgrnQueryRefIdeal : Cert.HgrnQueryRefIdeal.Facts] [hPre_finite_query : Cert.Pre_finite_query.Facts] [hOn_query_columns : Cert.On_query_columns.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnQueryRefIdeal.nD Cert.HgrnQueryRefIdeal.τ Cert.HgrnQueryRefIdeal.sig) → Buf (Elt Ideal) ℓ) (g' : Dev Cert.HgrnQueryRefIdeal.nD → PrngReg), Pre_HgrnIdeal_finite_query m →
    (∀ c : Dev Cert.HgrnIdeal.nD,
      m' ((c.tc : Thread Cert.HgrnQueryRefIdeal.nD Cert.HgrnQueryRefIdeal.τ).loc Cert.HgrnQueryRefIdeal.main_arg0) = m ((c.tc : Thread Cert.HgrnIdeal.nD Cert.HgrnIdeal.τ).loc Cert.HgrnIdeal.main_arg0)
      ∧ m' ((c.tc : Thread Cert.HgrnQueryRefIdeal.nD Cert.HgrnQueryRefIdeal.τ).loc Cert.HgrnQueryRefIdeal.main_arg1) = m ((c.tc : Thread Cert.HgrnIdeal.nD Cert.HgrnIdeal.τ).loc Cert.HgrnIdeal.main_arg1)
      ∧ m' ((c.tc : Thread Cert.HgrnQueryRefIdeal.nD Cert.HgrnQueryRefIdeal.τ).loc Cert.HgrnQueryRefIdeal.main_arg2) = m ((c.tc : Thread Cert.HgrnIdeal.nD Cert.HgrnIdeal.τ).loc Cert.HgrnIdeal.main_arg2)
      ∧ m' ((c.tc : Thread Cert.HgrnQueryRefIdeal.nD Cert.HgrnQueryRefIdeal.τ).loc Cert.HgrnQueryRefIdeal.main_arg3) = m ((c.tc : Thread Cert.HgrnIdeal.nD Cert.HgrnIdeal.τ).loc Cert.HgrnIdeal.main_arg3)
      ∧ m' ((c.tc : Thread Cert.HgrnQueryRefIdeal.nD Cert.HgrnQueryRefIdeal.τ).loc Cert.HgrnQueryRefIdeal.main_arg4) = m ((c.tc : Thread Cert.HgrnIdeal.nD Cert.HgrnIdeal.τ).loc Cert.HgrnIdeal.main_arg4)
      ∧ m' ((c.tc : Thread Cert.HgrnQueryRefIdeal.nD Cert.HgrnQueryRefIdeal.τ).loc Cert.HgrnQueryRefIdeal.main_arg5) = m ((c.tc : Thread Cert.HgrnIdeal.nD Cert.HgrnIdeal.τ).loc Cert.HgrnIdeal.main_arg5)) →
    ∃ (v0 : (c : Dev Cert.HgrnIdeal.nD) → Buf (Elt Ideal) ((c.tc : Thread Cert.HgrnIdeal.nD Cert.HgrnIdeal.τ).loc Cert.HgrnIdeal.main_v0_0)) (v1 : (c : Dev Cert.HgrnIdeal.nD) → Buf (Elt Ideal) ((c.tc : Thread Cert.HgrnIdeal.nD Cert.HgrnIdeal.τ).loc Cert.HgrnIdeal.main_v0_2)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          (∀ i : (⟨2, ![4352, 4096]⟩ : Shape).Idx, (Cert.On_query_columns.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).1 i = 1#1 → r.2.mem ((c.tc : Thread Cert.HgrnIdeal.nD Cert.HgrnIdeal.τ).loc Cert.HgrnIdeal.main_v0_0) i = v0 c i)
          ∧ (∀ i : (⟨2, ![1, 1024]⟩ : Shape).Idx, (Cert.On_query_columns.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2 i = 1#1 → r.2.mem ((c.tc : Thread Cert.HgrnIdeal.nD Cert.HgrnIdeal.τ).loc Cert.HgrnIdeal.main_v0_2) i = v1 c i)
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
          ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
          ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ θ_run (Cert.HgrnQueryRefIdeal.defs (F := Ideal)) (onTc (τ := Cert.HgrnQueryRefIdeal.τ) (Cert.HgrnQueryRefIdeal.main (F := Ideal))) ⟨m', fun _ => 0, g'⟩ (fun r => ∀ c : Dev Cert.HgrnQueryRefIdeal.nD,
          (∀ i : (⟨2, ![4352, 4096]⟩ : Shape).Idx, (Cert.On_query_columns.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).1 i = 1#1 → r.2.mem ((c.tc : Thread Cert.HgrnQueryRefIdeal.nD Cert.HgrnQueryRefIdeal.τ).loc Cert.HgrnQueryRefIdeal.main_v125) i = v0 c i)
          ∧ (∀ i : (⟨2, ![1, 1024]⟩ : Shape).Idx, (Cert.On_query_columns.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))).2 i = 1#1 → r.2.mem ((c.tc : Thread Cert.HgrnQueryRefIdeal.nD Cert.HgrnQueryRefIdeal.τ).loc Cert.HgrnQueryRefIdeal.main_v126) i = v1 c i)
          ∧ r.2.mem ((c.tc : Thread Cert.HgrnQueryRefIdeal.nD Cert.HgrnQueryRefIdeal.τ).loc Cert.HgrnQueryRefIdeal.main_arg0) = m' ((c.tc : Thread Cert.HgrnQueryRefIdeal.nD Cert.HgrnQueryRefIdeal.τ).loc Cert.HgrnQueryRefIdeal.main_arg0)
          ∧ r.2.mem ((c.tc : Thread Cert.HgrnQueryRefIdeal.nD Cert.HgrnQueryRefIdeal.τ).loc Cert.HgrnQueryRefIdeal.main_arg1) = m' ((c.tc : Thread Cert.HgrnQueryRefIdeal.nD Cert.HgrnQueryRefIdeal.τ).loc Cert.HgrnQueryRefIdeal.main_arg1)
          ∧ r.2.mem ((c.tc : Thread Cert.HgrnQueryRefIdeal.nD Cert.HgrnQueryRefIdeal.τ).loc Cert.HgrnQueryRefIdeal.main_arg2) = m' ((c.tc : Thread Cert.HgrnQueryRefIdeal.nD Cert.HgrnQueryRefIdeal.τ).loc Cert.HgrnQueryRefIdeal.main_arg2)
          ∧ r.2.mem ((c.tc : Thread Cert.HgrnQueryRefIdeal.nD Cert.HgrnQueryRefIdeal.τ).loc Cert.HgrnQueryRefIdeal.main_arg3) = m' ((c.tc : Thread Cert.HgrnQueryRefIdeal.nD Cert.HgrnQueryRefIdeal.τ).loc Cert.HgrnQueryRefIdeal.main_arg3)
          ∧ r.2.mem ((c.tc : Thread Cert.HgrnQueryRefIdeal.nD Cert.HgrnQueryRefIdeal.τ).loc Cert.HgrnQueryRefIdeal.main_arg4) = m' ((c.tc : Thread Cert.HgrnQueryRefIdeal.nD Cert.HgrnQueryRefIdeal.τ).loc Cert.HgrnQueryRefIdeal.main_arg4)
          ∧ r.2.mem ((c.tc : Thread Cert.HgrnQueryRefIdeal.nD Cert.HgrnQueryRefIdeal.τ).loc Cert.HgrnQueryRefIdeal.main_arg5) = m' ((c.tc : Thread Cert.HgrnQueryRefIdeal.nD Cert.HgrnQueryRefIdeal.τ).loc Cert.HgrnQueryRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MergeGrad_MergeGradIdeal : Prop :=
  True

def algebraic_MergeGradIdeal_MergeGradRefIdeal [hMergeGradIdeal : Cert.MergeGradIdeal.Facts] [hMergeGradRefIdeal : Cert.MergeGradRefIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradRefIdeal.nD Cert.MergeGradRefIdeal.τ Cert.MergeGradRefIdeal.sig) → Buf (Elt Ideal) ℓ) (g' : Dev Cert.MergeGradRefIdeal.nD → PrngReg), Pre_MergeGradIdeal m →
    (∀ c : Dev Cert.MergeGradIdeal.nD,
      m' ((c.tc : Thread Cert.MergeGradRefIdeal.nD Cert.MergeGradRefIdeal.τ).loc Cert.MergeGradRefIdeal.main_arg0) = m ((c.tc : Thread Cert.MergeGradIdeal.nD Cert.MergeGradIdeal.τ).loc Cert.MergeGradIdeal.main_arg0)
      ∧ m' ((c.tc : Thread Cert.MergeGradRefIdeal.nD Cert.MergeGradRefIdeal.τ).loc Cert.MergeGradRefIdeal.main_arg1) = m ((c.tc : Thread Cert.MergeGradIdeal.nD Cert.MergeGradIdeal.τ).loc Cert.MergeGradIdeal.main_arg1)
      ∧ m' ((c.tc : Thread Cert.MergeGradRefIdeal.nD Cert.MergeGradRefIdeal.τ).loc Cert.MergeGradRefIdeal.main_arg2) = m ((c.tc : Thread Cert.MergeGradIdeal.nD Cert.MergeGradIdeal.τ).loc Cert.MergeGradIdeal.main_arg2)
      ∧ m' ((c.tc : Thread Cert.MergeGradRefIdeal.nD Cert.MergeGradRefIdeal.τ).loc Cert.MergeGradRefIdeal.main_arg3) = m ((c.tc : Thread Cert.MergeGradIdeal.nD Cert.MergeGradIdeal.τ).loc Cert.MergeGradIdeal.main_arg3)
      ∧ m' ((c.tc : Thread Cert.MergeGradRefIdeal.nD Cert.MergeGradRefIdeal.τ).loc Cert.MergeGradRefIdeal.main_arg4) = m ((c.tc : Thread Cert.MergeGradIdeal.nD Cert.MergeGradIdeal.τ).loc Cert.MergeGradIdeal.main_arg4)) →
    ∃ (v0 : (c : Dev Cert.MergeGradIdeal.nD) → Buf (Elt Ideal) ((c.tc : Thread Cert.MergeGradIdeal.nD Cert.MergeGradIdeal.τ).loc Cert.MergeGradIdeal.main_v0_0)) (v1 : (c : Dev Cert.MergeGradIdeal.nD) → Buf (Elt Ideal) ((c.tc : Thread Cert.MergeGradIdeal.nD Cert.MergeGradIdeal.τ).loc Cert.MergeGradIdeal.main_v0_1)) (v2 : (c : Dev Cert.MergeGradIdeal.nD) → Buf (Elt Ideal) ((c.tc : Thread Cert.MergeGradIdeal.nD Cert.MergeGradIdeal.τ).loc Cert.MergeGradIdeal.main_v0_2)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v0_0) = v0 c
          ∧ r.2.mem ((c.tc : Thread Cert.MergeGradIdeal.nD Cert.MergeGradIdeal.τ).loc Cert.MergeGradIdeal.main_v0_1) = v1 c
          ∧ r.2.mem ((c.tc : Thread Cert.MergeGradIdeal.nD Cert.MergeGradIdeal.τ).loc Cert.MergeGradIdeal.main_v0_2) = v2 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
          ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4))
      ∧ θ_run (Cert.MergeGradRefIdeal.defs (F := Ideal)) (onTc (τ := Cert.MergeGradRefIdeal.τ) (Cert.MergeGradRefIdeal.main (F := Ideal))) ⟨m', fun _ => 0, g'⟩ (fun r => ∀ c : Dev Cert.MergeGradRefIdeal.nD,
          r.2.mem ((c.tc : Thread Cert.MergeGradRefIdeal.nD Cert.MergeGradRefIdeal.τ).loc Cert.MergeGradRefIdeal.main_v38) = v0 c
          ∧ r.2.mem ((c.tc : Thread Cert.MergeGradRefIdeal.nD Cert.MergeGradRefIdeal.τ).loc Cert.MergeGradRefIdeal.main_v39) = v1 c
          ∧ r.2.mem ((c.tc : Thread Cert.MergeGradRefIdeal.nD Cert.MergeGradRefIdeal.τ).loc Cert.MergeGradRefIdeal.main_v40) = v2 c
          ∧ r.2.mem ((c.tc : Thread Cert.MergeGradRefIdeal.nD Cert.MergeGradRefIdeal.τ).loc Cert.MergeGradRefIdeal.main_arg0) = m' ((c.tc : Thread Cert.MergeGradRefIdeal.nD Cert.MergeGradRefIdeal.τ).loc Cert.MergeGradRefIdeal.main_arg0)
          ∧ r.2.mem ((c.tc : Thread Cert.MergeGradRefIdeal.nD Cert.MergeGradRefIdeal.τ).loc Cert.MergeGradRefIdeal.main_arg1) = m' ((c.tc : Thread Cert.MergeGradRefIdeal.nD Cert.MergeGradRefIdeal.τ).loc Cert.MergeGradRefIdeal.main_arg1)
          ∧ r.2.mem ((c.tc : Thread Cert.MergeGradRefIdeal.nD Cert.MergeGradRefIdeal.τ).loc Cert.MergeGradRefIdeal.main_arg2) = m' ((c.tc : Thread Cert.MergeGradRefIdeal.nD Cert.MergeGradRefIdeal.τ).loc Cert.MergeGradRefIdeal.main_arg2)
          ∧ r.2.mem ((c.tc : Thread Cert.MergeGradRefIdeal.nD Cert.MergeGradRefIdeal.τ).loc Cert.MergeGradRefIdeal.main_arg3) = m' ((c.tc : Thread Cert.MergeGradRefIdeal.nD Cert.MergeGradRefIdeal.τ).loc Cert.MergeGradRefIdeal.main_arg3)
          ∧ r.2.mem ((c.tc : Thread Cert.MergeGradRefIdeal.nD Cert.MergeGradRefIdeal.τ).loc Cert.MergeGradRefIdeal.main_arg4) = m' ((c.tc : Thread Cert.MergeGradRefIdeal.nD Cert.MergeGradRefIdeal.τ).loc Cert.MergeGradRefIdeal.main_arg4))

def preserves_UnGrad_UnGradIdeal : Prop :=
  True

def algebraic_UnGradIdeal_UnGradRefIdeal_pre_finite_un [hUnGradIdeal : Cert.UnGradIdeal.Facts] [hUnGradRefIdeal : Cert.UnGradRefIdeal.Facts] [hPre_finite_un : Cert.Pre_finite_un.Facts] : Prop :=
  ∀ (m : (ℓ : Loc Cert.UnGradIdeal.nD Cert.UnGradIdeal.τ Cert.UnGradIdeal.sig) → Buf (Elt Ideal) ℓ) (g : Dev Cert.UnGradIdeal.nD → PrngReg)
    (m' : (ℓ : Loc Cert.UnGradRefIdeal.nD Cert.UnGradRefIdeal.τ Cert.UnGradRefIdeal.sig) → Buf (Elt Ideal) ℓ) (g' : Dev Cert.UnGradRefIdeal.nD → PrngReg), Pre_UnGradIdeal_finite_un m →
    (∀ c : Dev Cert.UnGradIdeal.nD,
      m' ((c.tc : Thread Cert.UnGradRefIdeal.nD Cert.UnGradRefIdeal.τ).loc Cert.UnGradRefIdeal.main_arg0) = m ((c.tc : Thread Cert.UnGradIdeal.nD Cert.UnGradIdeal.τ).loc Cert.UnGradIdeal.main_arg0)
      ∧ m' ((c.tc : Thread Cert.UnGradRefIdeal.nD Cert.UnGradRefIdeal.τ).loc Cert.UnGradRefIdeal.main_arg1) = m ((c.tc : Thread Cert.UnGradIdeal.nD Cert.UnGradIdeal.τ).loc Cert.UnGradIdeal.main_arg1)
      ∧ m' ((c.tc : Thread Cert.UnGradRefIdeal.nD Cert.UnGradRefIdeal.τ).loc Cert.UnGradRefIdeal.main_arg2) = m ((c.tc : Thread Cert.UnGradIdeal.nD Cert.UnGradIdeal.τ).loc Cert.UnGradIdeal.main_arg2)
      ∧ m' ((c.tc : Thread Cert.UnGradRefIdeal.nD Cert.UnGradRefIdeal.τ).loc Cert.UnGradRefIdeal.main_arg3) = m ((c.tc : Thread Cert.UnGradIdeal.nD Cert.UnGradIdeal.τ).loc Cert.UnGradIdeal.main_arg3)
      ∧ m' ((c.tc : Thread Cert.UnGradRefIdeal.nD Cert.UnGradRefIdeal.τ).loc Cert.UnGradRefIdeal.main_arg4) = m ((c.tc : Thread Cert.UnGradIdeal.nD Cert.UnGradIdeal.τ).loc Cert.UnGradIdeal.main_arg4)
      ∧ m' ((c.tc : Thread Cert.UnGradRefIdeal.nD Cert.UnGradRefIdeal.τ).loc Cert.UnGradRefIdeal.main_arg5) = m ((c.tc : Thread Cert.UnGradIdeal.nD Cert.UnGradIdeal.τ).loc Cert.UnGradIdeal.main_arg5)) →
    ∃ (v0 : (c : Dev Cert.UnGradIdeal.nD) → Buf (Elt Ideal) ((c.tc : Thread Cert.UnGradIdeal.nD Cert.UnGradIdeal.τ).loc Cert.UnGradIdeal.main_v0_0)) (v1 : (c : Dev Cert.UnGradIdeal.nD) → Buf (Elt Ideal) ((c.tc : Thread Cert.UnGradIdeal.nD Cert.UnGradIdeal.τ).loc Cert.UnGradIdeal.main_v0_1)) (v2 : (c : Dev Cert.UnGradIdeal.nD) → Buf (Elt Ideal) ((c.tc : Thread Cert.UnGradIdeal.nD Cert.UnGradIdeal.τ).loc Cert.UnGradIdeal.main_v0_2)),
      θ_run (Cert.UnGradIdeal.defs (F := Ideal)) (onTc (τ := Cert.UnGradIdeal.τ) (Cert.UnGradIdeal.main (F := Ideal))) ⟨m, fun _ => 0, g⟩ (fun r => ∀ c : Dev Cert.UnGradIdeal.nD,
          r.2.mem ((c.tc : Thread Cert.UnGradIdeal.nD Cert.UnGradIdeal.τ).loc Cert.UnGradIdeal.main_v0_0) = v0 c
          ∧ r.2.mem ((c.tc : Thread Cert.UnGradIdeal.nD Cert.UnGradIdeal.τ).loc Cert.UnGradIdeal.main_v0_1) = v1 c
          ∧ r.2.mem ((c.tc : Thread Cert.UnGradIdeal.nD Cert.UnGradIdeal.τ).loc Cert.UnGradIdeal.main_v0_2) = v2 c
          ∧ r.2.mem ((c.tc : Thread Cert.UnGradIdeal.nD Cert.UnGradIdeal.τ).loc Cert.UnGradIdeal.main_arg0) = m ((c.tc : Thread Cert.UnGradIdeal.nD Cert.UnGradIdeal.τ).loc Cert.UnGradIdeal.main_arg0)
          ∧ r.2.mem ((c.tc : Thread Cert.UnGradIdeal.nD Cert.UnGradIdeal.τ).loc Cert.UnGradIdeal.main_arg1) = m ((c.tc : Thread Cert.UnGradIdeal.nD Cert.UnGradIdeal.τ).loc Cert.UnGradIdeal.main_arg1)
          ∧ r.2.mem ((c.tc : Thread Cert.UnGradIdeal.nD Cert.UnGradIdeal.τ).loc Cert.UnGradIdeal.main_arg2) = m ((c.tc : Thread Cert.UnGradIdeal.nD Cert.UnGradIdeal.τ).loc Cert.UnGradIdeal.main_arg2)
          ∧ r.2.mem ((c.tc : Thread Cert.UnGradIdeal.nD Cert.UnGradIdeal.τ).loc Cert.UnGradIdeal.main_arg3) = m ((c.tc : Thread Cert.UnGradIdeal.nD Cert.UnGradIdeal.τ).loc Cert.UnGradIdeal.main_arg3)
          ∧ r.2.mem ((c.tc : Thread Cert.UnGradIdeal.nD Cert.UnGradIdeal.τ).loc Cert.UnGradIdeal.main_arg4) = m ((c.tc : Thread Cert.UnGradIdeal.nD Cert.UnGradIdeal.τ).loc Cert.UnGradIdeal.main_arg4)
          ∧ r.2.mem ((c.tc : Thread Cert.UnGradIdeal.nD Cert.UnGradIdeal.τ).loc Cert.UnGradIdeal.main_arg5) = m ((c.tc : Thread Cert.UnGradIdeal.nD Cert.UnGradIdeal.τ).loc Cert.UnGradIdeal.main_arg5))
      ∧ θ_run (Cert.UnGradRefIdeal.defs (F := Ideal)) (onTc (τ := Cert.UnGradRefIdeal.τ) (Cert.UnGradRefIdeal.main (F := Ideal))) ⟨m', fun _ => 0, g'⟩ (fun r => ∀ c : Dev Cert.UnGradRefIdeal.nD,
          r.2.mem ((c.tc : Thread Cert.UnGradRefIdeal.nD Cert.UnGradRefIdeal.τ).loc Cert.UnGradRefIdeal.main_v43) = v0 c
          ∧ r.2.mem ((c.tc : Thread Cert.UnGradRefIdeal.nD Cert.UnGradRefIdeal.τ).loc Cert.UnGradRefIdeal.main_v44) = v1 c
          ∧ r.2.mem ((c.tc : Thread Cert.UnGradRefIdeal.nD Cert.UnGradRefIdeal.τ).loc Cert.UnGradRefIdeal.main_v26) = v2 c
          ∧ r.2.mem ((c.tc : Thread Cert.UnGradRefIdeal.nD Cert.UnGradRefIdeal.τ).loc Cert.UnGradRefIdeal.main_arg0) = m' ((c.tc : Thread Cert.UnGradRefIdeal.nD Cert.UnGradRefIdeal.τ).loc Cert.UnGradRefIdeal.main_arg0)
          ∧ r.2.mem ((c.tc : Thread Cert.UnGradRefIdeal.nD Cert.UnGradRefIdeal.τ).loc Cert.UnGradRefIdeal.main_arg1) = m' ((c.tc : Thread Cert.UnGradRefIdeal.nD Cert.UnGradRefIdeal.τ).loc Cert.UnGradRefIdeal.main_arg1)
          ∧ r.2.mem ((c.tc : Thread Cert.UnGradRefIdeal.nD Cert.UnGradRefIdeal.τ).loc Cert.UnGradRefIdeal.main_arg2) = m' ((c.tc : Thread Cert.UnGradRefIdeal.nD Cert.UnGradRefIdeal.τ).loc Cert.UnGradRefIdeal.main_arg2)
          ∧ r.2.mem ((c.tc : Thread Cert.UnGradRefIdeal.nD Cert.UnGradRefIdeal.τ).loc Cert.UnGradRefIdeal.main_arg3) = m' ((c.tc : Thread Cert.UnGradRefIdeal.nD Cert.UnGradRefIdeal.τ).loc Cert.UnGradRefIdeal.main_arg3)
          ∧ r.2.mem ((c.tc : Thread Cert.UnGradRefIdeal.nD Cert.UnGradRefIdeal.τ).loc Cert.UnGradRefIdeal.main_arg4) = m' ((c.tc : Thread Cert.UnGradRefIdeal.nD Cert.UnGradRefIdeal.τ).loc Cert.UnGradRefIdeal.main_arg4)
          ∧ r.2.mem ((c.tc : Thread Cert.UnGradRefIdeal.nD Cert.UnGradRefIdeal.τ).loc Cert.UnGradRefIdeal.main_arg5) = m' ((c.tc : Thread Cert.UnGradRefIdeal.nD Cert.UnGradRefIdeal.τ).loc Cert.UnGradRefIdeal.main_arg5))

def preserves_DownNorm_DownNormIdeal : Prop :=
  True

def algebraic_DownNormIdeal_DownNormRefIdeal [hDownNormIdeal : Cert.DownNormIdeal.Facts] [hDownNormRefIdeal : Cert.DownNormRefIdeal.Facts] : Prop :=
  ∀ (m : (ℓ : Loc Cert.DownNormIdeal.nD Cert.DownNormIdeal.τ Cert.DownNormIdeal.sig) → Buf (Elt Ideal) ℓ) (g : Dev Cert.DownNormIdeal.nD → PrngReg)
    (m' : (ℓ : Loc Cert.DownNormRefIdeal.nD Cert.DownNormRefIdeal.τ Cert.DownNormRefIdeal.sig) → Buf (Elt Ideal) ℓ) (g' : Dev Cert.DownNormRefIdeal.nD → PrngReg), Pre_DownNormIdeal m →
    (∀ c : Dev Cert.DownNormIdeal.nD,
      m' ((c.tc : Thread Cert.DownNormRefIdeal.nD Cert.DownNormRefIdeal.τ).loc Cert.DownNormRefIdeal.main_arg0) = m ((c.tc : Thread Cert.DownNormIdeal.nD Cert.DownNormIdeal.τ).loc Cert.DownNormIdeal.main_arg0)
      ∧ m' ((c.tc : Thread Cert.DownNormRefIdeal.nD Cert.DownNormRefIdeal.τ).loc Cert.DownNormRefIdeal.main_arg1) = m ((c.tc : Thread Cert.DownNormIdeal.nD Cert.DownNormIdeal.τ).loc Cert.DownNormIdeal.main_arg1)
      ∧ m' ((c.tc : Thread Cert.DownNormRefIdeal.nD Cert.DownNormRefIdeal.τ).loc Cert.DownNormRefIdeal.main_arg2) = m ((c.tc : Thread Cert.DownNormIdeal.nD Cert.DownNormIdeal.τ).loc Cert.DownNormIdeal.main_arg2)
      ∧ m' ((c.tc : Thread Cert.DownNormRefIdeal.nD Cert.DownNormRefIdeal.τ).loc Cert.DownNormRefIdeal.main_arg3) = m ((c.tc : Thread Cert.DownNormIdeal.nD Cert.DownNormIdeal.τ).loc Cert.DownNormIdeal.main_arg3)) →
    ∃ (v0 : (c : Dev Cert.DownNormIdeal.nD) → Buf (Elt Ideal) ((c.tc : Thread Cert.DownNormIdeal.nD Cert.DownNormIdeal.τ).loc Cert.DownNormIdeal.main_v0_0)) (v1 : (c : Dev Cert.DownNormIdeal.nD) → Buf (Elt Ideal) ((c.tc : Thread Cert.DownNormIdeal.nD Cert.DownNormIdeal.τ).loc Cert.DownNormIdeal.main_v0_1)),
      θ_run (Cert.DownNormIdeal.defs (F := Ideal)) (onTc (τ := Cert.DownNormIdeal.τ) (Cert.DownNormIdeal.main (F := Ideal))) ⟨m, fun _ => 0, g⟩ (fun r => ∀ c : Dev Cert.DownNormIdeal.nD,
          r.2.mem ((c.tc : Thread Cert.DownNormIdeal.nD Cert.DownNormIdeal.τ).loc Cert.DownNormIdeal.main_v0_0) = v0 c
          ∧ r.2.mem ((c.tc : Thread Cert.DownNormIdeal.nD Cert.DownNormIdeal.τ).loc Cert.DownNormIdeal.main_v0_1) = v1 c
          ∧ r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
          ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
          ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
          ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ θ_run (Cert.DownNormRefIdeal.defs (F := Ideal)) (onTc (τ := Cert.DownNormRefIdeal.τ) (Cert.DownNormRefIdeal.main (F := Ideal))) ⟨m', fun _ => 0, g'⟩ (fun r => ∀ c : Dev Cert.DownNormRefIdeal.nD,
          r.2.mem ((c.tc : Thread Cert.DownNormRefIdeal.nD Cert.DownNormRefIdeal.τ).loc Cert.DownNormRefIdeal.main_v5) = v0 c
          ∧ r.2.mem ((c.tc : Thread Cert.DownNormRefIdeal.nD Cert.DownNormRefIdeal.τ).loc Cert.DownNormRefIdeal.main_v18) = v1 c
          ∧ r.2.mem ((c.tc : Thread Cert.DownNormRefIdeal.nD Cert.DownNormRefIdeal.τ).loc Cert.DownNormRefIdeal.main_arg0) = m' ((c.tc : Thread Cert.DownNormRefIdeal.nD Cert.DownNormRefIdeal.τ).loc Cert.DownNormRefIdeal.main_arg0)
          ∧ r.2.mem ((c.tc : Thread Cert.DownNormRefIdeal.nD Cert.DownNormRefIdeal.τ).loc Cert.DownNormRefIdeal.main_arg1) = m' ((c.tc : Thread Cert.DownNormRefIdeal.nD Cert.DownNormRefIdeal.τ).loc Cert.DownNormRefIdeal.main_arg1)
          ∧ r.2.mem ((c.tc : Thread Cert.DownNormRefIdeal.nD Cert.DownNormRefIdeal.τ).loc Cert.DownNormRefIdeal.main_arg2) = m' ((c.tc : Thread Cert.DownNormRefIdeal.nD Cert.DownNormRefIdeal.τ).loc Cert.DownNormRefIdeal.main_arg2)
          ∧ r.2.mem ((c.tc : Thread Cert.DownNormRefIdeal.nD Cert.DownNormRefIdeal.τ).loc Cert.DownNormRefIdeal.main_arg3) = m' ((c.tc : Thread Cert.DownNormRefIdeal.nD Cert.DownNormRefIdeal.τ).loc Cert.DownNormRefIdeal.main_arg3))

def preserves_InProjDt_InProjDtIdeal : Prop :=
  True

def algebraic_InProjDtIdeal_InProjDtRefIdeal [hInProjDtIdeal : Cert.InProjDtIdeal.Facts] [hInProjDtRefIdeal : Cert.InProjDtRefIdeal.Facts] : Prop :=
  ∀ (m : (ℓ : Loc Cert.InProjDtIdeal.nD Cert.InProjDtIdeal.τ Cert.InProjDtIdeal.sig) → Buf (Elt Ideal) ℓ) (g : Dev Cert.InProjDtIdeal.nD → PrngReg)
    (m' : (ℓ : Loc Cert.InProjDtRefIdeal.nD Cert.InProjDtRefIdeal.τ Cert.InProjDtRefIdeal.sig) → Buf (Elt Ideal) ℓ) (g' : Dev Cert.InProjDtRefIdeal.nD → PrngReg), Pre_InProjDtIdeal m →
    (∀ c : Dev Cert.InProjDtIdeal.nD,
      m' ((c.tc : Thread Cert.InProjDtRefIdeal.nD Cert.InProjDtRefIdeal.τ).loc Cert.InProjDtRefIdeal.main_arg0) = m ((c.tc : Thread Cert.InProjDtIdeal.nD Cert.InProjDtIdeal.τ).loc Cert.InProjDtIdeal.main_arg0)
      ∧ m' ((c.tc : Thread Cert.InProjDtRefIdeal.nD Cert.InProjDtRefIdeal.τ).loc Cert.InProjDtRefIdeal.main_arg1) = m ((c.tc : Thread Cert.InProjDtIdeal.nD Cert.InProjDtIdeal.τ).loc Cert.InProjDtIdeal.main_arg1)) →
    ∃ (v0 : (c : Dev Cert.InProjDtIdeal.nD) → Buf (Elt Ideal) ((c.tc : Thread Cert.InProjDtIdeal.nD Cert.InProjDtIdeal.τ).loc Cert.InProjDtIdeal.main_v2)),
      θ_run (Cert.InProjDtIdeal.defs (F := Ideal)) (onTc (τ := Cert.InProjDtIdeal.τ) (Cert.InProjDtIdeal.main (F := Ideal))) ⟨m, fun _ => 0, g⟩ (fun r => ∀ c : Dev Cert.InProjDtIdeal.nD,
          r.2.mem ((c.tc : Thread Cert.InProjDtIdeal.nD Cert.InProjDtIdeal.τ).loc Cert.InProjDtIdeal.main_v2) = v0 c
          ∧ r.2.mem ((c.tc : Thread Cert.InProjDtIdeal.nD Cert.InProjDtIdeal.τ).loc Cert.InProjDtIdeal.main_arg0) = m ((c.tc : Thread Cert.InProjDtIdeal.nD Cert.InProjDtIdeal.τ).loc Cert.InProjDtIdeal.main_arg0)
          ∧ r.2.mem ((c.tc : Thread Cert.InProjDtIdeal.nD Cert.InProjDtIdeal.τ).loc Cert.InProjDtIdeal.main_arg1) = m ((c.tc : Thread Cert.InProjDtIdeal.nD Cert.InProjDtIdeal.τ).loc Cert.InProjDtIdeal.main_arg1))
      ∧ θ_run (Cert.InProjDtRefIdeal.defs (F := Ideal)) (onTc (τ := Cert.InProjDtRefIdeal.τ) (Cert.InProjDtRefIdeal.main (F := Ideal))) ⟨m', fun _ => 0, g'⟩ (fun r => ∀ c : Dev Cert.InProjDtRefIdeal.nD,
          r.2.mem ((c.tc : Thread Cert.InProjDtRefIdeal.nD Cert.InProjDtRefIdeal.τ).loc Cert.InProjDtRefIdeal.main_v6) = v0 c
          ∧ r.2.mem ((c.tc : Thread Cert.InProjDtRefIdeal.nD Cert.InProjDtRefIdeal.τ).loc Cert.InProjDtRefIdeal.main_arg0) = m' ((c.tc : Thread Cert.InProjDtRefIdeal.nD Cert.InProjDtRefIdeal.τ).loc Cert.InProjDtRefIdeal.main_arg0)
          ∧ r.2.mem ((c.tc : Thread Cert.InProjDtRefIdeal.nD Cert.InProjDtRefIdeal.τ).loc Cert.InProjDtRefIdeal.main_arg1) = m' ((c.tc : Thread Cert.InProjDtRefIdeal.nD Cert.InProjDtRefIdeal.τ).loc Cert.InProjDtRefIdeal.main_arg1))

def preserves_UnGradDt_UnGradDtIdeal : Prop :=
  True

def algebraic_UnGradDtIdeal_UnGradDtRefIdeal [hUnGradDtIdeal : Cert.UnGradDtIdeal.Facts] [hUnGradDtRefIdeal : Cert.UnGradDtRefIdeal.Facts] : Prop :=
  ∀ (m : (ℓ : Loc Cert.UnGradDtIdeal.nD Cert.UnGradDtIdeal.τ Cert.UnGradDtIdeal.sig) → Buf (Elt Ideal) ℓ) (g : Dev Cert.UnGradDtIdeal.nD → PrngReg)
    (m' : (ℓ : Loc Cert.UnGradDtRefIdeal.nD Cert.UnGradDtRefIdeal.τ Cert.UnGradDtRefIdeal.sig) → Buf (Elt Ideal) ℓ) (g' : Dev Cert.UnGradDtRefIdeal.nD → PrngReg), Pre_UnGradDtIdeal m →
    (∀ c : Dev Cert.UnGradDtIdeal.nD,
      m' ((c.tc : Thread Cert.UnGradDtRefIdeal.nD Cert.UnGradDtRefIdeal.τ).loc Cert.UnGradDtRefIdeal.main_arg0) = m ((c.tc : Thread Cert.UnGradDtIdeal.nD Cert.UnGradDtIdeal.τ).loc Cert.UnGradDtIdeal.main_arg0)
      ∧ m' ((c.tc : Thread Cert.UnGradDtRefIdeal.nD Cert.UnGradDtRefIdeal.τ).loc Cert.UnGradDtRefIdeal.main_arg1) = m ((c.tc : Thread Cert.UnGradDtIdeal.nD Cert.UnGradDtIdeal.τ).loc Cert.UnGradDtIdeal.main_arg1)) →
    ∃ (v0 : (c : Dev Cert.UnGradDtIdeal.nD) → Buf (Elt Ideal) ((c.tc : Thread Cert.UnGradDtIdeal.nD Cert.UnGradDtIdeal.τ).loc Cert.UnGradDtIdeal.main_v3)),
      θ_run (Cert.UnGradDtIdeal.defs (F := Ideal)) (onTc (τ := Cert.UnGradDtIdeal.τ) (Cert.UnGradDtIdeal.main (F := Ideal))) ⟨m, fun _ => 0, g⟩ (fun r => ∀ c : Dev Cert.UnGradDtIdeal.nD,
          r.2.mem ((c.tc : Thread Cert.UnGradDtIdeal.nD Cert.UnGradDtIdeal.τ).loc Cert.UnGradDtIdeal.main_v3) = v0 c
          ∧ r.2.mem ((c.tc : Thread Cert.UnGradDtIdeal.nD Cert.UnGradDtIdeal.τ).loc Cert.UnGradDtIdeal.main_arg0) = m ((c.tc : Thread Cert.UnGradDtIdeal.nD Cert.UnGradDtIdeal.τ).loc Cert.UnGradDtIdeal.main_arg0)
          ∧ r.2.mem ((c.tc : Thread Cert.UnGradDtIdeal.nD Cert.UnGradDtIdeal.τ).loc Cert.UnGradDtIdeal.main_arg1) = m ((c.tc : Thread Cert.UnGradDtIdeal.nD Cert.UnGradDtIdeal.τ).loc Cert.UnGradDtIdeal.main_arg1))
      ∧ θ_run (Cert.UnGradDtRefIdeal.defs (F := Ideal)) (onTc (τ := Cert.UnGradDtRefIdeal.τ) (Cert.UnGradDtRefIdeal.main (F := Ideal))) ⟨m', fun _ => 0, g'⟩ (fun r => ∀ c : Dev Cert.UnGradDtRefIdeal.nD,
          r.2.mem ((c.tc : Thread Cert.UnGradDtRefIdeal.nD Cert.UnGradDtRefIdeal.τ).loc Cert.UnGradDtRefIdeal.main_v6) = v0 c
          ∧ r.2.mem ((c.tc : Thread Cert.UnGradDtRefIdeal.nD Cert.UnGradDtRefIdeal.τ).loc Cert.UnGradDtRefIdeal.main_arg0) = m' ((c.tc : Thread Cert.UnGradDtRefIdeal.nD Cert.UnGradDtRefIdeal.τ).loc Cert.UnGradDtRefIdeal.main_arg0)
          ∧ r.2.mem ((c.tc : Thread Cert.UnGradDtRefIdeal.nD Cert.UnGradDtRefIdeal.τ).loc Cert.UnGradDtRefIdeal.main_arg1) = m' ((c.tc : Thread Cert.UnGradDtRefIdeal.nD Cert.UnGradDtRefIdeal.τ).loc Cert.UnGradDtRefIdeal.main_arg1))

def preserves_InGradDt_InGradDtIdeal : Prop :=
  True

def algebraic_InGradDtIdeal_InGradDtRefIdeal [hInGradDtIdeal : Cert.InGradDtIdeal.Facts] [hInGradDtRefIdeal : Cert.InGradDtRefIdeal.Facts] : Prop :=
  ∀ (m : (ℓ : Loc Cert.InGradDtIdeal.nD Cert.InGradDtIdeal.τ Cert.InGradDtIdeal.sig) → Buf (Elt Ideal) ℓ) (g : Dev Cert.InGradDtIdeal.nD → PrngReg)
    (m' : (ℓ : Loc Cert.InGradDtRefIdeal.nD Cert.InGradDtRefIdeal.τ Cert.InGradDtRefIdeal.sig) → Buf (Elt Ideal) ℓ) (g' : Dev Cert.InGradDtRefIdeal.nD → PrngReg), Pre_InGradDtIdeal m →
    (∀ c : Dev Cert.InGradDtIdeal.nD,
      m' ((c.tc : Thread Cert.InGradDtRefIdeal.nD Cert.InGradDtRefIdeal.τ).loc Cert.InGradDtRefIdeal.main_arg0) = m ((c.tc : Thread Cert.InGradDtIdeal.nD Cert.InGradDtIdeal.τ).loc Cert.InGradDtIdeal.main_arg0)
      ∧ m' ((c.tc : Thread Cert.InGradDtRefIdeal.nD Cert.InGradDtRefIdeal.τ).loc Cert.InGradDtRefIdeal.main_arg1) = m ((c.tc : Thread Cert.InGradDtIdeal.nD Cert.InGradDtIdeal.τ).loc Cert.InGradDtIdeal.main_arg1)) →
    ∃ (v0 : (c : Dev Cert.InGradDtIdeal.nD) → Buf (Elt Ideal) ((c.tc : Thread Cert.InGradDtIdeal.nD Cert.InGradDtIdeal.τ).loc Cert.InGradDtIdeal.main_v1)),
      θ_run (Cert.InGradDtIdeal.defs (F := Ideal)) (onTc (τ := Cert.InGradDtIdeal.τ) (Cert.InGradDtIdeal.main (F := Ideal))) ⟨m, fun _ => 0, g⟩ (fun r => ∀ c : Dev Cert.InGradDtIdeal.nD,
          r.2.mem ((c.tc : Thread Cert.InGradDtIdeal.nD Cert.InGradDtIdeal.τ).loc Cert.InGradDtIdeal.main_v1) = v0 c
          ∧ r.2.mem ((c.tc : Thread Cert.InGradDtIdeal.nD Cert.InGradDtIdeal.τ).loc Cert.InGradDtIdeal.main_arg0) = m ((c.tc : Thread Cert.InGradDtIdeal.nD Cert.InGradDtIdeal.τ).loc Cert.InGradDtIdeal.main_arg0)
          ∧ r.2.mem ((c.tc : Thread Cert.InGradDtIdeal.nD Cert.InGradDtIdeal.τ).loc Cert.InGradDtIdeal.main_arg1) = m ((c.tc : Thread Cert.InGradDtIdeal.nD Cert.InGradDtIdeal.τ).loc Cert.InGradDtIdeal.main_arg1))
      ∧ θ_run (Cert.InGradDtRefIdeal.defs (F := Ideal)) (onTc (τ := Cert.InGradDtRefIdeal.τ) (Cert.InGradDtRefIdeal.main (F := Ideal))) ⟨m', fun _ => 0, g'⟩ (fun r => ∀ c : Dev Cert.InGradDtRefIdeal.nD,
          r.2.mem ((c.tc : Thread Cert.InGradDtRefIdeal.nD Cert.InGradDtRefIdeal.τ).loc Cert.InGradDtRefIdeal.main_v6) = v0 c
          ∧ r.2.mem ((c.tc : Thread Cert.InGradDtRefIdeal.nD Cert.InGradDtRefIdeal.τ).loc Cert.InGradDtRefIdeal.main_arg0) = m' ((c.tc : Thread Cert.InGradDtRefIdeal.nD Cert.InGradDtRefIdeal.τ).loc Cert.InGradDtRefIdeal.main_arg0)
          ∧ r.2.mem ((c.tc : Thread Cert.InGradDtRefIdeal.nD Cert.InGradDtRefIdeal.τ).loc Cert.InGradDtRefIdeal.main_arg1) = m' ((c.tc : Thread Cert.InGradDtRefIdeal.nD Cert.InGradDtRefIdeal.τ).loc Cert.InGradDtRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v45) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def Claim : Prop :=
  ∃ (hConv : Cert.Conv.Facts) (hConvIdeal : Cert.ConvIdeal.Facts) (hConvRefIdeal : Cert.ConvRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hAct : Cert.Act.Facts) (hActIdeal : Cert.ActIdeal.Facts) (hActRefIdeal : Cert.ActRefIdeal.Facts) (hNorm : Cert.Norm.Facts) (hNormIdeal : Cert.NormIdeal.Facts) (hNormRefIdeal : Cert.NormRefIdeal.Facts) (hDownGrad : Cert.DownGrad.Facts) (hDownGradIdeal : Cert.DownGradIdeal.Facts) (hDownGradRefIdeal : Cert.DownGradRefIdeal.Facts) (hGateUpGrad : Cert.GateUpGrad.Facts) (hGateUpGradIdeal : Cert.GateUpGradIdeal.Facts) (hGateUpGradRefIdeal : Cert.GateUpGradRefIdeal.Facts) (hBranches : Cert.Branches.Facts) (hBranchesIdeal : Cert.BranchesIdeal.Facts) (hBranchesRefIdeal : Cert.BranchesRefIdeal.Facts) (hOutProj : Cert.OutProj.Facts) (hOutProjIdeal : Cert.OutProjIdeal.Facts) (hOutProjRefIdeal : Cert.OutProjRefIdeal.Facts) (hBranchGrad : Cert.BranchGrad.Facts) (hBranchGradIdeal : Cert.BranchGradIdeal.Facts) (hBranchGradRefIdeal : Cert.BranchGradRefIdeal.Facts) (hOutGrad : Cert.OutGrad.Facts) (hOutGradIdeal : Cert.OutGradIdeal.Facts) (hOutGradRefIdeal : Cert.OutGradRefIdeal.Facts) (hInGrad : Cert.InGrad.Facts) (hInGradIdeal : Cert.InGradIdeal.Facts) (hInGradRefIdeal : Cert.InGradRefIdeal.Facts) (hHgrn : Cert.Hgrn.Facts) (hHgrnIdeal : Cert.HgrnIdeal.Facts) (hHgrnRefIdeal : Cert.HgrnRefIdeal.Facts) (hHgrnQueryRefIdeal : Cert.HgrnQueryRefIdeal.Facts) (hInProj : Cert.InProj.Facts) (hInProjIdeal : Cert.InProjIdeal.Facts) (hInProjRefIdeal : Cert.InProjRefIdeal.Facts) (hMergeGrad : Cert.MergeGrad.Facts) (hMergeGradIdeal : Cert.MergeGradIdeal.Facts) (hMergeGradRefIdeal : Cert.MergeGradRefIdeal.Facts) (hUnGrad : Cert.UnGrad.Facts) (hUnGradIdeal : Cert.UnGradIdeal.Facts) (hUnGradRefIdeal : Cert.UnGradRefIdeal.Facts) (hDownNorm : Cert.DownNorm.Facts) (hDownNormIdeal : Cert.DownNormIdeal.Facts) (hDownNormRefIdeal : Cert.DownNormRefIdeal.Facts) (hInProjDt : Cert.InProjDt.Facts) (hInProjDtIdeal : Cert.InProjDtIdeal.Facts) (hInProjDtRefIdeal : Cert.InProjDtRefIdeal.Facts) (hUnGradDt : Cert.UnGradDt.Facts) (hUnGradDtIdeal : Cert.UnGradDtIdeal.Facts) (hUnGradDtRefIdeal : Cert.UnGradDtRefIdeal.Facts) (hInGradDt : Cert.InGradDt.Facts) (hInGradDtIdeal : Cert.InGradDtIdeal.Facts) (hInGradDtRefIdeal : Cert.InGradDtRefIdeal.Facts) (hConvFwd : Cert.ConvFwd.Facts) (hConvFwdIdeal : Cert.ConvFwdIdeal.Facts) (hConvFwdRefIdeal : Cert.ConvFwdRefIdeal.Facts) (hPre_finite_cotangent : Cert.Pre_finite_cotangent.Facts) (hPre_finite_activation : Cert.Pre_finite_activation.Facts) (hPre_finite_norm : Cert.Pre_finite_norm.Facts) (hPre_finite_hgrn : Cert.Pre_finite_hgrn.Facts) (hPre_finite_query : Cert.Pre_finite_query.Facts) (hPre_finite_un : Cert.Pre_finite_un.Facts) (hOn_gate_columns : Cert.On_gate_columns.Facts) (hOn_query_columns : Cert.On_query_columns.Facts),
    quiescent_Conv (hConv := hConv)
    ∧ quiescent_ConvIdeal (hConvIdeal := hConvIdeal)
    ∧ quiescent_ConvIdeal_pre_finite_cotangent (hConvIdeal := hConvIdeal) (hPre_finite_cotangent := hPre_finite_cotangent)
    ∧ quiescent_ConvRefIdeal (hConvRefIdeal := hConvRefIdeal)
    ∧ quiescent_ConvRefIdeal_pre_finite_cotangent (hConvRefIdeal := hConvRefIdeal) (hPre_finite_cotangent := hPre_finite_cotangent)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Act (hAct := hAct)
    ∧ quiescent_ActIdeal (hActIdeal := hActIdeal)
    ∧ quiescent_ActIdeal_pre_finite_activation (hActIdeal := hActIdeal) (hPre_finite_activation := hPre_finite_activation)
    ∧ quiescent_ActRefIdeal (hActRefIdeal := hActRefIdeal)
    ∧ quiescent_ActRefIdeal_pre_finite_activation (hActRefIdeal := hActRefIdeal) (hPre_finite_activation := hPre_finite_activation)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_GateUpGrad (hGateUpGrad := hGateUpGrad)
    ∧ quiescent_GateUpGradIdeal (hGateUpGradIdeal := hGateUpGradIdeal)
    ∧ quiescent_GateUpGradRefIdeal (hGateUpGradRefIdeal := hGateUpGradRefIdeal)
    ∧ quiescent_Branches (hBranches := hBranches)
    ∧ quiescent_BranchesIdeal (hBranchesIdeal := hBranchesIdeal)
    ∧ quiescent_BranchesRefIdeal (hBranchesRefIdeal := hBranchesRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_BranchGrad (hBranchGrad := hBranchGrad)
    ∧ quiescent_BranchGradIdeal (hBranchGradIdeal := hBranchGradIdeal)
    ∧ quiescent_BranchGradRefIdeal (hBranchGradRefIdeal := hBranchGradRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_Hgrn (hHgrn := hHgrn)
    ∧ quiescent_HgrnIdeal (hHgrnIdeal := hHgrnIdeal)
    ∧ quiescent_HgrnIdeal_pre_finite_hgrn (hHgrnIdeal := hHgrnIdeal) (hPre_finite_hgrn := hPre_finite_hgrn)
    ∧ quiescent_HgrnIdeal_pre_finite_query (hHgrnIdeal := hHgrnIdeal) (hPre_finite_query := hPre_finite_query)
    ∧ quiescent_HgrnRefIdeal (hHgrnRefIdeal := hHgrnRefIdeal)
    ∧ quiescent_HgrnRefIdeal_pre_finite_hgrn (hHgrnRefIdeal := hHgrnRefIdeal) (hPre_finite_hgrn := hPre_finite_hgrn)
    ∧ quiescent_HgrnQueryRefIdeal (hHgrnQueryRefIdeal := hHgrnQueryRefIdeal)
    ∧ quiescent_HgrnQueryRefIdeal_pre_finite_query (hHgrnQueryRefIdeal := hHgrnQueryRefIdeal) (hPre_finite_query := hPre_finite_query)
    ∧ quiescent_InProj (hInProj := hInProj)
    ∧ quiescent_InProjIdeal (hInProjIdeal := hInProjIdeal)
    ∧ quiescent_InProjRefIdeal (hInProjRefIdeal := hInProjRefIdeal)
    ∧ quiescent_MergeGrad (hMergeGrad := hMergeGrad)
    ∧ quiescent_MergeGradIdeal (hMergeGradIdeal := hMergeGradIdeal)
    ∧ quiescent_MergeGradRefIdeal (hMergeGradRefIdeal := hMergeGradRefIdeal)
    ∧ quiescent_UnGrad (hUnGrad := hUnGrad)
    ∧ quiescent_UnGradIdeal (hUnGradIdeal := hUnGradIdeal)
    ∧ quiescent_UnGradIdeal_pre_finite_un (hUnGradIdeal := hUnGradIdeal) (hPre_finite_un := hPre_finite_un)
    ∧ quiescent_UnGradRefIdeal (hUnGradRefIdeal := hUnGradRefIdeal)
    ∧ quiescent_UnGradRefIdeal_pre_finite_un (hUnGradRefIdeal := hUnGradRefIdeal) (hPre_finite_un := hPre_finite_un)
    ∧ quiescent_DownNorm (hDownNorm := hDownNorm)
    ∧ quiescent_DownNormIdeal (hDownNormIdeal := hDownNormIdeal)
    ∧ quiescent_DownNormRefIdeal (hDownNormRefIdeal := hDownNormRefIdeal)
    ∧ quiescent_InProjDt (hInProjDt := hInProjDt)
    ∧ quiescent_InProjDtIdeal (hInProjDtIdeal := hInProjDtIdeal)
    ∧ quiescent_InProjDtRefIdeal (hInProjDtRefIdeal := hInProjDtRefIdeal)
    ∧ quiescent_UnGradDt (hUnGradDt := hUnGradDt)
    ∧ quiescent_UnGradDtIdeal (hUnGradDtIdeal := hUnGradDtIdeal)
    ∧ quiescent_UnGradDtRefIdeal (hUnGradDtRefIdeal := hUnGradDtRefIdeal)
    ∧ quiescent_InGradDt (hInGradDt := hInGradDt)
    ∧ quiescent_InGradDtIdeal (hInGradDtIdeal := hInGradDtIdeal)
    ∧ quiescent_InGradDtRefIdeal (hInGradDtRefIdeal := hInGradDtRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_Conv_ConvIdeal
    ∧ algebraic_ConvIdeal_ConvRefIdeal_pre_finite_cotangent (hConvIdeal := hConvIdeal) (hConvRefIdeal := hConvRefIdeal) (hPre_finite_cotangent := hPre_finite_cotangent)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Act_ActIdeal
    ∧ algebraic_ActIdeal_ActRefIdeal_pre_finite_activation (hActIdeal := hActIdeal) (hActRefIdeal := hActRefIdeal) (hPre_finite_activation := hPre_finite_activation)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_DownGrad_DownGradIdeal
    ∧ algebraic_DownGradIdeal_DownGradRefIdeal (hDownGradIdeal := hDownGradIdeal) (hDownGradRefIdeal := hDownGradRefIdeal)
    ∧ preserves_GateUpGrad_GateUpGradIdeal
    ∧ algebraic_GateUpGradIdeal_GateUpGradRefIdeal (hGateUpGradIdeal := hGateUpGradIdeal) (hGateUpGradRefIdeal := hGateUpGradRefIdeal)
    ∧ preserves_Branches_BranchesIdeal
    ∧ algebraic_BranchesIdeal_BranchesRefIdeal (hBranchesIdeal := hBranchesIdeal) (hBranchesRefIdeal := hBranchesRefIdeal)
    ∧ preserves_OutProj_OutProjIdeal
    ∧ algebraic_OutProjIdeal_OutProjRefIdeal (hOutProjIdeal := hOutProjIdeal) (hOutProjRefIdeal := hOutProjRefIdeal)
    ∧ preserves_BranchGrad_BranchGradIdeal
    ∧ algebraic_BranchGradIdeal_BranchGradRefIdeal (hBranchGradIdeal := hBranchGradIdeal) (hBranchGradRefIdeal := hBranchGradRefIdeal)
    ∧ preserves_OutGrad_OutGradIdeal
    ∧ algebraic_OutGradIdeal_OutGradRefIdeal (hOutGradIdeal := hOutGradIdeal) (hOutGradRefIdeal := hOutGradRefIdeal)
    ∧ preserves_InGrad_InGradIdeal
    ∧ algebraic_InGradIdeal_InGradRefIdeal (hInGradIdeal := hInGradIdeal) (hInGradRefIdeal := hInGradRefIdeal)
    ∧ preserves_Hgrn_HgrnIdeal
    ∧ algebraic_HgrnIdeal_HgrnRefIdeal_on_gate_columns_pre_finite_hgrn (hHgrnIdeal := hHgrnIdeal) (hHgrnRefIdeal := hHgrnRefIdeal) (hPre_finite_hgrn := hPre_finite_hgrn) (hOn_gate_columns := hOn_gate_columns)
    ∧ algebraic_HgrnIdeal_HgrnQueryRefIdeal_on_query_columns_pre_finite_query (hHgrnIdeal := hHgrnIdeal) (hHgrnQueryRefIdeal := hHgrnQueryRefIdeal) (hPre_finite_query := hPre_finite_query) (hOn_query_columns := hOn_query_columns)
    ∧ preserves_InProj_InProjIdeal
    ∧ algebraic_InProjIdeal_InProjRefIdeal (hInProjIdeal := hInProjIdeal) (hInProjRefIdeal := hInProjRefIdeal)
    ∧ preserves_MergeGrad_MergeGradIdeal
    ∧ algebraic_MergeGradIdeal_MergeGradRefIdeal (hMergeGradIdeal := hMergeGradIdeal) (hMergeGradRefIdeal := hMergeGradRefIdeal)
    ∧ preserves_UnGrad_UnGradIdeal
    ∧ algebraic_UnGradIdeal_UnGradRefIdeal_pre_finite_un (hUnGradIdeal := hUnGradIdeal) (hUnGradRefIdeal := hUnGradRefIdeal) (hPre_finite_un := hPre_finite_un)
    ∧ preserves_DownNorm_DownNormIdeal
    ∧ algebraic_DownNormIdeal_DownNormRefIdeal (hDownNormIdeal := hDownNormIdeal) (hDownNormRefIdeal := hDownNormRefIdeal)
    ∧ preserves_InProjDt_InProjDtIdeal
    ∧ algebraic_InProjDtIdeal_InProjDtRefIdeal (hInProjDtIdeal := hInProjDtIdeal) (hInProjDtRefIdeal := hInProjDtRefIdeal)
    ∧ preserves_UnGradDt_UnGradDtIdeal
    ∧ algebraic_UnGradDtIdeal_UnGradDtRefIdeal (hUnGradDtIdeal := hUnGradDtIdeal) (hUnGradDtRefIdeal := hUnGradDtRefIdeal)
    ∧ preserves_InGradDt_InGradDtIdeal
    ∧ algebraic_InGradDtIdeal_InGradDtRefIdeal (hInGradDtIdeal := hInGradDtIdeal) (hInGradDtRefIdeal := hInGradDtRefIdeal)
    ∧ preserves_ConvFwd_ConvFwdIdeal
    ∧ algebraic_ConvFwdIdeal_ConvFwdRefIdeal (hConvFwdIdeal := hConvFwdIdeal) (hConvFwdRefIdeal := hConvFwdRefIdeal)
-- ==== On_gate_columns.lean ====
abbrev S4352x9216 : Shape := ⟨2, ![4352, 9216]⟩
abbrev S2x1024 : Shape := ⟨2, ![2, 1024]⟩
abbrev S1x1024 : Shape := ⟨2, ![1, 1024]⟩
abbrev S4352x1024 : Shape := ⟨2, ![4352, 1024]⟩
abbrev S2x8x17x8x128x128 : Shape := ⟨6, ![2, 8, 17, 8, 128, 128]⟩
abbrev S4096 : Shape := ⟨1, ![4096]⟩
abbrev S1x4096 : Shape := ⟨2, ![1, 4096]⟩
abbrev S_ : Shape := ⟨0, ![]⟩
abbrev S4352x4096 : Shape := ⟨2, ![4352, 4096]⟩

class Facts : Prop where
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4352x4096_0_1 : S1x4096.BroadcastsInDim S4352x4096 (![0, 1] : Fin 2 → Fin S4352x4096.rank)
  bcast_S_S1x1024 : S_.BroadcastsInDim S1x1024 (![] : Fin 0 → Fin S1x1024.rank)

variable [Facts]

def fn {F : FTy → Type} [FloatOps F] (main_arg0 : FVec F S4352x9216 .bf16) (main_arg1 : FVec F S2x1024 .f32) (main_arg2 : FVec F S1x1024 .f32) (main_arg3 : FVec F S4352x1024 .f32) (main_arg4 : FVec F S2x8x17x8x128x128 .f32) (main_arg5 : FVec F S4352x1024 .bf16) : IVec S4352x4096 1 × IVec S1x1024 1 :=
  let main_v0 : IVec S4096 32 := iotaInDim S4096 32 0
  let main_v1 : IVec S1x4096 32 := broadcastInDim S1x4096 ![1] bcast_S4096_S1x4096_1 main_v0
  let main_c : IVec S_ 32 := constantI S_ 32 3072#32
  let main_v2 : IVec S1x4096 32 := broadcastInDim S1x4096 ![] bcast_S_S1x4096 main_c
  let main_v3 : IVec S1x4096 1 := cmpi .sge main_v1 main_v2
  let main_v4 : IVec S4352x4096 1 := broadcastInDim S4352x4096 ![0, 1] bcast_S1x4096_S4352x4096_0_1 main_v3
  let main_c_0 : IVec S_ 1 := constantI S_ 1 1#1
  let main_v5 : IVec S1x1024 1 := broadcastInDim S1x1024 ![] bcast_S_S1x1024 main_c_0
  (main_v4, main_v5)
-- ==== On_query_columns.lean ====
abbrev S4352x9216 : Shape := ⟨2, ![4352, 9216]⟩
abbrev S2x1024 : Shape := ⟨2, ![2, 1024]⟩
abbrev S1x1024 : Shape := ⟨2, ![1, 1024]⟩
abbrev S4352x1024 : Shape := ⟨2, ![4352, 1024]⟩
abbrev S2x8x17x8x128x128 : Shape := ⟨6, ![2, 8, 17, 8, 128, 128]⟩
abbrev S4096 : Shape := ⟨1, ![4096]⟩
abbrev S1x4096 : Shape := ⟨2, ![1, 4096]⟩
abbrev S_ : Shape := ⟨0, ![]⟩
abbrev S4352x4096 : Shape := ⟨2, ![4352, 4096]⟩

class Facts : Prop where
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4352x4096_0_1 : S1x4096.BroadcastsInDim S4352x4096 (![0, 1] : Fin 2 → Fin S4352x4096.rank)
  bcast_S_S1x1024 : S_.BroadcastsInDim S1x1024 (![] : Fin 0 → Fin S1x1024.rank)

variable [Facts]

def fn {F : FTy → Type} [FloatOps F] (main_arg0 : FVec F S4352x9216 .bf16) (main_arg1 : FVec F S2x1024 .f32) (main_arg2 : FVec F S1x1024 .f32) (main_arg3 : FVec F S4352x1024 .f32) (main_arg4 : FVec F S2x8x17x8x128x128 .f32) (main_arg5 : FVec F S4352x1024 .bf16) : IVec S4352x4096 1 × IVec S1x1024 1 :=
  let main_v0 : IVec S4096 32 := iotaInDim S4096 32 0
  let main_v1 : IVec S1x4096 32 := broadcastInDim S1x4096 ![1] bcast_S4096_S1x4096_1 main_v0
  let main_c : IVec S_ 32 := constantI S_ 32 1024#32
  let main_v2 : IVec S1x4096 32 := broadcastInDim S1x4096 ![] bcast_S_S1x4096 main_c
  let main_v3 : IVec S1x4096 1 := cmpi .slt main_v1 main_v2
  let main_v4 : IVec S4352x4096 1 := broadcastInDim S4352x4096 ![0, 1] bcast_S1x4096_S4352x4096_0_1 main_v3
  let main_c_0 : IVec S_ 1 := constantI S_ 1 0#1
  let main_v5 : IVec S1x1024 1 := broadcastInDim S1x1024 ![] bcast_S_S1x1024 main_c_0
  (main_v4, main_v5)
-- ==== Pre_finite_activation.lean ====
abbrev S4352x1024 : Shape := ⟨2, ![4352, 1024]⟩
abbrev S2816x1024 : Shape := ⟨2, ![2816, 1024]⟩
abbrev S4352x2816 : Shape := ⟨2, ![4352, 2816]⟩
abbrev S_ : Shape := ⟨0, ![]⟩

class Facts : Prop where
  bitsLt_bf16_f32 : FTy.bits .bf16 < FTy.bits .f32
  bcast_S_S4352x1024 : S_.BroadcastsInDim S4352x1024 (![] : Fin 0 → Fin S4352x1024.rank)
  bcast_S_S2816x1024 : S_.BroadcastsInDim S2816x1024 (![] : Fin 0 → Fin S2816x1024.rank)
  bcast_S_S4352x2816 : S_.BroadcastsInDim S4352x2816 (![] : Fin 0 → Fin S4352x2816.rank)

variable [Facts]

def fn {F : FTy → Type} [FloatOps F] (main_arg0 : FVec F S4352x1024 .bf16) (main_arg1 : FVec F S2816x1024 .bf16) (main_arg2 : FVec F S4352x2816 .bf16) (main_arg3 : FVec F S4352x2816 .bf16) : IVec S4352x1024 1 × IVec S2816x1024 1 × IVec S4352x2816 1 :=
  let main_v0 : FVec F S4352x1024 .f32 := (extf .f32 · bitsLt_bf16_f32) main_arg0
  let main_v1 : FVec F S4352x1024 .f32 := Host.absf main_v0
  let main_cst : FVec F S_ .f32 := constant S_ .f32 0x7F800000#32
  let main_v2 : FVec F S4352x1024 .f32 := broadcastInDim S4352x1024 ![] bcast_S_S4352x1024 main_cst
  let main_v3 : IVec S4352x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4352x2816 .f32 := (extf .f32 · bitsLt_bf16_f32) main_arg3
  let main_v9 : FVec F S4352x2816 .f32 := Host.absf main_v8
  let main_cst_1 : FVec F S_ .f32 := constant S_ .f32 0x7F800000#32
  let main_v10 : FVec F S4352x2816 .f32 := broadcastInDim S4352x2816 ![] bcast_S_S4352x2816 main_cst_1
  let main_v11 : IVec S4352x2816 1 := cmpf .olt main_v9 main_v10
  (main_v3, main_v7, main_v11)
-- ==== Pre_finite_cotangent.lean ====
abbrev S4352x9216 : Shape := ⟨2, ![4352, 9216]⟩
abbrev S4x2048 : Shape := ⟨2, ![4, 2048]⟩
abbrev S1x2048 : Shape := ⟨2, ![1, 2048]⟩
abbrev S4352x2048 : Shape := ⟨2, ![4352, 2048]⟩
abbrev S_ : Shape := ⟨0, ![]⟩

class Facts : Prop where
  bitsLt_bf16_f32 : FTy.bits .bf16 < FTy.bits .f32
  bcast_S_S4352x2048 : S_.BroadcastsInDim S4352x2048 (![] : Fin 0 → Fin S4352x2048.rank)

variable [Facts]

def fn {F : FTy → Type} [FloatOps F] (main_arg0 : FVec F S4352x9216 .bf16) (main_arg1 : FVec F S4x2048 .f32) (main_arg2 : FVec F S1x2048 .f32) (main_arg3 : FVec F S4352x2048 .bf16) (main_arg4 : FVec F S4352x9216 .bf16) : IVec S4352x2048 1 :=
  let main_v0 : FVec F S4352x2048 .f32 := (extf .f32 · bitsLt_bf16_f32) main_arg3
  let main_v1 : FVec F S4352x2048 .f32 := Host.absf main_v0
  let main_cst : FVec F S_ .f32 := constant S_ .f32 0x7F800000#32
  let main_v2 : FVec F S4352x2048 .f32 := broadcastInDim S4352x2048 ![] bcast_S_S4352x2048 main_cst
  let main_v3 : IVec S4352x2048 1 := cmpf .olt main_v1 main_v2
  main_v3
-- ==== Pre_finite_hgrn.lean ====
abbrev S4352x9216 : Shape := ⟨2, ![4352, 9216]⟩
abbrev S2x1024 : Shape := ⟨2, ![2, 1024]⟩
abbrev S1x1024 : Shape := ⟨2, ![1, 1024]⟩
abbrev S4352x1024 : Shape := ⟨2, ![4352, 1024]⟩
abbrev S2x8x17x8x128x128 : Shape := ⟨6, ![2, 8, 17, 8, 128, 128]⟩
abbrev S_ : Shape := ⟨0, ![]⟩

class Facts : Prop where
  bcast_S_S1x1024 : S_.BroadcastsInDim S1x1024 (![] : Fin 0 → Fin S1x1024.rank)
  bitsLt_bf16_f32 : FTy.bits .bf16 < FTy.bits .f32
  bcast_S_S4352x1024 : S_.BroadcastsInDim S4352x1024 (![] : Fin 0 → Fin S4352x1024.rank)

variable [Facts]

def fn {F : FTy → Type} [FloatOps F] (main_arg0 : FVec F S4352x9216 .bf16) (main_arg1 : FVec F S2x1024 .f32) (main_arg2 : FVec F S1x1024 .f32) (main_arg3 : FVec F S4352x1024 .f32) (main_arg4 : FVec F S2x8x17x8x128x128 .f32) (main_arg5 : FVec F S4352x1024 .bf16) : IVec S1x1024 1 × IVec S4352x1024 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S4352x1024 .f32 := (extf .f32 · bitsLt_bf16_f32) main_arg5
  let main_v4 : FVec F S4352x1024 .f32 := Host.absf main_v3
  let main_cst_0 : FVec F S_ .f32 := constant S_ .f32 0x7F800000#32
  let main_v5 : FVec F S4352x1024 .f32 := broadcastInDim S4352x1024 ![] bcast_S_S4352x1024 main_cst_0
  let main_v6 : IVec S4352x1024 1 := cmpf .olt main_v4 main_v5
  (main_v2, main_v6)
-- ==== Pre_finite_norm.lean ====
abbrev S4352x5632 : Shape := ⟨2, ![4352, 5632]⟩
abbrev S5632x1024 : Shape := ⟨2, ![5632, 1024]⟩
abbrev S4352x1024 : Shape := ⟨2, ![4352, 1024]⟩
abbrev S1x1024 : Shape := ⟨2, ![1, 1024]⟩
abbrev S_ : Shape := ⟨0, ![]⟩

class Facts : Prop where
  bitsLt_bf16_f32 : FTy.bits .bf16 < FTy.bits .f32
  bcast_S_S4352x5632 : S_.BroadcastsInDim S4352x5632 (![] : Fin 0 → Fin S4352x5632.rank)
  bcast_S_S5632x1024 : S_.BroadcastsInDim S5632x1024 (![] : Fin 0 → Fin S5632x1024.rank)
  bcast_S_S4352x1024 : S_.BroadcastsInDim S4352x1024 (![] : Fin 0 → Fin S4352x1024.rank)
  bcast_S_S1x1024 : S_.BroadcastsInDim S1x1024 (![] : Fin 0 → Fin S1x1024.rank)

variable [Facts]

def fn {F : FTy → Type} [FloatOps F] (main_arg0 : FVec F S4352x5632 .bf16) (main_arg1 : FVec F S5632x1024 .bf16) (main_arg2 : FVec F S4352x1024 .f32) (main_arg3 : FVec F S4352x1024 .f32) (main_arg4 : FVec F S1x1024 .f32) : IVec S4352x5632 1 × IVec S5632x1024 1 × IVec S4352x1024 1 × IVec S1x1024 1 :=
  let main_v0 : FVec F S4352x5632 .f32 := (extf .f32 · bitsLt_bf16_f32) main_arg0
  let main_v1 : FVec F S4352x5632 .f32 := Host.absf main_v0
  let main_cst : FVec F S_ .f32 := constant S_ .f32 0x7F800000#32
  let main_v2 : FVec F S4352x5632 .f32 := broadcastInDim S4352x5632 ![] bcast_S_S4352x5632 main_cst
  let main_v3 : IVec S4352x5632 1 := cmpf .olt main_v1 main_v2
  let main_v4 : FVec F S5632x1024 .f32 := (extf .f32 · bitsLt_bf16_f32) main_arg1
  let main_v5 : FVec F S5632x1024 .f32 := Host.absf main_v4
  let main_cst_0 : FVec F S_ .f32 := constant S_ .f32 0x7F800000#32
  let main_v6 : FVec F S5632x1024 .f32 := broadcastInDim S5632x1024 ![] bcast_S_S5632x1024 main_cst_0
  let main_v7 : IVec S5632x1024 1 := cmpf .olt main_v5 main_v6
  let main_v8 : FVec F S4352x1024 .f32 := Host.absf main_arg2
  let main_cst_1 : FVec F S_ .f32 := constant S_ .f32 0x7F800000#32
  let main_v9 : FVec F S4352x1024 .f32 := broadcastInDim S4352x1024 ![] bcast_S_S4352x1024 main_cst_1
  let main_v10 : IVec S4352x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Pre_finite_query.lean ====
abbrev S4352x9216 : Shape := ⟨2, ![4352, 9216]⟩
abbrev S2x1024 : Shape := ⟨2, ![2, 1024]⟩
abbrev S1x1024 : Shape := ⟨2, ![1, 1024]⟩
abbrev S4352x1024 : Shape := ⟨2, ![4352, 1024]⟩
abbrev S2x8x17x8x128x128 : Shape := ⟨6, ![2, 8, 17, 8, 128, 128]⟩
abbrev S_ : Shape := ⟨0, ![]⟩
abbrev S1024 : Shape := ⟨1, ![1024]⟩
abbrev S272x16x1024 : Shape := ⟨3, ![272, 16, 1024]⟩
abbrev S272x1024 : Shape := ⟨2, ![272, 1024]⟩

class Facts : Prop where
  reducesTo_S2x1024_S1024_d0 : S2x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S2x1024_0_1 : S1x1024.BroadcastsInDim S2x1024 (![0, 1] : Fin 2 → Fin S2x1024.rank)
  slices_S2x1024_S1x1024_0_0 : S2x1024.Slices ![0, 0] S1x1024
  shapeCasts_S1x1024_S1024 : S1x1024.ShapeCasts S1024
  slices_S4352x9216_S4352x1024_0_4096 : S4352x9216.Slices ![0, 4096] S4352x1024
  bitsLt_bf16_f32 : FTy.bits .bf16 < FTy.bits .f32
  bcast_S_S4352x1024 : S_.BroadcastsInDim S4352x1024 (![] : Fin 0 → Fin S4352x1024.rank)
  bcast_S1x1024_S4352x1024_0_1 : S1x1024.BroadcastsInDim S4352x1024 (![0, 1] : Fin 2 → Fin S4352x1024.rank)
  shapeCasts_S4352x1024_S272x16x1024 : S4352x1024.ShapeCasts S272x16x1024
  reducesTo_S272x16x1024_S272x1024_d1 : S272x16x1024.ReducesTo [1] S272x1024
  slices_S4352x9216_S4352x1024_0_5120 : S4352x9216.Slices ![0, 5120] S4352x1024
  slices_S4352x9216_S4352x1024_0_6144 : S4352x9216.Slices ![0, 6144] S4352x1024
  bcast_S_S2x1024 : S_.BroadcastsInDim S2x1024 (![] : Fin 0 → Fin S2x1024.rank)
  bcast_S_S1x1024 : S_.BroadcastsInDim S1x1024 (![] : Fin 0 → Fin S1x1024.rank)
  bcast_S_S2x8x17x8x128x128 : S_.BroadcastsInDim S2x8x17x8x128x128 (![] : Fin 0 → Fin S2x8x17x8x128x128.rank)
  bcast_S_S272x1024 : S_.BroadcastsInDim S272x1024 (![] : Fin 0 → Fin S272x1024.rank)

variable [Facts]

def fn_part3 {F : FTy → Type} [FloatOps F] (main_v32 : FVec F S272x1024 .f32) (main_v37 : IVec S4352x1024 1) (main_v42 : IVec S4352x1024 1) (main_v45 : IVec S2x1024 1) (main_v48 : IVec S1x1024 1) (main_v51 : IVec S4352x1024 1) (main_v54 : IVec S2x8x17x8x128x128 1) (main_v56 : FVec F S4352x1024 .f32) (main_v57 : FVec F S4352x1024 .f32) : IVec S4352x1024 1 × IVec S4352x1024 1 × IVec S2x1024 1 × IVec S1x1024 1 × IVec S4352x1024 1 × IVec S2x8x17x8x128x128 1 × IVec S4352x1024 1 × IVec S272x1024 1 :=
  let main_v58 : IVec S4352x1024 1 := cmpf .olt main_v56 main_v57
  let main_cst_13 : FVec F S_ .f32 := constant S_ .f32 0x42A00000#32
  let main_v59 : FVec F S272x1024 .f32 := broadcastInDim S272x1024 ![] bcast_S_S272x1024 main_cst_13
  let main_v60 : IVec S272x1024 1 := cmpf .ole main_v32 main_v59
  (main_v37, main_v42, main_v45, main_v48, main_v51, main_v54, main_v58, main_v60)

def fn_part2 {F : FTy → Type} [FloatOps F] (main_arg1 : FVec F S2x1024 .f32) (main_arg2 : FVec F S1x1024 .f32) (main_arg3 : FVec F S4352x1024 .f32) (main_arg4 : FVec F S2x8x17x8x128x128 .f32) (main_arg5 : FVec F S4352x1024 .bf16) (main_v32 : FVec F S272x1024 .f32) (main_v37 : IVec S4352x1024 1) (main_v39 : FVec F S4352x1024 .f32) : IVec S4352x1024 1 × IVec S4352x1024 1 × IVec S2x1024 1 × IVec S1x1024 1 × IVec S4352x1024 1 × IVec S2x8x17x8x128x128 1 × IVec S4352x1024 1 × IVec S272x1024 1 :=
  let main_v40 : FVec F S4352x1024 .f32 := Host.absf main_v39
  let main_cst_7 : FVec F S_ .f32 := constant S_ .f32 0x7F800000#32
  let main_v41 : FVec F S4352x1024 .f32 := broadcastInDim S4352x1024 ![] bcast_S_S4352x1024 main_cst_7
  let main_v42 : IVec S4352x1024 1 := cmpf .olt main_v40 main_v41
  let main_v43 : FVec F S2x1024 .f32 := Host.absf main_arg1
  let main_cst_8 : FVec F S_ .f32 := constant S_ .f32 0x7F800000#32
  let main_v44 : FVec F S2x1024 .f32 := broadcastInDim S2x1024 ![] bcast_S_S2x1024 main_cst_8
  let main_v45 : IVec S2x1024 1 := cmpf .olt main_v43 main_v44
  let main_v46 : FVec F S1x1024 .f32 := Host.absf main_arg2
  let main_cst_9 : FVec F S_ .f32 := constant S_ .f32 0x7F800000#32
  let main_v47 : FVec F S1x1024 .f32 := broadcastInDim S1x1024 ![] bcast_S_S1x1024 main_cst_9
  let main_v48 : IVec S1x1024 1 := cmpf .olt main_v46 main_v47
  let main_v49 : FVec F S4352x1024 .f32 := Host.absf main_arg3
  let main_cst_10 : FVec F S_ .f32 := constant S_ .f32 0x7F800000#32
  let main_v50 : FVec F S4352x1024 .f32 := broadcastInDim S4352x1024 ![] bcast_S_S4352x1024 main_cst_10
  let main_v51 : IVec S4352x1024 1 := cmpf .olt main_v49 main_v50
  let main_v52 : FVec F S2x8x17x8x128x128 .f32 := Host.absf main_arg4
  let main_cst_11 : FVec F S_ .f32 := constant S_ .f32 0x7F800000#32
  let main_v53 : FVec F S2x8x17x8x128x128 .f32 := broadcastInDim S2x8x17x8x128x128 ![] bcast_S_S2x8x17x8x128x128 main_cst_11
  let main_v54 : IVec S2x8x17x8x128x128 1 := cmpf .olt main_v52 main_v53
  let main_v55 : FVec F S4352x1024 .f32 := (extf .f32 · bitsLt_bf16_f32) main_arg5
  let main_v56 : FVec F S4352x1024 .f32 := Host.absf main_v55
  let main_cst_12 : FVec F S_ .f32 := constant S_ .f32 0x7F800000#32
  let main_v57 : FVec F S4352x1024 .f32 := broadcastInDim S4352x1024 ![] bcast_S_S4352x1024 main_cst_12
  fn_part3 (F := F) main_v32 main_v37 main_v42 main_v45 main_v48 main_v51 main_v54 main_v56 main_v57

def fn_part1 {F : FTy → Type} [FloatOps F] (main_arg0 : FVec F S4352x9216 .bf16) (main_arg1 : FVec F S2x1024 .f32) (main_arg2 : FVec F S1x1024 .f32) (main_arg3 : FVec F S4352x1024 .f32) (main_arg4 : FVec F S2x8x17x8x128x128 .f32) (main_arg5 : FVec F S4352x1024 .bf16) (main_v12 : FVec F S1024 .f32) (main_v14 : FVec F S1024 .f32) (main_v18 : FVec F S4352x1024 .f32) (main_cst_3 : FVec F S_ .f32) : IVec S4352x1024 1 × IVec S4352x1024 1 × IVec S2x1024 1 × IVec S1x1024 1 × IVec S4352x1024 1 × IVec S2x8x17x8x128x128 1 × IVec S4352x1024 1 × IVec S272x1024 1 :=
  let main_v19 : FVec F S4352x1024 .f32 := broadcastInDim S4352x1024 ![] bcast_S_S4352x1024 main_cst_3
  let main_v20 : FVec F S4352x1024 .f32 := addf main_v19 main_v18
  let main_cst_4 : FVec F S_ .f32 := constant S_ .f32 0x3F800000#32
  let main_v21 : FVec F S4352x1024 .f32 := broadcastInDim S4352x1024 ![] bcast_S_S4352x1024 main_cst_4
  let main_v22 : FVec F S4352x1024 .f32 := Host.divf main_v21 main_v20
  let main_v23 : FVec F S1x1024 .f32 := broadcastInDim S1x1024 ![1] bcast_S1024_S1x1024_1 main_v14
  let main_v24 : FVec F S4352x1024 .f32 := broadcastInDim S4352x1024 ![0, 1] bcast_S1x1024_S4352x1024_0_1 main_v23
  let main_v25 : FVec F S4352x1024 .f32 := mulf main_v24 main_v22
  let main_v26 : FVec F S1x1024 .f32 := broadcastInDim S1x1024 ![1] bcast_S1024_S1x1024_1 main_v12
  let main_v27 : FVec F S4352x1024 .f32 := broadcastInDim S4352x1024 ![0, 1] bcast_S1x1024_S4352x1024_0_1 main_v26
  let main_v28 : FVec F S4352x1024 .f32 := addf main_v27 main_v25
  let main_v29 : FVec F S4352x1024 .f32 := Host.log main_v28
  let main_v30 : FVec F S272x16x1024 .f32 := shapeCast S272x16x1024 main_v29 shapeCasts_S4352x1024_S272x16x1024
  let main_v31 : FVec F S272x16x1024 .f32 := Host.negf main_v30
  let main_cst_5 : FVec F S_ .f32 := constant S_ .f32 0x00000000#32
  let main_v32 : FVec F S272x1024 .f32 := (fun x v => Host.reduceAdd x v reducesTo_S272x16x1024_S272x1024_d1 h_S_) main_v31 main_cst_5
  let main_v33 : FVec F S4352x1024 .bf16 := (extractStridedSlice S4352x1024 ![0, 5120] · slices_S4352x9216_S4352x1024_0_5120) main_arg0
  let main_v34 : FVec F S4352x1024 .f32 := (extf .f32 · bitsLt_bf16_f32) main_v33
  let main_v35 : FVec F S4352x1024 .f32 := Host.absf main_v34
  let main_cst_6 : FVec F S_ .f32 := constant S_ .f32 0x7F800000#32
  let main_v36 : FVec F S4352x1024 .f32 := broadcastInDim S4352x1024 ![] bcast_S_S4352x1024 main_cst_6
  let main_v37 : IVec S4352x1024 1 := cmpf .olt main_v35 main_v36
  let main_v38 : FVec F S4352x1024 .bf16 := (extractStridedSlice S4352x1024 ![0, 6144] · slices_S4352x9216_S4352x1024_0_6144) main_arg0
  let main_v39 : FVec F S4352x1024 .f32 := (extf .f32 · bitsLt_bf16_f32) main_v38
  fn_part2 (F := F) main_arg1 main_arg2 main_arg3 main_arg4 main_arg5 main_v32 main_v37 main_v39

def fn {F : FTy → Type} [FloatOps F] (main_arg0 : FVec F S4352x9216 .bf16) (main_arg1 : FVec F S2x1024 .f32) (main_arg2 : FVec F S1x1024 .f32) (main_arg3 : FVec F S4352x1024 .f32) (main_arg4 : FVec F S2x8x17x8x128x128 .f32) (main_arg5 : FVec F S4352x1024 .bf16) : IVec S4352x1024 1 × IVec S4352x1024 1 × IVec S2x1024 1 × IVec S1x1024 1 × IVec S4352x1024 1 × IVec S2x8x17x8x128x128 1 × IVec S4352x1024 1 × IVec S272x1024 1 :=
  let main_cst : FVec F S_ .f32 := constant S_ .f32 0xFF800000#32
  let main_v0 : FVec F S1024 .f32 := (fun x v => Host.reduce FloatOps.maximumf x v reducesTo_S2x1024_S1024_d0 h_S_) main_arg1 main_cst
  let main_cst_0 : FVec F S_ .f32 := constant S_ .f32 0xFF800000#32
  let main_v1 : FVec F S1024 .f32 := broadcastInDim S1024 ![] bcast_S_S1024 main_cst_0
  let main_v2 : FVec F S1024 .f32 := maximumf main_v1 main_v0
  let main_v3 : FVec F S1x1024 .f32 := broadcastInDim S1x1024 ![1] bcast_S1024_S1x1024_1 main_v2
  let main_v4 : FVec F S2x1024 .f32 := broadcastInDim S2x1024 ![0, 1] bcast_S1x1024_S2x1024_0_1 main_v3
  let main_v5 : FVec F S2x1024 .f32 := subf main_arg1 main_v4
  let main_v6 : FVec F S2x1024 .f32 := Host.exp main_v5
  let main_cst_1 : FVec F S_ .f32 := constant S_ .f32 0x00000000#32
  let main_v7 : FVec F S1024 .f32 := (fun x v => Host.reduceAdd x v reducesTo_S2x1024_S1024_d0 h_S_) main_v6 main_cst_1
  let main_v8 : FVec F S1x1024 .f32 := broadcastInDim S1x1024 ![1] bcast_S1024_S1x1024_1 main_v7
  let main_v9 : FVec F S2x1024 .f32 := broadcastInDim S2x1024 ![0, 1] bcast_S1x1024_S2x1024_0_1 main_v8
  let main_v10 : FVec F S2x1024 .f32 := Host.divf main_v6 main_v9
  let main_v11 : FVec F S1x1024 .f32 := (extractStridedSlice S1x1024 ![0, 0] · slices_S2x1024_S1x1024_0_0) main_v10
  let main_v12 : FVec F S1024 .f32 := shapeCast S1024 main_v11 shapeCasts_S1x1024_S1024
  let main_cst_2 : FVec F S_ .f32 := constant S_ .f32 0x3F800000#32
  let main_v13 : FVec F S1024 .f32 := broadcastInDim S1024 ![] bcast_S_S1024 main_cst_2
  let main_v14 : FVec F S1024 .f32 := subf main_v13 main_v12
  let main_v15 : FVec F S4352x1024 .bf16 := (extractStridedSlice S4352x1024 ![0, 4096] · slices_S4352x9216_S4352x1024_0_4096) main_arg0
  let main_v16 : FVec F S4352x1024 .f32 := (extf .f32 · bitsLt_bf16_f32) main_v15
  let main_v17 : FVec F S4352x1024 .f32 := Host.negf main_v16
  let main_v18 : FVec F S4352x1024 .f32 := Host.exp main_v17
  let main_cst_3 : FVec F S_ .f32 := constant S_ .f32 0x3F800000#32
  fn_part1 (F := F) main_arg0 main_arg1 main_arg2 main_arg3 main_arg4 main_arg5 main_v12 main_v14 main_v18 main_cst_3
-- ==== Pre_finite_un.lean ====
abbrev S4352x9216 : Shape := ⟨2, ![4352, 9216]⟩
abbrev S9232x1024 : Shape := ⟨2, ![9232, 1024]⟩
abbrev S4352x1024 : Shape := ⟨2, ![4352, 1024]⟩
abbrev S1x1024 : Shape := ⟨2, ![1, 1024]⟩
abbrev S_ : Shape := ⟨0, ![]⟩

class Facts : Prop where
  bitsLt_bf16_f32 : FTy.bits .bf16 < FTy.bits .f32
  bcast_S_S4352x9216 : S_.BroadcastsInDim S4352x9216 (![] : Fin 0 → Fin S4352x9216.rank)
  bcast_S_S9232x1024 : S_.BroadcastsInDim S9232x1024 (![] : Fin 0 → Fin S9232x1024.rank)
  bcast_S_S4352x1024 : S_.BroadcastsInDim S4352x1024 (![] : Fin 0 → Fin S4352x1024.rank)
  bcast_S_S1x1024 : S_.BroadcastsInDim S1x1024 (![] : Fin 0 → Fin S1x1024.rank)

variable [Facts]

def fn {F : FTy → Type} [FloatOps F] (main_arg0 : FVec F S4352x9216 .bf16) (main_arg1 : FVec F S9232x1024 .bf16) (main_arg2 : FVec F S4352x1024 .f32) (main_arg3 : FVec F S4352x1024 .f32) (main_arg4 : FVec F S4352x1024 .f32) (main_arg5 : FVec F S1x1024 .f32) : IVec S4352x9216 1 × IVec S9232x1024 1 × IVec S4352x1024 1 × IVec S4352x1024 1 × IVec S1x1024 1 :=
  let main_v0 : FVec F S4352x9216 .f32 := (extf .f32 · bitsLt_bf16_f32) main_arg0
  let main_v1 : FVec F S4352x9216 .f32 := Host.absf main_v0
  let main_cst : FVec F S_ .f32 := constant S_ .f32 0x7F800000#32
  let main_v2 : FVec F S4352x9216 .f32 := broadcastInDim S4352x9216 ![] bcast_S_S4352x9216 main_cst
  let main_v3 : IVec S4352x9216 1 := cmpf .olt main_v1 main_v2
  let main_v4 : FVec F S9232x1024 .f32 := (extf .f32 · bitsLt_bf16_f32) main_arg1
  let main_v5 : FVec F S9232x1024 .f32 := Host.absf main_v4
  let main_cst_0 : FVec F S_ .f32 := constant S_ .f32 0x7F800000#32
  let main_v6 : FVec F S9232x1024 .f32 := broadcastInDim S9232x1024 ![] bcast_S_S9232x1024 main_cst_0
  let main_v7 : IVec S9232x1024 1 := cmpf .olt main_v5 main_v6
  let main_v8 : FVec F S4352x1024 .f32 := Host.absf main_arg2
  let main_cst_1 : FVec F S_ .f32 := constant S_ .f32 0x7F800000#32
  let main_v9 : FVec F S4352x1024 .f32 := broadcastInDim S4352x1024 ![] bcast_S_S4352x1024 main_cst_1
  let main_v10 : IVec S4352x1024 1 := cmpf .olt main_v8 main_v9
  let main_v11 : FVec F S4352x1024 .f32 := Host.absf main_arg3
  let main_cst_2 : FVec F S_ .f32 := constant S_ .f32 0x7F800000#32
  let main_v12 : FVec F S4352x1024 .f32 := broadcastInDim S4352x1024 ![] bcast_S_S4352x1024 main_cst_2
  let main_v13 : IVec S4352x1024 1 := cmpf .olt main_v11 main_v12
  let main_v14 : FVec F S1x1024 .f32 := Host.absf main_arg5
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Conv.lean ====
abbrev S4352x9216 : Shape := ⟨2, ![4352, 9216]⟩
abbrev S4x2048 : Shape := ⟨2, ![4, 2048]⟩
abbrev S1x2048 : Shape := ⟨2, ![1, 2048]⟩
abbrev S4352x2048 : Shape := ⟨2, ![4352, 2048]⟩
abbrev S2176x256 : Shape := ⟨2, ![2176, 256]⟩
abbrev S4x256 : Shape := ⟨2, ![4, 256]⟩
abbrev S1x256 : Shape := ⟨2, ![1, 256]⟩
abbrev S384x256 : Shape := ⟨2, ![384, 256]⟩
abbrev S384x128 : Shape := ⟨2, ![384, 128]⟩
abbrev S128x256 : Shape := ⟨2, ![128, 256]⟩
abbrev S256x256 : Shape := ⟨2, ![256, 256]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S4352x9216, .bf16⟩
  | .hbm, ⟨1, _⟩ => ⟨S4x2048, .f32⟩
  | .hbm, ⟨2, _⟩ => ⟨S1x2048, .f32⟩
  | .hbm, ⟨3, _⟩ => ⟨S4352x2048, .bf16⟩
  | .hbm, ⟨4, _⟩ => ⟨S4352x9216, .bf16⟩
  | .hbm, ⟨5, _⟩ => ⟨S4352x9216, .bf16⟩
  | .hbm, ⟨6, _⟩ => ⟨S4x2048, .f32⟩
  | .hbm, ⟨7, _⟩ => ⟨S1x2048, .f32⟩
  | .local _ .vmem, ⟨0, _⟩ => ⟨S2176x256, .bf16⟩
  | .local _ .vmem, ⟨1, _⟩ => ⟨S2176x256, .bf16⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S4352x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32_59 : BitVec 32 := 0#32
  let v216 : BitVec 1 := Scalar.cmpi .eq arg1 c0_i32_59
  let v217 : BitVec 32 := Scalar.extui v216
  let c0_i32_60 : BitVec 32 := 0#32
  let v218 : BitVec 1 := Scalar.cmpi .ne v217 c0_i32_60
  v218

def k0_cond2 (i : grid0.Coords) : BitVec 1 :=
  let arg1 : BitVec 32 := BitVec.ofNat 32 (i 1).val
  let c0_i32_61 : BitVec 32 := 0#32
  let v219 : BitVec 1 := Scalar.cmpi .sgt arg1 c0_i32_61
  let v220 : BitVec 32 := Scalar.extui v219
  let c0_i32_62 : BitVec 32 := 0#32
  let v221 : BitVec 1 := Scalar.cmpi .ne v220 c0_i32_62
  v221

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvRefIdeal.lean ====
abbrev S4352x9216 : Shape := ⟨2, ![4352, 9216]⟩
abbrev S4x2048 : Shape := ⟨2, ![4, 2048]⟩
abbrev S1x2048 : Shape := ⟨2, ![1, 2048]⟩
abbrev S4352x2048 : Shape := ⟨2, ![4352, 2048]⟩
abbrev S2x2176x2048 : Shape := ⟨3, ![2, 2176, 2048]⟩
abbrev S_ : Shape := ⟨0, ![]⟩
abbrev S2x3x2048 : Shape := ⟨3, ![2, 3, 2048]⟩
abbrev S2x2179x2048 : Shape := ⟨3, ![2, 2179, 2048]⟩
abbrev S2048 : Shape := ⟨1, ![2048]⟩
abbrev S1x1x2048 : Shape := ⟨3, ![1, 1, 2048]⟩
abbrev S2176 : Shape := ⟨1, ![2176]⟩
abbrev S1x2176x1 : Shape := ⟨3, ![1, 2176, 1]⟩
abbrev S4352x1024 : Shape := ⟨2, ![4352, 1024]⟩
abbrev S4352x6144 : Shape := ⟨2, ![4352, 6144]⟩

abbrev nBuf : Space → Nat
  | .hbm => 152
  | .vmem => 0
  | .smem => 0
  | _ => 0

abbrev hbmTy0_0 (i : Nat) : BufTy := match i % 128 with
  | 0 => ⟨S4352x9216, .bf16⟩
  | 1 => ⟨S4x2048, .f32⟩
  | 2 => ⟨S1x2048, .f32⟩
  | 3 => ⟨S4352x2048, .bf16⟩
  | 4 => ⟨S4352x9216, .bf16⟩
  | 5 => ⟨S4352x2048, .bf16⟩
  | 6 => ⟨S4352x2048, .f32⟩
  | 7 => ⟨S2x2176x2048, .f32⟩
  | 8 => ⟨S_, .f32⟩
  | 9 => ⟨S2x3x2048, .f32⟩
  | 10 => ⟨S2x2179x2048, .f32⟩
  | 11 => ⟨S_, .f32⟩
  | 12 => ⟨S2x3x2048, .f32⟩
  | 13 => ⟨S1x2048, .f32⟩
  | 14 => ⟨S2048, .f32⟩
  | 15 => ⟨S2x2176x2048, .f32⟩
  | 16 => ⟨S1x1x2048, .f32⟩
  | 17 => ⟨S2x2176x2048, .f32⟩
  | 18 => ⟨S2x2176x2048, .f32⟩
  | 19 => ⟨S_, .f32⟩
  | 20 => ⟨S2x2176x2048, .f32⟩
  | 21 => ⟨S2x2176x2048, .f32⟩
  | 22 => ⟨S1x2048, .f32⟩
  | 23 => ⟨S2048, .f32⟩
  | 24 => ⟨S2x2176x2048, .f32⟩
  | 25 => ⟨S1x1x2048, .f32⟩
  | 26 => ⟨S2x2176x2048, .f32⟩
  | 27 => ⟨S2x2176x2048, .f32⟩
  | 28 => ⟨S2x2176x2048, .f32⟩
  | 29 => ⟨S1x2048, .f32⟩
  | 30 => ⟨S2048, .f32⟩
  | 31 => ⟨S2x2176x2048, .f32⟩
  | 32 => ⟨S1x1x2048, .f32⟩
  | 33 => ⟨S2x2176x2048, .f32⟩
  | 34 => ⟨S2x2176x2048, .f32⟩
  | 35 => ⟨S2x2176x2048, .f32⟩
  | 36 => ⟨S1x2048, .f32⟩
  | 37 => ⟨S2048, .f32⟩
  | 38 => ⟨S2x2176x2048, .f32⟩
  | 39 => ⟨S1x1x2048, .f32⟩
  | 40 => ⟨S2x2176x2048, .f32⟩
  | 41 => ⟨S2x2176x2048, .f32⟩
  | 42 => ⟨S2x2176x2048, .f32⟩
  | 43 => ⟨S2048, .f32⟩
  | 44 => ⟨S1x1x2048, .f32⟩
  | 45 => ⟨S2x2176x2048, .f32⟩
  | 46 => ⟨S2x2176x2048, .f32⟩
  | 47 => ⟨S2176, .i32⟩
  | 48 => ⟨S1x2176x1, .i32⟩
  | 49 => ⟨S_, .i32⟩
  | 50 => ⟨S1x2176x1, .i32⟩
  | 51 => ⟨S1x2176x1, .i1⟩
  | 52 => ⟨S2x2176x2048, .f32⟩
  | 53 => ⟨S2x2176x2048, .f32⟩
  | 54 => ⟨S_, .f32⟩
  | 55 => ⟨S2x2176x2048, .f32⟩
  | 56 => ⟨S2x2176x2048, .f32⟩
  | 57 => ⟨S_, .f32⟩
  | 58 => ⟨S2x2176x2048, .f32⟩
  | 59 => ⟨S2x2176x2048, .f32⟩
  | 60 => ⟨S_, .f32⟩
  | 61 => ⟨S2x2176x2048, .f32⟩
  | 62 => ⟨S2x2176x2048, .f32⟩
  | 63 => ⟨S2x2176x2048, .f32⟩
  | 64 => ⟨S2x2176x2048, .f32⟩
  | 65 => ⟨S_, .f32⟩
  | 66 => ⟨S_, .f32⟩
  | 67 => ⟨S2x2176x2048, .i1⟩
  | 68 => ⟨S2x2176x2048, .f32⟩
  | 69 => ⟨S2x2176x2048, .f32⟩
  | 70 => ⟨S_, .f32⟩
  | 71 => ⟨S2x2176x2048, .f32⟩
  | 72 => ⟨S4352x2048, .f32⟩
  | 73 => ⟨S2x2176x2048, .f32⟩
  | 74 => ⟨S_, .f32⟩
  | 75 => ⟨S2x2176x2048, .f32⟩
  | 76 => ⟨S2x2176x2048, .f32⟩
  | 77 => ⟨S2x2176x2048, .f32⟩
  | 78 => ⟨S2x2176x2048, .f32⟩
  | 79 => ⟨S2x2176x2048, .f32⟩
  | 80 => ⟨S2x2176x2048, .f32⟩
  | 81 => ⟨S_, .f32⟩
  | 82 => ⟨S2048, .f32⟩
  | 83 => ⟨S1x1x2048, .f32⟩
  | 84 => ⟨S_, .f32⟩
  | 85 => ⟨S2048, .f32⟩
  | 86 => ⟨S1x2048, .f32⟩
  | 87 => ⟨S2x2176x2048, .f32⟩
  | 88 => ⟨S2x2176x2048, .f32⟩
  | 89 => ⟨S2x2176x2048, .f32⟩
  | 90 => ⟨S_, .f32⟩
  | 91 => ⟨S2048, .f32⟩
  | 92 => ⟨S1x1x2048, .f32⟩
  | 93 => ⟨S_, .f32⟩
  | 94 => ⟨S2048, .f32⟩
  | 95 => ⟨S_, .f32⟩
  | 96 => ⟨S2x2179x2048, .f32⟩
  | 97 => ⟨S1x2048, .f32⟩
  | 98 => ⟨S_, .f32⟩
  | 99 => ⟨S4x2048, .f32⟩
  | 100 => ⟨S2x2176x2048, .f32⟩
  | 101 => ⟨S2x2176x2048, .f32⟩
  | 102 => ⟨S2x2176x2048, .f32⟩
  | 103 => ⟨S_, .f32⟩
  | 104 => ⟨S2048, .f32⟩
  | 105 => ⟨S1x1x2048, .f32⟩
  | 106 => ⟨S_, .f32⟩
  | 107 => ⟨S2048, .f32⟩
  | 108 => ⟨S_, .f32⟩
  | 109 => ⟨S2x2179x2048, .f32⟩
  | 110 => ⟨S2x2179x2048, .f32⟩
  | 111 => ⟨S1x2048, .f32⟩
  | 112 => ⟨S_, .f32⟩
  | 113 => ⟨S4x2048, .f32⟩
  | 114 => ⟨S4x2048, .f32⟩
  | 115 => ⟨S2x2176x2048, .f32⟩
  | 116 => ⟨S2x2176x2048, .f32⟩
  | 117 => ⟨S2x2176x2048, .f32⟩
  | 118 => ⟨S_, .f32⟩
  | 119 => ⟨S2048, .f32⟩
  | 120 => ⟨S1x1x2048, .f32⟩
  | 121 => ⟨S_, .f32⟩
  | 122 => ⟨S2048, .f32⟩
  | 123 => ⟨S_, .f32⟩
  | 124 => ⟨S2x2179x2048, .f32⟩
  | 125 => ⟨S2x2179x2048, .f32⟩
  | 126 => ⟨S1x2048, .f32⟩
  | 127 => ⟨S_, .f32⟩
  | _ => ⟨S4352x9216, .bf16⟩

abbrev hbmTy0_1 (i : Nat) : BufTy := match i % 128 with
  | 0 => ⟨S4x2048, .f32⟩
  | 1 => ⟨S4x2048, .f32⟩
  | 2 => ⟨S2x2176x2048, .f32⟩
  | 3 => ⟨S2x2176x2048, .f32⟩
  | 4 => ⟨S2x2176x2048, .f32⟩
  | 5 => ⟨S_, .f32⟩
  | 6 => ⟨S2048, .f32⟩
  | 7 => ⟨S1x1x2048, .f32⟩
  | 8 => ⟨S_, .f32⟩
  | 9 => ⟨S2048, .f32⟩
  | 10 => ⟨S_, .f32⟩
  | 11 => ⟨S2x2179x2048, .f32⟩
  | 12 => ⟨S2x2179x2048, .f32⟩
  | 13 => ⟨S1x2048, .f32⟩
  | 14 => ⟨S_, .f32⟩
  | 15 => ⟨S4x2048, .f32⟩
  | 16 => ⟨S4x2048, .f32⟩
  | 17 => ⟨S2x3x2048, .f32⟩
  | 18 => ⟨S2x2176x2048, .f32⟩
  | 19 => ⟨S4352x2048, .f32⟩
  | 20 => ⟨S4352x2048, .bf16⟩
  | 21 => ⟨S4352x1024, .bf16⟩
  | 22 => ⟨S4352x6144, .bf16⟩
  | 23 => ⟨S4352x9216, .bf16⟩
  | _ => ⟨S4352x9216, .bf16⟩

abbrev hbmTy (i : Nat) : BufTy := match i / 128 with
  | 0 => hbmTy0_0 i
  | 1 => hbmTy0_1 i
  | _ => ⟨S4352x9216, .bf16⟩

abbrev bufTy : (tb : Table) → Fin (tcTables nBuf tb) → BufTy
  | .hbm, ⟨i, _⟩ => hbmTy i
  | _, _ => ⟨S4352x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c : Ref sig .tc := ⟨.hbm, 49, rfl⟩
abbrev main_v41 : Ref sig .tc := ⟨.hbm, 50, rfl⟩
abbrev main_v42 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v43_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v43_1 : Ref sig .tc := ⟨.hbm, 63, rfl⟩
abbrev main_v43_0 : Ref sig .tc := ⟨.hbm, 64, rfl⟩
abbrev main_cst_2 : Ref sig .tc := ⟨.hbm, 65, rfl⟩
abbrev main_call1_v0 : Ref sig .tc := ⟨.hbm, 66, rfl⟩
abbrev main_v44_1 : Ref sig .tc := ⟨.hbm, 67, rfl⟩
abbrev main_call1_v2 : Ref sig .tc := ⟨.hbm, 68, rfl⟩
abbrev main_v44_0 : Ref sig .tc := ⟨.hbm, 69, rfl⟩
abbrev main_call1_cst : Ref sig .tc := ⟨.hbm, 70, rfl⟩
abbrev main_v44_2 : Ref sig .tc := ⟨.hbm, 71, rfl⟩
abbrev main_v45 : Ref sig .tc := ⟨.hbm, 72, rfl⟩
abbrev main_v46 : Ref sig .tc := ⟨.hbm, 73, rfl⟩
abbrev main_call2_cst : Ref sig .tc := ⟨.hbm, 74, rfl⟩
abbrev main_call2_v0 : Ref sig .tc := ⟨.hbm, 75, rfl⟩
abbrev main_v47 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v48 : Ref sig .tc := ⟨.hbm, 80, rfl⟩
abbrev main_cst_3 : Ref sig .tc := ⟨.hbm, 81, rfl⟩
abbrev main_v49 : Ref sig .tc := ⟨.hbm, 82, rfl⟩
abbrev main_v50 : Ref sig .tc := ⟨.hbm, 83, rfl⟩
abbrev main_cst_4 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_5 : Ref sig .tc := ⟨.hbm, 90, rfl⟩
abbrev main_v56 : Ref sig .tc := ⟨.hbm, 91, rfl⟩
abbrev main_v57 : Ref sig .tc := ⟨.hbm, 92, rfl⟩
abbrev main_cst_6 : Ref sig .tc := ⟨.hbm, 93, rfl⟩
abbrev main_v58 : Ref sig .tc := ⟨.hbm, 94, rfl⟩
abbrev main_cst_7 : Ref sig .tc := ⟨.hbm, 95, rfl⟩
abbrev main_v59 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_9 : Ref sig .tc := ⟨.hbm, 103, rfl⟩
abbrev main_v65 : Ref sig .tc := ⟨.hbm, 104, rfl⟩
abbrev main_v66 : Ref sig .tc := ⟨.hbm, 105, rfl⟩
abbrev main_cst_10 : Ref sig .tc := ⟨.hbm, 106, rfl⟩
abbrev main_v67 : Ref sig .tc := ⟨.hbm, 107, rfl⟩
abbrev main_cst_11 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_12 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_13 : Ref sig .tc := ⟨.hbm, 118, rfl⟩
abbrev main_v76 : Ref sig .tc := ⟨.hbm, 119, rfl⟩
abbrev main_v77 : Ref sig .tc := ⟨.hbm, 120, rfl⟩
abbrev main_cst_14 : Ref sig .tc := ⟨.hbm, 121, rfl⟩
abbrev main_v78 : Ref sig .tc := ⟨.hbm, 122, rfl⟩
abbrev main_cst_15 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_16 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_17 : Ref sig .tc := ⟨.hbm, 133, rfl⟩
abbrev main_v87 : Ref sig .tc := ⟨.hbm, 134, rfl⟩
abbrev main_v88 : Ref sig .tc := ⟨.hbm, 135, rfl⟩
abbrev main_cst_18 : Ref sig .tc := ⟨.hbm, 136, rfl⟩
abbrev main_v89 : Ref sig .tc := ⟨.hbm, 137, rfl⟩
abbrev main_cst_19 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_20 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩

abbrev nD : Nat := 1
abbrev τ : Topo := Topo.v7x

variable {F : FTy → Type} [FloatOps F]
-- ==== GateUp.lean ====
abbrev S4352x1024 : Shape := ⟨2, ![4352, 1024]⟩
abbrev S5632x1024 : Shape := ⟨2, ![5632, 1024]⟩
abbrev S4352x2816 : Shape := ⟨2, ![4352, 2816]⟩
abbrev S544x1024 : Shape := ⟨2, ![544, 1024]⟩
abbrev S2816x1024 : Shape := ⟨2, ![2816, 1024]⟩
abbrev S544x2816 : Shape := ⟨2, ![544, 2816]⟩
abbrev S256x1024 : Shape := ⟨2, ![256, 1024]⟩
abbrev S544x256 : Shape := ⟨2, ![544, 256]⟩

abbrev nBuf : Space → Nat
  | .hbm => 5
  | .vmem => 12
  | .smem => 0
  | _ => 0

abbrev bufTy : (tb : Table) → Fin (tcTables nBuf tb) → BufTy
  | .hbm, ⟨0, _⟩ => ⟨S4352x1024, .bf16⟩
  | .hbm, ⟨1, _⟩ => ⟨S5632x1024, .bf16⟩
  | .hbm, ⟨2, _⟩ => ⟨S4352x2816, .bf16⟩
  | .hbm, ⟨3, _⟩ => ⟨S4352x2816, .bf16⟩
  | .hbm, ⟨4, _⟩ => ⟨S4352x2816, .bf16⟩
  | .local _ .vmem, ⟨0, _⟩ => ⟨S544x1024, .bf16⟩
  | .local _ .vmem, ⟨1, _⟩ => ⟨S544x1024, .bf16⟩
  | .local _ .vmem, ⟨2, _⟩ => ⟨S2816x1024, .bf16⟩
  | .local _ .vmem, ⟨3, _⟩ => ⟨S544x1024, .bf16⟩
  | .local _ .vmem, ⟨4, _⟩ => ⟨S544x1024, .bf16⟩
  | .local _ .vmem, ⟨5, _⟩ => ⟨S2816x1024, .bf16⟩
  | .local _ .vmem, ⟨6, _⟩ => ⟨S544x2816, .bf16⟩
  | .local _ .vmem, ⟨7, _⟩ => ⟨S544x2816, .bf16⟩
  | .local _ .vmem, ⟨8, _⟩ => ⟨S544x2816, .bf16⟩
  | .local _ .vmem, ⟨9, _⟩ => ⟨S544x2816, .bf16⟩
  | .local _ .vmem, ⟨10, _⟩ => ⟨S544x2816, .bf16⟩
  | .local _ .vmem, ⟨11, _⟩ => ⟨S544x2816, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let v1 : BitVec 32 := Scalar.addi arg2 c0_i32
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S544x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S544x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S544x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GateUpRefIdeal.lean ====
abbrev S4352x1024 : Shape := ⟨2, ![4352, 1024]⟩
abbrev S5632x1024 : Shape := ⟨2, ![5632, 1024]⟩
abbrev S1024x5632 : Shape := ⟨2, ![1024, 5632]⟩
abbrev S4352x5632 : Shape := ⟨2, ![4352, 5632]⟩
abbrev S4352x2816 : Shape := ⟨2, ![4352, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S5632x1024, .bf16⟩
  | .hbm, ⟨2, _⟩ => ⟨S4352x1024, .f32⟩
  | .hbm, ⟨3, _⟩ => ⟨S5632x1024, .f32⟩
  | .hbm, ⟨4, _⟩ => ⟨S1024x5632, .f32⟩
  | .hbm, ⟨5, _⟩ => ⟨S4352x5632, .f32⟩
  | .hbm, ⟨6, _⟩ => ⟨S4352x2816, .f32⟩
  | .hbm, ⟨7, _⟩ => ⟨S4352x2816, .f32⟩
  | .hbm, ⟨8, _⟩ => ⟨S4352x2816, .bf16⟩
  | .hbm, ⟨9, _⟩ => ⟨S4352x2816, .bf16⟩
  | .hbm, ⟨10, _⟩ => ⟨S4352x2816, .f32⟩
  | .hbm, ⟨11, _⟩ => ⟨S4352x2816, .f32⟩
  | .hbm, ⟨12, _⟩ => ⟨S4352x2816, .f32⟩
  | .hbm, ⟨13, _⟩ => ⟨S4352x2816, .f32⟩
  | .hbm, ⟨14, _⟩ => ⟨S_, .f32⟩
  | .hbm, ⟨15, _⟩ => ⟨S4352x2816, .f32⟩
  | .hbm, ⟨16, _⟩ => ⟨S4352x2816, .f32⟩
  | .hbm, ⟨17, _⟩ => ⟨S_, .f32⟩
  | .hbm, ⟨18, _⟩ => ⟨S4352x2816, .f32⟩
  | .hbm, ⟨19, _⟩ => ⟨S4352x2816, .f32⟩
  | .hbm, ⟨20, _⟩ => ⟨S4352x2816, .f32⟩
  | .hbm, ⟨21, _⟩ => ⟨S4352x2816, .f32⟩
  | .hbm, ⟨22, _⟩ => ⟨S4352x2816, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Down.lean ====
abbrev S4352x1024 : Shape := ⟨2, ![4352, 1024]⟩
abbrev S4352x2816 : Shape := ⟨2, ![4352, 2816]⟩
abbrev S2816x1024 : Shape := ⟨2, ![2816, 1024]⟩
abbrev S1088x2816 : Shape := ⟨2, ![1088, 2816]⟩
abbrev S1088x1024 : Shape := ⟨2, ![1088, 1024]⟩
abbrev S2816x256 : Shape := ⟨2, ![2816, 256]⟩
abbrev S1088x256 : Shape := ⟨2, ![1088, 256]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4352x2816, .bf16⟩
  | .hbm, ⟨2, _⟩ => ⟨S2816x1024, .bf16⟩
  | .hbm, ⟨3, _⟩ => ⟨S4352x1024, .f32⟩
  | .local _ .vmem, ⟨0, _⟩ => ⟨S1088x2816, .bf16⟩
  | .local _ .vmem, ⟨1, _⟩ => ⟨S1088x2816, .bf16⟩
  | .local _ .vmem, ⟨2, _⟩ => ⟨S2816x1024, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4352x1024 : Shape := ⟨2, ![4352, 1024]⟩
abbrev S4352x2816 : Shape := ⟨2, ![4352, 2816]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x2816, .bf16⟩
  | .hbm, ⟨2, _⟩ => ⟨S2816x1024, .bf16⟩
  | .hbm, ⟨3, _⟩ => ⟨S4352x2816, .f32⟩
  | .hbm, ⟨4, _⟩ => ⟨S2816x1024, .f32⟩
  | .hbm, ⟨5, _⟩ => ⟨S4352x1024, .f32⟩
  | .hbm, ⟨6, _⟩ => ⟨S_, .f32⟩
  | .hbm, ⟨7, _⟩ => ⟨S4352x1024, .f32⟩
  | .hbm, ⟨8, _⟩ => ⟨S4352x1024, .f32⟩
  | .hbm, ⟨9, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Act.lean ====
abbrev S4352x1024 : Shape := ⟨2, ![4352, 1024]⟩
abbrev S2816x1024 : Shape := ⟨2, ![2816, 1024]⟩
abbrev S4352x2816 : Shape := ⟨2, ![4352, 2816]⟩
abbrev S4352x5632 : Shape := ⟨2, ![4352, 5632]⟩
abbrev S544x1024 : Shape := ⟨2, ![544, 1024]⟩
abbrev S544x2816 : Shape := ⟨2, ![544, 2816]⟩
abbrev S544x5632 : Shape := ⟨2, ![544, 5632]⟩
abbrev S256x1024 : Shape := ⟨2, ![256, 1024]⟩
abbrev S544x256 : Shape := ⟨2, ![544, 256]⟩

abbrev nBuf : Space → Nat
  | .hbm => 5
  | .vmem => 9
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S4352x2816, .bf16⟩
  | .hbm, ⟨3, _⟩ => ⟨S4352x2816, .bf16⟩
  | .hbm, ⟨4, _⟩ => ⟨S4352x5632, .bf16⟩
  | .local _ .vmem, ⟨0, _⟩ => ⟨S544x1024, .bf16⟩
  | .local _ .vmem, ⟨1, _⟩ => ⟨S544x1024, .bf16⟩
  | .local _ .vmem, ⟨2, _⟩ => ⟨S2816x1024, .bf16⟩
  | .local _ .vmem, ⟨3, _⟩ => ⟨S544x2816, .bf16⟩
  | .local _ .vmem, ⟨4, _⟩ => ⟨S544x2816, .bf16⟩
  | .local _ .vmem, ⟨5, _⟩ => ⟨S544x2816, .bf16⟩
  | .local _ .vmem, ⟨6, _⟩ => ⟨S544x2816, .bf16⟩
  | .local _ .vmem, ⟨7, _⟩ => ⟨S544x5632, .bf16⟩
  | .local _ .vmem, ⟨8, _⟩ => ⟨S544x5632, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S544x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== ActRefIdeal.lean ====
abbrev S4352x1024 : Shape := ⟨2, ![4352, 1024]⟩
abbrev S2816x1024 : Shape := ⟨2, ![2816, 1024]⟩
abbrev S4352x2816 : Shape := ⟨2, ![4352, 2816]⟩
abbrev S4352x5632 : Shape := ⟨2, ![4352, 5632]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S4352x2816, .bf16⟩
  | .hbm, ⟨3, _⟩ => ⟨S4352x2816, .bf16⟩
  | .hbm, ⟨4, _⟩ => ⟨S4352x5632, .bf16⟩
  | .hbm, ⟨5, _⟩ => ⟨S4352x5632, .f32⟩
  | .hbm, ⟨6, _⟩ => ⟨S4352x2816, .f32⟩
  | .hbm, ⟨7, _⟩ => ⟨S4352x2816, .f32⟩
  | .hbm, ⟨8, _⟩ => ⟨S4352x2816, .f32⟩
  | .hbm, ⟨9, _⟩ => ⟨S4352x2816, .f32⟩
  | .hbm, ⟨10, _⟩ => ⟨S_, .f32⟩
  | .hbm, ⟨11, _⟩ => ⟨S4352x2816, .f32⟩
  | .hbm, ⟨12, _⟩ => ⟨S4352x2816, .f32⟩
  | .hbm, ⟨13, _⟩ => ⟨S_, .f32⟩
  | .hbm, ⟨14, _⟩ => ⟨S4352x2816, .f32⟩
  | .hbm, ⟨15, _⟩ => ⟨S4352x2816, .f32⟩
  | .hbm, ⟨16, _⟩ => ⟨S_, .f32⟩
  | .hbm, ⟨17, _⟩ => ⟨S4352x2816, .f32⟩
  | .hbm, ⟨18, _⟩ => ⟨S4352x2816, .f32⟩
  | .hbm, ⟨19, _⟩ => ⟨S4352x2816, .f32⟩
  | .hbm, ⟨20, _⟩ => ⟨S4352x2816, .f32⟩
  | .hbm, ⟨21, _⟩ => ⟨S4352x2816, .f32⟩
  | .hbm, ⟨22, _⟩ => ⟨S2816x1024, .f32⟩
  | .hbm, ⟨23, _⟩ => ⟨S4352x1024, .f32⟩
  | .hbm, ⟨24, _⟩ => ⟨S_, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S_, .f32⟩
  | .hbm, ⟨29, _⟩ => ⟨S4352x1024, .f32⟩
  | .hbm, ⟨30, _⟩ => ⟨S4352x1024, .f32⟩
  | .hbm, ⟨31, _⟩ => ⟨S4352x2816, .f32⟩
  | .hbm, ⟨32, _⟩ => ⟨S4352x2816, .f32⟩
  | .hbm, ⟨33, _⟩ => ⟨S4352x2816, .f32⟩
  | .hbm, ⟨34, _⟩ => ⟨S4352x2816, .f32⟩
  | .hbm, ⟨35, _⟩ => ⟨S4352x2816, .f32⟩
  | .hbm, ⟨36, _⟩ => ⟨S4352x2816, .f32⟩
  | .hbm, ⟨37, _⟩ => ⟨S4352x2816, .f32⟩
  | .hbm, ⟨38, _⟩ => ⟨S4352x5632, .f32⟩
  | .hbm, ⟨39, _⟩ => ⟨S4352x5632, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Norm.lean ====
abbrev S4352x5632 : Shape := ⟨2, ![4352, 5632]⟩
abbrev S5632x1024 : Shape := ⟨2, ![5632, 1024]⟩
abbrev S4352x1024 : Shape := ⟨2, ![4352, 1024]⟩
abbrev S1x1024 : Shape := ⟨2, ![1, 1024]⟩
abbrev S544x5632 : Shape := ⟨2, ![544, 5632]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4352x5632, .bf16⟩
  | .hbm, ⟨1, _⟩ => ⟨S5632x1024, .bf16⟩
  | .hbm, ⟨2, _⟩ => ⟨S4352x1024, .f32⟩
  | .hbm, ⟨3, _⟩ => ⟨S4352x1024, .f32⟩
  | .hbm, ⟨4, _⟩ => ⟨S1x1024, .f32⟩
  | .hbm, ⟨5, _⟩ => ⟨S4352x1024, .f32⟩
  | .hbm, ⟨6, _⟩ => ⟨S4352x1024, .bf16⟩
  | .hbm, ⟨7, _⟩ => ⟨S1x1024, .f32⟩
  | .local _ .vmem, ⟨0, _⟩ => ⟨S544x5632, .bf16⟩
  | .local _ .vmem, ⟨1, _⟩ => ⟨S544x5632, .bf16⟩
  | .local _ .vmem, ⟨2, _⟩ => ⟨S5632x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .bf16⟩
  | .local _ .vmem, ⟨11, _⟩ => ⟨S544x1024, .bf16⟩
  | .local _ .vmem, ⟨12, _⟩ => ⟨S1x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v36 : BitVec 32 := Scalar.extui v3
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v3 : BitVec 1 := Scalar.cmpi .eq arg0 c0_i32
  let v_true : BitVec 1 := 1#1
  let v38 : BitVec 1 := Scalar.xori v3 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== NormRefIdeal.lean ====
abbrev S4352x5632 : Shape := ⟨2, ![4352, 5632]⟩
abbrev S5632x1024 : Shape := ⟨2, ![5632, 1024]⟩
abbrev S4352x1024 : Shape := ⟨2, ![4352, 1024]⟩
abbrev S1x1024 : Shape := ⟨2, ![1, 1024]⟩
abbrev S1024x5632 : Shape := ⟨2, ![1024, 5632]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S5632x1024, .bf16⟩
  | .hbm, ⟨2, _⟩ => ⟨S4352x1024, .f32⟩
  | .hbm, ⟨3, _⟩ => ⟨S4352x1024, .f32⟩
  | .hbm, ⟨4, _⟩ => ⟨S1x1024, .f32⟩
  | .hbm, ⟨5, _⟩ => ⟨S5632x1024, .f32⟩
  | .hbm, ⟨6, _⟩ => ⟨S1024x5632, .f32⟩
  | .hbm, ⟨7, _⟩ => ⟨S4352x1024, .f32⟩
  | .hbm, ⟨8, _⟩ => ⟨S_, .f32⟩
  | .hbm, ⟨9, _⟩ => ⟨S4352, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S4352x1, .f32⟩
  | .hbm, ⟨19, _⟩ => ⟨S_, .f32⟩
  | .hbm, ⟨20, _⟩ => ⟨S4352x1, .f32⟩
  | .hbm, ⟨21, _⟩ => ⟨S4352x1, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S4352x5632, .f32⟩
  | .hbm, ⟨27, _⟩ => ⟨S4352x5632, .f32⟩
  | .hbm, ⟨28, _⟩ => ⟨S4352x1024, .f32⟩
  | .hbm, ⟨29, _⟩ => ⟨S4352x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S_, .f32⟩
  | .hbm, ⟨37, _⟩ => ⟨S4352, .f32⟩
  | .hbm, ⟨38, _⟩ => ⟨S4352x1, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1, .f32⟩
  | .hbm, ⟨43, _⟩ => ⟨S_, .f32⟩
  | .hbm, ⟨44, _⟩ => ⟨S4352x1, .f32⟩
  | .hbm, ⟨45, _⟩ => ⟨S4352x1, .f32⟩
  | .hbm, ⟨46, _⟩ => ⟨S_, .f32⟩
  | .hbm, ⟨47, _⟩ => ⟨S4352, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S4352x1024, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== DownGrad.lean ====
abbrev S4352x2816 : Shape := ⟨2, ![4352, 2816]⟩
abbrev S4352x1024 : Shape := ⟨2, ![4352, 1024]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S2816x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S_, .f32⟩
  | .hbm, ⟨3, _⟩ => ⟨S2816x1024, .f32⟩
  | .hbm, ⟨4, _⟩ => ⟨S4352x2816, .f32⟩
  | .hbm, ⟨5, _⟩ => ⟨S4352x1024, .f32⟩
  | .hbm, ⟨6, _⟩ => ⟨S_, .f32⟩
  | .hbm, ⟨7, _⟩ => ⟨S4352x1024, .f32⟩
  | .hbm, ⟨8, _⟩ => ⟨S4352x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S1024x2816, .f32⟩
  | .hbm, ⟨14, _⟩ => ⟨S2816x1024, .f32⟩
  | .hbm, ⟨15, _⟩ => ⟨S2816x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== GateUpGrad.lean ====
abbrev S4352x5632 : Shape := ⟨2, ![4352, 5632]⟩
abbrev S4352x1024 : Shape := ⟨2, ![4352, 1024]⟩
abbrev S5632x1024 : Shape := ⟨2, ![5632, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x1024, .bf16⟩
  | .hbm, ⟨2, _⟩ => ⟨S5632x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpGradRefIdeal.lean ====
abbrev S4352x5632 : Shape := ⟨2, ![4352, 5632]⟩
abbrev S4352x1024 : Shape := ⟨2, ![4352, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x1024, .bf16⟩
  | .hbm, ⟨2, _⟩ => ⟨S_, .f32⟩
  | .hbm, ⟨3, _⟩ => ⟨S1024x5632, .f32⟩
  | .hbm, ⟨4, _⟩ => ⟨S4352x1024, .f32⟩
  | .hbm, ⟨5, _⟩ => ⟨S4352x5632, .f32⟩
  | .hbm, ⟨6, _⟩ => ⟨S4352x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Branches.lean ====
abbrev S4352x1024 : Shape := ⟨2, ![4352, 1024]⟩
abbrev S1024x1024 : Shape := ⟨2, ![1024, 1024]⟩
abbrev S4352x9216 : Shape := ⟨2, ![4352, 9216]⟩
abbrev S1088x1024 : Shape := ⟨2, ![1088, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S1024x1024, .bf16⟩
  | .hbm, ⟨4, _⟩ => ⟨S4352x9216, .bf16⟩
  | .hbm, ⟨5, _⟩ => ⟨S4352x1024, .bf16⟩
  | .hbm, ⟨6, _⟩ => ⟨S4352x1024, .bf16⟩
  | .hbm, ⟨7, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1024x1024, .bf16⟩
  | .local _ .vmem, ⟨6, _⟩ => ⟨S1088x1024, .bf16⟩
  | .local _ .vmem, ⟨7, _⟩ => ⟨S1088x1024, .bf16⟩
  | .local _ .vmem, ⟨8, _⟩ => ⟨S1088x1024, .bf16⟩
  | .local _ .vmem, ⟨9, _⟩ => ⟨S1088x1024, .bf16⟩
  | .local _ .vmem, ⟨10, _⟩ => ⟨S1088x1024, .bf16⟩
  | .local _ .vmem, ⟨11, _⟩ => ⟨S1088x1024, .bf16⟩
  | .local _ .vmem, ⟨12, _⟩ => ⟨S1088x1024, .bf16⟩
  | .local _ .vmem, ⟨13, _⟩ => ⟨S1088x1024, .bf16⟩
  | .local _ .vmem, ⟨14, _⟩ => ⟨S1088x1024, .bf16⟩
  | .local _ .vmem, ⟨15, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg0 c7_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1088x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1088x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1088x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== BranchesRefIdeal.lean ====
abbrev S4352x1024 : Shape := ⟨2, ![4352, 1024]⟩
abbrev S1024x1024 : Shape := ⟨2, ![1024, 1024]⟩
abbrev S4352x9216 : Shape := ⟨2, ![4352, 9216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S1024x1024, .bf16⟩
  | .hbm, ⟨4, _⟩ => ⟨S4352x9216, .bf16⟩
  | .hbm, ⟨5, _⟩ => ⟨S4352x1024, .bf16⟩
  | .hbm, ⟨6, _⟩ => ⟨S4352x1024, .f32⟩
  | .hbm, ⟨7, _⟩ => ⟨S4352x1024, .bf16⟩
  | .hbm, ⟨8, _⟩ => ⟨S4352x1024, .f32⟩
  | .hbm, ⟨9, _⟩ => ⟨S4352x1024, .f32⟩
  | .hbm, ⟨10, _⟩ => ⟨S1024x1024, .f32⟩
  | .hbm, ⟨11, _⟩ => ⟨S4352x1024, .f32⟩
  | .hbm, ⟨12, _⟩ => ⟨S4352x1024, .f32⟩
  | .hbm, ⟨13, _⟩ => ⟨S1024x1024, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S_, .f32⟩
  | .hbm, ⟨18, _⟩ => ⟨S4352x1024, .f32⟩
  | .hbm, ⟨19, _⟩ => ⟨S4352x1024, .f32⟩
  | .hbm, ⟨20, _⟩ => ⟨S_, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S_, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .bf16⟩
  | .hbm, ⟨35, _⟩ => ⟨S4352x1024, .bf16⟩
  | .hbm, ⟨36, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== OutProj.lean ====
abbrev S4352x1024 : Shape := ⟨2, ![4352, 1024]⟩
abbrev S1024x1024 : Shape := ⟨2, ![1024, 1024]⟩
abbrev S1x1024 : Shape := ⟨2, ![1, 1024]⟩
abbrev S1088x1024 : Shape := ⟨2, ![1088, 1024]⟩
abbrev S1088 : Shape := ⟨1, ![1088]⟩
abbrev S1088x1 : Shape := ⟨2, ![1088, 1]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1x1024, .f32⟩
  | .hbm, ⟨4, _⟩ => ⟨S4352x1024, .f32⟩
  | .hbm, ⟨5, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | .local _ .vmem, ⟨5, _⟩ => ⟨S1x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .bf16⟩
  | .local _ .vmem, ⟨9, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1088x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S4352x1024 : Shape := ⟨2, ![4352, 1024]⟩
abbrev S1024x1024 : Shape := ⟨2, ![1024, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 24
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1x1024, .f32⟩
  | .hbm, ⟨4, _⟩ => ⟨S4352x1024, .f32⟩
  | .hbm, ⟨5, _⟩ => ⟨S1024x1024, .f32⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S_, .f32⟩
  | .hbm, ⟨10, _⟩ => ⟨S4352, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== BranchGrad.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S1024x1024, .bf16⟩
  | .hbm, ⟨4, _⟩ => ⟨S4352x1024, .bf16⟩
  | .hbm, ⟨5, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1024x1024, .bf16⟩
  | .local _ .vmem, ⟨6, _⟩ => ⟨S1088x1024, .bf16⟩
  | .local _ .vmem, ⟨7, _⟩ => ⟨S1088x1024, .bf16⟩
  | .local _ .vmem, ⟨8, _⟩ => ⟨S1088x1024, .bf16⟩
  | .local _ .vmem, ⟨9, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1088x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== BranchGradRefIdeal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S1024x1024, .bf16⟩
  | .hbm, ⟨4, _⟩ => ⟨S_, .f32⟩
  | .hbm, ⟨5, _⟩ => ⟨S4352x1024, .f32⟩
  | .hbm, ⟨6, _⟩ => ⟨S1024x1024, .f32⟩
  | .hbm, ⟨7, _⟩ => ⟨S4352x1024, .f32⟩
  | .hbm, ⟨8, _⟩ => ⟨S1024x1024, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S4352x1024, .f32⟩
  | .hbm, ⟨13, _⟩ => ⟨S4352x1024, .f32⟩
  | .hbm, ⟨14, _⟩ => ⟨S4352x1024, .bf16⟩
  | .hbm, ⟨15, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== OutGrad.lean ====
abbrev S4352x1024 : Shape := ⟨2, ![4352, 1024]⟩
abbrev S1024x1024 : Shape := ⟨2, ![1024, 1024]⟩
abbrev S4352x512 : Shape := ⟨2, ![4352, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S512x1024, .bf16⟩
  | .local _ .vmem, ⟨4, _⟩ => ⟨S512x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRefIdeal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InGrad.lean ====
abbrev S4352x9216 : Shape := ⟨2, ![4352, 9216]⟩
abbrev S4352x1024 : Shape := ⟨2, ![4352, 1024]⟩
abbrev S9216x1024 : Shape := ⟨2, ![9216, 1024]⟩
abbrev S4352x768 : Shape := ⟨2, ![4352, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x9216, .bf16⟩
  | .hbm, ⟨1, _⟩ => ⟨S4352x1024, .bf16⟩
  | .hbm, ⟨2, _⟩ => ⟨S9216x1024, .bf16⟩
  | .local _ .vmem, ⟨0, _⟩ => ⟨S4352x768, .bf16⟩
  | .local _ .vmem, ⟨1, _⟩ => ⟨S4352x768, .bf16⟩
  | .local _ .vmem, ⟨2, _⟩ => ⟨S4352x1024, .bf16⟩
  | .local _ .vmem, ⟨3, _⟩ => ⟨S768x1024, .bf16⟩
  | .local _ .vmem, ⟨4, _⟩ => ⟨S768x1024, .bf16⟩
  | _, _ => ⟨S4352x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradRefIdeal.lean ====
abbrev S4352x9216 : Shape := ⟨2, ![4352, 9216]⟩
abbrev S4352x1024 : Shape := ⟨2, ![4352, 1024]⟩
abbrev S_ : Shape := ⟨0, ![]⟩
abbrev S1024x9216 : Shape := ⟨2, ![1024, 9216]⟩
abbrev S9216x1024 : Shape := ⟨2, ![9216, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x9216, .bf16⟩
  | .hbm, ⟨1, _⟩ => ⟨S4352x1024, .bf16⟩
  | .hbm, ⟨2, _⟩ => ⟨S_, .f32⟩
  | .hbm, ⟨3, _⟩ => ⟨S1024x9216, .f32⟩
  | .hbm, ⟨4, _⟩ => ⟨S4352x1024, .f32⟩
  | .hbm, ⟨5, _⟩ => ⟨S4352x9216, .f32⟩
  | .hbm, ⟨6, _⟩ => ⟨S4352x9216, .f32⟩
  | .hbm, ⟨7, _⟩ => ⟨S9216x1024, .f32⟩
  | .hbm, ⟨8, _⟩ => ⟨S1024x9216, .f32⟩
  | .hbm, ⟨9, _⟩ => ⟨S9216x1024, .f32⟩
  | .hbm, ⟨10, _⟩ => ⟨S9216x1024, .bf16⟩
  | _, _ => ⟨S4352x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Hgrn.lean ====
abbrev S4352x9216 : Shape := ⟨2, ![4352, 9216]⟩
abbrev S2x1024 : Shape := ⟨2, ![2, 1024]⟩
abbrev S1x1024 : Shape := ⟨2, ![1, 1024]⟩
abbrev S4352x1024 : Shape := ⟨2, ![4352, 1024]⟩
abbrev S2x8x17x8x128x128 : Shape := ⟨6, ![2, 8, 17, 8, 128, 128]⟩
abbrev S4352x4096 : Shape := ⟨2, ![4352, 4096]⟩
abbrev S128x1024 : Shape := ⟨2, ![128, 1024]⟩
abbrev S1x8x1x8x128x128 : Shape := ⟨6, ![1, 8, 1, 8, 128, 128]⟩
abbrev S128x4096 : Shape := ⟨2, ![128, 4096]⟩
abbrev S8x128x128 : Shape := ⟨3, ![8, 128, 128]⟩
abbrev S128x128 : Shape := ⟨2, ![128, 128]⟩
abbrev S384x1024 : Shape := ⟨2, ![384, 1024]⟩
abbrev S128x384 : Shape := ⟨2, ![128, 384]⟩
abbrev S128x1 : Shape := ⟨2, ![128, 1]⟩
abbrev S128 : Shape := ⟨1, ![128]⟩
abbrev S1024 : Shape := ⟨1, ![1024]⟩
abbrev S16x128 : Shape := ⟨2, ![16, 128]⟩
abbrev S1x1x1x1x128x128 : Shape := ⟨6, ![1, 1, 1, 1, 128, 128]⟩
abbrev S1x128x128 : Shape := ⟨3, ![1, 128, 128]⟩
abbrev S1x128 : Shape := ⟨2, ![1, 128]⟩

abbrev nBuf : Space → Nat
  | .hbm => 9
  | .vmem => 25
  | .smem => 0
  | _ => 0

abbrev bufTy : (tb : Table) → Fin (tcTables nBuf tb) → BufTy
  | .hbm, ⟨0, _⟩ => ⟨S4352x9216, .bf16⟩
  | .hbm, ⟨1, _⟩ => ⟨S2x1024, .f32⟩
  | .hbm, ⟨2, _⟩ => ⟨S1x1024, .f32⟩
  | .hbm, ⟨3, _⟩ => ⟨S4352x1024, .f32⟩
  | .hbm, ⟨4, _⟩ => ⟨S2x8x17x8x128x128, .f32⟩
  | .hbm, ⟨5, _⟩ => ⟨S4352x1024, .bf16⟩
  | .hbm, ⟨6, _⟩ => ⟨S4352x4096, .bf16⟩
  | .hbm, ⟨7, _⟩ => ⟨S2x1024, .f32⟩
  | .hbm, ⟨8, _⟩ => ⟨S1x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S2x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S1x8x1x8x128x128, .f32⟩
  | .local _ .vmem, ⟨13, _⟩ => ⟨S1x8x1x8x128x128, .f32⟩
  | .local _ .vmem, ⟨14, _⟩ => ⟨S128x1024, .bf16⟩
  | .local _ .vmem, ⟨15, _⟩ => ⟨S128x1024, .bf16⟩
  | .local _ .vmem, ⟨16, _⟩ => ⟨S128x4096, .bf16⟩
  | .local _ .vmem, ⟨17, _⟩ => ⟨S128x4096, .bf16⟩
  | .local _ .vmem, ⟨18, _⟩ => ⟨S2x1024, .f32⟩
  | .local _ .vmem, ⟨19, _⟩ => ⟨S1x1024, .f32⟩
  | .local _ .vmem, ⟨20, _⟩ => ⟨S8x128x128, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | _, _ => ⟨S4352x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨3, ![1, 2, 17], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v3586 : BitVec 32 := Scalar.extui v5
  let c0_i32_1882 : BitVec 32 := 0#32
  let v3587 : BitVec 1 := Scalar.cmpi .ne v3586 c0_i32_1882
  v3587

def k0_cond3 (i : grid0.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v_true : BitVec 1 := 1#1
  let v3588 : BitVec 1 := Scalar.xori v5 v_true
  let v3589 : BitVec 32 := Scalar.extui v3588
  let c0_i32_1883 : BitVec 32 := 0#32
  let v3590 : BitVec 1 := Scalar.cmpi .ne v3589 c0_i32_1883
  v3590

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg2
  let c3_i32 : BitVec 32 := 3#32
  let v4 : BitVec 32 := Scalar.addi c3_i32 arg0
  let c0_i32 : BitVec 32 := 0#32
  ![v3.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg2
  let c4_i32 : BitVec 32 := 4#32
  let v4 : BitVec 32 := Scalar.addi c4_i32 arg0
  let c0_i32 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg2
  let c5_i32 : BitVec 32 := 5#32
  let v4 : BitVec 32 := Scalar.addi c5_i32 arg0
  let c0_i32 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg2
  let c6_i32 : BitVec 32 := 6#32
  let v4 : BitVec 32 := Scalar.addi c6_i32 arg0
  let c0_i32 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg2
  let c0_i32 : BitVec 32 := 0#32
  ![v3.toNat, arg0.toNat]

def cc0_transform_7 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg2
  let c0_i32 : BitVec 32 := 0#32
  let c0_i32_0 : BitVec 32 := 0#32
  let c0_i32_1 : BitVec 32 := 0#32
  let c0_i32_2 : BitVec 32 := 0#32
  ![arg1.toNat, arg0.toNat, v0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg2
  let c0_i32 : BitVec 32 := 0#32
  ![v3.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg2
  let c0_i32 : BitVec 32 := 0#32
  let c0_i32_1 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false, false]
-- ==== HgrnRefIdeal.lean ====
abbrev S4352x9216 : Shape := ⟨2, ![4352, 9216]⟩
abbrev S2x1024 : Shape := ⟨2, ![2, 1024]⟩
abbrev S1x1024 : Shape := ⟨2, ![1, 1024]⟩
abbrev S4352x1024 : Shape := ⟨2, ![4352, 1024]⟩
abbrev S2x8x17x8x128x128 : Shape := ⟨6, ![2, 8, 17, 8, 128, 128]⟩
abbrev S4352x8x128 : Shape := ⟨3, ![4352, 8, 128]⟩
abbrev S_ : Shape := ⟨0, ![]⟩
abbrev S4352x8 : Shape := ⟨2, ![4352, 8]⟩
abbrev S4352x8x1 : Shape := ⟨3, ![4352, 8, 1]⟩
abbrev S8x128 : Shape := ⟨2, ![8, 128]⟩
abbrev S1x8x128 : Shape := ⟨3, ![1, 8, 128]⟩
abbrev S2176 : Shape := ⟨1, ![2176]⟩
abbrev S1x2176x1 : Shape := ⟨3, ![1, 2176, 1]⟩
abbrev S2x2176x1024 : Shape := ⟨3, ![2, 2176, 1024]⟩
abbrev S4352x3072 : Shape := ⟨2, ![4352, 3072]⟩
abbrev S4352x4096 : Shape := ⟨2, ![4352, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4352x9216, .bf16⟩
  | .hbm, ⟨1, _⟩ => ⟨S2x1024, .f32⟩
  | .hbm, ⟨2, _⟩ => ⟨S1x1024, .f32⟩
  | .hbm, ⟨3, _⟩ => ⟨S4352x1024, .f32⟩
  | .hbm, ⟨4, _⟩ => ⟨S2x8x17x8x128x128, .f32⟩
  | .hbm, ⟨5, _⟩ => ⟨S4352x1024, .bf16⟩
  | .hbm, ⟨6, _⟩ => ⟨S4352x1024, .bf16⟩
  | .hbm, ⟨7, _⟩ => ⟨S4352x1024, .f32⟩
  | .hbm, ⟨8, _⟩ => ⟨S4352x8x128, .f32⟩
  | .hbm, ⟨9, _⟩ => ⟨S4352x8x128, .f32⟩
  | .hbm, ⟨10, _⟩ => ⟨S_, .f32⟩
  | .hbm, ⟨11, _⟩ => ⟨S4352x8, .f32⟩
  | .hbm, ⟨12, _⟩ => ⟨S4352x8x1, .f32⟩
  | .hbm, ⟨13, _⟩ => ⟨S_, .f32⟩
  | .hbm, ⟨14, _⟩ => ⟨S4352x8x1, .f32⟩
  | .hbm, ⟨15, _⟩ => ⟨S4352x8x1, .f32⟩
  | .hbm, ⟨16, _⟩ => ⟨S_, .f32⟩
  | .hbm, ⟨17, _⟩ => ⟨S4352x8x1, .f32⟩
  | .hbm, ⟨18, _⟩ => ⟨S4352x8x1, .f32⟩
  | .hbm, ⟨19, _⟩ => ⟨S4352x8x1, .f32⟩
  | .hbm, ⟨20, _⟩ => ⟨S4352x8x1, .f32⟩
  | .hbm, ⟨21, _⟩ => ⟨S_, .f32⟩
  | .hbm, ⟨22, _⟩ => ⟨S4352x8x1, .f32⟩
  | .hbm, ⟨23, _⟩ => ⟨S4352x8x1, .f32⟩
  | .hbm, ⟨24, _⟩ => ⟨S4352x8x128, .f32⟩
  | .hbm, ⟨25, _⟩ => ⟨S4352x8x128, .f32⟩
  | .hbm, ⟨26, _⟩ => ⟨S8x128, .f32⟩
  | .hbm, ⟨27, _⟩ => ⟨S1x8x128, .f32⟩
  | .hbm, ⟨28, _⟩ => ⟨S4352x8x128, .f32⟩
  | .hbm, ⟨29, _⟩ => ⟨S4352x8x128, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S_, .f32⟩
  | .hbm, ⟨34, _⟩ => ⟨S4352x1024, .f32⟩
  | .hbm, ⟨35, _⟩ => ⟨S4352x1024, .f32⟩
  | .hbm, ⟨36, _⟩ => ⟨S_, .f32⟩
  | .hbm, ⟨37, _⟩ => ⟨S4352x1024, .f32⟩
  | .hbm, ⟨38, _⟩ => ⟨S4352x1024, .f32⟩
  | .hbm, ⟨39, _⟩ => ⟨S_, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x8x128, .f32⟩
  | .hbm, ⟨53, _⟩ => ⟨S4352x8x128, .f32⟩
  | .hbm, ⟨54, _⟩ => ⟨S_, .f32⟩
  | .hbm, ⟨55, _⟩ => ⟨S8x128, .f32⟩
  | .hbm, ⟨56, _⟩ => ⟨S1x8x128, .f32⟩
  | .hbm, ⟨57, _⟩ => ⟨S4352x8x128, .f32⟩
  | .hbm, ⟨58, _⟩ => ⟨S4352x8x128, .f32⟩
  | .hbm, ⟨59, _⟩ => ⟨S_, .f32⟩
  | .hbm, ⟨60, _⟩ => ⟨S8x128, .f32⟩
  | .hbm, ⟨61, _⟩ => ⟨S1x1024, .f32⟩
  | .hbm, ⟨62, _⟩ => ⟨S4352x8x128, .f32⟩
  | .hbm, ⟨63, _⟩ => ⟨S_, .f32⟩
  | .hbm, ⟨64, _⟩ => ⟨S4352x8, .f32⟩
  | .hbm, ⟨65, _⟩ => ⟨S4352x8x1, .f32⟩
  | .hbm, ⟨66, _⟩ => ⟨S4352x8x128, .f32⟩
  | .hbm, ⟨67, _⟩ => ⟨S4352x8x128, .f32⟩
  | .hbm, ⟨68, _⟩ => ⟨S4352x8x1, .f32⟩
  | .hbm, ⟨69, _⟩ => ⟨S_, .f32⟩
  | .hbm, ⟨70, _⟩ => ⟨S4352x8x1, .f32⟩
  | .hbm, ⟨71, _⟩ => ⟨S4352x8x1, .f32⟩
  | .hbm, ⟨72, _⟩ => ⟨S_, .f32⟩
  | .hbm, ⟨73, _⟩ => ⟨S4352x8, .f32⟩
  | .hbm, ⟨74, _⟩ => ⟨S4352x8x128, .f32⟩
  | .hbm, ⟨75, _⟩ => ⟨S4352x8x128, .f32⟩
  | .hbm, ⟨76, _⟩ => ⟨S4352x8x128, .f32⟩
  | .hbm, ⟨77, _⟩ => ⟨S4352x8x128, .f32⟩
  | .hbm, ⟨78, _⟩ => ⟨S4352x8x128, .f32⟩
  | .hbm, ⟨79, _⟩ => ⟨S4352x1024, .f32⟩
  | .hbm, ⟨80, _⟩ => ⟨S2176, .i32⟩
  | .hbm, ⟨81, _⟩ => ⟨S1x2176x1, .i32⟩
  | .hbm, ⟨82, _⟩ => ⟨S_, .i32⟩
  | .hbm, ⟨83, _⟩ => ⟨S1x2176x1, .i32⟩
  | .hbm, ⟨84, _⟩ => ⟨S1x2176x1, .i1⟩
  | .hbm, ⟨85, _⟩ => ⟨S2x2176x1024, .f32⟩
  | .hbm, ⟨86, _⟩ => ⟨S_, .f32⟩
  | .hbm, ⟨87, _⟩ => ⟨S_, .f32⟩
  | .hbm, ⟨88, _⟩ => ⟨S2x2176x1024, .i1⟩
  | .hbm, ⟨89, _⟩ => ⟨S2x2176x1024, .f32⟩
  | .hbm, ⟨90, _⟩ => ⟨S2x2176x1024, .f32⟩
  | .hbm, ⟨91, _⟩ => ⟨S4352x1024, .f32⟩
  | .hbm, ⟨92, _⟩ => ⟨S4352x1024, .bf16⟩
  | .hbm, ⟨93, _⟩ => ⟨S_, .bf16⟩
  | .hbm, ⟨94, _⟩ => ⟨S4352x3072, .bf16⟩
  | .hbm, ⟨95, _⟩ => ⟨S4352x4096, .bf16⟩
  | _, _ => ⟨S4352x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_8 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_9 : Ref sig .tc := ⟨.hbm, 93, rfl⟩
abbrev main_v58 : Ref sig .tc := ⟨.hbm, 94, rfl⟩
abbrev main_v59 : Ref sig .tc := ⟨.hbm, 95, rfl⟩

abbrev nD : Nat := 1
abbrev τ : Topo := Topo.v7x

variable {F : FTy → Type} [FloatOps F]
-- ==== HgrnQueryRefIdeal.lean ====
abbrev S4352x9216 : Shape := ⟨2, ![4352, 9216]⟩
abbrev S2x1024 : Shape := ⟨2, ![2, 1024]⟩
abbrev S1x1024 : Shape := ⟨2, ![1, 1024]⟩
abbrev S4352x1024 : Shape := ⟨2, ![4352, 1024]⟩
abbrev S2x8x17x8x128x128 : Shape := ⟨6, ![2, 8, 17, 8, 128, 128]⟩
abbrev S_ : Shape := ⟨0, ![]⟩
abbrev S1024 : Shape := ⟨1, ![1024]⟩
abbrev S272x16x8x128 : Shape := ⟨4, ![272, 16, 8, 128]⟩
abbrev S16x16 : Shape := ⟨2, ![16, 16]⟩
abbrev S272x8x128x16 : Shape := ⟨4, ![272, 8, 128, 16]⟩
abbrev S1x16x16x1x1 : Shape := ⟨5, ![1, 16, 16, 1, 1]⟩
abbrev S272x16x1x8x128 : Shape := ⟨5, ![272, 16, 1, 8, 128]⟩
abbrev S272x1x16x8x128 : Shape := ⟨5, ![272, 1, 16, 8, 128]⟩
abbrev S272x16x16x8x128 : Shape := ⟨5, ![272, 16, 16, 8, 128]⟩
abbrev S2x17x8x8x128x128 : Shape := ⟨6, ![2, 17, 8, 8, 128, 128]⟩
abbrev S272x8x128x128 : Shape := ⟨4, ![272, 8, 128, 128]⟩
abbrev S272x16x8x1x128 : Shape := ⟨5, ![272, 16, 8, 1, 128]⟩
abbrev S272x1x8x128x128 : Shape := ⟨5, ![272, 1, 8, 128, 128]⟩
abbrev S272x16x8x128x128 : Shape := ⟨5, ![272, 16, 8, 128, 128]⟩
abbrev S272x8x16x128x128 : Shape := ⟨5, ![272, 8, 16, 128, 128]⟩
abbrev S4352x8x128 : Shape := ⟨3, ![4352, 8, 128]⟩
abbrev S4352x8 : Shape := ⟨2, ![4352, 8]⟩
abbrev S4352x8x1 : Shape := ⟨3, ![4352, 8, 1]⟩
abbrev S8x128 : Shape := ⟨2, ![8, 128]⟩
abbrev S1x8x128 : Shape := ⟨3, ![1, 8, 128]⟩
abbrev S2176 : Shape := ⟨1, ![2176]⟩
abbrev S1x2176x1 : Shape := ⟨3, ![1, 2176, 1]⟩
abbrev S2x2176x1024 : Shape := ⟨3, ![2, 2176, 1024]⟩
abbrev S4352x3072 : Shape := ⟨2, ![4352, 3072]⟩
abbrev S4352x4096 : Shape := ⟨2, ![4352, 4096]⟩

abbrev nBuf : Space → Nat
  | .hbm => 190
  | .vmem => 0
  | .smem => 0
  | _ => 0

abbrev hbmTy0_0 (i : Nat) : BufTy := match i % 128 with
  | 0 => ⟨S4352x9216, .bf16⟩
  | 1 => ⟨S2x1024, .f32⟩
  | 2 => ⟨S1x1024, .f32⟩
  | 3 => ⟨S4352x1024, .f32⟩
  | 4 => ⟨S2x8x17x8x128x128, .f32⟩
  | 5 => ⟨S4352x1024, .bf16⟩
  | 6 => ⟨S_, .f32⟩
  | 7 => ⟨S1024, .f32⟩
  | 8 => ⟨S_, .f32⟩
  | 9 => ⟨S1024, .f32⟩
  | 10 => ⟨S1024, .f32⟩
  | 11 => ⟨S1x1024, .f32⟩
  | 12 => ⟨S2x1024, .f32⟩
  | 13 => ⟨S2x1024, .f32⟩
  | 14 => ⟨S2x1024, .f32⟩
  | 15 => ⟨S_, .f32⟩
  | 16 => ⟨S1024, .f32⟩
  | 17 => ⟨S1x1024, .f32⟩
  | 18 => ⟨S2x1024, .f32⟩
  | 19 => ⟨S2x1024, .f32⟩
  | 20 => ⟨S1x1024, .f32⟩
  | 21 => ⟨S1024, .f32⟩
  | 22 => ⟨S_, .f32⟩
  | 23 => ⟨S1024, .f32⟩
  | 24 => ⟨S1024, .f32⟩
  | 25 => ⟨S4352x1024, .bf16⟩
  | 26 => ⟨S4352x1024, .f32⟩
  | 27 => ⟨S4352x1024, .f32⟩
  | 28 => ⟨S4352x1024, .f32⟩
  | 29 => ⟨S_, .f32⟩
  | 30 => ⟨S4352x1024, .f32⟩
  | 31 => ⟨S4352x1024, .f32⟩
  | 32 => ⟨S_, .f32⟩
  | 33 => ⟨S4352x1024, .f32⟩
  | 34 => ⟨S4352x1024, .f32⟩
  | 35 => ⟨S1x1024, .f32⟩
  | 36 => ⟨S4352x1024, .f32⟩
  | 37 => ⟨S4352x1024, .f32⟩
  | 38 => ⟨S1x1024, .f32⟩
  | 39 => ⟨S4352x1024, .f32⟩
  | 40 => ⟨S4352x1024, .f32⟩
  | 41 => ⟨S_, .f32⟩
  | 42 => ⟨S4352x1024, .f32⟩
  | 43 => ⟨S4352x1024, .f32⟩
  | 44 => ⟨S272x16x8x128, .f32⟩
  | 45 => ⟨S4352x1024, .bf16⟩
  | 46 => ⟨S4352x1024, .f32⟩
  | 47 => ⟨S272x16x8x128, .f32⟩
  | 48 => ⟨S4352x1024, .f32⟩
  | 49 => ⟨S272x16x8x128, .f32⟩
  | 50 => ⟨S_, .i1⟩
  | 51 => ⟨S16x16, .i1⟩
  | 52 => ⟨S16x16, .i32⟩
  | 53 => ⟨S_, .i32⟩
  | 54 => ⟨S16x16, .i32⟩
  | 55 => ⟨S16x16, .i32⟩
  | 56 => ⟨S16x16, .i32⟩
  | 57 => ⟨S16x16, .i1⟩
  | 58 => ⟨S_, .i1⟩
  | 59 => ⟨S16x16, .i1⟩
  | 60 => ⟨S16x16, .i1⟩
  | 61 => ⟨S16x16, .f32⟩
  | 62 => ⟨S272x8x128x16, .f32⟩
  | 63 => ⟨S272x16x8x128, .f32⟩
  | 64 => ⟨S1x16x16x1x1, .i1⟩
  | 65 => ⟨S272x16x1x8x128, .f32⟩
  | 66 => ⟨S272x1x16x8x128, .f32⟩
  | 67 => ⟨S272x16x16x8x128, .f32⟩
  | 68 => ⟨S272x16x16x8x128, .f32⟩
  | 69 => ⟨S272x16x16x8x128, .f32⟩
  | 70 => ⟨S_, .f32⟩
  | 71 => ⟨S_, .f32⟩
  | 72 => ⟨S272x16x16x8x128, .i1⟩
  | 73 => ⟨S272x16x16x8x128, .f32⟩
  | 74 => ⟨S272x16x16x8x128, .f32⟩
  | 75 => ⟨S272x16x16x8x128, .f32⟩
  | 76 => ⟨S2x17x8x8x128x128, .f32⟩
  | 77 => ⟨S272x8x128x128, .f32⟩
  | 78 => ⟨S272x16x8x128, .f32⟩
  | 79 => ⟨S272x16x8x1x128, .f32⟩
  | 80 => ⟨S272x1x8x128x128, .f32⟩
  | 81 => ⟨S272x16x8x128x128, .f32⟩
  | 82 => ⟨S272x16x8x128x128, .f32⟩
  | 83 => ⟨S272x16x8x128x128, .f32⟩
  | 84 => ⟨S272x1x16x8x128, .f32⟩
  | 85 => ⟨S272x16x16x8x128, .f32⟩
  | 86 => ⟨S272x16x16x8x128, .f32⟩
  | 87 => ⟨S272x8x16x128x128, .f32⟩
  | 88 => ⟨S272x16x8x128x128, .f32⟩
  | 89 => ⟨S272x16x8x128x128, .f32⟩
  | 90 => ⟨S4352x8x128, .f32⟩
  | 91 => ⟨S4352x8x128, .f32⟩
  | 92 => ⟨S_, .f32⟩
  | 93 => ⟨S4352x8, .f32⟩
  | 94 => ⟨S4352x8x1, .f32⟩
  | 95 => ⟨S_, .f32⟩
  | 96 => ⟨S4352x8x1, .f32⟩
  | 97 => ⟨S4352x8x1, .f32⟩
  | 98 => ⟨S_, .f32⟩
  | 99 => ⟨S4352x8x1, .f32⟩
  | 100 => ⟨S4352x8x1, .f32⟩
  | 101 => ⟨S4352x8x1, .f32⟩
  | 102 => ⟨S4352x8x1, .f32⟩
  | 103 => ⟨S_, .f32⟩
  | 104 => ⟨S4352x8x1, .f32⟩
  | 105 => ⟨S4352x8x1, .f32⟩
  | 106 => ⟨S4352x8x128, .f32⟩
  | 107 => ⟨S4352x8x128, .f32⟩
  | 108 => ⟨S8x128, .f32⟩
  | 109 => ⟨S1x8x128, .f32⟩
  | 110 => ⟨S4352x8x128, .f32⟩
  | 111 => ⟨S4352x8x128, .f32⟩
  | 112 => ⟨S4352x1024, .f32⟩
  | 113 => ⟨S4352x1024, .bf16⟩
  | 114 => ⟨S4352x1024, .f32⟩
  | 115 => ⟨S4352x1024, .f32⟩
  | 116 => ⟨S4352x1024, .f32⟩
  | 117 => ⟨S_, .f32⟩
  | 118 => ⟨S4352x1024, .f32⟩
  | 119 => ⟨S4352x1024, .f32⟩
  | 120 => ⟨S_, .f32⟩
  | 121 => ⟨S4352x1024, .f32⟩
  | 122 => ⟨S4352x1024, .f32⟩
  | 123 => ⟨S4352x1024, .f32⟩
  | 124 => ⟨S4352x1024, .f32⟩
  | 125 => ⟨S4352x1024, .f32⟩
  | 126 => ⟨S4352x1024, .f32⟩
  | 127 => ⟨S4352x8x128, .f32⟩
  | _ => ⟨S4352x9216, .bf16⟩

abbrev hbmTy0_1 (i : Nat) : BufTy := match i % 128 with
  | 0 => ⟨S4352x8x128, .f32⟩
  | 1 => ⟨S4352x8x128, .f32⟩
  | 2 => ⟨S4352x8x128, .f32⟩
  | 3 => ⟨S_, .f32⟩
  | 4 => ⟨S4352x8, .f32⟩
  | 5 => ⟨S4352x8x1, .f32⟩
  | 6 => ⟨S4352x8x128, .f32⟩
  | 7 => ⟨S4352x8x128, .f32⟩
  | 8 => ⟨S4352x8x1, .f32⟩
  | 9 => ⟨S_, .f32⟩
  | 10 => ⟨S4352x8x1, .f32⟩
  | 11 => ⟨S4352x8x1, .f32⟩
  | 12 => ⟨S_, .f32⟩
  | 13 => ⟨S4352x8, .f32⟩
  | 14 => ⟨S4352x8x128, .f32⟩
  | 15 => ⟨S4352x8x128, .f32⟩
  | 16 => ⟨S4352x8x128, .f32⟩
  | 17 => ⟨S4352x8x128, .f32⟩
  | 18 => ⟨S4352x8x128, .f32⟩
  | 19 => ⟨S4352x1024, .f32⟩
  | 20 => ⟨S4352x1024, .bf16⟩
  | 21 => ⟨S4352x1024, .f32⟩
  | 22 => ⟨S4352x1024, .f32⟩
  | 23 => ⟨S4352x1024, .f32⟩
  | 24 => ⟨S_, .f32⟩
  | 25 => ⟨S4352x1024, .f32⟩
  | 26 => ⟨S4352x1024, .f32⟩
  | 27 => ⟨S_, .f32⟩
  | 28 => ⟨S4352x1024, .f32⟩
  | 29 => ⟨S4352x1024, .f32⟩
  | 30 => ⟨S_, .f32⟩
  | 31 => ⟨S4352x1024, .f32⟩
  | 32 => ⟨S4352x1024, .f32⟩
  | 33 => ⟨S4352x1024, .f32⟩
  | 34 => ⟨S4352x1024, .f32⟩
  | 35 => ⟨S272x16x8x128, .f32⟩
  | 36 => ⟨S272x16x8x128, .f32⟩
  | 37 => ⟨S272x16x8x128, .f32⟩
  | 38 => ⟨S272x16x8x128, .f32⟩
  | 39 => ⟨S4352x1024, .f32⟩
  | 40 => ⟨S4352x1024, .f32⟩
  | 41 => ⟨S4352x1024, .f32⟩
  | 42 => ⟨S4352x1024, .f32⟩
  | 43 => ⟨S4352x1024, .f32⟩
  | 44 => ⟨S2176, .i32⟩
  | 45 => ⟨S1x2176x1, .i32⟩
  | 46 => ⟨S_, .i32⟩
  | 47 => ⟨S1x2176x1, .i32⟩
  | 48 => ⟨S1x2176x1, .i1⟩
  | 49 => ⟨S2x2176x1024, .f32⟩
  | 50 => ⟨S_, .f32⟩
  | 51 => ⟨S_, .f32⟩
  | 52 => ⟨S2x2176x1024, .i1⟩
  | 53 => ⟨S2x2176x1024, .f32⟩
  | 54 => ⟨S2x2176x1024, .f32⟩
  | 55 => ⟨S4352x1024, .f32⟩
  | 56 => ⟨S4352x1024, .bf16⟩
  | 57 => ⟨S_, .bf16⟩
  | 58 => ⟨S4352x3072, .bf16⟩
  | 59 => ⟨S4352x4096, .bf16⟩
  | 60 => ⟨S_, .f32⟩
  | 61 => ⟨S1x1024, .f32⟩
  | _ => ⟨S4352x9216, .bf16⟩

abbrev hbmTy (i : Nat) : BufTy := match i / 128 with
  | 0 => hbmTy0_0 i
  | 1 => hbmTy0_1 i
  | _ => ⟨S4352x9216, .bf16⟩

abbrev bufTy : (tb : Table) → Fin (tcTables nBuf tb) → BufTy
  | .hbm, ⟨i, _⟩ => hbmTy i
  | _, _ => ⟨S4352x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_v37 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_0 : Ref sig .tc := ⟨.hbm, 58, rfl⟩
abbrev main_call0_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_v69 : Ref sig .tc := ⟨.hbm, 97, rfl⟩
abbrev main_cst_9 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_call2_v5 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_11 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_12 : Ref sig .tc := ⟨.hbm, 137, rfl⟩
abbrev main_v98 : Ref sig .tc := ⟨.hbm, 138, rfl⟩
abbrev main_v99 : Ref sig .tc := ⟨.hbm, 139, rfl⟩
abbrev main_cst_13 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_call3_v0 : Ref sig .tc := ⟨.hbm, 150, rfl⟩
abbrev main_call3_v1 : Ref sig .tc := ⟨.hbm, 151, rfl⟩
abbrev main_call3_cst : Ref sig .tc := ⟨.hbm, 152, rfl⟩
abbrev main_call3_v2 : Ref sig .tc := ⟨.hbm, 153, rfl⟩
abbrev main_call3_v3 : Ref sig .tc := ⟨.hbm, 154, rfl⟩
abbrev main_call3_cst_0 : Ref sig .tc := ⟨.hbm, 155, rfl⟩
abbrev main_call3_v4 : Ref sig .tc := ⟨.hbm, 156, rfl⟩
abbrev main_v109_2 : Ref sig .tc := ⟨.hbm, 157, rfl⟩
abbrev main_call3_cst_1 : Ref sig .tc := ⟨.hbm, 158, rfl⟩
abbrev main_call3_v6 : Ref sig .tc := ⟨.hbm, 159, rfl⟩
abbrev main_call3_v7 : Ref sig .tc := ⟨.hbm, 160, rfl⟩
abbrev main_v109_1 : Ref sig .tc := ⟨.hbm, 161, rfl⟩
abbrev main_v109_0 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_c_14 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_15 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_16 : Ref sig .tc := ⟨.hbm, 185, rfl⟩
abbrev main_v124 : Ref sig .tc := ⟨.hbm, 186, rfl⟩
abbrev main_v125 : Ref sig .tc := ⟨.hbm, 187, rfl⟩
abbrev main_cst_17 : Ref sig .tc := ⟨.hbm, 188, rfl⟩
abbrev main_v126 : Ref sig .tc := ⟨.hbm, 189, rfl⟩

abbrev nD : Nat := 1
abbrev τ : Topo := Topo.v7x

variable {F : FTy → Type} [FloatOps F]
-- ==== InProj.lean ====
abbrev S4352x1024 : Shape := ⟨2, ![4352, 1024]⟩
abbrev S9232x1024 : Shape := ⟨2, ![9232, 1024]⟩
abbrev S4352x9216 : Shape := ⟨2, ![4352, 9216]⟩
abbrev S1088x1024 : Shape := ⟨2, ![1088, 1024]⟩
abbrev S3072x1024 : Shape := ⟨2, ![3072, 1024]⟩
abbrev S1088x3072 : Shape := ⟨2, ![1088, 3072]⟩
abbrev S512x1024 : Shape := ⟨2, ![512, 1024]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S9232x1024, .bf16⟩
  | .hbm, ⟨2, _⟩ => ⟨S4352x9216, .bf16⟩
  | .local _ .vmem, ⟨0, _⟩ => ⟨S1088x1024, .bf16⟩
  | .local _ .vmem, ⟨1, _⟩ => ⟨S1088x1024, .bf16⟩
  | .local _ .vmem, ⟨2, _⟩ => ⟨S3072x1024, .bf16⟩
  | .local _ .vmem, ⟨3, _⟩ => ⟨S3072x1024, .bf16⟩
  | .local _ .vmem, ⟨4, _⟩ => ⟨S1088x3072, .bf16⟩
  | .local _ .vmem, ⟨5, _⟩ => ⟨S1088x3072, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_mult1 (i : grid0.Coords) : BitVec 32 :=
  let arg0 : BitVec 32 := BitVec.ofNat 32 (i 0).val
  let c3072_i32 : BitVec 32 := 3072#32
  let v0 : BitVec 32 := Scalar.muli arg0 c3072_i32
  let c1_i32 : BitVec 32 := 1#32
  let v1 : BitVec 1 := Scalar.cmpi .sge arg0 c1_i32
  let c16_i32 : BitVec 32 := 16#32
  let c0_i32 : BitVec 32 := 0#32
  let v2 : BitVec 32 := Scalar.select v1 c16_i32 c0_i32
  let v3 : BitVec 32 := Scalar.addi v0 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3072_i32 : BitVec 32 := 3072#32
  let v0 : BitVec 32 := Scalar.muli arg0 c3072_i32
  let c1_i32 : BitVec 32 := 1#32
  let v1 : BitVec 1 := Scalar.cmpi .sge arg0 c1_i32
  let c16_i32 : BitVec 32 := 16#32
  let c0_i32 : BitVec 32 := 0#32
  let v2 : BitVec 32 := Scalar.select v1 c16_i32 c0_i32
  let v3 : BitVec 32 := Scalar.addi v0 v2
  let v4 : BitVec 32 := v3
  let c0_i32_0 : BitVec 32 := 0#32
  let v5 : BitVec 32 := Scalar.addi arg2 c0_i32_0
  let c1024_i32 : BitVec 32 := 1024#32
  let v6 : BitVec 32 := Scalar.muli v5 c1024_i32
  let c0_i32_1 : BitVec 32 := 0#32
  ![v4.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4352x1024 : Shape := ⟨2, ![4352, 1024]⟩
abbrev S9232x1024 : Shape := ⟨2, ![9232, 1024]⟩
abbrev S1024x9232 : Shape := ⟨2, ![1024, 9232]⟩
abbrev S1024x3072 : Shape := ⟨2, ![1024, 3072]⟩
abbrev S1024x6144 : Shape := ⟨2, ![1024, 6144]⟩
abbrev S1024x9216 : Shape := ⟨2, ![1024, 9216]⟩
abbrev S4352x9216 : Shape := ⟨2, ![4352, 9216]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S9232x1024, .bf16⟩
  | .hbm, ⟨2, _⟩ => ⟨S9232x1024, .f32⟩
  | .hbm, ⟨3, _⟩ => ⟨S1024x9232, .f32⟩
  | .hbm, ⟨4, _⟩ => ⟨S1024x3072, .f32⟩
  | .hbm, ⟨5, _⟩ => ⟨S1024x6144, .f32⟩
  | .hbm, ⟨6, _⟩ => ⟨S4352x1024, .f32⟩
  | .hbm, ⟨7, _⟩ => ⟨S1024x9216, .f32⟩
  | .hbm, ⟨8, _⟩ => ⟨S4352x9216, .f32⟩
  | .hbm, ⟨9, _⟩ => ⟨S4352x9216, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MergeGrad.lean ====
abbrev S4352x1024 : Shape := ⟨2, ![4352, 1024]⟩
abbrev S1024x1024 : Shape := ⟨2, ![1024, 1024]⟩
abbrev S4352x9216 : Shape := ⟨2, ![4352, 9216]⟩
abbrev S4352x2048 : Shape := ⟨2, ![4352, 2048]⟩
abbrev S1088x1024 : Shape := ⟨2, ![1088, 1024]⟩
abbrev S1088x2048 : Shape := ⟨2, ![1088, 2048]⟩

abbrev nBuf : Space → Nat
  | .hbm => 8
  | .vmem => 17
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x9216, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x1024, .bf16⟩
  | .hbm, ⟨7, _⟩ => ⟨S4352x2048, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | .local _ .vmem, ⟨8, _⟩ => ⟨S1088x1024, .bf16⟩
  | .local _ .vmem, ⟨9, _⟩ => ⟨S1088x1024, .bf16⟩
  | .local _ .vmem, ⟨10, _⟩ => ⟨S1088x1024, .bf16⟩
  | .local _ .vmem, ⟨11, _⟩ => ⟨S1088x1024, .bf16⟩
  | .local _ .vmem, ⟨12, _⟩ => ⟨S1088x1024, .bf16⟩
  | .local _ .vmem, ⟨13, _⟩ => ⟨S1088x1024, .bf16⟩
  | .local _ .vmem, ⟨14, _⟩ => ⟨S1088x1024, .bf16⟩
  | .local _ .vmem, ⟨15, _⟩ => ⟨S1088x2048, .bf16⟩
  | .local _ .vmem, ⟨16, _⟩ => ⟨S1088x2048, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg0 c7_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1088x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1088x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1088x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]
-- ==== MergeGradRefIdeal.lean ====
abbrev S4352x1024 : Shape := ⟨2, ![4352, 1024]⟩
abbrev S1024x1024 : Shape := ⟨2, ![1024, 1024]⟩
abbrev S4352x9216 : Shape := ⟨2, ![4352, 9216]⟩
abbrev S_ : Shape := ⟨0, ![]⟩
abbrev S4352x2048 : Shape := ⟨2, ![4352, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x9216, .bf16⟩
  | .hbm, ⟨3, _⟩ => ⟨S4352x1024, .bf16⟩
  | .hbm, ⟨4, _⟩ => ⟨S4352x1024, .bf16⟩
  | .hbm, ⟨5, _⟩ => ⟨S4352x1024, .f32⟩
  | .hbm, ⟨6, _⟩ => ⟨S4352x1024, .f32⟩
  | .hbm, ⟨7, _⟩ => ⟨S4352x1024, .bf16⟩
  | .hbm, ⟨8, _⟩ => ⟨S4352x1024, .f32⟩
  | .hbm, ⟨9, _⟩ => ⟨S4352x1024, .bf16⟩
  | .hbm, ⟨10, _⟩ => ⟨S4352x1024, .f32⟩
  | .hbm, ⟨11, _⟩ => ⟨S4352x1024, .f32⟩
  | .hbm, ⟨12, _⟩ => ⟨S4352x1024, .f32⟩
  | .hbm, ⟨13, _⟩ => ⟨S_, .f32⟩
  | .hbm, ⟨14, _⟩ => ⟨S4352x1024, .f32⟩
  | .hbm, ⟨15, _⟩ => ⟨S4352x1024, .f32⟩
  | .hbm, ⟨16, _⟩ => ⟨S_, .f32⟩
  | .hbm, ⟨17, _⟩ => ⟨S4352x1024, .f32⟩
  | .hbm, ⟨18, _⟩ => ⟨S4352x1024, .f32⟩
  | .hbm, ⟨19, _⟩ => ⟨S_, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S_, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1024, .f32⟩
  | .hbm, ⟨31, _⟩ => ⟨S4352x1024, .f32⟩
  | .hbm, ⟨32, _⟩ => ⟨S_, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S1024x1024, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x2048, .f32⟩
  | .hbm, ⟨49, _⟩ => ⟨S4352x1024, .bf16⟩
  | .hbm, ⟨50, _⟩ => ⟨S4352x1024, .bf16⟩
  | .hbm, ⟨51, _⟩ => ⟨S4352x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== UnGrad.lean ====
abbrev S4352x9216 : Shape := ⟨2, ![4352, 9216]⟩
abbrev S9232x1024 : Shape := ⟨2, ![9232, 1024]⟩
abbrev S4352x1024 : Shape := ⟨2, ![4352, 1024]⟩
abbrev S1x1024 : Shape := ⟨2, ![1, 1024]⟩
abbrev S544x3072 : Shape := ⟨2, ![544, 3072]⟩
abbrev S3072x1024 : Shape := ⟨2, ![3072, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S4352x9216, .bf16⟩
  | .hbm, ⟨1, _⟩ => ⟨S9232x1024, .bf16⟩
  | .hbm, ⟨2, _⟩ => ⟨S4352x1024, .f32⟩
  | .hbm, ⟨3, _⟩ => ⟨S4352x1024, .f32⟩
  | .hbm, ⟨4, _⟩ => ⟨S4352x1024, .f32⟩
  | .hbm, ⟨5, _⟩ => ⟨S1x1024, .f32⟩
  | .hbm, ⟨6, _⟩ => ⟨S4352x1024, .f32⟩
  | .hbm, ⟨7, _⟩ => ⟨S4352x1024, .bf16⟩
  | .hbm, ⟨8, _⟩ => ⟨S1x1024, .f32⟩
  | .local _ .vmem, ⟨0, _⟩ => ⟨S544x3072, .bf16⟩
  | .local _ .vmem, ⟨1, _⟩ => ⟨S544x3072, .bf16⟩
  | .local _ .vmem, ⟨2, _⟩ => ⟨S3072x1024, .bf16⟩
  | .local _ .vmem, ⟨3, _⟩ => ⟨S3072x1024, .bf16⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S1x1024, .f32⟩
  | .local _ .vmem, ⟨11, _⟩ => ⟨S544x1024, .f32⟩
  | .local _ .vmem, ⟨12, _⟩ => ⟨S544x1024, .f32⟩
  | .local _ .vmem, ⟨13, _⟩ => ⟨S544x1024, .bf16⟩
  | .local _ .vmem, ⟨14, _⟩ => ⟨S544x1024, .bf16⟩
  | .local _ .vmem, ⟨15, _⟩ => ⟨S1x1024, .f32⟩
  | .local _ .vmem, ⟨16, _⟩ => ⟨S544x1024, .f32⟩
  | _, _ => ⟨S4352x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![8, 1, 3], ![false, false, false]⟩

def k0_mult1 (i : grid0.Coords) : BitVec 32 :=
  let arg2 : BitVec 32 := BitVec.ofNat 32 (i 2).val
  let c3072_i32 : BitVec 32 := 3072#32
  let v0 : BitVec 32 := Scalar.muli arg2 c3072_i32
  let c1_i32 : BitVec 32 := 1#32
  let v1 : BitVec 1 := Scalar.cmpi .sge arg2 c1_i32
  let c16_i32 : BitVec 32 := 16#32
  let c0_i32 : BitVec 32 := 0#32
  let v2 : BitVec 32 := Scalar.select v1 c16_i32 c0_i32
  let v3 : BitVec 32 := Scalar.addi v0 v2
  v3
def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v48 : BitVec 32 := Scalar.extui v0
  let c0_i32_28 : BitVec 32 := 0#32
  let v49 : BitVec 1 := Scalar.cmpi .ne v48 c0_i32_28
  v49

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v50 : BitVec 1 := Scalar.xori v0 v_true
  let v51 : BitVec 32 := Scalar.extui v50
  let c0_i32_29 : BitVec 32 := 0#32
  let v52 : BitVec 1 := Scalar.cmpi .ne v51 c0_i32_29
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3072_i32 : BitVec 32 := 3072#32
  let v0 : BitVec 32 := Scalar.muli arg2 c3072_i32
  let c1_i32 : BitVec 32 := 1#32
  let v1 : BitVec 1 := Scalar.cmpi .sge arg2 c1_i32
  let c16_i32 : BitVec 32 := 16#32
  let c0_i32 : BitVec 32 := 0#32
  let v2 : BitVec 32 := Scalar.select v1 c16_i32 c0_i32
  let v3 : BitVec 32 := Scalar.addi v0 v2
  let v4 : BitVec 32 := v3
  let c0_i32_0 : BitVec 32 := 0#32
  let v5 : BitVec 32 := Scalar.addi arg1 c0_i32_0
  let c1024_i32 : BitVec 32 := 1024#32
  let v6 : BitVec 32 := Scalar.muli v5 c1024_i32
  let c0_i32_1 : BitVec 32 := 0#32
  ![v4.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== UnGradRefIdeal.lean ====
abbrev S4352x9216 : Shape := ⟨2, ![4352, 9216]⟩
abbrev S9232x1024 : Shape := ⟨2, ![9232, 1024]⟩
abbrev S4352x1024 : Shape := ⟨2, ![4352, 1024]⟩
abbrev S1x1024 : Shape := ⟨2, ![1, 1024]⟩
abbrev S1024x9232 : Shape := ⟨2, ![1024, 9232]⟩
abbrev S1024x3072 : Shape := ⟨2, ![1024, 3072]⟩
abbrev S1024x6144 : Shape := ⟨2, ![1024, 6144]⟩
abbrev S1024x9216 : Shape := ⟨2, ![1024, 9216]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4352x9216, .bf16⟩
  | .hbm, ⟨1, _⟩ => ⟨S9232x1024, .bf16⟩
  | .hbm, ⟨2, _⟩ => ⟨S4352x1024, .f32⟩
  | .hbm, ⟨3, _⟩ => ⟨S4352x1024, .f32⟩
  | .hbm, ⟨4, _⟩ => ⟨S4352x1024, .f32⟩
  | .hbm, ⟨5, _⟩ => ⟨S1x1024, .f32⟩
  | .hbm, ⟨6, _⟩ => ⟨S9232x1024, .f32⟩
  | .hbm, ⟨7, _⟩ => ⟨S1024x9232, .f32⟩
  | .hbm, ⟨8, _⟩ => ⟨S1024x3072, .f32⟩
  | .hbm, ⟨9, _⟩ => ⟨S1024x6144, .f32⟩
  | .hbm, ⟨10, _⟩ => ⟨S1024x9216, .f32⟩
  | .hbm, ⟨11, _⟩ => ⟨S4352x1024, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S4352x1, .f32⟩
  | .hbm, ⟨22, _⟩ => ⟨S4352x1, .f32⟩
  | .hbm, ⟨23, _⟩ => ⟨S_, .f32⟩
  | .hbm, ⟨24, _⟩ => ⟨S4352x1, .f32⟩
  | .hbm, ⟨25, _⟩ => ⟨S4352x1, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S4352x1024, .f32⟩
  | .hbm, ⟨30, _⟩ => ⟨S4352x9216, .f32⟩
  | .hbm, ⟨31, _⟩ => ⟨S4352x9216, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4352x1024, .f32⟩
  | .hbm, ⟨39, _⟩ => ⟨S4352x1024, .f32⟩
  | .hbm, ⟨40, _⟩ => ⟨S4352x1024, .f32⟩
  | .hbm, ⟨41, _⟩ => ⟨S_, .f32⟩
  | .hbm, ⟨42, _⟩ => ⟨S4352, .f32⟩
  | .hbm, ⟨43, _⟩ => ⟨S4352x1, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1, .f32⟩
  | .hbm, ⟨48, _⟩ => ⟨S_, .f32⟩
  | .hbm, ⟨49, _⟩ => ⟨S4352x1, .f32⟩
  | .hbm, ⟨50, _⟩ => ⟨S4352x1, .f32⟩
  | .hbm, ⟨51, _⟩ => ⟨S_, .f32⟩
  | .hbm, ⟨52, _⟩ => ⟨S4352, .f32⟩
  | .hbm, ⟨53, _⟩ => ⟨S4352x1024, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x1024, .bf16⟩
  | _, _ => ⟨S4352x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== DownNorm.lean ====
abbrev S4352x1024 : Shape := ⟨2, ![4352, 1024]⟩
abbrev S4352x2816 : Shape := ⟨2, ![4352, 2816]⟩
abbrev S2816x1024 : Shape := ⟨2, ![2816, 1024]⟩
abbrev S1x1024 : Shape := ⟨2, ![1, 1024]⟩
abbrev S1088x2816 : Shape := ⟨2, ![1088, 2816]⟩
abbrev S1088x1024 : Shape := ⟨2, ![1088, 1024]⟩
abbrev S1088 : Shape := ⟨1, ![1088]⟩
abbrev S1088x1 : Shape := ⟨2, ![1088, 1]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S4352x2816, .bf16⟩
  | .hbm, ⟨2, _⟩ => ⟨S2816x1024, .bf16⟩
  | .hbm, ⟨3, _⟩ => ⟨S1x1024, .f32⟩
  | .hbm, ⟨4, _⟩ => ⟨S4352x1024, .f32⟩
  | .hbm, ⟨5, _⟩ => ⟨S4352x1024, .bf16⟩
  | .local _ .vmem, ⟨0, _⟩ => ⟨S1088x2816, .bf16⟩
  | .local _ .vmem, ⟨1, _⟩ => ⟨S1088x2816, .bf16⟩
  | .local _ .vmem, ⟨2, _⟩ => ⟨S2816x1024, .bf16⟩
  | .local _ .vmem, ⟨3, _⟩ => ⟨S1088x1024, .f32⟩
  | .local _ .vmem, ⟨4, _⟩ => ⟨S1088x1024, .f32⟩
  | .local _ .vmem, ⟨5, _⟩ => ⟨S1x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .bf16⟩
  | .local _ .vmem, ⟨9, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1088x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownNormRefIdeal.lean ====
abbrev S4352x1024 : Shape := ⟨2, ![4352, 1024]⟩
abbrev S4352x2816 : Shape := ⟨2, ![4352, 2816]⟩
abbrev S2816x1024 : Shape := ⟨2, ![2816, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 27
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x2816, .bf16⟩
  | .hbm, ⟨2, _⟩ => ⟨S2816x1024, .bf16⟩
  | .hbm, ⟨3, _⟩ => ⟨S1x1024, .f32⟩
  | .hbm, ⟨4, _⟩ => ⟨S4352x2816, .f32⟩
  | .hbm, ⟨5, _⟩ => ⟨S2816x1024, .f32⟩
  | .hbm, ⟨6, _⟩ => ⟨S4352x1024, .f32⟩
  | .hbm, ⟨7, _⟩ => ⟨S_, .f32⟩
  | .hbm, ⟨8, _⟩ => ⟨S4352x1024, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S4352x1, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== InProjDt.lean ====
abbrev S4352x1024 : Shape := ⟨2, ![4352, 1024]⟩
abbrev S9232x1024 : Shape := ⟨2, ![9232, 1024]⟩
abbrev S16x1024 : Shape := ⟨2, ![16, 1024]⟩
abbrev S_ : Shape := ⟨0, ![]⟩
abbrev S128x1024 : Shape := ⟨2, ![128, 1024]⟩
abbrev S4352x128 : Shape := ⟨2, ![4352, 128]⟩
abbrev S1088x1024 : Shape := ⟨2, ![1088, 1024]⟩
abbrev S1088x128 : Shape := ⟨2, ![1088, 128]⟩

abbrev nBuf : Space → Nat
  | .hbm => 7
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S9232x1024, .bf16⟩
  | .hbm, ⟨2, _⟩ => ⟨S16x1024, .bf16⟩
  | .hbm, ⟨3, _⟩ => ⟨S_, .i32⟩
  | .hbm, ⟨4, _⟩ => ⟨S_, .bf16⟩
  | .hbm, ⟨5, _⟩ => ⟨S128x1024, .bf16⟩
  | .hbm, ⟨6, _⟩ => ⟨S4352x128, .f32⟩
  | .local _ .vmem, ⟨0, _⟩ => ⟨S1088x1024, .bf16⟩
  | .local _ .vmem, ⟨1, _⟩ => ⟨S1088x1024, .bf16⟩
  | .local _ .vmem, ⟨2, _⟩ => ⟨S128x1024, .bf16⟩
  | .local _ .vmem, ⟨3, _⟩ => ⟨S1088x128, .f32⟩
  | .local _ .vmem, ⟨4, _⟩ => ⟨S1088x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDtRefIdeal.lean ====
abbrev S4352x1024 : Shape := ⟨2, ![4352, 1024]⟩
abbrev S9232x1024 : Shape := ⟨2, ![9232, 1024]⟩
abbrev S1024x9232 : Shape := ⟨2, ![1024, 9232]⟩
abbrev S1024x16 : Shape := ⟨2, ![1024, 16]⟩
abbrev S4352x16 : Shape := ⟨2, ![4352, 16]⟩
abbrev S_ : Shape := ⟨0, ![]⟩
abbrev S4352x112 : Shape := ⟨2, ![4352, 112]⟩
abbrev S4352x128 : Shape := ⟨2, ![4352, 128]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S9232x1024, .bf16⟩
  | .hbm, ⟨2, _⟩ => ⟨S4352x1024, .f32⟩
  | .hbm, ⟨3, _⟩ => ⟨S9232x1024, .f32⟩
  | .hbm, ⟨4, _⟩ => ⟨S1024x9232, .f32⟩
  | .hbm, ⟨5, _⟩ => ⟨S1024x16, .f32⟩
  | .hbm, ⟨6, _⟩ => ⟨S4352x16, .f32⟩
  | .hbm, ⟨7, _⟩ => ⟨S_, .f32⟩
  | .hbm, ⟨8, _⟩ => ⟨S4352x112, .f32⟩
  | .hbm, ⟨9, _⟩ => ⟨S4352x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UnGradDt.lean ====
abbrev S4352x128 : Shape := ⟨2, ![4352, 128]⟩
abbrev S9232x1024 : Shape := ⟨2, ![9232, 1024]⟩
abbrev S16x1024 : Shape := ⟨2, ![16, 1024]⟩
abbrev S_ : Shape := ⟨0, ![]⟩
abbrev S128x1024 : Shape := ⟨2, ![128, 1024]⟩
abbrev S4352x1024 : Shape := ⟨2, ![4352, 1024]⟩
abbrev S1088x128 : Shape := ⟨2, ![1088, 128]⟩
abbrev S1088x1024 : Shape := ⟨2, ![1088, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4352x128, .f32⟩
  | .hbm, ⟨1, _⟩ => ⟨S9232x1024, .bf16⟩
  | .hbm, ⟨2, _⟩ => ⟨S16x1024, .bf16⟩
  | .hbm, ⟨3, _⟩ => ⟨S_, .i32⟩
  | .hbm, ⟨4, _⟩ => ⟨S_, .bf16⟩
  | .hbm, ⟨5, _⟩ => ⟨S128x1024, .bf16⟩
  | .hbm, ⟨6, _⟩ => ⟨S4352x128, .bf16⟩
  | .hbm, ⟨7, _⟩ => ⟨S4352x1024, .f32⟩
  | .local _ .vmem, ⟨0, _⟩ => ⟨S1088x128, .bf16⟩
  | .local _ .vmem, ⟨1, _⟩ => ⟨S1088x128, .bf16⟩
  | .local _ .vmem, ⟨2, _⟩ => ⟨S128x1024, .bf16⟩
  | .local _ .vmem, ⟨3, _⟩ => ⟨S1088x1024, .f32⟩
  | .local _ .vmem, ⟨4, _⟩ => ⟨S1088x1024, .f32⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UnGradDtRefIdeal.lean ====
abbrev S4352x128 : Shape := ⟨2, ![4352, 128]⟩
abbrev S9232x1024 : Shape := ⟨2, ![9232, 1024]⟩
abbrev S_ : Shape := ⟨0, ![]⟩
abbrev S4352x1024 : Shape := ⟨2, ![4352, 1024]⟩
abbrev S1024x9232 : Shape := ⟨2, ![1024, 9232]⟩
abbrev S1024x16 : Shape := ⟨2, ![1024, 16]⟩
abbrev S4352x16 : Shape := ⟨2, ![4352, 16]⟩

abbrev nBuf : Space → Nat
  | .hbm => 10
  | .vmem => 0
  | .smem => 0
  | _ => 0

abbrev bufTy : (tb : Table) → Fin (tcTables nBuf tb) → BufTy
  | .hbm, ⟨0, _⟩ => ⟨S4352x128, .f32⟩
  | .hbm, ⟨1, _⟩ => ⟨S9232x1024, .bf16⟩
  | .hbm, ⟨2, _⟩ => ⟨S_, .f32⟩
  | .hbm, ⟨3, _⟩ => ⟨S4352x1024, .f32⟩
  | .hbm, ⟨4, _⟩ => ⟨S9232x1024, .f32⟩
  | .hbm, ⟨5, _⟩ => ⟨S1024x9232, .f32⟩
  | .hbm, ⟨6, _⟩ => ⟨S1024x16, .f32⟩
  | .hbm, ⟨7, _⟩ => ⟨S4352x16, .f32⟩
  | .hbm, ⟨8, _⟩ => ⟨S4352x16, .f32⟩
  | .hbm, ⟨9, _⟩ => ⟨S4352x1024, .f32⟩
  | _, _ => ⟨S4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InGradDt.lean ====
abbrev S4352x128 : Shape := ⟨2, ![4352, 128]⟩
abbrev S4352x1024 : Shape := ⟨2, ![4352, 1024]⟩
abbrev S128x1024 : Shape := ⟨2, ![128, 1024]⟩

abbrev nBuf : Space → Nat
  | .hbm => 4
  | .vmem => 3
  | .smem => 0
  | _ => 0

abbrev bufTy : (tb : Table) → Fin (tcTables nBuf tb) → BufTy
  | .hbm, ⟨0, _⟩ => ⟨S4352x128, .f32⟩
  | .hbm, ⟨1, _⟩ => ⟨S4352x1024, .bf16⟩
  | .hbm, ⟨2, _⟩ => ⟨S4352x128, .bf16⟩
  | .hbm, ⟨3, _⟩ => ⟨S128x1024, .bf16⟩
  | .local _ .vmem, ⟨0, _⟩ => ⟨S4352x128, .bf16⟩
  | .local _ .vmem, ⟨1, _⟩ => ⟨S4352x1024, .bf16⟩
  | .local _ .vmem, ⟨2, _⟩ => ⟨S128x1024, .bf16⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InGradDtRefIdeal.lean ====
abbrev S4352x128 : Shape := ⟨2, ![4352, 128]⟩
abbrev S4352x1024 : Shape := ⟨2, ![4352, 1024]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x128, .f32⟩
  | .hbm, ⟨1, _⟩ => ⟨S4352x1024, .bf16⟩
  | .hbm, ⟨2, _⟩ => ⟨S_, .f32⟩
  | .hbm, ⟨3, _⟩ => ⟨S1024x128, .f32⟩
  | .hbm, ⟨4, _⟩ => ⟨S4352x1024, .f32⟩
  | .hbm, ⟨5, _⟩ => ⟨S4352x128, .f32⟩
  | .hbm, ⟨6, _⟩ => ⟨S128x1024, .f32⟩
  | .hbm, ⟨7, _⟩ => ⟨S1024x128, .f32⟩
  | .hbm, ⟨8, _⟩ => ⟨S128x1024, .f32⟩
  | .hbm, ⟨9, _⟩ => ⟨S128x1024, .bf16⟩
  | _, _ => ⟨S4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvFwd.lean ====
abbrev S4352x9216 : Shape := ⟨2, ![4352, 9216]⟩
abbrev S4x2048 : Shape := ⟨2, ![4, 2048]⟩
abbrev S1x2048 : Shape := ⟨2, ![1, 2048]⟩
abbrev S4352x2048 : Shape := ⟨2, ![4352, 2048]⟩
abbrev S2176x256 : Shape := ⟨2, ![2176, 256]⟩
abbrev S4x256 : Shape := ⟨2, ![4, 256]⟩
abbrev S1x256 : Shape := ⟨2, ![1, 256]⟩
abbrev S384x256 : Shape := ⟨2, ![384, 256]⟩
abbrev S384x128 : Shape := ⟨2, ![384, 128]⟩
abbrev S128x256 : Shape := ⟨2, ![128, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S4352x9216, .bf16⟩
  | .hbm, ⟨1, _⟩ => ⟨S4x2048, .f32⟩
  | .hbm, ⟨2, _⟩ => ⟨S1x2048, .f32⟩
  | .hbm, ⟨3, _⟩ => ⟨S4352x2048, .bf16⟩
  | .local _ .vmem, ⟨0, _⟩ => ⟨S2176x256, .bf16⟩
  | .local _ .vmem, ⟨1, _⟩ => ⟨S2176x256, .bf16⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2176x256, .bf16⟩
  | .local _ .vmem, ⟨7, _⟩ => ⟨S2176x256, .bf16⟩
  | _, _ => ⟨S4352x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdRefIdeal.lean ====
abbrev S4352x9216 : Shape := ⟨2, ![4352, 9216]⟩
abbrev S4x2048 : Shape := ⟨2, ![4, 2048]⟩
abbrev S1x2048 : Shape := ⟨2, ![1, 2048]⟩
abbrev S4352x2048 : Shape := ⟨2, ![4352, 2048]⟩
abbrev S2x2176x2048 : Shape := ⟨3, ![2, 2176, 2048]⟩
abbrev S_ : Shape := ⟨0, ![]⟩
abbrev S2x3x2048 : Shape := ⟨3, ![2, 3, 2048]⟩
abbrev S2x2179x2048 : Shape := ⟨3, ![2, 2179, 2048]⟩
abbrev S2048 : Shape := ⟨1, ![2048]⟩
abbrev S1x1x2048 : Shape := ⟨3, ![1, 1, 2048]⟩
abbrev S2176 : Shape := ⟨1, ![2176]⟩
abbrev S1x2176x1 : Shape := ⟨3, ![1, 2176, 1]⟩

abbrev nBuf : Space → Nat
  | .hbm => 64
  | .vmem => 0
  | .smem => 0
  | _ => 0

abbrev bufTy : (tb : Table) → Fin (tcTables nBuf tb) → BufTy
  | .hbm, ⟨0, _⟩ => ⟨S4352x9216, .bf16⟩
  | .hbm, ⟨1, _⟩ => ⟨S4x2048, .f32⟩
  | .hbm, ⟨2, _⟩ => ⟨S1x2048, .f32⟩
  | .hbm, ⟨3, _⟩ => ⟨S4352x2048, .bf16⟩
  | .hbm, ⟨4, _⟩ => ⟨S4352x2048, .f32⟩
  | .hbm, ⟨5, _⟩ => ⟨S2x2176x2048, .f32⟩
  | .hbm, ⟨6, _⟩ => ⟨S_, .f32⟩
  | .hbm, ⟨7, _⟩ => ⟨S2x3x2048, .f32⟩
  | .hbm, ⟨8, _⟩ => ⟨S2x2179x2048, .f32⟩
  | .hbm, ⟨9, _⟩ => ⟨S1x2048, .f32⟩
  | .hbm, ⟨10, _⟩ => ⟨S2048, .f32⟩
  | .hbm, ⟨11, _⟩ => ⟨S2x2176x2048, .f32⟩
  | .hbm, ⟨12, _⟩ => ⟨S1x1x2048, .f32⟩
  | .hbm, ⟨13, _⟩ => ⟨S2x2176x2048, .f32⟩
  | .hbm, ⟨14, _⟩ => ⟨S2x2176x2048, .f32⟩
  | .hbm, ⟨15, _⟩ => ⟨S_, .f32⟩
  | .hbm, ⟨16, _⟩ => ⟨S2x2176x2048, .f32⟩
  | .hbm, ⟨17, _⟩ => ⟨S2x2176x2048, .f32⟩
  | .hbm, ⟨18, _⟩ => ⟨S1x2048, .f32⟩
  | .hbm, ⟨19, _⟩ => ⟨S2048, .f32⟩
  | .hbm, ⟨20, _⟩ => ⟨S2x2176x2048, .f32⟩
  | .hbm, ⟨21, _⟩ => ⟨S1x1x2048, .f32⟩
  | .hbm, ⟨22, _⟩ => ⟨S2x2176x2048, .f32⟩
  | .hbm, ⟨23, _⟩ => ⟨S2x2176x2048, .f32⟩
  | .hbm, ⟨24, _⟩ => ⟨S2x2176x2048, .f32⟩
  | .hbm, ⟨25, _⟩ => ⟨S1x2048, .f32⟩
  | .hbm, ⟨26, _⟩ => ⟨S2048, .f32⟩
  | .hbm, ⟨27, _⟩ => ⟨S2x2176x2048, .f32⟩
  | .hbm, ⟨28, _⟩ => ⟨S1x1x2048, .f32⟩
  | .hbm, ⟨29, _⟩ => ⟨S2x2176x2048, .f32⟩
  | .hbm, ⟨30, _⟩ => ⟨S2x2176x2048, .f32⟩
  | .hbm, ⟨31, _⟩ => ⟨S2x2176x2048, .f32⟩
  | .hbm, ⟨32, _⟩ => ⟨S1x2048, .f32⟩
  | .hbm, ⟨33, _⟩ => ⟨S2048, .f32⟩
  | .hbm, ⟨34, _⟩ => ⟨S2x2176x2048, .f32⟩
  | .hbm, ⟨35, _⟩ => ⟨S1x1x2048, .f32⟩
  | .hbm, ⟨36, _⟩ => ⟨S2x2176x2048, .f32⟩
  | .hbm, ⟨37, _⟩ => ⟨S2x2176x2048, .f32⟩
  | .hbm, ⟨38, _⟩ => ⟨S2x2176x2048, .f32⟩
  | .hbm, ⟨39, _⟩ => ⟨S2048, .f32⟩
  | .hbm, ⟨40, _⟩ => ⟨S1x1x2048, .f32⟩
  | .hbm, ⟨41, _⟩ => ⟨S2x2176x2048, .f32⟩
  | .hbm, ⟨42, _⟩ => ⟨S2x2176x2048, .f32⟩
  | .hbm, ⟨43, _⟩ => ⟨S2176, .i32⟩
  | .hbm, ⟨44, _⟩ => ⟨S1x2176x1, .i32⟩
  | .hbm, ⟨45, _⟩ => ⟨S_, .i32⟩
  | .hbm, ⟨46, _⟩ => ⟨S1x2176x1, .i32⟩
  | .hbm, ⟨47, _⟩ => ⟨S1x2176x1, .i1⟩
  | .hbm, ⟨48, _⟩ => ⟨S2x2176x2048, .f32⟩
  | .hbm, ⟨49, _⟩ => ⟨S2x2176x2048, .f32⟩
  | .hbm, ⟨50, _⟩ => ⟨S_, .f32⟩
  | .hbm, ⟨51, _⟩ => ⟨S2x2176x2048, .f32⟩
  | .hbm, ⟨52, _⟩ => ⟨S2x2176x2048, .f32⟩
  | .hbm, ⟨53, _⟩ => ⟨S_, .f32⟩
  | .hbm, ⟨54, _⟩ => ⟨S2x2176x2048, .f32⟩
  | .hbm, ⟨55, _⟩ => ⟨S2x2176x2048, .f32⟩
  | .hbm, ⟨56, _⟩ => ⟨S2x2176x2048, .f32⟩
  | .hbm, ⟨57, _⟩ => ⟨S_, .f32⟩
  | .hbm, ⟨58, _⟩ => ⟨S_, .f32⟩
  | .hbm, ⟨59, _⟩ => ⟨S2x2176x2048, .i1⟩
  | .hbm, ⟨60, _⟩ => ⟨S2x2176x2048, .f32⟩
  | .hbm, ⟨61, _⟩ => ⟨S2x2176x2048, .f32⟩
  | .hbm, ⟨62, _⟩ => ⟨S4352x2048, .f32⟩
  | .hbm, ⟨63, _⟩ => ⟨S4352x2048, .bf16⟩
  | _, _ => ⟨S4352x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_c : Ref sig .tc := ⟨.hbm, 45, rfl⟩
abbrev main_v40 : Ref sig .tc := ⟨.hbm, 46, rfl⟩
abbrev main_v41 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v42 : Ref sig .tc := ⟨.hbm, 56, rfl⟩
abbrev main_cst_1 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Proof.ConvShift.lean ====
module

public import proofs.«01_k».proof.Proof.Gen.ConvIdeal.Skeleton
public import Idealize.ShloMosaic.Lib.Pipeline.ValueKit
public import Idealize.ShloMosaic.Lib.Pointwise
public import Idealize.ShloMosaic.Lib.WordCmp

/-! # The shifted rows of the convolution's input

The kernel moves the rows of its block by multiplying with a 0/1 matrix of 384 rows, 128 rows of the input at a time.
Here the three moved blocks are read at an index: the block moved by `s` has at row `r` the input's row `r − s`, and zero
in the first `s` rows. No value needs to be finite: a zero of the matrix times an infinity is zero. -/

@[expose] public section

set_option maxRecDepth 16384

noncomputable section

namespace Cert.ConvIdeal.Shift

open Cert.ConvIdeal Cert.ConvIdeal.Gen Idealize.ShloMosaic Idealize.ShloMosaic.TcCoe Idealize.SL.Sem

/-- The column numbers of the move matrix. -/
def cols : IVec S384x256 32 := iota .tc S384x256 32 [1] iota_S384x256_d1_w32

/-- The 0/1 move matrix as the kernel forms it. -/
def move : FVec Ideal S384x256 .bf16 := k0_pay7 (F := Ideal) cols k0_pay4 k0_pay5 k0_pay6

/-- Row `r` of the move matrix has its only one at column `128 + r % 128 − (r / 128 + 1)`. -/
theorem move_apply (r : Fin 384) (c : Fin 256) :
    move (ix2 r c : S384x256.Idx) = if c.val = 128 + r.val % 128 - (r.val / 128 + 1) then 1 else 0 := by
  unfold move cols
  pointwise [k0_pay7, k0_pay4, k0_pay5, k0_pay6]
  refine Eq.trans (congrArg (fun w => FloatOps.sitofp (F := Ideal) FTy.f32 (BitVec.setWidth 32 (IntOp.cmpi CmpIPredicate.eq (BitVec.ofNat 32 ↑c) w)))
    (?_ : _ = BitVec.ofNat 32 (128 + r.val % 128 - (r.val / 128 + 1)))) ?_
  · revert r; decide +kernel
  · have h := r.isLt
    rw [WordCmp.cmpi_eq_ofNat (by omega) (by omega)]
    by_cases hc : c.val = 128 + r.val % 128 - (r.val / 128 + 1)
    · rw [if_pos hc, decide_eq_true hc]
      show (((1 : ℤ) : ℝ) : EReal) = 1
      norm_num
    · rw [if_neg hc, decide_eq_false hc]
      show (((0 : ℤ) : ℝ) : EReal) = 0
      norm_num

/-- The value of `x` at row `k`, and zero past the last row. -/
def row (x : FVec Ideal S2176x256 .bf16) (k : ℕ) (c : Fin 256) : EReal :=
  if h : k < 2176 then x (ix2 ⟨k, h⟩ c : S2176x256.Idx) else 0

theorem row_eq (x : FVec Ideal S2176x256 .bf16) (k : ℕ) (h : k < 2176) (c : Fin 256) :
    x (ix2 ⟨k, h⟩ c : S2176x256.Idx) = row x k c := by rw [row, dif_pos h]

theorem row_val (x : FVec Ideal S2176x256 .bf16) (r : Fin 2176) (c : Fin 256) :
    x (ix2 r c : S2176x256.Idx) = row x r.val c := row_eq x r.val r.isLt c

/-- A sum against the indicator of one position is the term at that position. -/
theorem sum_indicator {n : ℕ} (a : ℕ) (h : a < n) (f : ℕ → EReal) :
    (∑ k : Fin n, (if k.val = a then (1 : EReal) else 0) * f k.val) = f a := by
  rw [Finset.sum_eq_single (⟨a, h⟩ : Fin n)]
  · rw [if_pos rfl, one_mul]
  · intro b _ hb
    rw [if_neg (fun e => hb (Fin.ext e)), zero_mul]
  · intro hb; exact absurd (Finset.mem_univ _) hb

/-- The same with the position counted from 128: a position before it leaves zero. -/
theorem sum_indicator_from (a : ℕ) (h : a < 256) (f : ℕ → EReal) :
    (∑ k : Fin 128, (if 128 + k.val = a then (1 : EReal) else 0) * f k.val) = if 128 ≤ a then f (a - 128) else 0 := by
  by_cases ha : 128 ≤ a
  · rw [if_pos ha, ← sum_indicator (a - 128) (n := 128) (by omega) f]
    refine Finset.sum_congr rfl fun k _ => ?_
    congr 1
    exact if_congr (by omega) rfl rfl
  · rw [if_neg ha]
    refine Finset.sum_eq_zero fun k _ => ?_
    rw [if_neg (by omega), zero_mul]

/-- The product with the first 128 rows. -/
theorem prod0 (x : FVec Ideal S2176x256 .bf16) (r : Fin 384) (c : Fin 256) :
    (k0_pay8 (F := Ideal) x cols k0_pay4 k0_pay5 k0_pay6 (ix2 r c : S384x256.Idx) : EReal)
      = if r.val / 128 + 1 ≤ 0 + r.val % 128 then row x (0 + r.val % 128 - (r.val / 128 + 1)) c else 0 := by
  have h := r.isLt
  unfold k0_pay8
  rw [show k0_pay7 (F := Ideal) cols k0_pay4 k0_pay5 k0_pay6 = move from rfl]
  pointwise
  simp only [move_apply, row_eq]
  rw [sum_indicator_from _ (by omega) (fun k => row x k c)]
  refine if_congr (by omega) (by congr 1; omega) rfl

/-- The product with the 256 rows from 0. -/
theorem prod1 (x : FVec Ideal S2176x256 .bf16) (r : Fin 384) (c : Fin 256) :
    (k0_pay12 (F := Ideal) x cols k0_pay4 k0_pay5 k0_pay6 (ix2 r c : S384x256.Idx) : EReal)
      = if r.val / 128 + 1 ≤ 128 + r.val % 128 then row x (128 + r.val % 128 - (r.val / 128 + 1)) c else 0 := by
  have h := r.isLt
  unfold k0_pay12
  rw [show k0_pay7 (F := Ideal) cols k0_pay4 k0_pay5 k0_pay6 = move from rfl]
  pointwise
  simp only [move_apply, row_eq]
  rw [sum_indicator _ (by omega) (fun k => row x (k) c), if_pos (by omega)]

/-- The product with the 256 rows from 128. -/
theorem prod2 (x : FVec Ideal S2176x256 .bf16) (r : Fin 384) (c : Fin 256) :
    (k0_pay16 (F := Ideal) x cols k0_pay4 k0_pay5 k0_pay6 (ix2 r c : S384x256.Idx) : EReal)
      = if r.val / 128 + 1 ≤ 256 + r.val % 128 then row x (256 + r.val % 128 - (r.val / 128 + 1)) c else 0 := by
  have h := r.isLt
  unfold k0_pay16
  rw [show k0_pay7 (F := Ideal) cols k0_pay4 k0_pay5 k0_pay6 = move from rfl]
  pointwise
  simp only [move_apply, row_eq]
  rw [sum_indicator _ (by omega) (fun k => row x (128 + k) c), if_pos (by omega)]
  congr 1; omega

/-- The product with the 256 rows from 256. -/
theorem prod3 (x : FVec Ideal S2176x256 .bf16) (r : Fin 384) (c : Fin 256) :
    (k0_pay20 (F := Ideal) x cols k0_pay4 k0_pay5 k0_pay6 (ix2 r c : S384x256.Idx) : EReal)
      = if r.val / 128 + 1 ≤ 384 + r.val % 128 then row x (384 + r.val % 128 - (r.val / 128 + 1)) c else 0 := by
  have h := r.isLt
  unfold k0_pay20
  rw [show k0_pay7 (F := Ideal) cols k0_pay4 k0_pay5 k0_pay6 = move from rfl]
  pointwise
  simp only [move_apply, row_eq]
  rw [sum_indicator _ (by omega) (fun k => row x (256 + k) c), if_pos (by omega)]
  congr 1; omega

/-- The product with the 256 rows from 384. -/
theorem prod4 (x : FVec Ideal S2176x256 .bf16) (r : Fin 384) (c : Fin 256) :
    (k0_pay24 (F := Ideal) x cols k0_pay4 k0_pay5 k0_pay6 (ix2 r c : S384x256.Idx) : EReal)
      = if r.val / 128 + 1 ≤ 512 + r.val % 128 then row x (512 + r.val % 128 - (r.val / 128 + 1)) c else 0 := by
  have h := r.isLt
  unfold k0_pay24
  rw [show k0_pay7 (F := Ideal) cols k0_pay4 k0_pay5 k0_pay6 = move from rfl]
  pointwise
  simp only [move_apply, row_eq]
  rw [sum_indicator _ (by omega) (fun k => row x (384 + k) c), if_pos (by omega)]
  congr 1; omega

/-- The product with the 256 rows from 512. -/
theorem prod5 (x : FVec Ideal S2176x256 .bf16) (r : Fin 384) (c : Fin 256) :
    (k0_pay28 (F := Ideal) x cols k0_pay4 k0_pay5 k0_pay6 (ix2 r c : S384x256.Idx) : EReal)
      = if r.val / 128 + 1 ≤ 640 + r.val % 128 then row x (640 + r.val % 128 - (r.val / 128 + 1)) c else 0 := by
  have h := r.isLt
  unfold k0_pay28
  rw [show k0_pay7 (F := Ideal) cols k0_pay4 k0_pay5 k0_pay6 = move from rfl]
  pointwise
  simp only [move_apply, row_eq]
  rw [sum_indicator _ (by omega) (fun k => row x (512 + k) c), if_pos (by omega)]
  congr 1; omega

/-- The product with the 256 rows from 640. -/
theorem prod6 (x : FVec Ideal S2176x256 .bf16) (r : Fin 384) (c : Fin 256) :
    (k0_pay32 (F := Ideal) x cols k0_pay4 k0_pay5 k0_pay6 (ix2 r c : S384x256.Idx) : EReal)
      = if r.val / 128 + 1 ≤ 768 + r.val % 128 then row x (768 + r.val % 128 - (r.val / 128 + 1)) c else 0 := by
  have h := r.isLt
  unfold k0_pay32
  rw [show k0_pay7 (F := Ideal) cols k0_pay4 k0_pay5 k0_pay6 = move from rfl]
  pointwise
  simp only [move_apply, row_eq]
  rw [sum_indicator _ (by omega) (fun k => row x (640 + k) c), if_pos (by omega)]
  congr 1; omega

/-- The product with the 256 rows from 768. -/
theorem prod7 (x : FVec Ideal S2176x256 .bf16) (r : Fin 384) (c : Fin 256) :
    (k0_pay36 (F := Ideal) x cols k0_pay4 k0_pay5 k0_pay6 (ix2 r c : S384x256.Idx) : EReal)
      = if r.val / 128 + 1 ≤ 896 + r.val % 128 then row x (896 + r.val % 128 - (r.val / 128 + 1)) c else 0 := by
  have h := r.isLt
  unfold k0_pay36
  rw [show k0_pay7 (F := Ideal) cols k0_pay4 k0_pay5 k0_pay6 = move from rfl]
  pointwise
  simp only [move_apply, row_eq]
  rw [sum_indicator _ (by omega) (fun k => row x (768 + k) c), if_pos (by omega)]
  congr 1; omega

/-- The product with the 256 rows from 896. -/
theorem prod8 (x : FVec Ideal S2176x256 .bf16) (r : Fin 384) (c : Fin 256) :
    (k0_pay39 (F := Ideal) x move (ix2 r c : S384x256.Idx) : EReal)
      = if r.val / 128 + 1 ≤ 1024 + r.val % 128 then row x (1024 + r.val % 128 - (r.val / 128 + 1)) c else 0 := by
  have h := r.isLt
  unfold k0_pay39
  pointwise
  simp only [move_apply, row_eq]
  rw [sum_indicator _ (by omega) (fun k => row x (896 + k) c), if_pos (by omega)]
  congr 1; omega

/-- The product with the 256 rows from 1024. -/
theorem prod9 (x : FVec Ideal S2176x256 .bf16) (r : Fin 384) (c : Fin 256) :
    (k0_pay40 (F := Ideal) x move (ix2 r c : S384x256.Idx) : EReal)
      = if r.val / 128 + 1 ≤ 1152 + r.val % 128 then row x (1152 + r.val % 128 - (r.val / 128 + 1)) c else 0 := by
  have h := r.isLt
  unfold k0_pay40
  pointwise
  simp only [move_apply, row_eq]
  rw [sum_indicator _ (by omega) (fun k => row x (1024 + k) c), if_pos (by omega)]
  congr 1; omega

/-- The product with the 256 rows from 1152. -/
theorem prod10 (x : FVec Ideal S2176x256 .bf16) (r : Fin 384) (c : Fin 256) :
    (k0_pay41 (F := Ideal) x move (ix2 r c : S384x256.Idx) : EReal)
      = if r.val / 128 + 1 ≤ 1280 + r.val % 128 then row x (1280 + r.val % 128 - (r.val / 128 + 1)) c else 0 := by
  have h := r.isLt
  unfold k0_pay41
  pointwise
  simp only [move_apply, row_eq]
  rw [sum_indicator _ (by omega) (fun k => row x (1152 + k) c), if_pos (by omega)]
  congr 1; omega

/-- The product with the 256 rows from 1280. -/
theorem prod11 (x : FVec Ideal S2176x256 .bf16) (r : Fin 384) (c : Fin 256) :
    (k0_pay42 (F := Ideal) x move (ix2 r c : S384x256.Idx) : EReal)
      = if r.val / 128 + 1 ≤ 1408 + r.val % 128 then row x (1408 + r.val % 128 - (r.val / 128 + 1)) c else 0 := by
  have h := r.isLt
  unfold k0_pay42
  pointwise
  simp only [move_apply, row_eq]
  rw [sum_indicator _ (by omega) (fun k => row x (1280 + k) c), if_pos (by omega)]
  congr 1; omega

/-- The product with the 256 rows from 1408. -/
theorem prod12 (x : FVec Ideal S2176x256 .bf16) (r : Fin 384) (c : Fin 256) :
    (k0_pay43 (F := Ideal) x move (ix2 r c : S384x256.Idx) : EReal)
      = if r.val / 128 + 1 ≤ 1536 + r.val % 128 then row x (1536 + r.val % 128 - (r.val / 128 + 1)) c else 0 := by
  have h := r.isLt
  unfold k0_pay43
  pointwise
  simp only [move_apply, row_eq]
  rw [sum_indicator _ (by omega) (fun k => row x (1408 + k) c), if_pos (by omega)]
  congr 1; omega

/-- The product with the 256 rows from 1536. -/
theorem prod13 (x : FVec Ideal S2176x256 .bf16) (r : Fin 384) (c : Fin 256) :
    (k0_pay44 (F := Ideal) x move (ix2 r c : S384x256.Idx) : EReal)
      = if r.val / 128 + 1 ≤ 1664 + r.val % 128 then row x (1664 + r.val % 128 - (r.val / 128 + 1)) c else 0 := by
  have h := r.isLt
  unfold k0_pay44
  pointwise
  simp only [move_apply, row_eq]
  rw [sum_indicator _ (by omega) (fun k => row x (1536 + k) c), if_pos (by omega)]
  congr 1; omega

/-- The product with the 256 rows from 1664. -/
theorem prod14 (x : FVec Ideal S2176x256 .bf16) (r : Fin 384) (c : Fin 256) :
    (k0_pay45 (F := Ideal) x move (ix2 r c : S384x256.Idx) : EReal)
      = if r.val / 128 + 1 ≤ 1792 + r.val % 128 then row x (1792 + r.val % 128 - (r.val / 128 + 1)) c else 0 := by
  have h := r.isLt
  unfold k0_pay45
  pointwise
  simp only [move_apply, row_eq]
  rw [sum_indicator _ (by omega) (fun k => row x (1664 + k) c), if_pos (by omega)]
  congr 1; omega

/-- The product with the 256 rows from 1792. -/
theorem prod15 (x : FVec Ideal S2176x256 .bf16) (r : Fin 384) (c : Fin 256) :
    (k0_pay46 (F := Ideal) x move (ix2 r c : S384x256.Idx) : EReal)
      = if r.val / 128 + 1 ≤ 1920 + r.val % 128 then row x (1920 + r.val % 128 - (r.val / 128 + 1)) c else 0 := by
  have h := r.isLt
  unfold k0_pay46
  pointwise
  simp only [move_apply, row_eq]
  rw [sum_indicator _ (by omega) (fun k => row x (1792 + k) c), if_pos (by omega)]
  congr 1; omega

/-- The product with the 256 rows from 1920. -/
theorem prod16 (x : FVec Ideal S2176x256 .bf16) (r : Fin 384) (c : Fin 256) :
    (k0_pay47 (F := Ideal) x move (ix2 r c : S384x256.Idx) : EReal)
      = if r.val / 128 + 1 ≤ 2048 + r.val % 128 then row x (2048 + r.val % 128 - (r.val / 128 + 1)) c else 0 := by
  have h := r.isLt
  unfold k0_pay47
  pointwise
  simp only [move_apply, row_eq]
  rw [sum_indicator _ (by omega) (fun k => row x (1920 + k) c), if_pos (by omega)]
  congr 1; omega

/-- The seventeen products, in the order of their rows. -/
def prods (x : FVec Ideal S2176x256 .bf16) : Fin 17 → FVec Ideal S384x256 .f32 :=
  ![k0_pay8 x cols k0_pay4 k0_pay5 k0_pay6,
    k0_pay12 x cols k0_pay4 k0_pay5 k0_pay6,
    k0_pay16 x cols k0_pay4 k0_pay5 k0_pay6,
    k0_pay20 x cols k0_pay4 k0_pay5 k0_pay6,
    k0_pay24 x cols k0_pay4 k0_pay5 k0_pay6,
    k0_pay28 x cols k0_pay4 k0_pay5 k0_pay6,
    k0_pay32 x cols k0_pay4 k0_pay5 k0_pay6,
    k0_pay36 x cols k0_pay4 k0_pay5 k0_pay6,
    k0_pay39 x move,
    k0_pay40 x move,
    k0_pay41 x move,
    k0_pay42 x move,
    k0_pay43 x move,
    k0_pay44 x move,
    k0_pay45 x move,
    k0_pay46 x move,
    k0_pay47 x move]

/-- Each of the seventeen products at an index. -/
theorem prods_apply (x : FVec Ideal S2176x256 .bf16) (n : Fin 17) (r : Fin 384) (c : Fin 256) :
    (prods x n (ix2 r c : S384x256.Idx) : EReal)
      = if r.val / 128 + 1 ≤ 128 * n.val + r.val % 128 then row x (128 * n.val + r.val % 128 - (r.val / 128 + 1)) c else 0 := by
  fin_vals n with hn
  · obtain rfl : n = 0 := Fin.ext hn
    exact prod0 x r c
  · obtain rfl : n = 1 := Fin.ext hn
    exact prod1 x r c
  · obtain rfl : n = 2 := Fin.ext hn
    exact prod2 x r c
  · obtain rfl : n = 3 := Fin.ext hn
    exact prod3 x r c
  · obtain rfl : n = 4 := Fin.ext hn
    exact prod4 x r c
  · obtain rfl : n = 5 := Fin.ext hn
    exact prod5 x r c
  · obtain rfl : n = 6 := Fin.ext hn
    exact prod6 x r c
  · obtain rfl : n = 7 := Fin.ext hn
    exact prod7 x r c
  · obtain rfl : n = 8 := Fin.ext hn
    exact prod8 x r c
  · obtain rfl : n = 9 := Fin.ext hn
    exact prod9 x r c
  · obtain rfl : n = 10 := Fin.ext hn
    exact prod10 x r c
  · obtain rfl : n = 11 := Fin.ext hn
    exact prod11 x r c
  · obtain rfl : n = 12 := Fin.ext hn
    exact prod12 x r c
  · obtain rfl : n = 13 := Fin.ext hn
    exact prod13 x r c
  · obtain rfl : n = 14 := Fin.ext hn
    exact prod14 x r c
  · obtain rfl : n = 15 := Fin.ext hn
    exact prod15 x r c
  · obtain rfl : n = 16 := Fin.ext hn
    exact prod16 x r c

/-- The block moved down by 1 row, as the kernel forms it. -/
def tap1 (x : FVec Ideal S2176x256 .bf16) : FVec Ideal S2176x256 .f32 :=
  k0_pay48 x move (k0_pay9 x cols k0_pay4 k0_pay5 k0_pay6)
    (k0_pay13 x cols k0_pay4 k0_pay5 k0_pay6)
    (k0_pay17 x cols k0_pay4 k0_pay5 k0_pay6)
    (k0_pay21 x cols k0_pay4 k0_pay5 k0_pay6)
    (k0_pay25 x cols k0_pay4 k0_pay5 k0_pay6)
    (k0_pay29 x cols k0_pay4 k0_pay5 k0_pay6)
    (k0_pay33 x cols k0_pay4 k0_pay5 k0_pay6)
    (k0_pay37 x cols k0_pay4 k0_pay5 k0_pay6)

/-- It has the input's row `r − 1` at row `r`, and zero in the first 1. -/
theorem tap1_apply (x : FVec Ideal S2176x256 .bf16) (r : Fin 2176) (c : Fin 256) :
    (tap1 x (ix2 r c : S2176x256.Idx) : EReal) = if 1 ≤ r.val then row x (r.val - 1) c else 0 := by
  have h := r.isLt
  have e : tap1 x (ix2 r c : S2176x256.Idx)
      = extractStridedSlice S128x256 ![0, 0] (prods x ⟨r.val / 128, by omega⟩) slices_S384x256_o0_0_S128x256
          (ix2 ⟨r.val % 128, by omega⟩ c : S128x256.Idx) :=
    concatenate_ofFn_apply (t := S2176x256) (s₁ := S128x256) 0
      (fun n : Fin 17 => extractStridedSlice S128x256 ![0, 0] (prods x n) slices_S384x256_o0_0_S128x256)
      concatenates_S128x256_S128x256_S128x256_S128x256_S128x256_S128x256_S128x256_S128x256_S128x256_S128x256_S128x256_S128x256_S128x256_S128x256_S128x256_S128x256_S128x256_S2176x256_d0
      rfl 128 rfl (ix2 r c : S2176x256.Idx) ⟨r.val / 128, by omega⟩ rfl (ix2 ⟨r.val % 128, by omega⟩ c : S128x256.Idx) rfl
      (fun b hb => by
        match b with
        | 0 => exact absurd rfl hb
        | 1 => rfl)
  rw [e]
  pointwise
  rw [prods_apply]
  dsimp only
  refine if_congr (by omega) (by congr 1; omega) rfl

/-- The block moved down by 2 rows, as the kernel forms it. -/
def tap2 (x : FVec Ideal S2176x256 .bf16) : FVec Ideal S2176x256 .f32 :=
  k0_pay49 x move (k0_pay10 x cols k0_pay4 k0_pay5 k0_pay6)
    (k0_pay14 x cols k0_pay4 k0_pay5 k0_pay6)
    (k0_pay18 x cols k0_pay4 k0_pay5 k0_pay6)
    (k0_pay22 x cols k0_pay4 k0_pay5 k0_pay6)
    (k0_pay26 x cols k0_pay4 k0_pay5 k0_pay6)
    (k0_pay30 x cols k0_pay4 k0_pay5 k0_pay6)
    (k0_pay34 x cols k0_pay4 k0_pay5 k0_pay6)
    (k0_pay38 x cols k0_pay4 k0_pay5 k0_pay6)

/-- It has the input's row `r − 2` at row `r`, and zero in the first 2. -/
theorem tap2_apply (x : FVec Ideal S2176x256 .bf16) (r : Fin 2176) (c : Fin 256) :
    (tap2 x (ix2 r c : S2176x256.Idx) : EReal) = if 2 ≤ r.val then row x (r.val - 2) c else 0 := by
  have h := r.isLt
  have e : tap2 x (ix2 r c : S2176x256.Idx)
      = extractStridedSlice S128x256 ![128, 0] (prods x ⟨r.val / 128, by omega⟩) slices_S384x256_o128_0_S128x256
          (ix2 ⟨r.val % 128, by omega⟩ c : S128x256.Idx) :=
    concatenate_ofFn_apply (t := S2176x256) (s₁ := S128x256) 0
      (fun n : Fin 17 => extractStridedSlice S128x256 ![128, 0] (prods x n) slices_S384x256_o128_0_S128x256)
      concatenates_S128x256_S128x256_S128x256_S128x256_S128x256_S128x256_S128x256_S128x256_S128x256_S128x256_S128x256_S128x256_S128x256_S128x256_S128x256_S128x256_S128x256_S2176x256_d0
      rfl 128 rfl (ix2 r c : S2176x256.Idx) ⟨r.val / 128, by omega⟩ rfl (ix2 ⟨r.val % 128, by omega⟩ c : S128x256.Idx) rfl
      (fun b hb => by
        match b with
        | 0 => exact absurd rfl hb
        | 1 => rfl)
  rw [e]
  pointwise
  rw [prods_apply]
  dsimp only
  refine if_congr (by omega) (by congr 1; omega) rfl

/-- The block moved down by 3 rows, as the kernel forms it. -/
def tap3 (x : FVec Ideal S2176x256 .bf16) : FVec Ideal S2176x256 .f32 :=
  k0_pay50 x move (k0_pay11 x cols k0_pay4 k0_pay5 k0_pay6)
    (k0_pay15 x cols k0_pay4 k0_pay5 k0_pay6)
    (k0_pay19 x cols k0_pay4 k0_pay5 k0_pay6)
    (k0_pay23 x cols k0_pay4 k0_pay5 k0_pay6)
    (k0_pay27 x cols k0_pay4 k0_pay5 k0_pay6)
    (k0_pay31 x cols k0_pay4 k0_pay5 k0_pay6)
    (k0_pay35 x cols k0_pay4 k0_pay5 k0_pay6)
    (k0_pay36 x cols k0_pay4 k0_pay5 k0_pay6)

/-- It has the input's row `r − 3` at row `r`, and zero in the first 3. -/
theorem tap3_apply (x : FVec Ideal S2176x256 .bf16) (r : Fin 2176) (c : Fin 256) :
    (tap3 x (ix2 r c : S2176x256.Idx) : EReal) = if 3 ≤ r.val then row x (r.val - 3) c else 0 := by
  have h := r.isLt
  have e : tap3 x (ix2 r c : S2176x256.Idx)
      = extractStridedSlice S128x256 ![256, 0] (prods x ⟨r.val / 128, by omega⟩) slices_S384x256_o256_0_S128x256
          (ix2 ⟨r.val % 128, by omega⟩ c : S128x256.Idx) :=
    concatenate_ofFn_apply (t := S2176x256) (s₁ := S128x256) 0
      (fun n : Fin 17 => extractStridedSlice S128x256 ![256, 0] (prods x n) slices_S384x256_o256_0_S128x256)
      concatenates_S128x256_S128x256_S128x256_S128x256_S128x256_S128x256_S128x256_S128x256_S128x256_S128x256_S128x256_S128x256_S128x256_S128x256_S128x256_S128x256_S128x256_S2176x256_d0
      rfl 128 rfl (ix2 r c : S2176x256.Idx) ⟨r.val / 128, by omega⟩ rfl (ix2 ⟨r.val % 128, by omega⟩ c : S128x256.Idx) rfl
      (fun b hb => by
        match b with
        | 0 => exact absurd rfl hb
        | 1 => rfl)
  rw [e]
  pointwise
  rw [prods_apply]
  dsimp only
  refine if_congr (by omega) (by congr 1; omega) rfl

end Cert.ConvIdeal.Shift
end
-- ==== Proof.Silu.lean ====
module

public import Idealize.ShloMosaic.Lib.Pipeline.ValueKit
public import Idealize.ShloMosaic.Lib.Pointwise

/-! # The logistic function and the gradient of silu over the extended reals

The kernels write the logistic function as `½ · tanh (½ · y) + ½`, the reference as `1 / (1 + exp (−y))`. The kernels write
the gradient of `y · σ(y)` as `σ · (1 + y · (1 − σ))`, the reference as the two terms the product rule gives. The two pairs
agree, the second one where the cotangent is finite. -/

@[expose] public section

noncomputable section

namespace Cert.Silu

open Idealize.ShloMosaic

/-- The word of one half. -/
theorem half_eq : (Ideal.ofBits FTy.f32 1056964608#32 : EReal) = ((1 / 2 : ℝ) : EReal) := by
  simp [Ideal.ofBits, Ideal.ieee, -EReal.coe_mul]; norm_num

/-- The logistic function as the reference writes it. -/
def sigmoid (y : EReal) : EReal := Ideal.div 1 (1 + Ideal.exp (-y))

/-- … on a real number. -/
theorem sigmoid_coe (y : ℝ) : sigmoid (y : EReal) = ((1 / (1 + Real.exp (-y)) : ℝ) : EReal) := by
  have h : (1 + Real.exp (-y) : ℝ) ≠ 0 := by positivity
  unfold sigmoid
  rw [← EReal.coe_neg, Ideal.exp_coe, ← EReal.coe_one, ← EReal.coe_add, Ideal.div_coe h, ← EReal.coe_mul, one_mul]

/-- … at plus infinity. -/
theorem sigmoid_top : sigmoid ⊤ = 1 := by
  unfold sigmoid
  rw [EReal.neg_top, Ideal.exp_bot, add_zero]
  rw [← EReal.coe_one, Ideal.div_coe one_ne_zero]; norm_num

/-- … at minus infinity. -/
theorem sigmoid_bot : sigmoid ⊥ = 0 := by
  unfold sigmoid
  rw [EReal.neg_bot, Ideal.exp_top, ← EReal.coe_one, EReal.coe_add_top]
  unfold Ideal.div
  rw [if_neg (by simp)]; simp

/-- The kernel's form of the logistic function is the reference's. -/
theorem half_tanh (y : EReal) :
    (Ideal.ofBits FTy.f32 1056964608#32 : EReal) * Ideal.tanh ((Ideal.ofBits FTy.f32 1056964608#32 : EReal) * y)
      + (Ideal.ofBits FTy.f32 1056964608#32 : EReal) = sigmoid y := by
  rw [half_eq]
  induction y with
  | bot =>
    rw [EReal.coe_mul_bot_of_pos (by norm_num), Ideal.tanh_bot, sigmoid_bot, ← EReal.coe_one, ← EReal.coe_neg, ← EReal.coe_mul, ← EReal.coe_add]
    norm_num
  | top =>
    rw [EReal.coe_mul_top_of_pos (by norm_num), Ideal.tanh_top, sigmoid_top, ← EReal.coe_one, ← EReal.coe_mul, ← EReal.coe_add]
    norm_num
  | coe y =>
    rw [← EReal.coe_mul, Ideal.tanh_coe, sigmoid_coe, ← EReal.coe_mul, ← EReal.coe_add]
    congr 1
    rw [Real.tanh_eq_sinh_div_cosh, Real.sinh_eq, Real.cosh_eq]
    have e : Real.exp (-y) = Real.exp (-(1 / 2 * y)) * Real.exp (-(1 / 2 * y)) := by rw [← Real.exp_add]; congr 1; ring
    have e1 : Real.exp (1 / 2 * y) * Real.exp (-(1 / 2 * y)) = 1 := by rw [← Real.exp_add]; simp
    have p1 := Real.exp_pos (1 / 2 * y)
    have p2 := Real.exp_pos (-(1 / 2 * y))
    rw [e]
    generalize Real.exp (1 / 2 * y) = a at *
    generalize Real.exp (-(1 / 2 * y)) = b at *
    have h1 : (a + b) / 2 ≠ 0 := by positivity
    have h2 : 1 + b * b ≠ 0 := by positivity
    field_simp
    nlinarith

/-- The gradient of `y · σ(y)`, in the two spellings, at a finite cotangent. -/
theorem silu_grad (d : ℝ) (y : EReal) :
    (d : EReal) * sigmoid y + (y * (d : EReal)) * (sigmoid y * (1 - sigmoid y))
      = (d : EReal) * (sigmoid y * (1 + y * (1 - sigmoid y))) := by
  induction y with
  | bot => rw [sigmoid_bot]; simp
  | top =>
    rw [sigmoid_top, show (1 : EReal) - 1 = 0 by rw [← EReal.coe_one, ← EReal.coe_sub]; norm_num]; simp
  | coe y =>
    rw [sigmoid_coe]
    generalize (1 / (1 + Real.exp (-y)) : ℝ) = s
    norm_cast
    ring

end Cert.Silu
end
-- ==== Proof.ConvSpec.lean ====
module

public import proofs.«01_k».proof.Proof.Silu

/-! # The gradient of the causal convolution, one column at a time

A column of the convolution takes 2176 rows `x`, four taps and a bias to `y t = b + w₃ x t + w₂ x (t−1) + w₁ x (t−2) + w₀ x (t−3)`,
rows before the first being zero, and then to `silu (y t)` on the rows from 112 on and to zero before. The definitions here are
its derivative against a cotangent `d`: with respect to `y`, to the rows, to a tap and to the bias. -/

@[expose] public section

noncomputable section

namespace Cert.ConvSpec

open Idealize.ShloMosaic Cert.Silu

/-- The rows moved down by `s`, zeros coming in. -/
def shift (s : ℕ) (x : ℕ → EReal) (t : ℕ) : EReal := if s ≤ t then x (t - s) else 0

/-- The convolution before its activation. -/
def pre (x : ℕ → EReal) (w0 w1 w2 w3 b : EReal) (t : ℕ) : EReal :=
  b + w3 * x t + w2 * shift 1 x t + w1 * shift 2 x t + w0 * shift 3 x t

/-- The gradient with respect to `pre`, zero off the token rows. -/
def grad (x : ℕ → EReal) (w0 w1 w2 w3 b : EReal) (d : ℕ → EReal) (t : ℕ) : EReal :=
  if 112 ≤ t ∧ t < 2176 then
    d t * (sigmoid (pre x w0 w1 w2 w3 b t) * (1 + pre x w0 w1 w2 w3 b t * (1 - sigmoid (pre x w0 w1 w2 w3 b t))))
  else 0

/-- The gradient with respect to row `t`. -/
def gradRow (x : ℕ → EReal) (w0 w1 w2 w3 b : EReal) (d : ℕ → EReal) (t : ℕ) : EReal :=
  w3 * grad x w0 w1 w2 w3 b d t + w2 * grad x w0 w1 w2 w3 b d (t + 1)
    + w1 * grad x w0 w1 w2 w3 b d (t + 2) + w0 * grad x w0 w1 w2 w3 b d (t + 3)

/-- The gradient with respect to the tap that reads `s` rows back. -/
def gradTap (s : ℕ) (x : ℕ → EReal) (w0 w1 w2 w3 b : EReal) (d : ℕ → EReal) : EReal :=
  ∑ t : Fin 2176, grad x w0 w1 w2 w3 b d t.val * shift s x t.val

/-- The gradient with respect to the bias. -/
def gradBias (x : ℕ → EReal) (w0 w1 w2 w3 b : EReal) (d : ℕ → EReal) : EReal :=
  ∑ t : Fin 2176, grad x w0 w1 w2 w3 b d t.val

theorem shift_zero (x : ℕ → EReal) (t : ℕ) : shift 0 x t = x t := by rw [shift, if_pos (Nat.zero_le _), Nat.sub_zero]

/-- The gradient vanishes on the first rows and past the last. -/
theorem grad_off (x : ℕ → EReal) (w0 w1 w2 w3 b : EReal) (d : ℕ → EReal) (t : ℕ) (h : ¬(112 ≤ t ∧ t < 2176)) :
    grad x w0 w1 w2 w3 b d t = 0 := if_neg h

/-- On the token rows it is the cotangent times the activation's derivative. -/
theorem grad_on (x : ℕ → EReal) (w0 w1 w2 w3 b : EReal) (d : ℕ → EReal) (t : ℕ) (h : 112 ≤ t ∧ t < 2176) :
    grad x w0 w1 w2 w3 b d t
      = d t * (sigmoid (pre x w0 w1 w2 w3 b t) * (1 + pre x w0 w1 w2 w3 b t * (1 - sigmoid (pre x w0 w1 w2 w3 b t)))) := if_pos h

end Cert.ConvSpec
end
-- ==== Proof.ConvBlock.lean ====
module

public import proofs.«01_k».proof.Proof.ConvShift
public import proofs.«01_k».proof.Proof.ConvSpec

/-! # What the kernel computes on one block of columns of one sequence -/

@[expose] public section

set_option maxRecDepth 16384

noncomputable section

namespace Cert.ConvIdeal.Block

open Cert.ConvIdeal Cert.ConvIdeal.Gen Cert.ConvIdeal.Shift Cert.ConvSpec Cert.Silu Idealize.ShloMosaic Idealize.ShloMosaic.TcCoe Idealize.SL.Sem

/-- The kernel's gradient with respect to the value before the activation. -/
def dpre (x : FVec Ideal S2176x256 .bf16) (w0 w1 w2 w3 b : FVec Ideal S1x256 .f32) (d : FVec Ideal S2176x256 .bf16) :
    FVec Ideal S2176x256 .f32 :=
  k0_pay51 (k0_pay3 x) (tap1 x) (tap2 x) (tap3 x) b w3 w2 w1 w0 d

/-- The entry of a row of one block in column `c`. -/
abbrev at0 (w : FVec Ideal S1x256 .f32) (c : Fin 256) : EReal := w (ix2 0 c : S1x256.Idx)

/-- It is the column's gradient. -/
theorem dpre_apply (x : FVec Ideal S2176x256 .bf16) (w0 w1 w2 w3 b : FVec Ideal S1x256 .f32) (d : FVec Ideal S2176x256 .bf16)
    (r : Fin 2176) (c : Fin 256) :
    (dpre x w0 w1 w2 w3 b d (ix2 r c : S2176x256.Idx) : EReal)
      = grad (fun t => row x t c) (at0 w0 c) (at0 w1 c) (at0 w2 c) (at0 w3 c) (at0 b c) (fun t => row d t c) r.val := by
  have h := r.isLt
  unfold dpre
  pointwise [k0_pay51, k0_pay3]
  simp only [half_tanh, tap1_apply, tap2_apply, tap3_apply]
  rw [WordCmp.cmpi_sge_ofNat (b := 112) (by omega) (by omega)]
  by_cases hr : 112 ≤ r.val
  · rw [decide_eq_true hr, grad_on _ _ _ _ _ _ _ _ ⟨hr, h⟩]
    simp only [pre, shift, at0, row_val]
    rfl
  · rw [decide_eq_false hr, grad_off _ _ _ _ _ _ _ _ (fun e => hr e.1)]
    rfl

/-- The kernel's gradient with respect to the input rows. -/
theorem dx_apply (x : FVec Ideal S2176x256 .bf16) (w0 w1 w2 w3 b : FVec Ideal S1x256 .f32) (d : FVec Ideal S2176x256 .bf16)
    (r : Fin 2176) (c : Fin 256) :
    (k0_pay53 (dpre x w0 w1 w2 w3 b d) (k0_pay52 w3) w2 w1 w0 (ix2 r c : S2176x256.Idx) : EReal)
      = gradRow (fun t => row x t c) (at0 w0 c) (at0 w1 c) (at0 w2 c) (at0 w3 c) (at0 b c) (fun t => row d t c) r.val := by
  have h := r.isLt
  pointwise [k0_pay53, k0_pay52]
  simp only [dpre_apply]
  have wrap : ∀ k, 1 ≤ k → k ≤ 3 → grad (fun t => row x t c) (at0 w0 c) (at0 w1 c) (at0 w2 c) (at0 w3 c) (at0 b c) (fun t => row d t c)
      ((r.val + 2176 - (2176 - k)) % 2176)
      = grad (fun t => row x t c) (at0 w0 c) (at0 w1 c) (at0 w2 c) (at0 w3 c) (at0 b c) (fun t => row d t c) (r.val + k) := by
    intro k h1 h3
    by_cases hk : r.val + k < 2176
    · congr 1; omega
    · rw [grad_off _ _ _ _ _ _ _ _ (by omega), grad_off _ _ _ _ _ _ _ _ (by omega)]
  rw [show 2175 = 2176 - 1 from rfl, show 2174 = 2176 - 2 from rfl, show 2173 = 2176 - 3 from rfl,
    wrap 1 (by omega) (by omega), wrap 2 (by omega) (by omega), wrap 3 (by omega) (by omega)]
  rfl

/-- The kernel's gradient with respect to the taps. -/
theorem dw_apply (x : FVec Ideal S2176x256 .bf16) (w0 w1 w2 w3 b : FVec Ideal S1x256 .f32) (d : FVec Ideal S2176x256 .bf16)
    (k : Fin 4) (c : Fin 256) :
    (k0_pay54 (k0_pay3 x) (tap1 x) (tap2 x) (tap3 x) (dpre x w0 w1 w2 w3 b d) (ix2 k c : S4x256.Idx) : EReal)
      = gradTap (3 - k.val) (fun t => row x t c) (at0 w0 c) (at0 w1 c) (at0 w2 c) (at0 w3 c) (at0 b c) (fun t => row d t c) := by
  pointwise [k0_pay54, k0_pay3]
  fin_vals k with hk
  all_goals simp only [hk, Nat.reduceSub, Nat.reduceLT, ↓reduceDIte, dpre_apply, tap1_apply, tap2_apply, tap3_apply, gradTap]
  all_goals simp only [shift, Nat.zero_le, ↓reduceIte, Nat.sub_zero, row_val]

/-- The kernel's gradient with respect to the bias. -/
theorem db_apply (x : FVec Ideal S2176x256 .bf16) (w0 w1 w2 w3 b : FVec Ideal S1x256 .f32) (d : FVec Ideal S2176x256 .bf16)
    (c : Fin 256) :
    (k0_pay55 (dpre x w0 w1 w2 w3 b d) (ix2 0 c : S1x256.Idx) : EReal)
      = gradBias (fun t => row x t c) (at0 w0 c) (at0 w1 c) (at0 w2 c) (at0 w3 c) (at0 b c) (fun t => row d t c) := by
  pointwise [k0_pay55]
  simp only [dpre_apply, gradBias]

end Cert.ConvIdeal.Block
end
-- ==== Proof.ConvRef.lean ====
module

public import proofs.«01_k».proof.Proof.Gen.ConvRefIdeal.Run
public import proofs.«01_k».proof.Proof.ConvSpec
public import Idealize.ShloMosaic.Lib.Pipeline.ValueKit
public import Idealize.ShloMosaic.Lib.Pointwise
public import Idealize.ShloMosaic.Lib.WordCmp

/-! # The reference at an index

The reference's three results, read at an index, are the column gradients of `ConvSpec`, where the cotangent is finite. -/

@[expose] public section

set_option maxRecDepth 16384

noncomputable section

namespace Cert.ConvRefIdeal.At

open Cert.ConvRefIdeal Cert.ConvRefIdeal.Gen Cert.ConvRefIdeal.Value Cert.ConvSpec Cert.Silu
open Idealize.ShloMosaic Idealize.ShloMosaic.TcCoe Idealize.SL.Sem

abbrev FP := FVec Ideal S4352x9216 .bf16
abbrev FW := FVec Ideal S4x2048 .f32
abbrev FB := FVec Ideal S1x2048 .f32
abbrev FG := FVec Ideal S4352x2048 .bf16
abbrev F3 := FVec Ideal S2x2176x2048 .f32

/-- The input rows after three rows of zeros. -/
def before (P : FP) : FVec Ideal S2x2179x2048 .f32 :=
  (concatenate S2x2179x2048 1 [⟨S2x3x2048, (broadcastInDim S2x3x2048 ![] bcast_S_S2x3x2048 (constant S_ .f32 0x00000000#32))⟩, ⟨S2x2176x2048, (shapeCast _ (extf .f32 (extractStridedSlice S4352x2048 ![0, 1024] P slices_S4352x9216_S4352x2048_0_1024) bitsLt_bf16_f32) shapeCasts_S4352x2048_S2x2176x2048)⟩] concatenates_S2x3x2048_S2x2176x2048_S2x2179x2048_d1)

/-- The convolution before its activation. -/
def preV (P : FP) (W : FW) (B : FB) : F3 :=
  (addf (addf (addf (addf (addf (broadcastInDim S2x2176x2048 ![] bcast_S_S2x2176x2048 (constant S_ .f32 0x00000000#32)) (mulf (broadcastInDim S2x2176x2048 ![0, 1, 2] bcast_S1x1x2048_S2x2176x2048_0_1_2 (broadcastInDim S1x1x2048 ![2] bcast_S2048_S1x1x2048_2 (shapeCast _ (extractStridedSlice S1x2048 ![0, 0] W slices_S4x2048_S1x2048_0_0) shapeCasts_S1x2048_S2048))) (extractStridedSlice S2x2176x2048 ![0, 0, 0] (before P) slices_S2x2179x2048_S2x2176x2048_0_0_0))) (mulf (broadcastInDim S2x2176x2048 ![0, 1, 2] bcast_S1x1x2048_S2x2176x2048_0_1_2 (broadcastInDim S1x1x2048 ![2] bcast_S2048_S1x1x2048_2 (shapeCast _ (extractStridedSlice S1x2048 ![1, 0] W slices_S4x2048_S1x2048_1_0) shapeCasts_S1x2048_S2048))) (extractStridedSlice S2x2176x2048 ![0, 1, 0] (before P) slices_S2x2179x2048_S2x2176x2048_0_1_0))) (mulf (broadcastInDim S2x2176x2048 ![0, 1, 2] bcast_S1x1x2048_S2x2176x2048_0_1_2 (broadcastInDim S1x1x2048 ![2] bcast_S2048_S1x1x2048_2 (shapeCast _ (extractStridedSlice S1x2048 ![2, 0] W slices_S4x2048_S1x2048_2_0) shapeCasts_S1x2048_S2048))) (extractStridedSlice S2x2176x2048 ![0, 2, 0] (before P) slices_S2x2179x2048_S2x2176x2048_0_2_0))) (mulf (broadcastInDim S2x2176x2048 ![0, 1, 2] bcast_S1x1x2048_S2x2176x2048_0_1_2 (broadcastInDim S1x1x2048 ![2] bcast_S2048_S1x1x2048_2 (shapeCast _ (extractStridedSlice S1x2048 ![3, 0] W slices_S4x2048_S1x2048_3_0) shapeCasts_S1x2048_S2048))) (extractStridedSlice S2x2176x2048 ![0, 3, 0] (before P) slices_S2x2179x2048_S2x2176x2048_0_3_0))) (broadcastInDim S2x2176x2048 ![0, 1, 2] bcast_S1x1x2048_S2x2176x2048_0_1_2 (broadcastInDim S1x1x2048 ![2] bcast_S2048_S1x1x2048_2 (shapeCast _ B shapeCasts_S1x2048_S2048))))

/-- The logistic function of an array. -/
def logi (y : F3) : F3 :=
  (Host.divf (broadcastInDim S2x2176x2048 ![] bcast_S_S2x2176x2048 (constant S_ .f32 0x3F800000#32)) (addf (broadcastInDim S2x2176x2048 ![] bcast_S_S2x2176x2048 (constant S_ .f32 0x3F800000#32)) (Host.exp (Host.negf y))))

/-- The cotangent, zero off the token rows. -/
def cot (G : FG) : F3 :=
  (select (broadcastInDim S2x2176x2048 ![0, 1, 2] bcast_S1x2176x1_S2x2176x2048_0_1_2 (cmpi .sge (broadcastInDim S1x2176x1 ![1] bcast_S2176_S1x2176x1_1 (iotaInDim S2176 32 0)) (broadcastInDim S1x2176x1 ![] bcast_S_S1x2176x1 (constantI S_ 32 112#32)))) (shapeCast _ (extf .f32 G bitsLt_bf16_f32) shapeCasts_S4352x2048_S2x2176x2048) (broadcastInDim S2x2176x2048 ![] bcast_S_S2x2176x2048 (constant S_ .f32 0x00000000#32)))

/-- The gradient before the activation. -/
def gradV (P : FP) (W : FW) (B : FB) (G : FG) : F3 :=
  (addf (mulf (cot G) (logi (preV P W B))) (mulf (mulf (preV P W B) (cot G)) (mulf (logi (preV P W B)) (subf (broadcastInDim S2x2176x2048 ![] bcast_S_S2x2176x2048 (constant S_ .f32 0x3F800000#32)) (logi (preV P W B))))))

/-- The gradient with respect to the bias, as the reference's operations give it. -/
def dbV (P : FP) (W : FW) (B : FB) (G : FG) : FB :=
  broadcastInDim S1x2048 ![1] bcast_S2048_S1x2048_1 (Host.reduceAdd (shapeCast _ (Host.reduceAdd (gradV P W B G) (constant S_ .f32 0x00000000#32) reducesTo_S2x2176x2048_S2048_d0_1 h_S_) shapeCasts_S2048_S1x1x2048) (constant S_ .f32 0x00000000#32) reducesTo_S1x1x2048_S2048_d0_1 h_S_)

/-- The gradient with respect to the taps. -/
def dwV (P : FP) (W : FW) (B : FB) (G : FG) : FW :=
  addf (addf (addf (pad S4x2048 ![3, 0] ![0, 0] ![0, 0] (broadcastInDim S1x2048 ![1] bcast_S2048_S1x2048_1 (Host.reduceAdd (shapeCast _ (Host.reduceAdd (mulf (gradV P W B G) (extractStridedSlice S2x2176x2048 ![0, 3, 0] (before P) slices_S2x2179x2048_S2x2176x2048_0_3_0)) (constant S_ .f32 0x00000000#32) reducesTo_S2x2176x2048_S2048_d0_1 h_S_) shapeCasts_S2048_S1x1x2048) (constant S_ .f32 0x00000000#32) reducesTo_S1x1x2048_S2048_d0_1 h_S_)) (constant S_ .f32 0x00000000#32) pads_S1x2048_S4x2048_300_000 h_S_) (pad S4x2048 ![2, 0] ![1, 0] ![0, 0] (broadcastInDim S1x2048 ![1] bcast_S2048_S1x2048_1 (Host.reduceAdd (shapeCast _ (Host.reduceAdd (mulf (gradV P W B G) (extractStridedSlice S2x2176x2048 ![0, 2, 0] (before P) slices_S2x2179x2048_S2x2176x2048_0_2_0)) (constant S_ .f32 0x00000000#32) reducesTo_S2x2176x2048_S2048_d0_1 h_S_) shapeCasts_S2048_S1x1x2048) (constant S_ .f32 0x00000000#32) reducesTo_S1x1x2048_S2048_d0_1 h_S_)) (constant S_ .f32 0x00000000#32) pads_S1x2048_S4x2048_210_000 h_S_)) (pad S4x2048 ![1, 0] ![2, 0] ![0, 0] (broadcastInDim S1x2048 ![1] bcast_S2048_S1x2048_1 (Host.reduceAdd (shapeCast _ (Host.reduceAdd (mulf (gradV P W B G) (extractStridedSlice S2x2176x2048 ![0, 1, 0] (before P) slices_S2x2179x2048_S2x2176x2048_0_1_0)) (constant S_ .f32 0x00000000#32) reducesTo_S2x2176x2048_S2048_d0_1 h_S_) shapeCasts_S2048_S1x1x2048) (constant S_ .f32 0x00000000#32) reducesTo_S1x1x2048_S2048_d0_1 h_S_)) (constant S_ .f32 0x00000000#32) pads_S1x2048_S4x2048_120_000 h_S_)) (pad S4x2048 ![0, 0] ![3, 0] ![0, 0] (broadcastInDim S1x2048 ![1] bcast_S2048_S1x2048_1 (Host.reduceAdd (shapeCast _ (Host.reduceAdd (mulf (gradV P W B G) (extractStridedSlice S2x2176x2048 ![0, 0, 0] (before P) slices_S2x2179x2048_S2x2176x2048_0_0_0)) (constant S_ .f32 0x00000000#32) reducesTo_S2x2176x2048_S2048_d0_1 h_S_) shapeCasts_S2048_S1x1x2048) (constant S_ .f32 0x00000000#32) reducesTo_S1x1x2048_S2048_d0_1 h_S_)) (constant S_ .f32 0x00000000#32) pads_S1x2048_S4x2048_030_000 h_S_)

/-- The gradient with respect to the input. -/
def dxMid (P : FP) (W : FW) (B : FB) (G : FG) : FG :=
  (truncf .bf16 (shapeCast _ (extractStridedSlice S2x2176x2048 ![0, 3, 0] (addf (addf (addf (pad S2x2179x2048 ![0, 3, 0] ![0, 0, 0] ![0, 0, 0] (mulf (broadcastInDim S2x2176x2048 ![0, 1, 2] bcast_S1x1x2048_S2x2176x2048_0_1_2 (broadcastInDim S1x1x2048 ![2] bcast_S2048_S1x1x2048_2 (shapeCast _ (extractStridedSlice S1x2048 ![3, 0] W slices_S4x2048_S1x2048_3_0) shapeCasts_S1x2048_S2048))) (gradV P W B G)) (constant S_ .f32 0x00000000#32) pads_S2x2176x2048_S2x2179x2048_000_300_000 h_S_) (pad S2x2179x2048 ![0, 2, 0] ![0, 1, 0] ![0, 0, 0] (mulf (broadcastInDim S2x2176x2048 ![0, 1, 2] bcast_S1x1x2048_S2x2176x2048_0_1_2 (broadcastInDim S1x1x2048 ![2] bcast_S2048_S1x1x2048_2 (shapeCast _ (extractStridedSlice S1x2048 ![2, 0] W slices_S4x2048_S1x2048_2_0) shapeCasts_S1x2048_S2048))) (gradV P W B G)) (constant S_ .f32 0x00000000#32) pads_S2x2176x2048_S2x2179x2048_000_210_000 h_S_)) (pad S2x2179x2048 ![0, 1, 0] ![0, 2, 0] ![0, 0, 0] (mulf (broadcastInDim S2x2176x2048 ![0, 1, 2] bcast_S1x1x2048_S2x2176x2048_0_1_2 (broadcastInDim S1x1x2048 ![2] bcast_S2048_S1x1x2048_2 (shapeCast _ (extractStridedSlice S1x2048 ![1, 0] W slices_S4x2048_S1x2048_1_0) shapeCasts_S1x2048_S2048))) (gradV P W B G)) (constant S_ .f32 0x00000000#32) pads_S2x2176x2048_S2x2179x2048_000_120_000 h_S_)) (pad S2x2179x2048 ![0, 0, 0] ![0, 3, 0] ![0, 0, 0] (mulf (broadcastInDim S2x2176x2048 ![0, 1, 2] bcast_S1x1x2048_S2x2176x2048_0_1_2 (broadcastInDim S1x1x2048 ![2] bcast_S2048_S1x1x2048_2 (shapeCast _ (extractStridedSlice S1x2048 ![0, 0] W slices_S4x2048_S1x2048_0_0) shapeCasts_S1x2048_S2048))) (gradV P W B G)) (constant S_ .f32 0x00000000#32) pads_S2x2176x2048_S2x2179x2048_000_030_000 h_S_)) slices_S2x2179x2048_S2x2176x2048_0_3_0) shapeCasts_S2x2176x2048_S4352x2048) bitsLt_bf16_f32)

/-- The array of gradients, the input's in its columns. -/
def dxV (P : FP) (W : FW) (B : FB) (G : FG) (D : FP) : FP :=
  (concatenate S4352x9216 1 [⟨S4352x1024, ((extractStridedSlice S4352x1024 ![0, 0] D slices_S4352x9216_S4352x1024_0_0) : (⟨S4352x1024, .bf16⟩ : BufTy).Contents (Elt Ideal))⟩, ⟨S4352x2048, (dxMid P W B G : (⟨S4352x2048, .bf16⟩ : BufTy).Contents (Elt Ideal))⟩, ⟨S4352x6144, ((extractStridedSlice S4352x6144 ![0, 3072] D slices_S4352x9216_S4352x6144_0_3072) : (⟨S4352x6144, .bf16⟩ : BufTy).Contents (Elt Ideal))⟩] concatenates_S4352x1024_S4352x2048_S4352x6144_S4352x9216_d1 : (⟨S4352x9216, .bf16⟩ : BufTy).Contents (Elt Ideal))

variable (m : (ℓ : Loc nD τ sig) → Buf (Elt Ideal) ℓ)

/-- The reference's result 2 is its last line. -/
theorem res2_eq (c : Dev nD) : res_out2 m c = dbV (m ((c.tc : Thread nD τ).loc main_arg0)) (m ((c.tc : Thread nD τ).loc main_arg1)) (m ((c.tc : Thread nD τ).loc main_arg2)) (m ((c.tc : Thread nD τ).loc main_arg3)) := rfl

/-- The reference's result 1 is its last line. -/
theorem res1_eq (c : Dev nD) : res_out1 m c = dwV (m ((c.tc : Thread nD τ).loc main_arg0)) (m ((c.tc : Thread nD τ).loc main_arg1)) (m ((c.tc : Thread nD τ).loc main_arg2)) (m ((c.tc : Thread nD τ).loc main_arg3)) := rfl

/-- The reference's result 0 is its last line. -/
theorem res0_eq (c : Dev nD) : res_out0 m c = dxV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- Column `c` of sequence `s` of the input, as a function of the row. -/
def colX (P : FP) (s : Fin 2) (c : Fin 2048) (t : ℕ) : EReal :=
  if h : t < 2176 then P (ix2 ⟨s.val * 2176 + t, by have := s.isLt; omega⟩ ⟨1024 + c.val, by have := c.isLt; omega⟩ : S4352x9216.Idx) else 0

/-- On a row of the sequence it is the array's entry. -/
theorem colX_of_lt (P : FP) (s : Fin 2) (c : Fin 2048) (t : ℕ) (h : t < 2176) :
    colX P s c t = P (ix2 ⟨s.val * 2176 + t, by have := s.isLt; omega⟩ ⟨1024 + c.val, by have := c.isLt; omega⟩ : S4352x9216.Idx) := dif_pos h

/-- Column `c` of sequence `s` of the cotangent, as a function of the row. -/
def colG (G : FG) (s : Fin 2) (c : Fin 2048) (t : ℕ) : EReal :=
  if h : t < 2176 then G (ix2 ⟨s.val * 2176 + t, by have := s.isLt; omega⟩ c : S4352x2048.Idx) else 0

/-- The input under three rows of zeros, at an index. -/
theorem before_apply (P : FP) (s : Fin 2) (t : Fin 2179) (c : Fin 2048) :
    (before P (ix3 s t c : S2x2179x2048.Idx) : EReal) = if 3 ≤ t.val then colX P s c (t.val - 3) else 0 := by
  have h := t.isLt
  pointwise [before]
  by_cases ht : t.val < 3
  · exact (dif_pos ht).trans (if_neg (by omega)).symm
  · exact (dif_neg ht).trans ((if_pos (show 3 ≤ t.val by omega)).trans
      (colX_of_lt P s c (t.val - 3) (by omega))).symm

/-- The cotangent on the rows of tokens, at an index. -/
theorem cot_apply (G : FG) (s : Fin 2) (t : Fin 2176) (c : Fin 2048) :
    (cot G (ix3 s t c : S2x2176x2048.Idx) : EReal) = if 112 ≤ t.val then colG G s c t.val else 0 := by
  have h := t.isLt
  pointwise [cot]
  rw [WordCmp.cmpi_sge_ofNat (b := 112) (by omega) (by omega), colG, dif_pos h]
  by_cases hr : 112 ≤ t.val
  · rw [decide_eq_true hr, if_pos hr]; rfl
  · rw [decide_eq_false hr, if_neg hr]; rfl

/-- The logistic function at an index. -/
theorem logi_apply (y : F3) (i : S2x2176x2048.Idx) : (logi y i : EReal) = sigmoid (y i) := by
  pointwise [logi]
  rfl

/-- The value before the activation, at an index. -/
theorem preV_apply (P : FP) (W : FW) (B : FB) (s : Fin 2) (t : Fin 2176) (c : Fin 2048) :
    (preV P W B (ix3 s t c : S2x2176x2048.Idx) : EReal)
      = pre (colX P s c) (W (ix2 0 c : S4x2048.Idx)) (W (ix2 1 c : S4x2048.Idx)) (W (ix2 2 c : S4x2048.Idx)) (W (ix2 3 c : S4x2048.Idx)) (B (ix2 0 c : S1x2048.Idx)) t.val := by
  pointwise [preV]
  simp only [before_apply]
  have e0 : (if 3 ≤ t.val then colX P s c (t.val - 3) else 0) = shift 3 (colX P s c) t.val := rfl
  have e1 : (if 3 ≤ 1 + t.val then colX P s c (1 + t.val - 3) else 0) = shift 2 (colX P s c) t.val :=
    if_congr (by omega) (by congr 1; omega) rfl
  have e2 : (if 3 ≤ 2 + t.val then colX P s c (2 + t.val - 3) else 0) = shift 1 (colX P s c) t.val :=
    if_congr (by omega) (by congr 1; omega) rfl
  have e3 : (if 3 ≤ 3 + t.val then colX P s c (3 + t.val - 3) else 0) = colX P s c t.val := by
    rw [if_pos (by omega)]; congr 1; omega
  rw [e0, e1, e2, e3, pre]
  generalize W (ix2 0 c) * shift 3 (colX P s c) t.val = p0
  generalize W (ix2 1 c) * shift 2 (colX P s c) t.val = p1
  generalize W (ix2 2 c) * shift 1 (colX P s c) t.val = p2
  generalize W (ix2 3 c) * colX P s c t.val = p3
  rw [add_comm _ (B (ix2 0 c)), add_comm p0 p1, add_comm _ p3, add_comm _ p2]
  simp only [add_assoc]

/-- The gradient before the activation at an index. -/
theorem gradV_apply (P : FP) (W : FW) (B : FB) (G : FG) (hG : ∀ i, ∃ r : ℝ, (G i : EReal) = (r : EReal)) (s : Fin 2) (t : Fin 2176) (c : Fin 2048) :
    (gradV P W B G (ix3 s t c : S2x2176x2048.Idx) : EReal)
      = grad (colX P s c) (W (ix2 0 c : S4x2048.Idx)) (W (ix2 1 c : S4x2048.Idx)) (W (ix2 2 c : S4x2048.Idx)) (W (ix2 3 c : S4x2048.Idx)) (B (ix2 0 c : S1x2048.Idx)) (colG G s c) t.val := by
  pointwise [gradV]
  simp only [logi_apply, cot_apply, preV_apply]
  by_cases hr : 112 ≤ t.val
  · rw [if_pos hr, grad_on _ _ _ _ _ _ _ _ ⟨hr, t.isLt⟩]
    obtain ⟨d, hd⟩ : ∃ d : ℝ, colG G s c t.val = (d : EReal) := by
      rw [colG, dif_pos t.isLt]; exact hG _
    rw [hd, silu_grad]
  · rw [if_neg hr, grad_off _ _ _ _ _ _ _ _ (fun e => hr e.1)]
    simp only [zero_mul, mul_zero, add_zero]

/-- A sum over the first two of three axes, at an index of the third. -/
theorem reduce_rows {n0 n1 n2 : ℕ} (h : (⟨3, ![n0, n1, n2]⟩ : Shape).ReducesTo [0, 1] ⟨1, ![n2]⟩)
    (v : (⟨3, ![n0, n1, n2]⟩ : Shape).Idx → EReal) (init : EReal) (c : Fin n2) :
    Ideal.hostReduceAdd h v init (ix1 c) = init + ∑ s : Fin n0, ∑ t : Fin n1, v (ix3 s t c) := by
  refine congrArg (init + ·) ((Finset.sum_filter_eq_sum_of_fiber _ (fun k : Fin n0 × Fin n1 => ix3 k.1 k.2 c)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- The gradient with respect to the bias, at an index. -/
theorem dbV_apply (P : FP) (W : FW) (B : FB) (G : FG) (c : Fin 2048) :
    (dbV P W B G (ix2 0 c : S1x2048.Idx) : EReal) = ∑ s : Fin 2, ∑ t : Fin 2176, gradV P W B G (ix3 s t c : S2x2176x2048.Idx) := by
  pointwise [dbV]
  rw [reduce_rows]
  pointwise
  rw [reduce_rows]
  simp

/-- The products of the gradient with a slice of the shifted input, summed over the rows of both sequences. -/
theorem tap_sum (P : FP) (W : FW) (B : FB) (G : FG) (j : ℕ) (hj : j ≤ 3) (hs : S2x2179x2048.Slices ![0, j, 0] S2x2176x2048) (c : Fin 2048) :
    (Ideal.hostReduceAdd reducesTo_S1x1x2048_S2048_d0_1
      (shapeCast S1x1x2048 (Host.reduceAdd (F := Ideal)
        (mulf (gradV P W B G) (extractStridedSlice S2x2176x2048 ![0, j, 0] (before P) hs))
        (constant S_ FTy.f32 0#32) reducesTo_S2x2176x2048_S2048_d0_1 h_S_) shapeCasts_S2048_S1x1x2048) 0 (ix1 c) : EReal)
      = ∑ s : Fin 2, ∑ t : Fin 2176, gradV P W B G (ix3 s t c : S2x2176x2048.Idx) * shift (3 - j) (colX P s c) t.val := by
  rw [reduce_rows]
  pointwise
  rw [reduce_rows]
  have key : ∀ s : Fin 2, ∀ t : Fin 2176,
      (mulf (gradV P W B G) (extractStridedSlice S2x2176x2048 ![0, j, 0] (before P) hs) (ix3 s t c : S2x2176x2048.Idx) : EReal)
        = gradV P W B G (ix3 s t c : S2x2176x2048.Idx) * shift (3 - j) (colX P s c) t.val := by
    intro s t
    pointwise
    rw [before_apply]
    refine congrArg (_ * ·) (if_congr (by show 3 ≤ j + t.val ↔ _; omega) ?_ rfl)
    congr 1
    show j + t.val - 3 = _
    omega
  simp only [key]
  simp

/-- The gradient with respect to the taps, at an index. -/
theorem dwV_apply (P : FP) (W : FW) (B : FB) (G : FG) (k : Fin 4) (c : Fin 2048) :
    (dwV P W B G (ix2 k c : S4x2048.Idx) : EReal) = ∑ s : Fin 2, ∑ t : Fin 2176, gradV P W B G (ix3 s t c : S2x2176x2048.Idx) * shift (3 - k.val) (colX P s c) t.val := by
  pointwise [dwV]
  rw [tap_sum _ _ _ _ 3 (by omega), tap_sum _ _ _ _ 2 (by omega), tap_sum _ _ _ _ 1 (by omega), tap_sum _ _ _ _ 0 (by omega)]
  have hk := k.isLt
  rcases (by omega : k.val = 0 ∨ k.val = 1 ∨ k.val = 2 ∨ k.val = 3) with h | h | h | h <;> simp [h]

/-- One tap's share of a row's gradient: past the last row it is nothing. -/
theorem share (P : FP) (W : FW) (B : FB) (G : FG) (hG : ∀ i, ∃ r : ℝ, (G i : EReal) = (r : EReal)) (s : Fin 2) (c : Fin 2048)
    (w : EReal) (k : ℕ) (p : Prop) [Decidable p] (hp : p ↔ k < 2176) :
    (if h : p then w * (gradV P W B G (ix3 s ⟨k, hp.mp h⟩ c : S2x2176x2048.Idx) : EReal) else 0)
      = w * grad (colX P s c) (W (ix2 0 c : S4x2048.Idx)) (W (ix2 1 c : S4x2048.Idx)) (W (ix2 2 c : S4x2048.Idx)) (W (ix2 3 c : S4x2048.Idx)) (B (ix2 0 c : S1x2048.Idx)) (colG G s c) k := by
  by_cases h : p
  · rw [dif_pos h, gradV_apply P W B G hG]
  · rw [dif_neg h, grad_off _ _ _ _ _ _ _ _ (fun e => h (hp.mpr e.2)), mul_zero]

/-- The gradient with respect to the input, at an index. -/
theorem dxMid_apply (P : FP) (W : FW) (B : FB) (G : FG) (hG : ∀ i, ∃ r : ℝ, (G i : EReal) = (r : EReal)) (s : Fin 2) (t : Fin 2176) (c : Fin 2048) :
    (dxMid P W B G (ix2 ⟨s.val * 2176 + t.val, by have := s.isLt; have := t.isLt; omega⟩ c : S4352x2048.Idx) : EReal)
      = gradRow (colX P s c) (W (ix2 0 c : S4x2048.Idx)) (W (ix2 1 c : S4x2048.Idx)) (W (ix2 2 c : S4x2048.Idx))
          (W (ix2 3 c : S4x2048.Idx)) (B (ix2 0 c : S1x2048.Idx)) (colG G s c) t.val := by
  have hs := s.isLt
  have ht := t.isLt
  have hc := c.isLt
  pointwise [dxMid]
  refine congrArg₂ (· + ·) (congrArg₂ (· + ·) (congrArg₂ (· + ·) ?_ ?_) ?_) ?_
  · rw [gradV_apply P W B G hG]
  · refine (share P W B G hG s c _ (3 + t.val - 2) _ (by omega)).trans ?_
    rw [show 3 + t.val - 2 = t.val + 1 by omega]
  · refine (share P W B G hG s c _ (3 + t.val - 1) _ (by omega)).trans ?_
    rw [show 3 + t.val - 1 = t.val + 2 by omega]
  · refine (share P W B G hG s c _ (3 + t.val) _ Iff.rfl).trans ?_
    rw [add_comm 3 t.val]

/-- The array of gradients at an index: the input's gradient in its columns and the array that came in everywhere else. -/
theorem dxV_apply (P : FP) (W : FW) (B : FB) (G : FG) (hG : ∀ i, ∃ r : ℝ, (G i : EReal) = (r : EReal)) (D : FP) (s : Fin 2) (t : Fin 2176) (j : Fin 9216) :
    (dxV P W B G D (ix2 ⟨s.val * 2176 + t.val, by have := s.isLt; have := t.isLt; omega⟩ j : S4352x9216.Idx) : EReal)
      = if h : 1024 ≤ j.val ∧ j.val < 3072 then
          gradRow (colX P s ⟨j.val - 1024, by omega⟩) (W (ix2 0 ⟨j.val - 1024, by omega⟩ : S4x2048.Idx))
            (W (ix2 1 ⟨j.val - 1024, by omega⟩ : S4x2048.Idx)) (W (ix2 2 ⟨j.val - 1024, by omega⟩ : S4x2048.Idx))
            (W (ix2 3 ⟨j.val - 1024, by omega⟩ : S4x2048.Idx)) (B (ix2 0 ⟨j.val - 1024, by omega⟩ : S1x2048.Idx))
            (colG G s ⟨j.val - 1024, by omega⟩) t.val
        else D (ix2 ⟨s.val * 2176 + t.val, by have := s.isLt; have := t.isLt; omega⟩ j : S4352x9216.Idx) := by
  have hj := j.isLt
  by_cases hc : 1024 ≤ j.val ∧ j.val < 3072
  · rw [dif_pos hc, ← dxMid_apply P W B G hG]
    have h1 : ¬j.val < 1024 := by omega
    have h2 : j.val - 1024 < 2048 := by omega
    pointwise [dxV]
    exact (dif_neg h1).trans (dif_pos h2)
  · rw [dif_neg hc]
    pointwise [dxV]
    by_cases h1 : j.val < 1024
    · exact dif_pos h1
    · have h2 : ¬j.val - 1024 < 2048 := by omega
      refine (dif_neg h1).trans ((dif_neg h2).trans ?_)
      congr 2
      apply Fin.ext
      show 3072 + (j.val - 1024 - 2048) = j.val
      omega

/-- The gradient with respect to the bias is the sum of its columns' over the two sequences. -/
theorem dbV_eq (P : FP) (W : FW) (B : FB) (G : FG) (hG : ∀ i, ∃ r : ℝ, (G i : EReal) = (r : EReal)) (c : Fin 2048) :
    (dbV P W B G (ix2 0 c : S1x2048.Idx) : EReal)
      = ∑ s : Fin 2, gradBias (colX P s c) (W (ix2 0 c : S4x2048.Idx)) (W (ix2 1 c : S4x2048.Idx)) (W (ix2 2 c : S4x2048.Idx))
          (W (ix2 3 c : S4x2048.Idx)) (B (ix2 0 c : S1x2048.Idx)) (colG G s c) := by
  rw [dbV_apply]
  exact Finset.sum_congr rfl fun s _ => Finset.sum_congr rfl fun t _ => gradV_apply P W B G hG s t c

/-- The gradient with respect to the taps is the sum of its columns' over the two sequences. -/
theorem dwV_eq (P : FP) (W : FW) (B : FB) (G : FG) (hG : ∀ i, ∃ r : ℝ, (G i : EReal) = (r : EReal)) (k : Fin 4) (c : Fin 2048) :
    (dwV P W B G (ix2 k c : S4x2048.Idx) : EReal)
      = ∑ s : Fin 2, gradTap (3 - k.val) (colX P s c) (W (ix2 0 c : S4x2048.Idx)) (W (ix2 1 c : S4x2048.Idx)) (W (ix2 2 c : S4x2048.Idx))
          (W (ix2 3 c : S4x2048.Idx)) (B (ix2 0 c : S1x2048.Idx)) (colG G s c) := by
  rw [dwV_apply]
  exact Finset.sum_congr rfl fun s _ => Finset.sum_congr rfl fun t _ => by rw [gradV_apply P W B G hG s t c]

end Cert.ConvRefIdeal.At
end
-- ==== Proof.ConvValue.lean ====
module

public import proofs.«01_k».proof.Proof.Gen.ConvIdeal.Value
public import proofs.«01_k».proof.Proof.ConvBlock
public import proofs.«01_k».proof.Proof.ConvRef

/-! # The arrays the kernel leaves

The grid has eight blocks of 256 columns and, for each, the two sequences one after the other. -/

@[expose] public section

set_option maxRecDepth 16384

noncomputable section

namespace Cert.ConvIdeal.Final

open Cert.ConvIdeal Cert.ConvIdeal.Gen Cert.ConvIdeal.Shift Cert.ConvIdeal.Block Cert.ConvSpec
open Idealize.ShloMosaic Idealize.ShloMosaic.TcCoe Idealize.SL.Sem
open Cert.ConvRefIdeal.At (colX colG dxV dwV dbV)

variable (m : (ℓ : Loc nD τ sig) → Buf (Elt Ideal) ℓ)

/-- The blocks' places at a grid point. -/
theorem idx : ∀ t : Fin cfg0.N, win0_0.index t = ![t.val % 2, 4 + t.val / 2] ∧ win0_1.index t = ![0, t.val / 2] ∧ win0_2.index t = ![0, t.val / 2]
    ∧ win0_3.index t = ![t.val % 2, t.val / 2] ∧ win0_4.index t = ![t.val % 2, 4 + t.val / 2] ∧ win0_5.index t = ![0, t.val / 2]
    ∧ win0_6.index t = ![0, t.val / 2] :=
  (by decide +kernel : ∀ t : Fin grid0.N, _)

/-- Tap 0 of the block at a grid point. -/
abbrev ld0 (c : Dev nD) (t : Fin cfg0.N) : FVec Ideal S1x256 .f32 :=
  View.ld (iblk m c 1 t) (Rect.unit ![0, 0] ![1, 256] inb_S4x256_S1x256_0_0)

/-- Tap 1 of the block at a grid point. -/
abbrev ld1 (c : Dev nD) (t : Fin cfg0.N) : FVec Ideal S1x256 .f32 :=
  View.ld (iblk m c 1 t) (Rect.unit ![1, 0] ![1, 256] inb_S4x256_S1x256_1_0)

/-- Tap 2 of the block at a grid point. -/
abbrev ld2 (c : Dev nD) (t : Fin cfg0.N) : FVec Ideal S1x256 .f32 :=
  View.ld (iblk m c 1 t) (Rect.unit ![2, 0] ![1, 256] inb_S4x256_S1x256_2_0)

/-- Tap 3 of the block at a grid point. -/
abbrev ld3 (c : Dev nD) (t : Fin cfg0.N) : FVec Ideal S1x256 .f32 :=
  View.ld (iblk m c 1 t) (Rect.unit ![3, 0] ![1, 256] inb_S4x256_S1x256_3_0)

/-- The gradient before the activation at a grid point. -/
abbrev dpreT (c : Dev nD) (t : Fin cfg0.N) : FVec Ideal S2176x256 .f32 :=
  dpre (iblk m c 0 t) (ld0 m c t) (ld1 m c t) (ld2 m c t) (ld3 m c t) (iblk m c 2 t) (iblk m c 3 t)

/-- What a grid point adds to the taps' gradient. -/
abbrev dwT (c : Dev nD) (t : Fin cfg0.N) : FVec Ideal S4x256 .f32 :=
  k0_pay54 (k0_pay3 (iblk m c 0 t)) (tap1 (iblk m c 0 t)) (tap2 (iblk m c 0 t)) (tap3 (iblk m c 0 t)) (dpreT m c t)

/-- Output 4 of a grid point of the first sequence. -/
theorem out4_A (c : Dev nD) (t : Fin cfg0.N) (h0 : t.val % 2 = 0) (h1 : ¬ t.val % 2 = 1) :
    (outsAt0 m c t.val t.isLt).1 = k0_pay53 (dpreT m c t) (k0_pay52 (ld3 m c t)) (ld2 m c t) (ld1 m c t) (ld0 m c t) := by
  rw [outsAt0_A m c t h0 h1]; frame_out
  unfold dpreT dpre tap1 tap2 tap3 move cols
  rfl

/-- Output 4 of a grid point of the second sequence. -/
theorem out4_B (c : Dev nD) (t : Fin cfg0.N) (h0 : ¬ t.val % 2 = 0) (h1 : t.val % 2 = 1) :
    (outsAt0 m c t.val t.isLt).1 = k0_pay53 (dpreT m c t) (k0_pay52 (ld3 m c t)) (ld2 m c t) (ld1 m c t) (ld0 m c t) := by
  rw [outsAt0_B m c t h0 h1]; frame_out
  unfold dpreT dpre tap1 tap2 tap3 move cols
  rfl

/-- Output 5 of a grid point of the first sequence. -/
theorem out5_A (c : Dev nD) (t : Fin cfg0.N) (h0 : t.val % 2 = 0) (h1 : ¬ t.val % 2 = 1) :
    (outsAt0 m c t.val t.isLt).2.1 = dwT m c t := by
  rw [outsAt0_A m c t h0 h1]; frame_out
  unfold dwT dpreT dpre tap1 tap2 tap3 move cols
  rfl

/-- Output 5 of a grid point of the second sequence. -/
theorem out5_B (c : Dev nD) (t : Fin cfg0.N) (h0 : ¬ t.val % 2 = 0) (h1 : t.val % 2 = 1) :
    (outsAt0 m c t.val t.isLt).2.1 = k0_pay1 (dwT m c t) (outsAt0 m c (t.val - 1) (Nat.lt_of_le_of_lt (Nat.sub_le _ _) t.isLt)).2.1 := by
  rw [outsAt0_B m c t h0 h1]; frame_out
  unfold dwT dpreT dpre tap1 tap2 tap3 move cols
  rfl

/-- Output 6 of a grid point of the first sequence. -/
theorem out6_A (c : Dev nD) (t : Fin cfg0.N) (h0 : t.val % 2 = 0) (h1 : ¬ t.val % 2 = 1) :
    (outsAt0 m c t.val t.isLt).2.2 = k0_pay55 (dpreT m c t) := by
  rw [outsAt0_A m c t h0 h1]; frame_out
  unfold dpreT dpre tap1 tap2 tap3 move cols
  rfl

/-- Output 6 of a grid point of the second sequence. -/
theorem out6_B (c : Dev nD) (t : Fin cfg0.N) (h0 : ¬ t.val % 2 = 0) (h1 : t.val % 2 = 1) :
    (outsAt0 m c t.val t.isLt).2.2 = k0_pay2 (k0_pay55 (dpreT m c t)) (outsAt0 m c (t.val - 1) (Nat.lt_of_le_of_lt (Nat.sub_le _ _) t.isLt)).2.2 := by
  rw [outsAt0_B m c t h0 h1]; frame_out
  unfold dpreT dpre tap1 tap2 tap3 move cols
  rfl

/-- Column `y` of the block of a grid point, among all columns. -/
abbrev col (t : Fin cfg0.N) (y : Fin 256) : Fin 2048 := ⟨256 * (t.val / 2) + y.val, by have : t.val < 16 := t.isLt; omega⟩

/-- The sequence of a grid point. -/
abbrev seq (t : Fin cfg0.N) : Fin 2 := ⟨t.val % 2, by omega⟩

/-- A column of the input's block. -/
theorem rowX (c : Dev nD) (t : Fin cfg0.N) (y : Fin 256) :
    (fun k => row (iblk m c 0 t) k y) = colX (m ((c.tc : Thread nD τ).loc main_arg0)) (seq t) (col t y) := by
  funext k
  unfold row colX
  split
  · blk_point [iblk, V, idx t]
  · rfl

/-- A column of the cotangent's block. -/
theorem rowG (c : Dev nD) (t : Fin cfg0.N) (y : Fin 256) :
    (fun k => row (iblk m c 3 t) k y) = colG (m ((c.tc : Thread nD τ).loc main_arg3)) (seq t) (col t y) := by
  funext k
  unfold row colG
  split
  · blk_point [iblk, V, idx t]
  · rfl

/-- A column of the bias. -/
theorem atB (c : Dev nD) (t : Fin cfg0.N) (y : Fin 256) :
    at0 (iblk m c 2 t) y = m ((c.tc : Thread nD τ).loc main_arg2) (ix2 0 (col t y) : S1x2048.Idx) := by
  show (iblk m c 2 t (ix2 0 y : S1x256.Idx) : EReal) = _
  blk_point [iblk, V, idx t]

/-- An entry of the taps' block. -/
theorem atW (c : Dev nD) (t : Fin cfg0.N) (k : Fin 4) (y : Fin 256) :
    (iblk m c 1 t (ix2 k y : S4x256.Idx) : EReal) = m ((c.tc : Thread nD τ).loc main_arg1) (ix2 k (col t y) : S4x2048.Idx) := by
  blk_point [iblk, V, idx t]

/-- A column of tap 0. -/
theorem atW0 (c : Dev nD) (t : Fin cfg0.N) (y : Fin 256) :
    at0 (ld0 m c t) y = m ((c.tc : Thread nD τ).loc main_arg1) (ix2 0 (col t y) : S4x2048.Idx) := by
  refine Eq.trans ?_ (atW m c t 0 y)
  show (ld0 m c t (ix2 0 y : S1x256.Idx) : EReal) = _
  unfold ld0
  generalize iblk m c 1 t = w
  pointwise

/-- A column of tap 1. -/
theorem atW1 (c : Dev nD) (t : Fin cfg0.N) (y : Fin 256) :
    at0 (ld1 m c t) y = m ((c.tc : Thread nD τ).loc main_arg1) (ix2 1 (col t y) : S4x2048.Idx) := by
  refine Eq.trans ?_ (atW m c t 1 y)
  show (ld1 m c t (ix2 0 y : S1x256.Idx) : EReal) = _
  unfold ld1
  generalize iblk m c 1 t = w
  pointwise

/-- A column of tap 2. -/
theorem atW2 (c : Dev nD) (t : Fin cfg0.N) (y : Fin 256) :
    at0 (ld2 m c t) y = m ((c.tc : Thread nD τ).loc main_arg1) (ix2 2 (col t y) : S4x2048.Idx) := by
  refine Eq.trans ?_ (atW m c t 2 y)
  show (ld2 m c t (ix2 0 y : S1x256.Idx) : EReal) = _
  unfold ld2
  generalize iblk m c 1 t = w
  pointwise

/-- A column of tap 3. -/
theorem atW3 (c : Dev nD) (t : Fin cfg0.N) (y : Fin 256) :
    at0 (ld3 m c t) y = m ((c.tc : Thread nD τ).loc main_arg1) (ix2 3 (col t y) : S4x2048.Idx) := by
  refine Eq.trans ?_ (atW m c t 3 y)
  show (ld3 m c t (ix2 0 y : S1x256.Idx) : EReal) = _
  unfold ld3
  generalize iblk m c 1 t = w
  pointwise

/-- The gradient with respect to the input at an entry of a grid point's block. -/
theorem dx_point (c : Dev nD) (hG : ∀ i, ∃ r : ℝ, (m ((c.tc : Thread nD τ).loc main_arg3) i : EReal) = (r : EReal))
    (t : Fin cfg0.N) (r : Fin 2176) (y : Fin 256) :
    (k0_pay53 (dpreT m c t) (k0_pay52 (ld3 m c t)) (ld2 m c t) (ld1 m c t) (ld0 m c t) (ix2 r y : S2176x256.Idx) : EReal)
      = dxV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (ix2 ⟨(seq t).val * 2176 + r.val, by have := (seq t).isLt; have := r.isLt; omega⟩ ⟨1024 + (col t y).val, by have := (col t y).isLt; omega⟩ : S4352x9216.Idx) := by
  rw [dx_apply, rowX, rowG, atB, atW0, atW1, atW2, atW3, Cert.ConvRefIdeal.At.dxV_apply _ _ _ _ hG, dif_pos ⟨Nat.le_add_right _ _, by have h : (col t y).val < 2048 := (col t y).isLt; show 1024 + (col t y).val < 3072; omega⟩]
  simp only [Nat.add_sub_cancel_left]

/-- The array of gradients after the run is the reference's. -/
theorem final4 (c : Dev nD) (hG : ∀ i, ∃ r : ℝ, (m ((c.tc : Thread nD τ).loc main_arg3) i : EReal) = (r : EReal)) :
    (dats m 0 c).arrAt 4 (cfgs 0).N = dxV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  have key : (dats m 0 c).arrAt 4 (cfgs 0).N = fun i => if 1024 ≤ (i 1).val ∧ (i 1).val < 3072 then
      dxV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) i
      else V m c main_v0_0 i := by
    refine (dats m 0 c).arrAt_eq_of_coversWhere 4 _ (fun β => 4 ≤ β 1 ∧ β 1 < 12) (by decide +kernel) (fun t hf y => ?_)
      (fun j => by blk_simp [Pipeline.Window.cell_apply]; omega)
    blk_simp; rw [after0_4]
    have hy : (outsAt0 m c t.val t.isLt).1
        = k0_pay53 (dpreT m c t) (k0_pay52 (ld3 m c t)) (ld2 m c t) (ld1 m c t) (ld0 m c t) := by
      rcases Nat.mod_two_eq_zero_or_one t.val with h | h
      · exact out4_A m c t h (by omega)
      · exact out4_B m c t (by omega) h
    rw [hy]
    idx_vars y
    refine (dx_point m c hG t _ _).trans ?_
    blk_ext [idx t]
  rw [key]
  funext i
  idx_vars i
  by_cases h : 1024 ≤ i1.val ∧ i1.val < 3072
  · exact if_pos h
  · refine (if_neg h).trans ?_
    have e := Cert.ConvRefIdeal.At.dxV_apply (m ((c.tc : Thread nD τ).loc main_arg0)) (m ((c.tc : Thread nD τ).loc main_arg1))
      (m ((c.tc : Thread nD τ).loc main_arg2)) (m ((c.tc : Thread nD τ).loc main_arg3)) hG (m ((c.tc : Thread nD τ).loc main_arg4))
      ⟨i0.val / 2176, by have := i0.isLt; omega⟩ ⟨i0.val % 2176, by omega⟩ i1
    have e0 : (⟨i0.val / 2176 * 2176 + i0.val % 2176, by have := i0.isLt; omega⟩ : Fin 4352) = i0 := Fin.ext (Nat.div_add_mod' _ _)
    rw [dif_neg h] at e
    simp only [e0] at e
    rw [e]
    entry_read
    rfl

/-- The share of sequence `s` in the gradient of the taps. -/
abbrev tapPart (c : Dev nD) (k : Fin 4) (cc : Fin 2048) (s : Fin 2) : EReal :=
  gradTap (3 - k.val) (colX (m ((c.tc : Thread nD τ).loc main_arg0)) s cc) ((m ((c.tc : Thread nD τ).loc main_arg1)) (ix2 0 cc : S4x2048.Idx)) ((m ((c.tc : Thread nD τ).loc main_arg1)) (ix2 1 cc : S4x2048.Idx)) ((m ((c.tc : Thread nD τ).loc main_arg1)) (ix2 2 cc : S4x2048.Idx)) ((m ((c.tc : Thread nD τ).loc main_arg1)) (ix2 3 cc : S4x2048.Idx)) ((m ((c.tc : Thread nD τ).loc main_arg2)) (ix2 0 cc : S1x2048.Idx)) (colG (m ((c.tc : Thread nD τ).loc main_arg3)) s cc)

/-- The share of sequence `s` in the gradient of the bias. -/
abbrev biasPart (c : Dev nD) (cc : Fin 2048) (s : Fin 2) : EReal :=
  gradBias (colX (m ((c.tc : Thread nD τ).loc main_arg0)) s cc) ((m ((c.tc : Thread nD τ).loc main_arg1)) (ix2 0 cc : S4x2048.Idx)) ((m ((c.tc : Thread nD τ).loc main_arg1)) (ix2 1 cc : S4x2048.Idx)) ((m ((c.tc : Thread nD τ).loc main_arg1)) (ix2 2 cc : S4x2048.Idx)) ((m ((c.tc : Thread nD τ).loc main_arg1)) (ix2 3 cc : S4x2048.Idx)) ((m ((c.tc : Thread nD τ).loc main_arg2)) (ix2 0 cc : S1x2048.Idx)) (colG (m ((c.tc : Thread nD τ).loc main_arg3)) s cc)

/-- What a grid point adds to the gradient of the taps, at an entry. -/
theorem dw_point (c : Dev nD) (t : Fin cfg0.N) (k : Fin 4) (y : Fin 256) :
    (dwT m c t (ix2 k y : S4x256.Idx) : EReal) = tapPart m c k (col t y) (seq t) := by
  unfold dwT dpreT
  rw [dw_apply, rowX, rowG, atB, atW0, atW1, atW2, atW3]

/-- What a grid point adds to the gradient of the bias, at an entry. -/
theorem db_point (c : Dev nD) (t : Fin cfg0.N) (y : Fin 256) :
    (k0_pay55 (dpreT m c t) (ix2 0 y : S1x256.Idx) : EReal) = biasPart m c (col t y) (seq t) := by
  rw [db_apply, rowX, rowG, atB, atW0, atW1, atW2, atW3]

/-- The gradient with respect to the taps after the run is the reference's. -/
theorem final5 (c : Dev nD) (hG : ∀ i, ∃ r : ℝ, (m ((c.tc : Thread nD τ).loc main_arg3) i : EReal) = (r : EReal)) :
    (dats m 0 c).arrAt 5 (cfgs 0).N = dwV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  have h1 : t.val % 2 = 1 := (by decide +kernel : ∀ t : Fin cfg0.N, (cfg0.win 5).flush t = true → t.val % 2 = 1) t hf
  blk_simp
  rw [after0_5, out5_B m c t (by omega) h1]
  have hp : t.val - 1 < cfg0.N := Nat.lt_of_le_of_lt (Nat.sub_le _ _) t.isLt
  rw [out5_A m c ⟨t.val - 1, hp⟩ (by show (t.val - 1) % 2 = 0; omega) (by show ¬(t.val - 1) % 2 = 1; omega)]
  idx_vars y
  have e : (dwV (m ((c.tc : Thread nD τ).loc main_arg0)) (m ((c.tc : Thread nD τ).loc main_arg1)) (m ((c.tc : Thread nD τ).loc main_arg2)) (m ((c.tc : Thread nD τ).loc main_arg3))
      (((View.whole main_v0_1).slice (win0_5.rect t)).emb (ix2 y0 y1)) : EReal) = ∑ s : Fin 2, tapPart m c y0 (col t y1) s := by
    refine Eq.trans ?_ (Cert.ConvRefIdeal.At.dwV_eq _ _ _ _ hG y0 (col t y1))
    blk_ext [idx t]
  refine Eq.trans ?_ e.symm
  have hc : col ⟨t.val - 1, hp⟩ y1 = col t y1 := Fin.ext (by show 256 * ((t.val - 1) / 2) + _ = 256 * (t.val / 2) + _; omega)
  have hs : seq ⟨t.val - 1, hp⟩ = 0 := Fin.ext (by show (t.val - 1) % 2 = 0; omega)
  have hs' : seq t = 1 := Fin.ext h1
  pointwise [k0_pay1]
  rw [dw_point, dw_point, hc, hs, hs', Fin.sum_univ_two]

/-- The gradient with respect to the bias after the run is the reference's. -/
theorem final6 (c : Dev nD) (hG : ∀ i, ∃ r : ℝ, (m ((c.tc : Thread nD τ).loc main_arg3) i : EReal) = (r : EReal)) :
    (dats m 0 c).arrAt 6 (cfgs 0).N = dbV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  have h1 : t.val % 2 = 1 := (by decide +kernel : ∀ t : Fin cfg0.N, (cfg0.win 6).flush t = true → t.val % 2 = 1) t hf
  blk_simp
  rw [after0_6, out6_B m c t (by omega) h1]
  have hp : t.val - 1 < cfg0.N := Nat.lt_of_le_of_lt (Nat.sub_le _ _) t.isLt
  rw [out6_A m c ⟨t.val - 1, hp⟩ (by show (t.val - 1) % 2 = 0; omega) (by show ¬(t.val - 1) % 2 = 1; omega)]
  idx_vars y
  have e : (dbV (m ((c.tc : Thread nD τ).loc main_arg0)) (m ((c.tc : Thread nD τ).loc main_arg1)) (m ((c.tc : Thread nD τ).loc main_arg2)) (m ((c.tc : Thread nD τ).loc main_arg3))
      (((View.whole main_v0_2).slice (win0_6.rect t)).emb (ix2 y0 y1)) : EReal) = ∑ s : Fin 2, biasPart m c (col t y1) s := by
    refine Eq.trans ?_ (Cert.ConvRefIdeal.At.dbV_eq _ _ _ _ hG (col t y1))
    blk_ext [idx t]
  refine Eq.trans ?_ e.symm
  have hc : col ⟨t.val - 1, hp⟩ y1 = col t y1 := Fin.ext (by show 256 * ((t.val - 1) / 2) + _ = 256 * (t.val / 2) + _; omega)
  have hs : seq ⟨t.val - 1, hp⟩ = 0 := Fin.ext (by show (t.val - 1) % 2 = 0; omega)
  have hs' : seq t = 1 := Fin.ext h1
  pointwise [k0_pay2]
  rw [show y0 = 0 from Subsingleton.elim _ _, db_point, db_point, hc, hs, hs', Fin.sum_univ_two]

end Cert.ConvIdeal.Final
end
-- ==== Proof.ConvClaim.lean ====
module

public import proofs.«01_k».proof.Defs
public import proofs.«01_k».proof.Proof.ConvValue
public import Idealize.ShloMosaic.Lib.Claim

/-! # The kernel's results are the reference's -/

@[expose] public section

set_option maxRecDepth 16384

noncomputable section

namespace Cert.ConvClaim

open Idealize.ShloMosaic Idealize.ShloMosaic.TcCoe Idealize.SL.Sem

/-- The precondition's facts about shapes. -/
theorem finite_facts : Cert.Pre_finite_cotangent.Facts := ⟨by decide, by decide⟩

/-- An extended real of absolute value less than infinity is a real number. -/
theorem real_of_abs_lt (x : EReal) (h : BitVec.ofBool (decide (max x (-x) < ⊤)) = 1#1) : ∃ r : ℝ, x = (r : EReal) := by
  have e : max x (-x) < ⊤ := by
    by_contra hn
    rw [decide_eq_false hn] at h
    exact absurd h (by decide)
  have h1 : x ≠ ⊤ := fun y => by simp [y] at e
  have h2 : x ≠ ⊥ := fun y => by simp [y] at e
  exact ⟨x.toReal, (EReal.coe_toReal h1 h2).symm⟩

/-- The word of infinity. -/
theorem word_top : Ideal.ofBits .f32 2139095040#32 = ⊤ := by
  simp [Ideal.ofBits, Ideal.ieee]

open Cert.Pre_finite_cotangent in
/-- The compared absolute values are those of the entries. -/
theorem finite_entry [Facts] (A : FVec Ideal S4352x9216 .bf16) (B : FVec Ideal S4x2048 .f32) (C : FVec Ideal S1x2048 .f32)
    (G : FVec Ideal S4352x2048 .bf16) (D : FVec Ideal S4352x9216 .bf16) (h : fn A B C G D = fun _ => 1#1) (i : S4352x2048.Idx) :
    ∃ r : ℝ, (G i : EReal) = (r : EReal) := by
  refine real_of_abs_lt _ (Eq.trans ?_ (congrFun h i))
  rw [← word_top]
  rfl

/-- Under the precondition every entry of the cotangent is a real number. -/
theorem finite [Cert.Pre_finite_cotangent.Facts] (m : (ℓ : Loc Cert.ConvIdeal.nD Cert.ConvIdeal.τ Cert.ConvIdeal.sig) → Buf (Elt Ideal) ℓ)
    (h : Cert.Pre_ConvIdeal_finite_cotangent m) (c : Dev Cert.ConvIdeal.nD) :
    ∀ i, ∃ r : ℝ, (m ((c.tc : Thread Cert.ConvIdeal.nD Cert.ConvIdeal.τ).loc Cert.ConvIdeal.main_arg3) i : EReal) = (r : EReal) :=
  fun i => finite_entry _ _ _ _ _ (h c) i

/-- The kernel and the reference leave the same arrays. -/
theorem algebraic [Cert.ConvIdeal.Facts] [Cert.ConvRefIdeal.Facts] [Cert.Pre_finite_cotangent.Facts] : Cert.algebraic_ConvIdeal_ConvRefIdeal_pre_finite_cotangent := by
  pair_intro
  · run_from Cert.ConvIdeal.Value.run_blocks m g
  · run_from Cert.ConvRefIdeal.Value.run m' g'
    · obtain ⟨e0, e1, e2, e3, e4⟩ := hagree c
      refine Eq.trans ?_ (Cert.ConvIdeal.Final.final4 m c (finite m hpre c)).symm
      rw [← e0, ← e1, ← e2, ← e3, ← e4]
      exact Cert.ConvRefIdeal.At.res0_eq m' c
    · obtain ⟨e0, e1, e2, e3, e4⟩ := hagree c
      refine Eq.trans ?_ (Cert.ConvIdeal.Final.final5 m c (finite m hpre c)).symm
      rw [← e0, ← e1, ← e2, ← e3]
      exact Cert.ConvRefIdeal.At.res1_eq m' c
    · obtain ⟨e0, e1, e2, e3, e4⟩ := hagree c
      refine Eq.trans ?_ (Cert.ConvIdeal.Final.final6 m c (finite m hpre c)).symm
      rw [← e0, ← e1, ← e2, ← e3]
      exact Cert.ConvRefIdeal.At.res2_eq m' c

end Cert.ConvClaim
end
-- ==== Proof.GateUpValue.lean ====
module

public import proofs.«01_k».proof.Proof.Gen.GateUpIdeal.Value
public import proofs.«01_k».proof.Proof.Gen.GateUpRefIdeal.Run
public import proofs.«01_k».proof.Proof.Silu

/-! # The first product of the feed-forward layer, with its activation -/

@[expose] public section

set_option maxRecDepth 16384

noncomputable section

namespace Cert.GateUpRefIdeal.At

open Cert.GateUpRefIdeal Cert.GateUpRefIdeal.Gen Cert.Silu
open Idealize.ShloMosaic Idealize.ShloMosaic.TcCoe Idealize.SL.Sem Idealize.ShloMosaic.StableHlo

/-- An entry of the product of the rows with a row of the weights. -/
def entry (N : FVec Ideal S4352x1024 .bf16) (W : FVec Ideal S5632x1024 .bf16) (i : Fin 4352) (j : Fin 5632) : EReal :=
  ∑ k : Fin 1024, N (ix2 i k : S4352x1024.Idx) * W (ix2 j k : S5632x1024.Idx)

/-- The column of the first half. -/
abbrev fst (j : Fin 2816) : Fin 5632 := ⟨j.val, by omega⟩

/-- The column of the second half. -/
abbrev snd (j : Fin 2816) : Fin 5632 := ⟨2816 + j.val, by omega⟩

/-- The reference's gate. -/
def gateV (N : FVec Ideal S4352x1024 .bf16) (W : FVec Ideal S5632x1024 .bf16) : FVec Ideal S4352x2816 .bf16 :=
  truncf .bf16 (extractStridedSlice S4352x2816 ![0, 0] (Host.dotGeneral dot_S4352x1024_S1024x5632_S4352x5632_1_0_0_1_n_n none (extf .f32 N bitsLt_bf16_f32) (transpose S1024x5632 [1, 0] (extf .f32 W bitsLt_bf16_f32) transposes_S5632x1024_S1024x5632_1_0)) slices_S4352x5632_S4352x2816_0_0) bitsLt_bf16_f32

/-- The reference's other half. -/
def upV (N : FVec Ideal S4352x1024 .bf16) (W : FVec Ideal S5632x1024 .bf16) : FVec Ideal S4352x2816 .bf16 :=
  truncf .bf16 (extractStridedSlice S4352x2816 ![0, 2816] (Host.dotGeneral dot_S4352x1024_S1024x5632_S4352x5632_1_0_0_1_n_n none (extf .f32 N bitsLt_bf16_f32) (transpose S1024x5632 [1, 0] (extf .f32 W bitsLt_bf16_f32) transposes_S5632x1024_S1024x5632_1_0)) slices_S4352x5632_S4352x2816_0_2816) bitsLt_bf16_f32

/-- The reference's activation. -/
def actV (N : FVec Ideal S4352x1024 .bf16) (W : FVec Ideal S5632x1024 .bf16) : FVec Ideal S4352x2816 .bf16 :=
  truncf .bf16 (mulf (mulf (extractStridedSlice S4352x2816 ![0, 0] (Host.dotGeneral dot_S4352x1024_S1024x5632_S4352x5632_1_0_0_1_n_n none (extf .f32 N bitsLt_bf16_f32) (transpose S1024x5632 [1, 0] (extf .f32 W bitsLt_bf16_f32) transposes_S5632x1024_S1024x5632_1_0)) slices_S4352x5632_S4352x2816_0_0) (Host.divf (broadcastInDim S4352x2816 ![] bcast_S_S4352x2816 (constant S_ .f32 0x3F800000#32)) (addf (broadcastInDim S4352x2816 ![] bcast_S_S4352x2816 (constant S_ .f32 0x3F800000#32)) (Host.exp (Host.negf (extractStridedSlice S4352x2816 ![0, 0] (Host.dotGeneral dot_S4352x1024_S1024x5632_S4352x5632_1_0_0_1_n_n none (extf .f32 N bitsLt_bf16_f32) (transpose S1024x5632 [1, 0] (extf .f32 W bitsLt_bf16_f32) transposes_S5632x1024_S1024x5632_1_0)) slices_S4352x5632_S4352x2816_0_0)))))) (extractStridedSlice S4352x2816 ![0, 2816] (Host.dotGeneral dot_S4352x1024_S1024x5632_S4352x5632_1_0_0_1_n_n none (extf .f32 N bitsLt_bf16_f32) (transpose S1024x5632 [1, 0] (extf .f32 W bitsLt_bf16_f32) transposes_S5632x1024_S1024x5632_1_0)) slices_S4352x5632_S4352x2816_0_2816)) bitsLt_bf16_f32

/-- The gate at an index. -/
theorem gateV_apply (N : FVec Ideal S4352x1024 .bf16) (W : FVec Ideal S5632x1024 .bf16) (i : Fin 4352) (j : Fin 2816) :
    (gateV N W (ix2 i j : S4352x2816.Idx) : EReal) = entry N W i (fst j) := by
  unfold gateV; pointwise; rfl

/-- The other half at an index. -/
theorem upV_apply (N : FVec Ideal S4352x1024 .bf16) (W : FVec Ideal S5632x1024 .bf16) (i : Fin 4352) (j : Fin 2816) :
    (upV N W (ix2 i j : S4352x2816.Idx) : EReal) = entry N W i (snd j) := by
  unfold upV; pointwise; rfl

/-- The activation at an index. -/
theorem actV_apply (N : FVec Ideal S4352x1024 .bf16) (W : FVec Ideal S5632x1024 .bf16) (i : Fin 4352) (j : Fin 2816) :
    (actV N W (ix2 i j : S4352x2816.Idx) : EReal)
      = entry N W i (fst j) * sigmoid (entry N W i (fst j)) * entry N W i (snd j) := by
  unfold actV; pointwise [sigmoid]; rfl

end Cert.GateUpRefIdeal.At

namespace Cert.GateUpIdeal.Final

open Cert.GateUpIdeal Cert.GateUpIdeal.Gen Cert.Silu Cert.GateUpRefIdeal.At
open Idealize.ShloMosaic Idealize.ShloMosaic.TcCoe Idealize.SL.Sem

/-- An entry of the product of two blocks. -/
def dot (a : Vec Ideal S544x1024 .bf16) (w : Vec Ideal S2816x1024 .bf16) (r : Fin 544) (s : Fin 2816) : EReal :=
  ∑ k : Fin 1024, a (ix2 r k : S544x1024.Idx) * w (ix2 s k : S2816x1024.Idx)

/-- An entry of the activation of two products. -/
def core (a : Vec Ideal S544x1024 .bf16) (w : Vec Ideal S2816x1024 .bf16) (b : Vec Ideal S544x1024 .bf16) (v : Vec Ideal S2816x1024 .bf16) (r : Fin 544) (s : Fin 2816) : EReal :=
  dot a w r s * ((Ideal.ofBits FTy.f32 1056964608#32 : EReal) * Ideal.tanh ((Ideal.ofBits FTy.f32 1056964608#32 : EReal) * dot a w r s) + (Ideal.ofBits FTy.f32 1056964608#32 : EReal)) * dot b v r s

/-- What a block of the gate holds. -/
theorem gate_block (a : Vec Ideal S544x1024 .bf16) (w : Vec Ideal S2816x1024 .bf16) (b : Vec Ideal S544x1024 .bf16) (v : Vec Ideal S2816x1024 .bf16) (r : Fin 544) (s : Fin 2816) :
    (out0_4 a w b v (ix2 r s : S544x2816.Idx) : EReal) = dot a w r s := by
  frame_out
  canon_tiles x h
  all_goals (open_payloads; pointwise; exact congrArg₂ (dot a w) (Fin.ext h0.symm) (Fin.ext h1.symm))

/-- What a block of the other half holds. -/
theorem up_block (a : Vec Ideal S544x1024 .bf16) (w : Vec Ideal S2816x1024 .bf16) (b : Vec Ideal S544x1024 .bf16) (v : Vec Ideal S2816x1024 .bf16) (r : Fin 544) (s : Fin 2816) :
    (out0_5 a w b v (ix2 r s : S544x2816.Idx) : EReal) = dot b v r s := by
  frame_out
  canon_tiles x h
  all_goals (open_payloads; pointwise; exact congrArg₂ (dot b v) (Fin.ext h0.symm) (Fin.ext h1.symm))

/-- What a block of the activation holds. -/
theorem act_block (a : Vec Ideal S544x1024 .bf16) (w : Vec Ideal S2816x1024 .bf16) (b : Vec Ideal S544x1024 .bf16) (v : Vec Ideal S2816x1024 .bf16) (r : Fin 544) (s : Fin 2816) :
    (out0_6 a w b v (ix2 r s : S544x2816.Idx) : EReal) = core a w b v r s := by
  frame_out
  canon_tiles x h
  all_goals (open_payloads; pointwise; exact congrArg₂ (core a w b v) (Fin.ext h0.symm) (Fin.ext h1.symm))

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] ∧ win0_3.index t = ![1, 0]
    ∧ win0_4.index t = ![t.val, 0] ∧ win0_5.index t = ![t.val, 0] ∧ win0_6.index t = ![t.val, 0] :=
  (by decide +kernel : ∀ t : Fin grid0.N, _)

/-- The row of the array that a row of a grid point's block is. -/
abbrev row (t : Fin cfg0.N) (r : Fin 544) : Fin 4352 := ⟨544 * t.val + r.val, by have : t.val < 8 := t.isLt; omega⟩

/-- An entry of the rows' block. -/
theorem atN (c : Dev nD) (t : Fin cfg0.N) (r : Fin 544) (k : Fin 1024) :
    (iblk m c 0 t (ix2 r k : S544x1024.Idx) : EReal) = m ((c.tc : Thread nD τ).loc main_arg0) (ix2 (row t r) k : S4352x1024.Idx) := by
  blk_point [iblk, V, idx t]

/-- An entry of the rows' block, read again. -/
theorem atN' (c : Dev nD) (t : Fin cfg0.N) (r : Fin 544) (k : Fin 1024) :
    (iblk m c 2 t (ix2 r k : S544x1024.Idx) : EReal) = m ((c.tc : Thread nD τ).loc main_arg0) (ix2 (row t r) k : S4352x1024.Idx) := by
  blk_point [iblk, V, idx t]

/-- An entry of the gate's weights. -/
theorem atG (c : Dev nD) (t : Fin cfg0.N) (s : Fin 2816) (k : Fin 1024) :
    (iblk m c 1 t (ix2 s k : S2816x1024.Idx) : EReal) = m ((c.tc : Thread nD τ).loc main_arg1) (ix2 (fst s) k : S5632x1024.Idx) := by
  blk_point [iblk, V, idx t]

/-- An entry of the other half's weights. -/
theorem atU (c : Dev nD) (t : Fin cfg0.N) (s : Fin 2816) (k : Fin 1024) :
    (iblk m c 3 t (ix2 s k : S2816x1024.Idx) : EReal) = m ((c.tc : Thread nD τ).loc main_arg1) (ix2 (snd s) k : S5632x1024.Idx) := by
  blk_point [iblk, V, idx t]

/-- The gate's product at a grid point. -/
theorem dotG (c : Dev nD) (t : Fin cfg0.N) (r : Fin 544) (s : Fin 2816) :
    dot (iblk m c 0 t) (iblk m c 1 t) r s = entry (m ((c.tc : Thread nD τ).loc main_arg0)) (m ((c.tc : Thread nD τ).loc main_arg1)) (row t r) (fst s) := by
  unfold dot entry
  simp only [atN, atG]

/-- The other half's product at a grid point. -/
theorem dotU (c : Dev nD) (t : Fin cfg0.N) (r : Fin 544) (s : Fin 2816) :
    dot (iblk m c 2 t) (iblk m c 3 t) r s = entry (m ((c.tc : Thread nD τ).loc main_arg0)) (m ((c.tc : Thread nD τ).loc main_arg1)) (row t r) (snd s) := by
  unfold dot entry
  simp only [atN', atU]

/-- The gate after the run is the reference's. -/
theorem final4 (c : Dev nD) : (dats m 0 c).arrAt 4 (cfgs 0).N
    = gateV (m ((c.tc : Thread nD τ).loc main_arg0)) (m ((c.tc : Thread nD τ).loc main_arg1)) := by
  refine (dats m 0 c).arrAt_eq_of_covers 4 _ (by decide +kernel) fun t hf y => ?_
  blk_simp
  rw [after0_4]
  idx_vars y
  have e : (gateV (m ((c.tc : Thread nD τ).loc main_arg0)) (m ((c.tc : Thread nD τ).loc main_arg1))
      (((View.whole main_v0_0).slice (win0_4.rect t)).emb (ix2 y0 y1)) : EReal)
      = gateV (m ((c.tc : Thread nD τ).loc main_arg0)) (m ((c.tc : Thread nD τ).loc main_arg1)) (ix2 (row t y0) y1 : S4352x2816.Idx) := by
    blk_ext [idx t]
  refine (gate_block _ _ _ _ y0 y1).trans (Eq.trans ?_ e.symm)
  rw [gateV_apply]
  exact dotG m c t y0 y1

/-- The other half after the run is the reference's. -/
theorem final5 (c : Dev nD) : (dats m 0 c).arrAt 5 (cfgs 0).N
    = upV (m ((c.tc : Thread nD τ).loc main_arg0)) (m ((c.tc : Thread nD τ).loc main_arg1)) := by
  refine (dats m 0 c).arrAt_eq_of_covers 5 _ (by decide +kernel) fun t hf y => ?_
  blk_simp
  rw [after0_5]
  idx_vars y
  have e : (upV (m ((c.tc : Thread nD τ).loc main_arg0)) (m ((c.tc : Thread nD τ).loc main_arg1))
      (((View.whole main_v0_1).slice (win0_5.rect t)).emb (ix2 y0 y1)) : EReal)
      = upV (m ((c.tc : Thread nD τ).loc main_arg0)) (m ((c.tc : Thread nD τ).loc main_arg1)) (ix2 (row t y0) y1 : S4352x2816.Idx) := by
    blk_ext [idx t]
  refine (up_block _ _ _ _ y0 y1).trans (Eq.trans ?_ e.symm)
  rw [upV_apply]
  exact dotU m c t y0 y1

/-- The activation after the run is the reference's. -/
theorem final6 (c : Dev nD) : (dats m 0 c).arrAt 6 (cfgs 0).N
    = actV (m ((c.tc : Thread nD τ).loc main_arg0)) (m ((c.tc : Thread nD τ).loc main_arg1)) := by
  refine (dats m 0 c).arrAt_eq_of_covers 6 _ (by decide +kernel) fun t hf y => ?_
  blk_simp
  rw [after0_6]
  idx_vars y
  have e : (actV (m ((c.tc : Thread nD τ).loc main_arg0)) (m ((c.tc : Thread nD τ).loc main_arg1))
      (((View.whole main_v0_2).slice (win0_6.rect t)).emb (ix2 y0 y1)) : EReal)
      = actV (m ((c.tc : Thread nD τ).loc main_arg0)) (m ((c.tc : Thread nD τ).loc main_arg1)) (ix2 (row t y0) y1 : S4352x2816.Idx) := by
    blk_ext [idx t]
  refine (act_block _ _ _ _ y0 y1).trans (Eq.trans ?_ e.symm)
  rw [actV_apply]
  unfold core
  rw [half_tanh, dotG, dotU]

end Cert.GateUpIdeal.Final

end
-- ==== Proof.Products.lean ====
module

public import Idealize.ShloMosaic.Lib.Pipeline.ValueKit
public import Idealize.ShloMosaic.Lib.Pointwise

/-! # Sums of products scaled by one half -/

@[expose] public section

noncomputable section

namespace Cert.Products

open Idealize.ShloMosaic

/-- The word of one half. -/
theorem half_word : (Ideal.ofBits FTy.f32 1056964608#32 : EReal) = ((1 / 2 : ℝ) : EReal) := by
  simp [Ideal.ofBits, Ideal.ieee, -EReal.coe_mul]; norm_num

/-- One half distributes over any sum of two extended reals. -/
theorem half_add (x y : EReal) : ((1 / 2 : ℝ) : EReal) * (x + y) = ((1 / 2 : ℝ) : EReal) * x + ((1 / 2 : ℝ) : EReal) * y :=
  EReal.left_distrib_of_nonneg_of_ne_top (by exact_mod_cast (by norm_num : (0 : ℝ) ≤ 1 / 2)) (EReal.coe_ne_top _) x y

/-- One half distributes over any finite sum of extended reals. -/
theorem half_sum {ι : Type} (s : Finset ι) (f : ι → EReal) :
    ((1 / 2 : ℝ) : EReal) * ∑ i ∈ s, f i = ∑ i ∈ s, ((1 / 2 : ℝ) : EReal) * f i := by
  classical
  induction s using Finset.induction_on with
  | empty => simp
  | insert a s ha ih => rw [Finset.sum_insert ha, Finset.sum_insert ha, half_add, ih]

/-- A product of two reals is a real. -/
theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- A sum of two reals is a real. -/
theorem add_real {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

/-- A finite sum of reals is a real. -/
theorem sum_real {ι : Type} (s : Finset ι) (f : ι → EReal) (h : ∀ i, ∃ r : ℝ, f i = (r : EReal)) : ∃ r : ℝ, ∑ i ∈ s, f i = (r : EReal) := by
  classical
  induction s using Finset.induction_on with
  | empty => exact ⟨0, by simp⟩
  | insert a s ha ih => rw [Finset.sum_insert ha]; exact add_real (h a) ih

end Cert.Products
end
-- ==== Proof.DownValue.lean ====
module

public import proofs.«01_k».proof.Proof.Gen.DownIdeal.Value
public import proofs.«01_k».proof.Proof.Gen.DownRefIdeal.Run
public import proofs.«01_k».proof.Proof.Products

/-! # The second product of the feed-forward layer, with its residual -/

@[expose] public section

set_option maxRecDepth 16384

noncomputable section

namespace Cert.DownRefIdeal.At

open Cert.DownRefIdeal Cert.DownRefIdeal.Gen
open Idealize.ShloMosaic Idealize.ShloMosaic.TcCoe Idealize.SL.Sem Idealize.ShloMosaic.StableHlo

/-- The reference's result. -/
def refV (H : FVec Ideal S4352x1024 .f32) (A : FVec Ideal S4352x2816 .bf16) (W : FVec Ideal S2816x1024 .bf16) : FVec Ideal S4352x1024 .f32 :=
  addf H (mulf (broadcastInDim S4352x1024 ![] bcast_S_S4352x1024 (constant S_ .f32 0x3F000000#32)) (Host.dotGeneral dot_S4352x2816_S2816x1024_S4352x1024_1_0_0_1_n_n none (extf .f32 A bitsLt_bf16_f32) (extf .f32 W bitsLt_bf16_f32)))

/-- … at an index. -/
theorem refV_apply (H : FVec Ideal S4352x1024 .f32) (A : FVec Ideal S4352x2816 .bf16) (W : FVec Ideal S2816x1024 .bf16) (i : Fin 4352) (j : Fin 1024) :
    (refV H A W (ix2 i j : S4352x1024.Idx) : EReal)
      = H (ix2 i j : S4352x1024.Idx) + (Ideal.ofBits FTy.f32 1056964608#32 : EReal) * ∑ k : Fin 2816, A (ix2 i k : S4352x2816.Idx) * W (ix2 k j : S2816x1024.Idx) := by
  unfold refV; pointwise

end Cert.DownRefIdeal.At

namespace Cert.DownIdeal.Final

open Cert.DownIdeal Cert.DownIdeal.Gen Cert.Products Cert.DownRefIdeal.At
open Idealize.ShloMosaic Idealize.ShloMosaic.TcCoe Idealize.SL.Sem

/-- An entry of a block of the result. -/
def core (a : Vec Ideal S1088x2816 .bf16) (w : Vec Ideal S2816x1024 .bf16) (e : Vec Ideal S1088x1024 .f32) (r : Fin 1088) (s : Fin 1024) : EReal :=
  e (ix2 r s : S1088x1024.Idx) + (Ideal.ofBits FTy.f32 1056964608#32 : EReal) * ∑ k : Fin 2816, a (ix2 r k : S1088x2816.Idx) * w (ix2 k s : S2816x1024.Idx)

/-- What a block of the result holds. -/
theorem block_apply (a : Vec Ideal S1088x2816 .bf16) (w : Vec Ideal S2816x1024 .bf16) (e : Vec Ideal S1088x1024 .f32) (r : Fin 1088) (s : Fin 1024) :
    (out0_3 a w e (ix2 r s : S1088x1024.Idx) : EReal) = core a w e r s := by
  frame_out
  canon_tiles x h
  all_goals (open_payloads; pointwise; exact congrArg₂ (core a w e) (Fin.ext h0.symm) (Fin.ext h1.symm))

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the array that a row of a grid point's block is. -/
abbrev row (t : Fin cfg0.N) (r : Fin 1088) : Fin 4352 := ⟨1088 * t.val + r.val, by have : t.val < 4 := t.isLt; omega⟩

/-- An entry of the activations' block. -/
theorem atA (c : Dev nD) (t : Fin cfg0.N) (r : Fin 1088) (k : Fin 2816) :
    (iblk m c 0 t (ix2 r k : S1088x2816.Idx) : EReal) = m ((c.tc : Thread nD τ).loc main_arg1) (ix2 (row t r) k : S4352x2816.Idx) := by
  blk_point [iblk, V, idx t]

/-- An entry of the weights' block. -/
theorem atW (c : Dev nD) (t : Fin cfg0.N) (k : Fin 2816) (s : Fin 1024) :
    (iblk m c 1 t (ix2 k s : S2816x1024.Idx) : EReal) = m ((c.tc : Thread nD τ).loc main_arg2) (ix2 k s : S2816x1024.Idx) := by
  blk_point [iblk, V, idx t]

/-- An entry of the residual's block. -/
theorem atH (c : Dev nD) (t : Fin cfg0.N) (r : Fin 1088) (s : Fin 1024) :
    (iblk m c 2 t (ix2 r s : S1088x1024.Idx) : EReal) = m ((c.tc : Thread nD τ).loc main_arg0) (ix2 (row t r) s : S4352x1024.Idx) := by
  blk_point [iblk, V, idx t]

/-- The array after the run is the reference's result. -/
theorem final3 (c : Dev nD) : (dats m 0 c).arrAt 3 (cfgs 0).N
    = refV (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have e : (refV (m ((c.tc : Thread nD τ).loc main_arg0)) (m ((c.tc : Thread nD τ).loc main_arg1)) (m ((c.tc : Thread nD τ).loc main_arg2))
      (((View.whole main_v0).slice (win0_3.rect t)).emb (ix2 y0 y1)) : EReal)
      = refV (m ((c.tc : Thread nD τ).loc main_arg0)) (m ((c.tc : Thread nD τ).loc main_arg1)) (m ((c.tc : Thread nD τ).loc main_arg2))
        (ix2 (row t y0) y1 : S4352x1024.Idx) := by
    blk_ext [idx t]
  refine (block_apply _ _ _ y0 y1).trans (Eq.trans ?_ e.symm)
  rw [refV_apply]
  unfold core
  simp only [atA, atW, atH]

end Cert.DownIdeal.Final
end
-- ==== Proof.ActValue.lean ====
module

public import proofs.«01_k».proof.Proof.Gen.ActIdeal.Value
public import proofs.«01_k».proof.Proof.Gen.ActRefIdeal.Run
public import proofs.«01_k».proof.Proof.Silu
public import proofs.«01_k».proof.Proof.Products

/-! # The gradient of the feed-forward layer's activation -/

@[expose] public section

set_option maxRecDepth 16384

noncomputable section

namespace Cert.ActRefIdeal.At

open Cert.ActRefIdeal Cert.ActRefIdeal.Gen Cert.Silu Cert.Products
open Idealize.ShloMosaic Idealize.ShloMosaic.TcCoe Idealize.SL.Sem Idealize.ShloMosaic.StableHlo

/-- The column of the first half. -/
abbrev fst (j : Fin 2816) : Fin 5632 := ⟨j.val, by omega⟩

/-- The column of the second half. -/
abbrev snd (j : Fin 2816) : Fin 5632 := ⟨2816 + j.val, by omega⟩

/-- The reference's gate. -/
def gate (G U : FVec Ideal S4352x2816 .bf16) : FVec Ideal S4352x2816 .f32 :=
  extractStridedSlice S4352x2816 ![0, 0] (extf .f32 (concatenate S4352x5632 1 [⟨S4352x2816, G⟩, ⟨S4352x2816, U⟩] concatenates_S4352x2816_S4352x2816_S4352x5632_d1) bitsLt_bf16_f32) slices_S4352x5632_S4352x2816_0_0

/-- The reference's other half. -/
def up (G U : FVec Ideal S4352x2816 .bf16) : FVec Ideal S4352x2816 .f32 :=
  extractStridedSlice S4352x2816 ![0, 2816] (extf .f32 (concatenate S4352x5632 1 [⟨S4352x2816, G⟩, ⟨S4352x2816, U⟩] concatenates_S4352x2816_S4352x2816_S4352x5632_d1) bitsLt_bf16_f32) slices_S4352x5632_S4352x2816_0_2816

/-- The gradient of the activation's value. -/
def dact (D : FVec Ideal S4352x1024 .bf16) (W : FVec Ideal S2816x1024 .bf16) : FVec Ideal S4352x2816 .f32 :=
  Host.dotGeneral dot_S4352x1024_S2816x1024_S4352x2816_1_1_0_0_n_n none (mulf (broadcastInDim S4352x1024 ![] bcast_S_S4352x1024 (constant S_ .f32 0x3F000000#32)) (extf .f32 D bitsLt_bf16_f32)) (extf .f32 W bitsLt_bf16_f32)

/-- The gradient of the gate. -/
def dgate (D : FVec Ideal S4352x1024 .bf16) (W : FVec Ideal S2816x1024 .bf16) (G U : FVec Ideal S4352x2816 .bf16) : FVec Ideal S4352x2816 .f32 :=
  (addf (mulf (mulf (dact D W) (up G U)) (Host.divf (broadcastInDim S4352x2816 ![] bcast_S_S4352x2816 (constant S_ .f32 0x3F800000#32)) (addf (broadcastInDim S4352x2816 ![] bcast_S_S4352x2816 (constant S_ .f32 0x3F800000#32)) (Host.exp (Host.negf (gate G U)))))) (mulf (mulf (gate G U) (mulf (dact D W) (up G U))) (mulf (Host.divf (broadcastInDim S4352x2816 ![] bcast_S_S4352x2816 (constant S_ .f32 0x3F800000#32)) (addf (broadcastInDim S4352x2816 ![] bcast_S_S4352x2816 (constant S_ .f32 0x3F800000#32)) (Host.exp (Host.negf (gate G U))))) (subf (broadcastInDim S4352x2816 ![] bcast_S_S4352x2816 (constant S_ .f32 0x3F800000#32)) (Host.divf (broadcastInDim S4352x2816 ![] bcast_S_S4352x2816 (constant S_ .f32 0x3F800000#32)) (addf (broadcastInDim S4352x2816 ![] bcast_S_S4352x2816 (constant S_ .f32 0x3F800000#32)) (Host.exp (Host.negf (gate G U)))))))))

/-- The gradient of the other half. -/
def dup (D : FVec Ideal S4352x1024 .bf16) (W : FVec Ideal S2816x1024 .bf16) (G U : FVec Ideal S4352x2816 .bf16) : FVec Ideal S4352x2816 .f32 :=
  (mulf (mulf (gate G U) (Host.divf (broadcastInDim S4352x2816 ![] bcast_S_S4352x2816 (constant S_ .f32 0x3F800000#32)) (addf (broadcastInDim S4352x2816 ![] bcast_S_S4352x2816 (constant S_ .f32 0x3F800000#32)) (Host.exp (Host.negf (gate G U)))))) (dact D W))

/-- The reference's result. -/
def refV (D : FVec Ideal S4352x1024 .bf16) (W : FVec Ideal S2816x1024 .bf16) (G U : FVec Ideal S4352x2816 .bf16) : FVec Ideal S4352x5632 .bf16 :=
  truncf .bf16 (concatenate S4352x5632 1 [⟨S4352x2816, dgate D W G U⟩, ⟨S4352x2816, dup D W G U⟩] concatenates_S4352x2816_S4352x2816_S4352x5632_d1) bitsLt_bf16_f32

/-- The reference's run leaves this. -/
theorem res_eq (m : (ℓ : Loc nD τ sig) → Buf (Elt Ideal) ℓ) (c : Dev nD) : Value.res_main_v18 (F := Ideal) m c
    = refV (m ((c.tc : Thread nD τ).loc main_arg0)) (m ((c.tc : Thread nD τ).loc main_arg1)) (m ((c.tc : Thread nD τ).loc main_arg2)) (m ((c.tc : Thread nD τ).loc main_arg3)) := by
  unfold Value.res_main_v18 refV dgate dup dact gate up
  rfl

/-- The gate at an index. -/
theorem gate_apply (G U : FVec Ideal S4352x2816 .bf16) (i : Fin 4352) (j : Fin 2816) :
    (gate G U (ix2 i j : S4352x2816.Idx) : EReal) = G (ix2 i j : S4352x2816.Idx) := by
  unfold gate; pointwise

/-- The other half at an index. -/
theorem up_apply (G U : FVec Ideal S4352x2816 .bf16) (i : Fin 4352) (j : Fin 2816) :
    (up G U (ix2 i j : S4352x2816.Idx) : EReal) = U (ix2 i j : S4352x2816.Idx) := by
  unfold up; pointwise

/-- The gradient of the activation's value, at an index. -/
def da (D : FVec Ideal S4352x1024 .bf16) (W : FVec Ideal S2816x1024 .bf16) (i : Fin 4352) (j : Fin 2816) : EReal :=
  ∑ k : Fin 1024, D (ix2 i k : S4352x1024.Idx) * W (ix2 j k : S2816x1024.Idx)

/-- … as the reference spells it. -/
theorem dact_apply (D : FVec Ideal S4352x1024 .bf16) (W : FVec Ideal S2816x1024 .bf16) (i : Fin 4352) (j : Fin 2816) :
    (dact D W (ix2 i j : S4352x2816.Idx) : EReal) = (Ideal.ofBits FTy.f32 1056964608#32 : EReal) * da D W i j := by
  unfold dact da
  pointwise
  rw [half_word, half_sum]
  simp only [mul_assoc]

/-- The gradient of the gate at an index. -/
theorem dgate_apply (D : FVec Ideal S4352x1024 .bf16) (W : FVec Ideal S2816x1024 .bf16) (G U : FVec Ideal S4352x2816 .bf16) (i : Fin 4352) (j : Fin 2816) :
    (dgate D W G U (ix2 i j : S4352x2816.Idx) : EReal)
      = (Ideal.ofBits FTy.f32 1056964608#32 : EReal) * da D W i j * U (ix2 i j : S4352x2816.Idx) * sigmoid (G (ix2 i j : S4352x2816.Idx))
        + G (ix2 i j : S4352x2816.Idx) * ((Ideal.ofBits FTy.f32 1056964608#32 : EReal) * da D W i j * U (ix2 i j : S4352x2816.Idx))
          * (sigmoid (G (ix2 i j : S4352x2816.Idx)) * (1 - sigmoid (G (ix2 i j : S4352x2816.Idx)))) := by
  unfold dgate
  rw [← dact_apply, ← gate_apply G U, ← up_apply G U]
  pointwise [sigmoid]

/-- The gradient of the other half at an index. -/
theorem dup_apply (D : FVec Ideal S4352x1024 .bf16) (W : FVec Ideal S2816x1024 .bf16) (G U : FVec Ideal S4352x2816 .bf16) (i : Fin 4352) (j : Fin 2816) :
    (dup D W G U (ix2 i j : S4352x2816.Idx) : EReal)
      = G (ix2 i j : S4352x2816.Idx) * sigmoid (G (ix2 i j : S4352x2816.Idx)) * ((Ideal.ofBits FTy.f32 1056964608#32 : EReal) * da D W i j) := by
  unfold dup
  rw [← dact_apply, ← gate_apply G U]
  pointwise [sigmoid]

/-- The result's first half. -/
theorem refV_fst (D : FVec Ideal S4352x1024 .bf16) (W : FVec Ideal S2816x1024 .bf16) (G U : FVec Ideal S4352x2816 .bf16) (i : Fin 4352) (j : Fin 2816) :
    (refV D W G U (ix2 i (fst j) : S4352x5632.Idx) : EReal) = dgate D W G U (ix2 i j : S4352x2816.Idx) := by
  unfold refV; pointwise

/-- The result's second half. -/
theorem refV_snd (D : FVec Ideal S4352x1024 .bf16) (W : FVec Ideal S2816x1024 .bf16) (G U : FVec Ideal S4352x2816 .bf16) (i : Fin 4352) (j : Fin 2816) :
    (refV D W G U (ix2 i (snd j) : S4352x5632.Idx) : EReal) = dup D W G U (ix2 i j : S4352x2816.Idx) := by
  unfold refV; pointwise

end Cert.ActRefIdeal.At

namespace Cert.ActIdeal.Final

open Cert.ActIdeal Cert.ActIdeal.Gen Cert.Silu Cert.Products Cert.ActRefIdeal.At
open Idealize.ShloMosaic Idealize.ShloMosaic.TcCoe Idealize.SL.Sem

/-- An entry of the product of two blocks. -/
def dot (d : Vec Ideal S544x1024 .bf16) (w : Vec Ideal S2816x1024 .bf16) (r : Fin 544) (s : Fin 2816) : EReal :=
  ∑ k : Fin 1024, d (ix2 r k : S544x1024.Idx) * w (ix2 s k : S2816x1024.Idx)

/-- The kernel's spelling of the sigmoid. -/
def sig' (y : EReal) : EReal := (Ideal.ofBits FTy.f32 1056964608#32 : EReal) * Ideal.tanh ((Ideal.ofBits FTy.f32 1056964608#32 : EReal) * y) + (Ideal.ofBits FTy.f32 1056964608#32 : EReal)

/-- An entry of the gate's gradient. -/
def coreG (d : Vec Ideal S544x1024 .bf16) (w : Vec Ideal S2816x1024 .bf16) (g u : Vec Ideal S544x2816 .bf16) (r : Fin 544) (s : Fin 2816) : EReal :=
  (Ideal.ofBits FTy.f32 1056964608#32 : EReal) * dot d w r s * u (ix2 r s : S544x2816.Idx)
    * (sig' (g (ix2 r s : S544x2816.Idx)) * (1 + g (ix2 r s : S544x2816.Idx) * (1 - sig' (g (ix2 r s : S544x2816.Idx)))))

/-- An entry of the other half's gradient. -/
def coreU (d : Vec Ideal S544x1024 .bf16) (w : Vec Ideal S2816x1024 .bf16) (g u : Vec Ideal S544x2816 .bf16) (r : Fin 544) (s : Fin 2816) : EReal :=
  (Ideal.ofBits FTy.f32 1056964608#32 : EReal) * dot d w r s * g (ix2 r s : S544x2816.Idx) * sig' (g (ix2 r s : S544x2816.Idx))

/-- An entry of a block of the result. -/
def core (d : Vec Ideal S544x1024 .bf16) (w : Vec Ideal S2816x1024 .bf16) (g u : Vec Ideal S544x2816 .bf16) (r : Fin 544) (q : Fin 5632) : EReal :=
  if h : q.val < 2816 then coreG d w g u r ⟨q.val, h⟩ else coreU d w g u r ⟨q.val - 2816, by omega⟩

/-- … in its first half. -/
theorem core_fst (d : Vec Ideal S544x1024 .bf16) (w : Vec Ideal S2816x1024 .bf16) (g u : Vec Ideal S544x2816 .bf16) {r p : Fin 544} {q : Fin 5632} {s : Fin 2816} (e : r = p) (h : q.val = s.val) :
    core d w g u r q = coreG d w g u p s := by
  subst e
  unfold core
  rw [dif_pos (by omega)]
  exact congrArg _ (Fin.ext h)

/-- … in its second half. -/
theorem core_snd (d : Vec Ideal S544x1024 .bf16) (w : Vec Ideal S2816x1024 .bf16) (g u : Vec Ideal S544x2816 .bf16) {r p : Fin 544} {q : Fin 5632} {s : Fin 2816} (e : r = p) (h : q.val = 2816 + s.val) :
    core d w g u r q = coreU d w g u p s := by
  subst e
  unfold core
  rw [dif_neg (by omega)]
  exact congrArg _ (Fin.ext (by simp only []; omega))

set_option maxHeartbeats 4000000 in
/-- What a block of the result holds. -/
theorem block_apply (d : Vec Ideal S544x1024 .bf16) (w : Vec Ideal S2816x1024 .bf16) (g u : Vec Ideal S544x2816 .bf16) (r : Fin 544) (q : Fin 5632) :
    (out0_4 d w g u (ix2 r q : S544x5632.Idx) : EReal) = core d w g u r q := by
  frame_out
  canon_tiles x h
  all_goals (open_payloads; pointwise)
  all_goals first
    | exact (core_fst d w g u (Fin.ext h0) (Eq.trans h1 (by dsimp only))).symm
    | exact (core_snd d w g u (Fin.ext h0) (Eq.trans h1 (by dsimp only <;> omega))).symm

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] :=
  (by decide +kernel : ∀ t : Fin grid0.N, _)

/-- The row of the array that a row of a grid point's block is. -/
abbrev row (t : Fin cfg0.N) (r : Fin 544) : Fin 4352 := ⟨544 * t.val + r.val, by have : t.val < 8 := t.isLt; omega⟩

/-- An entry of the cotangent's block. -/
theorem atD (c : Dev nD) (t : Fin cfg0.N) (r : Fin 544) (k : Fin 1024) :
    (iblk m c 0 t (ix2 r k : S544x1024.Idx) : EReal) = m ((c.tc : Thread nD τ).loc main_arg0) (ix2 (row t r) k : S4352x1024.Idx) := by
  blk_point [iblk, V, idx t]

/-- An entry of the weights' block. -/
theorem atW (c : Dev nD) (t : Fin cfg0.N) (s : Fin 2816) (k : Fin 1024) :
    (iblk m c 1 t (ix2 s k : S2816x1024.Idx) : EReal) = m ((c.tc : Thread nD τ).loc main_arg1) (ix2 s k : S2816x1024.Idx) := by
  blk_point [iblk, V, idx t]

/-- An entry of the gate's block. -/
theorem atG (c : Dev nD) (t : Fin cfg0.N) (r : Fin 544) (s : Fin 2816) :
    (iblk m c 2 t (ix2 r s : S544x2816.Idx) : EReal) = m ((c.tc : Thread nD τ).loc main_arg2) (ix2 (row t r) s : S4352x2816.Idx) := by
  blk_point [iblk, V, idx t]

/-- An entry of the other half's block. -/
theorem atU (c : Dev nD) (t : Fin cfg0.N) (r : Fin 544) (s : Fin 2816) :
    (iblk m c 3 t (ix2 r s : S544x2816.Idx) : EReal) = m ((c.tc : Thread nD τ).loc main_arg3) (ix2 (row t r) s : S4352x2816.Idx) := by
  blk_point [iblk, V, idx t]

/-- The product at a grid point. -/
theorem dotE (c : Dev nD) (t : Fin cfg0.N) (r : Fin 544) (s : Fin 2816) :
    dot (iblk m c 0 t) (iblk m c 1 t) r s = da (m ((c.tc : Thread nD τ).loc main_arg0)) (m ((c.tc : Thread nD τ).loc main_arg1)) (row t r) s := by
  unfold dot da
  simp only [atD, atW]

/-- The product of real entries is real. -/
theorem da_real (D : FVec Ideal S4352x1024 .bf16) (W : FVec Ideal S2816x1024 .bf16)
    (hD : ∀ i, ∃ r : ℝ, (D i : EReal) = (r : EReal)) (hW : ∀ i, ∃ r : ℝ, (W i : EReal) = (r : EReal)) (i : Fin 4352) (j : Fin 2816) :
    ∃ r : ℝ, da D W i j = (r : EReal) := by
  unfold da
  exact sum_real _ _ fun k => mul_real (hD _) (hW _)

/-- The array after the run is the reference's result. -/
theorem final4 (c : Dev nD)
    (hD : ∀ i, ∃ r : ℝ, (m ((c.tc : Thread nD τ).loc main_arg0) i : EReal) = (r : EReal))
    (hW : ∀ i, ∃ r : ℝ, (m ((c.tc : Thread nD τ).loc main_arg1) i : EReal) = (r : EReal))
    (hU : ∀ i, ∃ r : ℝ, (m ((c.tc : Thread nD τ).loc main_arg3) i : EReal) = (r : EReal)) : (dats m 0 c).arrAt 4 (cfgs 0).N
    = refV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  idx_vars y
  have e : (refV (m ((c.tc : Thread nD τ).loc main_arg0)) (m ((c.tc : Thread nD τ).loc main_arg1)) (m ((c.tc : Thread nD τ).loc main_arg2)) (m ((c.tc : Thread nD τ).loc main_arg3))
      (((View.whole main_v0).slice (win0_4.rect t)).emb (ix2 y0 y1)) : EReal)
      = refV (m ((c.tc : Thread nD τ).loc main_arg0)) (m ((c.tc : Thread nD τ).loc main_arg1)) (m ((c.tc : Thread nD τ).loc main_arg2)) (m ((c.tc : Thread nD τ).loc main_arg3))
        (ix2 (row t y0) y1 : S4352x5632.Idx) := by
    blk_ext [idx t]
  refine (block_apply _ _ _ _ y0 y1).trans (Eq.trans ?_ e.symm)
  by_cases h : y1.val < 2816
  · obtain ⟨s, rfl⟩ : ∃ s : Fin 2816, y1 = fst s := ⟨⟨y1.val, h⟩, rfl⟩
    refine (core_fst _ _ _ _ rfl rfl).trans ?_
    rw [refV_fst, dgate_apply]
    unfold coreG sig'
    rw [half_tanh, dotE, atG, atU]
    obtain ⟨d, hd⟩ := mul_real (mul_real ⟨1 / 2, half_word⟩ (da_real _ _ hD hW (row t y0) s)) (hU (ix2 (row t y0) s))
    rw [hd]
    exact (silu_grad d _).symm
  · obtain ⟨s, rfl⟩ : ∃ s : Fin 2816, y1 = snd s := ⟨⟨y1.val - 2816, by omega⟩, Fin.ext (by simp only []; omega)⟩
    refine (core_snd _ _ _ _ rfl rfl).trans ?_
    rw [refV_snd, dup_apply]
    unfold coreU sig'
    rw [half_tanh, dotE, atG]
    exact (mul_assoc _ _ _).trans (mul_comm _ _)

end Cert.ActIdeal.Final

end
-- ==== Proof.NormReal.lean ====
module

public import Idealize.ShloMosaic.Lib.Claim
public import proofs.«01_k».proof.Proof.Products

/-! # The gradient of a root mean square normalisation, in two spellings -/

@[expose] public section

noncomputable section

namespace Cert.NormReal

open Idealize.ShloMosaic Cert.Products

/-- The word of the row's length. -/
theorem len_word : (Ideal.ofBits FTy.f32 1149239296#32 : EReal) = ((1024 : ℝ) : EReal) := by
  simp [Ideal.ofBits, Ideal.ieee, -EReal.coe_mul]; norm_num

/-- The word of minus one half. -/
theorem neg_half_word : (Ideal.ofBits FTy.f32 3204448256#32 : EReal) = ((-(1 / 2) : ℝ) : EReal) := by
  simp [Ideal.ofBits, Ideal.ieee, -EReal.coe_mul]; norm_num

/-- The word added to the mean of squares is a positive real number. -/
theorem eps_word : ∃ ε : ℝ, 0 < ε ∧ (Ideal.ofBits FTy.f32 897988541#32 : EReal) = (ε : EReal) :=
  ⟨8796093 / 2 ^ 43, by norm_num, by simp [Ideal.ofBits, Ideal.ieee, -EReal.coe_mul]; norm_num⟩

/-- A finite sum of reals, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of the squares, with the constant that keeps it positive. -/
def square (x : Fin 1024 → EReal) : EReal :=
  Ideal.div (∑ k, x k * x k) (Ideal.ofBits FTy.f32 1149239296#32) + Ideal.ofBits FTy.f32 897988541#32

/-- The factor that normalises a row. -/
def scale (x : Fin 1024 → EReal) : EReal := Ideal.rsqrt (square x)

/-- The kernel's spelling of the row's gradient. -/
def kernelGrad (e : EReal) (d w x : Fin 1024 → EReal) (j : Fin 1024) : EReal :=
  e + scale x * (d j * w j - x j * scale x * Ideal.div (∑ k, d k * w k * (x k * scale x)) (Ideal.ofBits FTy.f32 1149239296#32))

/-- What the derivative of the factor contributes. -/
def part (d w x : Fin 1024 → EReal) : EReal :=
  Ideal.div ((∑ k, x k * (d k * w k)) * (Ideal.ofBits FTy.f32 3204448256#32 * Ideal.div (scale x) (square x))) (Ideal.ofBits FTy.f32 1149239296#32)

/-- The derivative's spelling of the row's gradient. -/
def referenceGrad (e : EReal) (d w x : Fin 1024 → EReal) (j : Fin 1024) : EReal :=
  e + d j * w j * scale x + x j * part d w x + part d w x * x j

/-- The factor of a row of reals. -/
theorem scale_coe (x : Fin 1024 → ℝ) : ∃ q r : ℝ, 0 < q ∧ square (fun k => (x k : EReal)) = (q : EReal)
    ∧ scale (fun k => (x k : EReal)) = (r : EReal) ∧ r * r = 1 / q := by
  obtain ⟨ε, hε, he⟩ := eps_word
  have hs : square (fun k => (x k : EReal)) = (((∑ k, x k * x k) / 1024 + ε : ℝ) : EReal) := by
    unfold square
    simp only [← EReal.coe_mul]
    rw [coe_sum, len_word, he, Ideal.div_coe (by norm_num), ← EReal.coe_mul, ← EReal.coe_add, mul_one_div]
  have hq : (0 : ℝ) < (∑ k, x k * x k) / 1024 + ε :=
    add_pos_of_nonneg_of_pos (div_nonneg (Finset.sum_nonneg fun k _ => mul_self_nonneg _) (by norm_num)) hε
  refine ⟨_, (Real.sqrt ((∑ k, x k * x k) / 1024 + ε))⁻¹, hq, hs, ?_, ?_⟩
  · unfold scale
    rw [hs, Ideal.rsqrt_coe, if_neg (not_lt.mpr hq.le), if_neg hq.ne']
  · rw [← mul_inv, Real.mul_self_sqrt hq.le, one_div]

/-- The two spellings agree on rows of reals. -/
theorem grad_eq (e : EReal) (d w x : Fin 1024 → EReal) (hd : ∀ k, ∃ r : ℝ, d k = (r : EReal)) (hw : ∀ k, ∃ r : ℝ, w k = (r : EReal))
    (hx : ∀ k, ∃ r : ℝ, x k = (r : EReal)) (j : Fin 1024) : kernelGrad e d w x j = referenceGrad e d w x j := by
  choose d' hd using hd
  choose w' hw using hw
  choose x' hx using hx
  obtain rfl : d = fun k => (d' k : EReal) := funext hd
  obtain rfl : w = fun k => (w' k : EReal) := funext hw
  obtain rfl : x = fun k => (x' k : EReal) := funext hx
  obtain ⟨q, r, hq, hs, hr, hqr⟩ := scale_coe x'
  unfold kernelGrad referenceGrad part
  rw [hs, hr, len_word, neg_half_word, Ideal.div_coe hq.ne', Ideal.div_coe (by norm_num : (1024 : ℝ) ≠ 0), Ideal.div_coe (by norm_num : (1024 : ℝ) ≠ 0)]
  simp only [← EReal.coe_mul]
  rw [coe_sum, coe_sum]
  simp only [← EReal.coe_mul, ← EReal.coe_sub]
  rw [add_assoc, add_assoc, ← EReal.coe_add, ← EReal.coe_add]
  congr 2
  have h1 : ∑ k, d' k * w' k * (x' k * r) = r * ∑ k, x' k * (d' k * w' k) := by
    rw [Finset.mul_sum]
    exact Finset.sum_congr rfl fun k _ => by ring
  rw [h1]
  generalize ∑ k, x' k * (d' k * w' k) = S
  rw [← hqr]
  ring

end Cert.NormReal
end
-- ==== Proof.NormValue.lean ====
module

public import proofs.«01_k».proof.Proof.Gen.NormIdeal.Value
public import proofs.«01_k».proof.Proof.Gen.NormRefIdeal.Run
public import proofs.«01_k».proof.Proof.NormReal

/-! # The gradient of the normalisation that opens the feed-forward layer -/

@[expose] public section

set_option maxRecDepth 16384

noncomputable section

namespace Cert.NormRefIdeal.At

open Cert.NormRefIdeal Cert.NormRefIdeal.Gen Cert.NormReal
open Idealize.ShloMosaic Idealize.ShloMosaic.TcCoe Idealize.SL.Sem Idealize.ShloMosaic.StableHlo

/-- The gradient of the normalised rows. -/
def dn (D : FVec Ideal S4352x5632 .bf16) (W : FVec Ideal S5632x1024 .bf16) : FVec Ideal S4352x1024 .f32 :=
  Host.dotGeneral dot_S4352x5632_S1024x5632_S4352x1024_1_1_0_0_n_n none (extf .f32 D bitsLt_bf16_f32) (transpose S1024x5632 [1, 0] (extf .f32 W bitsLt_bf16_f32) transposes_S5632x1024_S1024x5632_1_0)

/-- The mean of the squares of each row, with its constant. -/
def ms (H : FVec Ideal S4352x1024 .f32) : FVec Ideal S4352x1 .f32 :=
  addf (Host.divf (broadcastInDim S4352x1 ![0] bcast_S4352_S4352x1_0 (Host.reduceAdd (mulf H H) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))

/-- The gradient times the gain. -/
def gw (D : FVec Ideal S4352x5632 .bf16) (W : FVec Ideal S5632x1024 .bf16) (N : FVec Ideal S1x1024 .f32) : FVec Ideal S4352x1024 .f32 :=
  mulf (dn D W) (broadcastInDim S4352x1024 ![0, 1] bcast_S1x1024_S4352x1024_0_1 N)

/-- What the derivative of the factor contributes. -/
def part (D : FVec Ideal S4352x5632 .bf16) (W : FVec Ideal S5632x1024 .bf16) (H : FVec Ideal S4352x1024 .f32) (N : FVec Ideal S1x1024 .f32) : FVec Ideal S4352x1024 .f32 :=
  broadcastInDim S4352x1024 ![0] bcast_S4352_S4352x1024_0 (Host.reduceAdd (Host.divf (mulf (shapeCast _ (Host.reduceAdd (mulf H (gw D W N)) (constant S_ .f32 0x00000000#32) reducesTo_S4352x1024_S4352_d1 h_S_) shapeCasts_S4352_S4352x1) (mulf (broadcastInDim S4352x1 ![] bcast_S_S4352x1 (constant S_ .f32 0xBF000000#32)) (Host.divf (Host.rsqrt (ms H)) (ms H)))) (broadcastInDim S4352x1 ![] bcast_S_S4352x1 (constant S_ .f32 0x44800000#32))) (constant S_ .f32 0x00000000#32) reducesTo_S4352x1_S4352_d1 h_S_)

/-- The reference's gradient of the rows. -/
def rowsV (D : FVec Ideal S4352x5632 .bf16) (W : FVec Ideal S5632x1024 .bf16) (H E : FVec Ideal S4352x1024 .f32) (N : FVec Ideal S1x1024 .f32) : FVec Ideal S4352x1024 .f32 :=
  addf (addf (addf E (mulf (gw D W N) (broadcastInDim S4352x1024 ![0, 1] bcast_S4352x1_S4352x1024_0_1 (Host.rsqrt (ms H))))) (mulf H (part D W H N))) (mulf (part D W H N) H)

/-- … rounded. -/
def roundV (D : FVec Ideal S4352x5632 .bf16) (W : FVec Ideal S5632x1024 .bf16) (H E : FVec Ideal S4352x1024 .f32) (N : FVec Ideal S1x1024 .f32) : FVec Ideal S4352x1024 .bf16 :=
  truncf .bf16 (rowsV D W H E N) bitsLt_bf16_f32

/-- The reference's gradient of the gain. -/
def gainV (D : FVec Ideal S4352x5632 .bf16) (W : FVec Ideal S5632x1024 .bf16) (H : FVec Ideal S4352x1024 .f32) : FVec Ideal S1x1024 .f32 :=
  shapeCast _ (Host.reduceAdd (mulf (mulf H (broadcastInDim S4352x1024 ![0, 1] bcast_S4352x1_S4352x1024_0_1 (Host.rsqrt (ms H)))) (dn D W)) (constant S_ .f32 0x00000000#32) reducesTo_S4352x1024_S1024_d0 h_S_) shapeCasts_S1024_S1x1024

/-- The reference's run leaves these rows. -/
theorem rows_eq (m : (ℓ : Loc nD τ sig) → Buf (Elt Ideal) ℓ) (c : Dev nD) : Value.res_main_v39 (F := Ideal) m c = rowsV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v39 rowsV part gw dn ms
  rfl

/-- The reference's run leaves these rounded rows. -/
theorem round_eq (m : (ℓ : Loc nD τ sig) → Buf (Elt Ideal) ℓ) (c : Dev nD) : Value.res_main_v40 (F := Ideal) m c = roundV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v40 roundV rowsV part gw dn ms
  rfl

/-- The gradient of the normalised rows, at an index. -/
def dnAt (D : FVec Ideal S4352x5632 .bf16) (W : FVec Ideal S5632x1024 .bf16) (i : Fin 4352) (j : Fin 1024) : EReal :=
  ∑ k : Fin 5632, D (ix2 i k : S4352x5632.Idx) * W (ix2 k j : S5632x1024.Idx)

/-- A row of the array. -/
def rowAt (H : FVec Ideal S4352x1024 .f32) (i : Fin 4352) (k : Fin 1024) : EReal := H (ix2 i k : S4352x1024.Idx)

/-- The gain. -/
def gainAt (N : FVec Ideal S1x1024 .f32) (k : Fin 1024) : EReal := N (ix2 0 k : S1x1024.Idx)

/-- … as the reference spells it. -/
theorem dn_apply (D : FVec Ideal S4352x5632 .bf16) (W : FVec Ideal S5632x1024 .bf16) (i : Fin 4352) (j : Fin 1024) : (dn D W (ix2 i j : S4352x1024.Idx) : EReal) = dnAt D W i j := by
  unfold dn dnAt; pointwise

/-- The mean of the squares at a row. -/
theorem ms_apply (H : FVec Ideal S4352x1024 .f32) (i : Fin 4352) : (ms H (ix2 i 0 : S4352x1.Idx) : EReal) = square (rowAt H i) := by
  unfold ms square rowAt; pointwise

/-- The gradient times the gain, at an index. -/
theorem gw_apply (D : FVec Ideal S4352x5632 .bf16) (W : FVec Ideal S5632x1024 .bf16) (N : FVec Ideal S1x1024 .f32) (i : Fin 4352) (j : Fin 1024) :
    (gw D W N (ix2 i j : S4352x1024.Idx) : EReal) = dnAt D W i j * gainAt N j := by
  unfold gw gainAt; rw [← dn_apply]; pointwise

/-- What the derivative of the factor contributes, at an index. -/
theorem part_apply (D : FVec Ideal S4352x5632 .bf16) (W : FVec Ideal S5632x1024 .bf16) (H : FVec Ideal S4352x1024 .f32) (N : FVec Ideal S1x1024 .f32) (i : Fin 4352) (j : Fin 1024) :
    (part D W H N (ix2 i j : S4352x1024.Idx) : EReal) = NormReal.part (dnAt D W i) (gainAt N) (rowAt H i) := by
  unfold part NormReal.part scale
  rw [← ms_apply]
  simp only [← gw_apply]
  unfold rowAt
  pointwise
  exact Fintype.sum_unique _

/-- The gradient of the rows, at an index. -/
theorem rowsV_apply (D : FVec Ideal S4352x5632 .bf16) (W : FVec Ideal S5632x1024 .bf16) (H E : FVec Ideal S4352x1024 .f32) (N : FVec Ideal S1x1024 .f32) (i : Fin 4352) (j : Fin 1024) :
    (rowsV D W H E N (ix2 i j : S4352x1024.Idx) : EReal)
      = referenceGrad (E (ix2 i j : S4352x1024.Idx)) (dnAt D W i) (gainAt N) (rowAt H i) j := by
  unfold rowsV referenceGrad scale
  rw [← ms_apply, ← gw_apply, ← part_apply D W H N i j]
  unfold rowAt
  pointwise

/-- The rounded rows are the rows. -/
theorem roundV_apply (D : FVec Ideal S4352x5632 .bf16) (W : FVec Ideal S5632x1024 .bf16) (H E : FVec Ideal S4352x1024 .f32) (N : FVec Ideal S1x1024 .f32) (i : Fin 4352) (j : Fin 1024) :
    (roundV D W H E N (ix2 i j : S4352x1024.Idx) : EReal)
      = referenceGrad (E (ix2 i j : S4352x1024.Idx)) (dnAt D W i) (gainAt N) (rowAt H i) j := by
  rw [← rowsV_apply]
  unfold roundV
  pointwise

/-- The gradient of the gain, at an index. -/
theorem gainV_apply (D : FVec Ideal S4352x5632 .bf16) (W : FVec Ideal S5632x1024 .bf16) (H : FVec Ideal S4352x1024 .f32) (j : Fin 1024) :
    (gainV D W H (ix2 0 j : S1x1024.Idx) : EReal) = ∑ i : Fin 4352, rowAt H i j * scale (rowAt H i) * dnAt D W i j := by
  unfold gainV scale
  simp only [← ms_apply, ← dn_apply]
  unfold rowAt
  pointwise

end Cert.NormRefIdeal.At

namespace Cert.NormIdeal.Final

open Cert.NormIdeal Cert.NormIdeal.Gen Cert.NormReal Cert.Products Cert.NormRefIdeal.At
open Idealize.ShloMosaic Idealize.ShloMosaic.TcCoe Idealize.SL.Sem

/-- An entry of the product of two blocks. -/
def dot (x : Vec Ideal S544x5632 .bf16) (w : Vec Ideal S5632x1024 .bf16) (r : Fin 544) (s : Fin 1024) : EReal :=
  ∑ k : Fin 5632, x (ix2 r k : S544x5632.Idx) * w (ix2 k s : S5632x1024.Idx)

/-- A row of a block. -/
def brow (a : Vec Ideal S544x1024 .f32) (r : Fin 544) (k : Fin 1024) : EReal := a (ix2 r k : S544x1024.Idx)

/-- What a block of the rows' gradient holds. -/
theorem rows_apply (x : Vec Ideal S544x5632 .bf16) (w : Vec Ideal S5632x1024 .bf16) (a e : Vec Ideal S544x1024 .f32) (n : Vec Ideal S1x1024 .f32) (r : Fin 544) (s : Fin 1024) :
    (k0_pay5 (F := Ideal) x w a e n (ix2 r s : S544x1024.Idx) : EReal) = kernelGrad (e (ix2 r s : S544x1024.Idx)) (dot x w r) (gainAt n) (brow a r) s := by
  unfold kernelGrad scale square dot brow gainAt
  pointwise [k0_pay5, k0_pay4, k0_pay3, k0_pay2]

/-- … rounded. -/
theorem round_apply (x : Vec Ideal S544x5632 .bf16) (w : Vec Ideal S5632x1024 .bf16) (a e : Vec Ideal S544x1024 .f32) (n : Vec Ideal S1x1024 .f32) (r : Fin 544) (s : Fin 1024) :
    (k0_pay7 (F := Ideal) x w a e n (ix2 r s : S544x1024.Idx) : EReal) = kernelGrad (e (ix2 r s : S544x1024.Idx)) (dot x w r) (gainAt n) (brow a r) s := by
  rw [← rows_apply]
  pointwise [k0_pay7]

/-- What a block of rows adds to the gain's gradient. -/
theorem gain_apply (x : Vec Ideal S544x5632 .bf16) (w : Vec Ideal S5632x1024 .bf16) (a : Vec Ideal S544x1024 .f32) (s : Fin 1024) :
    (k0_pay6 (F := Ideal) x w a (ix2 0 s : S1x1024.Idx) : EReal) = ∑ r : Fin 544, dot x w r s * (brow a r s * scale (brow a r)) := by
  unfold scale square dot brow
  pointwise [k0_pay6, k0_pay4, k0_pay3, k0_pay2]

/-- The accumulation adds. -/
theorem add_apply (p q : FVec Ideal S1x1024 .f32) (s : Fin 1024) :
    (k0_pay1 (F := Ideal) p q (ix2 0 s : S1x1024.Idx) : EReal) = q (ix2 0 s : S1x1024.Idx) + p (ix2 0 s : S1x1024.Idx) := by
  pointwise [k0_pay1]

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

/-- The row of the array that a row of a grid point's block is. -/
abbrev row (t : Fin cfg0.N) (r : Fin 544) : Fin 4352 := ⟨544 * t.val + r.val, by have : t.val < 8 := t.isLt; omega⟩

/-- The rows' gradient at a grid point. -/
theorem out5 (c : Dev nD) (t : Fin cfg0.N) : (outsAt0 m c t.val t.isLt).1
    = k0_pay5 (iblk m c 0 t) (iblk m c 1 t) (iblk m c 2 t) (iblk m c 3 t) (iblk m c 4 t) := by
  have hN : t.val < 8 := t.isLt
  by_cases h : t.val % 8 = 0
  · rw [outsAt0_A m c t h (by omega)]; frame_out
  · rw [outsAt0_B m c t h (by omega)]; frame_out

/-- The rounded rows' gradient at a grid point. -/
theorem out6 (c : Dev nD) (t : Fin cfg0.N) : (outsAt0 m c t.val t.isLt).2.1
    = k0_pay7 (iblk m c 0 t) (iblk m c 1 t) (iblk m c 2 t) (iblk m c 3 t) (iblk m c 4 t) := by
  have hN : t.val < 8 := t.isLt
  by_cases h : t.val % 8 = 0
  · rw [outsAt0_A m c t h (by omega)]; frame_out
  · rw [outsAt0_B m c t h (by omega)]; frame_out

/-- The gain's gradient at the first grid point. -/
theorem out7_A (c : Dev nD) (t : Fin cfg0.N) (h : t.val % 8 = 0) : (outsAt0 m c t.val t.isLt).2.2
    = k0_pay6 (iblk m c 0 t) (iblk m c 1 t) (iblk m c 2 t) := by
  have hN : t.val < 8 := t.isLt
  rw [outsAt0_A m c t h (by omega)]; frame_out

/-- The gain's gradient at a later grid point. -/
theorem out7_B (c : Dev nD) (t : Fin cfg0.N) (h : ¬ t.val % 8 = 0) : (outsAt0 m c t.val t.isLt).2.2
    = k0_pay1 (k0_pay6 (iblk m c 0 t) (iblk m c 1 t) (iblk m c 2 t)) (outsAt0 m c (t.val - 1) (Nat.lt_of_le_of_lt (Nat.sub_le _ _) t.isLt)).2.2 := by
  have hN : t.val < 8 := t.isLt
  rw [outsAt0_B m c t h (by omega)]; frame_out

/-- An entry of the cotangent's block. -/
theorem atD (c : Dev nD) (t : Fin cfg0.N) (r : Fin 544) (k : Fin 5632) :
    (iblk m c 0 t (ix2 r k : S544x5632.Idx) : EReal) = m ((c.tc : Thread nD τ).loc main_arg0) (ix2 (row t r) k : S4352x5632.Idx) := by
  blk_point [iblk, V, idx t]

/-- An entry of the weights' block. -/
theorem atW (c : Dev nD) (t : Fin cfg0.N) (k : Fin 5632) (s : Fin 1024) :
    (iblk m c 1 t (ix2 k s : S5632x1024.Idx) : EReal) = m ((c.tc : Thread nD τ).loc main_arg1) (ix2 k s : S5632x1024.Idx) := by
  blk_point [iblk, V, idx t]

/-- An entry of the rows' block. -/
theorem atH (c : Dev nD) (t : Fin cfg0.N) (r : Fin 544) (s : Fin 1024) :
    (iblk m c 2 t (ix2 r s : S544x1024.Idx) : EReal) = m ((c.tc : Thread nD τ).loc main_arg2) (ix2 (row t r) s : S4352x1024.Idx) := by
  blk_point [iblk, V, idx t]

/-- An entry of the residual gradient's block. -/
theorem atE (c : Dev nD) (t : Fin cfg0.N) (r : Fin 544) (s : Fin 1024) :
    (iblk m c 3 t (ix2 r s : S544x1024.Idx) : EReal) = m ((c.tc : Thread nD τ).loc main_arg3) (ix2 (row t r) s : S4352x1024.Idx) := by
  blk_point [iblk, V, idx t]

/-- An entry of the gain's block. -/
theorem atN (c : Dev nD) (t : Fin cfg0.N) (s : Fin 1024) :
    (iblk m c 4 t (ix2 0 s : S1x1024.Idx) : EReal) = m ((c.tc : Thread nD τ).loc main_arg4) (ix2 0 s : S1x1024.Idx) := by
  blk_point [iblk, V, idx t]

/-- The product at a grid point. -/
theorem dotE (c : Dev nD) (t : Fin cfg0.N) (r : Fin 544) :
    dot (iblk m c 0 t) (iblk m c 1 t) r = dnAt (m ((c.tc : Thread nD τ).loc main_arg0)) (m ((c.tc : Thread nD τ).loc main_arg1)) (row t r) := by
  funext s
  unfold dot dnAt
  simp only [atD, atW]

/-- The row at a grid point. -/
theorem browE (c : Dev nD) (t : Fin cfg0.N) (r : Fin 544) :
    brow (iblk m c 2 t) r = rowAt (m ((c.tc : Thread nD τ).loc main_arg2)) (row t r) := by
  funext s
  exact atH m c t r s

/-- The gain at a grid point. -/
theorem gainE (c : Dev nD) (t : Fin cfg0.N) : gainAt (iblk m c 4 t) = gainAt (m ((c.tc : Thread nD τ).loc main_arg4)) := by
  funext s
  exact atN m c t s

/-- The arguments the gradient needs real. -/
structure Finite (c : Dev nD) : Prop where
  d : ∀ i, ∃ r : ℝ, (m ((c.tc : Thread nD τ).loc main_arg0) i : EReal) = (r : EReal)
  w : ∀ i, ∃ r : ℝ, (m ((c.tc : Thread nD τ).loc main_arg1) i : EReal) = (r : EReal)
  h : ∀ i, ∃ r : ℝ, (m ((c.tc : Thread nD τ).loc main_arg2) i : EReal) = (r : EReal)
  n : ∀ i, ∃ r : ℝ, (m ((c.tc : Thread nD τ).loc main_arg4) i : EReal) = (r : EReal)

/-- The two spellings agree on the arguments. -/
theorem grad (c : Dev nD) (f : Finite m c) (e : EReal) (i : Fin 4352) (j : Fin 1024) :
    kernelGrad e (dnAt (m ((c.tc : Thread nD τ).loc main_arg0)) (m ((c.tc : Thread nD τ).loc main_arg1)) i) (gainAt (m ((c.tc : Thread nD τ).loc main_arg4))) (rowAt (m ((c.tc : Thread nD τ).loc main_arg2)) i) j
      = referenceGrad e (dnAt (m ((c.tc : Thread nD τ).loc main_arg0)) (m ((c.tc : Thread nD τ).loc main_arg1)) i) (gainAt (m ((c.tc : Thread nD τ).loc main_arg4))) (rowAt (m ((c.tc : Thread nD τ).loc main_arg2)) i) j :=
  grad_eq _ _ _ _ (fun k => sum_real _ _ fun l => mul_real (f.d _) (f.w _)) (fun k => f.n _) (fun k => f.h _) j

/-- The rows' gradient after the run is the reference's. -/
theorem final5 (c : Dev nD) (f : Finite m c) : (dats m 0 c).arrAt 5 (cfgs 0).N = rowsV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5, out5]
  idx_vars y
  have e : (rowsV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((View.whole main_v0_0).slice (win0_5.rect t)).emb (ix2 y0 y1)) : EReal)
      = rowsV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t y0) y1 : S4352x1024.Idx) := by
    blk_ext [idx t]
  refine (rows_apply _ _ _ _ _ y0 y1).trans (Eq.trans ?_ e.symm)
  rw [rowsV_apply, dotE, browE, gainE, atE]
  exact grad m c f _ _ _

/-- The rounded rows' gradient after the run is the reference's. -/
theorem final6 (c : Dev nD) (f : Finite m c) : (dats m 0 c).arrAt 6 (cfgs 0).N = roundV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6, out6]
  idx_vars y
  have e : (roundV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((View.whole main_v0_1).slice (win0_6.rect t)).emb (ix2 y0 y1)) : EReal)
      = roundV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t y0) y1 : S4352x1024.Idx) := by
    blk_ext [idx t]
  refine (round_apply _ _ _ _ _ y0 y1).trans (Eq.trans ?_ e.symm)
  rw [roundV_apply, dotE, browE, gainE, atE]
  exact grad m c f _ _ _

/-- What a grid point adds to the gain's gradient. -/
def term (c : Dev nD) (t : Fin cfg0.N) (s : Fin 1024) : EReal :=
  ∑ r : Fin 544, dnAt (m ((c.tc : Thread nD τ).loc main_arg0)) (m ((c.tc : Thread nD τ).loc main_arg1)) (row t r) s
    * (rowAt (m ((c.tc : Thread nD τ).loc main_arg2)) (row t r) s * scale (rowAt (m ((c.tc : Thread nD τ).loc main_arg2)) (row t r)))

/-- … as its block holds it. -/
theorem term_eq (c : Dev nD) (t : Fin cfg0.N) (s : Fin 1024) :
    (k0_pay6 (F := Ideal) (iblk m c 0 t) (iblk m c 1 t) (iblk m c 2 t) (ix2 0 s : S1x1024.Idx) : EReal) = term m c t s := by
  rw [gain_apply]
  unfold term
  simp only [dotE, browE]

/-- The gain's gradient after the last grid point. -/
theorem acc (c : Dev nD) (t : Fin cfg0.N) (ht : t.val + 1 = cfg0.N) (s : Fin 1024) :
    ((outsAt0 m c t.val t.isLt).2.2 (ix2 0 s : S1x1024.Idx) : EReal) = ∑ p : Fin cfg0.N, term m c p s := by
  rw [Pipeline.eq_sum_fin_of_reset_step_apply_last
    (fun n h (s : Fin 1024) => ((outsAt0 m c n h).2.2 (ix2 0 s : S1x1024.Idx) : EReal)) 8 (fun _ => 0) (fun t s => term m c t s)
    (fun t h s => by rw [out7_A m c t h, term_eq, zero_add])
    (fun t h s => by rw [out7_B m c t h, add_apply, term_eq])
    (le_of_eq N_0) t ht s, zero_add]

/-- The gain's gradient after the run is the reference's. -/
theorem final7 (c : Dev nD) : (dats m 0 c).arrAt 7 (cfgs 0).N = gainV (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  have ht : t.val + 1 = cfg0.N := (by decide +kernel : ∀ t : Fin cfg0.N, (cfg0.win 7).flush t = true → t.val + 1 = cfg0.N) t hf
  blk_simp
  rw [after0_7]
  idx_vars y
  obtain rfl : y0 = 0 := Subsingleton.elim _ _
  have e : (gainV (m ((c.tc : Thread nD τ).loc main_arg0)) (m ((c.tc : Thread nD τ).loc main_arg1)) (m ((c.tc : Thread nD τ).loc main_arg2)) (((View.whole main_v0_2).slice (win0_7.rect t)).emb (ix2 0 y1)) : EReal)
      = gainV (m ((c.tc : Thread nD τ).loc main_arg0)) (m ((c.tc : Thread nD τ).loc main_arg1)) (m ((c.tc : Thread nD τ).loc main_arg2)) (ix2 0 y1 : S1x1024.Idx) := by
    blk_ext [idx t]
  refine (acc m c t ht y1).trans (Eq.trans ?_ e.symm)
  rw [gainV_apply, Fin.sum_univ_tiles 8 544 rfl]
  unfold term
  refine Finset.sum_congr rfl fun p _ => Finset.sum_congr rfl fun r _ => ?_
  have hr : row p r = ⟨p.val * 544 + r.val, by have : p.val < 8 := p.isLt; omega⟩ := Fin.ext (by show 544 * p.val + r.val = p.val * 544 + r.val; omega)
  rw [hr]
  exact mul_comm _ _

end Cert.NormIdeal.Final

end
-- ==== Proof.DownGradValue.lean ====
module

public import proofs.«01_k».proof.Proof.Gen.DownGradIdeal.Value
public import proofs.«01_k».proof.Proof.Gen.DownGradRefIdeal.Run
public import proofs.«01_k».proof.Proof.Products

/-! # The gradient of a product with respect to its weights

The rows are summed in two halves, each a product of blocks. -/

@[expose] public section

set_option maxRecDepth 16384

noncomputable section

namespace Cert.DownGradRefIdeal.At

open Cert.DownGradRefIdeal Cert.DownGradRefIdeal.Gen Cert.Products
open Idealize.ShloMosaic Idealize.ShloMosaic.TcCoe Idealize.SL.Sem Idealize.ShloMosaic.StableHlo

/-- The reference's result. -/
def refV (A : FVec Ideal S4352x2816 .bf16) (B : FVec Ideal S4352x1024 .bf16) : FVec Ideal S2816x1024 .bf16 :=
  truncf .bf16 (transpose S2816x1024 [1, 0] (Host.dotGeneral dot_S4352x1024_S4352x2816_S1024x2816_0_0_1_1_n_n none (mulf (broadcastInDim S4352x1024 ![] bcast_S_S4352x1024 (constant S_ .f32 0x3F000000#32)) (extf .f32 B bitsLt_bf16_f32)) (extf .f32 A bitsLt_bf16_f32)) transposes_S1024x2816_S2816x1024_1_0) bitsLt_bf16_f32

/-- … at an index. -/
theorem refV_apply (A : FVec Ideal S4352x2816 .bf16) (B : FVec Ideal S4352x1024 .bf16) (i : Fin 2816) (j : Fin 1024) :
    (refV A B (ix2 i j : S2816x1024.Idx) : EReal)
      = ((1 / 2 : ℝ) : EReal) * ∑ r : Fin 4352, A (ix2 r i : S4352x2816.Idx) * B (ix2 r j : S4352x1024.Idx) := by
  unfold refV; pointwise
  rw [half_word, half_sum]
  exact Finset.sum_congr rfl fun k _ => by rw [mul_assoc, mul_comm (B _) (A _)]

end Cert.DownGradRefIdeal.At

namespace Cert.DownGradIdeal.Final

open Cert.DownGradIdeal Cert.DownGradIdeal.Gen Cert.Products
open Idealize.ShloMosaic Idealize.ShloMosaic.TcCoe Idealize.SL.Sem

/-- What a block of the result holds, over the two halves of the rows. -/
theorem pay_apply (a a' : FVec Ideal S2176x1408 .bf16) (b b' : FVec Ideal S2176x1024 .bf16) (r : Fin 1408) (s : Fin 1024) :
    (k0_pay4 (F := Ideal) a' b' (k0_pay2 (F := Ideal) a b) (ix2 r s : S1408x1024.Idx) : EReal)
      = ((1 / 2 : ℝ) : EReal) * ((∑ k : Fin 2176, a (ix2 k r : S2176x1408.Idx) * b (ix2 k s : S2176x1024.Idx))
          + ∑ k : Fin 2176, a' (ix2 k r : S2176x1408.Idx) * b' (ix2 k s : S2176x1024.Idx)) := by
  pointwise [k0_pay4, k0_pay2, k0_pay1]
  rw [half_word, mul_comm]

variable (m : (ℓ : Loc nD τ sig) → Buf (Elt Ideal) ℓ)

/-- The blocks' places at a grid point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- What the first half of the rows leaves in the accumulator. -/
theorem acc_A (c : Dev nD) (t : Fin cfg0.N) (h0 : t.val % 2 = 0) (h2 : ¬ t.val % 2 = 1) :
    (outsAt0 m c t.val t.isLt).2 = k0_pay2 (iblk m c 0 t) (iblk m c 1 t) := by
  rw [outsAt0_A m c t h0 h2]; frame_out

/-- What the second half of the rows writes back. -/
theorem out_B (c : Dev nD) (t : Fin cfg0.N) (h0 : ¬ t.val % 2 = 0) (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]; frame_out
  exact congrArg (k0_pay4 _ _) (Memref.IsWhole.read_unread _ _)

/-- An entry of the left factor's block. -/
theorem atA (c : Dev nD) (t : Fin cfg0.N) (k : Fin 2176) (r : Fin 1408) :
    (iblk m c 0 t (ix2 k r : S2176x1408.Idx) : EReal) = m ((c.tc : Thread nD τ).loc main_arg0)
      (ix2 ⟨2176 * (t.val % 2) + k.val, by omega⟩ ⟨1408 * (t.val / 2) + r.val, by have : t.val < 4 := t.isLt; omega⟩ : S4352x2816.Idx) := by
  blk_point [iblk, V, idx t]

/-- An entry of the right factor's block. -/
theorem atB (c : Dev nD) (t : Fin cfg0.N) (k : Fin 2176) (s : Fin 1024) :
    (iblk m c 1 t (ix2 k s : S2176x1024.Idx) : EReal) = m ((c.tc : Thread nD τ).loc main_arg1)
      (ix2 ⟨2176 * (t.val % 2) + k.val, by omega⟩ s : S4352x1024.Idx) := by
  blk_point [iblk, V, idx t]

/-- The array after the run is the reference's result. -/
theorem final2 (c : Dev nD) : (dats m 0 c).arrAt 2 (cfgs 0).N
    = Cert.DownGradRefIdeal.At.refV (m ((c.tc : Thread nD τ).loc main_arg0)) (m ((c.tc : Thread nD τ).loc main_arg1)) := by
  refine (dats m 0 c).arrAt_eq_of_covers 2 _ (by decide +kernel) fun t hf y => ?_
  have h1 : t.val % 2 = 1 := (by decide +kernel : ∀ t : Fin cfg0.N, (cfg0.win 2).flush t = true → t.val % 2 = 1) t hf
  blk_simp
  rw [after0_2, out_B m c t (by omega) h1]
  have hp : t.val - 1 < cfg0.N := Nat.lt_of_le_of_lt (Nat.sub_le _ _) t.isLt
  rw [acc_A m c ⟨t.val - 1, hp⟩ (by show (t.val - 1) % 2 = 0; omega) (by show ¬(t.val - 1) % 2 = 1; omega)]
  idx_vars y
  have e : (Cert.DownGradRefIdeal.At.refV (m ((c.tc : Thread nD τ).loc main_arg0)) (m ((c.tc : Thread nD τ).loc main_arg1))
      (((View.whole main_v0).slice (win0_2.rect t)).emb (ix2 y0 y1)) : EReal)
      = Cert.DownGradRefIdeal.At.refV (m ((c.tc : Thread nD τ).loc main_arg0)) (m ((c.tc : Thread nD τ).loc main_arg1))
        (ix2 ⟨1408 * (t.val / 2) + y0.val, by have : t.val < 4 := t.isLt; omega⟩ y1 : S2816x1024.Idx) := by
    blk_ext [idx t]
  refine (pay_apply _ _ _ _ y0 y1).trans (Eq.trans ?_ e.symm)
  rw [Cert.DownGradRefIdeal.At.refV_apply, Fin.sum_univ_two_halves 2176 2176 rfl]
  have hm : ((⟨t.val - 1, hp⟩ : Fin cfg0.N)).val % 2 = 0 := by show (t.val - 1) % 2 = 0; omega
  have hd : ((⟨t.val - 1, hp⟩ : Fin cfg0.N)).val / 2 = t.val / 2 := by show (t.val - 1) / 2 = t.val / 2; omega
  simp only [atA, atB, hm, hd, h1, Nat.mul_zero, Nat.zero_add, Nat.mul_one]

end Cert.DownGradIdeal.Final
end
-- ==== Proof.GateUpGradValue.lean ====
module

public import proofs.«01_k».proof.Proof.Gen.GateUpGradIdeal.Value
public import proofs.«01_k».proof.Proof.Gen.GateUpGradRefIdeal.Run
public import proofs.«01_k».proof.Proof.Products

/-! # The gradient of a product with respect to its weights

The rows are summed in two halves, each a product of blocks. -/

@[expose] public section

set_option maxRecDepth 16384

noncomputable section

namespace Cert.GateUpGradRefIdeal.At

open Cert.GateUpGradRefIdeal Cert.GateUpGradRefIdeal.Gen Cert.Products
open Idealize.ShloMosaic Idealize.ShloMosaic.TcCoe Idealize.SL.Sem Idealize.ShloMosaic.StableHlo

/-- The reference's result. -/
def refV (A : FVec Ideal S4352x5632 .bf16) (B : FVec Ideal S4352x1024 .bf16) : FVec Ideal S5632x1024 .bf16 :=
  truncf .bf16 (transpose S5632x1024 [1, 0] (transpose S1024x5632 [1, 0] (Host.dotGeneral dot_S4352x5632_S4352x1024_S5632x1024_0_0_1_1_n_n none (extf .f32 A bitsLt_bf16_f32) (extf .f32 B bitsLt_bf16_f32)) transposes_S5632x1024_S1024x5632_1_0) transposes_S1024x5632_S5632x1024_1_0) bitsLt_bf16_f32

/-- … at an index. -/
theorem refV_apply (A : FVec Ideal S4352x5632 .bf16) (B : FVec Ideal S4352x1024 .bf16) (i : Fin 5632) (j : Fin 1024) :
    (refV A B (ix2 i j : S5632x1024.Idx) : EReal)
      = ∑ r : Fin 4352, A (ix2 r i : S4352x5632.Idx) * B (ix2 r j : S4352x1024.Idx) := by
  unfold refV; pointwise

end Cert.GateUpGradRefIdeal.At

namespace Cert.GateUpGradIdeal.Final

open Cert.GateUpGradIdeal Cert.GateUpGradIdeal.Gen Cert.Products
open Idealize.ShloMosaic Idealize.ShloMosaic.TcCoe Idealize.SL.Sem

/-- What a block of the result holds, over the two halves of the rows. -/
theorem pay_apply (a a' : FVec Ideal S2176x1408 .bf16) (b b' : FVec Ideal S2176x1024 .bf16) (r : Fin 1408) (s : Fin 1024) :
    (k0_pay4 (F := Ideal) a' b' (k0_pay2 (F := Ideal) a b) (ix2 r s : S1408x1024.Idx) : EReal)
      = ((∑ k : Fin 2176, a (ix2 k r : S2176x1408.Idx) * b (ix2 k s : S2176x1024.Idx))
          + ∑ k : Fin 2176, a' (ix2 k r : S2176x1408.Idx) * b' (ix2 k s : S2176x1024.Idx)) := by
  pointwise [k0_pay4, k0_pay2, k0_pay1]

variable (m : (ℓ : Loc nD τ sig) → Buf (Elt Ideal) ℓ)

/-- The blocks' places at a grid point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- What the first half of the rows leaves in the accumulator. -/
theorem acc_A (c : Dev nD) (t : Fin cfg0.N) (h0 : t.val % 2 = 0) (h2 : ¬ t.val % 2 = 1) :
    (outsAt0 m c t.val t.isLt).2 = k0_pay2 (iblk m c 0 t) (iblk m c 1 t) := by
  rw [outsAt0_A m c t h0 h2]; frame_out

/-- What the second half of the rows writes back. -/
theorem out_B (c : Dev nD) (t : Fin cfg0.N) (h0 : ¬ t.val % 2 = 0) (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]; frame_out
  exact congrArg (k0_pay4 _ _) (Memref.IsWhole.read_unread _ _)

/-- An entry of the left factor's block. -/
theorem atA (c : Dev nD) (t : Fin cfg0.N) (k : Fin 2176) (r : Fin 1408) :
    (iblk m c 0 t (ix2 k r : S2176x1408.Idx) : EReal) = m ((c.tc : Thread nD τ).loc main_arg0)
      (ix2 ⟨2176 * (t.val % 2) + k.val, by omega⟩ ⟨1408 * (t.val / 2) + r.val, by have : t.val < 8 := t.isLt; omega⟩ : S4352x5632.Idx) := by
  blk_point [iblk, V, idx t]

/-- An entry of the right factor's block. -/
theorem atB (c : Dev nD) (t : Fin cfg0.N) (k : Fin 2176) (s : Fin 1024) :
    (iblk m c 1 t (ix2 k s : S2176x1024.Idx) : EReal) = m ((c.tc : Thread nD τ).loc main_arg1)
      (ix2 ⟨2176 * (t.val % 2) + k.val, by omega⟩ s : S4352x1024.Idx) := by
  blk_point [iblk, V, idx t]

/-- The array after the run is the reference's result. -/
theorem final2 (c : Dev nD) : (dats m 0 c).arrAt 2 (cfgs 0).N
    = Cert.GateUpGradRefIdeal.At.refV (m ((c.tc : Thread nD τ).loc main_arg0)) (m ((c.tc : Thread nD τ).loc main_arg1)) := by
  refine (dats m 0 c).arrAt_eq_of_covers 2 _ (by decide +kernel) fun t hf y => ?_
  have h1 : t.val % 2 = 1 := (by decide +kernel : ∀ t : Fin cfg0.N, (cfg0.win 2).flush t = true → t.val % 2 = 1) t hf
  blk_simp
  rw [after0_2, out_B m c t (by omega) h1]
  have hp : t.val - 1 < cfg0.N := Nat.lt_of_le_of_lt (Nat.sub_le _ _) t.isLt
  rw [acc_A m c ⟨t.val - 1, hp⟩ (by show (t.val - 1) % 2 = 0; omega) (by show ¬(t.val - 1) % 2 = 1; omega)]
  idx_vars y
  have e : (Cert.GateUpGradRefIdeal.At.refV (m ((c.tc : Thread nD τ).loc main_arg0)) (m ((c.tc : Thread nD τ).loc main_arg1))
      (((View.whole main_v0).slice (win0_2.rect t)).emb (ix2 y0 y1)) : EReal)
      = Cert.GateUpGradRefIdeal.At.refV (m ((c.tc : Thread nD τ).loc main_arg0)) (m ((c.tc : Thread nD τ).loc main_arg1))
        (ix2 ⟨1408 * (t.val / 2) + y0.val, by have : t.val < 8 := t.isLt; omega⟩ y1 : S5632x1024.Idx) := by
    blk_ext [idx t]
  refine (pay_apply _ _ _ _ y0 y1).trans (Eq.trans ?_ e.symm)
  rw [Cert.GateUpGradRefIdeal.At.refV_apply, Fin.sum_univ_two_halves 2176 2176 rfl]
  have hm : ((⟨t.val - 1, hp⟩ : Fin cfg0.N)).val % 2 = 0 := by show (t.val - 1) % 2 = 0; omega
  have hd : ((⟨t.val - 1, hp⟩ : Fin cfg0.N)).val / 2 = t.val / 2 := by show (t.val - 1) / 2 = t.val / 2; omega
  simp only [atA, atB, hm, hd, h1, Nat.mul_zero, Nat.zero_add, Nat.mul_one]

end Cert.GateUpGradIdeal.Final
end
-- ==== Proof.FfnClaim.lean ====
module

public import proofs.«01_k».proof.Defs
public import proofs.«01_k».proof.Proof.ConvClaim
public import proofs.«01_k».proof.Proof.GateUpValue
public import proofs.«01_k».proof.Proof.DownValue
public import proofs.«01_k».proof.Proof.ActValue
public import proofs.«01_k».proof.Proof.NormValue
public import proofs.«01_k».proof.Proof.DownGradValue
public import proofs.«01_k».proof.Proof.GateUpGradValue
public import Idealize.ShloMosaic.Lib.Claim

/-! # The calls of the feed-forward layer leave the reference's results -/

@[expose] public section

set_option maxRecDepth 16384

noncomputable section

namespace Cert.FfnClaim

open Idealize.ShloMosaic Idealize.ShloMosaic.TcCoe Idealize.SL.Sem Cert.ConvClaim

/-- The precondition's facts about shapes. -/
theorem act_facts : Cert.Pre_finite_activation.Facts := ⟨by decide, by decide, by decide, by decide⟩

/-- The precondition's facts about shapes. -/
theorem norm_facts : Cert.Pre_finite_norm.Facts := ⟨by decide, by decide, by decide, by decide, by decide⟩

open Cert.Pre_finite_activation in
/-- The cotangent's entries are real numbers. -/
theorem act_d [Facts] (A : FVec Ideal S4352x1024 .bf16) (B : FVec Ideal S2816x1024 .bf16) (C D : FVec Ideal S4352x2816 .bf16)
    (h : (fn A B C D).1 = fun _ => 1#1) (i : S4352x1024.Idx) : ∃ r : ℝ, (A i : EReal) = (r : EReal) := by
  refine real_of_abs_lt _ (Eq.trans ?_ (congrFun h i))
  rw [← word_top]
  rfl

open Cert.Pre_finite_activation in
/-- The weights' entries are real numbers. -/
theorem act_w [Facts] (A : FVec Ideal S4352x1024 .bf16) (B : FVec Ideal S2816x1024 .bf16) (C D : FVec Ideal S4352x2816 .bf16)
    (h : (fn A B C D).2.1 = fun _ => 1#1) (i : S2816x1024.Idx) : ∃ r : ℝ, (B i : EReal) = (r : EReal) := by
  refine real_of_abs_lt _ (Eq.trans ?_ (congrFun h i))
  rw [← word_top]
  rfl

open Cert.Pre_finite_activation in
/-- The other half's entries are real numbers. -/
theorem act_u [Facts] (A : FVec Ideal S4352x1024 .bf16) (B : FVec Ideal S2816x1024 .bf16) (C D : FVec Ideal S4352x2816 .bf16)
    (h : (fn A B C D).2.2 = fun _ => 1#1) (i : S4352x2816.Idx) : ∃ r : ℝ, (D i : EReal) = (r : EReal) := by
  refine real_of_abs_lt _ (Eq.trans ?_ (congrFun h i))
  rw [← word_top]
  rfl

open Cert.Pre_finite_norm in
/-- The entries of the cotangent are real numbers. -/
theorem norm_d [Facts] (A : FVec Ideal S4352x5632 .bf16) (B : FVec Ideal S5632x1024 .bf16) (C D : FVec Ideal S4352x1024 .f32)
    (E : FVec Ideal S1x1024 .f32) (h : (fn A B C D E).1 = fun _ => 1#1) (i : S4352x5632.Idx) : ∃ r : ℝ, (A i : EReal) = (r : EReal) := by
  refine real_of_abs_lt _ (Eq.trans ?_ (congrFun h i))
  rw [← word_top]
  rfl

open Cert.Pre_finite_norm in
/-- The entries of the weights are real numbers. -/
theorem norm_w [Facts] (A : FVec Ideal S4352x5632 .bf16) (B : FVec Ideal S5632x1024 .bf16) (C D : FVec Ideal S4352x1024 .f32)
    (E : FVec Ideal S1x1024 .f32) (h : (fn A B C D E).2.1 = fun _ => 1#1) (i : S5632x1024.Idx) : ∃ r : ℝ, (B i : EReal) = (r : EReal) := by
  refine real_of_abs_lt _ (Eq.trans ?_ (congrFun h i))
  rw [← word_top]
  rfl

open Cert.Pre_finite_norm in
/-- The entries of the rows are real numbers. -/
theorem norm_h [Facts] (A : FVec Ideal S4352x5632 .bf16) (B : FVec Ideal S5632x1024 .bf16) (C D : FVec Ideal S4352x1024 .f32)
    (E : FVec Ideal S1x1024 .f32) (h : (fn A B C D E).2.2.1 = fun _ => 1#1) (i : S4352x1024.Idx) : ∃ r : ℝ, (C i : EReal) = (r : EReal) := by
  refine real_of_abs_lt _ (Eq.trans ?_ (congrFun h i))
  rw [← word_top]
  rfl

open Cert.Pre_finite_norm in
/-- The entries of the gain are real numbers. -/
theorem norm_n [Facts] (A : FVec Ideal S4352x5632 .bf16) (B : FVec Ideal S5632x1024 .bf16) (C D : FVec Ideal S4352x1024 .f32)
    (E : FVec Ideal S1x1024 .f32) (h : (fn A B C D E).2.2.2 = fun _ => 1#1) (i : S1x1024.Idx) : ∃ r : ℝ, (E i : EReal) = (r : EReal) := by
  refine real_of_abs_lt _ (Eq.trans ?_ (congrFun h i))
  rw [← word_top]
  rfl

/-- The first product and its activation. -/
theorem gateUp [Cert.GateUpIdeal.Facts] [Cert.GateUpRefIdeal.Facts] : Cert.algebraic_GateUpIdeal_GateUpRefIdeal := by
  pair_intro
  · run_from Cert.GateUpIdeal.Value.run_blocks m g
  · run_from Cert.GateUpRefIdeal.Value.run m' g'
    · obtain ⟨e0, e1⟩ := hagree c
      refine Eq.trans ?_ (Cert.GateUpIdeal.Final.final4 m c).symm
      rw [← e0, ← e1]
      rfl
    · obtain ⟨e0, e1⟩ := hagree c
      refine Eq.trans ?_ (Cert.GateUpIdeal.Final.final5 m c).symm
      rw [← e0, ← e1]
      rfl
    · obtain ⟨e0, e1⟩ := hagree c
      refine Eq.trans ?_ (Cert.GateUpIdeal.Final.final6 m c).symm
      rw [← e0, ← e1]
      rfl

/-- The second product and its residual. -/
theorem down [Cert.DownIdeal.Facts] [Cert.DownRefIdeal.Facts] : Cert.algebraic_DownIdeal_DownRefIdeal := by
  pair_intro
  · run_from Cert.DownIdeal.Value.run_blocks m g
  · run_from Cert.DownRefIdeal.Value.run m' g'
    obtain ⟨e0, e1, e2⟩ := hagree c
    refine Eq.trans ?_ (Cert.DownIdeal.Final.final3 m c).symm
    rw [← e0, ← e1, ← e2]
    rfl

/-- The gradient of the activation. -/
theorem act [Cert.ActIdeal.Facts] [Cert.ActRefIdeal.Facts] [Cert.Pre_finite_activation.Facts] : Cert.algebraic_ActIdeal_ActRefIdeal_pre_finite_activation := by
  pair_intro
  · run_from Cert.ActIdeal.Value.run_blocks m g
  · run_from Cert.ActRefIdeal.Value.run m' g'
    obtain ⟨e0, e1, e2, e3⟩ := hagree c
    refine Eq.trans ?_ (Cert.ActIdeal.Final.final4 m c (fun i => act_d _ _ _ _ (hpre c).1 i) (fun i => act_w _ _ _ _ (hpre c).2.1 i) (fun i => act_u _ _ _ _ (hpre c).2.2 i)).symm
    rw [← e0, ← e1, ← e2, ← e3]
    exact Cert.ActRefIdeal.At.res_eq m' c

/-- The gradient of the normalisation. -/
theorem norm [Cert.NormIdeal.Facts] [Cert.NormRefIdeal.Facts] [Cert.Pre_finite_norm.Facts] : Cert.algebraic_NormIdeal_NormRefIdeal_pre_finite_norm := by
  pair_intro
  · run_from Cert.NormIdeal.Value.run_blocks m g
  · refine θ_run_mono (Cert.NormRefIdeal.Value.run m' g') ?_
    intro r hr c
    obtain ⟨h0, h1, h2, hargs⟩ := hr c
    obtain ⟨e0, e1, e2, e3, e4⟩ := hagree c
    refine ⟨h0.trans ?_, h1.trans ?_, h2.trans ?_, hargs⟩
    · refine Eq.trans ?_ (Cert.NormIdeal.Final.final5 m c ⟨fun i => norm_d _ _ _ _ _ (hpre c).1 i, fun i => norm_w _ _ _ _ _ (hpre c).2.1 i, fun i => norm_h _ _ _ _ _ (hpre c).2.2.1 i, fun i => norm_n _ _ _ _ _ (hpre c).2.2.2 i⟩).symm
      rw [← e0, ← e1, ← e2, ← e3, ← e4]
      exact Cert.NormRefIdeal.At.rows_eq m' c
    · refine Eq.trans ?_ (Cert.NormIdeal.Final.final6 m c ⟨fun i => norm_d _ _ _ _ _ (hpre c).1 i, fun i => norm_w _ _ _ _ _ (hpre c).2.1 i, fun i => norm_h _ _ _ _ _ (hpre c).2.2.1 i, fun i => norm_n _ _ _ _ _ (hpre c).2.2.2 i⟩).symm
      rw [← e0, ← e1, ← e2, ← e3, ← e4]
      exact Cert.NormRefIdeal.At.round_eq m' c
    · refine Eq.trans ?_ (Cert.NormIdeal.Final.final7 m c).symm
      rw [← e0, ← e1, ← e2]
      rfl

/-- The gradient of the second product's weights. -/
theorem downGrad [Cert.DownGradIdeal.Facts] [Cert.DownGradRefIdeal.Facts] : Cert.algebraic_DownGradIdeal_DownGradRefIdeal := by
  pair_intro
  · run_from Cert.DownGradIdeal.Value.run_blocks m g
  · run_from Cert.DownGradRefIdeal.Value.run m' g'
    obtain ⟨e0, e1⟩ := hagree c
    refine Eq.trans ?_ (Cert.DownGradIdeal.Final.final2 m c).symm
    rw [← e0, ← e1]
    rfl

/-- The gradient of the first product's weights. -/
theorem gateUpGrad [Cert.GateUpGradIdeal.Facts] [Cert.GateUpGradRefIdeal.Facts] : Cert.algebraic_GateUpGradIdeal_GateUpGradRefIdeal := by
  pair_intro
  · run_from Cert.GateUpGradIdeal.Value.run_blocks m g
  · run_from Cert.GateUpGradRefIdeal.Value.run m' g'
    obtain ⟨e0, e1⟩ := hagree c
    refine Eq.trans ?_ (Cert.GateUpGradIdeal.Final.final2 m c).symm
    rw [← e0, ← e1]
    rfl

end Cert.FfnClaim
end
-- ==== Proof.BranchesValue.lean ====
module

public import proofs.«01_k».proof.Proof.Gen.BranchesIdeal.Value
public import proofs.«01_k».proof.Proof.Gen.BranchesRefIdeal.Run
public import proofs.«01_k».proof.Proof.Silu

/-! # The two branches' products and their merge by sigmoid gates -/

@[expose] public section

set_option maxRecDepth 16384

noncomputable section

namespace Cert.BranchesRefIdeal.At

open Cert.BranchesRefIdeal Cert.BranchesRefIdeal.Gen Cert.Silu
open Idealize.ShloMosaic Idealize.ShloMosaic.TcCoe Idealize.SL.Sem Idealize.ShloMosaic.StableHlo

/-- An entry of a branch's product. -/
def entry (A : FVec Ideal S4352x1024 .bf16) (W : FVec Ideal S1024x1024 .bf16) (i : Fin 4352) (j : Fin 1024) : EReal :=
  ∑ k : Fin 1024, A (ix2 i k : S4352x1024.Idx) * W (ix2 k j : S1024x1024.Idx)

/-- The column of the first gate. -/
abbrev colA (j : Fin 1024) : Fin 9216 := ⟨7168 + j.val, by omega⟩

/-- The column of the second gate. -/
abbrev colB (j : Fin 1024) : Fin 9216 := ⟨8192 + j.val, by omega⟩

/-- The reference's product of one branch. -/
def branchV (A : FVec Ideal S4352x1024 .bf16) (W : FVec Ideal S1024x1024 .bf16) : FVec Ideal S4352x1024 .bf16 :=
  truncf .bf16 (Host.dotGeneral dot_S4352x1024_S1024x1024_S4352x1024_1_0_0_1_n_n none (extf .f32 A bitsLt_bf16_f32) (extf .f32 W bitsLt_bf16_f32)) bitsLt_bf16_f32

/-- The reference's merged branches. -/
def mergedV (A : FVec Ideal S4352x1024 .bf16) (W : FVec Ideal S1024x1024 .bf16) (B : FVec Ideal S4352x1024 .bf16) (U : FVec Ideal S1024x1024 .bf16) (G : FVec Ideal S4352x9216 .bf16) : FVec Ideal S4352x1024 .bf16 :=
  truncf .bf16 (addf (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extf .f32 (extractStridedSlice S4352x1024 ![0, 7168] G slices_S4352x9216_S4352x1024_0_7168) bitsLt_bf16_f32))))) (Host.dotGeneral dot_S4352x1024_S1024x1024_S4352x1024_1_0_0_1_n_n none (extf .f32 A bitsLt_bf16_f32) (extf .f32 W bitsLt_bf16_f32))) (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extf .f32 (extractStridedSlice S4352x1024 ![0, 8192] G slices_S4352x9216_S4352x1024_0_8192) bitsLt_bf16_f32))))) (Host.dotGeneral dot_S4352x1024_S1024x1024_S4352x1024_1_0_0_1_n_n none (extf .f32 B bitsLt_bf16_f32) (extf .f32 U bitsLt_bf16_f32)))) bitsLt_bf16_f32

/-- A branch's product at an index. -/
theorem branchV_apply (A : FVec Ideal S4352x1024 .bf16) (W : FVec Ideal S1024x1024 .bf16) (i : Fin 4352) (j : Fin 1024) :
    (branchV A W (ix2 i j : S4352x1024.Idx) : EReal) = entry A W i j := by
  unfold branchV; pointwise; rfl

/-- The merged branches at an index. -/
theorem mergedV_apply (A : FVec Ideal S4352x1024 .bf16) (W : FVec Ideal S1024x1024 .bf16) (B : FVec Ideal S4352x1024 .bf16) (U : FVec Ideal S1024x1024 .bf16) (G : FVec Ideal S4352x9216 .bf16) (i : Fin 4352) (j : Fin 1024) :
    (mergedV A W B U G (ix2 i j : S4352x1024.Idx) : EReal)
      = sigmoid (G (ix2 i (colA j) : S4352x9216.Idx)) * entry A W i j + sigmoid (G (ix2 i (colB j) : S4352x9216.Idx)) * entry B U i j := by
  unfold mergedV; pointwise [sigmoid]; rfl

end Cert.BranchesRefIdeal.At

namespace Cert.BranchesIdeal.Final

open Cert.BranchesIdeal Cert.BranchesIdeal.Gen Cert.Silu Cert.BranchesRefIdeal.At
open Idealize.ShloMosaic Idealize.ShloMosaic.TcCoe Idealize.SL.Sem

/-- An entry of a product of two blocks. -/
def dot (a : Vec Ideal S1088x1024 .bf16) (w : Vec Ideal S1024x1024 .bf16) (r : Fin 1088) (s : Fin 1024) : EReal :=
  ∑ k : Fin 1024, a (ix2 r k : S1088x1024.Idx) * w (ix2 k s : S1024x1024.Idx)

/-- An entry of a block of the merged branches. -/
def core (a : Vec Ideal S1088x1024 .bf16) (w : Vec Ideal S1024x1024 .bf16) (b : Vec Ideal S1088x1024 .bf16) (v : Vec Ideal S1024x1024 .bf16) (g : Vec Ideal S1088x1024 .bf16) (q : Vec Ideal S1088x1024 .bf16) (r : Fin 1088) (s : Fin 1024) : EReal :=
  ((Ideal.ofBits FTy.f32 1056964608#32 : EReal) * Ideal.tanh ((Ideal.ofBits FTy.f32 1056964608#32 : EReal) * g (ix2 r s : S1088x1024.Idx)) + (Ideal.ofBits FTy.f32 1056964608#32 : EReal)) * dot a w r s
    + ((Ideal.ofBits FTy.f32 1056964608#32 : EReal) * Ideal.tanh ((Ideal.ofBits FTy.f32 1056964608#32 : EReal) * q (ix2 r s : S1088x1024.Idx)) + (Ideal.ofBits FTy.f32 1056964608#32 : EReal)) * dot b v r s

/-- What a block of the first branch holds. -/
theorem block_a (a : Vec Ideal S1088x1024 .bf16) (w : Vec Ideal S1024x1024 .bf16) (b : Vec Ideal S1088x1024 .bf16) (v : Vec Ideal S1024x1024 .bf16) (g : Vec Ideal S1088x1024 .bf16) (q : Vec Ideal S1088x1024 .bf16) (r : Fin 1088) (s : Fin 1024) :
    (out0_6 a w b v g q (ix2 r s : S1088x1024.Idx) : EReal) = dot a w r s := by
  frame_out
  open_payloads
  pointwise
  rfl

/-- What a block of the second branch holds. -/
theorem block_b (a : Vec Ideal S1088x1024 .bf16) (w : Vec Ideal S1024x1024 .bf16) (b : Vec Ideal S1088x1024 .bf16) (v : Vec Ideal S1024x1024 .bf16) (g : Vec Ideal S1088x1024 .bf16) (q : Vec Ideal S1088x1024 .bf16) (r : Fin 1088) (s : Fin 1024) :
    (out0_7 a w b v g q (ix2 r s : S1088x1024.Idx) : EReal) = dot b v r s := by
  frame_out
  open_payloads
  pointwise
  rfl

/-- What a block of the merged branches holds. -/
theorem block_m (a : Vec Ideal S1088x1024 .bf16) (w : Vec Ideal S1024x1024 .bf16) (b : Vec Ideal S1088x1024 .bf16) (v : Vec Ideal S1024x1024 .bf16) (g : Vec Ideal S1088x1024 .bf16) (q : Vec Ideal S1088x1024 .bf16) (r : Fin 1088) (s : Fin 1024) :
    (out0_8 a w b v g q (ix2 r s : S1088x1024.Idx) : EReal) = core a w b v g q r s := by
  frame_out
  open_payloads
  pointwise
  rfl

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] ∧ win0_3.index t = ![0, 0] ∧ win0_4.index t = ![t.val, 7] ∧ win0_5.index t = ![t.val, 8] ∧ win0_6.index t = ![t.val, 0] ∧ win0_7.index t = ![t.val, 0] ∧ win0_8.index t = ![t.val, 0] :=
  (by decide +kernel : ∀ t : Fin grid0.N, _)

/-- The row of the array that a row of a grid point's block is. -/
abbrev row (t : Fin cfg0.N) (r : Fin 1088) : Fin 4352 := ⟨1088 * t.val + r.val, by have : t.val < 4 := t.isLt; omega⟩

/-- An entry of the first branch's block. -/
theorem atA (c : Dev nD) (t : Fin cfg0.N) (r : Fin 1088) (s : Fin 1024) :
    (iblk m c 0 t (ix2 r s : S1088x1024.Idx) : EReal) = m ((c.tc : Thread nD τ).loc main_arg0) (ix2 (row t r) s : S4352x1024.Idx) := by
  blk_point [iblk, V, idx t]

/-- An entry of the first branch's weights. -/
theorem atWA (c : Dev nD) (t : Fin cfg0.N) (r : Fin 1024) (s : Fin 1024) :
    (iblk m c 1 t (ix2 r s : S1024x1024.Idx) : EReal) = m ((c.tc : Thread nD τ).loc main_arg1) (ix2 r s : S1024x1024.Idx) := by
  blk_point [iblk, V, idx t]

/-- An entry of the second branch's block. -/
theorem atB (c : Dev nD) (t : Fin cfg0.N) (r : Fin 1088) (s : Fin 1024) :
    (iblk m c 2 t (ix2 r s : S1088x1024.Idx) : EReal) = m ((c.tc : Thread nD τ).loc main_arg2) (ix2 (row t r) s : S4352x1024.Idx) := by
  blk_point [iblk, V, idx t]

/-- An entry of the second branch's weights. -/
theorem atWB (c : Dev nD) (t : Fin cfg0.N) (r : Fin 1024) (s : Fin 1024) :
    (iblk m c 3 t (ix2 r s : S1024x1024.Idx) : EReal) = m ((c.tc : Thread nD τ).loc main_arg3) (ix2 r s : S1024x1024.Idx) := by
  blk_point [iblk, V, idx t]

/-- An entry of the first gate's block. -/
theorem atGA (c : Dev nD) (t : Fin cfg0.N) (r : Fin 1088) (s : Fin 1024) :
    (iblk m c 4 t (ix2 r s : S1088x1024.Idx) : EReal) = m ((c.tc : Thread nD τ).loc main_arg4) (ix2 (row t r) (colA s) : S4352x9216.Idx) := by
  blk_point [iblk, V, idx t]

/-- An entry of the second gate's block. -/
theorem atGB (c : Dev nD) (t : Fin cfg0.N) (r : Fin 1088) (s : Fin 1024) :
    (iblk m c 5 t (ix2 r s : S1088x1024.Idx) : EReal) = m ((c.tc : Thread nD τ).loc main_arg4) (ix2 (row t r) (colB s) : S4352x9216.Idx) := by
  blk_point [iblk, V, idx t]

/-- A branch's product at a grid point. -/
theorem dotA (c : Dev nD) (t : Fin cfg0.N) (r : Fin 1088) (s : Fin 1024) :
    dot (iblk m c 0 t) (iblk m c 1 t) r s = entry (m ((c.tc : Thread nD τ).loc main_arg0)) (m ((c.tc : Thread nD τ).loc main_arg1)) (row t r) s := by
  unfold dot entry
  simp only [atA, atWA]

/-- A branch's product at a grid point. -/
theorem dotB (c : Dev nD) (t : Fin cfg0.N) (r : Fin 1088) (s : Fin 1024) :
    dot (iblk m c 2 t) (iblk m c 3 t) r s = entry (m ((c.tc : Thread nD τ).loc main_arg2)) (m ((c.tc : Thread nD τ).loc main_arg3)) (row t r) s := by
  unfold dot entry
  simp only [atB, atWB]

/-- The first branch after the run is the reference's. -/
theorem final6 (c : Dev nD) : (dats m 0 c).arrAt 6 (cfgs 0).N
    = branchV (m ((c.tc : Thread nD τ).loc main_arg0)) (m ((c.tc : Thread nD τ).loc main_arg1)) := by
  refine (dats m 0 c).arrAt_eq_of_covers 6 _ (by decide +kernel) fun t hf y => ?_
  blk_simp
  rw [after0_6]
  idx_vars y
  have e : (branchV (m ((c.tc : Thread nD τ).loc main_arg0)) (m ((c.tc : Thread nD τ).loc main_arg1))
      (((View.whole main_v0_0).slice (win0_6.rect t)).emb (ix2 y0 y1)) : EReal)
      = branchV (m ((c.tc : Thread nD τ).loc main_arg0)) (m ((c.tc : Thread nD τ).loc main_arg1)) (ix2 (row t y0) y1 : S4352x1024.Idx) := by
    blk_ext [idx t]
  refine (block_a _ _ _ _ _ _ y0 y1).trans (Eq.trans ?_ e.symm)
  rw [branchV_apply]
  exact dotA m c t y0 y1
/-- The second branch after the run is the reference's. -/
theorem final7 (c : Dev nD) : (dats m 0 c).arrAt 7 (cfgs 0).N
    = branchV (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  have e : (branchV (m ((c.tc : Thread nD τ).loc main_arg2)) (m ((c.tc : Thread nD τ).loc main_arg3))
      (((View.whole main_v0_1).slice (win0_7.rect t)).emb (ix2 y0 y1)) : EReal)
      = branchV (m ((c.tc : Thread nD τ).loc main_arg2)) (m ((c.tc : Thread nD τ).loc main_arg3)) (ix2 (row t y0) y1 : S4352x1024.Idx) := by
    blk_ext [idx t]
  refine (block_b _ _ _ _ _ _ y0 y1).trans (Eq.trans ?_ e.symm)
  rw [branchV_apply]
  exact dotB m c t y0 y1
/-- The merged branches after the run are the reference's. -/
theorem final8 (c : Dev nD) : (dats m 0 c).arrAt 8 (cfgs 0).N
    = mergedV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  blk_simp
  rw [after0_8]
  idx_vars y
  have e : (mergedV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (((View.whole main_v0_2).slice (win0_8.rect t)).emb (ix2 y0 y1)) : EReal)
      = mergedV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t y0) y1 : S4352x1024.Idx) := by
    blk_ext [idx t]
  refine (block_m _ _ _ _ _ _ y0 y1).trans (Eq.trans ?_ e.symm)
  rw [mergedV_apply]
  unfold core
  rw [half_tanh, half_tanh, dotA, dotB, atGA, atGB]

end Cert.BranchesIdeal.Final
end
-- ==== Proof.OutProjValue.lean ====
module

public import proofs.«01_k».proof.Proof.Gen.OutProjIdeal.Value
public import proofs.«01_k».proof.Proof.Gen.OutProjRefIdeal.Run
public import proofs.«01_k».proof.Proof.Silu

/-! # The output projection with its residual, and the next normalisation -/

@[expose] public section

set_option maxRecDepth 16384

noncomputable section

namespace Cert.OutProjRefIdeal.At

open Cert.OutProjRefIdeal Cert.OutProjRefIdeal.Gen Cert.Silu
open Idealize.ShloMosaic Idealize.ShloMosaic.TcCoe Idealize.SL.Sem Idealize.ShloMosaic.StableHlo

/-- The reference's rows. -/
def rowsV (A : FVec Ideal S4352x1024 .bf16) (W : FVec Ideal S1024x1024 .bf16) (H : FVec Ideal S4352x1024 .f32) : FVec Ideal S4352x1024 .f32 :=
  addf H (Host.dotGeneral dot_S4352x1024_S1024x1024_S4352x1024_1_0_0_1_n_n none (extf .f32 A bitsLt_bf16_f32) (extf .f32 W bitsLt_bf16_f32))

/-- The reference's normalised rows. -/
def normV (A : FVec Ideal S4352x1024 .bf16) (W : FVec Ideal S1024x1024 .bf16) (H : FVec Ideal S4352x1024 .f32) (N : FVec Ideal S1x1024 .f32) : FVec Ideal S4352x1024 .bf16 :=
  truncf .bf16 (mulf (mulf (rowsV A W H) (broadcastInDim S4352x1024 ![0, 1] bcast_S4352x1_S4352x1024_0_1 (Host.rsqrt (addf (Host.divf (broadcastInDim S4352x1 ![0] bcast_S4352_S4352x1_0 (Host.reduceAdd (mulf (rowsV A W H) (rowsV A W H)) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32)))))) (broadcastInDim S4352x1024 ![0, 1] bcast_S1x1024_S4352x1024_0_1 N)) bitsLt_bf16_f32

/-- An entry of the rows. -/
def entry (A : FVec Ideal S4352x1024 .bf16) (W : FVec Ideal S1024x1024 .bf16) (H : FVec Ideal S4352x1024 .f32) (i : Fin 4352) (j : Fin 1024) : EReal :=
  H (ix2 i j : S4352x1024.Idx) + ∑ k : Fin 1024, A (ix2 i k : S4352x1024.Idx) * W (ix2 k j : S1024x1024.Idx)

/-- The normalisation's factor of a row. -/
def scale (f : Fin 1024 → EReal) : EReal :=
  Ideal.rsqrt (Ideal.div (∑ k : Fin 1024, f k * f k) (Ideal.ofBits FTy.f32 1149239296#32) + Ideal.ofBits FTy.f32 897988541#32)

/-- The rows at an index. -/
theorem rowsV_apply (A : FVec Ideal S4352x1024 .bf16) (W : FVec Ideal S1024x1024 .bf16) (H : FVec Ideal S4352x1024 .f32) (i : Fin 4352) (j : Fin 1024) :
    (rowsV A W H (ix2 i j : S4352x1024.Idx) : EReal) = entry A W H i j := by
  unfold rowsV; pointwise; rfl

/-- The normalised rows at an index. -/
theorem normV_apply (A : FVec Ideal S4352x1024 .bf16) (W : FVec Ideal S1024x1024 .bf16) (H : FVec Ideal S4352x1024 .f32) (N : FVec Ideal S1x1024 .f32) (i : Fin 4352) (j : Fin 1024) :
    (normV A W H N (ix2 i j : S4352x1024.Idx) : EReal)
      = entry A W H i j * scale (fun k => entry A W H i k) * N (ix2 0 j : S1x1024.Idx) := by
  unfold normV; pointwise [rowsV_apply, scale]

end Cert.OutProjRefIdeal.At

namespace Cert.OutProjIdeal.Final

open Cert.OutProjIdeal Cert.OutProjIdeal.Gen Cert.Silu Cert.OutProjRefIdeal.At
open Idealize.ShloMosaic Idealize.ShloMosaic.TcCoe Idealize.SL.Sem

/-- An entry of a block of the rows. -/
def dot (a : Vec Ideal S1088x1024 .bf16) (w : Vec Ideal S1024x1024 .bf16) (e : Vec Ideal S1088x1024 .f32) (r : Fin 1088) (s : Fin 1024) : EReal :=
  e (ix2 r s : S1088x1024.Idx) + ∑ k : Fin 1024, a (ix2 r k : S1088x1024.Idx) * w (ix2 k s : S1024x1024.Idx)

/-- An entry of a block of the normalised rows. -/
def core (a : Vec Ideal S1088x1024 .bf16) (w : Vec Ideal S1024x1024 .bf16) (e : Vec Ideal S1088x1024 .f32) (n : Vec Ideal S1x1024 .f32) (r : Fin 1088) (s : Fin 1024) : EReal :=
  dot a w e r s * scale (fun k => dot a w e r k) * n (ix2 0 s : S1x1024.Idx)

/-- What a block of the rows holds. -/
theorem block_h (a : Vec Ideal S1088x1024 .bf16) (w : Vec Ideal S1024x1024 .bf16) (e : Vec Ideal S1088x1024 .f32) (n : Vec Ideal S1x1024 .f32) (r : Fin 1088) (s : Fin 1024) :
    (out0_4 a w e n (ix2 r s : S1088x1024.Idx) : EReal) = dot a w e r s := by
  frame_out
  open_payloads
  pointwise
  rfl

/-- What a block of the normalised rows holds. -/
theorem block_n (a : Vec Ideal S1088x1024 .bf16) (w : Vec Ideal S1024x1024 .bf16) (e : Vec Ideal S1088x1024 .f32) (n : Vec Ideal S1x1024 .f32) (r : Fin 1088) (s : Fin 1024) :
    (out0_5 a w e n (ix2 r s : S1088x1024.Idx) : EReal) = core a w e n r s := by
  frame_out
  open_payloads
  pointwise
  rfl

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The row of the array that a row of a grid point's block is. -/
abbrev row (t : Fin cfg0.N) (r : Fin 1088) : Fin 4352 := ⟨1088 * t.val + r.val, by have : t.val < 4 := t.isLt; omega⟩

/-- An entry of the merged branches' block. -/
theorem atA (c : Dev nD) (t : Fin cfg0.N) (r : Fin 1088) (s : Fin 1024) :
    (iblk m c 0 t (ix2 r s : S1088x1024.Idx) : EReal) = m ((c.tc : Thread nD τ).loc main_arg0) (ix2 (row t r) s : S4352x1024.Idx) := by
  blk_point [iblk, V, idx t]

/-- An entry of the weights. -/
theorem atW (c : Dev nD) (t : Fin cfg0.N) (r : Fin 1024) (s : Fin 1024) :
    (iblk m c 1 t (ix2 r s : S1024x1024.Idx) : EReal) = m ((c.tc : Thread nD τ).loc main_arg1) (ix2 r s : S1024x1024.Idx) := by
  blk_point [iblk, V, idx t]

/-- An entry of the residual's block. -/
theorem atH (c : Dev nD) (t : Fin cfg0.N) (r : Fin 1088) (s : Fin 1024) :
    (iblk m c 2 t (ix2 r s : S1088x1024.Idx) : EReal) = m ((c.tc : Thread nD τ).loc main_arg2) (ix2 (row t r) s : S4352x1024.Idx) := by
  blk_point [iblk, V, idx t]

/-- An entry of the gain. -/
theorem atN (c : Dev nD) (t : Fin cfg0.N) (r : Fin 1) (s : Fin 1024) :
    (iblk m c 3 t (ix2 r s : S1x1024.Idx) : EReal) = m ((c.tc : Thread nD τ).loc main_arg3) (ix2 r s : S1x1024.Idx) := by
  blk_point [iblk, V, idx t]

/-- The rows at a grid point. -/
theorem dot_eq (c : Dev nD) (t : Fin cfg0.N) (r : Fin 1088) (s : Fin 1024) :
    dot (iblk m c 0 t) (iblk m c 1 t) (iblk m c 2 t) r s = entry (m ((c.tc : Thread nD τ).loc main_arg0)) (m ((c.tc : Thread nD τ).loc main_arg1)) (m ((c.tc : Thread nD τ).loc main_arg2)) (row t r) s := by
  unfold dot entry
  simp only [atA, atW, atH]

/-- The rows after the run are the reference's. -/
theorem final4 (c : Dev nD) : (dats m 0 c).arrAt 4 (cfgs 0).N
    = rowsV (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  idx_vars y
  have e : (rowsV (m ((c.tc : Thread nD τ).loc main_arg0)) (m ((c.tc : Thread nD τ).loc main_arg1)) (m ((c.tc : Thread nD τ).loc main_arg2))
      (((View.whole main_v0_0).slice (win0_4.rect t)).emb (ix2 y0 y1)) : EReal)
      = rowsV (m ((c.tc : Thread nD τ).loc main_arg0)) (m ((c.tc : Thread nD τ).loc main_arg1)) (m ((c.tc : Thread nD τ).loc main_arg2)) (ix2 (row t y0) y1 : S4352x1024.Idx) := by
    blk_ext [idx t]
  refine (block_h _ _ _ _ y0 y1).trans (Eq.trans ?_ e.symm)
  rw [rowsV_apply]
  exact dot_eq m c t y0 y1
/-- The normalised rows after the run are the reference's. -/
theorem final5 (c : Dev nD) : (dats m 0 c).arrAt 5 (cfgs 0).N
    = normV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : (normV (m ((c.tc : Thread nD τ).loc main_arg0)) (m ((c.tc : Thread nD τ).loc main_arg1)) (m ((c.tc : Thread nD τ).loc main_arg2)) (m ((c.tc : Thread nD τ).loc main_arg3))
      (((View.whole main_v0_1).slice (win0_5.rect t)).emb (ix2 y0 y1)) : EReal)
      = normV (m ((c.tc : Thread nD τ).loc main_arg0)) (m ((c.tc : Thread nD τ).loc main_arg1)) (m ((c.tc : Thread nD τ).loc main_arg2)) (m ((c.tc : Thread nD τ).loc main_arg3)) (ix2 (row t y0) y1 : S4352x1024.Idx) := by
    blk_ext [idx t]
  refine (block_n _ _ _ _ y0 y1).trans (Eq.trans ?_ e.symm)
  rw [normV_apply]
  unfold core
  simp only [dot_eq, atN]

end Cert.OutProjIdeal.Final
end
-- ==== Proof.BranchGradValue.lean ====
module

public import proofs.«01_k».proof.Proof.Gen.BranchGradIdeal.Value
public import proofs.«01_k».proof.Proof.Gen.BranchGradRefIdeal.Run
public import proofs.«01_k».proof.Proof.Silu

/-! # The gradients of the two branches' outputs -/

@[expose] public section

set_option maxRecDepth 16384

noncomputable section

namespace Cert.BranchGradRefIdeal.At

open Cert.BranchGradRefIdeal Cert.BranchGradRefIdeal.Gen Cert.Silu
open Idealize.ShloMosaic Idealize.ShloMosaic.TcCoe Idealize.SL.Sem Idealize.ShloMosaic.StableHlo

/-- The reference's result for one branch. -/
def refV (A : FVec Ideal S4352x1024 .bf16) (W : FVec Ideal S1024x1024 .bf16) : FVec Ideal S4352x1024 .bf16 :=
  truncf .bf16 (Host.dotGeneral dot_S4352x1024_S1024x1024_S4352x1024_1_1_0_0_n_n none (extf .f32 A bitsLt_bf16_f32) (extf .f32 W bitsLt_bf16_f32)) bitsLt_bf16_f32

/-- … at an index. -/
theorem refV_apply (A : FVec Ideal S4352x1024 .bf16) (W : FVec Ideal S1024x1024 .bf16) (i : Fin 4352) (j : Fin 1024) :
    (refV A W (ix2 i j : S4352x1024.Idx) : EReal) = ∑ k : Fin 1024, A (ix2 i k : S4352x1024.Idx) * W (ix2 j k : S1024x1024.Idx) := by
  unfold refV; pointwise

end Cert.BranchGradRefIdeal.At

namespace Cert.BranchGradIdeal.Final

open Cert.BranchGradIdeal Cert.BranchGradIdeal.Gen Cert.Silu Cert.BranchGradRefIdeal.At
open Idealize.ShloMosaic Idealize.ShloMosaic.TcCoe Idealize.SL.Sem

/-- An entry of a block of a result. -/
def core (a : Vec Ideal S1088x1024 .bf16) (w : Vec Ideal S1024x1024 .bf16) (r : Fin 1088) (s : Fin 1024) : EReal :=
  ∑ k : Fin 1024, a (ix2 r k : S1088x1024.Idx) * w (ix2 s k : S1024x1024.Idx)

/-- What a block of the first result holds. -/
theorem block_a (a : Vec Ideal S1088x1024 .bf16) (w : Vec Ideal S1024x1024 .bf16) (b : Vec Ideal S1088x1024 .bf16) (v : Vec Ideal S1024x1024 .bf16) (r : Fin 1088) (s : Fin 1024) :
    (out0_4 a w b v (ix2 r s : S1088x1024.Idx) : EReal) = core a w r s := by
  frame_out
  open_payloads
  pointwise
  rfl

/-- What a block of the second result holds. -/
theorem block_b (a : Vec Ideal S1088x1024 .bf16) (w : Vec Ideal S1024x1024 .bf16) (b : Vec Ideal S1088x1024 .bf16) (v : Vec Ideal S1024x1024 .bf16) (r : Fin 1088) (s : Fin 1024) :
    (out0_5 a w b v (ix2 r s : S1088x1024.Idx) : EReal) = core b v r s := by
  frame_out
  open_payloads
  pointwise
  rfl

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The row of the array that a row of a grid point's block is. -/
abbrev row (t : Fin cfg0.N) (r : Fin 1088) : Fin 4352 := ⟨1088 * t.val + r.val, by have : t.val < 4 := t.isLt; omega⟩

/-- An entry of the first cotangent's block. -/
theorem atA (c : Dev nD) (t : Fin cfg0.N) (r : Fin 1088) (s : Fin 1024) :
    (iblk m c 0 t (ix2 r s : S1088x1024.Idx) : EReal) = m ((c.tc : Thread nD τ).loc main_arg0) (ix2 (row t r) s : S4352x1024.Idx) := by
  blk_point [iblk, V, idx t]

/-- An entry of the first weights. -/
theorem atWA (c : Dev nD) (t : Fin cfg0.N) (r : Fin 1024) (s : Fin 1024) :
    (iblk m c 1 t (ix2 r s : S1024x1024.Idx) : EReal) = m ((c.tc : Thread nD τ).loc main_arg1) (ix2 r s : S1024x1024.Idx) := by
  blk_point [iblk, V, idx t]

/-- An entry of the second cotangent's block. -/
theorem atB (c : Dev nD) (t : Fin cfg0.N) (r : Fin 1088) (s : Fin 1024) :
    (iblk m c 2 t (ix2 r s : S1088x1024.Idx) : EReal) = m ((c.tc : Thread nD τ).loc main_arg2) (ix2 (row t r) s : S4352x1024.Idx) := by
  blk_point [iblk, V, idx t]

/-- An entry of the second weights. -/
theorem atWB (c : Dev nD) (t : Fin cfg0.N) (r : Fin 1024) (s : Fin 1024) :
    (iblk m c 3 t (ix2 r s : S1024x1024.Idx) : EReal) = m ((c.tc : Thread nD τ).loc main_arg3) (ix2 r s : S1024x1024.Idx) := by
  blk_point [iblk, V, idx t]

/-- The first branch's gradient after the run is the reference's. -/
theorem final4 (c : Dev nD) : (dats m 0 c).arrAt 4 (cfgs 0).N
    = refV (m ((c.tc : Thread nD τ).loc main_arg0)) (m ((c.tc : Thread nD τ).loc main_arg1)) := by
  refine (dats m 0 c).arrAt_eq_of_covers 4 _ (by decide +kernel) fun t hf y => ?_
  blk_simp
  rw [after0_4]
  idx_vars y
  have e : (refV (m ((c.tc : Thread nD τ).loc main_arg0)) (m ((c.tc : Thread nD τ).loc main_arg1))
      (((View.whole main_v0_0).slice (win0_4.rect t)).emb (ix2 y0 y1)) : EReal)
      = refV (m ((c.tc : Thread nD τ).loc main_arg0)) (m ((c.tc : Thread nD τ).loc main_arg1)) (ix2 (row t y0) y1 : S4352x1024.Idx) := by
    blk_ext [idx t]
  refine (block_a _ _ _ _ y0 y1).trans (Eq.trans ?_ e.symm)
  rw [refV_apply]
  unfold core
  simp only [atA, atWA]
/-- The second branch's gradient after the run is the reference's. -/
theorem final5 (c : Dev nD) : (dats m 0 c).arrAt 5 (cfgs 0).N
    = refV (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : (refV (m ((c.tc : Thread nD τ).loc main_arg2)) (m ((c.tc : Thread nD τ).loc main_arg3))
      (((View.whole main_v0_1).slice (win0_5.rect t)).emb (ix2 y0 y1)) : EReal)
      = refV (m ((c.tc : Thread nD τ).loc main_arg2)) (m ((c.tc : Thread nD τ).loc main_arg3)) (ix2 (row t y0) y1 : S4352x1024.Idx) := by
    blk_ext [idx t]
  refine (block_b _ _ _ _ y0 y1).trans (Eq.trans ?_ e.symm)
  rw [refV_apply]
  unfold core
  simp only [atB, atWB]

end Cert.BranchGradIdeal.Final
end
-- ==== Proof.OutGradValue.lean ====
module

public import proofs.«01_k».proof.Proof.Gen.OutGradIdeal.Value
public import proofs.«01_k».proof.Proof.Gen.OutGradRefIdeal.Run
public import proofs.«01_k».proof.Proof.Silu

/-! # The gradient of the output projection's weights -/

@[expose] public section

set_option maxRecDepth 16384

noncomputable section

namespace Cert.OutGradRefIdeal.At

open Cert.OutGradRefIdeal Cert.OutGradRefIdeal.Gen Cert.Silu
open Idealize.ShloMosaic Idealize.ShloMosaic.TcCoe Idealize.SL.Sem Idealize.ShloMosaic.StableHlo

/-- The reference's result. -/
def refV (A : FVec Ideal S4352x1024 .bf16) (B : FVec Ideal S4352x1024 .bf16) : FVec Ideal S1024x1024 .bf16 :=
  truncf .bf16 (transpose S1024x1024 [1, 0] (Host.dotGeneral dot_S4352x1024_S4352x1024_S1024x1024_0_0_1_1_n_n none (extf .f32 B bitsLt_bf16_f32) (extf .f32 A bitsLt_bf16_f32)) transposes_S1024x1024_S1024x1024_1_0) bitsLt_bf16_f32

/-- … at an index. -/
theorem refV_apply (A : FVec Ideal S4352x1024 .bf16) (B : FVec Ideal S4352x1024 .bf16) (i : Fin 1024) (j : Fin 1024) :
    (refV A B (ix2 i j : S1024x1024.Idx) : EReal) = ∑ r : Fin 4352, A (ix2 r i : S4352x1024.Idx) * B (ix2 r j : S4352x1024.Idx) := by
  unfold refV; pointwise; exact Finset.sum_congr rfl fun k _ => mul_comm _ _

end Cert.OutGradRefIdeal.At

namespace Cert.OutGradIdeal.Final

open Cert.OutGradIdeal Cert.OutGradIdeal.Gen Cert.Silu Cert.OutGradRefIdeal.At
open Idealize.ShloMosaic Idealize.ShloMosaic.TcCoe Idealize.SL.Sem

/-- An entry of a block of the result. -/
def core (a : Vec Ideal S4352x512 .bf16) (b : Vec Ideal S4352x1024 .bf16) (r : Fin 512) (s : Fin 1024) : EReal :=
  ∑ k : Fin 4352, a (ix2 k r : S4352x512.Idx) * b (ix2 k s : S4352x1024.Idx)

/-- What a block of the result holds. -/
theorem block_apply (a : Vec Ideal S4352x512 .bf16) (b : Vec Ideal S4352x1024 .bf16) (r : Fin 512) (s : Fin 1024) :
    (out0_2 a b (ix2 r s : S512x1024.Idx) : EReal) = core a b r s := by
  frame_out
  open_payloads
  pointwise
  rfl

variable (m : (ℓ : Loc nD τ sig) → Buf (Elt Ideal) ℓ)

/-- The blocks' places at a grid point. -/
theorem idx : ∀ t : Fin cfg0.N, win0_0.index t = ![0, t.val] ∧ win0_1.index t = ![0, 0] ∧ win0_2.index t = ![t.val, 0] :=
  (by decide +kernel : ∀ t : Fin grid0.N, _)

/-- An entry of the left factor's block. -/
theorem atA (c : Dev nD) (t : Fin cfg0.N) (r : Fin 4352) (s : Fin 512) :
    (iblk m c 0 t (ix2 r s : S4352x512.Idx) : EReal) = m ((c.tc : Thread nD τ).loc main_arg0) (ix2 r ⟨512 * t.val + s.val, by have : t.val < 2 := t.isLt; omega⟩ : S4352x1024.Idx) := by
  blk_point [iblk, V, idx t]

/-- An entry of the right factor. -/
theorem atB (c : Dev nD) (t : Fin cfg0.N) (r : Fin 4352) (s : Fin 1024) :
    (iblk m c 1 t (ix2 r s : S4352x1024.Idx) : EReal) = m ((c.tc : Thread nD τ).loc main_arg1) (ix2 r s : S4352x1024.Idx) := by
  blk_point [iblk, V, idx t]

/-- The array after the run is the reference's result. -/
theorem final2 (c : Dev nD) : (dats m 0 c).arrAt 2 (cfgs 0).N
    = refV (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (refV (m ((c.tc : Thread nD τ).loc main_arg0)) (m ((c.tc : Thread nD τ).loc main_arg1))
      (((View.whole main_v0).slice (win0_2.rect t)).emb (ix2 y0 y1)) : EReal)
      = refV (m ((c.tc : Thread nD τ).loc main_arg0)) (m ((c.tc : Thread nD τ).loc main_arg1)) (ix2 ⟨512 * t.val + y0.val, by have : t.val < 2 := t.isLt; omega⟩ y1 : S1024x1024.Idx) := by
    blk_ext [idx t]
  refine (block_apply _ _ y0 y1).trans (Eq.trans ?_ e.symm)
  rw [refV_apply]
  unfold core
  simp only [atA, atB]

end Cert.OutGradIdeal.Final
end
-- ==== Proof.InGradValue.lean ====
module

public import proofs.«01_k».proof.Proof.Gen.InGradIdeal.Value
public import proofs.«01_k».proof.Proof.Gen.InGradRefIdeal.Run
public import proofs.«01_k».proof.Proof.Silu

/-! # The gradient of the input projection's weights -/

@[expose] public section

set_option maxRecDepth 16384

noncomputable section

namespace Cert.InGradRefIdeal.At

open Cert.InGradRefIdeal Cert.InGradRefIdeal.Gen Cert.Silu
open Idealize.ShloMosaic Idealize.ShloMosaic.TcCoe Idealize.SL.Sem Idealize.ShloMosaic.StableHlo

/-- The reference's result. -/
def refV (A : FVec Ideal S4352x9216 .bf16) (B : FVec Ideal S4352x1024 .bf16) : FVec Ideal S9216x1024 .bf16 :=
  truncf .bf16 (transpose S9216x1024 [1, 0] (transpose S1024x9216 [1, 0] (Host.dotGeneral dot_S4352x9216_S4352x1024_S9216x1024_0_0_1_1_n_n none (extf .f32 A bitsLt_bf16_f32) (extf .f32 B bitsLt_bf16_f32)) transposes_S9216x1024_S1024x9216_1_0) transposes_S1024x9216_S9216x1024_1_0) bitsLt_bf16_f32

/-- … at an index. -/
theorem refV_apply (A : FVec Ideal S4352x9216 .bf16) (B : FVec Ideal S4352x1024 .bf16) (i : Fin 9216) (j : Fin 1024) :
    (refV A B (ix2 i j : S9216x1024.Idx) : EReal) = ∑ r : Fin 4352, A (ix2 r i : S4352x9216.Idx) * B (ix2 r j : S4352x1024.Idx) := by
  unfold refV; pointwise

end Cert.InGradRefIdeal.At

namespace Cert.InGradIdeal.Final

open Cert.InGradIdeal Cert.InGradIdeal.Gen Cert.Silu Cert.InGradRefIdeal.At
open Idealize.ShloMosaic Idealize.ShloMosaic.TcCoe Idealize.SL.Sem

/-- An entry of a block of the result. -/
def core (a : Vec Ideal S4352x768 .bf16) (b : Vec Ideal S4352x1024 .bf16) (r : Fin 768) (s : Fin 1024) : EReal :=
  ∑ k : Fin 4352, a (ix2 k r : S4352x768.Idx) * b (ix2 k s : S4352x1024.Idx)

/-- What a block of the result holds. -/
theorem block_apply (a : Vec Ideal S4352x768 .bf16) (b : Vec Ideal S4352x1024 .bf16) (r : Fin 768) (s : Fin 1024) :
    (out0_2 a b (ix2 r s : S768x1024.Idx) : EReal) = core a b r s := by
  frame_out
  open_payloads
  pointwise
  rfl

variable (m : (ℓ : Loc nD τ sig) → Buf (Elt Ideal) ℓ)

/-- The blocks' places at a grid point. -/
theorem idx : ∀ t : Fin cfg0.N, win0_0.index t = ![0, t.val] ∧ win0_1.index t = ![0, 0] ∧ win0_2.index t = ![t.val, 0] :=
  (by decide +kernel : ∀ t : Fin grid0.N, _)

/-- An entry of the left factor's block. -/
theorem atA (c : Dev nD) (t : Fin cfg0.N) (r : Fin 4352) (s : Fin 768) :
    (iblk m c 0 t (ix2 r s : S4352x768.Idx) : EReal) = m ((c.tc : Thread nD τ).loc main_arg0) (ix2 r ⟨768 * t.val + s.val, by have : t.val < 12 := t.isLt; omega⟩ : S4352x9216.Idx) := by
  blk_point [iblk, V, idx t]

/-- An entry of the right factor. -/
theorem atB (c : Dev nD) (t : Fin cfg0.N) (r : Fin 4352) (s : Fin 1024) :
    (iblk m c 1 t (ix2 r s : S4352x1024.Idx) : EReal) = m ((c.tc : Thread nD τ).loc main_arg1) (ix2 r s : S4352x1024.Idx) := by
  blk_point [iblk, V, idx t]

/-- The array after the run is the reference's result. -/
theorem final2 (c : Dev nD) : (dats m 0 c).arrAt 2 (cfgs 0).N
    = refV (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (refV (m ((c.tc : Thread nD τ).loc main_arg0)) (m ((c.tc : Thread nD τ).loc main_arg1))
      (((View.whole main_v0).slice (win0_2.rect t)).emb (ix2 y0 y1)) : EReal)
      = refV (m ((c.tc : Thread nD τ).loc main_arg0)) (m ((c.tc : Thread nD τ).loc main_arg1)) (ix2 ⟨768 * t.val + y0.val, by have : t.val < 12 := t.isLt; omega⟩ y1 : S9216x1024.Idx) := by
    blk_ext [idx t]
  refine (block_apply _ _ y0 y1).trans (Eq.trans ?_ e.symm)
  rw [refV_apply]
  unfold core
  simp only [atA, atB]

end Cert.InGradIdeal.Final
end
-- ==== Proof.MixClaim.lean ====
module

public import proofs.«01_k».proof.Defs
public import proofs.«01_k».proof.Proof.BranchesValue
public import proofs.«01_k».proof.Proof.OutProjValue
public import proofs.«01_k».proof.Proof.BranchGradValue
public import proofs.«01_k».proof.Proof.OutGradValue
public import proofs.«01_k».proof.Proof.InGradValue
public import Idealize.ShloMosaic.Lib.Claim

/-! # The mixer's products leave the reference's results -/

@[expose] public section

set_option maxRecDepth 16384

noncomputable section

namespace Cert.MixClaim

open Idealize.ShloMosaic Idealize.ShloMosaic.TcCoe Idealize.SL.Sem

/-- The two branches and their merge. -/
theorem branches [Cert.BranchesIdeal.Facts] [Cert.BranchesRefIdeal.Facts] : Cert.algebraic_BranchesIdeal_BranchesRefIdeal := by
  pair_intro
  · run_from Cert.BranchesIdeal.Value.run_blocks m g
  · run_from Cert.BranchesRefIdeal.Value.run m' g'
    · obtain ⟨e0, e1, e2, e3, e4⟩ := hagree c
      refine Eq.trans ?_ (Cert.BranchesIdeal.Final.final6 m c).symm
      rw [← e0, ← e1]
      rfl
    · obtain ⟨e0, e1, e2, e3, e4⟩ := hagree c
      refine Eq.trans ?_ (Cert.BranchesIdeal.Final.final7 m c).symm
      rw [← e2, ← e3]
      rfl
    · obtain ⟨e0, e1, e2, e3, e4⟩ := hagree c
      refine Eq.trans ?_ (Cert.BranchesIdeal.Final.final8 m c).symm
      rw [← e0, ← e1, ← e2, ← e3, ← e4]
      rfl

/-- The output projection and the next normalisation. -/
theorem outProj [Cert.OutProjIdeal.Facts] [Cert.OutProjRefIdeal.Facts] : Cert.algebraic_OutProjIdeal_OutProjRefIdeal := by
  pair_intro
  · run_from Cert.OutProjIdeal.Value.run_blocks m g
  · run_from Cert.OutProjRefIdeal.Value.run m' g'
    · obtain ⟨e0, e1, e2, e3⟩ := hagree c
      refine Eq.trans ?_ (Cert.OutProjIdeal.Final.final4 m c).symm
      rw [← e0, ← e1, ← e2]
      rfl
    · obtain ⟨e0, e1, e2, e3⟩ := hagree c
      refine Eq.trans ?_ (Cert.OutProjIdeal.Final.final5 m c).symm
      rw [← e0, ← e1, ← e2, ← e3]
      rfl

/-- The gradients of the branches' outputs. -/
theorem branchGrad [Cert.BranchGradIdeal.Facts] [Cert.BranchGradRefIdeal.Facts] : Cert.algebraic_BranchGradIdeal_BranchGradRefIdeal := by
  pair_intro
  · run_from Cert.BranchGradIdeal.Value.run_blocks m g
  · run_from Cert.BranchGradRefIdeal.Value.run m' g'
    · obtain ⟨e0, e1, e2, e3⟩ := hagree c
      refine Eq.trans ?_ (Cert.BranchGradIdeal.Final.final4 m c).symm
      rw [← e0, ← e1]
      rfl
    · obtain ⟨e0, e1, e2, e3⟩ := hagree c
      refine Eq.trans ?_ (Cert.BranchGradIdeal.Final.final5 m c).symm
      rw [← e2, ← e3]
      rfl

/-- The gradient of the output projection's weights. -/
theorem outGrad [Cert.OutGradIdeal.Facts] [Cert.OutGradRefIdeal.Facts] : Cert.algebraic_OutGradIdeal_OutGradRefIdeal := by
  pair_intro
  · run_from Cert.OutGradIdeal.Value.run_blocks m g
  · run_from Cert.OutGradRefIdeal.Value.run m' g'
    obtain ⟨e0, e1⟩ := hagree c
    refine Eq.trans ?_ (Cert.OutGradIdeal.Final.final2 m c).symm
    rw [← e0, ← e1]
    rfl

/-- The gradient of the input projection's weights. -/
theorem inGrad [Cert.InGradIdeal.Facts] [Cert.InGradRefIdeal.Facts] : Cert.algebraic_InGradIdeal_InGradRefIdeal := by
  pair_intro
  · run_from Cert.InGradIdeal.Value.run_blocks m g
  · run_from Cert.InGradRefIdeal.Value.run m' g'
    obtain ⟨e0, e1⟩ := hagree c
    refine Eq.trans ?_ (Cert.InGradIdeal.Final.final2 m c).symm
    rw [← e0, ← e1]
    rfl

end Cert.MixClaim
end
-- ==== Proof.HgrnReal.lean ====
module

public import proofs.«01_k».proof.Proof.NormReal
public import proofs.«01_k».proof.Proof.Silu

/-! # The gated normalisation of a head, over the extended reals

A head's row is divided by its root mean square before it meets the gain and the output gate. The quotient is a real number
whatever the row holds: a row with an infinite entry has the factor zero. -/

@[expose] public section

noncomputable section

namespace Cert.HgrnReal

open Idealize.ShloMosaic Cert.Silu

/-- The word of a head's width. -/
theorem len_word : (Ideal.ofBits FTy.f32 1124073472#32 : EReal) = ((128 : ℝ) : EReal) := by
  simp [Ideal.ofBits, Ideal.ieee, -EReal.coe_mul]; norm_num

/-- The mean of the squares of a head's row, with the constant that keeps it positive. -/
def square (x : Fin 128 → EReal) : EReal :=
  Ideal.div (∑ k, x k * x k) (Ideal.ofBits FTy.f32 1124073472#32) + Ideal.ofBits FTy.f32 897988541#32

/-- The factor that normalises a head's row. -/
def scale (x : Fin 128 → EReal) : EReal := Ideal.rsqrt (square x)

/-- The square of an extended real is not negative. -/
theorem sq_nonneg (y : EReal) : 0 ≤ y * y := by
  induction y with
  | bot => simp
  | top => simp
  | coe y => rw [← EReal.coe_mul]; exact_mod_cast mul_self_nonneg y

/-- A row with an infinite entry has the factor zero. -/
theorem scale_inf (x : Fin 128 → EReal) (k : Fin 128) (h : x k * x k = ⊤) : scale x = 0 := by
  obtain ⟨ε, hε, he⟩ := NormReal.eps_word
  have hs : ∑ k, x k * x k = ⊤ := top_le_iff.mp (h ▸ Finset.single_le_sum (f := fun k => x k * x k) (fun i _ => sq_nonneg (x i)) (Finset.mem_univ k))
  unfold scale square
  rw [hs, len_word, he, Ideal.div_coe (by norm_num), EReal.top_mul_coe_of_pos (by norm_num), EReal.top_add_coe, Ideal.rsqrt_top]

/-- The factor of a row of reals is real. -/
theorem scale_real (x : Fin 128 → ℝ) : ∃ r : ℝ, scale (fun k => (x k : EReal)) = (r : EReal) := by
  obtain ⟨ε, hε, he⟩ := NormReal.eps_word
  have hs : square (fun k => (x k : EReal)) = (((∑ k, x k * x k) / 128 + ε : ℝ) : EReal) := by
    unfold square
    simp only [← EReal.coe_mul]
    rw [NormReal.coe_sum, len_word, he, Ideal.div_coe (by norm_num), ← EReal.coe_mul, ← EReal.coe_add, mul_one_div]
  have hq : (0 : ℝ) < (∑ k, x k * x k) / 128 + ε :=
    add_pos_of_nonneg_of_pos (div_nonneg (Finset.sum_nonneg fun k _ => mul_self_nonneg _) (by norm_num)) hε
  refine ⟨(Real.sqrt ((∑ k, x k * x k) / 128 + ε))⁻¹, ?_⟩
  unfold scale
  rw [hs, Ideal.rsqrt_coe, if_neg (not_lt.mpr hq.le), if_neg hq.ne']

/-- A normalised entry is real, whatever the row holds. -/
theorem normed_real (x : Fin 128 → EReal) (j : Fin 128) : ∃ r : ℝ, x j * scale x = (r : EReal) := by
  by_cases h : ∃ k, x k * x k = ⊤
  · obtain ⟨k, hk⟩ := h
    exact ⟨0, by rw [scale_inf x k hk, mul_zero, EReal.coe_zero]⟩
  · have hx : ∀ k, ∃ r : ℝ, x k = (r : EReal) := fun k => by
      have hk : x k * x k ≠ ⊤ := fun e => h ⟨k, e⟩
      revert hk
      induction x k with
      | bot => intro hk; exact absurd (by simp) hk
      | top => intro hk; exact absurd (by simp) hk
      | coe y => intro _; exact ⟨y, rfl⟩
    choose x' hx using hx
    obtain rfl : x = fun k => (x' k : EReal) := funext hx
    obtain ⟨r, hr⟩ := scale_real x'
    exact ⟨x' j * r, by rw [hr, EReal.coe_mul]⟩

/-- The kernel's spelling of the output gate's gradient. -/
def kernelGate (x : Fin 128 → EReal) (w d y : EReal) (j : Fin 128) : EReal :=
  d * (x j * scale x) * w * (sigmoid y * (1 + y * (1 - sigmoid y)))

/-- The derivative's spelling of the output gate's gradient. -/
def referenceGate (x : Fin 128 → EReal) (w d y : EReal) (j : Fin 128) : EReal :=
  x j * scale x * w * d * sigmoid y + y * (x j * scale x * w * d) * (sigmoid y * (1 - sigmoid y))

/-- The two spellings agree where the gain and the cotangent are real. -/
theorem gate_eq (x : Fin 128 → EReal) (w d y : EReal) (hw : ∃ r : ℝ, w = (r : EReal)) (hd : ∃ r : ℝ, d = (r : EReal)) (j : Fin 128) :
    kernelGate x w d y j = referenceGate x w d y j := by
  obtain ⟨w, rfl⟩ := hw
  obtain ⟨d, rfl⟩ := hd
  obtain ⟨r, hr⟩ := normed_real x j
  unfold kernelGate referenceGate
  rw [hr, show ((r : EReal) * (w : EReal) * (d : EReal)) = ((r * w * d : ℝ) : EReal) by rw [EReal.coe_mul, EReal.coe_mul], silu_grad]
  congr 1
  rw [← EReal.coe_mul, ← EReal.coe_mul]
  congr 1
  ring

end Cert.HgrnReal
end
-- ==== Proof.HgrnRef.lean ====
module

public import proofs.«01_k».proof.Proof.Gen.HgrnRefIdeal.Run
public import proofs.«01_k».proof.Proof.HgrnReal

/-! # The gradient of a gated normalised head, as its reference computes it -/

@[expose] public section

set_option maxRecDepth 16384

noncomputable section

namespace Cert.HgrnRefIdeal.At

open Cert.HgrnRefIdeal Cert.HgrnRefIdeal.Gen Cert.HgrnReal Cert.Silu
open Idealize.ShloMosaic Idealize.ShloMosaic.TcCoe Idealize.SL.Sem Idealize.ShloMosaic.StableHlo

/-- The heads' rows. -/
def heads (O : FVec Ideal S4352x1024 .f32) : FVec Ideal S4352x8x128 .f32 := shapeCast _ O shapeCasts_S4352x1024_S4352x8x128

/-- The mean of the squares of each head's row, with its constant. -/
def ms (O : FVec Ideal S4352x1024 .f32) : FVec Ideal S4352x8x1 .f32 :=
  addf (Host.divf (broadcastInDim S4352x8x1 ![0, 1] bcast_S4352x8_S4352x8x1_0_1 (Host.reduceAdd (mulf (heads O) (heads O)) (constant S_ .f32 0x00000000#32) reducesTo_S4352x8x128_S4352x8_d2 h_S_)) (broadcastInDim S4352x8x1 ![] bcast_S_S4352x8x1 (constant S_ .f32 0x43000000#32))) (broadcastInDim S4352x8x1 ![] bcast_S_S4352x8x1 (constant S_ .f32 0x358637BD#32))

/-- The normalised heads. -/
def normed (O : FVec Ideal S4352x1024 .f32) : FVec Ideal S4352x8x128 .f32 :=
  mulf (heads O) (broadcastInDim S4352x8x128 ![0, 1, 2] bcast_S4352x8x1_S4352x8x128_0_1_2 (Host.rsqrt (ms O)))

/-- … times the gain. -/
def gained (N : FVec Ideal S1x1024 .f32) (O : FVec Ideal S4352x1024 .f32) : FVec Ideal S4352x1024 .f32 :=
  shapeCast _ (mulf (normed O) (broadcastInDim S4352x8x128 ![0, 1, 2] bcast_S1x8x128_S4352x8x128_0_1_2 (broadcastInDim S1x8x128 ![1, 2] bcast_S8x128_S1x8x128_1_2 (shapeCast _ N shapeCasts_S1x1024_S8x128)))) shapeCasts_S4352x8x128_S4352x1024

/-- The output gate before its activation. -/
def gate (P : FVec Ideal S4352x9216 .bf16) : FVec Ideal S4352x1024 .f32 :=
  extf .f32 (extractStridedSlice S4352x1024 ![0, 6144] P slices_S4352x9216_S4352x1024_0_6144) bitsLt_bf16_f32

/-- The logistic function of the gate. -/
def gsig (P : FVec Ideal S4352x9216 .bf16) : FVec Ideal S4352x1024 .f32 :=
  Host.divf (broadcastInDim S4352x1024 ![] bcast_S_S4352x1024 (constant S_ .f32 0x3F800000#32)) (addf (broadcastInDim S4352x1024 ![] bcast_S_S4352x1024 (constant S_ .f32 0x3F800000#32)) (Host.exp (Host.negf (gate P))))

/-- The gradient of the gate. -/
def dgate (P : FVec Ideal S4352x9216 .bf16) (N : FVec Ideal S1x1024 .f32) (O : FVec Ideal S4352x1024 .f32) (D : FVec Ideal S4352x1024 .bf16) : FVec Ideal S4352x1024 .f32 :=
  addf (mulf (mulf (gained N O) (extf .f32 D bitsLt_bf16_f32)) (gsig P)) (mulf (mulf (gate P) (mulf (gained N O) (extf .f32 D bitsLt_bf16_f32))) (mulf (gsig P) (subf (broadcastInDim S4352x1024 ![] bcast_S_S4352x1024 (constant S_ .f32 0x3F800000#32)) (gsig P))))

/-- The rows that are not padding. -/
def live : IVec S2x2176x1024 1 :=
  broadcastInDim S2x2176x1024 ![0, 1, 2] bcast_S1x2176x1_S2x2176x1024_0_1_2 (cmpi .sge (broadcastInDim S1x2176x1 ![1] bcast_S2176_S1x2176x1_1 (iotaInDim S2176 32 0)) (broadcastInDim S1x2176x1 ![] bcast_S_S1x2176x1 (constantI S_ 32 112#32)))

/-- The gradient of the gate, zero on the padding. -/
def masked (P : FVec Ideal S4352x9216 .bf16) (N : FVec Ideal S1x1024 .f32) (O : FVec Ideal S4352x1024 .f32) (D : FVec Ideal S4352x1024 .bf16) : FVec Ideal S2x2176x1024 .f32 :=
  select live (shapeCast _ (dgate P N O D) shapeCasts_S4352x1024_S2x2176x1024) (broadcastInDim S2x2176x1024 ![] bcast_S_S2x2176x1024 (id (constant S_ .f32 0x00000000#32)))

/-- … as rows, rounded. -/
def gateV (P : FVec Ideal S4352x9216 .bf16) (N : FVec Ideal S1x1024 .f32) (O : FVec Ideal S4352x1024 .f32) (D : FVec Ideal S4352x1024 .bf16) : FVec Ideal S4352x1024 .bf16 :=
  truncf .bf16 (shapeCast _ (masked P N O D) shapeCasts_S2x2176x1024_S4352x1024) bitsLt_bf16_f32

/-- The reference's first result: the gate's gradient behind three other blocks of columns. -/
def wideV (P : FVec Ideal S4352x9216 .bf16) (N : FVec Ideal S1x1024 .f32) (O : FVec Ideal S4352x1024 .f32) (D : FVec Ideal S4352x1024 .bf16) : FVec Ideal S4352x4096 .bf16 :=
  concatenate S4352x4096 1 [⟨S4352x3072, (broadcastInDim S4352x3072 ![] bcast_S_S4352x3072 (constant S_ .bf16 0x0000#16))⟩, ⟨S4352x1024, gateV P N O D⟩] concatenates_S4352x3072_S4352x1024_S4352x4096_d1

/-- The reference's gradient of the gain. -/
def gainV (P : FVec Ideal S4352x9216 .bf16) (O : FVec Ideal S4352x1024 .f32) (D : FVec Ideal S4352x1024 .bf16) : FVec Ideal S1x1024 .f32 :=
  shapeCast _ (Host.reduceAdd (shapeCast _ (Host.reduceAdd (mulf (normed O) (shapeCast _ (mulf (extf .f32 D bitsLt_bf16_f32) (mulf (gate P) (gsig P))) shapeCasts_S4352x1024_S4352x8x128)) (constant S_ .f32 0x00000000#32) reducesTo_S4352x8x128_S8x128_d0 h_S_) shapeCasts_S8x128_S1x8x128) (constant S_ .f32 0x00000000#32) reducesTo_S1x8x128_S8x128_d0 h_S_) shapeCasts_S8x128_S1x1024

/-- The reference's run leaves this first result. -/
theorem wide_eq (m : (ℓ : Loc nD τ sig) → Buf (Elt Ideal) ℓ) (c : Dev nD) : Value.res_main_v59 (F := Ideal) m c
    = wideV (m ((c.tc : Thread nD τ).loc main_arg0)) (m ((c.tc : Thread nD τ).loc main_arg2)) (m ((c.tc : Thread nD τ).loc main_arg3)) (m ((c.tc : Thread nD τ).loc main_arg5)) := by
  unfold Value.res_main_v59 wideV gateV masked live dgate gsig gate gained normed ms heads
  rfl

/-- A head's lane as a column. -/
abbrev col (h : Fin 8) (k : Fin 128) : Fin 1024 := ⟨h.val * 128 + k.val, by omega⟩

/-- The head of a column. -/
theorem col_div (h : Fin 8) (k : Fin 128) (p : (h.val * 128 + k.val) / 128 < 8) : (⟨(h.val * 128 + k.val) / 128, p⟩ : Fin 8) = h :=
  Fin.ext (by show (h.val * 128 + k.val) / 128 = h.val; omega)

/-- The lane of a column. -/
theorem col_mod (h : Fin 8) (k : Fin 128) (p : (h.val * 128 + k.val) % 128 < 128) : (⟨(h.val * 128 + k.val) % 128, p⟩ : Fin 128) = k :=
  Fin.ext (by show (h.val * 128 + k.val) % 128 = k.val; omega)

/-- A column from its head and lane. -/
theorem col_join (h : Fin 8) (k : Fin 128) (p : (h.val * 128 + k.val) / 128 * 128 + (h.val * 128 + k.val) % 128 < 1024) :
    (⟨(h.val * 128 + k.val) / 128 * 128 + (h.val * 128 + k.val) % 128, p⟩ : Fin 1024) = col h k :=
  Fin.ext (by show (h.val * 128 + k.val) / 128 * 128 + (h.val * 128 + k.val) % 128 = h.val * 128 + k.val; omega)

/-- A head's row. -/
def rowAt (O : FVec Ideal S4352x1024 .f32) (i : Fin 4352) (h : Fin 8) (k : Fin 128) : EReal := O (ix2 i (col h k) : S4352x1024.Idx)

/-- The gate at an index. -/
def gateAt (P : FVec Ideal S4352x9216 .bf16) (i : Fin 4352) (j : Fin 1024) : EReal := P (ix2 i (⟨6144 + j.val, by omega⟩ : Fin 9216) : S4352x9216.Idx)

/-- A head's row is a stretch of the array's row. -/
theorem heads_apply (O : FVec Ideal S4352x1024 .f32) (i : Fin 4352) (h : Fin 8) (k : Fin 128) : (heads O (ix3 i h k : S4352x8x128.Idx) : EReal) = rowAt O i h k := by
  unfold heads rowAt; pointwise

/-- The mean of the squares, at a row and a head. -/
theorem ms_apply (O : FVec Ideal S4352x1024 .f32) (i : Fin 4352) (h : Fin 8) : (ms O (ix3 i h 0 : S4352x8x1.Idx) : EReal) = square (rowAt O i h) := by
  unfold ms square
  simp only [← heads_apply]
  pointwise

/-- A normalised entry. -/
theorem normed_apply (O : FVec Ideal S4352x1024 .f32) (i : Fin 4352) (h : Fin 8) (k : Fin 128) : (normed O (ix3 i h k : S4352x8x128.Idx) : EReal) = rowAt O i h k * scale (rowAt O i h) := by
  unfold normed scale
  rw [← heads_apply, ← ms_apply]
  pointwise

/-- A normalised entry times the gain. -/
theorem gained_apply (N : FVec Ideal S1x1024 .f32) (O : FVec Ideal S4352x1024 .f32) (i : Fin 4352) (h : Fin 8) (k : Fin 128) :
    (gained N O (ix2 i (col h k) : S4352x1024.Idx) : EReal) = rowAt O i h k * scale (rowAt O i h) * N (ix2 0 (col h k) : S1x1024.Idx) := by
  rw [← normed_apply]
  unfold gained
  pointwise
  simp only [col_div, col_mod, col_join]

/-- The gate, at an index. -/
theorem gate_apply (P : FVec Ideal S4352x9216 .bf16) (i : Fin 4352) (j : Fin 1024) : (gate P (ix2 i j : S4352x1024.Idx) : EReal) = gateAt P i j := by
  unfold gate gateAt; pointwise

/-- The gate's logistic function, at an index. -/
theorem gsig_apply (P : FVec Ideal S4352x9216 .bf16) (i : Fin 4352) (j : Fin 1024) : (gsig P (ix2 i j : S4352x1024.Idx) : EReal) = sigmoid (gateAt P i j) := by
  unfold gsig sigmoid
  rw [← gate_apply]
  pointwise

/-- The gate's gradient, at an index. -/
theorem dgate_apply (P : FVec Ideal S4352x9216 .bf16) (N : FVec Ideal S1x1024 .f32) (O : FVec Ideal S4352x1024 .f32) (D : FVec Ideal S4352x1024 .bf16) (i : Fin 4352) (h : Fin 8) (k : Fin 128) :
    (dgate P N O D (ix2 i (col h k) : S4352x1024.Idx) : EReal)
      = referenceGate (rowAt O i h) (N (ix2 0 (col h k) : S1x1024.Idx)) (D (ix2 i (col h k) : S4352x1024.Idx)) (gateAt P i (col h k)) k := by
  unfold referenceGate
  rw [← gsig_apply, ← gate_apply, ← gained_apply]
  unfold dgate
  pointwise

/-- The gain's gradient, at an index. -/
theorem gainV_apply (P : FVec Ideal S4352x9216 .bf16) (O : FVec Ideal S4352x1024 .f32) (D : FVec Ideal S4352x1024 .bf16) (h : Fin 8) (k : Fin 128) :
    (gainV P O D (ix2 0 (col h k) : S1x1024.Idx) : EReal)
      = ∑ i : Fin 4352, rowAt O i h k * scale (rowAt O i h) * (D (ix2 i (col h k) : S4352x1024.Idx) * (gateAt P i (col h k) * sigmoid (gateAt P i (col h k)))) := by
  simp only [← normed_apply]
  unfold gainV
  pointwise
  refine (Fintype.sum_unique _).trans ?_
  simp only [col_div, col_mod, col_join, gsig_apply, gate_apply]

/-- The row's position in its sequence decides whether it is padding. -/
theorem live_apply (b : Fin 2) (p : Fin 2176) (j : Fin 1024) : live (ix3 b p j : S2x2176x1024.Idx) = if 112 ≤ p.val then 1#1 else 0#1 := by
  unfold live
  pointwise
  exact (by decide +kernel : ∀ p : Fin 2176, IntOp.cmpi .sge (BitVec.ofNat 32 p.val) 112#32 = if 112 ≤ p.val then 1#1 else 0#1) p

/-- The gate's gradient with the padding zero, at an index. -/
theorem gateV_apply (P : FVec Ideal S4352x9216 .bf16) (N : FVec Ideal S1x1024 .f32) (O : FVec Ideal S4352x1024 .f32) (D : FVec Ideal S4352x1024 .bf16) (i : Fin 4352) (j : Fin 1024) :
    (gateV P N O D (ix2 i j : S4352x1024.Idx) : EReal) = if 112 ≤ i.val % 2176 then dgate P N O D (ix2 i j : S4352x1024.Idx) else 0 := by
  unfold gateV masked
  pointwise
  rw [live_apply]
  by_cases h : 112 ≤ i.val % 2176
  · rw [if_pos h, if_pos h]; rfl
  · rw [if_neg h, if_neg h]
    refine Eq.trans (show _ = (Ideal.ofBits FTy.f32 0#32 : EReal) from rfl) ?_
    simp [Ideal.ofBits, Ideal.ieee]

/-- The first result on its last columns. -/
theorem wideV_apply (P : FVec Ideal S4352x9216 .bf16) (N : FVec Ideal S1x1024 .f32) (O : FVec Ideal S4352x1024 .f32) (D : FVec Ideal S4352x1024 .bf16) (i : Fin 4352) (j : Fin 1024) (p : 3072 + j.val < 4096) :
    (wideV P N O D (ix2 i (⟨3072 + j.val, p⟩ : Fin 4096) : S4352x4096.Idx) : EReal) = gateV P N O D (ix2 i j : S4352x1024.Idx) := by
  unfold wideV
  pointwise

end Cert.HgrnRefIdeal.At
end
-- ==== Proof.HgrnValue.lean ====
module

public import proofs.«01_k».proof.Proof.Gen.HgrnIdeal.Value
public import proofs.«01_k».proof.Proof.HgrnRef

/-! # The gradients of the output gate and of the gain, as the kernel's grid computes them

The grid walks each sequence's chunks from the last to the first. At a chunk the body stores four blocks of columns side by
side; the last is the gate's gradient. The gain's gradient accumulates over all the chunks. -/

@[expose] public section

set_option maxRecDepth 16384

noncomputable section

namespace Cert.HgrnIdeal.Final

open Cert.HgrnIdeal Cert.HgrnIdeal.Gen Cert.HgrnReal Cert.Silu
open Cert.HgrnRefIdeal.At (col rowAt gateAt wideV gainV wideV_apply gateV_apply dgate_apply gainV_apply)
open Idealize.ShloMosaic Idealize.ShloMosaic.TcCoe Idealize.SL.Sem

/-- The normalised block. -/
def normB (o : Vec Ideal S128x1024 .f32) : FVec Ideal S128x1024 .f32 :=
  k0_pay51 o (k0_pay42 o) (k0_pay43 o) (k0_pay45 (k0_pay44 o)) (k0_pay46 o) (k0_pay47 o) (k0_pay48 o) (k0_pay49 o)

/-- A head's row of a block. -/
def brow (o : Vec Ideal S128x1024 .f32) (r : Fin 128) (h : Fin 8) (k : Fin 128) : EReal := o (ix2 r (col h k) : S128x1024.Idx)

/-- A normalised entry of a block. -/
theorem normB_apply (o : Vec Ideal S128x1024 .f32) (r : Fin 128) (h : Fin 8) (k : Fin 128) : (normB o (ix2 r (col h k) : S128x1024.Idx) : EReal) = brow o r h k * scale (brow o r h) := by
  unfold normB brow scale square
  fin_cases h
  all_goals pointwise [k0_pay51, k0_pay50, k0_pay42, k0_pay43, k0_pay44, k0_pay45, k0_pay46, k0_pay47, k0_pay48, k0_pay49]
  all_goals (repeat (first | rw [dif_pos (by omega)] | rw [dif_neg (by omega)]))
  all_goals rfl

/-- The block's gate gradient. -/
theorem gate_apply (o : Vec Ideal S128x1024 .f32) (g d : Vec Ideal S128x1024 .bf16) (n : Vec Ideal S1x1024 .f32) (r : Fin 128) (h : Fin 8) (k : Fin 128) :
    (k0_pay56 (F := Ideal) o (k0_pay42 o) (k0_pay43 o) (k0_pay45 (k0_pay44 o)) (k0_pay46 o) (k0_pay47 o) (k0_pay48 o) (k0_pay49 o) g d n (ix2 r (col h k) : S128x1024.Idx) : EReal)
      = kernelGate (brow o r h) (n (ix2 0 (col h k) : S1x1024.Idx)) (d (ix2 r (col h k) : S128x1024.Idx)) (g (ix2 r (col h k) : S128x1024.Idx)) k := by
  unfold kernelGate
  rw [← normB_apply, ← half_tanh]
  unfold normB
  pointwise [k0_pay56, k0_pay52, k0_pay53, k0_pay54]

/-- What a block of rows adds to the gain's gradient. -/
theorem gain_apply (o : Vec Ideal S128x1024 .f32) (g d : Vec Ideal S128x1024 .bf16) (h : Fin 8) (k : Fin 128) :
    (k0_pay64 (F := Ideal) (normB o) (k0_pay55 g d) (ix2 0 (col h k) : S1x1024.Idx) : EReal)
      = ∑ r : Fin 128, d (ix2 r (col h k) : S128x1024.Idx) * g (ix2 r (col h k) : S128x1024.Idx) * sigmoid (g (ix2 r (col h k) : S128x1024.Idx)) * (brow o r h k * scale (brow o r h)) := by
  simp only [← normB_apply, ← half_tanh]
  pointwise [k0_pay64, k0_pay55, k0_pay52, k0_pay53, k0_pay54]

/-- The padding's rows are zero. -/
theorem keep_apply (w : FVec Ideal S128x1024 .f32) (q : Fin 17) (r : Fin 128) (s : Fin 1024) :
    (k0_pay806 (F := Ideal) w (k0_pay801 (k0_pay28 (Scalar.subi 16#32 (BitVec.ofNat 32 q.val)) (iota Kind.tc S128x128 32 [0] iota_S128x128_d0_w32))) (ix2 r s : S128x1024.Idx) : EReal)
      = if 112 ≤ (16 - q.val) * 128 + r.val then w (ix2 r s : S128x1024.Idx) else 0 := by
  pointwise [k0_pay806, k0_pay801, k0_pay28, k0_pay802]
  rw [(by decide +kernel : ∀ (q : Fin 17) (r : Fin 128), IntOp.ori (Scalar.cmpi CmpIPredicate.sgt (Scalar.subi (16#32) (BitVec.ofNat 32 q.val)) 0#32)
    (IntOp.cmpi CmpIPredicate.sge (BitVec.ofNat 32 r.val) 112#32) = if 112 ≤ (16 - q.val) * 128 + r.val then 1#1 else 0#1) q r]
  by_cases h : 112 ≤ (16 - q.val) * 128 + r.val
  · rw [if_pos h, if_pos h]
    refine (congrArg (w (ix2 r s : S128x1024.Idx) * ·) (show (_ : EReal) = 1 from ?_)).trans (mul_one _)
    simp [FloatOps.sitofp]
  · rw [if_neg h, if_neg h]
    refine (congrArg (w (ix2 r s : S128x1024.Idx) * ·) (show (_ : EReal) = 0 from ?_)).trans (mul_zero _)
    simp [FloatOps.sitofp]

/-- The accumulation adds. -/
theorem add_apply (p q : FVec Ideal S1x1024 .f32) (s : Fin 1024) :
    (k0_pay3 (F := Ideal) p q (ix2 0 s : S1x1024.Idx) : EReal) = q (ix2 0 s : S1x1024.Idx) + p (ix2 0 s : S1x1024.Idx) := by
  pointwise [k0_pay3]

/-- A column of the wide block that the last of its stores wrote. -/
theorem last_columns (w : FVec Ideal S128x1024 .bf16) (L : List (View.Piece (Elt Ideal) S128x4096 .bf16))
    (inb : ∀ a, (![0, 3072] : Fin S128x4096.rank → ℕ) a + S128x1024.size a ≤ S128x4096.size a) (r : Fin 128) (s : Fin 1024) (p : 3072 + s.val < 4096) :
    View.canon ((⟨Rect.unit (s := S128x4096) ![0, 3072] S128x1024.size inb, w⟩ : View.Piece (Elt Ideal) S128x4096 .bf16) :: L) (ix2 r (⟨3072 + s.val, p⟩ : Fin 4096) : S128x4096.Idx)
      = w (ix2 r s : S128x1024.Idx) := by
  have e : (ix2 r (⟨3072 + s.val, p⟩ : Fin 4096) : S128x4096.Idx) = (Rect.unit (s := S128x4096) ![0, 3072] S128x1024.size inb).emb (ix2 r s : S128x1024.Idx) := by
    blk_ext
  rw [e]
  exact View.canon_cons_emb ..

variable (m : (ℓ : Loc nD τ sig) → Buf (Elt Ideal) ℓ)

/-- The chunk of the array that a grid point works on. -/
def chunk (t : Fin 34) : Fin 34 := ⟨t.val / 17 * 17 + (16 - t.val % 17), by omega⟩

/-- Each chunk is one grid point's. -/
theorem chunk_chunk (t : Fin 34) : chunk (chunk t) = t := (by decide : ∀ t, chunk (chunk t) = t) t

/-- A grid point. -/
abbrev pt (t : Fin cfg0.N) : Fin 34 := ⟨t.val, t.isLt⟩

/-- The blocks' places at a grid point. -/
theorem idx : ∀ t : Fin cfg0.N, win0_3.index t = ![t.val / 17 * 17 + (16 - t.val % 17), 6] ∧ win0_5.index t = ![0, 0] ∧ win0_6.index t = ![t.val / 17 * 17 + (16 - t.val % 17), 0]
    ∧ win0_8.index t = ![t.val / 17 * 17 + (16 - t.val % 17), 0] ∧ win0_9.index t = ![t.val / 17 * 17 + (16 - t.val % 17), 0] ∧ win0_11.index t = ![0, 0] :=
  (by decide +kernel : ∀ t : Fin grid0.N, _)

/-- The chunk's number in its sequence, as the body counts it. -/
theorem count : ∀ t : Fin cfg0.N, (grid0.coords t 2).val = t.val % 17 := (by decide +kernel : ∀ t : Fin grid0.N, _)

/-- The row of the array that a row of a grid point's block is. -/
abbrev row (t : Fin cfg0.N) (r : Fin 128) : Fin 4352 := ⟨(t.val / 17 * 17 + (16 - t.val % 17)) * 128 + r.val, by have : t.val < 34 := t.isLt; omega⟩

/-- The gate gradient's block. -/
def gateB (o : Vec Ideal S128x1024 .f32) (g d : Vec Ideal S128x1024 .bf16) (n : Vec Ideal S1x1024 .f32) : FVec Ideal S128x1024 .f32 :=
  k0_pay56 o (k0_pay42 o) (k0_pay43 o) (k0_pay45 (k0_pay44 o)) (k0_pay46 o) (k0_pay47 o) (k0_pay48 o) (k0_pay49 o) g d n

/-- The last columns of the wide block at a grid point. -/
theorem out9 (c : Dev nD) (t : Fin cfg0.N) (r : Fin 128) (s : Fin 1024) (p : 3072 + s.val < 4096) :
    ((outsAt0 m c t.val t.isLt).1 (ix2 r (⟨3072 + s.val, p⟩ : Fin 4096) : S128x4096.Idx) : EReal)
      = k0_pay806 (gateB (iblk m c 6 t) (iblk m c 3 t) (iblk m c 8 t) (iblk m c 5 t))
          (k0_pay801 (k0_pay28 (Scalar.subi (16#32) (BitVec.ofNat 32 (grid0.coords t 2).val)) (iota Kind.tc S128x128 32 [0] iota_S128x128_d0_w32))) (ix2 r s : S128x1024.Idx) := by
  have hN : t.val < 34 := t.isLt
  by_cases h : t.val % 34 = 0
  · rw [outsAt0_A m c t (by omega) h (by omega)]
    frame_out
    exact last_columns _ _ _ r s p
  · by_cases h0 : t.val % 17 = 0
    · rw [outsAt0_C m c t h0 h (by omega)]
      frame_out
      exact last_columns _ _ _ r s p
    · rw [outsAt0_B m c t h0 h (by omega)]
      frame_out
      exact last_columns _ _ _ r s p

/-- The gain's gradient at the first grid point. -/
theorem out11_A (c : Dev nD) (t : Fin cfg0.N) (h : t.val % 34 = 0) : (outsAt0 m c t.val t.isLt).2.2.1
    = k0_pay64 (normB (iblk m c 6 t)) (k0_pay55 (iblk m c 3 t) (iblk m c 8 t)) := by
  have hN : t.val < 34 := t.isLt
  rw [outsAt0_A m c t (by omega) h (by omega)]; frame_out; rfl

/-- The gain's gradient at a later grid point. -/
theorem out11_B (c : Dev nD) (t : Fin cfg0.N) (h : ¬ t.val % 34 = 0) : (outsAt0 m c t.val t.isLt).2.2.1
    = k0_pay3 (k0_pay64 (normB (iblk m c 6 t)) (k0_pay55 (iblk m c 3 t) (iblk m c 8 t))) (outsAt0 m c (t.val - 1) (Nat.lt_of_le_of_lt (Nat.sub_le _ _) t.isLt)).2.2.1 := by
  have hN : t.val < 34 := t.isLt
  by_cases h0 : t.val % 17 = 0
  · rw [outsAt0_C m c t h0 h (by omega)]; frame_out; rfl
  · rw [outsAt0_B m c t h0 h (by omega)]; frame_out; rfl

/-- An entry of the gate's block. -/
theorem atG (c : Dev nD) (t : Fin cfg0.N) (r : Fin 128) (s : Fin 1024) :
    (iblk m c 3 t (ix2 r s : S128x1024.Idx) : EReal) = gateAt (m ((c.tc : Thread nD τ).loc main_arg0)) (row t r) s := by
  unfold gateAt
  blk_point [iblk, V, idx t]

/-- An entry of the gain's block. -/
theorem atN (c : Dev nD) (t : Fin cfg0.N) (s : Fin 1024) :
    (iblk m c 5 t (ix2 0 s : S1x1024.Idx) : EReal) = m ((c.tc : Thread nD τ).loc main_arg2) (ix2 0 s : S1x1024.Idx) := by
  blk_point [iblk, V, idx t]

/-- An entry of the saved output's block. -/
theorem atO (c : Dev nD) (t : Fin cfg0.N) (r : Fin 128) (s : Fin 1024) :
    (iblk m c 6 t (ix2 r s : S128x1024.Idx) : EReal) = m ((c.tc : Thread nD τ).loc main_arg3) (ix2 (row t r) s : S4352x1024.Idx) := by
  blk_point [iblk, V, idx t]

/-- An entry of the cotangent's block. -/
theorem atD (c : Dev nD) (t : Fin cfg0.N) (r : Fin 128) (s : Fin 1024) :
    (iblk m c 8 t (ix2 r s : S128x1024.Idx) : EReal) = m ((c.tc : Thread nD τ).loc main_arg5) (ix2 (row t r) s : S4352x1024.Idx) := by
  blk_point [iblk, V, idx t]

/-- A head's row at a grid point. -/
theorem browE (c : Dev nD) (t : Fin cfg0.N) (r : Fin 128) (h : Fin 8) :
    brow (iblk m c 6 t) r h = rowAt (m ((c.tc : Thread nD τ).loc main_arg3)) (row t r) h := by
  funext k
  exact atO m c t r (col h k)

/-- The arguments the gradient needs real. -/
structure Finite (c : Dev nD) : Prop where
  n : ∀ i, ∃ r : ℝ, (m ((c.tc : Thread nD τ).loc main_arg2) i : EReal) = (r : EReal)
  d : ∀ i, ∃ r : ℝ, (m ((c.tc : Thread nD τ).loc main_arg5) i : EReal) = (r : EReal)

/-- The gate gradient's block at a grid point, against the reference. -/
theorem gate_point (c : Dev nD) (f : Finite m c) (t : Fin cfg0.N) (r : Fin 128) (s : Fin 1024) (p : 3072 + s.val < 4096) :
    ((outsAt0 m c t.val t.isLt).1 (ix2 r (⟨3072 + s.val, p⟩ : Fin 4096) : S128x4096.Idx) : EReal)
      = wideV (m ((c.tc : Thread nD τ).loc main_arg0)) (m ((c.tc : Thread nD τ).loc main_arg2)) (m ((c.tc : Thread nD τ).loc main_arg3)) (m ((c.tc : Thread nD τ).loc main_arg5))
          (ix2 (row t r) (⟨3072 + s.val, p⟩ : Fin 4096) : S4352x4096.Idx) := by
  have hN : t.val < 34 := t.isLt
  obtain ⟨h, k, rfl⟩ : ∃ (h : Fin 8) (k : Fin 128), s = col h k := ⟨⟨s.val / 128, by omega⟩, ⟨s.val % 128, by omega⟩, Fin.ext (by show s.val = s.val / 128 * 128 + s.val % 128; omega)⟩
  rw [out9, wideV_apply, gateV_apply, dgate_apply, count]
  refine (keep_apply _ ⟨t.val % 17, by omega⟩ r _).trans ?_
  have e : (112 ≤ (16 - t.val % 17) * 128 + r.val) = (112 ≤ (row t r).val % 2176) := by
    show _ = (112 ≤ ((t.val / 17 * 17 + (16 - t.val % 17)) * 128 + r.val) % 2176)
    congr 1
    omega
  have v : (gateB (iblk m c 6 t) (iblk m c 3 t) (iblk m c 8 t) (iblk m c 5 t) (ix2 r (col h k) : S128x1024.Idx) : EReal)
      = referenceGate (rowAt (m ((c.tc : Thread nD τ).loc main_arg3)) (row t r) h) (m ((c.tc : Thread nD τ).loc main_arg2) (ix2 0 (col h k) : S1x1024.Idx))
          (m ((c.tc : Thread nD τ).loc main_arg5) (ix2 (row t r) (col h k) : S4352x1024.Idx)) (gateAt (m ((c.tc : Thread nD τ).loc main_arg0)) (row t r) (col h k)) k := by
    refine (gate_apply _ _ _ _ r h k).trans ?_
    rw [browE, atN, atD, atG]
    exact gate_eq _ _ _ _ (f.n _) (f.d _) k
  simp only [e, v]

/-- After the run the last columns of the wide array are the reference's. -/
theorem final9 (c : Dev nD) (f : Finite m c) (i : S4352x4096.Idx) (hi : 3072 ≤ (i 1).val) : (dats m 0 c).arrAt 9 (cfgs 0).N i
    = wideV (m ((c.tc : Thread nD τ).loc main_arg0)) (m ((c.tc : Thread nD τ).loc main_arg2)) (m ((c.tc : Thread nD τ).loc main_arg3)) (m ((c.tc : Thread nD τ).loc main_arg5)) i := by
  refine (dats m 0 c).arrAt_forall_of_covers 9 (fun (i : S4352x4096.Idx) v => 3072 ≤ (i 1).val → v = wideV (m ((c.tc : Thread nD τ).loc main_arg0)) (m ((c.tc : Thread nD τ).loc main_arg2)) (m ((c.tc : Thread nD τ).loc main_arg3)) (m ((c.tc : Thread nD τ).loc main_arg5)) i)
    (by decide +kernel) (fun t hf y => ?_) i (Memref.isWhole_whole _) hi
  blk_simp
  rw [after0_9]
  idx_vars y
  have e : ((View.whole main_v0_0).slice (win0_9.rect t)).emb (ix2 y0 y1) = (ix2 (row t y0) y1 : S4352x4096.Idx) := by
    blk_ext [idx t]
  intro h
  obtain ⟨s, p, rfl⟩ : ∃ (s : Fin 1024) (p : 3072 + s.val < 4096), y1 = ⟨3072 + s.val, p⟩ := by
    have h' : 3072 ≤ y1.val := by
      have h0 : 3072 ≤ win0_9.index t 1 * 4096 + y1.val := h
      rw [(idx t).2.2.2.2.1] at h0
      exact h0.trans (by simp)
    have h'' : y1.val < 4096 := y1.isLt
    exact ⟨⟨y1.val - 3072, by omega⟩, by show 3072 + (y1.val - 3072) < 4096; omega, Fin.ext (by show y1.val = 3072 + (y1.val - 3072); omega)⟩
  rw [e]
  exact gate_point m c f t y0 s p

/-- The cotangent at an index. -/
def cotAt (D : FVec Ideal S4352x1024 .bf16) (i : Fin 4352) (j : Fin 1024) : EReal := D (ix2 i j : S4352x1024.Idx)

/-- What a grid point adds to the gain's gradient. -/
def term (c : Dev nD) (t : Fin cfg0.N) (h : Fin 8) (k : Fin 128) : EReal :=
  ∑ r : Fin 128, cotAt (m ((c.tc : Thread nD τ).loc main_arg5)) (row t r) (col h k) * gateAt (m ((c.tc : Thread nD τ).loc main_arg0)) (row t r) (col h k)
    * sigmoid (gateAt (m ((c.tc : Thread nD τ).loc main_arg0)) (row t r) (col h k)) * (rowAt (m ((c.tc : Thread nD τ).loc main_arg3)) (row t r) h k * scale (rowAt (m ((c.tc : Thread nD τ).loc main_arg3)) (row t r) h))

/-- … as its block holds it. -/
theorem term_eq (c : Dev nD) (t : Fin cfg0.N) (h : Fin 8) (k : Fin 128) :
    (k0_pay64 (F := Ideal) (normB (iblk m c 6 t)) (k0_pay55 (iblk m c 3 t) (iblk m c 8 t)) (ix2 0 (col h k) : S1x1024.Idx) : EReal) = term m c t h k := by
  rw [gain_apply]
  unfold term cotAt
  simp only [browE, atD, atG]

/-- The gain's gradient after the last grid point. -/
theorem acc (c : Dev nD) (t : Fin cfg0.N) (ht : t.val + 1 = cfg0.N) (h : Fin 8) (k : Fin 128) :
    ((outsAt0 m c t.val t.isLt).2.2.1 (ix2 0 (col h k) : S1x1024.Idx) : EReal) = ∑ p : Fin cfg0.N, term m c p h k := by
  rw [Pipeline.eq_sum_fin_of_reset_step_apply_last
    (fun n hn (k : Fin 128) => ((outsAt0 m c n hn).2.2.1 (ix2 0 (col h k) : S1x1024.Idx) : EReal)) 34 (fun _ => 0) (fun t k => term m c t h k)
    (fun t ht k => by rw [out11_A m c t ht, term_eq, zero_add])
    (fun t ht k => by rw [out11_B m c t ht, add_apply, term_eq])
    (le_of_eq N_0) t ht k, zero_add]

/-- The sum over the grid points is the sum over the rows. -/
theorem rows_sum (f : Fin 4352 → EReal) : ∑ t : Fin cfg0.N, ∑ r : Fin 128, f (row t r) = ∑ i : Fin 4352, f i := by
  rw [Fin.sum_univ_tiles 34 128 rfl]
  refine Fintype.sum_bijective (fun t : Fin cfg0.N => chunk (pt t)) ?_ _ _ fun t => ?_
  · exact Function.Involutive.bijective (f := chunk) chunk_chunk
  · rfl

/-- The five factors of a term, in the two groupings. -/
theorem regroup (d g s x q : EReal) : d * g * s * (x * q) = x * q * (d * (g * s)) := by rw [mul_comm, mul_assoc d]

/-- The gain's gradient after the run is the reference's. -/
theorem final11 (c : Dev nD) : (dats m 0 c).arrAt 11 (cfgs 0).N = gainV (m ((c.tc : Thread nD τ).loc main_arg0)) (m ((c.tc : Thread nD τ).loc main_arg3)) (m ((c.tc : Thread nD τ).loc main_arg5)) := by
  refine (dats m 0 c).arrAt_eq_of_covers 11 _ (by decide +kernel) fun t hf y => ?_
  have ht : t.val + 1 = cfg0.N := (by decide +kernel : ∀ t : Fin cfg0.N, (cfg0.win 11).flush t = true → t.val + 1 = cfg0.N) t hf
  blk_simp
  rw [after0_11]
  idx_vars y
  obtain rfl : y0 = 0 := Subsingleton.elim _ _
  have e : (gainV (m ((c.tc : Thread nD τ).loc main_arg0)) (m ((c.tc : Thread nD τ).loc main_arg3)) (m ((c.tc : Thread nD τ).loc main_arg5)) (((View.whole main_v0_2).slice (win0_11.rect t)).emb (ix2 0 y1)) : EReal)
      = gainV (m ((c.tc : Thread nD τ).loc main_arg0)) (m ((c.tc : Thread nD τ).loc main_arg3)) (m ((c.tc : Thread nD τ).loc main_arg5)) (ix2 0 y1 : S1x1024.Idx) := by
    blk_ext [idx t]
  obtain ⟨h, k, rfl⟩ : ∃ (h : Fin 8) (k : Fin 128), y1 = col h k := by
    have h' : y1.val < 1024 := y1.isLt
    exact ⟨⟨y1.val / 128, by omega⟩, ⟨y1.val % 128, by omega⟩, Fin.ext (by show y1.val = y1.val / 128 * 128 + y1.val % 128; omega)⟩
  refine (acc m c t ht h k).trans (Eq.trans ?_ e.symm)
  rw [gainV_apply, ← rows_sum]
  unfold term cotAt
  refine Finset.sum_congr rfl fun p _ => Finset.sum_congr rfl fun r _ => ?_
  exact regroup _ _ _ _ _

end Cert.HgrnIdeal.Final

end
-- ==== Proof.HgrnClaim.lean ====
module

public import proofs.«01_k».proof.Defs
public import proofs.«01_k».proof.Proof.HgrnValue
public import proofs.«01_k».proof.Proof.FfnClaim

/-! # The gated recurrence's backward pass leaves the reference's gradients of the output gate and of the gain -/

@[expose] public section

set_option maxRecDepth 16384

noncomputable section

namespace Cert.HgrnClaim

open Idealize.ShloMosaic Idealize.ShloMosaic.TcCoe Idealize.SL.Sem Cert.ConvClaim

/-- The precondition's facts about shapes. -/
theorem finite_facts : Cert.Pre_finite_hgrn.Facts := ⟨by decide, by decide, by decide⟩

/-- The mask's facts about shapes. -/
theorem columns_facts : Cert.On_gate_columns.Facts := ⟨by decide, by decide, by decide, by decide⟩

open Cert.Pre_finite_hgrn in
/-- The gain's entries are real numbers. -/
theorem gain_real [Facts] (A : FVec Ideal S4352x9216 .bf16) (B : FVec Ideal S2x1024 .f32) (C : FVec Ideal S1x1024 .f32) (D : FVec Ideal S4352x1024 .f32)
    (E : FVec Ideal S2x8x17x8x128x128 .f32) (G : FVec Ideal S4352x1024 .bf16) (h : (fn A B C D E G).1 = fun _ => 1#1) (i : S1x1024.Idx) : ∃ r : ℝ, (C i : EReal) = (r : EReal) := by
  refine real_of_abs_lt _ (Eq.trans ?_ (congrFun h i))
  rw [← word_top]
  rfl

open Cert.Pre_finite_hgrn in
/-- The cotangent's entries are real numbers. -/
theorem cotangent_real [Facts] (A : FVec Ideal S4352x9216 .bf16) (B : FVec Ideal S2x1024 .f32) (C : FVec Ideal S1x1024 .f32) (D : FVec Ideal S4352x1024 .f32)
    (E : FVec Ideal S2x8x17x8x128x128 .f32) (G : FVec Ideal S4352x1024 .bf16) (h : (fn A B C D E G).2 = fun _ => 1#1) (i : S4352x1024.Idx) : ∃ r : ℝ, (G i : EReal) = (r : EReal) := by
  refine real_of_abs_lt _ (Eq.trans ?_ (congrFun h i))
  rw [← word_top]
  rfl

open Cert.On_gate_columns in
/-- A column that the mask keeps is one of the last. -/
theorem kept [Facts] (A : FVec Ideal S4352x9216 .bf16) (B : FVec Ideal S2x1024 .f32) (C : FVec Ideal S1x1024 .f32) (D : FVec Ideal S4352x1024 .f32)
    (E : FVec Ideal S2x8x17x8x128x128 .f32) (G : FVec Ideal S4352x1024 .bf16) (i : S4352x4096.Idx) (h : (fn (F := Ideal) A B C D E G).1 i = 1#1) : 3072 ≤ (i 1).val := by
  have h' : IntOp.cmpi CmpIPredicate.sge (BitVec.ofNat 32 (i 1).val) 3072#32 = 1#1 := h
  have hi : (i 1).val < 4096 := (i 1).isLt
  by_contra hn
  exact (by decide +kernel : ∀ p : Fin 3072, ¬ IntOp.cmpi CmpIPredicate.sge (BitVec.ofNat 32 p.val) 3072#32 = 1#1) ⟨(i 1).val, by omega⟩ h'

/-- The gradients of the output gate and of the gain. -/
theorem hgrn [Cert.HgrnIdeal.Facts] [Cert.HgrnRefIdeal.Facts] [Cert.Pre_finite_hgrn.Facts] [Cert.On_gate_columns.Facts] :
    Cert.algebraic_HgrnIdeal_HgrnRefIdeal_on_gate_columns_pre_finite_hgrn := by
  intro m g m' g' hpre hagree
  refine ⟨fun c => (Cert.HgrnIdeal.Gen.dats m 0 c).arrAt 9 (Cert.HgrnIdeal.cfgs 0).N, fun c => (Cert.HgrnIdeal.Gen.dats m 0 c).arrAt 11 (Cert.HgrnIdeal.cfgs 0).N, ?_, ?_⟩
  · refine θ_run_mono (Cert.HgrnIdeal.Value.run_blocks m g) ?_
    intro r hr c
    obtain ⟨h0, -, h2, hargs⟩ := hr c
    exact ⟨fun i _ => congrFun h0 i, fun i _ => congrFun h2 i, hargs⟩
  · refine θ_run_mono (Cert.HgrnRefIdeal.Value.run m' g') ?_
    intro r hr c
    obtain ⟨h0, h1, hargs⟩ := hr c
    obtain ⟨e0, e1, e2, e3, e4, e5⟩ := hagree c
    refine ⟨fun i hi => (congrFun h0 i).trans ?_, fun i _ => (congrFun h1 i).trans ?_, hargs⟩
    · refine Eq.trans ?_ (Cert.HgrnIdeal.Final.final9 m c ⟨fun i => gain_real _ _ _ _ _ _ (hpre c).1 i, fun i => cotangent_real _ _ _ _ _ _ (hpre c).2 i⟩ i (kept _ _ _ _ _ _ i hi)).symm
      rw [← e0, ← e2, ← e3, ← e5]
      exact congrFun (Cert.HgrnRefIdeal.At.wide_eq m' c) i
    · refine Eq.trans ?_ (congrFun (Cert.HgrnIdeal.Final.final11 m c) i).symm
      rw [← e0, ← e3, ← e5]
      rfl

end Cert.HgrnClaim
end
-- ==== Proof.HgrnQueryReal.lean ====
module

public import proofs.«01_k».proof.Proof.HgrnReal

/-! # The gradient of the recurrence's query, over the extended reals

Inside a chunk of sixteen rows the state is the chunk's first state, decayed, plus what the chunk's earlier rows added, decayed
from where they were added. The kernel splits a decay between two rows into a factor for each; the split is exact while the
second factor stays below the kernel's cap. -/

@[expose] public section

noncomputable section

namespace Cert.HgrnQueryReal

open Idealize.ShloMosaic Cert.Silu Cert.HgrnReal

/-- The kernel's spelling of a normalised head's gradient. -/
def kernelGrad (x w : Fin 128 → EReal) (j : Fin 128) : EReal :=
  scale x * (w j - x j * scale x * Ideal.div (∑ k, w k * (x k * scale x)) (Ideal.ofBits FTy.f32 1124073472#32))

/-- What the derivative of the factor contributes. -/
def part (x w : Fin 128 → EReal) : EReal :=
  Ideal.div ((∑ k, x k * w k) * (Ideal.ofBits FTy.f32 3204448256#32 * Ideal.div (scale x) (square x))) (Ideal.ofBits FTy.f32 1124073472#32)

/-- The derivative's spelling of a normalised head's gradient. -/
def referenceGrad (x w : Fin 128 → EReal) (j : Fin 128) : EReal := w j * scale x + x j * part x w + part x w * x j

/-- The factor of a row of reals. -/
theorem scale_coe (x : Fin 128 → ℝ) : ∃ q r : ℝ, 0 < q ∧ square (fun k => (x k : EReal)) = (q : EReal)
    ∧ scale (fun k => (x k : EReal)) = (r : EReal) ∧ r * r = 1 / q := by
  obtain ⟨ε, hε, he⟩ := NormReal.eps_word
  have hs : square (fun k => (x k : EReal)) = (((∑ k, x k * x k) / 128 + ε : ℝ) : EReal) := by
    unfold square
    simp only [← EReal.coe_mul]
    rw [NormReal.coe_sum, len_word, he, Ideal.div_coe (by norm_num), ← EReal.coe_mul, ← EReal.coe_add, mul_one_div]
  have hq : (0 : ℝ) < (∑ k, x k * x k) / 128 + ε :=
    add_pos_of_nonneg_of_pos (div_nonneg (Finset.sum_nonneg fun k _ => mul_self_nonneg _) (by norm_num)) hε
  refine ⟨_, (Real.sqrt ((∑ k, x k * x k) / 128 + ε))⁻¹, hq, hs, ?_, ?_⟩
  · unfold scale
    rw [hs, Ideal.rsqrt_coe, if_neg (not_lt.mpr hq.le), if_neg hq.ne']
  · rw [← mul_inv, Real.mul_self_sqrt hq.le, one_div]

/-- The two spellings agree on rows of reals, and are real. -/
theorem grad_eq (x w : Fin 128 → EReal) (hx : ∀ k, ∃ r : ℝ, x k = (r : EReal)) (hw : ∀ k, ∃ r : ℝ, w k = (r : EReal)) (j : Fin 128) :
    kernelGrad x w j = referenceGrad x w j ∧ ∃ r : ℝ, referenceGrad x w j = (r : EReal) := by
  choose w' hw using hw
  choose x' hx using hx
  obtain rfl : w = fun k => (w' k : EReal) := funext hw
  obtain rfl : x = fun k => (x' k : EReal) := funext hx
  obtain ⟨q, r, hq, hs, hr, hqr⟩ := scale_coe x'
  unfold kernelGrad referenceGrad part
  rw [hs, hr, len_word, NormReal.neg_half_word, Ideal.div_coe hq.ne', Ideal.div_coe (by norm_num : (128 : ℝ) ≠ 0), Ideal.div_coe (by norm_num : (128 : ℝ) ≠ 0)]
  simp only [← EReal.coe_mul]
  rw [NormReal.coe_sum, NormReal.coe_sum]
  simp only [← EReal.coe_mul, ← EReal.coe_sub, ← EReal.coe_add]
  refine ⟨?_, _, rfl⟩
  congr 1
  have h1 : ∑ k, w' k * (x' k * r) = r * ∑ k, x' k * w' k := by
    rw [Finset.mul_sum]
    exact Finset.sum_congr rfl fun k _ => by ring
  rw [h1]
  generalize ∑ k, x' k * w' k = S
  rw [← hqr]
  ring

/-- The first of two softmax weights is the logistic function of the difference. -/
theorem softmax_two (a b m : ℝ) :
    Ideal.div (Ideal.exp ((a : EReal) - (m : EReal))) (Ideal.exp ((a : EReal) - (m : EReal)) + Ideal.exp ((b : EReal) - (m : EReal)))
      = sigmoid ((a : EReal) - (b : EReal)) := by
  have hp : Real.exp (a - m) + Real.exp (b - m) ≠ 0 := by positivity
  rw [← EReal.coe_sub, ← EReal.coe_sub, ← EReal.coe_sub, sigmoid_coe, Ideal.exp_coe, Ideal.exp_coe, ← EReal.coe_add, Ideal.div_coe hp, ← EReal.coe_mul]
  congr 1
  have e : Real.exp (b - m) = Real.exp (-(a - b)) * Real.exp (a - m) := by rw [← Real.exp_add]; congr 1; ring
  rw [e]
  have h1 := Real.exp_pos (a - m)
  have h2 := Real.exp_pos (-(a - b))
  field_simp

/-- The logistic function's value is a real number between zero and one, at infinities too. -/
theorem sigmoid_bounds (y : EReal) : ∃ t : ℝ, 0 ≤ t ∧ t ≤ 1 ∧ sigmoid y = (t : EReal) := by
  induction y with
  | bot =>
    refine ⟨0, le_refl _, zero_le_one, ?_⟩
    have e : Ideal.exp (-(⊥ : EReal)) = ⊤ := by rw [EReal.neg_bot]; rfl
    have e' : (1 : EReal) + ⊤ = ⊤ := rfl
    unfold sigmoid
    rw [e, e']
    simp [Ideal.div]
  | top =>
    refine ⟨1, zero_le_one, le_refl _, ?_⟩
    have e : Ideal.exp (-(⊤ : EReal)) = 0 := by rw [EReal.neg_top]; rfl
    unfold sigmoid
    rw [e]
    simp [Ideal.div]
  | coe y =>
    have h := Real.exp_pos (-y)
    exact ⟨_, by positivity, by rw [div_le_one (by positivity)]; linarith, sigmoid_coe y⟩

/-- The forget gate is positive and at most one. -/
theorem gate_real (a : ℝ) (y : EReal) : ∃ f : ℝ, 0 < f ∧ f ≤ 1 ∧
    sigmoid (a : EReal) + (1 - sigmoid (a : EReal)) * sigmoid y = (f : EReal) := by
  obtain ⟨t, y0, y1, hy⟩ := sigmoid_bounds y
  rw [sigmoid_coe, hy]
  have h := Real.exp_pos (-a)
  have a0 : 0 < 1 / (1 + Real.exp (-a)) := by positivity
  have a1 : 1 / (1 + Real.exp (-a)) < 1 := by rw [div_lt_one (by positivity)]; linarith
  generalize 1 / (1 + Real.exp (-a)) = s at *
  refine ⟨s + (1 - s) * t, by nlinarith, by nlinarith, ?_⟩
  norm_cast

/-- The kernel's key is one minus the gate. -/
theorem key_eq (a : ℝ) (y : EReal) : (1 - sigmoid (a : EReal)) * (1 - sigmoid y) = 1 - (sigmoid (a : EReal) + (1 - sigmoid (a : EReal)) * sigmoid y) := by
  obtain ⟨t, -, -, hy⟩ := sigmoid_bounds y
  rw [sigmoid_coe, hy]
  norm_cast
  ring

/-- The running sum that the kernel forms, from a value and its two remainders. -/
def kernelSum (f : Fin 128 → EReal) (r : Fin 128) : EReal :=
  ∑ s : Fin 128, (if r.val / 16 = s.val / 16 ∧ s ≤ r then 1 else 0) * Ideal.log (f s)

/-- The query's gradient before its activation, as the kernel forms it. -/
def kernelCore (f K : Fin 128 → EReal) (X : Fin 128 → Fin 128 → EReal) (D S : Fin 128 → EReal) (r : Fin 128) : EReal :=
  (∑ s : Fin 128, (if r.val / 16 = s.val / 16 ∧ s ≤ r then ∑ v, D v * X s v else 0)
      * (K s * Ideal.exp (min (0 - kernelSum f s) (Ideal.ofBits FTy.f32 1117782016#32))) + ∑ v, D v * S v) * Ideal.exp (kernelSum f r)

/-- The running sum inside a chunk. -/
def chunkSum (f : Fin 16 → EReal) (l : Fin 16) : EReal := ∑ s : Fin 16, Ideal.log (f s) * (if s ≤ l then 1 else 0)

/-- The query's gradient before its activation, as the derivative spells it. -/
def referenceCore (f : Fin 16 → EReal) (X : Fin 16 → Fin 128 → EReal) (D S : Fin 128 → EReal) (l : Fin 16) : EReal :=
  ∑ v, D v * (Ideal.exp (chunkSum f l) * S v
    + ∑ s : Fin 16, (1 - f s) * Ideal.exp (if s ≤ l then chunkSum f l - chunkSum f s else ⊥) * X s v)

/-- The word of the cap. -/
theorem cap_word : (Ideal.ofBits FTy.f32 1117782016#32 : EReal) = ((80 : ℝ) : EReal) := by
  simp [Ideal.ofBits, Ideal.ieee, -EReal.coe_mul]; norm_num

/-- A row of a block by its chunk and place. -/
def place (j : Fin 8) (l : Fin 16) : Fin 128 := ⟨j.val * 16 + l.val, by omega⟩

/-- A sum over a block's rows that only one chunk's rows enter. -/
theorem sum_chunk {M : Type} [AddCommMonoid M] (j : Fin 8) (F : Fin 128 → M) (h : ∀ s : Fin 128, s.val / 16 ≠ j.val → F s = 0) :
    ∑ s, F s = ∑ l : Fin 16, F (place j l) := by
  rw [Fin.sum_univ_tiles 8 16 rfl, Finset.sum_eq_single j]
  · rfl
  · intro b _ hb
    refine Finset.sum_eq_zero fun l _ => h _ ?_
    show (b.val * 16 + l.val) / 16 ≠ j.val
    have := fun e => hb (Fin.ext e)
    omega
  · intro hj
    exact absurd (Finset.mem_univ j) hj

/-- Whether a row enters another's sum. -/
theorem enters (j : Fin 8) (l s : Fin 16) : ((place j l).val / 16 = (place j s).val / 16 ∧ place j s ≤ place j l) = (s ≤ l) := by
  refine propext ⟨fun h => ?_, fun h => ⟨?_, ?_⟩⟩
  · have h2 : j.val * 16 + s.val ≤ j.val * 16 + l.val := h.2
    show s.val ≤ l.val
    omega
  · show (j.val * 16 + l.val) / 16 = (j.val * 16 + s.val) / 16
    omega
  · have h2 : s.val ≤ l.val := h
    show j.val * 16 + s.val ≤ j.val * 16 + l.val
    omega

/-- The kernel's running sum is the chunk's. -/
theorem kernelSum_eq (f : Fin 128 → EReal) (j : Fin 8) (l : Fin 16) : kernelSum f (place j l) = chunkSum (fun s => f (place j s)) l := by
  unfold kernelSum chunkSum
  rw [sum_chunk j]
  · refine Finset.sum_congr rfl fun s _ => ?_
    rw [mul_comm]
    simp only [enters]
  · intro s hs
    rw [if_neg, zero_mul]
    rintro ⟨h, -⟩
    have : (j.val * 16 + l.val) / 16 = s.val / 16 := h
    omega

/-- The chunk's running sum of reals. -/
theorem chunkSum_coe (f : Fin 16 → ℝ) (hf : ∀ s, 0 < f s) (l : Fin 16) :
    chunkSum (fun s => (f s : EReal)) l = ((∑ s : Fin 16, if s ≤ l then Real.log (f s) else 0 : ℝ) : EReal) := by
  unfold chunkSum
  rw [← NormReal.coe_sum]
  refine Finset.sum_congr rfl fun s _ => ?_
  rw [Ideal.log_coe, if_neg (not_le.mpr (hf s))]
  by_cases h : s ≤ l
  · rw [if_pos h, if_pos h, mul_one]
  · rw [if_neg h, if_neg h, mul_zero]; rfl

/-- The two spellings agree on reals while a chunk's decay stays above the cap. -/
theorem core_eq (f K : Fin 128 → EReal) (X : Fin 128 → Fin 128 → EReal) (D S : Fin 128 → EReal)
    (hf : ∀ s, ∃ r : ℝ, 0 < r ∧ r ≤ 1 ∧ f s = (r : EReal)) (hK : ∀ s, K s = 1 - f s)
    (hX : ∀ s v, ∃ r : ℝ, X s v = (r : EReal)) (hD : ∀ v, ∃ r : ℝ, D v = (r : EReal)) (hS : ∀ v, ∃ r : ℝ, S v = (r : EReal))
    (j : Fin 8) (hc : ∑ s : Fin 16, -Ideal.log (f (place j s)) ≤ ((80 : ℝ) : EReal)) (l : Fin 16) :
    kernelCore f K X D S (place j l) = referenceCore (fun s => f (place j s)) (fun s => X (place j s)) D S l
      ∧ ∃ r : ℝ, referenceCore (fun s => f (place j s)) (fun s => X (place j s)) D S l = (r : EReal) := by
  choose f' hf0 hf1 hf using hf
  choose X' hX using hX
  choose D' hD using hD
  choose S' hS using hS
  obtain rfl : f = fun k => (f' k : EReal) := funext hf
  obtain rfl : D = fun k => (D' k : EReal) := funext hD
  obtain rfl : S = fun k => (S' k : EReal) := funext hS
  obtain rfl : X = fun s k => (X' s k : EReal) := funext fun s => funext fun v => hX s v
  obtain rfl : K = fun s => 1 - (f' s : EReal) := funext hK
  obtain ⟨G, hG⟩ : ∃ G : Fin 16 → ℝ, G = fun l => ∑ s : Fin 16, if s ≤ l then Real.log (f' (place j s)) else 0 := ⟨_, rfl⟩
  have hlog (s : Fin 128) : Real.log (f' s) ≤ 0 := Real.log_nonpos (hf0 s).le (hf1 s)
  have cs (l : Fin 16) : chunkSum (fun s => (f' (place j s) : EReal)) l = (G l : EReal) := by
    rw [hG]; exact chunkSum_coe _ (fun s => hf0 _) l
  have ks (l : Fin 16) : kernelSum (fun s => (f' s : EReal)) (place j l) = (G l : EReal) := (kernelSum_eq _ j l).trans (cs l)
  have hc' : ∑ s : Fin 16, -Real.log (f' (place j s)) ≤ 80 := by
    have e : ∑ s : Fin 16, -Ideal.log ((f' (place j s) : ℝ) : EReal) = ((∑ s : Fin 16, -Real.log (f' (place j s)) : ℝ) : EReal) := by
      rw [← NormReal.coe_sum]
      refine Finset.sum_congr rfl fun s _ => ?_
      rw [Ideal.log_coe, if_neg (not_le.mpr (hf0 _)), EReal.coe_neg]
    rw [e] at hc
    exact_mod_cast hc
  have hcap (l : Fin 16) : -G l ≤ 80 := by
    refine le_trans ?_ hc'
    rw [hG, ← Finset.sum_neg_distrib]
    refine Finset.sum_le_sum fun s _ => ?_
    by_cases h : s ≤ l
    · rw [if_pos h]
    · rw [if_neg h, neg_zero]; linarith [hlog (place j s)]
  have one (r : ℝ) : (1 : EReal) - (r : EReal) = ((1 - r : ℝ) : EReal) := by norm_cast
  have hk : kernelCore (fun s => (f' s : EReal)) (fun s => 1 - (f' s : EReal)) (fun s v => (X' s v : EReal)) (fun v => (D' v : EReal)) (fun v => (S' v : EReal)) (place j l)
      = (((∑ s : Fin 16, (if s ≤ l then ∑ v, D' v * X' (place j s) v else 0) * ((1 - f' (place j s)) * Real.exp (-G s)) + ∑ v, D' v * S' v) * Real.exp (G l) : ℝ) : EReal) := by
    unfold kernelCore
    rw [sum_chunk j]
    · simp only [enters, ks, cap_word, one, ← EReal.coe_mul, NormReal.coe_sum]
      rw [Ideal.exp_coe, EReal.coe_mul, EReal.coe_add]
      congr 2
      rw [← NormReal.coe_sum]
      refine Finset.sum_congr rfl fun s _ => ?_
      have e : min (0 - ((G s : ℝ) : EReal)) ((80 : ℝ) : EReal) = ((-G s : ℝ) : EReal) := by
        rw [zero_sub, ← EReal.coe_neg]
        exact min_eq_left (by exact_mod_cast hcap s)
      rw [e, Ideal.exp_coe, EReal.coe_mul, EReal.coe_mul]
      by_cases h : s ≤ l
      · rw [if_pos h, if_pos h]
      · rw [if_neg h, if_neg h]; rfl
    · intro s hs
      rw [if_neg, zero_mul]
      rintro ⟨h, -⟩
      have : (j.val * 16 + l.val) / 16 = s.val / 16 := h
      omega
  have hr : referenceCore (fun s => (f' (place j s) : EReal)) (fun s v => (X' (place j s) v : EReal)) (fun v => (D' v : EReal)) (fun v => (S' v : EReal)) l
      = ((∑ v, D' v * (Real.exp (G l) * S' v + ∑ s : Fin 16, (1 - f' (place j s)) * (if s ≤ l then Real.exp (G l - G s) else 0) * X' (place j s) v) : ℝ) : EReal) := by
    unfold referenceCore
    simp only [cs, one]
    rw [← NormReal.coe_sum]
    refine Finset.sum_congr rfl fun v _ => ?_
    rw [EReal.coe_mul, EReal.coe_add, EReal.coe_mul, Ideal.exp_coe, ← NormReal.coe_sum]
    congr 2
    refine Finset.sum_congr rfl fun s _ => ?_
    rw [EReal.coe_mul, EReal.coe_mul]
    congr 2
    by_cases h : s ≤ l
    · rw [if_pos h, if_pos h, ← EReal.coe_sub, Ideal.exp_coe]
    · rw [if_neg h, if_neg h, Ideal.exp_bot]; rfl
  rw [hk, hr]
  refine ⟨?_, _, rfl⟩
  congr 1
  simp only [mul_add, Finset.sum_add_distrib, add_mul, Finset.mul_sum, Finset.sum_mul]
  rw [add_comm]
  congr 1
  · exact Finset.sum_congr rfl fun v _ => by ring
  · rw [Finset.sum_comm]
    refine Finset.sum_congr rfl fun s _ => ?_
    by_cases h : s ≤ l
    · simp only [if_pos h]
      have e : Real.exp (G l - G s) = Real.exp (G l) * Real.exp (-G s) := by rw [← Real.exp_add, sub_eq_add_neg]
      rw [e, Finset.sum_mul, Finset.sum_mul]
      exact Finset.sum_congr rfl fun v _ => by ring
    · simp only [if_neg h]
      simp

end Cert.HgrnQueryReal
end
-- ==== Proof.HgrnQueryParts.lean ====
module

public import proofs.«01_k».proof.Proof.HgrnValue
public import proofs.«01_k».proof.Proof.HgrnQueryReal

/-! # What the kernel's body holds at one entry of a block, on the way to the query's gradient -/

@[expose] public section

set_option maxRecDepth 16384

noncomputable section

namespace Cert.HgrnIdeal.Query

open Cert.HgrnIdeal Cert.HgrnIdeal.Gen Cert.HgrnReal Cert.Silu Cert.HgrnQueryReal
open Cert.HgrnRefIdeal.At (col)
open Cert.HgrnIdeal.Final
open Idealize.ShloMosaic Idealize.ShloMosaic.TcCoe Idealize.SL.Sem

/-- Which rows of a block a row's sums run over. -/
def mask : IVec S128x128 1 :=
  k0_pay10 (iota .tc S128x128 32 [0] iota_S128x128_d0_w32) (iota .tc S128x128 32 [1] iota_S128x128_d1_w32) k0_pay5 16#32 k0_pay6 k0_pay7 k0_pay8

/-- A row's chunk, as the body counts it. -/
theorem group : ∀ r : Fin 128, (Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 ↑r) 16#32) 0#32))
          (IntOp.subi (IntOp.divsi ArithUnit.vector (BitVec.ofNat 32 ↑r) 16#32) 1#32)
          (IntOp.divsi ArithUnit.vector (BitVec.ofNat 32 ↑r) 16#32)) = BitVec.ofNat 32 (r.val / 16) := by decide +kernel

/-- They are the rows of its own chunk, up to itself. -/
theorem mask_apply (r s : Fin 128) : mask (ix2 r s : S128x128.Idx) = if r.val / 16 = s.val / 16 ∧ s ≤ r then 1#1 else 0#1 := by
  unfold mask
  pointwise [k0_pay10, k0_pay9, k0_pay5, k0_pay6, k0_pay7, k0_pay8]
  rw [group r, group s]
  exact (by decide +kernel : ∀ r s : Fin 128, IntOp.andi (IntOp.cmpi CmpIPredicate.eq (BitVec.ofNat 32 (r.val / 16)) (BitVec.ofNat 32 (s.val / 16)))
    (IntOp.cmpi CmpIPredicate.sle (BitVec.ofNat 32 s.val) (BitVec.ofNat 32 r.val)) = if r.val / 16 = s.val / 16 ∧ s ≤ r then 1#1 else 0#1) r s

/-- The cotangent of a normalised head, spread with the gain and the gate. -/
def spread (g d : Vec Ideal S128x1024 .bf16) (n : Vec Ideal S1x1024 .f32) (r : Fin 128) (h : Fin 8) (k : Fin 128) : EReal :=
  (d (ix2 r (col h k) : S128x1024.Idx) : EReal) * g (ix2 r (col h k) : S128x1024.Idx) * sigmoid (g (ix2 r (col h k) : S128x1024.Idx)) * n (ix2 0 (col h k) : S1x1024.Idx)

/-- The factors of the norm. -/
def scaleB (o : Vec Ideal S128x1024 .f32) : FVec Ideal S128x1024 .f32 :=
  k0_pay50 o (k0_pay42 o) (k0_pay43 o) (k0_pay45 (k0_pay44 o)) (k0_pay46 o) (k0_pay47 o) (k0_pay48 o) (k0_pay49 o)

/-- An entry of the factors. -/
theorem scaleB_apply (o : Vec Ideal S128x1024 .f32) (r : Fin 128) (h : Fin 8) (k : Fin 128) : (scaleB o (ix2 r (col h k) : S128x1024.Idx) : EReal) = scale (brow o r h) := by
  unfold scaleB brow scale square
  fin_cases h
  all_goals pointwise [k0_pay50, k0_pay42, k0_pay43, k0_pay44, k0_pay45, k0_pay46, k0_pay47, k0_pay48, k0_pay49]
  all_goals (repeat (first | rw [dif_pos (by omega)] | rw [dif_neg (by omega)]))
  all_goals rfl

/-- An entry of the spread cotangent. -/
theorem spread_apply (g d : Vec Ideal S128x1024 .bf16) (n : Vec Ideal S1x1024 .f32) (r : Fin 128) (h : Fin 8) (k : Fin 128) :
    (k0_pay57 (F := Ideal) (k0_pay55 g d) n (ix2 r (col h k) : S128x1024.Idx) : EReal) = spread g d n r h k := by
  unfold spread
  rw [← half_tanh]
  pointwise [k0_pay57, k0_pay55, k0_pay52, k0_pay53, k0_pay54]

/-- The gradient of the normalised block, of its parts. -/
def gradB (u w p : FVec Ideal S128x1024 .f32) (a : FVec Ideal S128x1024 .f32) (n : Vec Ideal S1x1024 .f32) : FVec Ideal S128x1024 .bf16 :=
  k0_pay65 u w p (k0_pay58 w a n) (k0_pay59 w a n) (k0_pay60 w a n) (k0_pay61 w a n) (k0_pay62 w a n) (k0_pay63 w a n)

/-- An entry of it. -/
theorem gradB_apply (u w a : FVec Ideal S128x1024 .f32) (n : Vec Ideal S1x1024 .f32) (r : Fin 128) (h : Fin 8) (k : Fin 128) :
    (gradB u w (k0_pay57 a n) a n (ix2 r (col h k) : S128x1024.Idx) : EReal)
      = u (ix2 r (col h k) : S128x1024.Idx) * (k0_pay57 a n (ix2 r (col h k) : S128x1024.Idx) - w (ix2 r (col h k) : S128x1024.Idx)
        * Ideal.div (∑ k', k0_pay57 a n (ix2 r (col h k') : S128x1024.Idx) * w (ix2 r (col h k') : S128x1024.Idx)) (Ideal.ofBits FTy.f32 1124073472#32)) := by
  unfold gradB
  generalize hp : k0_pay57 a n = p
  fin_cases h
  all_goals pointwise [k0_pay65, k0_pay58, k0_pay59, k0_pay60, k0_pay61, k0_pay62, k0_pay63]
  all_goals (repeat (first | rw [dif_pos (by omega)] | rw [dif_neg (by omega)]))
  all_goals subst hp
  all_goals rfl

/-- The gradient of the block that the norm reads. -/
def doB (o : Vec Ideal S128x1024 .f32) (g d : Vec Ideal S128x1024 .bf16) (n : Vec Ideal S1x1024 .f32) : FVec Ideal S128x1024 .bf16 :=
  gradB (scaleB o) (normB o) (k0_pay57 (k0_pay55 g d) n) (k0_pay55 g d) n

/-- An entry of it. -/
theorem doB_apply (o : Vec Ideal S128x1024 .f32) (g d : Vec Ideal S128x1024 .bf16) (n : Vec Ideal S1x1024 .f32) (r : Fin 128) (h : Fin 8) (k : Fin 128) :
    (doB o g d n (ix2 r (col h k) : S128x1024.Idx) : EReal) = kernelGrad (brow o r h) (spread g d n r h) k := by
  unfold doB kernelGrad
  rw [gradB_apply]
  simp only [scaleB_apply, normB_apply, spread_apply]

/-- The products of the gradient with the inputs, masked. -/
def inner (X D : FVec Ideal S128x1024 .bf16) (K : FVec Ideal S128x1024 .bf16) (u w p : FVec Ideal S128x1024 .f32) (a : FVec Ideal S128x1024 .f32) (n : Vec Ideal S1x1024 .f32) : FVec Ideal S128x1024 .f32 :=
  k0_pay81 K (k0_pay72 mask X D) (k0_pay73 mask X D) (k0_pay74 mask X D)
    (k0_pay75 K (k0_pay66 mask X u w p (k0_pay58 w a n) (k0_pay59 w a n) (k0_pay60 w a n) (k0_pay61 w a n) (k0_pay62 w a n) (k0_pay63 w a n)))
    (k0_pay76 K (k0_pay67 mask X u w p (k0_pay58 w a n) (k0_pay59 w a n) (k0_pay60 w a n) (k0_pay61 w a n) (k0_pay62 w a n) (k0_pay63 w a n)))
    (k0_pay77 mask K (k0_pay68 X u w p (k0_pay58 w a n) (k0_pay59 w a n) (k0_pay60 w a n) (k0_pay61 w a n) (k0_pay62 w a n) (k0_pay63 w a n)) (Scalar.ofBits .f32 0x00000000#32))
    (k0_pay78 mask X K D) (k0_pay79 mask X K D) (k0_pay80 K) (constant S128x128 .f32 0x00000000#32)

/-- A masked product. -/
def masked (X D : FVec Ideal S128x1024 .bf16) (r s : Fin 128) (h : Fin 8) : EReal :=
  if r.val / 16 = s.val / 16 ∧ s ≤ r then ∑ v, (D (ix2 r (col h v) : S128x1024.Idx) : EReal) * X (ix2 s (col h v) : S128x1024.Idx) else 0

/-- A product that a mask lets through. -/
theorem select_mul (P : Prop) [Decidable P] (A B K K' : EReal) (hA : A = B) (hK : K = K') :
    (Scalar.select (if P then 1#1 else 0#1) (A * K) 0 : EReal) = (if P then B else 0) * K' := by
  subst hA hK
  by_cases q : P
  · rw [if_pos q, if_pos q]
    rfl
  · rw [if_neg q, if_neg q, zero_mul]
    rfl

set_option maxHeartbeats 2000000 in
/-- An entry of what the chunk's own rows contribute. -/
theorem inner_apply (X K : FVec Ideal S128x1024 .bf16) (u w p : FVec Ideal S128x1024 .f32) (a : FVec Ideal S128x1024 .f32) (n : Vec Ideal S1x1024 .f32) (r : Fin 128) (h : Fin 8) (k : Fin 128) :
    (inner X (gradB u w p a n) K u w p a n (ix2 r (col h k) : S128x1024.Idx) : EReal)
      = ∑ s : Fin 128, masked X (gradB u w p a n) r s h * K (ix2 s (col h k) : S128x1024.Idx) := by
  unfold inner
  generalize hD : gradB u w p a n = D
  unfold gradB at hD
  fin_cases h
  all_goals pointwise [k0_pay81, k0_pay72, k0_pay73, k0_pay74, k0_pay75, k0_pay76, k0_pay77, k0_pay78, k0_pay79, k0_pay80, k0_pay66, k0_pay67, k0_pay68, k0_pay69, k0_pay70, k0_pay71]
  all_goals (repeat (first | rw [dif_pos (by omega)] | rw [dif_neg (by omega)]))
  all_goals
    refine Finset.sum_congr rfl fun s _ => ?_
    rw [mask_apply]
    unfold masked
    try rw [hD]
    have e (i j : Fin 1024) (q : i = j) : (K (ix2 s i : S128x1024.Idx) : EReal) = K (ix2 s j : S128x1024.Idx) := by rw [q]
    refine select_mul _ _ _ _ _ rfl (e _ _ (Fin.ext ?_))
    simp only [col, Fin.val_zero, Fin.val_one, Fin.val_two]
    try omega

end Cert.HgrnIdeal.Query

end
-- ==== Proof.HgrnQueryGate.lean ====
module

public import proofs.«01_k».proof.Proof.HgrnQueryParts

/-! # The kernel's forget gate, its running sums and its decays, at one entry of a block -/

@[expose] public section

set_option maxRecDepth 16384

noncomputable section

namespace Cert.HgrnIdeal.Query

open Cert.HgrnIdeal Cert.HgrnIdeal.Gen Cert.HgrnReal Cert.Silu Cert.HgrnQueryReal
open Cert.HgrnRefIdeal.At (col)
open Cert.HgrnIdeal.Final
open Idealize.ShloMosaic Idealize.ShloMosaic.TcCoe Idealize.SL.Sem

/-- The gate's lower bound at a column. -/
def bound (a b : Vec Ideal S1x1024 .f32) (s : Fin 1024) : EReal := sigmoid ((a (ix2 0 s : S1x1024.Idx) : EReal) - b (ix2 0 s : S1x1024.Idx))

/-- The forget gate at an entry. -/
def fB (a b : Vec Ideal S1x1024 .f32) (y : Vec Ideal S128x1024 .bf16) (s : Fin 1024) (r : Fin 128) : EReal :=
  bound a b s + (1 - bound a b s) * sigmoid (y (ix2 r s : S128x1024.Idx))

/-- The kernel's key at an entry. -/
def kB (a b : Vec Ideal S1x1024 .f32) (y : Vec Ideal S128x1024 .bf16) (s : Fin 1024) (r : Fin 128) : EReal :=
  (1 - bound a b s) * (1 - sigmoid (y (ix2 r s : S128x1024.Idx)))

/-- The logarithm of the gate. -/
theorem log_apply (a b : Vec Ideal S1x1024 .f32) (y : Vec Ideal S128x1024 .bf16) (r : Fin 128) (s : Fin 1024) :
    (k0_pay17 (F := Ideal) (k0_pay13 a b y) (k0_pay14 a b) (ix2 r s : S128x1024.Idx) : EReal) = Ideal.log (fB a b y s r) := by
  unfold fB bound
  simp only [← half_tanh]
  pointwise [k0_pay17, k0_pay15, k0_pay13, k0_pay14, k0_pay11, k0_pay12]

/-- The key. -/
theorem key_apply (a b : Vec Ideal S1x1024 .f32) (y : Vec Ideal S128x1024 .bf16) (r : Fin 128) (s : Fin 1024) :
    (k0_pay16 (F := Ideal) (k0_pay11 a b) (k0_pay12 y) (ix2 r s : S128x1024.Idx) : EReal) = kB a b y s r := by
  unfold kB bound
  simp only [← half_tanh]
  pointwise [k0_pay16, k0_pay11, k0_pay12]

/-- A value and the two remainders the body takes of it add up to the value. -/
theorem three (c y L : EReal) (h : ∃ x : ℝ, y = (x : EReal)) (hL : L = y) : c * L + c * (L - L) + c * (L - L - (L - L)) = c * y := by
  obtain ⟨x, rfl⟩ := h
  subst hL
  rw [← EReal.coe_sub, sub_self, EReal.coe_zero, sub_zero, mul_zero, add_zero, add_zero]

/-- A sum over three blocks. -/
theorem sum_blocks (F : Fin 384 → EReal) : ∑ x, F x = ∑ s : Fin 128, (F ⟨s.val, by omega⟩ + F ⟨128 + s.val, by omega⟩ + F ⟨256 + s.val, by omega⟩) := by
  rw [Fin.sum_univ_tiles 3 128 rfl, Finset.sum_comm]
  refine Finset.sum_congr rfl fun s _ => ?_
  rw [Fin.sum_univ_three]
  refine congrArg₂ _ (congrArg₂ _ (congrArg F (Fin.ext ?_)) (congrArg F (Fin.ext ?_))) (congrArg F (Fin.ext ?_))
  · show 0 * 128 + s.val = s.val
    omega
  · show 1 * 128 + s.val = 128 + s.val
    omega
  · show 2 * 128 + s.val = 256 + s.val
    omega

/-- A mask's entry as a factor. -/
theorem mask_factor (r s : Fin 128) : (FloatOps.sitofp (F := Ideal) FTy.f32 (BitVec.setWidth 32 (mask (ix2 r s : S128x128.Idx))) : EReal) = if r.val / 16 = s.val / 16 ∧ s ≤ r then 1 else 0 := by
  rw [mask_apply]
  by_cases q : r.val / 16 = s.val / 16 ∧ s ≤ r
  · rw [if_pos q, if_pos q]
    simp [FloatOps.sitofp]
  · rw [if_neg q, if_neg q]
    simp [FloatOps.sitofp]

/-- The running sum. -/
theorem run_apply (v w : FVec Ideal S128x1024 .f32) (f : Fin 128 → EReal) (r : Fin 128) (s : Fin 1024)
    (hl : ∀ j : Fin 128, (k0_pay17 (F := Ideal) v w (ix2 j s : S128x1024.Idx) : EReal) = Ideal.log (f j)) (hr : ∀ j : Fin 128, ∃ x : ℝ, Ideal.log (f j) = (x : EReal)) :
    (k0_pay18 (F := Ideal) mask v w (ix2 r s : S128x1024.Idx) : EReal) = kernelSum f r := by
  unfold kernelSum
  pointwise [k0_pay18]
  refine (sum_blocks _).trans ?_
  refine Finset.sum_congr rfl fun j _ => ?_
  have hj : j.val < 128 := j.isLt
  have e1 : 128 + j.val - 128 = j.val := by omega
  have e2 : 256 + j.val - 128 - 128 = j.val := by omega
  have n1 : ¬ 128 + j.val < 128 := by omega
  have n2 : ¬ 256 + j.val < 128 := by omega
  have n3 : ¬ 256 + j.val - 128 < 128 := by omega
  simp only [dif_pos hj, dif_neg n1, dif_neg n2, dif_neg n3, e1, e2, dif_pos hj]
  rw [← mask_factor r j]
  exact three _ _ _ (hr j) (hl j)

/-- The decayed key. -/
theorem keyed_apply (v w p : FVec Ideal S128x1024 .f32) (r : Fin 128) (s : Fin 1024) :
    (k0_pay30 (F := Ideal) p (k0_pay23 mask v w) (ix2 r s : S128x1024.Idx) : EReal)
      = p (ix2 r s : S128x1024.Idx) * Ideal.exp (min (0 - (k0_pay18 (F := Ideal) mask v w (ix2 r s : S128x1024.Idx) : EReal)) (Ideal.ofBits FTy.f32 1117782016#32)) := by
  pointwise [k0_pay30, k0_pay26, k0_pay23]

/-- A factor that is one. -/
theorem times_one (a b : EReal) (h : b = 1) : a * b = a := by rw [h, mul_one]

/-- A factor that is zero. -/
theorem times_zero (a b : EReal) (h : b = 0) : a * b = 0 := by rw [h, mul_zero]

/-- The stored block's entry. -/
theorem store_apply (x : Vec Ideal S128x1024 .bf16) (v w c : FVec Ideal S128x1024 .f32) (q : Fin 17) (r : Fin 128) (s : Fin 1024) :
    (k0_pay803 (F := Ideal) (k0_pay20 x) (k0_pay21 x) (k0_pay22 mask v w) c
        (k0_pay801 (k0_pay28 (Scalar.subi 16#32 (BitVec.ofNat 32 q.val)) (iota Kind.tc S128x128 32 [0] iota_S128x128_d0_w32))) (ix2 r s : S128x1024.Idx) : EReal)
      = if 112 ≤ (16 - q.val) * 128 + r.val then
          c (ix2 r s : S128x1024.Idx) * Ideal.exp (k0_pay18 (F := Ideal) mask v w (ix2 r s : S128x1024.Idx))
            * (sigmoid (x (ix2 r s : S128x1024.Idx)) * (1 + x (ix2 r s : S128x1024.Idx) * (1 - sigmoid (x (ix2 r s : S128x1024.Idx))))) else 0 := by
  rw [← half_tanh]
  pointwise [k0_pay803, k0_pay20, k0_pay21, k0_pay22, k0_pay801, k0_pay28, k0_pay802]
  rw [(by decide +kernel : ∀ (q : Fin 17) (r : Fin 128), IntOp.ori (Scalar.cmpi CmpIPredicate.sgt (Scalar.subi (16#32) (BitVec.ofNat 32 q.val)) 0#32)
    (IntOp.cmpi CmpIPredicate.sge (BitVec.ofNat 32 r.val) 112#32) = if 112 ≤ (16 - q.val) * 128 + r.val then 1#1 else 0#1) q r]
  show (_ : EReal) = _
  by_cases h : 112 ≤ (16 - q.val) * 128 + r.val
  · rw [if_pos h, if_pos h]
    refine times_one _ _ ?_
    simp [FloatOps.sitofp]
  · rw [if_neg h, if_neg h]
    refine times_zero _ _ ?_
    simp [FloatOps.sitofp]

end Cert.HgrnIdeal.Query

end
-- ==== Proof.HgrnQueryTiles.lean ====
module

public import proofs.«01_k».proof.Proof.HgrnQueryGate

/-! # What the saved states contribute to the query's gradient, as the kernel stores it: a tile for each chunk and head -/

@[expose] public section

set_option maxRecDepth 16384

noncomputable section

namespace Cert.HgrnIdeal.Query

open Cert.HgrnIdeal Cert.HgrnIdeal.Gen Cert.HgrnReal Cert.Silu Cert.HgrnQueryReal
open Cert.HgrnRefIdeal.At (col)
open Cert.HgrnIdeal.Final
open Idealize.ShloMosaic Idealize.ShloMosaic.TcCoe Idealize.SL.Sem

/-- A row of the gradient against a saved state. -/
def carried (D : FVec Ideal S128x1024 .bf16) (S : Vec Ideal S1x8x1x8x128x128 .f32) (j : Fin 8) (l : Fin 16) (h : Fin 8) (k : Fin 128) : EReal :=
  ∑ v : Fin 128, (D (ix2 (place j l) (col h v) : S128x1024.Idx) : EReal) * S (ix6 0 h 0 j v k : S1x8x1x8x128x128.Idx)

/-- … at an index of the block. -/
def carriedV (D : FVec Ideal S128x1024 .bf16) (S : Vec Ideal S1x8x1x8x128x128 .f32) : S128x1024.Idx → EReal := fun y =>
  carried D S ⟨(y 0).val / 16, by have : (y 0).val < 128 := (y 0).isLt; omega⟩ ⟨(y 0).val % 16, by omega⟩
    ⟨(y 1).val / 128, by have : (y 1).val < 1024 := (y 1).isLt; omega⟩ ⟨(y 1).val % 128, by omega⟩

/-- … by chunk, place, head and column. -/
theorem carriedV_apply (D : FVec Ideal S128x1024 .bf16) (S : Vec Ideal S1x8x1x8x128x128 .f32) (j : Fin 8) (l : Fin 16) (h : Fin 8) (k : Fin 128) :
    carriedV D S (ix2 (place j l) (col h k) : S128x1024.Idx) = carried D S j l h k := by
  show carried D S ⟨(j.val * 16 + l.val) / 16, _⟩ ⟨(j.val * 16 + l.val) % 16, _⟩ ⟨(h.val * 128 + k.val) / 128, _⟩ ⟨(h.val * 128 + k.val) % 128, _⟩ = _
  congr 1 <;> refine Fin.ext ?_
  · show (j.val * 16 + l.val) / 16 = j.val
    omega
  · show (j.val * 16 + l.val) % 16 = l.val
    omega
  · show (h.val * 128 + k.val) / 128 = h.val
    omega
  · show (h.val * 128 + k.val) % 128 = k.val
    omega

/-- A tile's entry is the block's. -/
theorem tile_of (D : FVec Ideal S128x1024 .bf16) (S : Vec Ideal S1x8x1x8x128x128 .f32) (w : S16x128.Idx → EReal) (j h : Fin 8) (a b : ℕ) (ha : a = j.val * 16) (hb : b = h.val * 128)
    (inb : ∀ i, (![a, b] : Fin S128x1024.rank → ℕ) i + S16x128.size i ≤ S128x1024.size i)
    (hw : ∀ (l : Fin 16) (k : Fin 128), w (ix2 l k : S16x128.Idx) = carried D S j l h k) (x : S16x128.Idx) :
    w x = carriedV D S ((Rect.unit (s := S128x1024) ![a, b] S16x128.size inb).emb x) := by
  idx_vars x
  have e : (Rect.unit (s := S128x1024) ![a, b] S16x128.size inb).emb (ix2 x0 x1 : S16x128.Idx) = (ix2 (place j x0) (col h x1) : S128x1024.Idx) := by
    subst ha hb
    blk_ext
    rfl
  rw [e, carriedV_apply]
  exact hw x0 x1

/-- One product, with the places spelt out. -/
theorem entry (D : FVec Ideal S128x1024 .bf16) (i : Fin 128) (c : Fin 1024) (j : Fin 8) (l : Fin 16) (h : Fin 8) (v : Fin 128) (s : EReal)
    (hi : i.val = j.val * 16 + l.val) (hc : c.val = h.val * 128 + v.val) :
    (D (ix2 i c : S128x1024.Idx) : EReal) * s = D (ix2 (place j l) (col h v) : S128x1024.Idx) * s := by
  rw [show i = place j l from Fin.ext hi, show c = col h v from Fin.ext hc]

/-- Chunk 7 of the block, head 0. -/
theorem tile_7_0 (D : FVec Ideal S128x1024 .bf16) (S : Vec Ideal S1x8x1x8x128x128 .f32) (l : Fin 16) (k : Fin 128) :
    (k0_pay90 D (View.ld S (Rect.unit (s := S1x8x1x8x128x128) ![0, 0, 0, 7, 0, 0] S1x1x1x1x128x128.size inb_S1x8x1x8x128x128_S1x1x1x1x128x128_0_0_0_7_0_0)) (ix2 l k : S16x128.Idx) : EReal) = carried D S 7 l 0 k := by
  unfold carried
  pointwise [k0_pay90, k0_pay85]
  exact Finset.sum_congr rfl fun v _ => entry D _ _ 7 l 0 v _ rfl (Nat.zero_add _).symm

/-- Chunk 7 of the block, head 1. -/
theorem tile_7_1 (D : FVec Ideal S128x1024 .bf16) (S : Vec Ideal S1x8x1x8x128x128 .f32) (l : Fin 16) (k : Fin 128) :
    (k0_pay102 D (View.ld S (Rect.unit (s := S1x8x1x8x128x128) ![0, 1, 0, 7, 0, 0] S1x1x1x1x128x128.size inb_S1x8x1x8x128x128_S1x1x1x1x128x128_0_1_0_7_0_0)) (ix2 l k : S16x128.Idx) : EReal) = carried D S 7 l 1 k := by
  unfold carried
  pointwise [k0_pay102, k0_pay97]
  exact Finset.sum_congr rfl fun v _ => entry D _ _ 7 l 1 v _ rfl rfl

/-- Chunk 7 of the block, head 2. -/
theorem tile_7_2 (D : FVec Ideal S128x1024 .bf16) (S : Vec Ideal S1x8x1x8x128x128 .f32) (l : Fin 16) (k : Fin 128) :
    (k0_pay114 (k0_pay109 (View.ld S (Rect.unit (s := S1x8x1x8x128x128) ![0, 2, 0, 7, 0, 0] S1x1x1x1x128x128.size inb_S1x8x1x8x128x128_S1x1x1x1x128x128_0_2_0_7_0_0))) (k0_pay113 D) (ix2 l k : S16x128.Idx) : EReal) = carried D S 7 l 2 k := by
  unfold carried
  pointwise [k0_pay109, k0_pay113, k0_pay114, k0_pay107]
  exact Finset.sum_congr rfl fun v _ => entry D _ _ 7 l 2 v _ rfl rfl

/-- Chunk 7 of the block, head 3. -/
theorem tile_7_3 (D : FVec Ideal S128x1024 .bf16) (S : Vec Ideal S1x8x1x8x128x128 .f32) (l : Fin 16) (k : Fin 128) :
    (k0_pay124 D (View.ld S (Rect.unit (s := S1x8x1x8x128x128) ![0, 3, 0, 7, 0, 0] S1x1x1x1x128x128.size inb_S1x8x1x8x128x128_S1x1x1x1x128x128_0_3_0_7_0_0)) (ix2 l k : S16x128.Idx) : EReal) = carried D S 7 l 3 k := by
  unfold carried
  pointwise [k0_pay124, k0_pay119]
  exact Finset.sum_congr rfl fun v _ => entry D _ _ 7 l 3 v _ rfl rfl

/-- Chunk 7 of the block, head 4. -/
theorem tile_7_4 (D : FVec Ideal S128x1024 .bf16) (S : Vec Ideal S1x8x1x8x128x128 .f32) (l : Fin 16) (k : Fin 128) :
    (k0_pay135 D (View.ld S (Rect.unit (s := S1x8x1x8x128x128) ![0, 4, 0, 7, 0, 0] S1x1x1x1x128x128.size inb_S1x8x1x8x128x128_S1x1x1x1x128x128_0_4_0_7_0_0)) (ix2 l k : S16x128.Idx) : EReal) = carried D S 7 l 4 k := by
  unfold carried
  pointwise [k0_pay135, k0_pay130]
  exact Finset.sum_congr rfl fun v _ => entry D _ _ 7 l 4 v _ rfl rfl

/-- Chunk 7 of the block, head 5. -/
theorem tile_7_5 (D : FVec Ideal S128x1024 .bf16) (S : Vec Ideal S1x8x1x8x128x128 .f32) (l : Fin 16) (k : Fin 128) :
    (k0_pay146 (k0_pay145 D (View.ld S (Rect.unit (s := S1x8x1x8x128x128) ![0, 5, 0, 7, 0, 0] S1x1x1x1x128x128.size inb_S1x8x1x8x128x128_S1x1x1x1x128x128_0_5_0_7_0_0))) (ix2 l k : S16x128.Idx) : EReal) = carried D S 7 l 5 k := by
  unfold carried
  pointwise [k0_pay145, k0_pay146, k0_pay140]
  exact Finset.sum_congr rfl fun v _ => entry D _ _ 7 l 5 v _ rfl rfl

/-- Chunk 7 of the block, head 6. -/
theorem tile_7_6 (D : FVec Ideal S128x1024 .bf16) (S : Vec Ideal S1x8x1x8x128x128 .f32) (l : Fin 16) (k : Fin 128) :
    (k0_pay156 D (View.ld S (Rect.unit (s := S1x8x1x8x128x128) ![0, 6, 0, 7, 0, 0] S1x1x1x1x128x128.size inb_S1x8x1x8x128x128_S1x1x1x1x128x128_0_6_0_7_0_0)) (ix2 l k : S16x128.Idx) : EReal) = carried D S 7 l 6 k := by
  unfold carried
  pointwise [k0_pay156, k0_pay151]
  exact Finset.sum_congr rfl fun v _ => entry D _ _ 7 l 6 v _ rfl rfl

/-- Chunk 7 of the block, head 7. -/
theorem tile_7_7 (D : FVec Ideal S128x1024 .bf16) (S : Vec Ideal S1x8x1x8x128x128 .f32) (l : Fin 16) (k : Fin 128) :
    (k0_pay166 D (View.ld S (Rect.unit (s := S1x8x1x8x128x128) ![0, 7, 0, 7, 0, 0] S1x1x1x1x128x128.size inb_S1x8x1x8x128x128_S1x1x1x1x128x128_0_7_0_7_0_0)) (ix2 l k : S16x128.Idx) : EReal) = carried D S 7 l 7 k := by
  unfold carried
  pointwise [k0_pay166, k0_pay161]
  exact Finset.sum_congr rfl fun v _ => entry D _ _ 7 l 7 v _ rfl rfl

/-- Chunk 6 of the block, head 0. -/
theorem tile_6_0 (D : FVec Ideal S128x1024 .bf16) (S : Vec Ideal S1x8x1x8x128x128 .f32) (l : Fin 16) (k : Fin 128) :
    (k0_pay178 (k0_pay177 D (View.ld S (Rect.unit (s := S1x8x1x8x128x128) ![0, 0, 0, 6, 0, 0] S1x1x1x1x128x128.size inb_S1x8x1x8x128x128_S1x1x1x1x128x128_0_0_0_6_0_0))) (ix2 l k : S16x128.Idx) : EReal) = carried D S 6 l 0 k := by
  unfold carried
  pointwise [k0_pay177, k0_pay178, k0_pay172]
  exact Finset.sum_congr rfl fun v _ => entry D _ _ 6 l 0 v _ rfl (Nat.zero_add _).symm

/-- Chunk 6 of the block, head 1. -/
theorem tile_6_1 (D : FVec Ideal S128x1024 .bf16) (S : Vec Ideal S1x8x1x8x128x128 .f32) (l : Fin 16) (k : Fin 128) :
    (k0_pay188 D (View.ld S (Rect.unit (s := S1x8x1x8x128x128) ![0, 1, 0, 6, 0, 0] S1x1x1x1x128x128.size inb_S1x8x1x8x128x128_S1x1x1x1x128x128_0_1_0_6_0_0)) (ix2 l k : S16x128.Idx) : EReal) = carried D S 6 l 1 k := by
  unfold carried
  pointwise [k0_pay188, k0_pay183]
  exact Finset.sum_congr rfl fun v _ => entry D _ _ 6 l 1 v _ rfl rfl

/-- Chunk 6 of the block, head 2. -/
theorem tile_6_2 (D : FVec Ideal S128x1024 .bf16) (S : Vec Ideal S1x8x1x8x128x128 .f32) (l : Fin 16) (k : Fin 128) :
    (k0_pay199 D (View.ld S (Rect.unit (s := S1x8x1x8x128x128) ![0, 2, 0, 6, 0, 0] S1x1x1x1x128x128.size inb_S1x8x1x8x128x128_S1x1x1x1x128x128_0_2_0_6_0_0)) (ix2 l k : S16x128.Idx) : EReal) = carried D S 6 l 2 k := by
  unfold carried
  pointwise [k0_pay199, k0_pay194]
  exact Finset.sum_congr rfl fun v _ => entry D _ _ 6 l 2 v _ rfl rfl

/-- Chunk 6 of the block, head 3. -/
theorem tile_6_3 (D : FVec Ideal S128x1024 .bf16) (S : Vec Ideal S1x8x1x8x128x128 .f32) (l : Fin 16) (k : Fin 128) :
    (k0_pay210 D (View.ld S (Rect.unit (s := S1x8x1x8x128x128) ![0, 3, 0, 6, 0, 0] S1x1x1x1x128x128.size inb_S1x8x1x8x128x128_S1x1x1x1x128x128_0_3_0_6_0_0)) (ix2 l k : S16x128.Idx) : EReal) = carried D S 6 l 3 k := by
  unfold carried
  pointwise [k0_pay210, k0_pay205]
  exact Finset.sum_congr rfl fun v _ => entry D _ _ 6 l 3 v _ rfl rfl

/-- Chunk 6 of the block, head 4. -/
theorem tile_6_4 (D : FVec Ideal S128x1024 .bf16) (S : Vec Ideal S1x8x1x8x128x128 .f32) (l : Fin 16) (k : Fin 128) :
    (k0_pay221 D (k0_pay216 (View.ld S (Rect.unit (s := S1x8x1x8x128x128) ![0, 4, 0, 6, 0, 0] S1x1x1x1x128x128.size inb_S1x8x1x8x128x128_S1x1x1x1x128x128_0_4_0_6_0_0))) (ix2 l k : S16x128.Idx) : EReal) = carried D S 6 l 4 k := by
  unfold carried
  pointwise [k0_pay216, k0_pay221]
  exact Finset.sum_congr rfl fun v _ => entry D _ _ 6 l 4 v _ rfl rfl

/-- Chunk 6 of the block, head 5. -/
theorem tile_6_5 (D : FVec Ideal S128x1024 .bf16) (S : Vec Ideal S1x8x1x8x128x128 .f32) (l : Fin 16) (k : Fin 128) :
    (k0_pay234 D (View.ld S (Rect.unit (s := S1x8x1x8x128x128) ![0, 5, 0, 6, 0, 0] S1x1x1x1x128x128.size inb_S1x8x1x8x128x128_S1x1x1x1x128x128_0_5_0_6_0_0)) (ix2 l k : S16x128.Idx) : EReal) = carried D S 6 l 5 k := by
  unfold carried
  pointwise [k0_pay234, k0_pay229]
  exact Finset.sum_congr rfl fun v _ => entry D _ _ 6 l 5 v _ rfl rfl

/-- Chunk 6 of the block, head 6. -/
theorem tile_6_6 (D : FVec Ideal S128x1024 .bf16) (S : Vec Ideal S1x8x1x8x128x128 .f32) (l : Fin 16) (k : Fin 128) :
    (k0_pay246 D (View.ld S (Rect.unit (s := S1x8x1x8x128x128) ![0, 6, 0, 6, 0, 0] S1x1x1x1x128x128.size inb_S1x8x1x8x128x128_S1x1x1x1x128x128_0_6_0_6_0_0)) (ix2 l k : S16x128.Idx) : EReal) = carried D S 6 l 6 k := by
  unfold carried
  pointwise [k0_pay246, k0_pay241]
  exact Finset.sum_congr rfl fun v _ => entry D _ _ 6 l 6 v _ rfl rfl

/-- Chunk 6 of the block, head 7. -/
theorem tile_6_7 (D : FVec Ideal S128x1024 .bf16) (S : Vec Ideal S1x8x1x8x128x128 .f32) (l : Fin 16) (k : Fin 128) :
    (k0_pay257 D (k0_pay252 (View.ld S (Rect.unit (s := S1x8x1x8x128x128) ![0, 7, 0, 6, 0, 0] S1x1x1x1x128x128.size inb_S1x8x1x8x128x128_S1x1x1x1x128x128_0_7_0_6_0_0))) (ix2 l k : S16x128.Idx) : EReal) = carried D S 6 l 7 k := by
  unfold carried
  pointwise [k0_pay252, k0_pay257]
  exact Finset.sum_congr rfl fun v _ => entry D _ _ 6 l 7 v _ rfl rfl

/-- Chunk 5 of the block, head 0. -/
theorem tile_5_0 (D : FVec Ideal S128x1024 .bf16) (S : Vec Ideal S1x8x1x8x128x128 .f32) (l : Fin 16) (k : Fin 128) :
    (k0_pay268 D (View.ld S (Rect.unit (s := S1x8x1x8x128x128) ![0, 0, 0, 5, 0, 0] S1x1x1x1x128x128.size inb_S1x8x1x8x128x128_S1x1x1x1x128x128_0_0_0_5_0_0)) (ix2 l k : S16x128.Idx) : EReal) = carried D S 5 l 0 k := by
  unfold carried
  pointwise [k0_pay268, k0_pay263]
  exact Finset.sum_congr rfl fun v _ => entry D _ _ 5 l 0 v _ rfl (Nat.zero_add _).symm

/-- Chunk 5 of the block, head 1. -/
theorem tile_5_1 (D : FVec Ideal S128x1024 .bf16) (S : Vec Ideal S1x8x1x8x128x128 .f32) (l : Fin 16) (k : Fin 128) :
    (k0_pay279 D (View.ld S (Rect.unit (s := S1x8x1x8x128x128) ![0, 1, 0, 5, 0, 0] S1x1x1x1x128x128.size inb_S1x8x1x8x128x128_S1x1x1x1x128x128_0_1_0_5_0_0)) (ix2 l k : S16x128.Idx) : EReal) = carried D S 5 l 1 k := by
  unfold carried
  pointwise [k0_pay279, k0_pay274]
  exact Finset.sum_congr rfl fun v _ => entry D _ _ 5 l 1 v _ rfl rfl

/-- Chunk 5 of the block, head 2. -/
theorem tile_5_2 (D : FVec Ideal S128x1024 .bf16) (S : Vec Ideal S1x8x1x8x128x128 .f32) (l : Fin 16) (k : Fin 128) :
    (k0_pay291 D (k0_pay287 (View.ld S (Rect.unit (s := S1x8x1x8x128x128) ![0, 2, 0, 5, 0, 0] S1x1x1x1x128x128.size inb_S1x8x1x8x128x128_S1x1x1x1x128x128_0_2_0_5_0_0))) (ix2 l k : S16x128.Idx) : EReal) = carried D S 5 l 2 k := by
  unfold carried
  pointwise [k0_pay287, k0_pay291, k0_pay285]
  exact Finset.sum_congr rfl fun v _ => entry D _ _ 5 l 2 v _ rfl rfl

/-- Chunk 5 of the block, head 3. -/
theorem tile_5_3 (D : FVec Ideal S128x1024 .bf16) (S : Vec Ideal S1x8x1x8x128x128 .f32) (l : Fin 16) (k : Fin 128) :
    (k0_pay302 D (View.ld S (Rect.unit (s := S1x8x1x8x128x128) ![0, 3, 0, 5, 0, 0] S1x1x1x1x128x128.size inb_S1x8x1x8x128x128_S1x1x1x1x128x128_0_3_0_5_0_0)) (ix2 l k : S16x128.Idx) : EReal) = carried D S 5 l 3 k := by
  unfold carried
  pointwise [k0_pay302, k0_pay297]
  exact Finset.sum_congr rfl fun v _ => entry D _ _ 5 l 3 v _ rfl rfl

/-- Chunk 5 of the block, head 4. -/
theorem tile_5_4 (D : FVec Ideal S128x1024 .bf16) (S : Vec Ideal S1x8x1x8x128x128 .f32) (l : Fin 16) (k : Fin 128) :
    (k0_pay313 D (View.ld S (Rect.unit (s := S1x8x1x8x128x128) ![0, 4, 0, 5, 0, 0] S1x1x1x1x128x128.size inb_S1x8x1x8x128x128_S1x1x1x1x128x128_0_4_0_5_0_0)) (ix2 l k : S16x128.Idx) : EReal) = carried D S 5 l 4 k := by
  unfold carried
  pointwise [k0_pay313, k0_pay308]
  exact Finset.sum_congr rfl fun v _ => entry D _ _ 5 l 4 v _ rfl rfl

/-- Chunk 5 of the block, head 5. -/
theorem tile_5_5 (D : FVec Ideal S128x1024 .bf16) (S : Vec Ideal S1x8x1x8x128x128 .f32) (l : Fin 16) (k : Fin 128) :
    (k0_pay324 D (k0_pay320 (View.ld S (Rect.unit (s := S1x8x1x8x128x128) ![0, 5, 0, 5, 0, 0] S1x1x1x1x128x128.size inb_S1x8x1x8x128x128_S1x1x1x1x128x128_0_5_0_5_0_0))) (ix2 l k : S16x128.Idx) : EReal) = carried D S 5 l 5 k := by
  unfold carried
  pointwise [k0_pay320, k0_pay324, k0_pay318]
  exact Finset.sum_congr rfl fun v _ => entry D _ _ 5 l 5 v _ rfl rfl

/-- Chunk 5 of the block, head 6. -/
theorem tile_5_6 (D : FVec Ideal S128x1024 .bf16) (S : Vec Ideal S1x8x1x8x128x128 .f32) (l : Fin 16) (k : Fin 128) :
    (k0_pay334 D (View.ld S (Rect.unit (s := S1x8x1x8x128x128) ![0, 6, 0, 5, 0, 0] S1x1x1x1x128x128.size inb_S1x8x1x8x128x128_S1x1x1x1x128x128_0_6_0_5_0_0)) (ix2 l k : S16x128.Idx) : EReal) = carried D S 5 l 6 k := by
  unfold carried
  pointwise [k0_pay334, k0_pay329]
  exact Finset.sum_congr rfl fun v _ => entry D _ _ 5 l 6 v _ rfl rfl

/-- Chunk 5 of the block, head 7. -/
theorem tile_5_7 (D : FVec Ideal S128x1024 .bf16) (S : Vec Ideal S1x8x1x8x128x128 .f32) (l : Fin 16) (k : Fin 128) :
    (k0_pay345 D (View.ld S (Rect.unit (s := S1x8x1x8x128x128) ![0, 7, 0, 5, 0, 0] S1x1x1x1x128x128.size inb_S1x8x1x8x128x128_S1x1x1x1x128x128_0_7_0_5_0_0)) (ix2 l k : S16x128.Idx) : EReal) = carried D S 5 l 7 k := by
  unfold carried
  pointwise [k0_pay345, k0_pay340]
  exact Finset.sum_congr rfl fun v _ => entry D _ _ 5 l 7 v _ rfl rfl

/-- Chunk 4 of the block, head 0. -/
theorem tile_4_0 (D : FVec Ideal S128x1024 .bf16) (S : Vec Ideal S1x8x1x8x128x128 .f32) (l : Fin 16) (k : Fin 128) :
    (k0_pay356 (k0_pay355 D (View.ld S (Rect.unit (s := S1x8x1x8x128x128) ![0, 0, 0, 4, 0, 0] S1x1x1x1x128x128.size inb_S1x8x1x8x128x128_S1x1x1x1x128x128_0_0_0_4_0_0))) (ix2 l k : S16x128.Idx) : EReal) = carried D S 4 l 0 k := by
  unfold carried
  pointwise [k0_pay355, k0_pay356, k0_pay350]
  exact Finset.sum_congr rfl fun v _ => entry D _ _ 4 l 0 v _ rfl (Nat.zero_add _).symm

/-- Chunk 4 of the block, head 1. -/
theorem tile_4_1 (D : FVec Ideal S128x1024 .bf16) (S : Vec Ideal S1x8x1x8x128x128 .f32) (l : Fin 16) (k : Fin 128) :
    (k0_pay366 D (View.ld S (Rect.unit (s := S1x8x1x8x128x128) ![0, 1, 0, 4, 0, 0] S1x1x1x1x128x128.size inb_S1x8x1x8x128x128_S1x1x1x1x128x128_0_1_0_4_0_0)) (ix2 l k : S16x128.Idx) : EReal) = carried D S 4 l 1 k := by
  unfold carried
  pointwise [k0_pay366, k0_pay361]
  exact Finset.sum_congr rfl fun v _ => entry D _ _ 4 l 1 v _ rfl rfl

/-- Chunk 4 of the block, head 2. -/
theorem tile_4_2 (D : FVec Ideal S128x1024 .bf16) (S : Vec Ideal S1x8x1x8x128x128 .f32) (l : Fin 16) (k : Fin 128) :
    (k0_pay377 D (View.ld S (Rect.unit (s := S1x8x1x8x128x128) ![0, 2, 0, 4, 0, 0] S1x1x1x1x128x128.size inb_S1x8x1x8x128x128_S1x1x1x1x128x128_0_2_0_4_0_0)) (ix2 l k : S16x128.Idx) : EReal) = carried D S 4 l 2 k := by
  unfold carried
  pointwise [k0_pay377, k0_pay372]
  exact Finset.sum_congr rfl fun v _ => entry D _ _ 4 l 2 v _ rfl rfl

/-- Chunk 4 of the block, head 3. -/
theorem tile_4_3 (D : FVec Ideal S128x1024 .bf16) (S : Vec Ideal S1x8x1x8x128x128 .f32) (l : Fin 16) (k : Fin 128) :
    (k0_pay389 (k0_pay388 D (View.ld S (Rect.unit (s := S1x8x1x8x128x128) ![0, 3, 0, 4, 0, 0] S1x1x1x1x128x128.size inb_S1x8x1x8x128x128_S1x1x1x1x128x128_0_3_0_4_0_0))) (ix2 l k : S16x128.Idx) : EReal) = carried D S 4 l 3 k := by
  unfold carried
  pointwise [k0_pay388, k0_pay389, k0_pay383]
  exact Finset.sum_congr rfl fun v _ => entry D _ _ 4 l 3 v _ rfl rfl

/-- Chunk 4 of the block, head 4. -/
theorem tile_4_4 (D : FVec Ideal S128x1024 .bf16) (S : Vec Ideal S1x8x1x8x128x128 .f32) (l : Fin 16) (k : Fin 128) :
    (k0_pay399 D (View.ld S (Rect.unit (s := S1x8x1x8x128x128) ![0, 4, 0, 4, 0, 0] S1x1x1x1x128x128.size inb_S1x8x1x8x128x128_S1x1x1x1x128x128_0_4_0_4_0_0)) (ix2 l k : S16x128.Idx) : EReal) = carried D S 4 l 4 k := by
  unfold carried
  pointwise [k0_pay399, k0_pay394]
  exact Finset.sum_congr rfl fun v _ => entry D _ _ 4 l 4 v _ rfl rfl

/-- Chunk 4 of the block, head 5. -/
theorem tile_4_5 (D : FVec Ideal S128x1024 .bf16) (S : Vec Ideal S1x8x1x8x128x128 .f32) (l : Fin 16) (k : Fin 128) :
    (k0_pay410 D (View.ld S (Rect.unit (s := S1x8x1x8x128x128) ![0, 5, 0, 4, 0, 0] S1x1x1x1x128x128.size inb_S1x8x1x8x128x128_S1x1x1x1x128x128_0_5_0_4_0_0)) (ix2 l k : S16x128.Idx) : EReal) = carried D S 4 l 5 k := by
  unfold carried
  pointwise [k0_pay410, k0_pay405]
  exact Finset.sum_congr rfl fun v _ => entry D _ _ 4 l 5 v _ rfl rfl

/-- Chunk 4 of the block, head 6. -/
theorem tile_4_6 (D : FVec Ideal S128x1024 .bf16) (S : Vec Ideal S1x8x1x8x128x128 .f32) (l : Fin 16) (k : Fin 128) :
    (k0_pay421 D (View.ld S (Rect.unit (s := S1x8x1x8x128x128) ![0, 6, 0, 4, 0, 0] S1x1x1x1x128x128.size inb_S1x8x1x8x128x128_S1x1x1x1x128x128_0_6_0_4_0_0)) (ix2 l k : S16x128.Idx) : EReal) = carried D S 4 l 6 k := by
  unfold carried
  pointwise [k0_pay421, k0_pay416]
  exact Finset.sum_congr rfl fun v _ => entry D _ _ 4 l 6 v _ rfl rfl

/-- Chunk 4 of the block, head 7. -/
theorem tile_4_7 (D : FVec Ideal S128x1024 .bf16) (S : Vec Ideal S1x8x1x8x128x128 .f32) (l : Fin 16) (k : Fin 128) :
    (k0_pay431 D (k0_pay426 (View.ld S (Rect.unit (s := S1x8x1x8x128x128) ![0, 7, 0, 4, 0, 0] S1x1x1x1x128x128.size inb_S1x8x1x8x128x128_S1x1x1x1x128x128_0_7_0_4_0_0))) (ix2 l k : S16x128.Idx) : EReal) = carried D S 4 l 7 k := by
  unfold carried
  pointwise [k0_pay426, k0_pay431]
  exact Finset.sum_congr rfl fun v _ => entry D _ _ 4 l 7 v _ rfl rfl

/-- Chunk 3 of the block, head 0. -/
theorem tile_3_0 (D : FVec Ideal S128x1024 .bf16) (S : Vec Ideal S1x8x1x8x128x128 .f32) (l : Fin 16) (k : Fin 128) :
    (k0_pay444 D (View.ld S (Rect.unit (s := S1x8x1x8x128x128) ![0, 0, 0, 3, 0, 0] S1x1x1x1x128x128.size inb_S1x8x1x8x128x128_S1x1x1x1x128x128_0_0_0_3_0_0)) (ix2 l k : S16x128.Idx) : EReal) = carried D S 3 l 0 k := by
  unfold carried
  pointwise [k0_pay444, k0_pay439]
  exact Finset.sum_congr rfl fun v _ => entry D _ _ 3 l 0 v _ rfl (Nat.zero_add _).symm

/-- Chunk 3 of the block, head 1. -/
theorem tile_3_1 (D : FVec Ideal S128x1024 .bf16) (S : Vec Ideal S1x8x1x8x128x128 .f32) (l : Fin 16) (k : Fin 128) :
    (k0_pay456 D (View.ld S (Rect.unit (s := S1x8x1x8x128x128) ![0, 1, 0, 3, 0, 0] S1x1x1x1x128x128.size inb_S1x8x1x8x128x128_S1x1x1x1x128x128_0_1_0_3_0_0)) (ix2 l k : S16x128.Idx) : EReal) = carried D S 3 l 1 k := by
  unfold carried
  pointwise [k0_pay456, k0_pay451]
  exact Finset.sum_congr rfl fun v _ => entry D _ _ 3 l 1 v _ rfl rfl

/-- Chunk 3 of the block, head 2. -/
theorem tile_3_2 (D : FVec Ideal S128x1024 .bf16) (S : Vec Ideal S1x8x1x8x128x128 .f32) (l : Fin 16) (k : Fin 128) :
    (k0_pay467 D (k0_pay462 (View.ld S (Rect.unit (s := S1x8x1x8x128x128) ![0, 2, 0, 3, 0, 0] S1x1x1x1x128x128.size inb_S1x8x1x8x128x128_S1x1x1x1x128x128_0_2_0_3_0_0))) (ix2 l k : S16x128.Idx) : EReal) = carried D S 3 l 2 k := by
  unfold carried
  pointwise [k0_pay462, k0_pay467]
  exact Finset.sum_congr rfl fun v _ => entry D _ _ 3 l 2 v _ rfl rfl

/-- Chunk 3 of the block, head 3. -/
theorem tile_3_3 (D : FVec Ideal S128x1024 .bf16) (S : Vec Ideal S1x8x1x8x128x128 .f32) (l : Fin 16) (k : Fin 128) :
    (k0_pay478 D (View.ld S (Rect.unit (s := S1x8x1x8x128x128) ![0, 3, 0, 3, 0, 0] S1x1x1x1x128x128.size inb_S1x8x1x8x128x128_S1x1x1x1x128x128_0_3_0_3_0_0)) (ix2 l k : S16x128.Idx) : EReal) = carried D S 3 l 3 k := by
  unfold carried
  pointwise [k0_pay478, k0_pay473]
  exact Finset.sum_congr rfl fun v _ => entry D _ _ 3 l 3 v _ rfl rfl

/-- Chunk 3 of the block, head 4. -/
theorem tile_3_4 (D : FVec Ideal S128x1024 .bf16) (S : Vec Ideal S1x8x1x8x128x128 .f32) (l : Fin 16) (k : Fin 128) :
    (k0_pay490 D (View.ld S (Rect.unit (s := S1x8x1x8x128x128) ![0, 4, 0, 3, 0, 0] S1x1x1x1x128x128.size inb_S1x8x1x8x128x128_S1x1x1x1x128x128_0_4_0_3_0_0)) (ix2 l k : S16x128.Idx) : EReal) = carried D S 3 l 4 k := by
  unfold carried
  pointwise [k0_pay490, k0_pay485]
  exact Finset.sum_congr rfl fun v _ => entry D _ _ 3 l 4 v _ rfl rfl

/-- Chunk 3 of the block, head 5. -/
theorem tile_3_5 (D : FVec Ideal S128x1024 .bf16) (S : Vec Ideal S1x8x1x8x128x128 .f32) (l : Fin 16) (k : Fin 128) :
    (k0_pay502 D (k0_pay498 (View.ld S (Rect.unit (s := S1x8x1x8x128x128) ![0, 5, 0, 3, 0, 0] S1x1x1x1x128x128.size inb_S1x8x1x8x128x128_S1x1x1x1x128x128_0_5_0_3_0_0))) (ix2 l k : S16x128.Idx) : EReal) = carried D S 3 l 5 k := by
  unfold carried
  pointwise [k0_pay498, k0_pay502, k0_pay496]
  exact Finset.sum_congr rfl fun v _ => entry D _ _ 3 l 5 v _ rfl rfl

/-- Chunk 3 of the block, head 6. -/
theorem tile_3_6 (D : FVec Ideal S128x1024 .bf16) (S : Vec Ideal S1x8x1x8x128x128 .f32) (l : Fin 16) (k : Fin 128) :
    (k0_pay513 D (View.ld S (Rect.unit (s := S1x8x1x8x128x128) ![0, 6, 0, 3, 0, 0] S1x1x1x1x128x128.size inb_S1x8x1x8x128x128_S1x1x1x1x128x128_0_6_0_3_0_0)) (ix2 l k : S16x128.Idx) : EReal) = carried D S 3 l 6 k := by
  unfold carried
  pointwise [k0_pay513, k0_pay508]
  exact Finset.sum_congr rfl fun v _ => entry D _ _ 3 l 6 v _ rfl rfl

/-- Chunk 3 of the block, head 7. -/
theorem tile_3_7 (D : FVec Ideal S128x1024 .bf16) (S : Vec Ideal S1x8x1x8x128x128 .f32) (l : Fin 16) (k : Fin 128) :
    (k0_pay524 D (View.ld S (Rect.unit (s := S1x8x1x8x128x128) ![0, 7, 0, 3, 0, 0] S1x1x1x1x128x128.size inb_S1x8x1x8x128x128_S1x1x1x1x128x128_0_7_0_3_0_0)) (ix2 l k : S16x128.Idx) : EReal) = carried D S 3 l 7 k := by
  unfold carried
  pointwise [k0_pay524, k0_pay519]
  exact Finset.sum_congr rfl fun v _ => entry D _ _ 3 l 7 v _ rfl rfl

/-- Chunk 2 of the block, head 0. -/
theorem tile_2_0 (D : FVec Ideal S128x1024 .bf16) (S : Vec Ideal S1x8x1x8x128x128 .f32) (l : Fin 16) (k : Fin 128) :
    (k0_pay536 D (k0_pay531 (View.ld S (Rect.unit (s := S1x8x1x8x128x128) ![0, 0, 0, 2, 0, 0] S1x1x1x1x128x128.size inb_S1x8x1x8x128x128_S1x1x1x1x128x128_0_0_0_2_0_0))) (ix2 l k : S16x128.Idx) : EReal) = carried D S 2 l 0 k := by
  unfold carried
  pointwise [k0_pay531, k0_pay536, k0_pay529]
  exact Finset.sum_congr rfl fun v _ => entry D _ _ 2 l 0 v _ rfl (Nat.zero_add _).symm

/-- Chunk 2 of the block, head 1. -/
theorem tile_2_1 (D : FVec Ideal S128x1024 .bf16) (S : Vec Ideal S1x8x1x8x128x128 .f32) (l : Fin 16) (k : Fin 128) :
    (k0_pay546 D (View.ld S (Rect.unit (s := S1x8x1x8x128x128) ![0, 1, 0, 2, 0, 0] S1x1x1x1x128x128.size inb_S1x8x1x8x128x128_S1x1x1x1x128x128_0_1_0_2_0_0)) (ix2 l k : S16x128.Idx) : EReal) = carried D S 2 l 1 k := by
  unfold carried
  pointwise [k0_pay546, k0_pay541]
  exact Finset.sum_congr rfl fun v _ => entry D _ _ 2 l 1 v _ rfl rfl

/-- Chunk 2 of the block, head 2. -/
theorem tile_2_2 (D : FVec Ideal S128x1024 .bf16) (S : Vec Ideal S1x8x1x8x128x128 .f32) (l : Fin 16) (k : Fin 128) :
    (k0_pay557 D (View.ld S (Rect.unit (s := S1x8x1x8x128x128) ![0, 2, 0, 2, 0, 0] S1x1x1x1x128x128.size inb_S1x8x1x8x128x128_S1x1x1x1x128x128_0_2_0_2_0_0)) (ix2 l k : S16x128.Idx) : EReal) = carried D S 2 l 2 k := by
  unfold carried
  pointwise [k0_pay557, k0_pay552]
  exact Finset.sum_congr rfl fun v _ => entry D _ _ 2 l 2 v _ rfl rfl

/-- Chunk 2 of the block, head 3. -/
theorem tile_2_3 (D : FVec Ideal S128x1024 .bf16) (S : Vec Ideal S1x8x1x8x128x128 .f32) (l : Fin 16) (k : Fin 128) :
    (k0_pay569 (k0_pay564 (View.ld S (Rect.unit (s := S1x8x1x8x128x128) ![0, 3, 0, 2, 0, 0] S1x1x1x1x128x128.size inb_S1x8x1x8x128x128_S1x1x1x1x128x128_0_3_0_2_0_0))) (k0_pay568 D) (constant S16x128 .f32 0x00000000#32) (ix2 l k : S16x128.Idx) : EReal) = carried D S 2 l 3 k := by
  unfold carried
  pointwise [k0_pay564, k0_pay568, k0_pay569, k0_pay562]
  exact Finset.sum_congr rfl fun v _ => entry D _ _ 2 l 3 v _ rfl rfl

/-- Chunk 2 of the block, head 4. -/
theorem tile_2_4 (D : FVec Ideal S128x1024 .bf16) (S : Vec Ideal S1x8x1x8x128x128 .f32) (l : Fin 16) (k : Fin 128) :
    (k0_pay579 D (View.ld S (Rect.unit (s := S1x8x1x8x128x128) ![0, 4, 0, 2, 0, 0] S1x1x1x1x128x128.size inb_S1x8x1x8x128x128_S1x1x1x1x128x128_0_4_0_2_0_0)) (ix2 l k : S16x128.Idx) : EReal) = carried D S 2 l 4 k := by
  unfold carried
  pointwise [k0_pay579, k0_pay574]
  exact Finset.sum_congr rfl fun v _ => entry D _ _ 2 l 4 v _ rfl rfl

/-- Chunk 2 of the block, head 5. -/
theorem tile_2_5 (D : FVec Ideal S128x1024 .bf16) (S : Vec Ideal S1x8x1x8x128x128 .f32) (l : Fin 16) (k : Fin 128) :
    (k0_pay590 D (View.ld S (Rect.unit (s := S1x8x1x8x128x128) ![0, 5, 0, 2, 0, 0] S1x1x1x1x128x128.size inb_S1x8x1x8x128x128_S1x1x1x1x128x128_0_5_0_2_0_0)) (ix2 l k : S16x128.Idx) : EReal) = carried D S 2 l 5 k := by
  unfold carried
  pointwise [k0_pay590, k0_pay585]
  exact Finset.sum_congr rfl fun v _ => entry D _ _ 2 l 5 v _ rfl rfl

/-- Chunk 2 of the block, head 6. -/
theorem tile_2_6 (D : FVec Ideal S128x1024 .bf16) (S : Vec Ideal S1x8x1x8x128x128 .f32) (l : Fin 16) (k : Fin 128) :
    (k0_pay601 (k0_pay600 D (View.ld S (Rect.unit (s := S1x8x1x8x128x128) ![0, 6, 0, 2, 0, 0] S1x1x1x1x128x128.size inb_S1x8x1x8x128x128_S1x1x1x1x128x128_0_6_0_2_0_0))) (ix2 l k : S16x128.Idx) : EReal) = carried D S 2 l 6 k := by
  unfold carried
  pointwise [k0_pay600, k0_pay601, k0_pay595]
  exact Finset.sum_congr rfl fun v _ => entry D _ _ 2 l 6 v _ rfl rfl

/-- Chunk 2 of the block, head 7. -/
theorem tile_2_7 (D : FVec Ideal S128x1024 .bf16) (S : Vec Ideal S1x8x1x8x128x128 .f32) (l : Fin 16) (k : Fin 128) :
    (k0_pay611 D (View.ld S (Rect.unit (s := S1x8x1x8x128x128) ![0, 7, 0, 2, 0, 0] S1x1x1x1x128x128.size inb_S1x8x1x8x128x128_S1x1x1x1x128x128_0_7_0_2_0_0)) (ix2 l k : S16x128.Idx) : EReal) = carried D S 2 l 7 k := by
  unfold carried
  pointwise [k0_pay611, k0_pay606]
  exact Finset.sum_congr rfl fun v _ => entry D _ _ 2 l 7 v _ rfl rfl

/-- Chunk 1 of the block, head 0. -/
theorem tile_1_0 (D : FVec Ideal S128x1024 .bf16) (S : Vec Ideal S1x8x1x8x128x128 .f32) (l : Fin 16) (k : Fin 128) :
    (k0_pay621 D (View.ld S (Rect.unit (s := S1x8x1x8x128x128) ![0, 0, 0, 1, 0, 0] S1x1x1x1x128x128.size inb_S1x8x1x8x128x128_S1x1x1x1x128x128_0_0_0_1_0_0)) (ix2 l k : S16x128.Idx) : EReal) = carried D S 1 l 0 k := by
  unfold carried
  pointwise [k0_pay621, k0_pay616]
  exact Finset.sum_congr rfl fun v _ => entry D _ _ 1 l 0 v _ rfl (Nat.zero_add _).symm

/-- Chunk 1 of the block, head 1. -/
theorem tile_1_1 (D : FVec Ideal S128x1024 .bf16) (S : Vec Ideal S1x8x1x8x128x128 .f32) (l : Fin 16) (k : Fin 128) :
    (k0_pay632 D (View.ld S (Rect.unit (s := S1x8x1x8x128x128) ![0, 1, 0, 1, 0, 0] S1x1x1x1x128x128.size inb_S1x8x1x8x128x128_S1x1x1x1x128x128_0_1_0_1_0_0)) (ix2 l k : S16x128.Idx) : EReal) = carried D S 1 l 1 k := by
  unfold carried
  pointwise [k0_pay632, k0_pay627]
  exact Finset.sum_congr rfl fun v _ => entry D _ _ 1 l 1 v _ rfl rfl

/-- Chunk 1 of the block, head 2. -/
theorem tile_1_2 (D : FVec Ideal S128x1024 .bf16) (S : Vec Ideal S1x8x1x8x128x128 .f32) (l : Fin 16) (k : Fin 128) :
    (k0_pay642 D (k0_pay637 (View.ld S (Rect.unit (s := S1x8x1x8x128x128) ![0, 2, 0, 1, 0, 0] S1x1x1x1x128x128.size inb_S1x8x1x8x128x128_S1x1x1x1x128x128_0_2_0_1_0_0))) (ix2 l k : S16x128.Idx) : EReal) = carried D S 1 l 2 k := by
  unfold carried
  pointwise [k0_pay637, k0_pay642]
  exact Finset.sum_congr rfl fun v _ => entry D _ _ 1 l 2 v _ rfl rfl

/-- Chunk 1 of the block, head 3. -/
theorem tile_1_3 (D : FVec Ideal S128x1024 .bf16) (S : Vec Ideal S1x8x1x8x128x128 .f32) (l : Fin 16) (k : Fin 128) :
    (k0_pay654 D (View.ld S (Rect.unit (s := S1x8x1x8x128x128) ![0, 3, 0, 1, 0, 0] S1x1x1x1x128x128.size inb_S1x8x1x8x128x128_S1x1x1x1x128x128_0_3_0_1_0_0)) (ix2 l k : S16x128.Idx) : EReal) = carried D S 1 l 3 k := by
  unfold carried
  pointwise [k0_pay654, k0_pay649]
  exact Finset.sum_congr rfl fun v _ => entry D _ _ 1 l 3 v _ rfl rfl

/-- Chunk 1 of the block, head 4. -/
theorem tile_1_4 (D : FVec Ideal S128x1024 .bf16) (S : Vec Ideal S1x8x1x8x128x128 .f32) (l : Fin 16) (k : Fin 128) :
    (k0_pay666 D (View.ld S (Rect.unit (s := S1x8x1x8x128x128) ![0, 4, 0, 1, 0, 0] S1x1x1x1x128x128.size inb_S1x8x1x8x128x128_S1x1x1x1x128x128_0_4_0_1_0_0)) (ix2 l k : S16x128.Idx) : EReal) = carried D S 1 l 4 k := by
  unfold carried
  pointwise [k0_pay666, k0_pay661]
  exact Finset.sum_congr rfl fun v _ => entry D _ _ 1 l 4 v _ rfl rfl

/-- Chunk 1 of the block, head 5. -/
theorem tile_1_5 (D : FVec Ideal S128x1024 .bf16) (S : Vec Ideal S1x8x1x8x128x128 .f32) (l : Fin 16) (k : Fin 128) :
    (k0_pay677 D (k0_pay672 (View.ld S (Rect.unit (s := S1x8x1x8x128x128) ![0, 5, 0, 1, 0, 0] S1x1x1x1x128x128.size inb_S1x8x1x8x128x128_S1x1x1x1x128x128_0_5_0_1_0_0))) (ix2 l k : S16x128.Idx) : EReal) = carried D S 1 l 5 k := by
  unfold carried
  pointwise [k0_pay672, k0_pay677]
  exact Finset.sum_congr rfl fun v _ => entry D _ _ 1 l 5 v _ rfl rfl

/-- Chunk 1 of the block, head 6. -/
theorem tile_1_6 (D : FVec Ideal S128x1024 .bf16) (S : Vec Ideal S1x8x1x8x128x128 .f32) (l : Fin 16) (k : Fin 128) :
    (k0_pay689 D (View.ld S (Rect.unit (s := S1x8x1x8x128x128) ![0, 6, 0, 1, 0, 0] S1x1x1x1x128x128.size inb_S1x8x1x8x128x128_S1x1x1x1x128x128_0_6_0_1_0_0)) (ix2 l k : S16x128.Idx) : EReal) = carried D S 1 l 6 k := by
  unfold carried
  pointwise [k0_pay689, k0_pay684]
  exact Finset.sum_congr rfl fun v _ => entry D _ _ 1 l 6 v _ rfl rfl

/-- Chunk 1 of the block, head 7. -/
theorem tile_1_7 (D : FVec Ideal S128x1024 .bf16) (S : Vec Ideal S1x8x1x8x128x128 .f32) (l : Fin 16) (k : Fin 128) :
    (k0_pay701 D (View.ld S (Rect.unit (s := S1x8x1x8x128x128) ![0, 7, 0, 1, 0, 0] S1x1x1x1x128x128.size inb_S1x8x1x8x128x128_S1x1x1x1x128x128_0_7_0_1_0_0)) (ix2 l k : S16x128.Idx) : EReal) = carried D S 1 l 7 k := by
  unfold carried
  pointwise [k0_pay701, k0_pay696]
  exact Finset.sum_congr rfl fun v _ => entry D _ _ 1 l 7 v _ rfl rfl

/-- Chunk 0 of the block, head 0. -/
theorem tile_0_0 (D : FVec Ideal S128x1024 .bf16) (S : Vec Ideal S1x8x1x8x128x128 .f32) (l : Fin 16) (k : Fin 128) :
    (k0_pay713 D (k0_pay709 (View.ld S (Rect.unit (s := S1x8x1x8x128x128) ![0, 0, 0, 0, 0, 0] S1x1x1x1x128x128.size inb_S1x8x1x8x128x128_S1x1x1x1x128x128_0_0_0_0_0_0))) (ix2 l k : S16x128.Idx) : EReal) = carried D S 0 l 0 k := by
  unfold carried
  pointwise [k0_pay709, k0_pay713, k0_pay707]
  exact Finset.sum_congr rfl fun v _ => entry D _ _ 0 l 0 v _ (Nat.zero_add _).symm (Nat.zero_add _).symm

/-- Chunk 0 of the block, head 1. -/
theorem tile_0_1 (D : FVec Ideal S128x1024 .bf16) (S : Vec Ideal S1x8x1x8x128x128 .f32) (l : Fin 16) (k : Fin 128) :
    (k0_pay724 D (View.ld S (Rect.unit (s := S1x8x1x8x128x128) ![0, 1, 0, 0, 0, 0] S1x1x1x1x128x128.size inb_S1x8x1x8x128x128_S1x1x1x1x128x128_0_1_0_0_0_0)) (ix2 l k : S16x128.Idx) : EReal) = carried D S 0 l 1 k := by
  unfold carried
  pointwise [k0_pay724, k0_pay719]
  exact Finset.sum_congr rfl fun v _ => entry D _ _ 0 l 1 v _ (Nat.zero_add _).symm rfl

/-- Chunk 0 of the block, head 2. -/
theorem tile_0_2 (D : FVec Ideal S128x1024 .bf16) (S : Vec Ideal S1x8x1x8x128x128 .f32) (l : Fin 16) (k : Fin 128) :
    (k0_pay735 D (View.ld S (Rect.unit (s := S1x8x1x8x128x128) ![0, 2, 0, 0, 0, 0] S1x1x1x1x128x128.size inb_S1x8x1x8x128x128_S1x1x1x1x128x128_0_2_0_0_0_0)) (ix2 l k : S16x128.Idx) : EReal) = carried D S 0 l 2 k := by
  unfold carried
  pointwise [k0_pay735, k0_pay730]
  exact Finset.sum_congr rfl fun v _ => entry D _ _ 0 l 2 v _ (Nat.zero_add _).symm rfl

/-- Chunk 0 of the block, head 3. -/
theorem tile_0_3 (D : FVec Ideal S128x1024 .bf16) (S : Vec Ideal S1x8x1x8x128x128 .f32) (l : Fin 16) (k : Fin 128) :
    (k0_pay747 D (k0_pay742 (View.ld S (Rect.unit (s := S1x8x1x8x128x128) ![0, 3, 0, 0, 0, 0] S1x1x1x1x128x128.size inb_S1x8x1x8x128x128_S1x1x1x1x128x128_0_3_0_0_0_0))) (ix2 l k : S16x128.Idx) : EReal) = carried D S 0 l 3 k := by
  unfold carried
  pointwise [k0_pay742, k0_pay747, k0_pay740]
  exact Finset.sum_congr rfl fun v _ => entry D _ _ 0 l 3 v _ (Nat.zero_add _).symm rfl

/-- Chunk 0 of the block, head 4. -/
theorem tile_0_4 (D : FVec Ideal S128x1024 .bf16) (S : Vec Ideal S1x8x1x8x128x128 .f32) (l : Fin 16) (k : Fin 128) :
    (k0_pay758 D (View.ld S (Rect.unit (s := S1x8x1x8x128x128) ![0, 4, 0, 0, 0, 0] S1x1x1x1x128x128.size inb_S1x8x1x8x128x128_S1x1x1x1x128x128_0_4_0_0_0_0)) (ix2 l k : S16x128.Idx) : EReal) = carried D S 0 l 4 k := by
  unfold carried
  pointwise [k0_pay758, k0_pay753]
  exact Finset.sum_congr rfl fun v _ => entry D _ _ 0 l 4 v _ (Nat.zero_add _).symm rfl

/-- Chunk 0 of the block, head 5. -/
theorem tile_0_5 (D : FVec Ideal S128x1024 .bf16) (S : Vec Ideal S1x8x1x8x128x128 .f32) (l : Fin 16) (k : Fin 128) :
    (k0_pay770 D (View.ld S (Rect.unit (s := S1x8x1x8x128x128) ![0, 5, 0, 0, 0, 0] S1x1x1x1x128x128.size inb_S1x8x1x8x128x128_S1x1x1x1x128x128_0_5_0_0_0_0)) (ix2 l k : S16x128.Idx) : EReal) = carried D S 0 l 5 k := by
  unfold carried
  pointwise [k0_pay770, k0_pay765]
  exact Finset.sum_congr rfl fun v _ => entry D _ _ 0 l 5 v _ (Nat.zero_add _).symm rfl

/-- Chunk 0 of the block, head 6. -/
theorem tile_0_6 (D : FVec Ideal S128x1024 .bf16) (S : Vec Ideal S1x8x1x8x128x128 .f32) (l : Fin 16) (k : Fin 128) :
    (k0_pay782 (k0_pay777 (View.ld S (Rect.unit (s := S1x8x1x8x128x128) ![0, 6, 0, 0, 0, 0] S1x1x1x1x128x128.size inb_S1x8x1x8x128x128_S1x1x1x1x128x128_0_6_0_0_0_0))) (k0_pay781 D) (ix2 l k : S16x128.Idx) : EReal) = carried D S 0 l 6 k := by
  unfold carried
  pointwise [k0_pay777, k0_pay781, k0_pay782, k0_pay775]
  exact Finset.sum_congr rfl fun v _ => entry D _ _ 0 l 6 v _ (Nat.zero_add _).symm rfl

/-- Chunk 0 of the block, head 7. -/
theorem tile_0_7 (D : FVec Ideal S128x1024 .bf16) (S : Vec Ideal S1x8x1x8x128x128 .f32) (l : Fin 16) (k : Fin 128) :
    (k0_pay792 D (View.ld S (Rect.unit (s := S1x8x1x8x128x128) ![0, 7, 0, 0, 0, 0] S1x1x1x1x128x128.size inb_S1x8x1x8x128x128_S1x1x1x1x128x128_0_7_0_0_0_0)) (ix2 l k : S16x128.Idx) : EReal) = carried D S 0 l 7 k := by
  unfold carried
  pointwise [k0_pay792, k0_pay787]
  exact Finset.sum_congr rfl fun v _ => entry D _ _ 0 l 7 v _ (Nat.zero_add _).symm rfl

/-- The tiles, the newest first. -/
def tiles (D : FVec Ideal S128x1024 .bf16) (S : Vec Ideal S1x8x1x8x128x128 .f32) : List (View.Piece (Elt Ideal) S128x1024 .f32) :=
  [⟨Rect.unit (s := S128x1024) ![0, 896] S16x128.size inb_S128x1024_S16x128_0_896, k0_pay792 D (View.ld S (Rect.unit (s := S1x8x1x8x128x128) ![0, 7, 0, 0, 0, 0] S1x1x1x1x128x128.size inb_S1x8x1x8x128x128_S1x1x1x1x128x128_0_7_0_0_0_0))⟩,
    ⟨Rect.unit (s := S128x1024) ![0, 768] S16x128.size inb_S128x1024_S16x128_0_768, k0_pay782 (k0_pay777 (View.ld S (Rect.unit (s := S1x8x1x8x128x128) ![0, 6, 0, 0, 0, 0] S1x1x1x1x128x128.size inb_S1x8x1x8x128x128_S1x1x1x1x128x128_0_6_0_0_0_0))) (k0_pay781 D)⟩,
    ⟨Rect.unit (s := S128x1024) ![0, 640] S16x128.size inb_S128x1024_S16x128_0_640, k0_pay770 D (View.ld S (Rect.unit (s := S1x8x1x8x128x128) ![0, 5, 0, 0, 0, 0] S1x1x1x1x128x128.size inb_S1x8x1x8x128x128_S1x1x1x1x128x128_0_5_0_0_0_0))⟩,
    ⟨Rect.unit (s := S128x1024) ![0, 512] S16x128.size inb_S128x1024_S16x128_0_512, k0_pay758 D (View.ld S (Rect.unit (s := S1x8x1x8x128x128) ![0, 4, 0, 0, 0, 0] S1x1x1x1x128x128.size inb_S1x8x1x8x128x128_S1x1x1x1x128x128_0_4_0_0_0_0))⟩,
    ⟨Rect.unit (s := S128x1024) ![0, 384] S16x128.size inb_S128x1024_S16x128_0_384, k0_pay747 D (k0_pay742 (View.ld S (Rect.unit (s := S1x8x1x8x128x128) ![0, 3, 0, 0, 0, 0] S1x1x1x1x128x128.size inb_S1x8x1x8x128x128_S1x1x1x1x128x128_0_3_0_0_0_0)))⟩,
    ⟨Rect.unit (s := S128x1024) ![0, 256] S16x128.size inb_S128x1024_S16x128_0_256, k0_pay735 D (View.ld S (Rect.unit (s := S1x8x1x8x128x128) ![0, 2, 0, 0, 0, 0] S1x1x1x1x128x128.size inb_S1x8x1x8x128x128_S1x1x1x1x128x128_0_2_0_0_0_0))⟩,
    ⟨Rect.unit (s := S128x1024) ![0, 128] S16x128.size inb_S128x1024_S16x128_0_128, k0_pay724 D (View.ld S (Rect.unit (s := S1x8x1x8x128x128) ![0, 1, 0, 0, 0, 0] S1x1x1x1x128x128.size inb_S1x8x1x8x128x128_S1x1x1x1x128x128_0_1_0_0_0_0))⟩,
    ⟨Rect.unit (s := S128x1024) ![0, 0] S16x128.size inb_S128x1024_S16x128_0_0, k0_pay713 D (k0_pay709 (View.ld S (Rect.unit (s := S1x8x1x8x128x128) ![0, 0, 0, 0, 0, 0] S1x1x1x1x128x128.size inb_S1x8x1x8x128x128_S1x1x1x1x128x128_0_0_0_0_0_0)))⟩,
    ⟨Rect.unit (s := S128x1024) ![16, 896] S16x128.size inb_S128x1024_S16x128_16_896, k0_pay701 D (View.ld S (Rect.unit (s := S1x8x1x8x128x128) ![0, 7, 0, 1, 0, 0] S1x1x1x1x128x128.size inb_S1x8x1x8x128x128_S1x1x1x1x128x128_0_7_0_1_0_0))⟩,
    ⟨Rect.unit (s := S128x1024) ![16, 768] S16x128.size inb_S128x1024_S16x128_16_768, k0_pay689 D (View.ld S (Rect.unit (s := S1x8x1x8x128x128) ![0, 6, 0, 1, 0, 0] S1x1x1x1x128x128.size inb_S1x8x1x8x128x128_S1x1x1x1x128x128_0_6_0_1_0_0))⟩,
    ⟨Rect.unit (s := S128x1024) ![16, 640] S16x128.size inb_S128x1024_S16x128_16_640, k0_pay677 D (k0_pay672 (View.ld S (Rect.unit (s := S1x8x1x8x128x128) ![0, 5, 0, 1, 0, 0] S1x1x1x1x128x128.size inb_S1x8x1x8x128x128_S1x1x1x1x128x128_0_5_0_1_0_0)))⟩,
    ⟨Rect.unit (s := S128x1024) ![16, 512] S16x128.size inb_S128x1024_S16x128_16_512, k0_pay666 D (View.ld S (Rect.unit (s := S1x8x1x8x128x128) ![0, 4, 0, 1, 0, 0] S1x1x1x1x128x128.size inb_S1x8x1x8x128x128_S1x1x1x1x128x128_0_4_0_1_0_0))⟩,
    ⟨Rect.unit (s := S128x1024) ![16, 384] S16x128.size inb_S128x1024_S16x128_16_384, k0_pay654 D (View.ld S (Rect.unit (s := S1x8x1x8x128x128) ![0, 3, 0, 1, 0, 0] S1x1x1x1x128x128.size inb_S1x8x1x8x128x128_S1x1x1x1x128x128_0_3_0_1_0_0))⟩,
    ⟨Rect.unit (s := S128x1024) ![16, 256] S16x128.size inb_S128x1024_S16x128_16_256, k0_pay642 D (k0_pay637 (View.ld S (Rect.unit (s := S1x8x1x8x128x128) ![0, 2, 0, 1, 0, 0] S1x1x1x1x128x128.size inb_S1x8x1x8x128x128_S1x1x1x1x128x128_0_2_0_1_0_0)))⟩,
    ⟨Rect.unit (s := S128x1024) ![16, 128] S16x128.size inb_S128x1024_S16x128_16_128, k0_pay632 D (View.ld S (Rect.unit (s := S1x8x1x8x128x128) ![0, 1, 0, 1, 0, 0] S1x1x1x1x128x128.size inb_S1x8x1x8x128x128_S1x1x1x1x128x128_0_1_0_1_0_0))⟩,
    ⟨Rect.unit (s := S128x1024) ![16, 0] S16x128.size inb_S128x1024_S16x128_16_0, k0_pay621 D (View.ld S (Rect.unit (s := S1x8x1x8x128x128) ![0, 0, 0, 1, 0, 0] S1x1x1x1x128x128.size inb_S1x8x1x8x128x128_S1x1x1x1x128x128_0_0_0_1_0_0))⟩,
    ⟨Rect.unit (s := S128x1024) ![32, 896] S16x128.size inb_S128x1024_S16x128_32_896, k0_pay611 D (View.ld S (Rect.unit (s := S1x8x1x8x128x128) ![0, 7, 0, 2, 0, 0] S1x1x1x1x128x128.size inb_S1x8x1x8x128x128_S1x1x1x1x128x128_0_7_0_2_0_0))⟩,
    ⟨Rect.unit (s := S128x1024) ![32, 768] S16x128.size inb_S128x1024_S16x128_32_768, k0_pay601 (k0_pay600 D (View.ld S (Rect.unit (s := S1x8x1x8x128x128) ![0, 6, 0, 2, 0, 0] S1x1x1x1x128x128.size inb_S1x8x1x8x128x128_S1x1x1x1x128x128_0_6_0_2_0_0)))⟩,
    ⟨Rect.unit (s := S128x1024) ![32, 640] S16x128.size inb_S128x1024_S16x128_32_640, k0_pay590 D (View.ld S (Rect.unit (s := S1x8x1x8x128x128) ![0, 5, 0, 2, 0, 0] S1x1x1x1x128x128.size inb_S1x8x1x8x128x128_S1x1x1x1x128x128_0_5_0_2_0_0))⟩,
    ⟨Rect.unit (s := S128x1024) ![32, 512] S16x128.size inb_S128x1024_S16x128_32_512, k0_pay579 D (View.ld S (Rect.unit (s := S1x8x1x8x128x128) ![0, 4, 0, 2, 0, 0] S1x1x1x1x128x128.size inb_S1x8x1x8x128x128_S1x1x1x1x128x128_0_4_0_2_0_0))⟩,
    ⟨Rect.unit (s := S128x1024) ![32, 384] S16x128.size inb_S128x1024_S16x128_32_384, k0_pay569 (k0_pay564 (View.ld S (Rect.unit (s := S1x8x1x8x128x128) ![0, 3, 0, 2, 0, 0] S1x1x1x1x128x128.size inb_S1x8x1x8x128x128_S1x1x1x1x128x128_0_3_0_2_0_0))) (k0_pay568 D) (constant S16x128 .f32 0x00000000#32)⟩,
    ⟨Rect.unit (s := S128x1024) ![32, 256] S16x128.size inb_S128x1024_S16x128_32_256, k0_pay557 D (View.ld S (Rect.unit (s := S1x8x1x8x128x128) ![0, 2, 0, 2, 0, 0] S1x1x1x1x128x128.size inb_S1x8x1x8x128x128_S1x1x1x1x128x128_0_2_0_2_0_0))⟩,
    ⟨Rect.unit (s := S128x1024) ![32, 128] S16x128.size inb_S128x1024_S16x128_32_128, k0_pay546 D (View.ld S (Rect.unit (s := S1x8x1x8x128x128) ![0, 1, 0, 2, 0, 0] S1x1x1x1x128x128.size inb_S1x8x1x8x128x128_S1x1x1x1x128x128_0_1_0_2_0_0))⟩,
    ⟨Rect.unit (s := S128x1024) ![32, 0] S16x128.size inb_S128x1024_S16x128_32_0, k0_pay536 D (k0_pay531 (View.ld S (Rect.unit (s := S1x8x1x8x128x128) ![0, 0, 0, 2, 0, 0] S1x1x1x1x128x128.size inb_S1x8x1x8x128x128_S1x1x1x1x128x128_0_0_0_2_0_0)))⟩,
    ⟨Rect.unit (s := S128x1024) ![48, 896] S16x128.size inb_S128x1024_S16x128_48_896, k0_pay524 D (View.ld S (Rect.unit (s := S1x8x1x8x128x128) ![0, 7, 0, 3, 0, 0] S1x1x1x1x128x128.size inb_S1x8x1x8x128x128_S1x1x1x1x128x128_0_7_0_3_0_0))⟩,
    ⟨Rect.unit (s := S128x1024) ![48, 768] S16x128.size inb_S128x1024_S16x128_48_768, k0_pay513 D (View.ld S (Rect.unit (s := S1x8x1x8x128x128) ![0, 6, 0, 3, 0, 0] S1x1x1x1x128x128.size inb_S1x8x1x8x128x128_S1x1x1x1x128x128_0_6_0_3_0_0))⟩,
    ⟨Rect.unit (s := S128x1024) ![48, 640] S16x128.size inb_S128x1024_S16x128_48_640, k0_pay502 D (k0_pay498 (View.ld S (Rect.unit (s := S1x8x1x8x128x128) ![0, 5, 0, 3, 0, 0] S1x1x1x1x128x128.size inb_S1x8x1x8x128x128_S1x1x1x1x128x128_0_5_0_3_0_0)))⟩,
    ⟨Rect.unit (s := S128x1024) ![48, 512] S16x128.size inb_S128x1024_S16x128_48_512, k0_pay490 D (View.ld S (Rect.unit (s := S1x8x1x8x128x128) ![0, 4, 0, 3, 0, 0] S1x1x1x1x128x128.size inb_S1x8x1x8x128x128_S1x1x1x1x128x128_0_4_0_3_0_0))⟩,
    ⟨Rect.unit (s := S128x1024) ![48, 384] S16x128.size inb_S128x1024_S16x128_48_384, k0_pay478 D (View.ld S (Rect.unit (s := S1x8x1x8x128x128) ![0, 3, 0, 3, 0, 0] S1x1x1x1x128x128.size inb_S1x8x1x8x128x128_S1x1x1x1x128x128_0_3_0_3_0_0))⟩,
    ⟨Rect.unit (s := S128x1024) ![48, 256] S16x128.size inb_S128x1024_S16x128_48_256, k0_pay467 D (k0_pay462 (View.ld S (Rect.unit (s := S1x8x1x8x128x128) ![0, 2, 0, 3, 0, 0] S1x1x1x1x128x128.size inb_S1x8x1x8x128x128_S1x1x1x1x128x128_0_2_0_3_0_0)))⟩,
    ⟨Rect.unit (s := S128x1024) ![48, 128] S16x128.size inb_S128x1024_S16x128_48_128, k0_pay456 D (View.ld S (Rect.unit (s := S1x8x1x8x128x128) ![0, 1, 0, 3, 0, 0] S1x1x1x1x128x128.size inb_S1x8x1x8x128x128_S1x1x1x1x128x128_0_1_0_3_0_0))⟩,
    ⟨Rect.unit (s := S128x1024) ![48, 0] S16x128.size inb_S128x1024_S16x128_48_0, k0_pay444 D (View.ld S (Rect.unit (s := S1x8x1x8x128x128) ![0, 0, 0, 3, 0, 0] S1x1x1x1x128x128.size inb_S1x8x1x8x128x128_S1x1x1x1x128x128_0_0_0_3_0_0))⟩,
    ⟨Rect.unit (s := S128x1024) ![64, 896] S16x128.size inb_S128x1024_S16x128_64_896, k0_pay431 D (k0_pay426 (View.ld S (Rect.unit (s := S1x8x1x8x128x128) ![0, 7, 0, 4, 0, 0] S1x1x1x1x128x128.size inb_S1x8x1x8x128x128_S1x1x1x1x128x128_0_7_0_4_0_0)))⟩,
    ⟨Rect.unit (s := S128x1024) ![64, 768] S16x128.size inb_S128x1024_S16x128_64_768, k0_pay421 D (View.ld S (Rect.unit (s := S1x8x1x8x128x128) ![0, 6, 0, 4, 0, 0] S1x1x1x1x128x128.size inb_S1x8x1x8x128x128_S1x1x1x1x128x128_0_6_0_4_0_0))⟩,
    ⟨Rect.unit (s := S128x1024) ![64, 640] S16x128.size inb_S128x1024_S16x128_64_640, k0_pay410 D (View.ld S (Rect.unit (s := S1x8x1x8x128x128) ![0, 5, 0, 4, 0, 0] S1x1x1x1x128x128.size inb_S1x8x1x8x128x128_S1x1x1x1x128x128_0_5_0_4_0_0))⟩,
    ⟨Rect.unit (s := S128x1024) ![64, 512] S16x128.size inb_S128x1024_S16x128_64_512, k0_pay399 D (View.ld S (Rect.unit (s := S1x8x1x8x128x128) ![0, 4, 0, 4, 0, 0] S1x1x1x1x128x128.size inb_S1x8x1x8x128x128_S1x1x1x1x128x128_0_4_0_4_0_0))⟩,
    ⟨Rect.unit (s := S128x1024) ![64, 384] S16x128.size inb_S128x1024_S16x128_64_384, k0_pay389 (k0_pay388 D (View.ld S (Rect.unit (s := S1x8x1x8x128x128) ![0, 3, 0, 4, 0, 0] S1x1x1x1x128x128.size inb_S1x8x1x8x128x128_S1x1x1x1x128x128_0_3_0_4_0_0)))⟩,
    ⟨Rect.unit (s := S128x1024) ![64, 256] S16x128.size inb_S128x1024_S16x128_64_256, k0_pay377 D (View.ld S (Rect.unit (s := S1x8x1x8x128x128) ![0, 2, 0, 4, 0, 0] S1x1x1x1x128x128.size inb_S1x8x1x8x128x128_S1x1x1x1x128x128_0_2_0_4_0_0))⟩,
    ⟨Rect.unit (s := S128x1024) ![64, 128] S16x128.size inb_S128x1024_S16x128_64_128, k0_pay366 D (View.ld S (Rect.unit (s := S1x8x1x8x128x128) ![0, 1, 0, 4, 0, 0] S1x1x1x1x128x128.size inb_S1x8x1x8x128x128_S1x1x1x1x128x128_0_1_0_4_0_0))⟩,
    ⟨Rect.unit (s := S128x1024) ![64, 0] S16x128.size inb_S128x1024_S16x128_64_0, k0_pay356 (k0_pay355 D (View.ld S (Rect.unit (s := S1x8x1x8x128x128) ![0, 0, 0, 4, 0, 0] S1x1x1x1x128x128.size inb_S1x8x1x8x128x128_S1x1x1x1x128x128_0_0_0_4_0_0)))⟩,
    ⟨Rect.unit (s := S128x1024) ![80, 896] S16x128.size inb_S128x1024_S16x128_80_896, k0_pay345 D (View.ld S (Rect.unit (s := S1x8x1x8x128x128) ![0, 7, 0, 5, 0, 0] S1x1x1x1x128x128.size inb_S1x8x1x8x128x128_S1x1x1x1x128x128_0_7_0_5_0_0))⟩,
    ⟨Rect.unit (s := S128x1024) ![80, 768] S16x128.size inb_S128x1024_S16x128_80_768, k0_pay334 D (View.ld S (Rect.unit (s := S1x8x1x8x128x128) ![0, 6, 0, 5, 0, 0] S1x1x1x1x128x128.size inb_S1x8x1x8x128x128_S1x1x1x1x128x128_0_6_0_5_0_0))⟩,
    ⟨Rect.unit (s := S128x1024) ![80, 640] S16x128.size inb_S128x1024_S16x128_80_640, k0_pay324 D (k0_pay320 (View.ld S (Rect.unit (s := S1x8x1x8x128x128) ![0, 5, 0, 5, 0, 0] S1x1x1x1x128x128.size inb_S1x8x1x8x128x128_S1x1x1x1x128x128_0_5_0_5_0_0)))⟩,
    ⟨Rect.unit (s := S128x1024) ![80, 512] S16x128.size inb_S128x1024_S16x128_80_512, k0_pay313 D (View.ld S (Rect.unit (s := S1x8x1x8x128x128) ![0, 4, 0, 5, 0, 0] S1x1x1x1x128x128.size inb_S1x8x1x8x128x128_S1x1x1x1x128x128_0_4_0_5_0_0))⟩,
    ⟨Rect.unit (s := S128x1024) ![80, 384] S16x128.size inb_S128x1024_S16x128_80_384, k0_pay302 D (View.ld S (Rect.unit (s := S1x8x1x8x128x128) ![0, 3, 0, 5, 0, 0] S1x1x1x1x128x128.size inb_S1x8x1x8x128x128_S1x1x1x1x128x128_0_3_0_5_0_0))⟩,
    ⟨Rect.unit (s := S128x1024) ![80, 256] S16x128.size inb_S128x1024_S16x128_80_256, k0_pay291 D (k0_pay287 (View.ld S (Rect.unit (s := S1x8x1x8x128x128) ![0, 2, 0, 5, 0, 0] S1x1x1x1x128x128.size inb_S1x8x1x8x128x128_S1x1x1x1x128x128_0_2_0_5_0_0)))⟩,
    ⟨Rect.unit (s := S128x1024) ![80, 128] S16x128.size inb_S128x1024_S16x128_80_128, k0_pay279 D (View.ld S (Rect.unit (s := S1x8x1x8x128x128) ![0, 1, 0, 5, 0, 0] S1x1x1x1x128x128.size inb_S1x8x1x8x128x128_S1x1x1x1x128x128_0_1_0_5_0_0))⟩,
    ⟨Rect.unit (s := S128x1024) ![80, 0] S16x128.size inb_S128x1024_S16x128_80_0, k0_pay268 D (View.ld S (Rect.unit (s := S1x8x1x8x128x128) ![0, 0, 0, 5, 0, 0] S1x1x1x1x128x128.size inb_S1x8x1x8x128x128_S1x1x1x1x128x128_0_0_0_5_0_0))⟩,
    ⟨Rect.unit (s := S128x1024) ![96, 896] S16x128.size inb_S128x1024_S16x128_96_896, k0_pay257 D (k0_pay252 (View.ld S (Rect.unit (s := S1x8x1x8x128x128) ![0, 7, 0, 6, 0, 0] S1x1x1x1x128x128.size inb_S1x8x1x8x128x128_S1x1x1x1x128x128_0_7_0_6_0_0)))⟩,
    ⟨Rect.unit (s := S128x1024) ![96, 768] S16x128.size inb_S128x1024_S16x128_96_768, k0_pay246 D (View.ld S (Rect.unit (s := S1x8x1x8x128x128) ![0, 6, 0, 6, 0, 0] S1x1x1x1x128x128.size inb_S1x8x1x8x128x128_S1x1x1x1x128x128_0_6_0_6_0_0))⟩,
    ⟨Rect.unit (s := S128x1024) ![96, 640] S16x128.size inb_S128x1024_S16x128_96_640, k0_pay234 D (View.ld S (Rect.unit (s := S1x8x1x8x128x128) ![0, 5, 0, 6, 0, 0] S1x1x1x1x128x128.size inb_S1x8x1x8x128x128_S1x1x1x1x128x128_0_5_0_6_0_0))⟩,
    ⟨Rect.unit (s := S128x1024) ![96, 512] S16x128.size inb_S128x1024_S16x128_96_512, k0_pay221 D (k0_pay216 (View.ld S (Rect.unit (s := S1x8x1x8x128x128) ![0, 4, 0, 6, 0, 0] S1x1x1x1x128x128.size inb_S1x8x1x8x128x128_S1x1x1x1x128x128_0_4_0_6_0_0)))⟩,
    ⟨Rect.unit (s := S128x1024) ![96, 384] S16x128.size inb_S128x1024_S16x128_96_384, k0_pay210 D (View.ld S (Rect.unit (s := S1x8x1x8x128x128) ![0, 3, 0, 6, 0, 0] S1x1x1x1x128x128.size inb_S1x8x1x8x128x128_S1x1x1x1x128x128_0_3_0_6_0_0))⟩,
    ⟨Rect.unit (s := S128x1024) ![96, 256] S16x128.size inb_S128x1024_S16x128_96_256, k0_pay199 D (View.ld S (Rect.unit (s := S1x8x1x8x128x128) ![0, 2, 0, 6, 0, 0] S1x1x1x1x128x128.size inb_S1x8x1x8x128x128_S1x1x1x1x128x128_0_2_0_6_0_0))⟩,
    ⟨Rect.unit (s := S128x1024) ![96, 128] S16x128.size inb_S128x1024_S16x128_96_128, k0_pay188 D (View.ld S (Rect.unit (s := S1x8x1x8x128x128) ![0, 1, 0, 6, 0, 0] S1x1x1x1x128x128.size inb_S1x8x1x8x128x128_S1x1x1x1x128x128_0_1_0_6_0_0))⟩,
    ⟨Rect.unit (s := S128x1024) ![96, 0] S16x128.size inb_S128x1024_S16x128_96_0, k0_pay178 (k0_pay177 D (View.ld S (Rect.unit (s := S1x8x1x8x128x128) ![0, 0, 0, 6, 0, 0] S1x1x1x1x128x128.size inb_S1x8x1x8x128x128_S1x1x1x1x128x128_0_0_0_6_0_0)))⟩,
    ⟨Rect.unit (s := S128x1024) ![112, 896] S16x128.size inb_S128x1024_S16x128_112_896, k0_pay166 D (View.ld S (Rect.unit (s := S1x8x1x8x128x128) ![0, 7, 0, 7, 0, 0] S1x1x1x1x128x128.size inb_S1x8x1x8x128x128_S1x1x1x1x128x128_0_7_0_7_0_0))⟩,
    ⟨Rect.unit (s := S128x1024) ![112, 768] S16x128.size inb_S128x1024_S16x128_112_768, k0_pay156 D (View.ld S (Rect.unit (s := S1x8x1x8x128x128) ![0, 6, 0, 7, 0, 0] S1x1x1x1x128x128.size inb_S1x8x1x8x128x128_S1x1x1x1x128x128_0_6_0_7_0_0))⟩,
    ⟨Rect.unit (s := S128x1024) ![112, 640] S16x128.size inb_S128x1024_S16x128_112_640, k0_pay146 (k0_pay145 D (View.ld S (Rect.unit (s := S1x8x1x8x128x128) ![0, 5, 0, 7, 0, 0] S1x1x1x1x128x128.size inb_S1x8x1x8x128x128_S1x1x1x1x128x128_0_5_0_7_0_0)))⟩,
    ⟨Rect.unit (s := S128x1024) ![112, 512] S16x128.size inb_S128x1024_S16x128_112_512, k0_pay135 D (View.ld S (Rect.unit (s := S1x8x1x8x128x128) ![0, 4, 0, 7, 0, 0] S1x1x1x1x128x128.size inb_S1x8x1x8x128x128_S1x1x1x1x128x128_0_4_0_7_0_0))⟩,
    ⟨Rect.unit (s := S128x1024) ![112, 384] S16x128.size inb_S128x1024_S16x128_112_384, k0_pay124 D (View.ld S (Rect.unit (s := S1x8x1x8x128x128) ![0, 3, 0, 7, 0, 0] S1x1x1x1x128x128.size inb_S1x8x1x8x128x128_S1x1x1x1x128x128_0_3_0_7_0_0))⟩,
    ⟨Rect.unit (s := S128x1024) ![112, 256] S16x128.size inb_S128x1024_S16x128_112_256, k0_pay114 (k0_pay109 (View.ld S (Rect.unit (s := S1x8x1x8x128x128) ![0, 2, 0, 7, 0, 0] S1x1x1x1x128x128.size inb_S1x8x1x8x128x128_S1x1x1x1x128x128_0_2_0_7_0_0))) (k0_pay113 D)⟩,
    ⟨Rect.unit (s := S128x1024) ![112, 128] S16x128.size inb_S128x1024_S16x128_112_128, k0_pay102 D (View.ld S (Rect.unit (s := S1x8x1x8x128x128) ![0, 1, 0, 7, 0, 0] S1x1x1x1x128x128.size inb_S1x8x1x8x128x128_S1x1x1x1x128x128_0_1_0_7_0_0))⟩,
    ⟨Rect.unit (s := S128x1024) ![112, 0] S16x128.size inb_S128x1024_S16x128_112_0, k0_pay90 D (View.ld S (Rect.unit (s := S1x8x1x8x128x128) ![0, 0, 0, 7, 0, 0] S1x1x1x1x128x128.size inb_S1x8x1x8x128x128_S1x1x1x1x128x128_0_0_0_7_0_0))⟩]

/-- The tiles together are the block. -/
theorem tiles_apply (D : FVec Ideal S128x1024 .bf16) (S : Vec Ideal S1x8x1x8x128x128 .f32) (j : Fin 8) (l : Fin 16) (h : Fin 8) (k : Fin 128) :
    (View.canon (tiles D S) (ix2 (place j l) (col h k) : S128x1024.Idx) : EReal) = carried D S j l h k := by
  rw [← carriedV_apply]
  refine View.canon_apply_of_pieces (carriedV D S) (tiles D S) ?_ _ (View.cover_of_tiled_head _ _ _ rfl _)
  unfold tiles
  simp only [List.forall_mem_cons, List.not_mem_nil, false_imp_iff, implies_true, and_true]
  exact ⟨tile_of D S _ 0 7 0 896 rfl rfl inb_S128x1024_S16x128_0_896 (tile_0_7 D S),
    tile_of D S _ 0 6 0 768 rfl rfl inb_S128x1024_S16x128_0_768 (tile_0_6 D S),
    tile_of D S _ 0 5 0 640 rfl rfl inb_S128x1024_S16x128_0_640 (tile_0_5 D S),
    tile_of D S _ 0 4 0 512 rfl rfl inb_S128x1024_S16x128_0_512 (tile_0_4 D S),
    tile_of D S _ 0 3 0 384 rfl rfl inb_S128x1024_S16x128_0_384 (tile_0_3 D S),
    tile_of D S _ 0 2 0 256 rfl rfl inb_S128x1024_S16x128_0_256 (tile_0_2 D S),
    tile_of D S _ 0 1 0 128 rfl rfl inb_S128x1024_S16x128_0_128 (tile_0_1 D S),
    tile_of D S _ 0 0 0 0 rfl rfl inb_S128x1024_S16x128_0_0 (tile_0_0 D S),
    tile_of D S _ 1 7 16 896 rfl rfl inb_S128x1024_S16x128_16_896 (tile_1_7 D S),
    tile_of D S _ 1 6 16 768 rfl rfl inb_S128x1024_S16x128_16_768 (tile_1_6 D S),
    tile_of D S _ 1 5 16 640 rfl rfl inb_S128x1024_S16x128_16_640 (tile_1_5 D S),
    tile_of D S _ 1 4 16 512 rfl rfl inb_S128x1024_S16x128_16_512 (tile_1_4 D S),
    tile_of D S _ 1 3 16 384 rfl rfl inb_S128x1024_S16x128_16_384 (tile_1_3 D S),
    tile_of D S _ 1 2 16 256 rfl rfl inb_S128x1024_S16x128_16_256 (tile_1_2 D S),
    tile_of D S _ 1 1 16 128 rfl rfl inb_S128x1024_S16x128_16_128 (tile_1_1 D S),
    tile_of D S _ 1 0 16 0 rfl rfl inb_S128x1024_S16x128_16_0 (tile_1_0 D S),
    tile_of D S _ 2 7 32 896 rfl rfl inb_S128x1024_S16x128_32_896 (tile_2_7 D S),
    tile_of D S _ 2 6 32 768 rfl rfl inb_S128x1024_S16x128_32_768 (tile_2_6 D S),
    tile_of D S _ 2 5 32 640 rfl rfl inb_S128x1024_S16x128_32_640 (tile_2_5 D S),
    tile_of D S _ 2 4 32 512 rfl rfl inb_S128x1024_S16x128_32_512 (tile_2_4 D S),
    tile_of D S _ 2 3 32 384 rfl rfl inb_S128x1024_S16x128_32_384 (tile_2_3 D S),
    tile_of D S _ 2 2 32 256 rfl rfl inb_S128x1024_S16x128_32_256 (tile_2_2 D S),
    tile_of D S _ 2 1 32 128 rfl rfl inb_S128x1024_S16x128_32_128 (tile_2_1 D S),
    tile_of D S _ 2 0 32 0 rfl rfl inb_S128x1024_S16x128_32_0 (tile_2_0 D S),
    tile_of D S _ 3 7 48 896 rfl rfl inb_S128x1024_S16x128_48_896 (tile_3_7 D S),
    tile_of D S _ 3 6 48 768 rfl rfl inb_S128x1024_S16x128_48_768 (tile_3_6 D S),
    tile_of D S _ 3 5 48 640 rfl rfl inb_S128x1024_S16x128_48_640 (tile_3_5 D S),
    tile_of D S _ 3 4 48 512 rfl rfl inb_S128x1024_S16x128_48_512 (tile_3_4 D S),
    tile_of D S _ 3 3 48 384 rfl rfl inb_S128x1024_S16x128_48_384 (tile_3_3 D S),
    tile_of D S _ 3 2 48 256 rfl rfl inb_S128x1024_S16x128_48_256 (tile_3_2 D S),
    tile_of D S _ 3 1 48 128 rfl rfl inb_S128x1024_S16x128_48_128 (tile_3_1 D S),
    tile_of D S _ 3 0 48 0 rfl rfl inb_S128x1024_S16x128_48_0 (tile_3_0 D S),
    tile_of D S _ 4 7 64 896 rfl rfl inb_S128x1024_S16x128_64_896 (tile_4_7 D S),
    tile_of D S _ 4 6 64 768 rfl rfl inb_S128x1024_S16x128_64_768 (tile_4_6 D S),
    tile_of D S _ 4 5 64 640 rfl rfl inb_S128x1024_S16x128_64_640 (tile_4_5 D S),
    tile_of D S _ 4 4 64 512 rfl rfl inb_S128x1024_S16x128_64_512 (tile_4_4 D S),
    tile_of D S _ 4 3 64 384 rfl rfl inb_S128x1024_S16x128_64_384 (tile_4_3 D S),
    tile_of D S _ 4 2 64 256 rfl rfl inb_S128x1024_S16x128_64_256 (tile_4_2 D S),
    tile_of D S _ 4 1 64 128 rfl rfl inb_S128x1024_S16x128_64_128 (tile_4_1 D S),
    tile_of D S _ 4 0 64 0 rfl rfl inb_S128x1024_S16x128_64_0 (tile_4_0 D S),
    tile_of D S _ 5 7 80 896 rfl rfl inb_S128x1024_S16x128_80_896 (tile_5_7 D S),
    tile_of D S _ 5 6 80 768 rfl rfl inb_S128x1024_S16x128_80_768 (tile_5_6 D S),
    tile_of D S _ 5 5 80 640 rfl rfl inb_S128x1024_S16x128_80_640 (tile_5_5 D S),
    tile_of D S _ 5 4 80 512 rfl rfl inb_S128x1024_S16x128_80_512 (tile_5_4 D S),
    tile_of D S _ 5 3 80 384 rfl rfl inb_S128x1024_S16x128_80_384 (tile_5_3 D S),
    tile_of D S _ 5 2 80 256 rfl rfl inb_S128x1024_S16x128_80_256 (tile_5_2 D S),
    tile_of D S _ 5 1 80 128 rfl rfl inb_S128x1024_S16x128_80_128 (tile_5_1 D S),
    tile_of D S _ 5 0 80 0 rfl rfl inb_S128x1024_S16x128_80_0 (tile_5_0 D S),
    tile_of D S _ 6 7 96 896 rfl rfl inb_S128x1024_S16x128_96_896 (tile_6_7 D S),
    tile_of D S _ 6 6 96 768 rfl rfl inb_S128x1024_S16x128_96_768 (tile_6_6 D S),
    tile_of D S _ 6 5 96 640 rfl rfl inb_S128x1024_S16x128_96_640 (tile_6_5 D S),
    tile_of D S _ 6 4 96 512 rfl rfl inb_S128x1024_S16x128_96_512 (tile_6_4 D S),
    tile_of D S _ 6 3 96 384 rfl rfl inb_S128x1024_S16x128_96_384 (tile_6_3 D S),
    tile_of D S _ 6 2 96 256 rfl rfl inb_S128x1024_S16x128_96_256 (tile_6_2 D S),
    tile_of D S _ 6 1 96 128 rfl rfl inb_S128x1024_S16x128_96_128 (tile_6_1 D S),
    tile_of D S _ 6 0 96 0 rfl rfl inb_S128x1024_S16x128_96_0 (tile_6_0 D S),
    tile_of D S _ 7 7 112 896 rfl rfl inb_S128x1024_S16x128_112_896 (tile_7_7 D S),
    tile_of D S _ 7 6 112 768 rfl rfl inb_S128x1024_S16x128_112_768 (tile_7_6 D S),
    tile_of D S _ 7 5 112 640 rfl rfl inb_S128x1024_S16x128_112_640 (tile_7_5 D S),
    tile_of D S _ 7 4 112 512 rfl rfl inb_S128x1024_S16x128_112_512 (tile_7_4 D S),
    tile_of D S _ 7 3 112 384 rfl rfl inb_S128x1024_S16x128_112_384 (tile_7_3 D S),
    tile_of D S _ 7 2 112 256 rfl rfl inb_S128x1024_S16x128_112_256 (tile_7_2 D S),
    tile_of D S _ 7 1 112 128 rfl rfl inb_S128x1024_S16x128_112_128 (tile_7_1 D S),
    tile_of D S _ 7 0 112 0 rfl rfl inb_S128x1024_S16x128_112_0 (tile_7_0 D S)⟩

end Cert.HgrnIdeal.Query

end
-- ==== Proof.HgrnQueryRef.lean ====
module

public import proofs.«01_k».proof.Proof.Gen.HgrnQueryRefIdeal.Run
public import proofs.«01_k».proof.Proof.HgrnRef
public import proofs.«01_k».proof.Proof.HgrnQueryReal

/-! # The gradient of the recurrence's query, as its reference computes it -/

@[expose] public section

set_option maxRecDepth 16384

noncomputable section

namespace Cert.HgrnQueryRefIdeal.At

open Cert.HgrnQueryRefIdeal Cert.HgrnQueryRefIdeal.Gen Cert.HgrnQueryRefIdeal.Value Cert.HgrnReal Cert.HgrnQueryReal Cert.Silu
open Cert.HgrnRefIdeal.At (col col_div col_mod col_join)
open Idealize.ShloMosaic Idealize.ShloMosaic.TcCoe Idealize.SL.Sem Idealize.ShloMosaic.StableHlo

variable (V0 : Valuation τ sig (Elt Ideal))

/-- A column of the projections. -/
def proj (i : Fin 4352) (j : Fin 9216) : EReal := (V0 (Proc.devRef .tc main_arg0) : FVec Ideal S4352x9216 .bf16) (ix2 i j : S4352x9216.Idx)

/-- A row of a chunk. -/
abbrev crow (c : Fin 272) (l : Fin 16) : Fin 4352 := ⟨c.val * 16 + l.val, by omega⟩

/-- The chunk of a row. -/
theorem crow_div (c : Fin 272) (l : Fin 16) (p : (c.val * 16 + l.val) / 16 < 272) : (⟨(c.val * 16 + l.val) / 16, p⟩ : Fin 272) = c :=
  Fin.ext (by show (c.val * 16 + l.val) / 16 = c.val; omega)

/-- The place of a row in its chunk. -/
theorem crow_mod (c : Fin 272) (l : Fin 16) (p : (c.val * 16 + l.val) % 16 < 16) : (⟨(c.val * 16 + l.val) % 16, p⟩ : Fin 16) = l :=
  Fin.ext (by show (c.val * 16 + l.val) % 16 = l.val; omega)

/-- A row from its chunk and place. -/
theorem crow_join (c : Fin 272) (l : Fin 16) (p : (c.val * 16 + l.val) / 16 * 16 + (c.val * 16 + l.val) % 16 < 4352) :
    (⟨(c.val * 16 + l.val) / 16 * 16 + (c.val * 16 + l.val) % 16, p⟩ : Fin 4352) = crow c l :=
  Fin.ext (by show (c.val * 16 + l.val) / 16 * 16 + (c.val * 16 + l.val) % 16 = c.val * 16 + l.val; omega)

/-- The lower bound. -/
def lbAt (s : Fin 1024) : EReal := (res_main_v12 V0 : FVec Ideal S1024 .f32) (ix1 s : S1024.Idx)

/-- The forget gate. -/
def fAt (i : Fin 4352) (s : Fin 1024) : EReal := lbAt V0 s + (1 - lbAt V0 s) * sigmoid (proj V0 i ⟨4096 + s.val, by omega⟩)

/-- The forget gate at an index. -/
theorem f_apply (i : Fin 4352) (s : Fin 1024) : ((res_main_v28 V0 : FVec Ideal S4352x1024 .f32) (ix2 i s : S4352x1024.Idx) : EReal) = fAt V0 i s := by
  unfold res_main_v28 fAt lbAt proj sigmoid
  pointwise

/-- The causal mask inside a chunk. -/
theorem tri_apply (l s : Fin 16) : (res_main_v38 V0 : IVec S16x16 1) (ix2 l s : S16x16.Idx) = if s ≤ l then 1#1 else 0#1 := by
  unfold res_main_v38
  pointwise
  exact (by decide +kernel : ∀ l s : Fin 16, Scalar.select (IntOp.cmpi CmpIPredicate.sge (IntOp.addi (BitVec.ofNat 32 l.val) 0#32) (BitVec.ofNat 32 s.val)) 1#1 0#1
    = if s ≤ l then 1#1 else 0#1) l s

/-- The running sum of the gate's logarithm. -/
def gAt (c : Fin 272) (l : Fin 16) (h : Fin 8) (k : Fin 128) : EReal := chunkSum (fun s => fAt V0 (crow c s) (col h k)) l

/-- The running sum at an index. -/
theorem g_apply (c : Fin 272) (l : Fin 16) (h : Fin 8) (k : Fin 128) :
    ((res_main_v41 V0 : FVec Ideal S272x16x8x128 .f32) (ix4 c l h k : S272x16x8x128.Idx) : EReal) = gAt V0 c l h k := by
  unfold res_main_v41 gAt chunkSum
  simp only [← f_apply]
  pointwise
  show (_ : EReal) = (_ : EReal)
  refine Finset.sum_congr rfl fun s _ => ?_
  rw [tri_apply]
  congr 1
  by_cases h : s ≤ l
  · rw [if_pos h, if_pos h]; simp [FloatOps.uitofp]
  · rw [if_neg h, if_neg h]; simp [FloatOps.uitofp]

/-- The word of minus infinity. -/
theorem word_bot : (Ideal.ofBits FTy.f32 4286578688#32 : EReal) = ⊥ := by
  simp [Ideal.ofBits, Ideal.ieee]

/-- The states at the chunks' heads. -/
def stAt (c : Fin 272) (h : Fin 8) (v k : Fin 128) : EReal :=
  (V0 (Proc.devRef .tc main_arg4) : FVec Ideal S2x8x17x8x128x128 .f32) (ix6 (⟨c.val / 136, by omega⟩ : Fin 2) h (⟨c.val / 8 % 17, by omega⟩ : Fin 17) (⟨c.val % 8, by omega⟩ : Fin 8) v k : S2x8x17x8x128x128.Idx)

/-- The state after a row of a chunk. -/
theorem state_apply (c : Fin 272) (l : Fin 16) (h : Fin 8) (v k : Fin 128) :
    ((res_main_v63 V0 : FVec Ideal S272x16x8x128x128 .f32) (ix5 c l h v k : S272x16x8x128x128.Idx) : EReal)
      = Ideal.exp (gAt V0 c l h k) * stAt V0 c h v k
        + ∑ s : Fin 16, (1 - fAt V0 (crow c s) (col h k)) * Ideal.exp (if s ≤ l then gAt V0 c l h k - gAt V0 c s h k else ⊥) * proj V0 (crow c s) ⟨5120 + (col h v).val, by omega⟩ := by
  unfold res_main_v63 stAt proj
  simp only [← f_apply, ← g_apply]
  pointwise
  refine congrArg _ (Finset.sum_congr rfl fun s _ => ?_)
  rw [tri_apply]
  congr 3
  by_cases h : s ≤ l
  · rw [if_pos h, if_pos h]; rfl
  · rw [if_neg h, if_neg h]; exact word_bot

/-- A head's row of the saved output. -/
def oAt (i : Fin 4352) (h : Fin 8) (k : Fin 128) : EReal := (V0 (Proc.devRef .tc main_arg3) : FVec Ideal S4352x1024 .f32) (ix2 i (col h k) : S4352x1024.Idx)

/-- The cotangent at an index. -/
def dyAt (i : Fin 4352) (h : Fin 8) (k : Fin 128) : EReal := (V0 (Proc.devRef .tc main_arg5) : FVec Ideal S4352x1024 .bf16) (ix2 i (col h k) : S4352x1024.Idx)

/-- The gain at an index. -/
def nAt (h : Fin 8) (k : Fin 128) : EReal := (V0 (Proc.devRef .tc main_arg2) : FVec Ideal S1x1024 .f32) (ix2 0 (col h k) : S1x1024.Idx)

/-- The cotangent of a normalised entry. -/
def wAt (i : Fin 4352) (h : Fin 8) (k : Fin 128) : EReal :=
  dyAt V0 i h k * (proj V0 i ⟨6144 + (col h k).val, by omega⟩ * sigmoid (proj V0 i ⟨6144 + (col h k).val, by omega⟩)) * nAt V0 h k

/-- The saved output at an index. -/
theorem o_apply (i : Fin 4352) (h : Fin 8) (k : Fin 128) : ((res_main_v64 V0 : FVec Ideal S4352x8x128 .f32) (ix3 i h k : S4352x8x128.Idx) : EReal) = oAt V0 i h k := by
  unfold res_main_v64 oAt; pointwise

/-- The mean of the squares at an index. -/
theorem ms_apply (i : Fin 4352) (h : Fin 8) : ((res_main_v71 V0 : FVec Ideal S4352x8x1 .f32) (ix3 i h 0 : S4352x8x1.Idx) : EReal) = square (oAt V0 i h) := by
  unfold res_main_v71 square
  simp only [← o_apply]
  pointwise

/-- The factor at an index. -/
theorem scale_apply (i : Fin 4352) (h : Fin 8) : ((res_main_v72 V0 : FVec Ideal S4352x8x1 .f32) (ix3 i h 0 : S4352x8x1.Idx) : EReal) = scale (oAt V0 i h) := by
  unfold res_main_v72 scale
  rw [← ms_apply]
  pointwise

/-- The cotangent of a normalised entry at an index. -/
theorem w_apply (i : Fin 4352) (h : Fin 8) (k : Fin 128) : ((res_main_v91 V0 : FVec Ideal S4352x8x128 .f32) (ix3 i h k : S4352x8x128.Idx) : EReal) = wAt V0 i h k := by
  unfold res_main_v91 res_main_v85 res_main_v84 res_main_v79 wAt dyAt nAt proj sigmoid
  pointwise

/-- The factor's contribution at an index. -/
theorem part_apply (i : Fin 4352) (h : Fin 8) (k : Fin 128) : ((res_main_v101 V0 : FVec Ideal S4352x8x128 .f32) (ix3 i h k : S4352x8x128.Idx) : EReal) = part (oAt V0 i h) (wAt V0 i h) := by
  unfold res_main_v101 part
  rw [← ms_apply, ← scale_apply]
  simp only [← o_apply, ← w_apply]
  pointwise
  show (_ : EReal) = (_ : EReal)
  exact Fin.sum_univ_one _

/-- The gradient of the saved output. -/
def dO : FVec Ideal S4352x8x128 .f32 :=
  addf (addf (mulf (res_main_v91 V0) (broadcastInDim S4352x8x128 ![0, 1, 2] bcast_S4352x8x1_S4352x8x128_0_1_2 (res_main_v72 V0))) (mulf (res_main_v64 V0) (res_main_v101 V0))) (mulf (res_main_v101 V0) (res_main_v64 V0))

/-- … at an index. -/
theorem dO_apply (i : Fin 4352) (h : Fin 8) (k : Fin 128) : (dO V0 (ix3 i h k : S4352x8x128.Idx) : EReal) = referenceGrad (oAt V0 i h) (wAt V0 i h) k := by
  unfold dO referenceGrad
  rw [← scale_apply, ← part_apply V0 i h k]
  simp only [← o_apply, ← w_apply]
  pointwise

/-- The query's gradient before its activation, at an index. -/
theorem core_apply (c : Fin 272) (l : Fin 16) (h : Fin 8) (k : Fin 128) :
    ((res_main_v114 V0 : FVec Ideal S4352x1024 .f32) (ix2 (crow c l) (col h k) : S4352x1024.Idx) : EReal)
      = referenceCore (fun s => fAt V0 (crow c s) (col h k)) (fun s v => proj V0 (crow c s) ⟨5120 + (col h v).val, by omega⟩)
          (referenceGrad (oAt V0 (crow c l) h) (wAt V0 (crow c l) h)) (fun v => stAt V0 c h v k) l := by
  unfold referenceCore
  simp only [← dO_apply]
  have e : ∀ v, _ := fun v => state_apply V0 c l h v k
  simp only [gAt] at e
  simp only [← e]
  have u : res_main_v114 V0 = shapeCast _ (Host.dotGeneral dot_S272x16x8x128_S272x16x8x128x128_S272x16x8x128_3_3_n_4_012_012 none
      (shapeCast _ (shapeCast _ (dO V0) shapeCasts_S4352x8x128_S4352x1024) shapeCasts_S4352x1024_S272x16x8x128) (res_main_v63 V0)) shapeCasts_S272x16x8x128_S4352x1024 := rfl
  rw [u]
  pointwise
  simp only [col_div, col_mod, crow_div, crow_mod, crow_join]

/-- The largest of some real numbers is real. -/
theorem fold_real {ι : Type} (f : ι → EReal) (S : Finset ι) (h : ∀ i, ∃ r : ℝ, f i = (r : EReal)) (n : S.Nonempty) :
    ∃ r : ℝ, Finset.fold max ⊥ f S = (r : EReal) := by
  classical
  induction n using Finset.Nonempty.cons_induction with
  | singleton a =>
    obtain ⟨r, hr⟩ := h a
    exact ⟨r, by rw [Finset.fold_singleton, hr]; exact max_eq_left bot_le⟩
  | cons a S ha n ih =>
    obtain ⟨r, hr⟩ := h a
    obtain ⟨q, hq⟩ := ih
    rw [Finset.fold_cons, hr, hq]
    rcases le_total (r : EReal) (q : EReal) with l | l
    · exact ⟨q, max_eq_right l⟩
    · exact ⟨r, max_eq_left l⟩

/-- The lower bound is the logistic function of the difference of its two parameters, where these are real. -/
theorem lb_eq (h : ∀ i, ∃ r : ℝ, ((V0 (Proc.devRef .tc main_arg1) : FVec Ideal S2x1024 .f32) i : EReal) = (r : EReal)) (s : Fin 1024) (a b : ℝ) (ha : ((V0 (Proc.devRef .tc main_arg1) : FVec Ideal S2x1024 .f32) (ix2 0 s : S2x1024.Idx) : EReal) = (a : EReal))
    (hb : ((V0 (Proc.devRef .tc main_arg1) : FVec Ideal S2x1024 .f32) (ix2 1 s : S2x1024.Idx) : EReal) = (b : EReal)) :
    lbAt V0 s = sigmoid ((a : EReal) - (b : EReal)) := by
  unfold lbAt res_main_v12 res_main_v6
  pointwise
  obtain ⟨M, hM⟩ : ∃ M : ℝ, (max (Ideal.ofBits FTy.f32 4286578688#32) (Finset.fold max (Ideal.ofBits FTy.f32 4286578688#32)
      (fun i => ((V0 (Proc.devRef .tc main_arg1) : FVec Ideal S2x1024 .f32) i : EReal)) (Finset.univ.filter fun i => reducesTo_S2x1024_S1024_d0.drop i = ix1 s)) : EReal) = (M : EReal) := by
    rw [word_bot, bot_sup_eq]
    refine fold_real _ _ h ⟨ix2 0 s, Finset.mem_filter.2 ⟨Finset.mem_univ _, ?_⟩⟩
    funext a
    fin_cases a
    rfl
  rw [← softmax_two a b M, ← hM, Fin.sum_univ_two, ← ha, ← hb]

/-- The rows that are not padding. -/
def live : IVec S2x2176x1024 1 :=
  broadcastInDim S2x2176x1024 ![0, 1, 2] bcast_S1x2176x1_S2x2176x1024_0_1_2 (cmpi .sge (broadcastInDim S1x2176x1 ![1] bcast_S2176_S1x2176x1_1 (iotaInDim S2176 32 0)) (broadcastInDim S1x2176x1 ![] bcast_S_S1x2176x1 (constantI S_ 32 112#32)))

/-- The row's position in its sequence decides whether it is padding. -/
theorem live_apply (b : Fin 2) (p : Fin 2176) (j : Fin 1024) : live (ix3 b p j : S2x2176x1024.Idx) = if 112 ≤ p.val then 1#1 else 0#1 := by
  unfold live
  pointwise
  exact (by decide +kernel : ∀ p : Fin 2176, IntOp.cmpi .sge (BitVec.ofNat 32 p.val) 112#32 = if 112 ≤ p.val then 1#1 else 0#1) p

/-- The query's gradient. -/
def dQ : FVec Ideal S4352x1024 .f32 :=
  addf (mulf (res_main_v114 V0) (res_main_v109_2 V0)) (mulf (mulf (res_main_v108 V0) (res_main_v114 V0)) (mulf (res_main_v109_2 V0) (subf (broadcastInDim S4352x1024 ![] bcast_S_S4352x1024 (constant S_ .f32 0x3F800000#32)) (res_main_v109_2 V0))))

/-- The query at an index. -/
def qAt (i : Fin 4352) (s : Fin 1024) : EReal := proj V0 i ⟨3072 + s.val, by omega⟩

/-- The query's gradient at an index, from its gradient before the activation. -/
theorem dQ_apply (i : Fin 4352) (s : Fin 1024) (d : EReal) (h : ((res_main_v114 V0 : FVec Ideal S4352x1024 .f32) (ix2 i s : S4352x1024.Idx) : EReal) = d) :
    (dQ V0 (ix2 i s : S4352x1024.Idx) : EReal) = d * sigmoid (qAt V0 i s) + qAt V0 i s * d * (sigmoid (qAt V0 i s) * (1 - sigmoid (qAt V0 i s))) := by
  rw [← h]
  unfold dQ res_main_v109_2 res_main_v108 qAt proj sigmoid
  pointwise

/-- … zero on the padding, as rows, rounded. -/
def queryV : FVec Ideal S4352x1024 .bf16 :=
  truncf .bf16 (shapeCast _ (select live (shapeCast _ (dQ V0) shapeCasts_S4352x1024_S2x2176x1024) (broadcastInDim S2x2176x1024 ![] bcast_S_S2x2176x1024 (id (constant S_ .f32 0x00000000#32)))) shapeCasts_S2x2176x1024_S4352x1024) bitsLt_bf16_f32

/-- … at an index. -/
theorem queryV_apply (i : Fin 4352) (s : Fin 1024) :
    (queryV V0 (ix2 i s : S4352x1024.Idx) : EReal) = if 112 ≤ i.val % 2176 then dQ V0 (ix2 i s : S4352x1024.Idx) else 0 := by
  unfold queryV
  pointwise
  rw [live_apply]
  by_cases h : 112 ≤ i.val % 2176
  · rw [if_pos h, if_pos h]; rfl
  · rw [if_neg h, if_neg h]
    refine Eq.trans (show _ = (Ideal.ofBits FTy.f32 0#32 : EReal) from rfl) ?_
    simp [Ideal.ofBits, Ideal.ieee]

/-- The reference's first result: the query's gradient before three other blocks of columns. -/
def wideV : FVec Ideal S4352x4096 .bf16 :=
  concatenate S4352x4096 1 [⟨S4352x1024, queryV V0⟩, ⟨S4352x3072, (broadcastInDim S4352x3072 ![] bcast_S_S4352x3072 (constant S_ .bf16 0x0000#16))⟩] concatenates_S4352x1024_S4352x3072_S4352x4096_d1

/-- The first result on its first columns. -/
theorem wideV_apply (i : Fin 4352) (s : Fin 1024) (p : s.val < 4096) :
    (wideV V0 (ix2 i (⟨s.val, p⟩ : Fin 4096) : S4352x4096.Idx) : EReal) = queryV V0 (ix2 i s : S4352x1024.Idx) := by
  unfold wideV
  pointwise

/-- The reference's run leaves this first result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v125) = wideV (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (Value.run m ρ) fun r h c => ⟨(h c).1, (h c).2.2⟩

end Cert.HgrnQueryRefIdeal.At
end
-- ==== Proof.HgrnQueryValue.lean ====
module

public import proofs.«01_k».proof.Proof.HgrnQueryTiles
public import proofs.«01_k».proof.Proof.HgrnQueryRef

/-! # The gradient of the query, as the kernel's grid computes it -/

@[expose] public section

set_option maxRecDepth 16384

noncomputable section

namespace Cert.HgrnIdeal.Query

open Cert.HgrnIdeal Cert.HgrnIdeal.Gen Cert.HgrnReal Cert.Silu Cert.HgrnQueryReal
open Cert.HgrnRefIdeal.At (col)
open Cert.HgrnIdeal.Final
open Idealize.ShloMosaic Idealize.ShloMosaic.TcCoe Idealize.SL.Sem

/-- A column of the wide block that a later store left alone. -/
theorem skip (w : FVec Ideal S128x1024 .bf16) (b : ℕ) (hb : 1024 ≤ b) (L : List (View.Piece (Elt Ideal) S128x4096 .bf16))
    (inb : ∀ a, (![0, b] : Fin S128x4096.rank → ℕ) a + S128x1024.size a ≤ S128x4096.size a) (r : Fin 128) (s : Fin 4096) (hs : s.val < 1024) :
    View.canon ((⟨Rect.unit (s := S128x4096) ![0, b] S128x1024.size inb, w⟩ : View.Piece (Elt Ideal) S128x4096 .bf16) :: L) (ix2 r s : S128x4096.Idx)
      = View.canon L (ix2 r s : S128x4096.Idx) := by
  refine View.canon_cons_of_not_mem _ _ fun hm => ?_
  have hm' : (ix2 r s : S128x4096.Idx) ∈ (Rect.unit (s := S128x4096) ![0, b] S128x1024.size inb).set := hm
  have h := (Rect.mem_set_unit.mp hm' 1).1
  have h2 : b ≤ s.val := h
  omega

/-- A column of the wide block that the first of its four stores wrote. -/
theorem first_columns (w3 w2 w1 w0 : FVec Ideal S128x1024 .bf16)
    (i3 : ∀ a, (![0, 3072] : Fin S128x4096.rank → ℕ) a + S128x1024.size a ≤ S128x4096.size a)
    (i2 : ∀ a, (![0, 2048] : Fin S128x4096.rank → ℕ) a + S128x1024.size a ≤ S128x4096.size a)
    (i1 : ∀ a, (![0, 1024] : Fin S128x4096.rank → ℕ) a + S128x1024.size a ≤ S128x4096.size a)
    (i0 : ∀ a, (![0, 0] : Fin S128x4096.rank → ℕ) a + S128x1024.size a ≤ S128x4096.size a)
    (r : Fin 128) (s : Fin 1024) (p : s.val < 4096) :
    View.canon ((⟨Rect.unit (s := S128x4096) ![0, 3072] S128x1024.size i3, w3⟩ : View.Piece (Elt Ideal) S128x4096 .bf16) ::
      ⟨Rect.unit (s := S128x4096) ![0, 2048] S128x1024.size i2, w2⟩ :: ⟨Rect.unit (s := S128x4096) ![0, 1024] S128x1024.size i1, w1⟩ ::
      ⟨Rect.unit (s := S128x4096) ![0, 0] S128x1024.size i0, w0⟩ :: []) (ix2 r (⟨s.val, p⟩ : Fin 4096) : S128x4096.Idx)
      = w0 (ix2 r s : S128x1024.Idx) := by
  refine (skip w3 3072 (by omega) _ i3 r _ s.isLt).trans ((skip w2 2048 (by omega) _ i2 r _ s.isLt).trans ((skip w1 1024 (by omega) _ i1 r _ s.isLt).trans ?_))
  have e : (ix2 r (⟨s.val, p⟩ : Fin 4096) : S128x4096.Idx) = (Rect.unit (s := S128x4096) ![0, 0] S128x1024.size i0).emb (ix2 r s : S128x1024.Idx) := by
    blk_ext
  rw [e]
  exact View.canon_cons_emb ..

variable (m : (ℓ : Loc nD τ sig) → Buf (Elt Ideal) ℓ)

/-- The first row of the lower bounds. -/
abbrev upper (c : Dev nD) (t : Fin cfg0.N) : Vec Ideal S1x1024 .f32 := View.ld (iblk m c 4 t) (Rect.unit (s := S2x1024) ![0, 0] S1x1024.size inb_S2x1024_S1x1024_0_0)

/-- The second row of the lower bounds. -/
abbrev lower (c : Dev nD) (t : Fin cfg0.N) : Vec Ideal S1x1024 .f32 := View.ld (iblk m c 4 t) (Rect.unit (s := S2x1024) ![1, 0] S1x1024.size inb_S2x1024_S1x1024_1_0)

/-- The decayed keys of a grid point. -/
abbrev keyB (c : Dev nD) (t : Fin cfg0.N) : FVec Ideal S128x1024 .bf16 :=
  k0_pay30 (k0_pay16 (k0_pay11 (upper m c t) (lower m c t)) (k0_pay12 (iblk m c 1 t)))
    (k0_pay23 mask (k0_pay13 (upper m c t) (lower m c t) (iblk m c 1 t)) (k0_pay14 (upper m c t) (lower m c t)))

/-- The gradient at the norm's input, at a grid point. -/
abbrev gradient (c : Dev nD) (t : Fin cfg0.N) : FVec Ideal S128x1024 .bf16 :=
  doB (iblk m c 6 t) (iblk m c 3 t) (iblk m c 8 t) (iblk m c 5 t)

/-- What the chunk's own rows contribute at a grid point. -/
abbrev innerB (c : Dev nD) (t : Fin cfg0.N) : FVec Ideal S128x1024 .f32 :=
  inner (iblk m c 2 t) (gradient m c t) (keyB m c t) (scaleB (iblk m c 6 t)) (normB (iblk m c 6 t))
    (k0_pay57 (k0_pay55 (iblk m c 3 t) (iblk m c 8 t)) (iblk m c 5 t)) (k0_pay55 (iblk m c 3 t) (iblk m c 8 t)) (iblk m c 5 t)

/-- The query's block of a grid point, before the conversion to its columns. -/
abbrev queryB (c : Dev nD) (t : Fin cfg0.N) : FVec Ideal S128x1024 .bf16 :=
  k0_pay803 (k0_pay20 (iblk m c 0 t)) (k0_pay21 (iblk m c 0 t)) (k0_pay22 mask (k0_pay13 (upper m c t) (lower m c t) (iblk m c 1 t)) (k0_pay14 (upper m c t) (lower m c t)))
    (k0_pay798 (innerB m c t) ((View.whole cc0_scratch1).readCov (tiles (gradient m c t) (iblk m c 7 t)) (Rect.unit (s := S128x1024) ![0, 0] S128x1024.size inb_S128x1024_S128x1024_0_0).toLoadRect))
    (k0_pay801 (k0_pay28 (Scalar.subi 16#32 (BitVec.ofNat 32 (grid0.coords t 2).val)) (iota Kind.tc S128x128 32 [0] iota_S128x128_d0_w32)))

/-- The first columns of the wide block at a grid point. -/
theorem out9q (c : Dev nD) (t : Fin cfg0.N) (r : Fin 128) (s : Fin 1024) (p : s.val < 4096) :
    ((outsAt0 m c t.val t.isLt).1 (ix2 r (⟨s.val, p⟩ : Fin 4096) : S128x4096.Idx) : EReal) = queryB m c t (ix2 r s : S128x1024.Idx) := by
  have hN : t.val < 34 := t.isLt
  by_cases h : t.val % 34 = 0
  · rw [outsAt0_A m c t (by omega) h (by omega)]
    frame_out
    exact first_columns _ _ _ _ _ _ _ _ r s p
  · by_cases h0 : t.val % 17 = 0
    · rw [outsAt0_C m c t h0 h (by omega)]
      frame_out
      exact first_columns _ _ _ _ _ _ _ _ r s p
    · rw [outsAt0_B m c t h0 h (by omega)]
      frame_out
      exact first_columns _ _ _ _ _ _ _ _ r s p

open Cert.HgrnQueryRefIdeal.At (proj crow lbAt fAt stAt oAt dyAt nAt wAt qAt dQ queryV)

/-- The reference's arguments. -/
abbrev Val := Valuation Cert.HgrnQueryRefIdeal.τ Cert.HgrnQueryRefIdeal.sig (Elt Ideal)

/-- The reference's arguments are the kernel's. -/
structure Agree (c : Dev nD) (V0 : Val) : Prop where
  a0 : (V0 (Proc.devRef .tc Cert.HgrnQueryRefIdeal.main_arg0) : FVec Ideal S4352x9216 .bf16) = m ((c.tc : Thread nD τ).loc main_arg0)
  a1 : (V0 (Proc.devRef .tc Cert.HgrnQueryRefIdeal.main_arg1) : FVec Ideal S2x1024 .f32) = m ((c.tc : Thread nD τ).loc main_arg1)
  a2 : (V0 (Proc.devRef .tc Cert.HgrnQueryRefIdeal.main_arg2) : FVec Ideal S1x1024 .f32) = m ((c.tc : Thread nD τ).loc main_arg2)
  a3 : (V0 (Proc.devRef .tc Cert.HgrnQueryRefIdeal.main_arg3) : FVec Ideal S4352x1024 .f32) = m ((c.tc : Thread nD τ).loc main_arg3)
  a4 : (V0 (Proc.devRef .tc Cert.HgrnQueryRefIdeal.main_arg4) : FVec Ideal S2x8x17x8x128x128 .f32) = m ((c.tc : Thread nD τ).loc main_arg4)
  a5 : (V0 (Proc.devRef .tc Cert.HgrnQueryRefIdeal.main_arg5) : FVec Ideal S4352x1024 .bf16) = m ((c.tc : Thread nD τ).loc main_arg5)

/-- What the claim asks of the arguments: reals, and no chunk of sixteen rows that decays past the cap. -/
structure Ready (V0 : Val) : Prop where
  x : ∀ (i : Fin 4352) (s : Fin 1024), ∃ r : ℝ, proj V0 i ⟨5120 + s.val, by omega⟩ = (r : EReal)
  g : ∀ (i : Fin 4352) (s : Fin 1024), ∃ r : ℝ, proj V0 i ⟨6144 + s.val, by omega⟩ = (r : EReal)
  b : ∀ i, ∃ r : ℝ, ((V0 (Proc.devRef .tc Cert.HgrnQueryRefIdeal.main_arg1) : FVec Ideal S2x1024 .f32) i : EReal) = (r : EReal)
  n : ∀ h k, ∃ r : ℝ, nAt V0 h k = (r : EReal)
  o : ∀ i h k, ∃ r : ℝ, oAt V0 i h k = (r : EReal)
  st : ∀ c h v k, ∃ r : ℝ, stAt V0 c h v k = (r : EReal)
  dy : ∀ i h k, ∃ r : ℝ, dyAt V0 i h k = (r : EReal)
  cap : ∀ (c : Fin 272) h k, ∑ s : Fin 16, -Ideal.log (fAt V0 (crow c s) (col h k)) ≤ ((80 : ℝ) : EReal)

/-- The four factors of the spread cotangent, in the two groupings. -/
theorem regroup_spread (d g s n : EReal) : d * g * s * n = d * (g * s) * n := by rw [mul_assoc d g s]

/-- The places of the other blocks at a grid point. -/
theorem idxq : ∀ t : Fin cfg0.N, win0_0.index t = ![t.val / 17 * 17 + (16 - t.val % 17), 3] ∧ win0_1.index t = ![t.val / 17 * 17 + (16 - t.val % 17), 4]
    ∧ win0_2.index t = ![t.val / 17 * 17 + (16 - t.val % 17), 5] ∧ win0_4.index t = ![0, 0] ∧ win0_7.index t = ![t.val / 17, 0, 16 - t.val % 17, 0, 0, 0] :=
  (by decide +kernel : ∀ t : Fin grid0.N, _)

/-- The chunk of sixteen rows. -/
abbrev sub (t : Fin cfg0.N) (j : Fin 8) : Fin 272 := ⟨(t.val / 17 * 17 + (16 - t.val % 17)) * 8 + j.val, by have : t.val < 34 := t.isLt; omega⟩

/-- A row of a grid point's block, by its chunk and place. -/
theorem row_place (t : Fin cfg0.N) (j : Fin 8) (l : Fin 16) : row t (place j l) = crow (sub t j) l :=
  Fin.ext (by
    show (t.val / 17 * 17 + (16 - t.val % 17)) * 128 + (j.val * 16 + l.val) = ((t.val / 17 * 17 + (16 - t.val % 17)) * 8 + j.val) * 16 + l.val
    omega)

variable (c : Dev nD) (V0 : Val) (ag : Agree m c V0) (t : Fin cfg0.N)
include ag

/-- An entry of the query's block. -/
theorem atQ (r : Fin 128) (s : Fin 1024) : (iblk m c 0 t (ix2 r s : S128x1024.Idx) : EReal) = qAt V0 (row t r) s := by
  unfold qAt proj
  rw [ag.a0]
  blk_point [iblk, V, idxq t]

/-- An entry of the forget gate's block. -/
theorem atY (r : Fin 128) (s : Fin 1024) : (iblk m c 1 t (ix2 r s : S128x1024.Idx) : EReal) = proj V0 (row t r) ⟨4096 + s.val, by omega⟩ := by
  unfold proj
  rw [ag.a0]
  blk_point [iblk, V, idxq t]

/-- An entry of the input's block. -/
theorem atX (r : Fin 128) (s : Fin 1024) : (iblk m c 2 t (ix2 r s : S128x1024.Idx) : EReal) = proj V0 (row t r) ⟨5120 + s.val, by omega⟩ := by
  unfold proj
  rw [ag.a0]
  blk_point [iblk, V, idxq t]

/-- An entry of the output gate's block. -/
theorem atG' (r : Fin 128) (s : Fin 1024) : (iblk m c 3 t (ix2 r s : S128x1024.Idx) : EReal) = proj V0 (row t r) ⟨6144 + s.val, by omega⟩ := by
  unfold proj
  rw [ag.a0]
  blk_point [iblk, V, idx t]

/-- An entry of the first row of the lower bounds. -/
theorem atU (s : Fin 1024) : (upper m c t (ix2 0 s : S1x1024.Idx) : EReal) = (V0 (Proc.devRef .tc Cert.HgrnQueryRefIdeal.main_arg1) : FVec Ideal S2x1024 .f32) (ix2 0 s : S2x1024.Idx) := by
  rw [ag.a1]
  unfold upper
  blk_point [iblk, V, idxq t]

/-- An entry of the second row of the lower bounds. -/
theorem atL (s : Fin 1024) : (lower m c t (ix2 0 s : S1x1024.Idx) : EReal) = (V0 (Proc.devRef .tc Cert.HgrnQueryRefIdeal.main_arg1) : FVec Ideal S2x1024 .f32) (ix2 1 s : S2x1024.Idx) := by
  rw [ag.a1]
  unfold lower
  blk_point [iblk, V, idxq t]

/-- An entry of the saved states' block. -/
theorem atS (j h : Fin 8) (v k : Fin 128) : (iblk m c 7 t (ix6 0 h 0 j v k : S1x8x1x8x128x128.Idx) : EReal) = stAt V0 (sub t j) h v k := by
  have hN : t.val < 34 := t.isLt
  unfold stAt
  rw [ag.a4]
  blk_point [iblk, V, idxq t]

/-- The reference's gradient at the norm's input, a head's row. -/
abbrev dAt (i : Fin 4352) (h : Fin 8) : Fin 128 → EReal := Cert.HgrnQueryReal.referenceGrad (oAt V0 i h) (wAt V0 i h)

variable (f : Ready V0)
include f

/-- The lower bound at a column. -/
theorem bound_eq (s : Fin 1024) : bound (upper m c t) (lower m c t) s = lbAt V0 s := by
  obtain ⟨a, ha⟩ := f.b (ix2 0 s)
  obtain ⟨b, hb⟩ := f.b (ix2 1 s)
  unfold bound
  rw [atU m c V0 ag, atL m c V0 ag, Cert.HgrnQueryRefIdeal.At.lb_eq V0 f.b s a b ha hb, ha, hb]

omit ag in
/-- The lower bound is a logistic function's value. -/
theorem lb_real (s : Fin 1024) : ∃ a : ℝ, lbAt V0 s = sigmoid (a : EReal) := by
  obtain ⟨a, ha⟩ := f.b (ix2 0 s)
  obtain ⟨b, hb⟩ := f.b (ix2 1 s)
  exact ⟨a - b, by rw [Cert.HgrnQueryRefIdeal.At.lb_eq V0 f.b s a b ha hb, EReal.coe_sub]⟩

/-- The forget gate at an entry. -/
theorem fB_eq (s : Fin 1024) (r : Fin 128) : fB (upper m c t) (lower m c t) (iblk m c 1 t) s r = fAt V0 (row t r) s := by
  unfold fB fAt
  rw [bound_eq m c V0 ag t f s, atY m c V0 ag]

omit ag in
/-- The forget gate is positive and at most one. -/
theorem fAt_real (s : Fin 1024) (i : Fin 4352) : ∃ x : ℝ, 0 < x ∧ x ≤ 1 ∧ fAt V0 i s = (x : EReal) := by
  obtain ⟨a, ha⟩ := lb_real V0 f s
  unfold fAt
  rw [ha]
  exact gate_real a _

/-- The kernel's key is one minus the gate. -/
theorem kB_eq (s : Fin 1024) (r : Fin 128) : kB (upper m c t) (lower m c t) (iblk m c 1 t) s r = 1 - fAt V0 (row t r) s := by
  have h1 := bound_eq m c V0 ag t f s
  obtain ⟨a, ha⟩ := lb_real V0 f s
  unfold kB fAt
  rw [h1, atY m c V0 ag, ha]
  exact key_eq a _

/-- The running sum at a grid point. -/
theorem run_eq (r : Fin 128) (s : Fin 1024) :
    (k0_pay18 (F := Ideal) mask (k0_pay13 (upper m c t) (lower m c t) (iblk m c 1 t)) (k0_pay14 (upper m c t) (lower m c t)) (ix2 r s : S128x1024.Idx) : EReal)
      = kernelSum (fun i => fAt V0 (row t i) s) r := by
  refine run_apply _ _ _ r s (fun i => ?_) fun i => ?_
  · rw [log_apply, fB_eq m c V0 ag t f]
  · obtain ⟨x, h0, -, hx⟩ := fAt_real V0 f s (row t i)
    refine ⟨Real.log x, ?_⟩
    show Ideal.log (fAt V0 (row t i) s) = _
    rw [hx, Ideal.log_coe, if_neg (not_le.mpr h0)]

/-- The spread cotangent at a grid point. -/
theorem spread_eq (r : Fin 128) (h : Fin 8) : spread (iblk m c 3 t) (iblk m c 8 t) (iblk m c 5 t) r h = wAt V0 (row t r) h := by
  funext k
  unfold spread wAt dyAt nAt
  rw [ag.a5, ag.a2, atG' m c V0 ag, atN, atD]
  exact regroup_spread _ _ _ _

/-- A head's row of the saved output at a grid point. -/
theorem brow_eq (r : Fin 128) (h : Fin 8) : brow (iblk m c 6 t) r h = oAt V0 (row t r) h := by
  funext k
  unfold oAt
  rw [ag.a3]
  exact atO m c t r (col h k)

omit ag in
/-- The cotangent's entries are real. -/
theorem w_real (i : Fin 4352) (h : Fin 8) (k : Fin 128) : ∃ x : ℝ, wAt V0 i h k = (x : EReal) := by
  obtain ⟨d, hd⟩ := f.dy i h k
  obtain ⟨g, hg⟩ := f.g i (col h k)
  obtain ⟨n, hn⟩ := f.n h k
  unfold wAt
  rw [hd, hg, hn, sigmoid_coe]
  exact ⟨_, by rw [← EReal.coe_mul, ← EReal.coe_mul, ← EReal.coe_mul]⟩

/-- The gradient at the norm's input. -/
theorem gradient_eq (r : Fin 128) (h : Fin 8) (k : Fin 128) : (gradient m c t (ix2 r (col h k) : S128x1024.Idx) : EReal) = dAt V0 (row t r) h k := by
  unfold gradient dAt
  rw [doB_apply, spread_eq m c V0 ag t f, brow_eq m c V0 ag t f]
  exact (grad_eq _ _ (f.o _ h) (w_real V0 f _ h) k).1

/-- The decayed key at a grid point. -/
theorem keyB_eq (r : Fin 128) (s : Fin 1024) : (keyB m c t (ix2 r s : S128x1024.Idx) : EReal)
    = (1 - fAt V0 (row t r) s) * Ideal.exp (min (0 - kernelSum (fun i => fAt V0 (row t i) s) r) (Ideal.ofBits FTy.f32 1117782016#32)) := by
  unfold keyB
  rw [keyed_apply, key_apply, run_eq m c V0 ag t f, kB_eq m c V0 ag t f]

/-- What the chunk's own rows contribute. -/
theorem innerB_eq (r : Fin 128) (h : Fin 8) (k : Fin 128) : (innerB m c t (ix2 r (col h k) : S128x1024.Idx) : EReal)
    = ∑ s : Fin 128, (if r.val / 16 = s.val / 16 ∧ s ≤ r then ∑ v, dAt V0 (row t r) h v * proj V0 (row t s) ⟨5120 + (col h v).val, by omega⟩ else 0)
        * ((1 - fAt V0 (row t s) (col h k)) * Ideal.exp (min (0 - kernelSum (fun i => fAt V0 (row t i) (col h k)) s) (Ideal.ofBits FTy.f32 1117782016#32))) := by
  refine (inner_apply (iblk m c 2 t) (keyB m c t) _ _ _ _ _ r h k).trans (Finset.sum_congr rfl fun s _ => ?_)
  rw [keyB_eq m c V0 ag t f]
  refine congrArg (· * _) ?_
  unfold masked
  refine if_congr Iff.rfl (Finset.sum_congr rfl fun v _ => ?_) rfl
  rw [atX m c V0 ag]
  exact congrArg (· * _) (gradient_eq m c V0 ag t f r h v)

omit ag f in
/-- The whole load of the scratch reads the tiles. -/
theorem scratch_apply (D : FVec Ideal S128x1024 .bf16) (S : Vec Ideal S1x8x1x8x128x128 .f32) (j : Fin 8) (l : Fin 16) (h : Fin 8) (k : Fin 128) :
    ((View.whole cc0_scratch1).readCov (tiles D S) (Rect.unit (s := S128x1024) ![0, 0] S128x1024.size inb_S128x1024_S128x1024_0_0).toLoadRect (ix2 (place j l) (col h k) : S128x1024.Idx) : EReal)
      = carried D S j l h k := by
  rw [View.readCov_eq_canon', ← tiles_apply]
  refine congrArg (View.canon (tiles D S)) ?_
  blk_ext
  · show 0 + 1 * (place j l).val = (place j l).val
    omega
  · show 0 + 1 * (col h k).val = (col h k).val
    omega

omit ag f in
/-- The sum of the two contributions. -/
theorem add_apply' (p q : FVec Ideal S128x1024 .f32) (i : S128x1024.Idx) : (k0_pay798 (F := Ideal) p q i : EReal) = p i + q i := rfl

/-- The gradient before the activation, at a grid point. -/
theorem core_point (j : Fin 8) (l : Fin 16) (h : Fin 8) (k : Fin 128) :
    ((k0_pay798 (F := Ideal) (innerB m c t) ((View.whole cc0_scratch1).readCov (tiles (gradient m c t) (iblk m c 7 t)) (Rect.unit (s := S128x1024) ![0, 0] S128x1024.size inb_S128x1024_S128x1024_0_0).toLoadRect)
        (ix2 (place j l) (col h k) : S128x1024.Idx) : EReal)
      * Ideal.exp (k0_pay18 (F := Ideal) mask (k0_pay13 (upper m c t) (lower m c t) (iblk m c 1 t)) (k0_pay14 (upper m c t) (lower m c t)) (ix2 (place j l) (col h k) : S128x1024.Idx)))
      = Cert.HgrnQueryReal.referenceCore (fun s => fAt V0 (crow (sub t j) s) (col h k)) (fun s v => proj V0 (crow (sub t j) s) ⟨5120 + (col h v).val, by omega⟩)
          (dAt V0 (crow (sub t j) l) h) (fun v => stAt V0 (sub t j) h v k) l
      ∧ ∃ x : ℝ, Cert.HgrnQueryReal.referenceCore (fun s => fAt V0 (crow (sub t j) s) (col h k)) (fun s v => proj V0 (crow (sub t j) s) ⟨5120 + (col h v).val, by omega⟩)
          (dAt V0 (crow (sub t j) l) h) (fun v => stAt V0 (sub t j) h v k) l = (x : EReal) := by
  have key := core_eq (fun i => fAt V0 (row t i) (col h k)) (fun i => 1 - fAt V0 (row t i) (col h k)) (fun s v => proj V0 (row t s) ⟨5120 + (col h v).val, by omega⟩)
    (dAt V0 (row t (place j l)) h) (fun v => stAt V0 (sub t j) h v k) (fun s => fAt_real V0 f _ _) (fun s => rfl) (fun s v => f.x _ _)
    (fun v => (grad_eq _ _ (f.o _ h) (w_real V0 f _ h) v).2) (fun v => f.st _ _ _ _) j (by simp only [row_place]; exact f.cap _ _ _) l
  simp only [row_place] at key
  refine ⟨Eq.trans ?_ key.1, key.2⟩
  rw [add_apply', scratch_apply, run_eq m c V0 ag t f, innerB_eq m c V0 ag t f]
  unfold kernelCore carried
  refine congrArg (· * _) (congrArg₂ (· + ·) ?_ (Finset.sum_congr rfl fun v _ => ?_))
  · rw [row_place]
  · rw [gradient_eq m c V0 ag t f, row_place]
    exact congrArg (_ * ·) (atS m c V0 ag t j h v k)

/-- The query's gradient at a grid point, against the reference. -/
theorem query_point (r : Fin 128) (s : Fin 1024) (p : s.val < 4096) :
    ((outsAt0 m c t.val t.isLt).1 (ix2 r (⟨s.val, p⟩ : Fin 4096) : S128x4096.Idx) : EReal)
      = Cert.HgrnQueryRefIdeal.At.wideV V0 (ix2 (row t r) (⟨s.val, p⟩ : Fin 4096) : S4352x4096.Idx) := by
  have hN : t.val < 34 := t.isLt
  obtain ⟨h, k, rfl⟩ : ∃ (h : Fin 8) (k : Fin 128), s = col h k := ⟨⟨s.val / 128, by omega⟩, ⟨s.val % 128, by omega⟩, Fin.ext (by show s.val = s.val / 128 * 128 + s.val % 128; omega)⟩
  obtain ⟨j, l, rfl⟩ : ∃ (j : Fin 8) (l : Fin 16), r = place j l := ⟨⟨r.val / 16, by omega⟩, ⟨r.val % 16, by omega⟩, Fin.ext (by show r.val = r.val / 16 * 16 + r.val % 16; omega)⟩
  obtain ⟨e1, x, hx⟩ := core_point m c V0 ag t f j l h k
  rw [out9q, Cert.HgrnQueryRefIdeal.At.wideV_apply, Cert.HgrnQueryRefIdeal.At.queryV_apply, row_place,
    Cert.HgrnQueryRefIdeal.At.dQ_apply V0 _ _ _ ((Cert.HgrnQueryRefIdeal.At.core_apply V0 (sub t j) l h k).trans hx), silu_grad]
  unfold queryB
  rw [count]
  refine (store_apply _ _ _ _ ⟨t.val % 17, by omega⟩ (place j l) (col h k)).trans ?_
  rw [e1, hx, atQ m c V0 ag, row_place]
  refine if_congr (Eq.to_iff ?_) rfl rfl
  show (112 ≤ (16 - t.val % 17) * 128 + (j.val * 16 + l.val)) = (112 ≤ (((t.val / 17 * 17 + (16 - t.val % 17)) * 8 + j.val) * 16 + l.val) % 2176)
  congr 1
  omega

/-- After the run the first columns of the wide array are the reference's. -/
theorem final9q (i : S4352x4096.Idx) (hi : (i 1).val < 1024) : (dats m 0 c).arrAt 9 (cfgs 0).N i = Cert.HgrnQueryRefIdeal.At.wideV V0 i := by
  refine (dats m 0 c).arrAt_forall_of_covers 9 (fun (i : S4352x4096.Idx) v => (i 1).val < 1024 → v = Cert.HgrnQueryRefIdeal.At.wideV V0 i)
    (by decide +kernel) (fun t hf y => ?_) i (Memref.isWhole_whole _) hi
  blk_simp
  rw [after0_9]
  idx_vars y
  have e : ((View.whole main_v0_0).slice (win0_9.rect t)).emb (ix2 y0 y1) = (ix2 (row t y0) y1 : S4352x4096.Idx) := by
    blk_ext [idx t]
  intro h
  obtain ⟨s, p, rfl⟩ : ∃ (s : Fin 1024) (p : s.val < 4096), y1 = ⟨s.val, p⟩ := by
    have h' : y1.val < 1024 := by
      have h0 : win0_9.index t 1 * 4096 + y1.val < 1024 := h
      rw [(idx t).2.2.2.2.1] at h0
      exact (by simp : y1.val = ![t.val / 17 * 17 + (16 - t.val % 17), 0] 1 * 4096 + y1.val).trans_lt h0
    exact ⟨⟨y1.val, h'⟩, by show y1.val < 4096; omega, Fin.ext rfl⟩
  rw [e]
  exact query_point m c V0 ag t f y0 s p

end Cert.HgrnIdeal.Query

end
-- ==== Proof.HgrnQueryClaim.lean ====
module

public import proofs.«01_k».proof.Defs
public import proofs.«01_k».proof.Proof.HgrnQueryValue
public import proofs.«01_k».proof.Proof.FfnClaim

/-! # The gated recurrence's backward pass leaves the reference's gradient of the query -/

@[expose] public section

set_option maxRecDepth 16384

noncomputable section

namespace Cert.HgrnQueryClaim

open Idealize.ShloMosaic Idealize.ShloMosaic.TcCoe Idealize.SL.Sem Idealize.ShloMosaic.StableHlo Cert.ConvClaim
open Cert.HgrnIdeal.Query (Val Agree Ready final9q)
open Cert.HgrnRefIdeal.At (col)

/-- The precondition's facts about shapes. -/
theorem finite_facts : Cert.Pre_finite_query.Facts :=
  ⟨by decide, by decide, by decide, by decide, by decide, by decide, by decide, by decide, by decide, by decide, by decide, by decide, by decide, by decide, by decide, by decide, by decide, by decide, by decide⟩

/-- The mask's facts about shapes. -/
theorem columns_facts : Cert.On_query_columns.Facts := ⟨by decide, by decide, by decide, by decide⟩

section
open Cert.Pre_finite_query
variable [Facts] (A : FVec Ideal S4352x9216 .bf16) (B : FVec Ideal S2x1024 .f32) (C : FVec Ideal S1x1024 .f32) (D : FVec Ideal S4352x1024 .f32)
    (E : FVec Ideal S2x8x17x8x128x128 .f32) (G : FVec Ideal S4352x1024 .bf16)

/-- The columns of the input are real numbers. -/
theorem input_real (h : (fn A B C D E G).1 = fun _ => 1#1) (i : Fin 4352) (s : Fin 1024) : ∃ r : ℝ, (A (ix2 i (⟨5120 + s.val, by omega⟩ : Fin 9216) : S4352x9216.Idx) : EReal) = (r : EReal) := by
  refine real_of_abs_lt _ (Eq.trans ?_ (congrFun h (ix2 i s : S4352x1024.Idx)))
  rw [← word_top]
  have e : extractStridedSlice S4352x1024 ![0, 5120] A Facts.slices_S4352x9216_S4352x1024_0_5120 (ix2 i s : S4352x1024.Idx) = A (ix2 i (⟨5120 + s.val, by omega⟩ : Fin 9216) : S4352x9216.Idx) := by
    pointwise
  rw [← e]
  rfl

/-- The columns of the output gate are real numbers. -/
theorem gate_real (h : (fn A B C D E G).2.1 = fun _ => 1#1) (i : Fin 4352) (s : Fin 1024) : ∃ r : ℝ, (A (ix2 i (⟨6144 + s.val, by omega⟩ : Fin 9216) : S4352x9216.Idx) : EReal) = (r : EReal) := by
  refine real_of_abs_lt _ (Eq.trans ?_ (congrFun h (ix2 i s : S4352x1024.Idx)))
  rw [← word_top]
  have e : extractStridedSlice S4352x1024 ![0, 6144] A Facts.slices_S4352x9216_S4352x1024_0_6144 (ix2 i s : S4352x1024.Idx) = A (ix2 i (⟨6144 + s.val, by omega⟩ : Fin 9216) : S4352x9216.Idx) := by
    pointwise
  rw [← e]
  rfl

/-- The lower bounds' logits are real numbers. -/
theorem bound_real (h : (fn A B C D E G).2.2.1 = fun _ => 1#1) (i : S2x1024.Idx) : ∃ r : ℝ, (B i : EReal) = (r : EReal) := by
  refine real_of_abs_lt _ (Eq.trans ?_ (congrFun h i))
  rw [← word_top]
  rfl

/-- The gain's entries are real numbers. -/
theorem gain_real (h : (fn A B C D E G).2.2.2.1 = fun _ => 1#1) (i : S1x1024.Idx) : ∃ r : ℝ, (C i : EReal) = (r : EReal) := by
  refine real_of_abs_lt _ (Eq.trans ?_ (congrFun h i))
  rw [← word_top]
  rfl

/-- The saved output's entries are real numbers. -/
theorem output_real (h : (fn A B C D E G).2.2.2.2.1 = fun _ => 1#1) (i : S4352x1024.Idx) : ∃ r : ℝ, (D i : EReal) = (r : EReal) := by
  refine real_of_abs_lt _ (Eq.trans ?_ (congrFun h i))
  rw [← word_top]
  rfl

/-- The saved states' entries are real numbers. -/
theorem state_real (h : (fn A B C D E G).2.2.2.2.2.1 = fun _ => 1#1) (i : S2x8x17x8x128x128.Idx) : ∃ r : ℝ, (E i : EReal) = (r : EReal) := by
  refine real_of_abs_lt _ (Eq.trans ?_ (congrFun h i))
  rw [← word_top]
  rfl

/-- The cotangent's entries are real numbers. -/
theorem cotangent_real (h : (fn A B C D E G).2.2.2.2.2.2.1 = fun _ => 1#1) (i : S4352x1024.Idx) : ∃ r : ℝ, (G i : EReal) = (r : EReal) := by
  refine real_of_abs_lt _ (Eq.trans ?_ (congrFun h i))
  rw [← word_top]
  rfl

end

/-- A comparison that holds is an inequality. -/
theorem le_of_cmp (x y : EReal) (h : BitVec.ofBool (decide (x ≤ y)) = 1#1) : x ≤ y := by
  by_contra hn
  rw [decide_eq_false hn] at h
  exact absurd h (by decide)

/-- The word of eighty. -/
theorem word_eighty : (Ideal.ofBits FTy.f32 0x42A00000#32 : EReal) = ((80 : ℝ) : EReal) := Cert.HgrnQueryReal.cap_word

section
open Cert.HgrnQueryRefIdeal Cert.HgrnQueryRefIdeal.At Cert.HgrnQueryRefIdeal.Value
variable [Cert.HgrnQueryRefIdeal.Facts] [Cert.Pre_finite_query.Facts] (V0 : Val)

/-- The sum over a chunk's rows of the logarithms' negatives, as the precondition writes it. -/
def chunkCap : FVec Ideal Cert.Pre_finite_query.S272x1024 .f32 :=
  Host.reduceAdd (Host.negf (shapeCast Cert.Pre_finite_query.S272x16x1024 (Host.log (res_main_v28 V0)) Cert.Pre_finite_query.Facts.shapeCasts_S4352x1024_S272x16x1024))
    (constant Cert.Pre_finite_query.S_ .f32 0x00000000#32) Cert.Pre_finite_query.Facts.reducesTo_S272x16x1024_S272x1024_d1 Cert.Pre_finite_query.Facts.h_S_

/-- That sum at an index. -/
theorem chunkCap_apply (c : Fin 272) (s : Fin 1024) : (chunkCap V0 (ix2 c s : Cert.Pre_finite_query.S272x1024.Idx) : EReal) = ∑ l : Fin 16, -Ideal.log (fAt V0 (crow c l) s) := by
  unfold chunkCap
  simp only [← f_apply]
  pointwise

/-- The sum over a chunk's rows is at most eighty. -/
theorem cap (h : (Cert.Pre_finite_query.fn (F := Ideal) (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5))).2.2.2.2.2.2.2 = fun _ => 1#1) (c : Fin 272) (s : Fin 1024) :
    ∑ l : Fin 16, -Ideal.log (fAt V0 (crow c l) s) ≤ ((80 : ℝ) : EReal) := by
  rw [← chunkCap_apply, ← word_eighty]
  refine le_of_cmp _ _ (Eq.trans ?_ (congrFun h (ix2 c s : Cert.Pre_finite_query.S272x1024.Idx)))
  rfl

/-- The reference's arguments are as the comparison asks. -/
theorem ready (h : (fun p : IVec Cert.Pre_finite_query.S4352x1024 1 × IVec Cert.Pre_finite_query.S4352x1024 1 × IVec Cert.Pre_finite_query.S2x1024 1
      × IVec Cert.Pre_finite_query.S1x1024 1 × IVec Cert.Pre_finite_query.S4352x1024 1 × IVec Cert.Pre_finite_query.S2x8x17x8x128x128 1 × IVec Cert.Pre_finite_query.S4352x1024 1
      × IVec Cert.Pre_finite_query.S272x1024 1 =>
      p.1 = (fun _ => 1#1) ∧ p.2.1 = (fun _ => 1#1) ∧ p.2.2.1 = (fun _ => 1#1) ∧ p.2.2.2.1 = (fun _ => 1#1) ∧ p.2.2.2.2.1 = (fun _ => 1#1) ∧ p.2.2.2.2.2.1 = (fun _ => 1#1)
      ∧ p.2.2.2.2.2.2.1 = (fun _ => 1#1) ∧ p.2.2.2.2.2.2.2 = (fun _ => 1#1))
    (Cert.Pre_finite_query.fn (F := Ideal) (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)))) : Ready V0 := by
  obtain ⟨h2, h3, h4, h5, h6, h7, h8, h9⟩ := h
  exact ⟨input_real _ _ _ _ _ _ h2, gate_real _ _ _ _ _ _ h3, bound_real _ _ _ _ _ _ h4,
    fun h k => gain_real _ _ _ _ _ _ h5 _, fun i h k => output_real _ _ _ _ _ _ h6 _, fun c h v k => state_real _ _ _ _ _ _ h7 _,
    fun i h k => cotangent_real _ _ _ _ _ _ h8 _, fun c h k => cap V0 h9 c (col h k)⟩

end

open Cert.On_query_columns in
/-- A column that the mask keeps is one of the first. -/
theorem kept [Facts] (A : FVec Ideal S4352x9216 .bf16) (B : FVec Ideal S2x1024 .f32) (C : FVec Ideal S1x1024 .f32) (D : FVec Ideal S4352x1024 .f32)
    (E : FVec Ideal S2x8x17x8x128x128 .f32) (G : FVec Ideal S4352x1024 .bf16) (i : S4352x4096.Idx) (h : (fn (F := Ideal) A B C D E G).1 i = 1#1) : (i 1).val < 1024 := by
  have h' : IntOp.cmpi CmpIPredicate.slt (BitVec.ofNat 32 (i 1).val) 1024#32 = 1#1 := h
  have hi : (i 1).val < 4096 := (i 1).isLt
  by_contra hn
  refine (by decide +kernel : ∀ p : Fin 3072, ¬ IntOp.cmpi CmpIPredicate.slt (BitVec.ofNat 32 (1024 + p.val)) 1024#32 = 1#1) ⟨(i 1).val - 1024, by omega⟩ ?_
  rw [show 1024 + ((i 1).val - 1024) = (i 1).val by omega]
  exact h'

open Cert.On_query_columns in
/-- The mask keeps nothing of the second result. -/
theorem none_kept [Facts] (A : FVec Ideal S4352x9216 .bf16) (B : FVec Ideal S2x1024 .f32) (C : FVec Ideal S1x1024 .f32) (D : FVec Ideal S4352x1024 .f32)
    (E : FVec Ideal S2x8x17x8x128x128 .f32) (G : FVec Ideal S4352x1024 .bf16) (i : S1x1024.Idx) : ¬ (fn (F := Ideal) A B C D E G).2 i = 1#1 := by
  intro h
  have h' : (0#1 : BitVec 1) = 1#1 := h
  exact absurd h' (by decide)

/-- The gradient of the query. -/
theorem query [Cert.HgrnIdeal.Facts] [Cert.HgrnQueryRefIdeal.Facts] [Cert.Pre_finite_query.Facts] [Cert.On_query_columns.Facts] :
    Cert.algebraic_HgrnIdeal_HgrnQueryRefIdeal_on_query_columns_pre_finite_query := by
  intro m g m' g' hpre hagree
  refine ⟨fun c => (Cert.HgrnIdeal.Gen.dats m 0 c).arrAt 9 (Cert.HgrnIdeal.cfgs 0).N, fun c => (Cert.HgrnIdeal.Gen.dats m 0 c).arrAt 11 (Cert.HgrnIdeal.cfgs 0).N, ?_, ?_⟩
  · refine θ_run_mono (Cert.HgrnIdeal.Value.run_blocks m g) ?_
    intro r hr c
    obtain ⟨h0, -, h2, hargs⟩ := hr c
    exact ⟨fun i _ => congrFun h0 i, fun i _ => congrFun h2 i, hargs⟩
  · refine θ_run_mono (Cert.HgrnQueryRefIdeal.At.run m' g') ?_
    intro r hr c
    obtain ⟨h0, hargs⟩ := hr c
    have hp := hpre c
    obtain ⟨e0, e1, e2, e3, e4, e5⟩ := hagree c
    refine ⟨fun i hi => (congrFun h0 i).trans ?_, fun i hi => absurd hi (none_kept _ _ _ _ _ _ i), hargs⟩
    have ag : Agree m c (launchContents m' c) := ⟨e0, e1, e2, e3, e4, e5⟩
    rw [← e0, ← e1, ← e2, ← e3, ← e4, ← e5] at hp
    exact (final9q m c (launchContents m' c) ag (ready (launchContents m' c) hp) i (kept _ _ _ _ _ _ i hi)).symm

end Cert.HgrnQueryClaim
end
-- ==== Proof.InProjValue.lean ====
module

public import proofs.«01_k».proof.Proof.Gen.InProjIdeal.Value
public import proofs.«01_k».proof.Proof.Gen.InProjRefIdeal.Run
public import proofs.«01_k».proof.Proof.Silu

/-! # The input projection, whose weights' rows leave out the sixteen of the step sizes -/

@[expose] public section

set_option maxRecDepth 16384

noncomputable section

namespace Cert.InProjRefIdeal.At

open Cert.InProjRefIdeal Cert.InProjRefIdeal.Gen
open Idealize.ShloMosaic Idealize.ShloMosaic.TcCoe Idealize.SL.Sem Idealize.ShloMosaic.StableHlo

/-- The row of the weights that makes a column of the projection. -/
def src (j : Fin 9216) : Fin 9232 := if j.val < 3072 then ⟨j.val, by omega⟩ else ⟨j.val + 16, by omega⟩

/-- The weights without the step sizes' columns. -/
def weights (W : FVec Ideal S9232x1024 .bf16) : FVec Ideal S1024x9216 .f32 :=
  concatenate S1024x9216 1 [⟨S1024x3072, (extractStridedSlice S1024x3072 ![0, 0] (transpose S1024x9232 [1, 0] (extf .f32 W bitsLt_bf16_f32) transposes_S9232x1024_S1024x9232_1_0) slices_S1024x9232_S1024x3072_0_0)⟩, ⟨S1024x6144, (extractStridedSlice S1024x6144 ![0, 3088] (transpose S1024x9232 [1, 0] (extf .f32 W bitsLt_bf16_f32) transposes_S9232x1024_S1024x9232_1_0) slices_S1024x9232_S1024x6144_0_3088)⟩] concatenates_S1024x3072_S1024x6144_S1024x9216_d1

/-- The reference's result. -/
def refV (A : FVec Ideal S4352x1024 .bf16) (W : FVec Ideal S9232x1024 .bf16) : FVec Ideal S4352x9216 .bf16 :=
  truncf .bf16 (Host.dotGeneral dot_S4352x1024_S1024x9216_S4352x9216_1_0_0_1_n_n none (extf .f32 A bitsLt_bf16_f32) (weights W)) bitsLt_bf16_f32

/-- The weights at an index. -/
theorem weights_apply (W : FVec Ideal S9232x1024 .bf16) (k : Fin 1024) (j : Fin 9216) :
    (weights W (ix2 k j : S1024x9216.Idx) : EReal) = W (ix2 (src j) k : S9232x1024.Idx) := by
  unfold weights src
  by_cases h : j.val < 3072
  · rw [if_pos h]
    pointwise
    exact dif_pos h
  · rw [if_neg h]
    pointwise
    rw [dif_neg h]
    exact congrArg (fun i => W (ix2 i k : S9232x1024.Idx)) (Fin.ext (by show 3088 + (j.val - 3072) = j.val + 16; omega))

/-- An entry of the product. -/
def entry (A : FVec Ideal S4352x1024 .bf16) (W : FVec Ideal S9232x1024 .bf16) (i : Fin 4352) (j : Fin 9216) : EReal :=
  ∑ k : Fin 1024, A (ix2 i k : S4352x1024.Idx) * W (ix2 (src j) k : S9232x1024.Idx)

/-- The reference's result at an index. -/
theorem refV_apply (A : FVec Ideal S4352x1024 .bf16) (W : FVec Ideal S9232x1024 .bf16) (i : Fin 4352) (j : Fin 9216) :
    (refV A W (ix2 i j : S4352x9216.Idx) : EReal) = entry A W i j := by
  unfold refV entry
  simp only [← weights_apply]
  pointwise

end Cert.InProjRefIdeal.At

namespace Cert.InProjIdeal.Final

open Cert.InProjIdeal Cert.InProjIdeal.Gen Cert.InProjRefIdeal.At
open Idealize.ShloMosaic Idealize.ShloMosaic.TcCoe Idealize.SL.Sem

/-- An entry of the product of two blocks. -/
def dot (a : Vec Ideal S1088x1024 .bf16) (w : Vec Ideal S3072x1024 .bf16) (r : Fin 1088) (s : Fin 3072) : EReal :=
  ∑ k : Fin 1024, a (ix2 r k : S1088x1024.Idx) * w (ix2 s k : S3072x1024.Idx)

/-- What a block of the result holds. -/
theorem block (a : Vec Ideal S1088x1024 .bf16) (w : Vec Ideal S3072x1024 .bf16) (r : Fin 1088) (s : Fin 3072) :
    (out0_2 a w (ix2 r s : S1088x3072.Idx) : EReal) = dot a w r s := by
  frame_out
  canon_tiles x h
  all_goals (open_payloads; pointwise; exact congrArg₂ (dot a w) (Fin.ext h0.symm) (Fin.ext h1.symm))

variable (m : (ℓ : Loc nD τ sig) → Buf (Elt Ideal) ℓ)

/-- The blocks' places at a grid point; the weights' in rows. -/
theorem idx : ∀ t : Fin cfg0.N, win0_0.index t = ![t.val % 4, 0] ∧ win0_1.index t = ![t.val / 4 * 3072 + (if t.val / 4 = 0 then 0 else 16), 0]
    ∧ win0_2.index t = ![t.val % 4, t.val / 4] :=
  (by decide +kernel : ∀ t : Fin grid0.N, _)

/-- The row of the array that a row of a grid point's block is. -/
abbrev row (t : Fin cfg0.N) (r : Fin 1088) : Fin 4352 := ⟨1088 * (t.val % 4) + r.val, by omega⟩

/-- The column of the array that a column of a grid point's block is. -/
abbrev col (t : Fin cfg0.N) (s : Fin 3072) : Fin 9216 := ⟨3072 * (t.val / 4) + s.val, by have : t.val < 12 := t.isLt; omega⟩

/-- An entry of the rows' block. -/
theorem atA (c : Dev nD) (t : Fin cfg0.N) (r : Fin 1088) (k : Fin 1024) :
    (iblk m c 0 t (ix2 r k : S1088x1024.Idx) : EReal) = m ((c.tc : Thread nD τ).loc main_arg0) (ix2 (row t r) k : S4352x1024.Idx) := by
  blk_point [iblk, V, idx t]

/-- An entry of the weights' block. -/
theorem atW (c : Dev nD) (t : Fin cfg0.N) (s : Fin 3072) (k : Fin 1024) :
    (iblk m c 1 t (ix2 s k : S3072x1024.Idx) : EReal) = m ((c.tc : Thread nD τ).loc main_arg1) (ix2 (src (col t s)) k : S9232x1024.Idx) := by
  have ht : t.val < 12 := t.isLt
  have e : (((((View.whole main_arg1).slice (win0_1.rect t)).emb (ix2 s k : S3072x1024.Idx)) 0 : Fin 9232) : ℕ) = t.val / 4 * 3072 + (if t.val / 4 = 0 then 0 else 16) + s.val := by
    have h := congrFun (idx t).2.1 0
    rw [View.emb_slice]
    show win0_1.index t 0 + 1 * s.val = _
    rw [h, one_mul]
    rfl
  have e' : (((((View.whole main_arg1).slice (win0_1.rect t)).emb (ix2 s k : S3072x1024.Idx)) 1 : Fin 1024) : ℕ) = k.val := by
    have h := congrFun (idx t).2.1 1
    rw [View.emb_slice]
    show win0_1.index t 1 + 1 * k.val = _
    rw [h, one_mul]
    exact Nat.zero_add _
  unfold src
  blk_point [iblk, V, idx t]
  rw [e]
  by_cases h : t.val / 4 = 0
  · rw [if_pos h, if_pos (by omega)]
    show t.val / 4 * 3072 + 0 + s.val = 3072 * (t.val / 4) + s.val
    omega
  · rw [if_neg h, if_neg (by omega)]
    show t.val / 4 * 3072 + 16 + s.val = 3072 * (t.val / 4) + s.val + 16
    omega

/-- The array after the run is the reference's result. -/
theorem final2 (c : Dev nD) : (dats m 0 c).arrAt 2 (cfgs 0).N
    = refV (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (refV (m ((c.tc : Thread nD τ).loc main_arg0)) (m ((c.tc : Thread nD τ).loc main_arg1))
      (((View.whole main_v0).slice (win0_2.rect t)).emb (ix2 y0 y1)) : EReal)
      = refV (m ((c.tc : Thread nD τ).loc main_arg0)) (m ((c.tc : Thread nD τ).loc main_arg1)) (ix2 (row t y0) (col t y1) : S4352x9216.Idx) := by
    blk_ext [idx t]
  refine (block _ _ y0 y1).trans (Eq.trans ?_ e.symm)
  rw [refV_apply]
  unfold dot entry
  simp only [atA, atW]

end Cert.InProjIdeal.Final
end
-- ==== Proof.MergeGradValue.lean ====
module

public import proofs.«01_k».proof.Proof.Gen.MergeGradIdeal.Value
public import proofs.«01_k».proof.Proof.Gen.MergeGradRefIdeal.Run
public import proofs.«01_k».proof.Proof.Silu

/-! # The gradient of the gated merge of the two branches -/

@[expose] public section

set_option maxRecDepth 16384

noncomputable section

namespace Cert.MergeGradRefIdeal.At

open Cert.MergeGradRefIdeal Cert.MergeGradRefIdeal.Gen Cert.Silu
open Idealize.ShloMosaic Idealize.ShloMosaic.TcCoe Idealize.SL.Sem Idealize.ShloMosaic.StableHlo

/-- An entry of the gradient of the merged branches. -/
def entry (A : FVec Ideal S4352x1024 .bf16) (W : FVec Ideal S1024x1024 .bf16) (i : Fin 4352) (j : Fin 1024) : EReal :=
  ∑ k : Fin 1024, A (ix2 i k : S4352x1024.Idx) * W (ix2 j k : S1024x1024.Idx)

/-- The column of the first gate. -/
abbrev colA (j : Fin 1024) : Fin 9216 := ⟨7168 + j.val, by omega⟩

/-- The column of the second gate. -/
abbrev colB (j : Fin 1024) : Fin 9216 := ⟨8192 + j.val, by omega⟩

/-- The gradient of the merged branches. -/
def dm (A : FVec Ideal S4352x1024 .bf16) (W : FVec Ideal S1024x1024 .bf16) : FVec Ideal S4352x1024 .f32 :=
  Host.dotGeneral dot_S4352x1024_S1024x1024_S4352x1024_1_1_0_0_n_n none (extf .f32 A bitsLt_bf16_f32) (extf .f32 W bitsLt_bf16_f32)

/-- The first gate. -/
def gateA (G : FVec Ideal S4352x9216 .bf16) : FVec Ideal S4352x1024 .f32 :=
  (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extf .f32 (extractStridedSlice S4352x1024 ![0, 7168] G slices_S4352x9216_S4352x1024_0_7168) bitsLt_bf16_f32)))))

/-- The second gate. -/
def gateB (G : FVec Ideal S4352x9216 .bf16) : FVec Ideal S4352x1024 .f32 :=
  (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extf .f32 (extractStridedSlice S4352x1024 ![0, 8192] G slices_S4352x9216_S4352x1024_0_8192) bitsLt_bf16_f32)))))

/-- The reference's gradient of the first branch. -/
def branchA (A : FVec Ideal S4352x1024 .bf16) (W : FVec Ideal S1024x1024 .bf16) (G : FVec Ideal S4352x9216 .bf16) : FVec Ideal S4352x1024 .bf16 :=
  truncf .bf16 (mulf (gateA G) (dm A W)) bitsLt_bf16_f32

/-- The reference's gradient of the second branch. -/
def branchB (A : FVec Ideal S4352x1024 .bf16) (W : FVec Ideal S1024x1024 .bf16) (G : FVec Ideal S4352x9216 .bf16) : FVec Ideal S4352x1024 .bf16 :=
  truncf .bf16 (mulf (gateB G) (dm A W)) bitsLt_bf16_f32

/-- The reference's gradient of the gates. -/
def gatesV (A : FVec Ideal S4352x1024 .bf16) (W : FVec Ideal S1024x1024 .bf16) (G : FVec Ideal S4352x9216 .bf16) (P Q : FVec Ideal S4352x1024 .bf16) : FVec Ideal S4352x2048 .bf16 :=
  truncf .bf16 (concatenate S4352x2048 1 [⟨S4352x1024, (mulf (mulf (dm A W) (extf .f32 P bitsLt_bf16_f32)) (mulf (gateA G) (subf (broadcastInDim S4352x1024 ![] bcast_S_S4352x1024 (constant S_ .f32 0x3F800000#32)) (gateA G))))⟩, ⟨S4352x1024, (mulf (mulf (dm A W) (extf .f32 Q bitsLt_bf16_f32)) (mulf (gateB G) (subf (broadcastInDim S4352x1024 ![] bcast_S_S4352x1024 (constant S_ .f32 0x3F800000#32)) (gateB G))))⟩] concatenates_S4352x1024_S4352x1024_S4352x2048_d1) bitsLt_bf16_f32

/-- The gradient of a gate's entry, given the gradient of the merge, the branch and the gate's argument. -/
def gateGrad (d p g : EReal) : EReal := d * p * (sigmoid g * ((Ideal.ofBits FTy.f32 1065353216#32 : EReal) - sigmoid g))

/-- The first branch's gradient at an index. -/
theorem branchA_apply (A : FVec Ideal S4352x1024 .bf16) (W : FVec Ideal S1024x1024 .bf16) (G : FVec Ideal S4352x9216 .bf16) (i : Fin 4352) (j : Fin 1024) :
    (branchA A W G (ix2 i j : S4352x1024.Idx) : EReal) = sigmoid (G (ix2 i (colA j) : S4352x9216.Idx)) * entry A W i j := by
  unfold branchA gateA dm; pointwise [sigmoid]; rfl

/-- The second branch's gradient at an index. -/
theorem branchB_apply (A : FVec Ideal S4352x1024 .bf16) (W : FVec Ideal S1024x1024 .bf16) (G : FVec Ideal S4352x9216 .bf16) (i : Fin 4352) (j : Fin 1024) :
    (branchB A W G (ix2 i j : S4352x1024.Idx) : EReal) = sigmoid (G (ix2 i (colB j) : S4352x9216.Idx)) * entry A W i j := by
  unfold branchB gateB dm; pointwise [sigmoid]; rfl

/-- The gates' gradient at an index. -/
theorem gatesV_apply (A : FVec Ideal S4352x1024 .bf16) (W : FVec Ideal S1024x1024 .bf16) (G : FVec Ideal S4352x9216 .bf16) (P Q : FVec Ideal S4352x1024 .bf16) (i : Fin 4352) (j : Fin 2048) :
    (gatesV A W G P Q (ix2 i j : S4352x2048.Idx) : EReal)
      = if h : j.val < 1024 then gateGrad (entry A W i ⟨j.val, h⟩) (P (ix2 i ⟨j.val, h⟩ : S4352x1024.Idx)) (G (ix2 i (colA ⟨j.val, h⟩) : S4352x9216.Idx))
        else gateGrad (entry A W i ⟨j.val - 1024, by omega⟩) (Q (ix2 i ⟨j.val - 1024, by omega⟩ : S4352x1024.Idx)) (G (ix2 i (colB ⟨j.val - 1024, by omega⟩) : S4352x9216.Idx)) := by
  unfold gatesV gateA gateB dm gateGrad; pointwise [sigmoid]; rfl

end Cert.MergeGradRefIdeal.At

namespace Cert.MergeGradIdeal.Final

open Cert.MergeGradIdeal Cert.MergeGradIdeal.Gen Cert.Silu Cert.MergeGradRefIdeal.At
open Idealize.ShloMosaic Idealize.ShloMosaic.TcCoe Idealize.SL.Sem

/-- An entry of the product of two blocks. -/
def dot (a : Vec Ideal S1088x1024 .bf16) (w : Vec Ideal S1024x1024 .bf16) (r : Fin 1088) (s : Fin 1024) : EReal :=
  ∑ k : Fin 1024, a (ix2 r k : S1088x1024.Idx) * w (ix2 s k : S1024x1024.Idx)

/-- The kernel's sigmoid. -/
def gate (x : EReal) : EReal := (Ideal.ofBits FTy.f32 1056964608#32 : EReal) * Ideal.tanh ((Ideal.ofBits FTy.f32 1056964608#32 : EReal) * x) + (Ideal.ofBits FTy.f32 1056964608#32 : EReal)

/-- The kernel's gate is the sigmoid. -/
theorem gate_eq (x : EReal) : gate x = sigmoid x := half_tanh x

/-- What a block of the first branch's gradient holds. -/
theorem block_a (a : Vec Ideal S1088x1024 .bf16) (w : Vec Ideal S1024x1024 .bf16) (g q p b : Vec Ideal S1088x1024 .bf16) (r : Fin 1088) (s : Fin 1024) :
    (out0_6 a w g q p b (ix2 r s : S1088x1024.Idx) : EReal) = dot a w r s * gate (g (ix2 r s : S1088x1024.Idx)) := by
  frame_out
  open_payloads
  pointwise [gate]
  rfl

/-- What a block of the second branch's gradient holds. -/
theorem block_b (a : Vec Ideal S1088x1024 .bf16) (w : Vec Ideal S1024x1024 .bf16) (g q p b : Vec Ideal S1088x1024 .bf16) (r : Fin 1088) (s : Fin 1024) :
    (out0_7 a w g q p b (ix2 r s : S1088x1024.Idx) : EReal) = dot a w r s * gate (q (ix2 r s : S1088x1024.Idx)) := by
  frame_out
  open_payloads
  pointwise [gate]
  rfl

/-- The kernel's gradient of a gate's entry. -/
def blockGrad (d p g : EReal) : EReal := d * p * gate g * ((Ideal.ofBits FTy.f32 1065353216#32 : EReal) - gate g)

/-- The two spellings of the gate's gradient agree. -/
theorem blockGrad_eq (d p g : EReal) : blockGrad d p g = gateGrad d p g := by
  unfold blockGrad gateGrad
  rw [gate_eq, mul_assoc]

/-- What a block of the gates' gradient holds. -/
theorem block_g (a : Vec Ideal S1088x1024 .bf16) (w : Vec Ideal S1024x1024 .bf16) (g q p b : Vec Ideal S1088x1024 .bf16) (r : Fin 1088) (s : Fin 2048) :
    (out0_8 a w g q p b (ix2 r s : S1088x2048.Idx) : EReal)
      = if h : s.val < 1024 then blockGrad (dot a w r ⟨s.val, h⟩) (p (ix2 r ⟨s.val, h⟩ : S1088x1024.Idx)) (g (ix2 r ⟨s.val, h⟩ : S1088x1024.Idx))
        else blockGrad (dot a w r ⟨s.val - 1024, by omega⟩) (b (ix2 r ⟨s.val - 1024, by omega⟩ : S1088x1024.Idx)) (q (ix2 r ⟨s.val - 1024, by omega⟩ : S1088x1024.Idx)) := by
  frame_out
  open_payloads
  pointwise [blockGrad, gate]
  rfl

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 7] ∧ win0_3.index t = ![t.val, 8] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The row of the array that a row of a grid point's block is. -/
abbrev row (t : Fin cfg0.N) (r : Fin 1088) : Fin 4352 := ⟨1088 * t.val + r.val, by have : t.val < 4 := t.isLt; omega⟩

/-- An entry of the cotangent's block. -/
theorem atA (c : Dev nD) (t : Fin cfg0.N) (r : Fin 1088) (s : Fin 1024) :
    (iblk m c 0 t (ix2 r s : S1088x1024.Idx) : EReal) = m ((c.tc : Thread nD τ).loc main_arg0) (ix2 (row t r) s : S4352x1024.Idx) := by
  blk_point [iblk, V, idx t]

/-- An entry of the weights' block. -/
theorem atW (c : Dev nD) (t : Fin cfg0.N) (r : Fin 1024) (s : Fin 1024) :
    (iblk m c 1 t (ix2 r s : S1024x1024.Idx) : EReal) = m ((c.tc : Thread nD τ).loc main_arg1) (ix2 r s : S1024x1024.Idx) := by
  blk_point [iblk, V, idx t]

/-- An entry of the first gate's block. -/
theorem atG (c : Dev nD) (t : Fin cfg0.N) (r : Fin 1088) (s : Fin 1024) :
    (iblk m c 2 t (ix2 r s : S1088x1024.Idx) : EReal) = m ((c.tc : Thread nD τ).loc main_arg2) (ix2 (row t r) (colA s) : S4352x9216.Idx) := by
  blk_point [iblk, V, idx t]

/-- An entry of the second gate's block. -/
theorem atQ (c : Dev nD) (t : Fin cfg0.N) (r : Fin 1088) (s : Fin 1024) :
    (iblk m c 3 t (ix2 r s : S1088x1024.Idx) : EReal) = m ((c.tc : Thread nD τ).loc main_arg2) (ix2 (row t r) (colB s) : S4352x9216.Idx) := by
  blk_point [iblk, V, idx t]

/-- An entry of the first branch's block. -/
theorem atP (c : Dev nD) (t : Fin cfg0.N) (r : Fin 1088) (s : Fin 1024) :
    (iblk m c 4 t (ix2 r s : S1088x1024.Idx) : EReal) = m ((c.tc : Thread nD τ).loc main_arg3) (ix2 (row t r) s : S4352x1024.Idx) := by
  blk_point [iblk, V, idx t]

/-- An entry of the second branch's block. -/
theorem atB (c : Dev nD) (t : Fin cfg0.N) (r : Fin 1088) (s : Fin 1024) :
    (iblk m c 5 t (ix2 r s : S1088x1024.Idx) : EReal) = m ((c.tc : Thread nD τ).loc main_arg4) (ix2 (row t r) s : S4352x1024.Idx) := by
  blk_point [iblk, V, idx t]

/-- The product at a grid point. -/
theorem dotE (c : Dev nD) (t : Fin cfg0.N) (r : Fin 1088) (s : Fin 1024) :
    dot (iblk m c 0 t) (iblk m c 1 t) r s = entry (m ((c.tc : Thread nD τ).loc main_arg0)) (m ((c.tc : Thread nD τ).loc main_arg1)) (row t r) s := by
  unfold dot entry
  simp only [atA, atW]

/-- The first branch's gradient after the run is the reference's. -/
theorem final6 (c : Dev nD) : (dats m 0 c).arrAt 6 (cfgs 0).N = branchA (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  blk_simp
  rw [after0_6]
  idx_vars y
  have e : (branchA (m ((c.tc : Thread nD τ).loc main_arg0)) (m ((c.tc : Thread nD τ).loc main_arg1)) (m ((c.tc : Thread nD τ).loc main_arg2)) (((View.whole main_v0_0).slice (win0_6.rect t)).emb (ix2 y0 y1)) : EReal)
      = branchA (m ((c.tc : Thread nD τ).loc main_arg0)) (m ((c.tc : Thread nD τ).loc main_arg1)) (m ((c.tc : Thread nD τ).loc main_arg2)) (ix2 (row t y0) y1 : S4352x1024.Idx) := by
    blk_ext [idx t]
  refine (block_a _ _ _ _ _ _ y0 y1).trans (Eq.trans ?_ e.symm)
  rw [branchA_apply, dotE, gate_eq, atG]
  exact mul_comm _ _

/-- The second branch's gradient after the run is the reference's. -/
theorem final7 (c : Dev nD) : (dats m 0 c).arrAt 7 (cfgs 0).N = branchB (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  blk_simp
  rw [after0_7]
  idx_vars y
  have e : (branchB (m ((c.tc : Thread nD τ).loc main_arg0)) (m ((c.tc : Thread nD τ).loc main_arg1)) (m ((c.tc : Thread nD τ).loc main_arg2)) (((View.whole main_v0_1).slice (win0_7.rect t)).emb (ix2 y0 y1)) : EReal)
      = branchB (m ((c.tc : Thread nD τ).loc main_arg0)) (m ((c.tc : Thread nD τ).loc main_arg1)) (m ((c.tc : Thread nD τ).loc main_arg2)) (ix2 (row t y0) y1 : S4352x1024.Idx) := by
    blk_ext [idx t]
  refine (block_b _ _ _ _ _ _ y0 y1).trans (Eq.trans ?_ e.symm)
  rw [branchB_apply, dotE, gate_eq, atQ]
  exact mul_comm _ _

/-- The gates' gradient after the run is the reference's. -/
theorem final8 (c : Dev nD) : (dats m 0 c).arrAt 8 (cfgs 0).N = gatesV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  blk_simp
  rw [after0_8]
  idx_vars y
  have e : (gatesV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((View.whole main_v0_2).slice (win0_8.rect t)).emb (ix2 y0 y1)) : EReal)
      = gatesV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t y0) y1 : S4352x2048.Idx) := by
    blk_ext [idx t]
  refine (block_g _ _ _ _ _ _ y0 y1).trans (Eq.trans ?_ e.symm)
  rw [gatesV_apply]
  by_cases h : y1.val < 1024
  · rw [dif_pos h, dif_pos h, blockGrad_eq, dotE, atP, atG]
  · rw [dif_neg h, dif_neg h, blockGrad_eq, dotE, atB, atQ]

end Cert.MergeGradIdeal.Final

end
-- ==== Proof.UnGradValue.lean ====
module

public import proofs.«01_k».proof.Proof.Gen.UnGradIdeal.Value
public import proofs.«01_k».proof.Proof.Gen.UnGradRefIdeal.Run
public import proofs.«01_k».proof.Proof.NormReal

/-! # The gradient of the normalisation that opens the mixer, through the input projection -/

@[expose] public section

set_option maxRecDepth 16384

noncomputable section

namespace Cert.UnGradRefIdeal.At

open Cert.UnGradRefIdeal Cert.UnGradRefIdeal.Gen Cert.NormReal
open Idealize.ShloMosaic Idealize.ShloMosaic.TcCoe Idealize.SL.Sem Idealize.ShloMosaic.StableHlo

/-- The row of the weights that makes a column of the projection. -/
def src (j : Fin 9216) : Fin 9232 := if j.val < 3072 then ⟨j.val, by omega⟩ else ⟨j.val + 16, by omega⟩

/-- The weights without the step sizes' columns. -/
def weights (W : FVec Ideal S9232x1024 .bf16) : FVec Ideal S1024x9216 .f32 :=
  concatenate S1024x9216 1 [⟨S1024x3072, (extractStridedSlice S1024x3072 ![0, 0] (transpose S1024x9232 [1, 0] (extf .f32 W bitsLt_bf16_f32) transposes_S9232x1024_S1024x9232_1_0) slices_S1024x9232_S1024x3072_0_0)⟩, ⟨S1024x6144, (extractStridedSlice S1024x6144 ![0, 3088] (transpose S1024x9232 [1, 0] (extf .f32 W bitsLt_bf16_f32) transposes_S9232x1024_S1024x9232_1_0) slices_S1024x9232_S1024x6144_0_3088)⟩] concatenates_S1024x3072_S1024x6144_S1024x9216_d1

/-- The weights at an index. -/
theorem weights_apply (W : FVec Ideal S9232x1024 .bf16) (k : Fin 1024) (j : Fin 9216) :
    (weights W (ix2 k j : S1024x9216.Idx) : EReal) = W (ix2 (src j) k : S9232x1024.Idx) := by
  unfold weights src
  by_cases h : j.val < 3072
  · rw [if_pos h]
    pointwise
    exact dif_pos h
  · rw [if_neg h]
    pointwise
    rw [dif_neg h]
    exact congrArg (fun i => W (ix2 i k : S9232x1024.Idx)) (Fin.ext (by show 3088 + (j.val - 3072) = j.val + 16; omega))

/-- The gradient of the normalised rows: what the step sizes contribute, and the product. -/
def dn (D : FVec Ideal S4352x9216 .bf16) (W : FVec Ideal S9232x1024 .bf16) (U : FVec Ideal S4352x1024 .f32) : FVec Ideal S4352x1024 .f32 :=
  addf U (Host.dotGeneral dot_S4352x9216_S1024x9216_S4352x1024_1_1_0_0_n_n none (extf .f32 D bitsLt_bf16_f32) (weights W))

/-- The mean of the squares of each row, with its constant. -/
def ms (H : FVec Ideal S4352x1024 .f32) : FVec Ideal S4352x1 .f32 :=
  addf (Host.divf (broadcastInDim S4352x1 ![0] bcast_S4352_S4352x1_0 (Host.reduceAdd (mulf H H) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))

/-- The gradient times the gain. -/
def gw (D : FVec Ideal S4352x9216 .bf16) (W : FVec Ideal S9232x1024 .bf16) (U : FVec Ideal S4352x1024 .f32) (N : FVec Ideal S1x1024 .f32) : FVec Ideal S4352x1024 .f32 :=
  mulf (dn D W U) (broadcastInDim S4352x1024 ![0, 1] bcast_S1x1024_S4352x1024_0_1 N)

/-- What the derivative of the factor contributes. -/
def part (D : FVec Ideal S4352x9216 .bf16) (W : FVec Ideal S9232x1024 .bf16) (U : FVec Ideal S4352x1024 .f32) (H : FVec Ideal S4352x1024 .f32) (N : FVec Ideal S1x1024 .f32) : FVec Ideal S4352x1024 .f32 :=
  broadcastInDim S4352x1024 ![0] bcast_S4352_S4352x1024_0 (Host.reduceAdd (Host.divf (mulf (shapeCast _ (Host.reduceAdd (mulf H (gw D W U N)) (constant S_ .f32 0x00000000#32) reducesTo_S4352x1024_S4352_d1 h_S_) shapeCasts_S4352_S4352x1) (mulf (broadcastInDim S4352x1 ![] bcast_S_S4352x1 (constant S_ .f32 0xBF000000#32)) (Host.divf (Host.rsqrt (ms H)) (ms H)))) (broadcastInDim S4352x1 ![] bcast_S_S4352x1 (constant S_ .f32 0x44800000#32))) (constant S_ .f32 0x00000000#32) reducesTo_S4352x1_S4352_d1 h_S_)

/-- The reference's gradient of the rows. -/
def rowsV (D : FVec Ideal S4352x9216 .bf16) (W : FVec Ideal S9232x1024 .bf16) (U : FVec Ideal S4352x1024 .f32) (H E : FVec Ideal S4352x1024 .f32) (N : FVec Ideal S1x1024 .f32) : FVec Ideal S4352x1024 .f32 :=
  addf (addf (addf E (mulf (gw D W U N) (broadcastInDim S4352x1024 ![0, 1] bcast_S4352x1_S4352x1024_0_1 (Host.rsqrt (ms H))))) (mulf H (part D W U H N))) (mulf (part D W U H N) H)

/-- … rounded. -/
def roundV (D : FVec Ideal S4352x9216 .bf16) (W : FVec Ideal S9232x1024 .bf16) (U : FVec Ideal S4352x1024 .f32) (H E : FVec Ideal S4352x1024 .f32) (N : FVec Ideal S1x1024 .f32) : FVec Ideal S4352x1024 .bf16 :=
  truncf .bf16 (rowsV D W U H E N) bitsLt_bf16_f32

/-- The reference's gradient of the gain. -/
def gainV (D : FVec Ideal S4352x9216 .bf16) (W : FVec Ideal S9232x1024 .bf16) (U : FVec Ideal S4352x1024 .f32) (H : FVec Ideal S4352x1024 .f32) : FVec Ideal S1x1024 .f32 :=
  shapeCast _ (Host.reduceAdd (mulf (mulf H (broadcastInDim S4352x1024 ![0, 1] bcast_S4352x1_S4352x1024_0_1 (Host.rsqrt (ms H)))) (dn D W U)) (constant S_ .f32 0x00000000#32) reducesTo_S4352x1024_S1024_d0 h_S_) shapeCasts_S1024_S1x1024

/-- The reference's run leaves these rows. -/
theorem rows_eq (m : (ℓ : Loc nD τ sig) → Buf (Elt Ideal) ℓ) (c : Dev nD) : Value.res_main_v43 (F := Ideal) m c = rowsV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v43 rowsV part gw dn weights ms
  rfl

/-- The reference's run leaves these rounded rows. -/
theorem round_eq (m : (ℓ : Loc nD τ sig) → Buf (Elt Ideal) ℓ) (c : Dev nD) : Value.res_main_v44 (F := Ideal) m c = roundV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v44 roundV rowsV part gw dn weights ms
  rfl

/-- An entry of the product of the cotangent with the weights. -/
def prodAt (D : FVec Ideal S4352x9216 .bf16) (W : FVec Ideal S9232x1024 .bf16) (i : Fin 4352) (j : Fin 1024) : EReal :=
  ∑ k : Fin 9216, D (ix2 i k : S4352x9216.Idx) * W (ix2 (src k) j : S9232x1024.Idx)

/-- The part of an entry of the product that one step of the kernel sums. -/
def partAt (D : FVec Ideal S4352x9216 .bf16) (W : FVec Ideal S9232x1024 .bf16) (i : Fin 4352) (j : Fin 1024) (f : Fin 3072 → Fin 9216) : EReal :=
  ∑ k : Fin 3072, D (ix2 i (f k) : S4352x9216.Idx) * W (ix2 (src (f k)) j : S9232x1024.Idx)

/-- The gradient of the normalised rows, at an index. -/
def dnAt (D : FVec Ideal S4352x9216 .bf16) (W : FVec Ideal S9232x1024 .bf16) (U : FVec Ideal S4352x1024 .f32) (i : Fin 4352) (j : Fin 1024) : EReal :=
  U (ix2 i j : S4352x1024.Idx) + prodAt D W i j

/-- A row of the array. -/
def rowAt (H : FVec Ideal S4352x1024 .f32) (i : Fin 4352) (k : Fin 1024) : EReal := H (ix2 i k : S4352x1024.Idx)

/-- The gain. -/
def gainAt (N : FVec Ideal S1x1024 .f32) (k : Fin 1024) : EReal := N (ix2 0 k : S1x1024.Idx)

/-- … as the reference spells it. -/
theorem dn_apply (D : FVec Ideal S4352x9216 .bf16) (W : FVec Ideal S9232x1024 .bf16) (U : FVec Ideal S4352x1024 .f32) (i : Fin 4352) (j : Fin 1024) : (dn D W U (ix2 i j : S4352x1024.Idx) : EReal) = dnAt D W U i j := by
  unfold dn dnAt prodAt
  simp only [← weights_apply]
  pointwise

/-- The mean of the squares at a row. -/
theorem ms_apply (H : FVec Ideal S4352x1024 .f32) (i : Fin 4352) : (ms H (ix2 i 0 : S4352x1.Idx) : EReal) = square (rowAt H i) := by
  unfold ms square rowAt; pointwise

/-- The gradient times the gain, at an index. -/
theorem gw_apply (D : FVec Ideal S4352x9216 .bf16) (W : FVec Ideal S9232x1024 .bf16) (U : FVec Ideal S4352x1024 .f32) (N : FVec Ideal S1x1024 .f32) (i : Fin 4352) (j : Fin 1024) :
    (gw D W U N (ix2 i j : S4352x1024.Idx) : EReal) = dnAt D W U i j * gainAt N j := by
  unfold gw gainAt; rw [← dn_apply]; pointwise

/-- What the derivative of the factor contributes, at an index. -/
theorem part_apply (D : FVec Ideal S4352x9216 .bf16) (W : FVec Ideal S9232x1024 .bf16) (U : FVec Ideal S4352x1024 .f32) (H : FVec Ideal S4352x1024 .f32) (N : FVec Ideal S1x1024 .f32) (i : Fin 4352) (j : Fin 1024) :
    (part D W U H N (ix2 i j : S4352x1024.Idx) : EReal) = NormReal.part (dnAt D W U i) (gainAt N) (rowAt H i) := by
  unfold part NormReal.part scale
  rw [← ms_apply]
  simp only [← gw_apply]
  unfold rowAt
  pointwise
  exact Fintype.sum_unique _

/-- The gradient of the rows, at an index. -/
theorem rowsV_apply (D : FVec Ideal S4352x9216 .bf16) (W : FVec Ideal S9232x1024 .bf16) (U : FVec Ideal S4352x1024 .f32) (H E : FVec Ideal S4352x1024 .f32) (N : FVec Ideal S1x1024 .f32) (i : Fin 4352) (j : Fin 1024) :
    (rowsV D W U H E N (ix2 i j : S4352x1024.Idx) : EReal)
      = referenceGrad (E (ix2 i j : S4352x1024.Idx)) (dnAt D W U i) (gainAt N) (rowAt H i) j := by
  unfold rowsV referenceGrad scale
  rw [← ms_apply, ← gw_apply, ← part_apply D W U H N i j]
  unfold rowAt
  pointwise

/-- The rounded rows are the rows. -/
theorem roundV_apply (D : FVec Ideal S4352x9216 .bf16) (W : FVec Ideal S9232x1024 .bf16) (U : FVec Ideal S4352x1024 .f32) (H E : FVec Ideal S4352x1024 .f32) (N : FVec Ideal S1x1024 .f32) (i : Fin 4352) (j : Fin 1024) :
    (roundV D W U H E N (ix2 i j : S4352x1024.Idx) : EReal)
      = referenceGrad (E (ix2 i j : S4352x1024.Idx)) (dnAt D W U i) (gainAt N) (rowAt H i) j := by
  rw [← rowsV_apply]
  unfold roundV
  pointwise

/-- The gradient of the gain, at an index. -/
theorem gainV_apply (D : FVec Ideal S4352x9216 .bf16) (W : FVec Ideal S9232x1024 .bf16) (U : FVec Ideal S4352x1024 .f32) (H : FVec Ideal S4352x1024 .f32) (j : Fin 1024) :
    (gainV D W U H (ix2 0 j : S1x1024.Idx) : EReal) = ∑ i : Fin 4352, rowAt H i j * scale (rowAt H i) * dnAt D W U i j := by
  unfold gainV scale
  simp only [← ms_apply, ← dn_apply]
  unfold rowAt
  pointwise

end Cert.UnGradRefIdeal.At

namespace Cert.UnGradIdeal.Final

open Cert.UnGradIdeal Cert.UnGradIdeal.Gen Cert.NormReal Cert.Products Cert.UnGradRefIdeal.At
open Idealize.ShloMosaic Idealize.ShloMosaic.TcCoe Idealize.SL.Sem

/-- An entry of the product of two blocks. -/
def dot (x : Vec Ideal S544x3072 .bf16) (w : Vec Ideal S3072x1024 .bf16) (r : Fin 544) (s : Fin 1024) : EReal :=
  ∑ k : Fin 3072, x (ix2 r k : S544x3072.Idx) * w (ix2 k s : S3072x1024.Idx)

/-- A row of a block. -/
def brow (a : Vec Ideal S544x1024 .f32) (r : Fin 544) (k : Fin 1024) : EReal := a (ix2 r k : S544x1024.Idx)

/-- A row of the product with what the step sizes contribute. -/
def drow (p u : Vec Ideal S544x1024 .f32) (r : Fin 544) (k : Fin 1024) : EReal := p (ix2 r k : S544x1024.Idx) + u (ix2 r k : S544x1024.Idx)

/-- The accumulator after its first step. -/
theorem first_apply (x : Vec Ideal S544x3072 .bf16) (w : Vec Ideal S3072x1024 .bf16) (r : Fin 544) (s : Fin 1024) :
    (k0_pay2 (F := Ideal) x w (ix2 r s : S544x1024.Idx) : EReal) = dot x w r s := by
  unfold dot
  pointwise [k0_pay2, k0_pay1]

/-- The accumulator after a later step. -/
theorem step_apply (x : Vec Ideal S544x3072 .bf16) (w : Vec Ideal S3072x1024 .bf16) (p : Vec Ideal S544x1024 .f32) (r : Fin 544) (s : Fin 1024) :
    (k0_pay3 (F := Ideal) x w p (ix2 r s : S544x1024.Idx) : EReal) = p (ix2 r s : S544x1024.Idx) + dot x w r s := by
  unfold dot
  pointwise [k0_pay3, k0_pay1]

/-- What a block of the rows' gradient holds. -/
theorem rows_apply (p u a e : Vec Ideal S544x1024 .f32) (n : Vec Ideal S1x1024 .f32) (r : Fin 544) (s : Fin 1024) :
    (k0_pay8 (F := Ideal) p u a e n (ix2 r s : S544x1024.Idx) : EReal) = kernelGrad (e (ix2 r s : S544x1024.Idx)) (drow p u r) (gainAt n) (brow a r) s := by
  unfold kernelGrad scale square drow brow gainAt
  pointwise [k0_pay8, k0_pay7, k0_pay6, k0_pay5]

/-- … rounded. -/
theorem round_apply (p u a e : Vec Ideal S544x1024 .f32) (n : Vec Ideal S1x1024 .f32) (r : Fin 544) (s : Fin 1024) :
    (k0_pay10 (F := Ideal) p u a e n (ix2 r s : S544x1024.Idx) : EReal) = kernelGrad (e (ix2 r s : S544x1024.Idx)) (drow p u r) (gainAt n) (brow a r) s := by
  rw [← rows_apply]
  pointwise [k0_pay10]

/-- What a block of rows adds to the gain's gradient. -/
theorem gain_apply (p u a : Vec Ideal S544x1024 .f32) (s : Fin 1024) :
    (k0_pay9 (F := Ideal) p u a (ix2 0 s : S1x1024.Idx) : EReal) = ∑ r : Fin 544, drow p u r s * (brow a r s * scale (brow a r)) := by
  unfold scale square drow brow
  pointwise [k0_pay9, k0_pay7, k0_pay6, k0_pay5]

/-- The accumulation adds. -/
theorem add_apply (p q : FVec Ideal S1x1024 .f32) (s : Fin 1024) :
    (k0_pay4 (F := Ideal) p q (ix2 0 s : S1x1024.Idx) : EReal) = q (ix2 0 s : S1x1024.Idx) + p (ix2 0 s : S1x1024.Idx) := by
  pointwise [k0_pay4]

variable (m : (ℓ : Loc nD τ sig) → Buf (Elt Ideal) ℓ)

/-- The blocks' places at a grid point; the weights' in rows. -/
theorem idx : ∀ t : Fin cfg0.N, win0_0.index t = ![t.val / 3, t.val % 3] ∧ win0_1.index t = ![t.val % 3 * 3072 + (if t.val % 3 = 0 then 0 else 16), 0]
    ∧ win0_2.index t = ![t.val / 3, 0] ∧ win0_3.index t = ![t.val / 3, 0] ∧ win0_4.index t = ![t.val / 3, 0] ∧ win0_5.index t = ![0, 0]
    ∧ win0_6.index t = ![t.val / 3, 0] ∧ win0_7.index t = ![t.val / 3, 0] ∧ win0_8.index t = ![0, 0] :=
  (by decide +kernel : ∀ t : Fin grid0.N, _)

/-- The row of the array that a row of a grid point's block is. -/
abbrev row (t : Fin cfg0.N) (r : Fin 544) : Fin 4352 := ⟨544 * (t.val / 3) + r.val, by have : t.val < 24 := t.isLt; omega⟩

/-- The column of the cotangent that a column of a grid point's block is. -/
abbrev col (t : Fin cfg0.N) (k : Fin 3072) : Fin 9216 := ⟨t.val % 3 * 3072 + k.val, by omega⟩

/-- The grid point before. -/
abbrev prev (t : Fin cfg0.N) : Fin cfg0.N := ⟨t.val - 1, Nat.lt_of_le_of_lt (Nat.sub_le _ _) t.isLt⟩

/-- The accumulator after a grid point. -/
abbrev accAt (c : Dev nD) (t : Fin cfg0.N) : Vec Ideal S544x1024 .f32 := (outsAt0 m c t.val t.isLt).2.2.2

/-- The accumulator after a grid point that is not the first of its rows. -/
abbrev stepAt (c : Dev nD) (t : Fin cfg0.N) : Vec Ideal S544x1024 .f32 := k0_pay3 (iblk m c 0 t) (iblk m c 1 t) (accAt m c (prev t))

/-- The accumulator after the first grid point of a block of rows. -/
theorem acc_A (c : Dev nD) (t : Fin cfg0.N) (h : t.val % 3 = 0) : accAt m c t = k0_pay2 (iblk m c 0 t) (iblk m c 1 t) := by
  unfold accAt
  rw [outsAt0_A m c t h (by omega) (by omega)]; frame_out

/-- The accumulator after the second. -/
theorem acc_B (c : Dev nD) (t : Fin cfg0.N) (h : t.val % 3 = 1) : accAt m c t = stepAt m c t := by
  unfold accAt
  rw [outsAt0_B m c t (by omega) (by omega) (by omega)]; frame_out; exact congrArg (k0_pay3 _ _) (Memref.IsWhole.read_unread _ _)

/-- The rows' gradient at the last grid point of a block of rows. -/
theorem out6 (c : Dev nD) (t : Fin cfg0.N) (h : t.val % 3 = 2) : (outsAt0 m c t.val t.isLt).1
    = k0_pay8 (stepAt m c t) (iblk m c 2 t) (iblk m c 3 t) (iblk m c 4 t) (iblk m c 5 t) := by
  by_cases h' : t.val < 3
  · rw [outsAt0_C m c t (by omega) (by omega) h h' (by omega)]; frame_out; exact congrArg (fun p => k0_pay8 (k0_pay3 _ _ p) _ _ _ _) (Memref.IsWhole.read_unread _ _)
  · rw [outsAt0_D m c t (by omega) (by omega) h h' (by omega)]; frame_out; exact congrArg (fun p => k0_pay8 (k0_pay3 _ _ p) _ _ _ _) (Memref.IsWhole.read_unread _ _)

/-- The rounded rows' gradient at the last grid point of a block of rows. -/
theorem out7 (c : Dev nD) (t : Fin cfg0.N) (h : t.val % 3 = 2) : (outsAt0 m c t.val t.isLt).2.1
    = k0_pay10 (stepAt m c t) (iblk m c 2 t) (iblk m c 3 t) (iblk m c 4 t) (iblk m c 5 t) := by
  by_cases h' : t.val < 3
  · rw [outsAt0_C m c t (by omega) (by omega) h h' (by omega)]; frame_out; exact congrArg (fun p => k0_pay10 (k0_pay3 _ _ p) _ _ _ _) (Memref.IsWhole.read_unread _ _)
  · rw [outsAt0_D m c t (by omega) (by omega) h h' (by omega)]; frame_out; exact congrArg (fun p => k0_pay10 (k0_pay3 _ _ p) _ _ _ _) (Memref.IsWhole.read_unread _ _)

/-- The gain's gradient after a grid point. -/
abbrev gainOut (c : Dev nD) (t : Fin cfg0.N) : Vec Ideal S1x1024 .f32 := (outsAt0 m c t.val t.isLt).2.2.1

/-- The gain's gradient after the first block of rows. -/
theorem out8_C (c : Dev nD) (t : Fin cfg0.N) (h : t.val % 3 = 2) (h' : t.val < 3) : gainOut m c t
    = k0_pay9 (stepAt m c t) (iblk m c 2 t) (iblk m c 3 t) := by
  unfold gainOut
  rw [outsAt0_C m c t (by omega) (by omega) h h' (by omega)]; frame_out; exact congrArg (fun p => k0_pay9 (k0_pay3 _ _ p) _ _) (Memref.IsWhole.read_unread _ _)

/-- The gain's gradient after a later block of rows. -/
theorem out8_D (c : Dev nD) (t : Fin cfg0.N) (h : t.val % 3 = 2) (h' : ¬ t.val < 3) : gainOut m c t
    = k0_pay4 (k0_pay9 (stepAt m c t) (iblk m c 2 t) (iblk m c 3 t)) (gainOut m c (prev t)) := by
  unfold gainOut
  rw [outsAt0_D m c t (by omega) (by omega) h h' (by omega)]; frame_out; exact congrArg (fun p => k0_pay4 (k0_pay9 (k0_pay3 _ _ p) _ _) _) (Memref.IsWhole.read_unread _ _)

/-- The other grid points leave the gain's gradient alone. -/
theorem out8_AB (c : Dev nD) (t : Fin cfg0.N) (h : ¬ t.val % 3 = 2) : gainOut m c t = gainOut m c (prev t) := by
  unfold gainOut
  by_cases h' : t.val % 3 = 0
  · rw [outsAt0_A m c t h' (by omega) h]; rfl
  · rw [outsAt0_B m c t h' (by omega) h]; rfl

/-- An entry of the cotangent's block. -/
theorem atD (c : Dev nD) (t : Fin cfg0.N) (r : Fin 544) (k : Fin 3072) :
    (iblk m c 0 t (ix2 r k : S544x3072.Idx) : EReal) = m ((c.tc : Thread nD τ).loc main_arg0) (ix2 (row t r) (col t k) : S4352x9216.Idx) := by
  blk_point [iblk, V, idx t]

/-- An entry of the weights' block. -/
theorem atW (c : Dev nD) (t : Fin cfg0.N) (k : Fin 3072) (s : Fin 1024) :
    (iblk m c 1 t (ix2 k s : S3072x1024.Idx) : EReal) = m ((c.tc : Thread nD τ).loc main_arg1) (ix2 (src (col t k)) s : S9232x1024.Idx) := by
  have e : (((((View.whole main_arg1).slice (win0_1.rect t)).emb (ix2 k s : S3072x1024.Idx)) 0 : Fin 9232) : ℕ) = t.val % 3 * 3072 + (if t.val % 3 = 0 then 0 else 16) + k.val := by
    have h := congrFun (idx t).2.1 0
    rw [View.emb_slice]
    show win0_1.index t 0 + 1 * k.val = _
    rw [h, one_mul]
    rfl
  have e' : (((((View.whole main_arg1).slice (win0_1.rect t)).emb (ix2 k s : S3072x1024.Idx)) 1 : Fin 1024) : ℕ) = s.val := by
    have h := congrFun (idx t).2.1 1
    rw [View.emb_slice]
    show win0_1.index t 1 + 1 * s.val = _
    rw [h, one_mul]
    exact Nat.zero_add _
  unfold src
  blk_point [iblk, V, idx t]
  rw [e]
  by_cases h : t.val % 3 = 0
  · rw [if_pos h, if_pos (by omega)]
    show t.val % 3 * 3072 + 0 + k.val = t.val % 3 * 3072 + k.val
    omega
  · rw [if_neg h, if_neg (by omega)]
    show t.val % 3 * 3072 + 16 + k.val = t.val % 3 * 3072 + k.val + 16
    omega

/-- An entry of the step sizes' block. -/
theorem atU (c : Dev nD) (t : Fin cfg0.N) (r : Fin 544) (s : Fin 1024) :
    (iblk m c 2 t (ix2 r s : S544x1024.Idx) : EReal) = m ((c.tc : Thread nD τ).loc main_arg2) (ix2 (row t r) s : S4352x1024.Idx) := by
  blk_point [iblk, V, idx t]

/-- An entry of the rows' block. -/
theorem atH (c : Dev nD) (t : Fin cfg0.N) (r : Fin 544) (s : Fin 1024) :
    (iblk m c 3 t (ix2 r s : S544x1024.Idx) : EReal) = m ((c.tc : Thread nD τ).loc main_arg3) (ix2 (row t r) s : S4352x1024.Idx) := by
  blk_point [iblk, V, idx t]

/-- An entry of the residual gradient's block. -/
theorem atE (c : Dev nD) (t : Fin cfg0.N) (r : Fin 544) (s : Fin 1024) :
    (iblk m c 4 t (ix2 r s : S544x1024.Idx) : EReal) = m ((c.tc : Thread nD τ).loc main_arg4) (ix2 (row t r) s : S4352x1024.Idx) := by
  blk_point [iblk, V, idx t]

/-- An entry of the gain's block. -/
theorem atN (c : Dev nD) (t : Fin cfg0.N) (s : Fin 1024) :
    (iblk m c 5 t (ix2 0 s : S1x1024.Idx) : EReal) = m ((c.tc : Thread nD τ).loc main_arg5) (ix2 0 s : S1x1024.Idx) := by
  blk_point [iblk, V, idx t]

/-- The product of a grid point's blocks. -/
theorem dotE (c : Dev nD) (t : Fin cfg0.N) (r : Fin 544) (s : Fin 1024) : dot (iblk m c 0 t) (iblk m c 1 t) r s
    = partAt (m ((c.tc : Thread nD τ).loc main_arg0)) (m ((c.tc : Thread nD τ).loc main_arg1)) (row t r) s (col t) := by
  unfold dot partAt
  simp only [atD, atW]

/-- The accumulator holds the whole product after the last grid point of a block of rows. -/
theorem stepE (c : Dev nD) (t : Fin cfg0.N) (h : t.val % 3 = 2) (r : Fin 544) (s : Fin 1024) :
    (stepAt m c t (ix2 r s : S544x1024.Idx) : EReal)
      = prodAt (m ((c.tc : Thread nD τ).loc main_arg0)) (m ((c.tc : Thread nD τ).loc main_arg1)) (row t r) s := by
  have h1 : (prev t).val % 3 = 1 := by show (t.val - 1) % 3 = 1; omega
  have h0 : (prev (prev t)).val % 3 = 0 := by show (t.val - 1 - 1) % 3 = 0; omega
  have r1 : row (prev t) r = row t r := Fin.ext (by show 544 * ((t.val - 1) / 3) + r.val = 544 * (t.val / 3) + r.val; omega)
  have r0 : row (prev (prev t)) r = row t r := Fin.ext (by show 544 * ((t.val - 1 - 1) / 3) + r.val = 544 * (t.val / 3) + r.val; omega)
  have c0 : col (prev (prev t)) = fun k : Fin 3072 => ⟨(0 : Fin 3).val * 3072 + k.val, by show 0 * 3072 + k.val < 9216; omega⟩ := funext fun k => Fin.ext (by show (t.val - 1 - 1) % 3 * 3072 + k.val = 0 * 3072 + k.val; omega)
  have c1 : col (prev t) = fun k : Fin 3072 => ⟨(1 : Fin 3).val * 3072 + k.val, by show 1 * 3072 + k.val < 9216; omega⟩ := funext fun k => Fin.ext (by show (t.val - 1) % 3 * 3072 + k.val = 1 * 3072 + k.val; omega)
  have c2 : col t = fun k : Fin 3072 => ⟨(2 : Fin 3).val * 3072 + k.val, by show 2 * 3072 + k.val < 9216; omega⟩ := funext fun k => Fin.ext (by show t.val % 3 * 3072 + k.val = 2 * 3072 + k.val; omega)
  unfold stepAt
  rw [step_apply, acc_B m c (prev t) h1]
  unfold stepAt
  rw [step_apply, acc_A m c (prev (prev t)) h0, first_apply, dotE, dotE, dotE, r0, r1, c0, c1, c2]
  unfold partAt prodAt
  rw [Fin.sum_univ_tiles 3 3072 rfl, Fin.sum_univ_three]

/-- The gradient of the normalised rows at the last grid point of a block of rows. -/
theorem drowE (c : Dev nD) (t : Fin cfg0.N) (h : t.val % 3 = 2) (r : Fin 544) :
    drow (stepAt m c t) (iblk m c 2 t) r = dnAt (m ((c.tc : Thread nD τ).loc main_arg0)) (m ((c.tc : Thread nD τ).loc main_arg1)) (m ((c.tc : Thread nD τ).loc main_arg2)) (row t r) := by
  funext s
  unfold drow dnAt
  rw [stepE m c t h, atU, add_comm]

/-- The row at a grid point. -/
theorem browE (c : Dev nD) (t : Fin cfg0.N) (r : Fin 544) :
    brow (iblk m c 3 t) r = rowAt (m ((c.tc : Thread nD τ).loc main_arg3)) (row t r) := by
  funext s
  exact atH m c t r s

/-- The gain at a grid point. -/
theorem gainE (c : Dev nD) (t : Fin cfg0.N) : gainAt (iblk m c 5 t) = gainAt (m ((c.tc : Thread nD τ).loc main_arg5)) := by
  funext s
  exact atN m c t s

/-- The arguments the gradient needs real. -/
structure Finite (c : Dev nD) : Prop where
  d : ∀ i, ∃ r : ℝ, (m ((c.tc : Thread nD τ).loc main_arg0) i : EReal) = (r : EReal)
  w : ∀ i, ∃ r : ℝ, (m ((c.tc : Thread nD τ).loc main_arg1) i : EReal) = (r : EReal)
  u : ∀ i, ∃ r : ℝ, (m ((c.tc : Thread nD τ).loc main_arg2) i : EReal) = (r : EReal)
  h : ∀ i, ∃ r : ℝ, (m ((c.tc : Thread nD τ).loc main_arg3) i : EReal) = (r : EReal)
  n : ∀ i, ∃ r : ℝ, (m ((c.tc : Thread nD τ).loc main_arg5) i : EReal) = (r : EReal)

/-- The two spellings agree on the arguments. -/
theorem grad (c : Dev nD) (f : Finite m c) (e : EReal) (i : Fin 4352) (j : Fin 1024) :
    kernelGrad e (dnAt (m ((c.tc : Thread nD τ).loc main_arg0)) (m ((c.tc : Thread nD τ).loc main_arg1)) (m ((c.tc : Thread nD τ).loc main_arg2)) i) (gainAt (m ((c.tc : Thread nD τ).loc main_arg5))) (rowAt (m ((c.tc : Thread nD τ).loc main_arg3)) i) j
      = referenceGrad e (dnAt (m ((c.tc : Thread nD τ).loc main_arg0)) (m ((c.tc : Thread nD τ).loc main_arg1)) (m ((c.tc : Thread nD τ).loc main_arg2)) i) (gainAt (m ((c.tc : Thread nD τ).loc main_arg5))) (rowAt (m ((c.tc : Thread nD τ).loc main_arg3)) i) j :=
  grad_eq _ _ _ _ (fun k => add_real (f.u _) (by unfold prodAt; exact sum_real _ _ fun l => mul_real (f.d _) (f.w _))) (fun k => f.n _) (fun k => f.h _) j

/-- The rows' gradient after the run is the reference's. -/
theorem final6 (c : Dev nD) (f : Finite m c) : (dats m 0 c).arrAt 6 (cfgs 0).N = rowsV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  have ht : t.val % 3 = 2 := (by decide +kernel : ∀ t : Fin cfg0.N, (cfg0.win 6).flush t = true → t.val % 3 = 2) t hf
  blk_simp
  rw [after0_6, out6 m c t ht]
  idx_vars y
  have e : (rowsV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((View.whole main_v0_0).slice (win0_6.rect t)).emb (ix2 y0 y1)) : EReal)
      = rowsV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t y0) y1 : S4352x1024.Idx) := by
    blk_ext [idx t]
  refine (rows_apply _ _ _ _ _ y0 y1).trans (Eq.trans ?_ e.symm)
  rw [rowsV_apply, drowE m c t ht, browE, gainE, atE]
  exact grad m c f _ _ _

/-- The rounded rows' gradient after the run is the reference's. -/
theorem final7 (c : Dev nD) (f : Finite m c) : (dats m 0 c).arrAt 7 (cfgs 0).N = roundV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  have ht : t.val % 3 = 2 := (by decide +kernel : ∀ t : Fin cfg0.N, (cfg0.win 7).flush t = true → t.val % 3 = 2) t hf
  blk_simp
  rw [after0_7, out7 m c t ht]
  idx_vars y
  have e : (roundV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((View.whole main_v0_1).slice (win0_7.rect t)).emb (ix2 y0 y1)) : EReal)
      = roundV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t y0) y1 : S4352x1024.Idx) := by
    blk_ext [idx t]
  refine (round_apply _ _ _ _ _ y0 y1).trans (Eq.trans ?_ e.symm)
  rw [roundV_apply, drowE m c t ht, browE, gainE, atE]
  exact grad m c f _ _ _

/-- What a block of rows adds to the gain's gradient. -/
def term (c : Dev nD) (b : Fin 8) (s : Fin 1024) : EReal :=
  ∑ r : Fin 544, dnAt (m ((c.tc : Thread nD τ).loc main_arg0)) (m ((c.tc : Thread nD τ).loc main_arg1)) (m ((c.tc : Thread nD τ).loc main_arg2)) ⟨b.val * 544 + r.val, by omega⟩ s
    * (rowAt (m ((c.tc : Thread nD τ).loc main_arg3)) ⟨b.val * 544 + r.val, by omega⟩ s * scale (rowAt (m ((c.tc : Thread nD τ).loc main_arg3)) ⟨b.val * 544 + r.val, by omega⟩))

/-- … as its last grid point holds it. -/
theorem term_eq (c : Dev nD) (t : Fin cfg0.N) (h : t.val % 3 = 2) (b : Fin 8) (hb : t.val / 3 = b.val) (s : Fin 1024) :
    (k0_pay9 (F := Ideal) (stepAt m c t) (iblk m c 2 t) (iblk m c 3 t) (ix2 0 s : S1x1024.Idx) : EReal) = term m c b s := by
  have hr : ∀ r : Fin 544, row t r = ⟨b.val * 544 + r.val, by omega⟩ := fun r => Fin.ext (by show 544 * (t.val / 3) + r.val = b.val * 544 + r.val; omega)
  rw [gain_apply]
  unfold term
  simp only [drowE m c t h, browE, hr]

/-- The gain's gradient after the last grid point of a block of rows: the sum so far. -/
theorem acc (c : Dev nD) (s : Fin 1024) : ∀ (n : ℕ) (hn : n < 8),
    (gainOut m c ⟨3 * n + 2, by show 3 * n + 2 < 24; omega⟩ (ix2 0 s : S1x1024.Idx) : EReal) = ∑ b ∈ Finset.range (n + 1), if h : b < 8 then term m c ⟨b, h⟩ s else 0
  | 0, hn => by
    rw [out8_C m c _ (by show (3 * 0 + 2) % 3 = 2; omega) (by show 3 * 0 + 2 < 3; omega), term_eq m c _ (by show (3 * 0 + 2) % 3 = 2; omega) 0 (by show (3 * 0 + 2) / 3 = 0; omega)]
    simp
  | n + 1, hn => by
    have hp : gainOut m c (prev ⟨3 * (n + 1) + 2, by show 3 * (n + 1) + 2 < 24; omega⟩) = gainOut m c ⟨3 * n + 2, by show 3 * n + 2 < 24; omega⟩ :=
      (out8_AB m c _ (by show ¬ (3 * (n + 1) + 2 - 1) % 3 = 2; omega)).trans (out8_AB m c _ (by show ¬ (3 * (n + 1) + 2 - 1 - 1) % 3 = 2; omega))
    rw [out8_D m c _ (by show (3 * (n + 1) + 2) % 3 = 2; omega) (by show ¬ 3 * (n + 1) + 2 < 3; omega), add_apply,
      term_eq m c _ (by show (3 * (n + 1) + 2) % 3 = 2; omega) ⟨n + 1, hn⟩ (by show (3 * (n + 1) + 2) / 3 = n + 1; omega), hp, acc c s n (by omega),
      Finset.sum_range_succ _ (n + 1), dif_pos hn]

/-- The gain's gradient after the run is the reference's. -/
theorem final8 (c : Dev nD) : (dats m 0 c).arrAt 8 (cfgs 0).N = gainV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t hf y => ?_
  have ht : t = ⟨3 * 7 + 2, by show 3 * 7 + 2 < 24; omega⟩ := Fin.ext ((by decide +kernel : ∀ t : Fin cfg0.N, (cfg0.win 8).flush t = true → t.val = 23) t hf)
  blk_simp
  rw [after0_8]
  idx_vars y
  obtain rfl : y0 = 0 := Subsingleton.elim _ _
  have e : (gainV (m ((c.tc : Thread nD τ).loc main_arg0)) (m ((c.tc : Thread nD τ).loc main_arg1)) (m ((c.tc : Thread nD τ).loc main_arg2)) (m ((c.tc : Thread nD τ).loc main_arg3)) (((View.whole main_v0_2).slice (win0_8.rect t)).emb (ix2 0 y1)) : EReal)
      = gainV (m ((c.tc : Thread nD τ).loc main_arg0)) (m ((c.tc : Thread nD τ).loc main_arg1)) (m ((c.tc : Thread nD τ).loc main_arg2)) (m ((c.tc : Thread nD τ).loc main_arg3)) (ix2 0 y1 : S1x1024.Idx) := by
    blk_ext [idx t]
  have g : (gainOut m c t (ix2 0 y1 : S1x1024.Idx) : EReal) = gainV (m ((c.tc : Thread nD τ).loc main_arg0)) (m ((c.tc : Thread nD τ).loc main_arg1)) (m ((c.tc : Thread nD τ).loc main_arg2)) (m ((c.tc : Thread nD τ).loc main_arg3)) (ix2 0 y1 : S1x1024.Idx) := by
    rw [ht, acc m c y1 7 (by omega), gainV_apply, Fin.sum_univ_tiles 8 544 rfl, Finset.sum_range]
    refine Finset.sum_congr rfl fun b _ => ?_
    rw [dif_pos b.isLt]
    unfold term
    exact Finset.sum_congr rfl fun r _ => mul_comm _ _
  exact g.trans e.symm

end Cert.UnGradIdeal.Final

end
-- ==== Proof.ProjClaim.lean ====
module

public import proofs.«01_k».proof.Defs
public import proofs.«01_k».proof.Proof.ConvClaim
public import proofs.«01_k».proof.Proof.InProjValue
public import proofs.«01_k».proof.Proof.MergeGradValue
public import proofs.«01_k».proof.Proof.UnGradValue
public import Idealize.ShloMosaic.Lib.Claim

/-! # The input projection, its gradient and the merge's gradient leave the reference's results -/

@[expose] public section

set_option maxRecDepth 16384

noncomputable section

namespace Cert.ProjClaim

open Idealize.ShloMosaic Idealize.ShloMosaic.TcCoe Idealize.SL.Sem Cert.ConvClaim

/-- The precondition's facts about shapes. -/
theorem un_facts : Cert.Pre_finite_un.Facts := ⟨by decide, by decide, by decide, by decide, by decide⟩

open Cert.Pre_finite_un in
/-- The entries of the cotangent are real numbers. -/
theorem un_d [Facts] (A : FVec Ideal S4352x9216 .bf16) (B : FVec Ideal S9232x1024 .bf16) (C D E : FVec Ideal S4352x1024 .f32)
    (G : FVec Ideal S1x1024 .f32) (h : (fn A B C D E G).1 = fun _ => 1#1) (i : S4352x9216.Idx) : ∃ r : ℝ, (A i : EReal) = (r : EReal) := by
  refine real_of_abs_lt _ (Eq.trans ?_ (congrFun h i))
  rw [← word_top]
  rfl

open Cert.Pre_finite_un in
/-- The entries of the weights are real numbers. -/
theorem un_w [Facts] (A : FVec Ideal S4352x9216 .bf16) (B : FVec Ideal S9232x1024 .bf16) (C D E : FVec Ideal S4352x1024 .f32)
    (G : FVec Ideal S1x1024 .f32) (h : (fn A B C D E G).2.1 = fun _ => 1#1) (i : S9232x1024.Idx) : ∃ r : ℝ, (B i : EReal) = (r : EReal) := by
  refine real_of_abs_lt _ (Eq.trans ?_ (congrFun h i))
  rw [← word_top]
  rfl

open Cert.Pre_finite_un in
/-- The entries of the step sizes' contribution are real numbers. -/
theorem un_u [Facts] (A : FVec Ideal S4352x9216 .bf16) (B : FVec Ideal S9232x1024 .bf16) (C D E : FVec Ideal S4352x1024 .f32)
    (G : FVec Ideal S1x1024 .f32) (h : (fn A B C D E G).2.2.1 = fun _ => 1#1) (i : S4352x1024.Idx) : ∃ r : ℝ, (C i : EReal) = (r : EReal) := by
  refine real_of_abs_lt _ (Eq.trans ?_ (congrFun h i))
  rw [← word_top]
  rfl

open Cert.Pre_finite_un in
/-- The entries of the rows are real numbers. -/
theorem un_h [Facts] (A : FVec Ideal S4352x9216 .bf16) (B : FVec Ideal S9232x1024 .bf16) (C D E : FVec Ideal S4352x1024 .f32)
    (G : FVec Ideal S1x1024 .f32) (h : (fn A B C D E G).2.2.2.1 = fun _ => 1#1) (i : S4352x1024.Idx) : ∃ r : ℝ, (D i : EReal) = (r : EReal) := by
  refine real_of_abs_lt _ (Eq.trans ?_ (congrFun h i))
  rw [← word_top]
  rfl

open Cert.Pre_finite_un in
/-- The entries of the gain are real numbers. -/
theorem un_n [Facts] (A : FVec Ideal S4352x9216 .bf16) (B : FVec Ideal S9232x1024 .bf16) (C D E : FVec Ideal S4352x1024 .f32)
    (G : FVec Ideal S1x1024 .f32) (h : (fn A B C D E G).2.2.2.2 = fun _ => 1#1) (i : S1x1024.Idx) : ∃ r : ℝ, (G i : EReal) = (r : EReal) := by
  refine real_of_abs_lt _ (Eq.trans ?_ (congrFun h i))
  rw [← word_top]
  rfl

/-- The input projection. -/
theorem inProj [Cert.InProjIdeal.Facts] [Cert.InProjRefIdeal.Facts] : Cert.algebraic_InProjIdeal_InProjRefIdeal := by
  pair_intro
  · run_from Cert.InProjIdeal.Value.run_blocks m g
  · run_from Cert.InProjRefIdeal.Value.run m' g'
    obtain ⟨e0, e1⟩ := hagree c
    refine Eq.trans ?_ (Cert.InProjIdeal.Final.final2 m c).symm
    rw [← e0, ← e1]
    rfl

/-- The gradient of the gated merge. -/
theorem mergeGrad [Cert.MergeGradIdeal.Facts] [Cert.MergeGradRefIdeal.Facts] : Cert.algebraic_MergeGradIdeal_MergeGradRefIdeal := by
  pair_intro
  · run_from Cert.MergeGradIdeal.Value.run_blocks m g
  · run_from Cert.MergeGradRefIdeal.Value.run m' g'
    · obtain ⟨e0, e1, e2, e3, e4⟩ := hagree c
      refine Eq.trans ?_ (Cert.MergeGradIdeal.Final.final6 m c).symm
      rw [← e0, ← e1, ← e2]
      rfl
    · obtain ⟨e0, e1, e2, e3, e4⟩ := hagree c
      refine Eq.trans ?_ (Cert.MergeGradIdeal.Final.final7 m c).symm
      rw [← e0, ← e1, ← e2]
      rfl
    · obtain ⟨e0, e1, e2, e3, e4⟩ := hagree c
      refine Eq.trans ?_ (Cert.MergeGradIdeal.Final.final8 m c).symm
      rw [← e0, ← e1, ← e2, ← e3, ← e4]
      rfl

/-- The gradient of the mixer's normalisation and input projection. -/
theorem unGrad [Cert.UnGradIdeal.Facts] [Cert.UnGradRefIdeal.Facts] [Cert.Pre_finite_un.Facts] : Cert.algebraic_UnGradIdeal_UnGradRefIdeal_pre_finite_un := by
  pair_intro
  · run_from Cert.UnGradIdeal.Value.run_blocks m g
  · refine θ_run_mono (Cert.UnGradRefIdeal.Value.run m' g') ?_
    intro r hr c
    obtain ⟨h0, h1, h2, hargs⟩ := hr c
    obtain ⟨e0, e1, e2, e3, e4, e5⟩ := hagree c
    have f : Cert.UnGradIdeal.Final.Finite m c := ⟨fun i => un_d _ _ _ _ _ _ (hpre c).1 i, fun i => un_w _ _ _ _ _ _ (hpre c).2.1 i, fun i => un_u _ _ _ _ _ _ (hpre c).2.2.1 i, fun i => un_h _ _ _ _ _ _ (hpre c).2.2.2.1 i, fun i => un_n _ _ _ _ _ _ (hpre c).2.2.2.2 i⟩
    refine ⟨h0.trans ?_, h1.trans ?_, h2.trans ?_, hargs⟩
    · refine Eq.trans ?_ (Cert.UnGradIdeal.Final.final6 m c f).symm
      rw [← e0, ← e1, ← e2, ← e3, ← e4, ← e5]
      exact Cert.UnGradRefIdeal.At.rows_eq m' c
    · refine Eq.trans ?_ (Cert.UnGradIdeal.Final.final7 m c f).symm
      rw [← e0, ← e1, ← e2, ← e3, ← e4, ← e5]
      exact Cert.UnGradRefIdeal.At.round_eq m' c
    · refine Eq.trans ?_ (Cert.UnGradIdeal.Final.final8 m c).symm
      rw [← e0, ← e1, ← e2, ← e3]
      rfl

end Cert.ProjClaim
end
-- ==== Proof.DownNormValue.lean ====
module

public import proofs.«01_k».proof.Proof.Gen.DownNormIdeal.Value
public import proofs.«01_k».proof.Proof.Gen.DownNormRefIdeal.Run
public import proofs.«01_k».proof.Proof.Silu

/-! # The second product of the first feed-forward layer with its residual, and the next normalisation -/

@[expose] public section

set_option maxRecDepth 16384

noncomputable section

namespace Cert.DownNormRefIdeal.At

open Cert.DownNormRefIdeal Cert.DownNormRefIdeal.Gen Cert.Silu
open Idealize.ShloMosaic Idealize.ShloMosaic.TcCoe Idealize.SL.Sem Idealize.ShloMosaic.StableHlo

/-- The reference's rows. -/
def rowsV (H : FVec Ideal S4352x1024 .f32) (A : FVec Ideal S4352x2816 .bf16) (W : FVec Ideal S2816x1024 .bf16) : FVec Ideal S4352x1024 .f32 :=
  addf H (mulf (broadcastInDim S4352x1024 ![] bcast_S_S4352x1024 (constant S_ .f32 0x3F000000#32)) (Host.dotGeneral dot_S4352x2816_S2816x1024_S4352x1024_1_0_0_1_n_n none (extf .f32 A bitsLt_bf16_f32) (extf .f32 W bitsLt_bf16_f32)))

/-- The reference's normalised rows. -/
def normV (H : FVec Ideal S4352x1024 .f32) (A : FVec Ideal S4352x2816 .bf16) (W : FVec Ideal S2816x1024 .bf16) (N : FVec Ideal S1x1024 .f32) : FVec Ideal S4352x1024 .bf16 :=
  truncf .bf16 (mulf (mulf (rowsV H A W) (broadcastInDim S4352x1024 ![0, 1] bcast_S4352x1_S4352x1024_0_1 (Host.rsqrt (addf (Host.divf (broadcastInDim S4352x1 ![0] bcast_S4352_S4352x1_0 (Host.reduceAdd (mulf (rowsV H A W) (rowsV H A W)) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32)))))) (broadcastInDim S4352x1024 ![0, 1] bcast_S1x1024_S4352x1024_0_1 N)) bitsLt_bf16_f32

/-- An entry of the rows. -/
def entry (H : FVec Ideal S4352x1024 .f32) (A : FVec Ideal S4352x2816 .bf16) (W : FVec Ideal S2816x1024 .bf16) (i : Fin 4352) (j : Fin 1024) : EReal :=
  H (ix2 i j : S4352x1024.Idx) + (Ideal.ofBits FTy.f32 1056964608#32 : EReal) * ∑ k : Fin 2816, A (ix2 i k : S4352x2816.Idx) * W (ix2 k j : S2816x1024.Idx)

/-- The normalisation's factor of a row. -/
def scale (f : Fin 1024 → EReal) : EReal :=
  Ideal.rsqrt (Ideal.div (∑ k : Fin 1024, f k * f k) (Ideal.ofBits FTy.f32 1149239296#32) + Ideal.ofBits FTy.f32 897988541#32)

/-- The rows at an index. -/
theorem rowsV_apply (H : FVec Ideal S4352x1024 .f32) (A : FVec Ideal S4352x2816 .bf16) (W : FVec Ideal S2816x1024 .bf16) (i : Fin 4352) (j : Fin 1024) :
    (rowsV H A W (ix2 i j : S4352x1024.Idx) : EReal) = entry H A W i j := by
  unfold rowsV; pointwise; rfl

/-- The normalised rows at an index. -/
theorem normV_apply (H : FVec Ideal S4352x1024 .f32) (A : FVec Ideal S4352x2816 .bf16) (W : FVec Ideal S2816x1024 .bf16) (N : FVec Ideal S1x1024 .f32) (i : Fin 4352) (j : Fin 1024) :
    (normV H A W N (ix2 i j : S4352x1024.Idx) : EReal)
      = entry H A W i j * scale (fun k => entry H A W i k) * N (ix2 0 j : S1x1024.Idx) := by
  unfold normV; pointwise [rowsV_apply, scale]

end Cert.DownNormRefIdeal.At

namespace Cert.DownNormIdeal.Final

open Cert.DownNormIdeal Cert.DownNormIdeal.Gen Cert.Silu Cert.DownNormRefIdeal.At
open Idealize.ShloMosaic Idealize.ShloMosaic.TcCoe Idealize.SL.Sem

/-- An entry of a block of the rows. -/
def dot (a : Vec Ideal S1088x2816 .bf16) (w : Vec Ideal S2816x1024 .bf16) (e : Vec Ideal S1088x1024 .f32) (r : Fin 1088) (s : Fin 1024) : EReal :=
  e (ix2 r s : S1088x1024.Idx) + (Ideal.ofBits FTy.f32 1056964608#32 : EReal) * ∑ k : Fin 2816, a (ix2 r k : S1088x2816.Idx) * w (ix2 k s : S2816x1024.Idx)

/-- An entry of a block of the normalised rows. -/
def core (a : Vec Ideal S1088x2816 .bf16) (w : Vec Ideal S2816x1024 .bf16) (e : Vec Ideal S1088x1024 .f32) (n : Vec Ideal S1x1024 .f32) (r : Fin 1088) (s : Fin 1024) : EReal :=
  dot a w e r s * scale (fun k => dot a w e r k) * n (ix2 0 s : S1x1024.Idx)

/-- What a block of the rows holds. -/
theorem block_h (a : Vec Ideal S1088x2816 .bf16) (w : Vec Ideal S2816x1024 .bf16) (e : Vec Ideal S1088x1024 .f32) (n : Vec Ideal S1x1024 .f32) (r : Fin 1088) (s : Fin 1024) :
    (out0_4 a w e n (ix2 r s : S1088x1024.Idx) : EReal) = dot a w e r s := by
  frame_out
  open_payloads
  pointwise
  rfl

/-- What a block of the normalised rows holds. -/
theorem block_n (a : Vec Ideal S1088x2816 .bf16) (w : Vec Ideal S2816x1024 .bf16) (e : Vec Ideal S1088x1024 .f32) (n : Vec Ideal S1x1024 .f32) (r : Fin 1088) (s : Fin 1024) :
    (out0_5 a w e n (ix2 r s : S1088x1024.Idx) : EReal) = core a w e n r s := by
  frame_out
  open_payloads
  pointwise
  rfl

variable (m : (ℓ : Loc nD τ sig) → Buf (Elt Ideal) ℓ)

/-- The blocks' places at a grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The row of the array that a row of a grid point's block is. -/
abbrev row (t : Fin cfg0.N) (r : Fin 1088) : Fin 4352 := ⟨1088 * t.val + r.val, by have : t.val < 4 := t.isLt; omega⟩

/-- An entry of the activations' block. -/
theorem atA (c : Dev nD) (t : Fin cfg0.N) (r : Fin 1088) (s : Fin 2816) :
    (iblk m c 0 t (ix2 r s : S1088x2816.Idx) : EReal) = m ((c.tc : Thread nD τ).loc main_arg1) (ix2 (row t r) s : S4352x2816.Idx) := by
  blk_point [iblk, V, idx t]

/-- An entry of the weights. -/
theorem atW (c : Dev nD) (t : Fin cfg0.N) (r : Fin 2816) (s : Fin 1024) :
    (iblk m c 1 t (ix2 r s : S2816x1024.Idx) : EReal) = m ((c.tc : Thread nD τ).loc main_arg2) (ix2 r s : S2816x1024.Idx) := by
  blk_point [iblk, V, idx t]

/-- An entry of the residual's block. -/
theorem atH (c : Dev nD) (t : Fin cfg0.N) (r : Fin 1088) (s : Fin 1024) :
    (iblk m c 2 t (ix2 r s : S1088x1024.Idx) : EReal) = m ((c.tc : Thread nD τ).loc main_arg0) (ix2 (row t r) s : S4352x1024.Idx) := by
  blk_point [iblk, V, idx t]

/-- An entry of the gain. -/
theorem atN (c : Dev nD) (t : Fin cfg0.N) (r : Fin 1) (s : Fin 1024) :
    (iblk m c 3 t (ix2 r s : S1x1024.Idx) : EReal) = m ((c.tc : Thread nD τ).loc main_arg3) (ix2 r s : S1x1024.Idx) := by
  blk_point [iblk, V, idx t]

/-- The rows at a grid point. -/
theorem dot_eq (c : Dev nD) (t : Fin cfg0.N) (r : Fin 1088) (s : Fin 1024) :
    dot (iblk m c 0 t) (iblk m c 1 t) (iblk m c 2 t) r s = entry (m ((c.tc : Thread nD τ).loc main_arg0)) (m ((c.tc : Thread nD τ).loc main_arg1)) (m ((c.tc : Thread nD τ).loc main_arg2)) (row t r) s := by
  unfold dot entry
  simp only [atA, atW, atH]

/-- The rows after the run are the reference's. -/
theorem final4 (c : Dev nD) : (dats m 0 c).arrAt 4 (cfgs 0).N
    = rowsV (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  idx_vars y
  have e : (rowsV (m ((c.tc : Thread nD τ).loc main_arg0)) (m ((c.tc : Thread nD τ).loc main_arg1)) (m ((c.tc : Thread nD τ).loc main_arg2))
      (((View.whole main_v0_0).slice (win0_4.rect t)).emb (ix2 y0 y1)) : EReal)
      = rowsV (m ((c.tc : Thread nD τ).loc main_arg0)) (m ((c.tc : Thread nD τ).loc main_arg1)) (m ((c.tc : Thread nD τ).loc main_arg2)) (ix2 (row t y0) y1 : S4352x1024.Idx) := by
    blk_ext [idx t]
  refine (block_h _ _ _ _ y0 y1).trans (Eq.trans ?_ e.symm)
  rw [rowsV_apply]
  exact dot_eq m c t y0 y1
/-- The normalised rows after the run are the reference's. -/
theorem final5 (c : Dev nD) : (dats m 0 c).arrAt 5 (cfgs 0).N
    = normV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  have e : (normV (m ((c.tc : Thread nD τ).loc main_arg0)) (m ((c.tc : Thread nD τ).loc main_arg1)) (m ((c.tc : Thread nD τ).loc main_arg2)) (m ((c.tc : Thread nD τ).loc main_arg3))
      (((View.whole main_v0_1).slice (win0_5.rect t)).emb (ix2 y0 y1)) : EReal)
      = normV (m ((c.tc : Thread nD τ).loc main_arg0)) (m ((c.tc : Thread nD τ).loc main_arg1)) (m ((c.tc : Thread nD τ).loc main_arg2)) (m ((c.tc : Thread nD τ).loc main_arg3)) (ix2 (row t y0) y1 : S4352x1024.Idx) := by
    blk_ext [idx t]
  refine (block_n _ _ _ _ y0 y1).trans (Eq.trans ?_ e.symm)
  rw [normV_apply]
  unfold core
  simp only [dot_eq, atN]

end Cert.DownNormIdeal.Final
end
-- ==== Proof.InProjDtValue.lean ====
module

public import proofs.«01_k».proof.Proof.Gen.InProjDtIdeal.Value
public import proofs.«01_k».proof.Proof.Gen.InProjDtRefIdeal.Run
public import proofs.«01_k».proof.Proof.Silu
public import Idealize.ShloMosaic.Lib.KernelVsHost

/-! # The input projection's sixteen columns of the step sizes -/

@[expose] public section

set_option maxRecDepth 16384

noncomputable section

namespace Cert.InProjDtRefIdeal.At

open Cert.InProjDtRefIdeal Cert.InProjDtRefIdeal.Gen
open Idealize.ShloMosaic Idealize.ShloMosaic.TcCoe Idealize.SL.Sem Idealize.ShloMosaic.StableHlo

/-- The reference's result. -/
def refV (A : FVec Ideal S4352x1024 .bf16) (W : FVec Ideal S9232x1024 .bf16) : FVec Ideal S4352x128 .f32 :=
  concatenate S4352x128 1 [⟨S4352x16, (Host.dotGeneral dot_S4352x1024_S1024x16_S4352x16_1_0_0_1_n_n none (extf .f32 A bitsLt_bf16_f32) (extractStridedSlice S1024x16 ![0, 3072] (transpose S1024x9232 [1, 0] (extf .f32 W bitsLt_bf16_f32) transposes_S9232x1024_S1024x9232_1_0) slices_S1024x9232_S1024x16_0_3072))⟩, ⟨S4352x112, (broadcastInDim S4352x112 ![] bcast_S_S4352x112 (constant S_ .f32 0x00000000#32))⟩] concatenates_S4352x16_S4352x112_S4352x128_d1

/-- One of its first sixteen columns. -/
theorem refV_lo (A : FVec Ideal S4352x1024 .bf16) (W : FVec Ideal S9232x1024 .bf16) (i : Fin 4352) (j : Fin 128) (h : j.val < 16) :
    (refV A W (ix2 i j : S4352x128.Idx) : EReal) = ∑ k : Fin 1024, A (ix2 i k : S4352x1024.Idx) * W (ix2 ⟨3072 + j.val, by omega⟩ k : S9232x1024.Idx) := by
  unfold refV
  pointwise
  exact dif_pos h

/-- One of the others. -/
theorem refV_hi (A : FVec Ideal S4352x1024 .bf16) (W : FVec Ideal S9232x1024 .bf16) (i : Fin 4352) (j : Fin 128) (h : ¬ j.val < 16) :
    (refV A W (ix2 i j : S4352x128.Idx) : EReal) = 0 := by
  unfold refV
  pointwise
  exact dif_neg h

end Cert.InProjDtRefIdeal.At

namespace Cert.InProjDtIdeal.Final

open Cert.InProjDtIdeal Cert.InProjDtIdeal.Gen Cert.InProjDtRefIdeal.At
open Idealize.ShloMosaic Idealize.ShloMosaic.TcCoe Idealize.SL.Sem

/-- The sixteen rows of the weights with 112 rows of zeros below them. -/
def padded (W : FVec Ideal S9232x1024 .bf16) : FVec Ideal S128x1024 .bf16 :=
  pad S128x1024 ![0, 0] ![112, 0] ![0, 0] (extractStridedSlice S16x1024 ![3072, 0] W slices_S9232x1024_S16x1024_3072_0)
    (sitofp .bf16 (constantI S_ 32 0#32)) pads_S16x1024_S128x1024_01120_000 h_S_

/-- A row of the weights among them. -/
theorem padded_lo (W : FVec Ideal S9232x1024 .bf16) (j : Fin 128) (k : Fin 1024) (h : j.val < 16) :
    (padded W (ix2 j k : S128x1024.Idx) : EReal) = W (ix2 ⟨3072 + j.val, by omega⟩ k : S9232x1024.Idx) := by
  refine (pad_apply_of_inside _ _ _ _ _ _ _ _ (ix2 ⟨j.val, h⟩ k : S16x1024.Idx) ?_).trans ?_
  · intro a
    match a with
    | ⟨0, _⟩ => simp
    | ⟨1, _⟩ => simp
  · pointwise

/-- A row of the zeros. -/
theorem padded_hi (W : FVec Ideal S9232x1024 .bf16) (j : Fin 128) (k : Fin 1024) (h : ¬ j.val < 16) :
    (padded W (ix2 j k : S128x1024.Idx) : EReal) = 0 := by
  unfold padded
  pointwise
  simp only [h, if_false, dif_neg, not_false_eq_true]
  exact (congrArg (fun z : ℤ => ((z : ℝ) : EReal)) (by decide : (0#32 : BitVec 32).toInt = 0)).trans (by simp)

/-- What a block of the result holds. -/
theorem block (a : Vec Ideal S1088x1024 .bf16) (w : Vec Ideal S128x1024 .bf16) (r : Fin 1088) (s : Fin 128) :
    (out0_2 a w (ix2 r s : S1088x128.Idx) : EReal) = ∑ k : Fin 1024, a (ix2 r k : S1088x1024.Idx) * w (ix2 s k : S128x1024.Idx) := by
  frame_out
  open_payloads
  pointwise

variable (m : (ℓ : Loc nD τ sig) → Buf (Elt Ideal) ℓ)

/-- The padded rows as the call finds them. -/
theorem V_pad (c : Dev nD) : V m c main_v1 = padded (m ((c.tc : Thread nD τ).loc main_arg1)) := by
  simp only [V, hostOps0, hostOps0_1, List.flatten_cons, List.flatten_nil, List.append_nil, List.cons_append, List.nil_append]
  after_results
  rfl

/-- The blocks' places at a grid point. -/
theorem idx : ∀ t : Fin cfg0.N, win0_0.index t = ![t.val, 0] ∧ win0_1.index t = ![0, 0] ∧ win0_2.index t = ![t.val, 0] :=
  (by decide +kernel : ∀ t : Fin grid0.N, _)

/-- The row of the array that a row of a grid point's block is. -/
abbrev row (t : Fin cfg0.N) (r : Fin 1088) : Fin 4352 := ⟨1088 * t.val + r.val, by have : t.val < 4 := t.isLt; omega⟩

/-- An entry of the rows' block. -/
theorem atA (c : Dev nD) (t : Fin cfg0.N) (r : Fin 1088) (k : Fin 1024) :
    (iblk m c 0 t (ix2 r k : S1088x1024.Idx) : EReal) = m ((c.tc : Thread nD τ).loc main_arg0) (ix2 (row t r) k : S4352x1024.Idx) := by
  rw [← V_main_arg0 m c]
  blk_point [iblk, idx t]

/-- An entry of the padded rows' block. -/
theorem atW (c : Dev nD) (t : Fin cfg0.N) (s : Fin 128) (k : Fin 1024) :
    (iblk m c 1 t (ix2 s k : S128x1024.Idx) : EReal) = padded (m ((c.tc : Thread nD τ).loc main_arg1)) (ix2 s k : S128x1024.Idx) := by
  rw [← V_pad m c]
  blk_point [iblk, idx t]

/-- The array after the run is the reference's result. -/
theorem final2 (c : Dev nD) : (dats m 0 c).arrAt 2 (cfgs 0).N
    = refV (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (refV (m ((c.tc : Thread nD τ).loc main_arg0)) (m ((c.tc : Thread nD τ).loc main_arg1))
      (((View.whole main_v2).slice (win0_2.rect t)).emb (ix2 y0 y1)) : EReal)
      = refV (m ((c.tc : Thread nD τ).loc main_arg0)) (m ((c.tc : Thread nD τ).loc main_arg1)) (ix2 (row t y0) y1 : S4352x128.Idx) := by
    blk_ext [idx t]
  refine (block _ _ y0 y1).trans (Eq.trans ?_ e.symm)
  simp only [atA, atW]
  by_cases h : y1.val < 16
  · rw [refV_lo _ _ _ _ h]
    simp only [padded_lo _ _ _ h]
  · rw [refV_hi _ _ _ _ h]
    simp only [padded_hi _ _ _ h, mul_zero, Finset.sum_const_zero]

end Cert.InProjDtIdeal.Final
end
-- ==== Proof.UnGradDtValue.lean ====
module

public import proofs.«01_k».proof.Proof.Gen.UnGradDtIdeal.Value
public import proofs.«01_k».proof.Proof.Gen.UnGradDtRefIdeal.Run
public import proofs.«01_k».proof.Proof.Silu
public import Idealize.ShloMosaic.Lib.KernelVsHost

/-! # What the step sizes contribute to the cotangent of the normalised rows -/

@[expose] public section

set_option maxRecDepth 16384

noncomputable section

namespace Cert.UnGradDtRefIdeal.At

open Cert.UnGradDtRefIdeal Cert.UnGradDtRefIdeal.Gen
open Idealize.ShloMosaic Idealize.ShloMosaic.TcCoe Idealize.SL.Sem Idealize.ShloMosaic.StableHlo

/-- The reference's result. -/
def refV (D : FVec Ideal S4352x128 .f32) (W : FVec Ideal S9232x1024 .bf16) : FVec Ideal S4352x1024 .f32 :=
  Host.dotGeneral dot_S4352x16_S1024x16_S4352x1024_1_1_0_0_n_n none (extractStridedSlice S4352x16 ![0, 0] D slices_S4352x128_S4352x16_0_0) (extractStridedSlice S1024x16 ![0, 3072] (transpose S1024x9232 [1, 0] (extf .f32 W bitsLt_bf16_f32) transposes_S9232x1024_S1024x9232_1_0) slices_S1024x9232_S1024x16_0_3072)

/-- … at an index. -/
theorem refV_apply (D : FVec Ideal S4352x128 .f32) (W : FVec Ideal S9232x1024 .bf16) (i : Fin 4352) (j : Fin 1024) :
    (refV D W (ix2 i j : S4352x1024.Idx) : EReal) = ∑ k : Fin 16, D (ix2 i ⟨k.val, by omega⟩ : S4352x128.Idx) * W (ix2 ⟨3072 + k.val, by omega⟩ j : S9232x1024.Idx) := by
  unfold refV
  pointwise

end Cert.UnGradDtRefIdeal.At

namespace Cert.UnGradDtIdeal.Final

open Cert.UnGradDtIdeal Cert.UnGradDtIdeal.Gen Cert.UnGradDtRefIdeal.At
open Idealize.ShloMosaic Idealize.ShloMosaic.TcCoe Idealize.SL.Sem

/-- The sixteen rows of the weights with 112 rows of zeros below them. -/
def padded (W : FVec Ideal S9232x1024 .bf16) : FVec Ideal S128x1024 .bf16 :=
  pad S128x1024 ![0, 0] ![112, 0] ![0, 0] (extractStridedSlice S16x1024 ![3072, 0] W slices_S9232x1024_S16x1024_3072_0)
    (sitofp .bf16 (constantI S_ 32 0#32)) pads_S16x1024_S128x1024_01120_000 h_S_

/-- A row of the weights among them. -/
theorem padded_lo (W : FVec Ideal S9232x1024 .bf16) (j : Fin 128) (k : Fin 1024) (h : j.val < 16) :
    (padded W (ix2 j k : S128x1024.Idx) : EReal) = W (ix2 ⟨3072 + j.val, by omega⟩ k : S9232x1024.Idx) := by
  refine (pad_apply_of_inside _ _ _ _ _ _ _ _ (ix2 ⟨j.val, h⟩ k : S16x1024.Idx) ?_).trans ?_
  · intro a
    match a with
    | ⟨0, _⟩ => simp
    | ⟨1, _⟩ => simp
  · pointwise

/-- A row of the zeros. -/
theorem padded_hi (W : FVec Ideal S9232x1024 .bf16) (j : Fin 128) (k : Fin 1024) (h : ¬ j.val < 16) :
    (padded W (ix2 j k : S128x1024.Idx) : EReal) = 0 := by
  unfold padded
  pointwise
  simp only [h, if_false, dif_neg, not_false_eq_true]
  exact (congrArg (fun z : ℤ => ((z : ℝ) : EReal)) (by decide : (0#32 : BitVec 32).toInt = 0)).trans (by simp)

/-- What a block of the result holds. -/
theorem block (a : Vec Ideal S1088x128 .bf16) (w : Vec Ideal S128x1024 .bf16) (r : Fin 1088) (s : Fin 1024) :
    (out0_2 a w (ix2 r s : S1088x1024.Idx) : EReal) = ∑ k : Fin 128, a (ix2 r k : S1088x128.Idx) * w (ix2 k s : S128x1024.Idx) := by
  frame_out
  open_payloads
  pointwise

/-- Of a sum over 128 columns the first sixteen remain. -/
theorem sum_first (f : Fin 128 → EReal) (g : Fin 16 → EReal) (h : ∀ k : Fin 16, f ⟨k.val, by omega⟩ = g k)
    (h' : ∀ k : Fin 128, ¬ k.val < 16 → f k = 0) : ∑ k : Fin 128, f k = ∑ k : Fin 16, g k := by
  have e := Fin.sum_univ_add (a := 16) (b := 112) f
  refine e.trans ?_
  rw [Finset.sum_eq_zero (s := (Finset.univ : Finset (Fin 112))) (fun k _ => h' _ (by simp)), add_zero]
  exact Finset.sum_congr rfl fun k _ => h k

variable (m : (ℓ : Loc nD τ sig) → Buf (Elt Ideal) ℓ)

/-- The padded rows as the call finds them. -/
theorem V_pad (c : Dev nD) : V m c main_v1 = padded (m ((c.tc : Thread nD τ).loc main_arg1)) := by
  simp only [V, hostOps0, hostOps0_1, hostOps0_2, List.flatten_cons, List.flatten_nil, List.append_nil, List.cons_append, List.nil_append]
  after_results
  rfl

/-- The rounded cotangent as the call finds it. -/
theorem V_ct (c : Dev nD) : V m c main_v2 = (truncf .bf16 (m ((c.tc : Thread nD τ).loc main_arg0) : FVec Ideal S4352x128 .f32) bitsLt_bf16_f32 : FVec Ideal S4352x128 .bf16) := by
  simp only [V, hostOps0, hostOps0_1, hostOps0_2, List.flatten_cons, List.flatten_nil, List.append_nil, List.cons_append, List.nil_append]
  after_results

/-- The blocks' places at a grid point. -/
theorem idx : ∀ t : Fin cfg0.N, win0_0.index t = ![t.val, 0] ∧ win0_1.index t = ![0, 0] ∧ win0_2.index t = ![t.val, 0] :=
  (by decide +kernel : ∀ t : Fin grid0.N, _)

/-- The row of the array that a row of a grid point's block is. -/
abbrev row (t : Fin cfg0.N) (r : Fin 1088) : Fin 4352 := ⟨1088 * t.val + r.val, by have : t.val < 4 := t.isLt; omega⟩

/-- An entry of the cotangent's block. -/
theorem atA (c : Dev nD) (t : Fin cfg0.N) (r : Fin 1088) (k : Fin 128) :
    (iblk m c 0 t (ix2 r k : S1088x128.Idx) : EReal) = m ((c.tc : Thread nD τ).loc main_arg0) (ix2 (row t r) k : S4352x128.Idx) := by
  refine Eq.trans ?_ (congrFun (V_ct m c) (ix2 (row t r) k : S4352x128.Idx))
  blk_point [iblk, idx t]

/-- An entry of the padded rows' block. -/
theorem atW (c : Dev nD) (t : Fin cfg0.N) (s : Fin 128) (k : Fin 1024) :
    (iblk m c 1 t (ix2 s k : S128x1024.Idx) : EReal) = padded (m ((c.tc : Thread nD τ).loc main_arg1)) (ix2 s k : S128x1024.Idx) := by
  rw [← V_pad m c]
  blk_point [iblk, idx t]

/-- The array after the run is the reference's result. -/
theorem final2 (c : Dev nD) : (dats m 0 c).arrAt 2 (cfgs 0).N
    = refV (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (refV (m ((c.tc : Thread nD τ).loc main_arg0)) (m ((c.tc : Thread nD τ).loc main_arg1))
      (((View.whole main_v3).slice (win0_2.rect t)).emb (ix2 y0 y1)) : EReal)
      = refV (m ((c.tc : Thread nD τ).loc main_arg0)) (m ((c.tc : Thread nD τ).loc main_arg1)) (ix2 (row t y0) y1 : S4352x1024.Idx) := by
    blk_ext [idx t]
  refine (block _ _ y0 y1).trans (Eq.trans ?_ e.symm)
  rw [refV_apply]
  simp only [atA, atW]
  refine sum_first _ _ (fun k => ?_) (fun k hk => ?_)
  · rw [padded_lo _ _ _ k.isLt]
  · rw [padded_hi _ _ _ hk, mul_zero]

end Cert.UnGradDtIdeal.Final
end
-- ==== Proof.InGradDtValue.lean ====
module

public import proofs.«01_k».proof.Proof.Gen.InGradDtIdeal.Value
public import proofs.«01_k».proof.Proof.Gen.InGradDtRefIdeal.Run
public import proofs.«01_k».proof.Proof.Silu
public import Idealize.ShloMosaic.Lib.KernelVsHost

/-! # The gradient of the input projection's weights, in the step sizes' columns -/

@[expose] public section

set_option maxRecDepth 16384

noncomputable section

namespace Cert.InGradDtRefIdeal.At

open Cert.InGradDtRefIdeal Cert.InGradDtRefIdeal.Gen
open Idealize.ShloMosaic Idealize.ShloMosaic.TcCoe Idealize.SL.Sem Idealize.ShloMosaic.StableHlo

/-- The reference's result. -/
def refV (A : FVec Ideal S4352x128 .f32) (B : FVec Ideal S4352x1024 .bf16) : FVec Ideal S128x1024 .bf16 :=
  truncf .bf16 (transpose S128x1024 [1, 0] (transpose S1024x128 [1, 0] (Host.dotGeneral dot_S4352x128_S4352x1024_S128x1024_0_0_1_1_n_n none A (extf .f32 B bitsLt_bf16_f32)) transposes_S128x1024_S1024x128_1_0) transposes_S1024x128_S128x1024_1_0) bitsLt_bf16_f32

/-- … at an index. -/
theorem refV_apply (A : FVec Ideal S4352x128 .f32) (B : FVec Ideal S4352x1024 .bf16) (i : Fin 128) (j : Fin 1024) :
    (refV A B (ix2 i j : S128x1024.Idx) : EReal) = ∑ r : Fin 4352, A (ix2 r i : S4352x128.Idx) * B (ix2 r j : S4352x1024.Idx) := by
  unfold refV; pointwise

end Cert.InGradDtRefIdeal.At

namespace Cert.InGradDtIdeal.Final

open Cert.InGradDtIdeal Cert.InGradDtIdeal.Gen Cert.InGradDtRefIdeal.At
open Idealize.ShloMosaic Idealize.ShloMosaic.TcCoe Idealize.SL.Sem

/-- What a block of the result holds. -/
theorem block (a : Vec Ideal S4352x128 .bf16) (b : Vec Ideal S4352x1024 .bf16) (r : Fin 128) (s : Fin 1024) :
    (out0_2 a b (ix2 r s : S128x1024.Idx) : EReal) = ∑ k : Fin 4352, a (ix2 k r : S4352x128.Idx) * b (ix2 k s : S4352x1024.Idx) := by
  frame_out
  open_payloads
  pointwise

variable (m : (ℓ : Loc nD τ sig) → Buf (Elt Ideal) ℓ)

/-- The rounded cotangent as the call finds it. -/
theorem V_ct (c : Dev nD) : V m c main_v0 = (truncf .bf16 (m ((c.tc : Thread nD τ).loc main_arg0) : FVec Ideal S4352x128 .f32) bitsLt_bf16_f32 : FVec Ideal S4352x128 .bf16) := by
  show StableHlo.after _ _ _ = _
  after_results

/-- The blocks' places at a grid point. -/
theorem idx : ∀ t : Fin cfg0.N, win0_0.index t = ![0, 0] ∧ win0_1.index t = ![0, 0] ∧ win0_2.index t = ![0, 0] :=
  (by decide +kernel : ∀ t : Fin grid0.N, _)

/-- An entry of the left factor. -/
theorem atA (c : Dev nD) (t : Fin cfg0.N) (r : Fin 4352) (s : Fin 128) :
    (iblk m c 0 t (ix2 r s : S4352x128.Idx) : EReal) = m ((c.tc : Thread nD τ).loc main_arg0) (ix2 r s : S4352x128.Idx) := by
  refine Eq.trans ?_ (congrFun (V_ct m c) (ix2 r s : S4352x128.Idx))
  blk_point [iblk, idx t]

/-- An entry of the right factor. -/
theorem atB (c : Dev nD) (t : Fin cfg0.N) (r : Fin 4352) (s : Fin 1024) :
    (iblk m c 1 t (ix2 r s : S4352x1024.Idx) : EReal) = m ((c.tc : Thread nD τ).loc main_arg1) (ix2 r s : S4352x1024.Idx) := by
  rw [← V_main_arg1 m c]
  blk_point [iblk, idx t]

/-- The array after the run is the reference's result. -/
theorem final2 (c : Dev nD) : (dats m 0 c).arrAt 2 (cfgs 0).N
    = refV (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (refV (m ((c.tc : Thread nD τ).loc main_arg0)) (m ((c.tc : Thread nD τ).loc main_arg1))
      (((View.whole main_v1).slice (win0_2.rect t)).emb (ix2 y0 y1)) : EReal)
      = refV (m ((c.tc : Thread nD τ).loc main_arg0)) (m ((c.tc : Thread nD τ).loc main_arg1)) (ix2 y0 y1 : S128x1024.Idx) := by
    blk_ext [idx t]
  refine (block _ _ y0 y1).trans (Eq.trans ?_ e.symm)
  rw [refV_apply]
  simp only [atA, atB]

end Cert.InGradDtIdeal.Final
end
-- ==== Proof.DtClaim.lean ====
module

public import proofs.«01_k».proof.Defs
public import proofs.«01_k».proof.Proof.DownNormValue
public import proofs.«01_k».proof.Proof.InProjDtValue
public import proofs.«01_k».proof.Proof.UnGradDtValue
public import proofs.«01_k».proof.Proof.InGradDtValue
public import Idealize.ShloMosaic.Lib.Claim

/-! # The step sizes' products and the first feed-forward layer's second product leave the reference's results -/

@[expose] public section

set_option maxRecDepth 16384

noncomputable section

namespace Cert.DtClaim

open Idealize.ShloMosaic Idealize.ShloMosaic.TcCoe Idealize.SL.Sem

/-- The second product of the first feed-forward layer, with the residual and the next normalisation. -/
theorem downNorm [Cert.DownNormIdeal.Facts] [Cert.DownNormRefIdeal.Facts] : Cert.algebraic_DownNormIdeal_DownNormRefIdeal := by
  pair_intro
  · run_from Cert.DownNormIdeal.Value.run_blocks m g
  · run_from Cert.DownNormRefIdeal.Value.run m' g'
    · obtain ⟨e0, e1, e2, e3⟩ := hagree c
      refine Eq.trans ?_ (Cert.DownNormIdeal.Final.final4 m c).symm
      rw [← e0, ← e1, ← e2]
      rfl
    · obtain ⟨e0, e1, e2, e3⟩ := hagree c
      refine Eq.trans ?_ (Cert.DownNormIdeal.Final.final5 m c).symm
      rw [← e0, ← e1, ← e2, ← e3]
      rfl

/-- The step sizes before their bias. -/
theorem inProjDt [Cert.InProjDtIdeal.Facts] [Cert.InProjDtRefIdeal.Facts] : Cert.algebraic_InProjDtIdeal_InProjDtRefIdeal := by
  pair_intro
  · run_from Cert.InProjDtIdeal.Value.run_blocks m g
  · run_from Cert.InProjDtRefIdeal.Value.run m' g'
    obtain ⟨e0, e1⟩ := hagree c
    refine Eq.trans ?_ (Cert.InProjDtIdeal.Final.final2 m c).symm
    rw [← e0, ← e1]
    rfl

/-- What the step sizes contribute to the cotangent of the normalised rows. -/
theorem unGradDt [Cert.UnGradDtIdeal.Facts] [Cert.UnGradDtRefIdeal.Facts] : Cert.algebraic_UnGradDtIdeal_UnGradDtRefIdeal := by
  pair_intro
  · run_from Cert.UnGradDtIdeal.Value.run_blocks m g
  · run_from Cert.UnGradDtRefIdeal.Value.run m' g'
    obtain ⟨e0, e1⟩ := hagree c
    refine Eq.trans ?_ (Cert.UnGradDtIdeal.Final.final2 m c).symm
    rw [← e0, ← e1]
    rfl

/-- The gradient of the weights that make the step sizes. -/
theorem inGradDt [Cert.InGradDtIdeal.Facts] [Cert.InGradDtRefIdeal.Facts] : Cert.algebraic_InGradDtIdeal_InGradDtRefIdeal := by
  pair_intro
  · run_from Cert.InGradDtIdeal.Value.run_blocks m g
  · run_from Cert.InGradDtRefIdeal.Value.run m' g'
    obtain ⟨e0, e1⟩ := hagree c
    refine Eq.trans ?_ (Cert.InGradDtIdeal.Final.final2 m c).symm
    rw [← e0, ← e1]
    rfl

end Cert.DtClaim
end
-- ==== Proof.ConvFwdShift.lean ====
module

public import proofs.«01_k».proof.Proof.Gen.ConvFwdIdeal.Skeleton
public import Idealize.ShloMosaic.Lib.Pipeline.ValueKit
public import Idealize.ShloMosaic.Lib.Pointwise
public import Idealize.ShloMosaic.Lib.WordCmp

/-! # The shifted rows of the convolution's input

The kernel moves the rows of its block by multiplying with a 0/1 matrix of 384 rows, 128 rows of the input at a time.
Here the three moved blocks are read at an index: the block moved by `s` has at row `r` the input's row `r − s`, and zero
in the first `s` rows. No value needs to be finite: a zero of the matrix times an infinity is zero. -/

@[expose] public section

set_option maxRecDepth 16384

noncomputable section

namespace Cert.ConvFwdIdeal.Shift

open Cert.ConvFwdIdeal Cert.ConvFwdIdeal.Gen Idealize.ShloMosaic Idealize.ShloMosaic.TcCoe Idealize.SL.Sem

/-- The column numbers of the move matrix. -/
def cols : IVec S384x256 32 := iota .tc S384x256 32 [1] iota_S384x256_d1_w32

/-- The 0/1 move matrix as the kernel forms it. -/
def move : FVec Ideal S384x256 .bf16 := k0_pay6 (F := Ideal) cols k0_pay3 k0_pay4 k0_pay5

/-- Row `r` of the move matrix has its only one at column `128 + r % 128 − (r / 128 + 1)`. -/
theorem move_apply (r : Fin 384) (c : Fin 256) :
    move (ix2 r c : S384x256.Idx) = if c.val = 128 + r.val % 128 - (r.val / 128 + 1) then 1 else 0 := by
  unfold move cols
  pointwise [k0_pay6, k0_pay3, k0_pay4, k0_pay5]
  refine Eq.trans (congrArg (fun w => FloatOps.sitofp (F := Ideal) FTy.f32 (BitVec.setWidth 32 (IntOp.cmpi CmpIPredicate.eq (BitVec.ofNat 32 ↑c) w)))
    (?_ : _ = BitVec.ofNat 32 (128 + r.val % 128 - (r.val / 128 + 1)))) ?_
  · revert r; decide +kernel
  · have h := r.isLt
    rw [WordCmp.cmpi_eq_ofNat (by omega) (by omega)]
    by_cases hc : c.val = 128 + r.val % 128 - (r.val / 128 + 1)
    · rw [if_pos hc, decide_eq_true hc]
      show (((1 : ℤ) : ℝ) : EReal) = 1
      norm_num
    · rw [if_neg hc, decide_eq_false hc]
      show (((0 : ℤ) : ℝ) : EReal) = 0
      norm_num

/-- The value of `x` at row `k`, and zero past the last row. -/
def row (x : FVec Ideal S2176x256 .bf16) (k : ℕ) (c : Fin 256) : EReal :=
  if h : k < 2176 then x (ix2 ⟨k, h⟩ c : S2176x256.Idx) else 0

theorem row_eq (x : FVec Ideal S2176x256 .bf16) (k : ℕ) (h : k < 2176) (c : Fin 256) :
    x (ix2 ⟨k, h⟩ c : S2176x256.Idx) = row x k c := by rw [row, dif_pos h]

theorem row_val (x : FVec Ideal S2176x256 .bf16) (r : Fin 2176) (c : Fin 256) :
    x (ix2 r c : S2176x256.Idx) = row x r.val c := row_eq x r.val r.isLt c

/-- A sum against the indicator of one position is the term at that position. -/
theorem sum_indicator {n : ℕ} (a : ℕ) (h : a < n) (f : ℕ → EReal) :
    (∑ k : Fin n, (if k.val = a then (1 : EReal) else 0) * f k.val) = f a := by
  rw [Finset.sum_eq_single (⟨a, h⟩ : Fin n)]
  · rw [if_pos rfl, one_mul]
  · intro b _ hb
    rw [if_neg (fun e => hb (Fin.ext e)), zero_mul]
  · intro hb; exact absurd (Finset.mem_univ _) hb

/-- The same with the position counted from 128: a position before it leaves zero. -/
theorem sum_indicator_from (a : ℕ) (h : a < 256) (f : ℕ → EReal) :
    (∑ k : Fin 128, (if 128 + k.val = a then (1 : EReal) else 0) * f k.val) = if 128 ≤ a then f (a - 128) else 0 := by
  by_cases ha : 128 ≤ a
  · rw [if_pos ha, ← sum_indicator (a - 128) (n := 128) (by omega) f]
    refine Finset.sum_congr rfl fun k _ => ?_
    congr 1
    exact if_congr (by omega) rfl rfl
  · rw [if_neg ha]
    refine Finset.sum_eq_zero fun k _ => ?_
    rw [if_neg (by omega), zero_mul]

/-- The product with the first 128 rows. -/
theorem prod0 (x : FVec Ideal S2176x256 .bf16) (r : Fin 384) (c : Fin 256) :
    (k0_pay7 (F := Ideal) x cols k0_pay3 k0_pay4 k0_pay5 (ix2 r c : S384x256.Idx) : EReal)
      = if r.val / 128 + 1 ≤ 0 + r.val % 128 then row x (0 + r.val % 128 - (r.val / 128 + 1)) c else 0 := by
  have h := r.isLt
  unfold k0_pay7
  rw [show k0_pay6 (F := Ideal) cols k0_pay3 k0_pay4 k0_pay5 = move from rfl]
  pointwise
  simp only [move_apply, row_eq]
  rw [sum_indicator_from _ (by omega) (fun k => row x k c)]
  refine if_congr (by omega) (by congr 1; omega) rfl

/-- The product with the 256 rows from 0. -/
theorem prod1 (x : FVec Ideal S2176x256 .bf16) (r : Fin 384) (c : Fin 256) :
    (k0_pay11 (F := Ideal) x cols k0_pay3 k0_pay4 k0_pay5 (ix2 r c : S384x256.Idx) : EReal)
      = if r.val / 128 + 1 ≤ 128 + r.val % 128 then row x (128 + r.val % 128 - (r.val / 128 + 1)) c else 0 := by
  have h := r.isLt
  unfold k0_pay11
  rw [show k0_pay6 (F := Ideal) cols k0_pay3 k0_pay4 k0_pay5 = move from rfl]
  pointwise
  simp only [move_apply, row_eq]
  rw [sum_indicator _ (by omega) (fun k => row x (k) c), if_pos (by omega)]

/-- The product with the 256 rows from 128. -/
theorem prod2 (x : FVec Ideal S2176x256 .bf16) (r : Fin 384) (c : Fin 256) :
    (k0_pay15 (F := Ideal) x cols k0_pay3 k0_pay4 k0_pay5 (ix2 r c : S384x256.Idx) : EReal)
      = if r.val / 128 + 1 ≤ 256 + r.val % 128 then row x (256 + r.val % 128 - (r.val / 128 + 1)) c else 0 := by
  have h := r.isLt
  unfold k0_pay15
  rw [show k0_pay6 (F := Ideal) cols k0_pay3 k0_pay4 k0_pay5 = move from rfl]
  pointwise
  simp only [move_apply, row_eq]
  rw [sum_indicator _ (by omega) (fun k => row x (128 + k) c), if_pos (by omega)]
  congr 1; omega

/-- The product with the 256 rows from 256. -/
theorem prod3 (x : FVec Ideal S2176x256 .bf16) (r : Fin 384) (c : Fin 256) :
    (k0_pay19 (F := Ideal) x cols k0_pay3 k0_pay4 k0_pay5 (ix2 r c : S384x256.Idx) : EReal)
      = if r.val / 128 + 1 ≤ 384 + r.val % 128 then row x (384 + r.val % 128 - (r.val / 128 + 1)) c else 0 := by
  have h := r.isLt
  unfold k0_pay19
  rw [show k0_pay6 (F := Ideal) cols k0_pay3 k0_pay4 k0_pay5 = move from rfl]
  pointwise
  simp only [move_apply, row_eq]
  rw [sum_indicator _ (by omega) (fun k => row x (256 + k) c), if_pos (by omega)]
  congr 1; omega

/-- The product with the 256 rows from 384. -/
theorem prod4 (x : FVec Ideal S2176x256 .bf16) (r : Fin 384) (c : Fin 256) :
    (k0_pay23 (F := Ideal) x cols k0_pay3 k0_pay4 k0_pay5 (ix2 r c : S384x256.Idx) : EReal)
      = if r.val / 128 + 1 ≤ 512 + r.val % 128 then row x (512 + r.val % 128 - (r.val / 128 + 1)) c else 0 := by
  have h := r.isLt
  unfold k0_pay23
  rw [show k0_pay6 (F := Ideal) cols k0_pay3 k0_pay4 k0_pay5 = move from rfl]
  pointwise
  simp only [move_apply, row_eq]
  rw [sum_indicator _ (by omega) (fun k => row x (384 + k) c), if_pos (by omega)]
  congr 1; omega

/-- The product with the 256 rows from 512. -/
theorem prod5 (x : FVec Ideal S2176x256 .bf16) (r : Fin 384) (c : Fin 256) :
    (k0_pay27 (F := Ideal) x cols k0_pay3 k0_pay4 k0_pay5 (ix2 r c : S384x256.Idx) : EReal)
      = if r.val / 128 + 1 ≤ 640 + r.val % 128 then row x (640 + r.val % 128 - (r.val / 128 + 1)) c else 0 := by
  have h := r.isLt
  unfold k0_pay27
  rw [show k0_pay6 (F := Ideal) cols k0_pay3 k0_pay4 k0_pay5 = move from rfl]
  pointwise
  simp only [move_apply, row_eq]
  rw [sum_indicator _ (by omega) (fun k => row x (512 + k) c), if_pos (by omega)]
  congr 1; omega

/-- The product with the 256 rows from 640. -/
theorem prod6 (x : FVec Ideal S2176x256 .bf16) (r : Fin 384) (c : Fin 256) :
    (k0_pay31 (F := Ideal) x cols k0_pay3 k0_pay4 k0_pay5 (ix2 r c : S384x256.Idx) : EReal)
      = if r.val / 128 + 1 ≤ 768 + r.val % 128 then row x (768 + r.val % 128 - (r.val / 128 + 1)) c else 0 := by
  have h := r.isLt
  unfold k0_pay31
  rw [show k0_pay6 (F := Ideal) cols k0_pay3 k0_pay4 k0_pay5 = move from rfl]
  pointwise
  simp only [move_apply, row_eq]
  rw [sum_indicator _ (by omega) (fun k => row x (640 + k) c), if_pos (by omega)]
  congr 1; omega

/-- The product with the 256 rows from 768. -/
theorem prod7 (x : FVec Ideal S2176x256 .bf16) (r : Fin 384) (c : Fin 256) :
    (k0_pay35 (F := Ideal) x cols k0_pay3 k0_pay4 k0_pay5 (ix2 r c : S384x256.Idx) : EReal)
      = if r.val / 128 + 1 ≤ 896 + r.val % 128 then row x (896 + r.val % 128 - (r.val / 128 + 1)) c else 0 := by
  have h := r.isLt
  unfold k0_pay35
  rw [show k0_pay6 (F := Ideal) cols k0_pay3 k0_pay4 k0_pay5 = move from rfl]
  pointwise
  simp only [move_apply, row_eq]
  rw [sum_indicator _ (by omega) (fun k => row x (768 + k) c), if_pos (by omega)]
  congr 1; omega

/-- The product with the 256 rows from 896. -/
theorem prod8 (x : FVec Ideal S2176x256 .bf16) (r : Fin 384) (c : Fin 256) :
    (k0_pay38 (F := Ideal) x move (ix2 r c : S384x256.Idx) : EReal)
      = if r.val / 128 + 1 ≤ 1024 + r.val % 128 then row x (1024 + r.val % 128 - (r.val / 128 + 1)) c else 0 := by
  have h := r.isLt
  unfold k0_pay38
  pointwise
  simp only [move_apply, row_eq]
  rw [sum_indicator _ (by omega) (fun k => row x (896 + k) c), if_pos (by omega)]
  congr 1; omega

/-- The product with the 256 rows from 1024. -/
theorem prod9 (x : FVec Ideal S2176x256 .bf16) (r : Fin 384) (c : Fin 256) :
    (k0_pay39 (F := Ideal) x move (ix2 r c : S384x256.Idx) : EReal)
      = if r.val / 128 + 1 ≤ 1152 + r.val % 128 then row x (1152 + r.val % 128 - (r.val / 128 + 1)) c else 0 := by
  have h := r.isLt
  unfold k0_pay39
  pointwise
  simp only [move_apply, row_eq]
  rw [sum_indicator _ (by omega) (fun k => row x (1024 + k) c), if_pos (by omega)]
  congr 1; omega

/-- The product with the 256 rows from 1152. -/
theorem prod10 (x : FVec Ideal S2176x256 .bf16) (r : Fin 384) (c : Fin 256) :
    (k0_pay40 (F := Ideal) x move (ix2 r c : S384x256.Idx) : EReal)
      = if r.val / 128 + 1 ≤ 1280 + r.val % 128 then row x (1280 + r.val % 128 - (r.val / 128 + 1)) c else 0 := by
  have h := r.isLt
  unfold k0_pay40
  pointwise
  simp only [move_apply, row_eq]
  rw [sum_indicator _ (by omega) (fun k => row x (1152 + k) c), if_pos (by omega)]
  congr 1; omega

/-- The product with the 256 rows from 1280. -/
theorem prod11 (x : FVec Ideal S2176x256 .bf16) (r : Fin 384) (c : Fin 256) :
    (k0_pay41 (F := Ideal) x move (ix2 r c : S384x256.Idx) : EReal)
      = if r.val / 128 + 1 ≤ 1408 + r.val % 128 then row x (1408 + r.val % 128 - (r.val / 128 + 1)) c else 0 := by
  have h := r.isLt
  unfold k0_pay41
  pointwise
  simp only [move_apply, row_eq]
  rw [sum_indicator _ (by omega) (fun k => row x (1280 + k) c), if_pos (by omega)]
  congr 1; omega

/-- The product with the 256 rows from 1408. -/
theorem prod12 (x : FVec Ideal S2176x256 .bf16) (r : Fin 384) (c : Fin 256) :
    (k0_pay42 (F := Ideal) x move (ix2 r c : S384x256.Idx) : EReal)
      = if r.val / 128 + 1 ≤ 1536 + r.val % 128 then row x (1536 + r.val % 128 - (r.val / 128 + 1)) c else 0 := by
  have h := r.isLt
  unfold k0_pay42
  pointwise
  simp only [move_apply, row_eq]
  rw [sum_indicator _ (by omega) (fun k => row x (1408 + k) c), if_pos (by omega)]
  congr 1; omega

/-- The product with the 256 rows from 1536. -/
theorem prod13 (x : FVec Ideal S2176x256 .bf16) (r : Fin 384) (c : Fin 256) :
    (k0_pay43 (F := Ideal) x move (ix2 r c : S384x256.Idx) : EReal)
      = if r.val / 128 + 1 ≤ 1664 + r.val % 128 then row x (1664 + r.val % 128 - (r.val / 128 + 1)) c else 0 := by
  have h := r.isLt
  unfold k0_pay43
  pointwise
  simp only [move_apply, row_eq]
  rw [sum_indicator _ (by omega) (fun k => row x (1536 + k) c), if_pos (by omega)]
  congr 1; omega

/-- The product with the 256 rows from 1664. -/
theorem prod14 (x : FVec Ideal S2176x256 .bf16) (r : Fin 384) (c : Fin 256) :
    (k0_pay44 (F := Ideal) x move (ix2 r c : S384x256.Idx) : EReal)
      = if r.val / 128 + 1 ≤ 1792 + r.val % 128 then row x (1792 + r.val % 128 - (r.val / 128 + 1)) c else 0 := by
  have h := r.isLt
  unfold k0_pay44
  pointwise
  simp only [move_apply, row_eq]
  rw [sum_indicator _ (by omega) (fun k => row x (1664 + k) c), if_pos (by omega)]
  congr 1; omega

/-- The product with the 256 rows from 1792. -/
theorem prod15 (x : FVec Ideal S2176x256 .bf16) (r : Fin 384) (c : Fin 256) :
    (k0_pay45 (F := Ideal) x move (ix2 r c : S384x256.Idx) : EReal)
      = if r.val / 128 + 1 ≤ 1920 + r.val % 128 then row x (1920 + r.val % 128 - (r.val / 128 + 1)) c else 0 := by
  have h := r.isLt
  unfold k0_pay45
  pointwise
  simp only [move_apply, row_eq]
  rw [sum_indicator _ (by omega) (fun k => row x (1792 + k) c), if_pos (by omega)]
  congr 1; omega

/-- The product with the 256 rows from 1920. -/
theorem prod16 (x : FVec Ideal S2176x256 .bf16) (r : Fin 384) (c : Fin 256) :
    (k0_pay46 (F := Ideal) x move (ix2 r c : S384x256.Idx) : EReal)
      = if r.val / 128 + 1 ≤ 2048 + r.val % 128 then row x (2048 + r.val % 128 - (r.val / 128 + 1)) c else 0 := by
  have h := r.isLt
  unfold k0_pay46
  pointwise
  simp only [move_apply, row_eq]
  rw [sum_indicator _ (by omega) (fun k => row x (1920 + k) c), if_pos (by omega)]
  congr 1; omega

/-- The seventeen products, in the order of their rows. -/
def prods (x : FVec Ideal S2176x256 .bf16) : Fin 17 → FVec Ideal S384x256 .f32 :=
  ![k0_pay7 x cols k0_pay3 k0_pay4 k0_pay5,
    k0_pay11 x cols k0_pay3 k0_pay4 k0_pay5,
    k0_pay15 x cols k0_pay3 k0_pay4 k0_pay5,
    k0_pay19 x cols k0_pay3 k0_pay4 k0_pay5,
    k0_pay23 x cols k0_pay3 k0_pay4 k0_pay5,
    k0_pay27 x cols k0_pay3 k0_pay4 k0_pay5,
    k0_pay31 x cols k0_pay3 k0_pay4 k0_pay5,
    k0_pay35 x cols k0_pay3 k0_pay4 k0_pay5,
    k0_pay38 x move,
    k0_pay39 x move,
    k0_pay40 x move,
    k0_pay41 x move,
    k0_pay42 x move,
    k0_pay43 x move,
    k0_pay44 x move,
    k0_pay45 x move,
    k0_pay46 x move]

/-- Each of the seventeen products at an index. -/
theorem prods_apply (x : FVec Ideal S2176x256 .bf16) (n : Fin 17) (r : Fin 384) (c : Fin 256) :
    (prods x n (ix2 r c : S384x256.Idx) : EReal)
      = if r.val / 128 + 1 ≤ 128 * n.val + r.val % 128 then row x (128 * n.val + r.val % 128 - (r.val / 128 + 1)) c else 0 := by
  fin_vals n with hn
  · obtain rfl : n = 0 := Fin.ext hn
    exact prod0 x r c
  · obtain rfl : n = 1 := Fin.ext hn
    exact prod1 x r c
  · obtain rfl : n = 2 := Fin.ext hn
    exact prod2 x r c
  · obtain rfl : n = 3 := Fin.ext hn
    exact prod3 x r c
  · obtain rfl : n = 4 := Fin.ext hn
    exact prod4 x r c
  · obtain rfl : n = 5 := Fin.ext hn
    exact prod5 x r c
  · obtain rfl : n = 6 := Fin.ext hn
    exact prod6 x r c
  · obtain rfl : n = 7 := Fin.ext hn
    exact prod7 x r c
  · obtain rfl : n = 8 := Fin.ext hn
    exact prod8 x r c
  · obtain rfl : n = 9 := Fin.ext hn
    exact prod9 x r c
  · obtain rfl : n = 10 := Fin.ext hn
    exact prod10 x r c
  · obtain rfl : n = 11 := Fin.ext hn
    exact prod11 x r c
  · obtain rfl : n = 12 := Fin.ext hn
    exact prod12 x r c
  · obtain rfl : n = 13 := Fin.ext hn
    exact prod13 x r c
  · obtain rfl : n = 14 := Fin.ext hn
    exact prod14 x r c
  · obtain rfl : n = 15 := Fin.ext hn
    exact prod15 x r c
  · obtain rfl : n = 16 := Fin.ext hn
    exact prod16 x r c

/-- The block moved down by 1 row, as the kernel forms it. -/
def tap1 (x : FVec Ideal S2176x256 .bf16) : FVec Ideal S2176x256 .f32 :=
  k0_pay47 x move (k0_pay8 x cols k0_pay3 k0_pay4 k0_pay5)
    (k0_pay12 x cols k0_pay3 k0_pay4 k0_pay5)
    (k0_pay16 x cols k0_pay3 k0_pay4 k0_pay5)
    (k0_pay20 x cols k0_pay3 k0_pay4 k0_pay5)
    (k0_pay24 x cols k0_pay3 k0_pay4 k0_pay5)
    (k0_pay28 x cols k0_pay3 k0_pay4 k0_pay5)
    (k0_pay32 x cols k0_pay3 k0_pay4 k0_pay5)
    (k0_pay36 x cols k0_pay3 k0_pay4 k0_pay5)

/-- It has the input's row `r − 1` at row `r`, and zero in the first 1. -/
theorem tap1_apply (x : FVec Ideal S2176x256 .bf16) (r : Fin 2176) (c : Fin 256) :
    (tap1 x (ix2 r c : S2176x256.Idx) : EReal) = if 1 ≤ r.val then row x (r.val - 1) c else 0 := by
  have h := r.isLt
  have e : tap1 x (ix2 r c : S2176x256.Idx)
      = extractStridedSlice S128x256 ![0, 0] (prods x ⟨r.val / 128, by omega⟩) slices_S384x256_o0_0_S128x256
          (ix2 ⟨r.val % 128, by omega⟩ c : S128x256.Idx) :=
    concatenate_ofFn_apply (t := S2176x256) (s₁ := S128x256) 0
      (fun n : Fin 17 => extractStridedSlice S128x256 ![0, 0] (prods x n) slices_S384x256_o0_0_S128x256)
      concatenates_S128x256_S128x256_S128x256_S128x256_S128x256_S128x256_S128x256_S128x256_S128x256_S128x256_S128x256_S128x256_S128x256_S128x256_S128x256_S128x256_S128x256_S2176x256_d0
      rfl 128 rfl (ix2 r c : S2176x256.Idx) ⟨r.val / 128, by omega⟩ rfl (ix2 ⟨r.val % 128, by omega⟩ c : S128x256.Idx) rfl
      (fun b hb => by
        match b with
        | 0 => exact absurd rfl hb
        | 1 => rfl)
  rw [e]
  pointwise
  rw [prods_apply]
  dsimp only
  refine if_congr (by omega) (by congr 1; omega) rfl

/-- The block moved down by 2 rows, as the kernel forms it. -/
def tap2 (x : FVec Ideal S2176x256 .bf16) : FVec Ideal S2176x256 .f32 :=
  k0_pay48 x move (k0_pay9 x cols k0_pay3 k0_pay4 k0_pay5)
    (k0_pay13 x cols k0_pay3 k0_pay4 k0_pay5)
    (k0_pay17 x cols k0_pay3 k0_pay4 k0_pay5)
    (k0_pay21 x cols k0_pay3 k0_pay4 k0_pay5)
    (k0_pay25 x cols k0_pay3 k0_pay4 k0_pay5)
    (k0_pay29 x cols k0_pay3 k0_pay4 k0_pay5)
    (k0_pay33 x cols k0_pay3 k0_pay4 k0_pay5)
    (k0_pay37 x cols k0_pay3 k0_pay4 k0_pay5)

/-- It has the input's row `r − 2` at row `r`, and zero in the first 2. -/
theorem tap2_apply (x : FVec Ideal S2176x256 .bf16) (r : Fin 2176) (c : Fin 256) :
    (tap2 x (ix2 r c : S2176x256.Idx) : EReal) = if 2 ≤ r.val then row x (r.val - 2) c else 0 := by
  have h := r.isLt
  have e : tap2 x (ix2 r c : S2176x256.Idx)
      = extractStridedSlice S128x256 ![128, 0] (prods x ⟨r.val / 128, by omega⟩) slices_S384x256_o128_0_S128x256
          (ix2 ⟨r.val % 128, by omega⟩ c : S128x256.Idx) :=
    concatenate_ofFn_apply (t := S2176x256) (s₁ := S128x256) 0
      (fun n : Fin 17 => extractStridedSlice S128x256 ![128, 0] (prods x n) slices_S384x256_o128_0_S128x256)
      concatenates_S128x256_S128x256_S128x256_S128x256_S128x256_S128x256_S128x256_S128x256_S128x256_S128x256_S128x256_S128x256_S128x256_S128x256_S128x256_S128x256_S128x256_S2176x256_d0
      rfl 128 rfl (ix2 r c : S2176x256.Idx) ⟨r.val / 128, by omega⟩ rfl (ix2 ⟨r.val % 128, by omega⟩ c : S128x256.Idx) rfl
      (fun b hb => by
        match b with
        | 0 => exact absurd rfl hb
        | 1 => rfl)
  rw [e]
  pointwise
  rw [prods_apply]
  dsimp only
  refine if_congr (by omega) (by congr 1; omega) rfl

/-- The block moved down by 3 rows, as the kernel forms it. -/
def tap3 (x : FVec Ideal S2176x256 .bf16) : FVec Ideal S2176x256 .f32 :=
  k0_pay49 x move (k0_pay10 x cols k0_pay3 k0_pay4 k0_pay5)
    (k0_pay14 x cols k0_pay3 k0_pay4 k0_pay5)
    (k0_pay18 x cols k0_pay3 k0_pay4 k0_pay5)
    (k0_pay22 x cols k0_pay3 k0_pay4 k0_pay5)
    (k0_pay26 x cols k0_pay3 k0_pay4 k0_pay5)
    (k0_pay30 x cols k0_pay3 k0_pay4 k0_pay5)
    (k0_pay34 x cols k0_pay3 k0_pay4 k0_pay5)
    (k0_pay35 x cols k0_pay3 k0_pay4 k0_pay5)

/-- It has the input's row `r − 3` at row `r`, and zero in the first 3. -/
theorem tap3_apply (x : FVec Ideal S2176x256 .bf16) (r : Fin 2176) (c : Fin 256) :
    (tap3 x (ix2 r c : S2176x256.Idx) : EReal) = if 3 ≤ r.val then row x (r.val - 3) c else 0 := by
  have h := r.isLt
  have e : tap3 x (ix2 r c : S2176x256.Idx)
      = extractStridedSlice S128x256 ![256, 0] (prods x ⟨r.val / 128, by omega⟩) slices_S384x256_o256_0_S128x256
          (ix2 ⟨r.val % 128, by omega⟩ c : S128x256.Idx) :=
    concatenate_ofFn_apply (t := S2176x256) (s₁ := S128x256) 0
      (fun n : Fin 17 => extractStridedSlice S128x256 ![256, 0] (prods x n) slices_S384x256_o256_0_S128x256)
      concatenates_S128x256_S128x256_S128x256_S128x256_S128x256_S128x256_S128x256_S128x256_S128x256_S128x256_S128x256_S128x256_S128x256_S128x256_S128x256_S128x256_S128x256_S2176x256_d0
      rfl 128 rfl (ix2 r c : S2176x256.Idx) ⟨r.val / 128, by omega⟩ rfl (ix2 ⟨r.val % 128, by omega⟩ c : S128x256.Idx) rfl
      (fun b hb => by
        match b with
        | 0 => exact absurd rfl hb
        | 1 => rfl)
  rw [e]
  pointwise
  rw [prods_apply]
  dsimp only
  refine if_congr (by omega) (by congr 1; omega) rfl

end Cert.ConvFwdIdeal.Shift
end
-- ==== Proof.ConvFwdValue.lean ====
module

public import proofs.«01_k».proof.Proof.Gen.ConvFwdIdeal.Value
public import proofs.«01_k».proof.Proof.Gen.ConvFwdRefIdeal.Run
public import proofs.«01_k».proof.Proof.ConvFwdShift
public import proofs.«01_k».proof.Proof.ConvSpec

/-! # The forward convolution with its activation

Each block is one sequence and 256 columns. On the rows of tokens both programs give the value before the activation times
its logistic function; on the other rows both give zero. -/

@[expose] public section

set_option maxRecDepth 16384

noncomputable section

namespace Cert.ConvFwdRefIdeal.At

open Cert.ConvFwdRefIdeal Cert.ConvFwdRefIdeal.Gen Cert.ConvFwdRefIdeal.Value Cert.ConvSpec Cert.Silu
open Idealize.ShloMosaic Idealize.ShloMosaic.TcCoe Idealize.SL.Sem

abbrev FP := FVec Ideal S4352x9216 .bf16
abbrev FW := FVec Ideal S4x2048 .f32
abbrev FB := FVec Ideal S1x2048 .f32
abbrev FG := FVec Ideal S4352x2048 .bf16
abbrev F3 := FVec Ideal S2x2176x2048 .f32

/-- The input rows after three rows of zeros. -/
def before (P : FP) : FVec Ideal S2x2179x2048 .f32 :=
  (concatenate S2x2179x2048 1 [⟨S2x3x2048, (broadcastInDim S2x3x2048 ![] bcast_S_S2x3x2048 (constant S_ .f32 0x00000000#32))⟩, ⟨S2x2176x2048, (shapeCast _ (extf .f32 (extractStridedSlice S4352x2048 ![0, 1024] P slices_S4352x9216_S4352x2048_0_1024) bitsLt_bf16_f32) shapeCasts_S4352x2048_S2x2176x2048)⟩] concatenates_S2x3x2048_S2x2176x2048_S2x2179x2048_d1)

/-- The convolution before its activation. -/
def preV (P : FP) (W : FW) (B : FB) : F3 :=
  (addf (addf (addf (addf (addf (broadcastInDim S2x2176x2048 ![] bcast_S_S2x2176x2048 (constant S_ .f32 0x00000000#32)) (mulf (broadcastInDim S2x2176x2048 ![0, 1, 2] bcast_S1x1x2048_S2x2176x2048_0_1_2 (broadcastInDim S1x1x2048 ![2] bcast_S2048_S1x1x2048_2 (shapeCast _ (extractStridedSlice S1x2048 ![0, 0] W slices_S4x2048_S1x2048_0_0) shapeCasts_S1x2048_S2048))) (extractStridedSlice S2x2176x2048 ![0, 0, 0] (before P) slices_S2x2179x2048_S2x2176x2048_0_0_0))) (mulf (broadcastInDim S2x2176x2048 ![0, 1, 2] bcast_S1x1x2048_S2x2176x2048_0_1_2 (broadcastInDim S1x1x2048 ![2] bcast_S2048_S1x1x2048_2 (shapeCast _ (extractStridedSlice S1x2048 ![1, 0] W slices_S4x2048_S1x2048_1_0) shapeCasts_S1x2048_S2048))) (extractStridedSlice S2x2176x2048 ![0, 1, 0] (before P) slices_S2x2179x2048_S2x2176x2048_0_1_0))) (mulf (broadcastInDim S2x2176x2048 ![0, 1, 2] bcast_S1x1x2048_S2x2176x2048_0_1_2 (broadcastInDim S1x1x2048 ![2] bcast_S2048_S1x1x2048_2 (shapeCast _ (extractStridedSlice S1x2048 ![2, 0] W slices_S4x2048_S1x2048_2_0) shapeCasts_S1x2048_S2048))) (extractStridedSlice S2x2176x2048 ![0, 2, 0] (before P) slices_S2x2179x2048_S2x2176x2048_0_2_0))) (mulf (broadcastInDim S2x2176x2048 ![0, 1, 2] bcast_S1x1x2048_S2x2176x2048_0_1_2 (broadcastInDim S1x1x2048 ![2] bcast_S2048_S1x1x2048_2 (shapeCast _ (extractStridedSlice S1x2048 ![3, 0] W slices_S4x2048_S1x2048_3_0) shapeCasts_S1x2048_S2048))) (extractStridedSlice S2x2176x2048 ![0, 3, 0] (before P) slices_S2x2179x2048_S2x2176x2048_0_3_0))) (broadcastInDim S2x2176x2048 ![0, 1, 2] bcast_S1x1x2048_S2x2176x2048_0_1_2 (broadcastInDim S1x1x2048 ![2] bcast_S2048_S1x1x2048_2 (shapeCast _ B shapeCasts_S1x2048_S2048))))

/-- The logistic function of an array. -/
def logi (y : F3) : F3 :=
  (Host.divf (broadcastInDim S2x2176x2048 ![] bcast_S_S2x2176x2048 (constant S_ .f32 0x3F800000#32)) (addf (broadcastInDim S2x2176x2048 ![] bcast_S_S2x2176x2048 (constant S_ .f32 0x3F800000#32)) (Host.exp (Host.negf y))))

/-- The activation on the rows of tokens, zero elsewhere. -/
def act3 (P : FP) (W : FW) (B : FB) : F3 :=
  (select (broadcastInDim S2x2176x2048 ![0, 1, 2] bcast_S1x2176x1_S2x2176x2048_0_1_2 (cmpi .sge (broadcastInDim S1x2176x1 ![1] bcast_S2176_S1x2176x1_1 (iotaInDim S2176 32 0)) (broadcastInDim S1x2176x1 ![] bcast_S_S1x2176x1 (constantI S_ 32 112#32)))) (mulf (preV P W B) (logi (preV P W B))) (broadcastInDim S2x2176x2048 ![] bcast_S_S2x2176x2048 (constant S_ .f32 0x00000000#32)))

/-- The reference's result. -/
def refV (P : FP) (W : FW) (B : FB) : FG :=
  (truncf .bf16 (shapeCast S4352x2048 (act3 P W B) shapeCasts_S2x2176x2048_S4352x2048) bitsLt_bf16_f32)

/-- The reference's result is its last line. -/
theorem res_eq (m : (ℓ : Loc nD τ sig) → Buf (Elt Ideal) ℓ) (c : Dev nD) : res_out0 m c = refV (m ((c.tc : Thread nD τ).loc main_arg0)) (m ((c.tc : Thread nD τ).loc main_arg1)) (m ((c.tc : Thread nD τ).loc main_arg2)) := rfl

/-- Column `c` of sequence `s` of the input, as a function of the row. -/
def colX (P : FP) (s : Fin 2) (c : Fin 2048) (t : ℕ) : EReal :=
  if h : t < 2176 then P (ix2 ⟨s.val * 2176 + t, by have := s.isLt; omega⟩ ⟨1024 + c.val, by have := c.isLt; omega⟩ : S4352x9216.Idx) else 0

/-- On a row of the sequence it is the array's entry. -/
theorem colX_of_lt (P : FP) (s : Fin 2) (c : Fin 2048) (t : ℕ) (h : t < 2176) :
    colX P s c t = P (ix2 ⟨s.val * 2176 + t, by have := s.isLt; omega⟩ ⟨1024 + c.val, by have := c.isLt; omega⟩ : S4352x9216.Idx) := dif_pos h

/-- The input under three rows of zeros, at an index. -/
theorem before_apply (P : FP) (s : Fin 2) (t : Fin 2179) (c : Fin 2048) :
    (before P (ix3 s t c : S2x2179x2048.Idx) : EReal) = if 3 ≤ t.val then colX P s c (t.val - 3) else 0 := by
  have h := t.isLt
  pointwise [before]
  by_cases ht : t.val < 3
  · exact (dif_pos ht).trans (if_neg (by omega)).symm
  · exact (dif_neg ht).trans ((if_pos (show 3 ≤ t.val by omega)).trans
      (colX_of_lt P s c (t.val - 3) (by omega))).symm

/-- The logistic function at an index. -/
theorem logi_apply (y : F3) (i : S2x2176x2048.Idx) : (logi y i : EReal) = sigmoid (y i) := by
  pointwise [logi]
  rfl

/-- The value before the activation, at an index. -/
theorem preV_apply (P : FP) (W : FW) (B : FB) (s : Fin 2) (t : Fin 2176) (c : Fin 2048) :
    (preV P W B (ix3 s t c : S2x2176x2048.Idx) : EReal)
      = pre (colX P s c) (W (ix2 0 c : S4x2048.Idx)) (W (ix2 1 c : S4x2048.Idx)) (W (ix2 2 c : S4x2048.Idx)) (W (ix2 3 c : S4x2048.Idx)) (B (ix2 0 c : S1x2048.Idx)) t.val := by
  pointwise [preV]
  simp only [before_apply]
  have e0 : (if 3 ≤ t.val then colX P s c (t.val - 3) else 0) = shift 3 (colX P s c) t.val := rfl
  have e1 : (if 3 ≤ 1 + t.val then colX P s c (1 + t.val - 3) else 0) = shift 2 (colX P s c) t.val :=
    if_congr (by omega) (by congr 1; omega) rfl
  have e2 : (if 3 ≤ 2 + t.val then colX P s c (2 + t.val - 3) else 0) = shift 1 (colX P s c) t.val :=
    if_congr (by omega) (by congr 1; omega) rfl
  have e3 : (if 3 ≤ 3 + t.val then colX P s c (3 + t.val - 3) else 0) = colX P s c t.val := by
    rw [if_pos (by omega)]; congr 1; omega
  rw [e0, e1, e2, e3, pre]
  generalize W (ix2 0 c) * shift 3 (colX P s c) t.val = p0
  generalize W (ix2 1 c) * shift 2 (colX P s c) t.val = p1
  generalize W (ix2 2 c) * shift 1 (colX P s c) t.val = p2
  generalize W (ix2 3 c) * colX P s c t.val = p3
  rw [add_comm _ (B (ix2 0 c)), add_comm p0 p1, add_comm _ p3, add_comm _ p2]
  simp only [add_assoc]

/-- The activation at an index. -/
theorem act3_apply (P : FP) (W : FW) (B : FB) (s : Fin 2) (t : Fin 2176) (c : Fin 2048) :
    (act3 P W B (ix3 s t c : S2x2176x2048.Idx) : EReal)
      = if 112 ≤ t.val then
        pre (colX P s c) (W (ix2 0 c : S4x2048.Idx)) (W (ix2 1 c : S4x2048.Idx)) (W (ix2 2 c : S4x2048.Idx)) (W (ix2 3 c : S4x2048.Idx)) (B (ix2 0 c : S1x2048.Idx)) t.val
          * sigmoid (pre (colX P s c) (W (ix2 0 c : S4x2048.Idx)) (W (ix2 1 c : S4x2048.Idx)) (W (ix2 2 c : S4x2048.Idx)) (W (ix2 3 c : S4x2048.Idx)) (B (ix2 0 c : S1x2048.Idx)) t.val)
        else 0 := by
  have h := t.isLt
  pointwise [act3]
  simp only [logi_apply, preV_apply]
  rw [WordCmp.cmpi_sge_ofNat (b := 112) (by omega) (by omega)]
  by_cases hr : 112 ≤ t.val
  · rw [decide_eq_true hr, if_pos hr]; rfl
  · rw [decide_eq_false hr, if_neg hr]; rfl

/-- The reference's result at row `t` of sequence `s`. -/
theorem refV_apply (P : FP) (W : FW) (B : FB) (s : Fin 2) (t : Fin 2176) (c : Fin 2048) :
    (refV P W B (ix2 ⟨s.val * 2176 + t.val, by have := s.isLt; have := t.isLt; omega⟩ c : S4352x2048.Idx) : EReal)
      = act3 P W B (ix3 s t c : S2x2176x2048.Idx) := by
  have hs := s.isLt
  have ht := t.isLt
  pointwise [refV]

end Cert.ConvFwdRefIdeal.At

namespace Cert.ConvFwdIdeal.Final

open Cert.ConvFwdIdeal Cert.ConvFwdIdeal.Gen Cert.ConvFwdIdeal.Shift Cert.ConvSpec Cert.Silu
open Idealize.ShloMosaic Idealize.ShloMosaic.TcCoe Idealize.SL.Sem
open Cert.ConvFwdRefIdeal.At (colX refV refV_apply act3_apply)

/-- The entry of a row of one block in column `c`. -/
abbrev at0 (w : FVec Ideal S1x256 .f32) (c : Fin 256) : EReal := w (ix2 0 c : S1x256.Idx)

/-- What the kernel computes on a block. -/
def outB (x : FVec Ideal S2176x256 .bf16) (w0 w1 w2 w3 b : FVec Ideal S1x256 .f32) : FVec Ideal S2176x256 .bf16 :=
  k0_pay1 (k0_pay2 x) (tap1 x) (tap2 x) (tap3 x) b w3 w2 w1 w0

/-- It is the activation on the rows of tokens, and zero elsewhere. -/
theorem outB_apply (x : FVec Ideal S2176x256 .bf16) (w0 w1 w2 w3 b : FVec Ideal S1x256 .f32) (r : Fin 2176) (c : Fin 256) :
    (outB x w0 w1 w2 w3 b (ix2 r c : S2176x256.Idx) : EReal)
      = if 112 ≤ r.val then
        pre (fun t => row x t c) (at0 w0 c) (at0 w1 c) (at0 w2 c) (at0 w3 c) (at0 b c) r.val
          * sigmoid (pre (fun t => row x t c) (at0 w0 c) (at0 w1 c) (at0 w2 c) (at0 w3 c) (at0 b c) r.val)
        else 0 := by
  have h := r.isLt
  unfold outB
  pointwise [k0_pay1, k0_pay2]
  simp only [half_tanh, tap1_apply, tap2_apply, tap3_apply]
  rw [WordCmp.cmpi_sge_ofNat (b := 112) (by omega) (by omega)]
  by_cases hr : 112 ≤ r.val
  · rw [decide_eq_true hr, if_pos hr]
    simp only [pre, shift, at0, row_val]
    rfl
  · rw [decide_eq_false hr, if_neg hr]
    rfl

variable (m : (ℓ : Loc nD τ sig) → Buf (Elt Ideal) ℓ)

/-- The blocks' places at a grid point. -/
theorem idx : ∀ t : Fin cfg0.N, win0_0.index t = ![t.val / 8, 4 + t.val % 8] ∧ win0_1.index t = ![0, t.val % 8] ∧ win0_2.index t = ![0, t.val % 8]
    ∧ win0_3.index t = ![t.val / 8, t.val % 8] :=
  (by decide +kernel : ∀ t : Fin grid0.N, _)

/-- Tap 0 of the block at a grid point. -/
abbrev ld0 (c : Dev nD) (t : Fin cfg0.N) : FVec Ideal S1x256 .f32 :=
  View.ld (iblk m c 1 t) (Rect.unit ![0, 0] ![1, 256] inb_S4x256_S1x256_0_0)

/-- Tap 1 of the block at a grid point. -/
abbrev ld1 (c : Dev nD) (t : Fin cfg0.N) : FVec Ideal S1x256 .f32 :=
  View.ld (iblk m c 1 t) (Rect.unit ![1, 0] ![1, 256] inb_S4x256_S1x256_1_0)

/-- Tap 2 of the block at a grid point. -/
abbrev ld2 (c : Dev nD) (t : Fin cfg0.N) : FVec Ideal S1x256 .f32 :=
  View.ld (iblk m c 1 t) (Rect.unit ![2, 0] ![1, 256] inb_S4x256_S1x256_2_0)

/-- Tap 3 of the block at a grid point. -/
abbrev ld3 (c : Dev nD) (t : Fin cfg0.N) : FVec Ideal S1x256 .f32 :=
  View.ld (iblk m c 1 t) (Rect.unit ![3, 0] ![1, 256] inb_S4x256_S1x256_3_0)

/-- Column `y` of the block of a grid point, among all columns. -/
abbrev col (t : Fin cfg0.N) (y : Fin 256) : Fin 2048 := ⟨256 * (t.val % 8) + y.val, by have : t.val < 16 := t.isLt; omega⟩

/-- The sequence of a grid point. -/
abbrev seq (t : Fin cfg0.N) : Fin 2 := ⟨t.val / 8, by have : t.val < 16 := t.isLt; omega⟩

/-- A column of the input's block. -/
theorem rowX (c : Dev nD) (t : Fin cfg0.N) (y : Fin 256) :
    (fun k => row (iblk m c 0 t) k y) = colX (m ((c.tc : Thread nD τ).loc main_arg0)) (seq t) (col t y) := by
  funext k
  unfold row colX
  split
  · blk_point [iblk, V, idx t]
  · rfl

/-- A column of the bias. -/
theorem atB (c : Dev nD) (t : Fin cfg0.N) (y : Fin 256) :
    at0 (iblk m c 2 t) y = m ((c.tc : Thread nD τ).loc main_arg2) (ix2 0 (col t y) : S1x2048.Idx) := by
  show (iblk m c 2 t (ix2 0 y : S1x256.Idx) : EReal) = _
  blk_point [iblk, V, idx t]

/-- An entry of the taps' block. -/
theorem atW (c : Dev nD) (t : Fin cfg0.N) (k : Fin 4) (y : Fin 256) :
    (iblk m c 1 t (ix2 k y : S4x256.Idx) : EReal) = m ((c.tc : Thread nD τ).loc main_arg1) (ix2 k (col t y) : S4x2048.Idx) := by
  blk_point [iblk, V, idx t]

/-- A column of tap 0. -/
theorem atW0 (c : Dev nD) (t : Fin cfg0.N) (y : Fin 256) :
    at0 (ld0 m c t) y = m ((c.tc : Thread nD τ).loc main_arg1) (ix2 0 (col t y) : S4x2048.Idx) := by
  refine Eq.trans ?_ (atW m c t 0 y)
  show (ld0 m c t (ix2 0 y : S1x256.Idx) : EReal) = _
  unfold ld0
  generalize iblk m c 1 t = w
  pointwise

/-- A column of tap 1. -/
theorem atW1 (c : Dev nD) (t : Fin cfg0.N) (y : Fin 256) :
    at0 (ld1 m c t) y = m ((c.tc : Thread nD τ).loc main_arg1) (ix2 1 (col t y) : S4x2048.Idx) := by
  refine Eq.trans ?_ (atW m c t 1 y)
  show (ld1 m c t (ix2 0 y : S1x256.Idx) : EReal) = _
  unfold ld1
  generalize iblk m c 1 t = w
  pointwise

/-- A column of tap 2. -/
theorem atW2 (c : Dev nD) (t : Fin cfg0.N) (y : Fin 256) :
    at0 (ld2 m c t) y = m ((c.tc : Thread nD τ).loc main_arg1) (ix2 2 (col t y) : S4x2048.Idx) := by
  refine Eq.trans ?_ (atW m c t 2 y)
  show (ld2 m c t (ix2 0 y : S1x256.Idx) : EReal) = _
  unfold ld2
  generalize iblk m c 1 t = w
  pointwise

/-- A column of tap 3. -/
theorem atW3 (c : Dev nD) (t : Fin cfg0.N) (y : Fin 256) :
    at0 (ld3 m c t) y = m ((c.tc : Thread nD τ).loc main_arg1) (ix2 3 (col t y) : S4x2048.Idx) := by
  refine Eq.trans ?_ (atW m c t 3 y)
  show (ld3 m c t (ix2 0 y : S1x256.Idx) : EReal) = _
  unfold ld3
  generalize iblk m c 1 t = w
  pointwise

/-- The block a grid point leaves. -/
theorem out_eq (c : Dev nD) (t : Fin cfg0.N) :
    out0_3 (iblk m c 0 t) (iblk m c 1 t) (iblk m c 2 t) = outB (iblk m c 0 t) (ld0 m c t) (ld1 m c t) (ld2 m c t) (ld3 m c t) (iblk m c 2 t) := by
  frame_out
  unfold outB tap1 tap2 tap3 move cols
  rfl

/-- An entry of the block is the reference's. -/
theorem point (c : Dev nD) (t : Fin cfg0.N) (r : Fin 2176) (y : Fin 256) :
    (out0_3 (iblk m c 0 t) (iblk m c 1 t) (iblk m c 2 t) (ix2 r y : S2176x256.Idx) : EReal)
      = refV (m ((c.tc : Thread nD τ).loc main_arg0)) (m ((c.tc : Thread nD τ).loc main_arg1)) (m ((c.tc : Thread nD τ).loc main_arg2))
        (ix2 ⟨(seq t).val * 2176 + r.val, by have := (seq t).isLt; have := r.isLt; omega⟩ (col t y) : S4352x2048.Idx) := by
  rw [out_eq, outB_apply, rowX, atB, atW0, atW1, atW2, atW3, refV_apply, act3_apply]

/-- The array after the run is the reference's result. -/
theorem final3 (c : Dev nD) : (dats m 0 c).arrAt 3 (cfgs 0).N
    = refV (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have e : (refV (m ((c.tc : Thread nD τ).loc main_arg0)) (m ((c.tc : Thread nD τ).loc main_arg1)) (m ((c.tc : Thread nD τ).loc main_arg2))
      (((View.whole main_v0).slice (win0_3.rect t)).emb (ix2 y0 y1)) : EReal)
      = refV (m ((c.tc : Thread nD τ).loc main_arg0)) (m ((c.tc : Thread nD τ).loc main_arg1)) (m ((c.tc : Thread nD τ).loc main_arg2))
        (ix2 ⟨(seq t).val * 2176 + y0.val, by have := (seq t).isLt; have := y0.isLt; omega⟩ (col t y1) : S4352x2048.Idx) := by
    blk_ext [idx t]
  exact (point m c t y0 y1).trans e.symm

end Cert.ConvFwdIdeal.Final
end
-- ==== Proof.ConvFwdClaim.lean ====
module

public import proofs.«01_k».proof.Defs
public import proofs.«01_k».proof.Proof.ConvFwdValue
public import Idealize.ShloMosaic.Lib.Claim

/-! # The forward convolution leaves the reference's result -/

@[expose] public section

set_option maxRecDepth 16384

noncomputable section

namespace Cert.ConvFwdClaim

open Idealize.ShloMosaic Idealize.ShloMosaic.TcCoe Idealize.SL.Sem

/-- The forward convolution with its bias and SiLU, of all arguments. -/
theorem convFwd [Cert.ConvFwdIdeal.Facts] [Cert.ConvFwdRefIdeal.Facts] : Cert.algebraic_ConvFwdIdeal_ConvFwdRefIdeal := by
  pair_intro
  · run_from Cert.ConvFwdIdeal.Value.run_blocks m g
  · run_from Cert.ConvFwdRefIdeal.Value.run m' g'
    obtain ⟨e0, e1, e2⟩ := hagree c
    refine Eq.trans ?_ (Cert.ConvFwdIdeal.Final.final3 m c).symm
    rw [← e0, ← e1, ← e2]
    rfl

end Cert.ConvFwdClaim
end
-- ==== Proof.lean ====
module

public import proofs.«01_k».proof.Defs
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.DownGrad
public import proofs.«01_k».proof.Proof.Gen.DownGrad.Frame
public import proofs.«01_k».proof.Proof.Gen.DownGradIdeal
public import proofs.«01_k».proof.Proof.Gen.DownGradIdeal.Frame
public import proofs.«01_k».proof.Proof.Gen.DownGradIdeal.Value
public import proofs.«01_k».proof.Proof.Gen.DownGradRefIdeal
public import proofs.«01_k».proof.Proof.Gen.DownGradRefIdeal.Run
public import proofs.«01_k».proof.Proof.Gen.GateUpGrad
public import proofs.«01_k».proof.Proof.Gen.GateUpGrad.Frame
public import proofs.«01_k».proof.Proof.Gen.GateUpGradIdeal
public import proofs.«01_k».proof.Proof.Gen.GateUpGradIdeal.Frame
public import proofs.«01_k».proof.Proof.Gen.GateUpGradIdeal.Value
public import proofs.«01_k».proof.Proof.Gen.GateUpGradRefIdeal
public import proofs.«01_k».proof.Proof.Gen.GateUpGradRefIdeal.Run
public import proofs.«01_k».proof.Proof.Gen.Branches
public import proofs.«01_k».proof.Proof.Gen.Branches.Frame
public import proofs.«01_k».proof.Proof.Gen.BranchesIdeal
public import proofs.«01_k».proof.Proof.Gen.BranchesIdeal.Frame
public import proofs.«01_k».proof.Proof.Gen.BranchesIdeal.Value
public import proofs.«01_k».proof.Proof.Gen.BranchesRefIdeal
public import proofs.«01_k».proof.Proof.Gen.BranchesRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.BranchGrad
public import proofs.«01_k».proof.Proof.Gen.BranchGrad.Frame
public import proofs.«01_k».proof.Proof.Gen.BranchGradIdeal
public import proofs.«01_k».proof.Proof.Gen.BranchGradIdeal.Frame
public import proofs.«01_k».proof.Proof.Gen.BranchGradIdeal.Value
public import proofs.«01_k».proof.Proof.Gen.BranchGradRefIdeal
public import proofs.«01_k».proof.Proof.Gen.BranchGradRefIdeal.Run
public import proofs.«01_k».proof.Proof.Gen.OutGrad
public import proofs.«01_k».proof.Proof.Gen.OutGrad.Frame
public import proofs.«01_k».proof.Proof.Gen.OutGradIdeal
public import proofs.«01_k».proof.Proof.Gen.OutGradIdeal.Frame
public import proofs.«01_k».proof.Proof.Gen.OutGradIdeal.Value
public import proofs.«01_k».proof.Proof.Gen.OutGradRefIdeal
public import proofs.«01_k».proof.Proof.Gen.OutGradRefIdeal.Run
public import proofs.«01_k».proof.Proof.Gen.InGrad
public import proofs.«01_k».proof.Proof.Gen.InGrad.Frame
public import proofs.«01_k».proof.Proof.Gen.InGradIdeal
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.Hgrn
public import proofs.«01_k».proof.Proof.Gen.Hgrn.Frame
public import proofs.«01_k».proof.Proof.Gen.HgrnIdeal
public import proofs.«01_k».proof.Proof.Gen.HgrnIdeal.Frame
public import proofs.«01_k».proof.Proof.Gen.HgrnIdeal.Value
public import proofs.«01_k».proof.Proof.Gen.HgrnRefIdeal
public import proofs.«01_k».proof.Proof.Gen.HgrnRefIdeal.Run
public import proofs.«01_k».proof.Proof.Gen.HgrnQueryRefIdeal
public import proofs.«01_k».proof.Proof.Gen.HgrnQueryRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.MergeGrad
public import proofs.«01_k».proof.Proof.Gen.MergeGrad.Frame
public import proofs.«01_k».proof.Proof.Gen.MergeGradIdeal
public import proofs.«01_k».proof.Proof.Gen.MergeGradIdeal.Frame
public import proofs.«01_k».proof.Proof.Gen.MergeGradIdeal.Value
public import proofs.«01_k».proof.Proof.Gen.MergeGradRefIdeal
public import proofs.«01_k».proof.Proof.Gen.MergeGradRefIdeal.Run
public import proofs.«01_k».proof.Proof.Gen.UnGrad
public import proofs.«01_k».proof.Proof.Gen.UnGrad.Frame
public import proofs.«01_k».proof.Proof.Gen.UnGradIdeal
public import proofs.«01_k».proof.Proof.Gen.UnGradIdeal.Frame
public import proofs.«01_k».proof.Proof.Gen.UnGradIdeal.Value
public import proofs.«01_k».proof.Proof.Gen.UnGradRefIdeal
public import proofs.«01_k».proof.Proof.Gen.UnGradRefIdeal.Run
public import proofs.«01_k».proof.Proof.Gen.DownNorm
public import proofs.«01_k».proof.Proof.Gen.DownNorm.Frame
public import proofs.«01_k».proof.Proof.Gen.DownNormIdeal
public import proofs.«01_k».proof.Proof.Gen.DownNormIdeal.Frame
public import proofs.«01_k».proof.Proof.Gen.DownNormIdeal.Value
public import proofs.«01_k».proof.Proof.Gen.DownNormRefIdeal
public import proofs.«01_k».proof.Proof.Gen.DownNormRefIdeal.Run
public import proofs.«01_k».proof.Proof.Gen.InProjDt
public import proofs.«01_k».proof.Proof.Gen.InProjDt.Frame
public import proofs.«01_k».proof.Proof.Gen.InProjDtIdeal
public import proofs.«01_k».proof.Proof.Gen.InProjDtIdeal.Frame
public import proofs.«01_k».proof.Proof.Gen.InProjDtIdeal.Value
public import proofs.«01_k».proof.Proof.Gen.InProjDtRefIdeal
public import proofs.«01_k».proof.Proof.Gen.InProjDtRefIdeal.Run
public import proofs.«01_k».proof.Proof.Gen.UnGradDt
public import proofs.«01_k».proof.Proof.Gen.UnGradDt.Frame
public import proofs.«01_k».proof.Proof.Gen.UnGradDtIdeal
public import proofs.«01_k».proof.Proof.Gen.UnGradDtIdeal.Frame
public import proofs.«01_k».proof.Proof.Gen.UnGradDtIdeal.Value
public import proofs.«01_k».proof.Proof.Gen.UnGradDtRefIdeal
public import proofs.«01_k».proof.Proof.Gen.UnGradDtRefIdeal.Run
public import proofs.«01_k».proof.Proof.Gen.InGradDt
public import proofs.«01_k».proof.Proof.Gen.InGradDt.Frame
public import proofs.«01_k».proof.Proof.Gen.InGradDtIdeal
public import proofs.«01_k».proof.Proof.Gen.InGradDtIdeal.Frame
public import proofs.«01_k».proof.Proof.Gen.InGradDtIdeal.Value
public import proofs.«01_k».proof.Proof.Gen.InGradDtRefIdeal
public import proofs.«01_k».proof.Proof.Gen.InGradDtRefIdeal.Run
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.Pre_finite_cotangent
public import proofs.«01_k».proof.Proof.Gen.Pre_finite_activation
public import proofs.«01_k».proof.Proof.Gen.Pre_finite_norm
public import proofs.«01_k».proof.Proof.Gen.Pre_finite_hgrn
public import proofs.«01_k».proof.Proof.ConvClaim
public import proofs.«01_k».proof.Proof.FfnClaim
public import proofs.«01_k».proof.Proof.MixClaim
public import proofs.«01_k».proof.Proof.HgrnClaim
public import proofs.«01_k».proof.Proof.HgrnQueryClaim
public import proofs.«01_k».proof.Proof.ProjClaim
public import proofs.«01_k».proof.Proof.DtClaim
public import proofs.«01_k».proof.Proof.ConvFwdClaim
public import Idealize.ShloMosaic.Adequacy

@[expose] public section

noncomputable section

namespace Cert.Proof

open Idealize.ShloMosaic Idealize.SL.Sem

/-- The reference of `Conv` runs and leaves its arguments unchanged. -/
theorem frame_Conv [Cert.ConvRefIdeal.Facts] : Cert.quiescent_ConvRefIdeal := by
  intro m g _
  exact (θ_run Cert.ConvRefIdeal.defs _ _).mono (fun r h => ⟨fun c => (h c).2.2.2,
      sem_eq_zero_of_no_sems (by decide) r.2⟩)
    (Cert.ConvRefIdeal.Value.run (F := Ideal) m g)

/-- The reference of `GateUp` runs and leaves its arguments unchanged. -/
theorem frame_GateUp [Cert.GateUpRefIdeal.Facts] : Cert.quiescent_GateUpRefIdeal := by
  intro m g _
  exact (θ_run Cert.GateUpRefIdeal.defs _ _).mono (fun r h => ⟨fun c => (h c).2.2.2,
      sem_eq_zero_of_no_sems (by decide) r.2⟩)
    (Cert.GateUpRefIdeal.Value.run (F := Ideal) m g)

/-- The reference of `Down` runs and leaves its arguments unchanged. -/
theorem frame_Down [Cert.DownRefIdeal.Facts] : Cert.quiescent_DownRefIdeal := by
  intro m g _
  exact (θ_run Cert.DownRefIdeal.defs _ _).mono (fun r h => ⟨fun c => (h c).2,
      sem_eq_zero_of_no_sems (by decide) r.2⟩)
    (Cert.DownRefIdeal.Value.run (F := Ideal) m g)

/-- The reference of `Act` runs and leaves its arguments unchanged. -/
theorem frame_Act [Cert.ActRefIdeal.Facts] : Cert.quiescent_ActRefIdeal := by
  intro m g _
  exact (θ_run Cert.ActRefIdeal.defs _ _).mono (fun r h => ⟨fun c => (h c).2,
      sem_eq_zero_of_no_sems (by decide) r.2⟩)
    (Cert.ActRefIdeal.Value.run (F := Ideal) m g)

/-- The reference of `Norm` runs and leaves its arguments unchanged. -/
theorem frame_Norm [Cert.NormRefIdeal.Facts] : Cert.quiescent_NormRefIdeal := by
  intro m g _
  exact (θ_run Cert.NormRefIdeal.defs _ _).mono (fun r h => ⟨fun c => (h c).2.2.2,
      sem_eq_zero_of_no_sems (by decide) r.2⟩)
    (Cert.NormRefIdeal.Value.run (F := Ideal) m g)

/-- The reference of `DownGrad` runs and leaves its arguments unchanged. -/
theorem frame_DownGrad [Cert.DownGradRefIdeal.Facts] : Cert.quiescent_DownGradRefIdeal := by
  intro m g _
  exact (θ_run Cert.DownGradRefIdeal.defs _ _).mono (fun r h => ⟨fun c => (h c).2,
      sem_eq_zero_of_no_sems (by decide) r.2⟩)
    (Cert.DownGradRefIdeal.Value.run (F := Ideal) m g)

/-- The reference of `GateUpGrad` runs and leaves its arguments unchanged. -/
theorem frame_GateUpGrad [Cert.GateUpGradRefIdeal.Facts] : Cert.quiescent_GateUpGradRefIdeal := by
  intro m g _
  exact (θ_run Cert.GateUpGradRefIdeal.defs _ _).mono (fun r h => ⟨fun c => (h c).2,
      sem_eq_zero_of_no_sems (by decide) r.2⟩)
    (Cert.GateUpGradRefIdeal.Value.run (F := Ideal) m g)

/-- The reference of `Branches` runs and leaves its arguments unchanged. -/
theorem frame_Branches [Cert.BranchesRefIdeal.Facts] : Cert.quiescent_BranchesRefIdeal := by
  intro m g _
  exact (θ_run Cert.BranchesRefIdeal.defs _ _).mono (fun r h => ⟨fun c => (h c).2.2.2,
      sem_eq_zero_of_no_sems (by decide) r.2⟩)
    (Cert.BranchesRefIdeal.Value.run (F := Ideal) m g)

/-- The reference of `OutProj` runs and leaves its arguments unchanged. -/
theorem frame_OutProj [Cert.OutProjRefIdeal.Facts] : Cert.quiescent_OutProjRefIdeal := by
  intro m g _
  exact (θ_run Cert.OutProjRefIdeal.defs _ _).mono (fun r h => ⟨fun c => (h c).2.2,
      sem_eq_zero_of_no_sems (by decide) r.2⟩)
    (Cert.OutProjRefIdeal.Value.run (F := Ideal) m g)

/-- The reference of `BranchGrad` runs and leaves its arguments unchanged. -/
theorem frame_BranchGrad [Cert.BranchGradRefIdeal.Facts] : Cert.quiescent_BranchGradRefIdeal := by
  intro m g _
  exact (θ_run Cert.BranchGradRefIdeal.defs _ _).mono (fun r h => ⟨fun c => (h c).2.2,
      sem_eq_zero_of_no_sems (by decide) r.2⟩)
    (Cert.BranchGradRefIdeal.Value.run (F := Ideal) m g)

/-- The reference of `OutGrad` runs and leaves its arguments unchanged. -/
theorem frame_OutGrad [Cert.OutGradRefIdeal.Facts] : Cert.quiescent_OutGradRefIdeal := by
  intro m g _
  exact (θ_run Cert.OutGradRefIdeal.defs _ _).mono (fun r h => ⟨fun c => (h c).2,
      sem_eq_zero_of_no_sems (by decide) r.2⟩)
    (Cert.OutGradRefIdeal.Value.run (F := Ideal) m g)

/-- The reference of `InGrad` runs and leaves its arguments unchanged. -/
theorem frame_InGrad [Cert.InGradRefIdeal.Facts] : Cert.quiescent_InGradRefIdeal := by
  intro m g _
  exact (θ_run Cert.InGradRefIdeal.defs _ _).mono (fun r h => ⟨fun c => (h c).2,
      sem_eq_zero_of_no_sems (by decide) r.2⟩)
    (Cert.InGradRefIdeal.Value.run (F := Ideal) m g)

/-- The reference of `Hgrn` runs and leaves its arguments unchanged. -/
theorem frame_Hgrn [Cert.HgrnRefIdeal.Facts] : Cert.quiescent_HgrnRefIdeal := by
  intro m g _
  exact (θ_run Cert.HgrnRefIdeal.defs _ _).mono (fun r h => ⟨fun c => (h c).2.2,
      sem_eq_zero_of_no_sems (by decide) r.2⟩)
    (Cert.HgrnRefIdeal.Value.run (F := Ideal) m g)

/-- The reference of `HgrnQuery` runs and leaves its arguments unchanged. -/
theorem frame_HgrnQuery [Cert.HgrnQueryRefIdeal.Facts] : Cert.quiescent_HgrnQueryRefIdeal := by
  intro m g _
  exact (θ_run Cert.HgrnQueryRefIdeal.defs _ _).mono (fun r h => ⟨fun c => (h c).2.2,
      sem_eq_zero_of_no_sems (by decide) r.2⟩)
    (Cert.HgrnQueryRefIdeal.Value.run (F := Ideal) m g)

/-- The reference of `InProj` runs and leaves its arguments unchanged. -/
theorem frame_InProj [Cert.InProjRefIdeal.Facts] : Cert.quiescent_InProjRefIdeal := by
  intro m g _
  exact (θ_run Cert.InProjRefIdeal.defs _ _).mono (fun r h => ⟨fun c => (h c).2,
      sem_eq_zero_of_no_sems (by decide) r.2⟩)
    (Cert.InProjRefIdeal.Value.run (F := Ideal) m g)

/-- The reference of `MergeGrad` runs and leaves its arguments unchanged. -/
theorem frame_MergeGrad [Cert.MergeGradRefIdeal.Facts] : Cert.quiescent_MergeGradRefIdeal := by
  intro m g _
  exact (θ_run Cert.MergeGradRefIdeal.defs _ _).mono (fun r h => ⟨fun c => (h c).2.2.2,
      sem_eq_zero_of_no_sems (by decide) r.2⟩)
    (Cert.MergeGradRefIdeal.Value.run (F := Ideal) m g)

/-- The reference of `UnGrad` runs and leaves its arguments unchanged. -/
theorem frame_UnGrad [Cert.UnGradRefIdeal.Facts] : Cert.quiescent_UnGradRefIdeal := by
  intro m g _
  exact (θ_run Cert.UnGradRefIdeal.defs _ _).mono (fun r h => ⟨fun c => (h c).2.2.2,
      sem_eq_zero_of_no_sems (by decide) r.2⟩)
    (Cert.UnGradRefIdeal.Value.run (F := Ideal) m g)

/-- The reference of `DownNorm` runs and leaves its arguments unchanged. -/
theorem frame_DownNorm [Cert.DownNormRefIdeal.Facts] : Cert.quiescent_DownNormRefIdeal := by
  intro m g _
  exact (θ_run Cert.DownNormRefIdeal.defs _ _).mono (fun r h => ⟨fun c => (h c).2.2,
      sem_eq_zero_of_no_sems (by decide) r.2⟩)
    (Cert.DownNormRefIdeal.Value.run (F := Ideal) m g)

/-- The reference of `InProjDt` runs and leaves its arguments unchanged. -/
theorem frame_InProjDt [Cert.InProjDtRefIdeal.Facts] : Cert.quiescent_InProjDtRefIdeal := by
  intro m g _
  exact (θ_run Cert.InProjDtRefIdeal.defs _ _).mono (fun r h => ⟨fun c => (h c).2,
      sem_eq_zero_of_no_sems (by decide) r.2⟩)
    (Cert.InProjDtRefIdeal.Value.run (F := Ideal) m g)

/-- The reference of `UnGradDt` runs and leaves its arguments unchanged. -/
theorem frame_UnGradDt [Cert.UnGradDtRefIdeal.Facts] : Cert.quiescent_UnGradDtRefIdeal := by
  intro m g _
  exact (θ_run Cert.UnGradDtRefIdeal.defs _ _).mono (fun r h => ⟨fun c => (h c).2,
      sem_eq_zero_of_no_sems (by decide) r.2⟩)
    (Cert.UnGradDtRefIdeal.Value.run (F := Ideal) m g)

/-- The reference of `InGradDt` runs and leaves its arguments unchanged. -/
theorem frame_InGradDt [Cert.InGradDtRefIdeal.Facts] : Cert.quiescent_InGradDtRefIdeal := by
  intro m g _
  exact (θ_run Cert.InGradDtRefIdeal.defs _ _).mono (fun r h => ⟨fun c => (h c).2,
      sem_eq_zero_of_no_sems (by decide) r.2⟩)
    (Cert.InGradDtRefIdeal.Value.run (F := Ideal) m g)

/-- The reference of `ConvFwd` runs and leaves its arguments unchanged. -/
theorem frame_ConvFwd [Cert.ConvFwdRefIdeal.Facts] : Cert.quiescent_ConvFwdRefIdeal := by
  intro m g _
  exact (θ_run Cert.ConvFwdRefIdeal.defs _ _).mono (fun r h => ⟨fun c => (h c).2,
      sem_eq_zero_of_no_sems (by decide) r.2⟩)
    (Cert.ConvFwdRefIdeal.Value.run (F := Ideal) m g)

/-- Everything claimed: the frames, the idealizations and the values. -/
theorem claim : Cert.Claim := ⟨Cert.Conv.Gen.facts, Cert.ConvIdeal.Gen.facts, Cert.ConvRefIdeal.Gen.facts, Cert.GateUp.Gen.facts, Cert.GateUpIdeal.Gen.facts, Cert.GateUpRefIdeal.Gen.facts, Cert.Down.Gen.facts, Cert.DownIdeal.Gen.facts, Cert.DownRefIdeal.Gen.facts, Cert.Act.Gen.facts, Cert.ActIdeal.Gen.facts, Cert.ActRefIdeal.Gen.facts, Cert.Norm.Gen.facts, Cert.NormIdeal.Gen.facts, Cert.NormRefIdeal.Gen.facts, Cert.DownGrad.Gen.facts, Cert.DownGradIdeal.Gen.facts, Cert.DownGradRefIdeal.Gen.facts, Cert.GateUpGrad.Gen.facts, Cert.GateUpGradIdeal.Gen.facts, Cert.GateUpGradRefIdeal.Gen.facts, Cert.Branches.Gen.facts, Cert.BranchesIdeal.Gen.facts, Cert.BranchesRefIdeal.Gen.facts, Cert.OutProj.Gen.facts, Cert.OutProjIdeal.Gen.facts, Cert.OutProjRefIdeal.Gen.facts, Cert.BranchGrad.Gen.facts, Cert.BranchGradIdeal.Gen.facts, Cert.BranchGradRefIdeal.Gen.facts, Cert.OutGrad.Gen.facts, Cert.OutGradIdeal.Gen.facts, Cert.OutGradRefIdeal.Gen.facts, Cert.InGrad.Gen.facts, Cert.InGradIdeal.Gen.facts, Cert.InGradRefIdeal.Gen.facts, Cert.Hgrn.Gen.facts, Cert.HgrnIdeal.Gen.facts, Cert.HgrnRefIdeal.Gen.facts, Cert.HgrnQueryRefIdeal.Gen.facts, Cert.InProj.Gen.facts, Cert.InProjIdeal.Gen.facts, Cert.InProjRefIdeal.Gen.facts, Cert.MergeGrad.Gen.facts, Cert.MergeGradIdeal.Gen.facts, Cert.MergeGradRefIdeal.Gen.facts, Cert.UnGrad.Gen.facts, Cert.UnGradIdeal.Gen.facts, Cert.UnGradRefIdeal.Gen.facts, Cert.DownNorm.Gen.facts, Cert.DownNormIdeal.Gen.facts, Cert.DownNormRefIdeal.Gen.facts, Cert.InProjDt.Gen.facts, Cert.InProjDtIdeal.Gen.facts, Cert.InProjDtRefIdeal.Gen.facts, Cert.UnGradDt.Gen.facts, Cert.UnGradDtIdeal.Gen.facts, Cert.UnGradDtRefIdeal.Gen.facts, Cert.InGradDt.Gen.facts, Cert.InGradDtIdeal.Gen.facts, Cert.InGradDtRefIdeal.Gen.facts, Cert.ConvFwd.Gen.facts, Cert.ConvFwdIdeal.Gen.facts, Cert.ConvFwdRefIdeal.Gen.facts, Cert.ConvClaim.finite_facts, Cert.FfnClaim.act_facts, Cert.FfnClaim.norm_facts, Cert.HgrnClaim.finite_facts, Cert.HgrnQueryClaim.finite_facts, Cert.ProjClaim.un_facts, Cert.HgrnClaim.columns_facts, Cert.HgrnQueryClaim.columns_facts,
  fun m ρ _ => Cert.Conv.Gen.frame m ρ,
  fun m ρ _ => Cert.ConvIdeal.Gen.frame m ρ,
  fun m ρ _ => Cert.ConvIdeal.Gen.frame m ρ,
  @frame_Conv Cert.ConvRefIdeal.Gen.facts,
  fun m ρ _ => @frame_Conv Cert.ConvRefIdeal.Gen.facts m ρ trivial,
  fun m ρ _ => Cert.GateUp.Gen.frame m ρ,
  fun m ρ _ => Cert.GateUpIdeal.Gen.frame m ρ,
  @frame_GateUp Cert.GateUpRefIdeal.Gen.facts,
  fun m ρ _ => Cert.Down.Gen.frame m ρ,
  fun m ρ _ => Cert.DownIdeal.Gen.frame m ρ,
  @frame_Down Cert.DownRefIdeal.Gen.facts,
  fun m ρ _ => Cert.Act.Gen.frame m ρ,
  fun m ρ _ => Cert.ActIdeal.Gen.frame m ρ,
  fun m ρ _ => Cert.ActIdeal.Gen.frame m ρ,
  @frame_Act Cert.ActRefIdeal.Gen.facts,
  fun m ρ _ => @frame_Act Cert.ActRefIdeal.Gen.facts m ρ trivial,
  fun m ρ _ => Cert.Norm.Gen.frame m ρ,
  fun m ρ _ => Cert.NormIdeal.Gen.frame m ρ,
  fun m ρ _ => Cert.NormIdeal.Gen.frame m ρ,
  @frame_Norm Cert.NormRefIdeal.Gen.facts,
  fun m ρ _ => @frame_Norm Cert.NormRefIdeal.Gen.facts m ρ trivial,
  fun m ρ _ => Cert.DownGrad.Gen.frame m ρ,
  fun m ρ _ => Cert.DownGradIdeal.Gen.frame m ρ,
  @frame_DownGrad Cert.DownGradRefIdeal.Gen.facts,
  fun m ρ _ => Cert.GateUpGrad.Gen.frame m ρ,
  fun m ρ _ => Cert.GateUpGradIdeal.Gen.frame m ρ,
  @frame_GateUpGrad Cert.GateUpGradRefIdeal.Gen.facts,
  fun m ρ _ => Cert.Branches.Gen.frame m ρ,
  fun m ρ _ => Cert.BranchesIdeal.Gen.frame m ρ,
  @frame_Branches Cert.BranchesRefIdeal.Gen.facts,
  fun m ρ _ => Cert.OutProj.Gen.frame m ρ,
  fun m ρ _ => Cert.OutProjIdeal.Gen.frame m ρ,
  @frame_OutProj Cert.OutProjRefIdeal.Gen.facts,
  fun m ρ _ => Cert.BranchGrad.Gen.frame m ρ,
  fun m ρ _ => Cert.BranchGradIdeal.Gen.frame m ρ,
  @frame_BranchGrad Cert.BranchGradRefIdeal.Gen.facts,
  fun m ρ _ => Cert.OutGrad.Gen.frame m ρ,
  fun m ρ _ => Cert.OutGradIdeal.Gen.frame m ρ,
  @frame_OutGrad Cert.OutGradRefIdeal.Gen.facts,
  fun m ρ _ => Cert.InGrad.Gen.frame m ρ,
  fun m ρ _ => Cert.InGradIdeal.Gen.frame m ρ,
  @frame_InGrad Cert.InGradRefIdeal.Gen.facts,
  fun m ρ _ => Cert.Hgrn.Gen.frame m ρ,
  fun m ρ _ => Cert.HgrnIdeal.Gen.frame m ρ,
  fun m ρ _ => Cert.HgrnIdeal.Gen.frame m ρ,
  fun m ρ _ => Cert.HgrnIdeal.Gen.frame m ρ,
  @frame_Hgrn Cert.HgrnRefIdeal.Gen.facts,
  fun m ρ _ => @frame_Hgrn Cert.HgrnRefIdeal.Gen.facts m ρ trivial,
  @frame_HgrnQuery Cert.HgrnQueryRefIdeal.Gen.facts,
  fun m ρ _ => @frame_HgrnQuery Cert.HgrnQueryRefIdeal.Gen.facts m ρ trivial,
  fun m ρ _ => Cert.InProj.Gen.frame m ρ,
  fun m ρ _ => Cert.InProjIdeal.Gen.frame m ρ,
  @frame_InProj Cert.InProjRefIdeal.Gen.facts,
  fun m ρ _ => Cert.MergeGrad.Gen.frame m ρ,
  fun m ρ _ => Cert.MergeGradIdeal.Gen.frame m ρ,
  @frame_MergeGrad Cert.MergeGradRefIdeal.Gen.facts,
  fun m ρ _ => Cert.UnGrad.Gen.frame m ρ,
  fun m ρ _ => Cert.UnGradIdeal.Gen.frame m ρ,
  fun m ρ _ => Cert.UnGradIdeal.Gen.frame m ρ,
  @frame_UnGrad Cert.UnGradRefIdeal.Gen.facts,
  fun m ρ _ => @frame_UnGrad Cert.UnGradRefIdeal.Gen.facts m ρ trivial,
  fun m ρ _ => Cert.DownNorm.Gen.frame m ρ,
  fun m ρ _ => Cert.DownNormIdeal.Gen.frame m ρ,
  @frame_DownNorm Cert.DownNormRefIdeal.Gen.facts,
  fun m ρ _ => Cert.InProjDt.Gen.frame m ρ,
  fun m ρ _ => Cert.InProjDtIdeal.Gen.frame m ρ,
  @frame_InProjDt Cert.InProjDtRefIdeal.Gen.facts,
  fun m ρ _ => Cert.UnGradDt.Gen.frame m ρ,
  fun m ρ _ => Cert.UnGradDtIdeal.Gen.frame m ρ,
  @frame_UnGradDt Cert.UnGradDtRefIdeal.Gen.facts,
  fun m ρ _ => Cert.InGradDt.Gen.frame m ρ,
  fun m ρ _ => Cert.InGradDtIdeal.Gen.frame m ρ,
  @frame_InGradDt Cert.InGradDtRefIdeal.Gen.facts,
  fun m ρ _ => Cert.ConvFwd.Gen.frame m ρ,
  fun m ρ _ => Cert.ConvFwdIdeal.Gen.frame m ρ,
  @frame_ConvFwd Cert.ConvFwdRefIdeal.Gen.facts,
  trivial,
  @Cert.ConvClaim.algebraic Cert.ConvIdeal.Gen.facts Cert.ConvRefIdeal.Gen.facts Cert.ConvClaim.finite_facts,
  trivial,
  @Cert.FfnClaim.gateUp Cert.GateUpIdeal.Gen.facts Cert.GateUpRefIdeal.Gen.facts,
  trivial,
  @Cert.FfnClaim.down Cert.DownIdeal.Gen.facts Cert.DownRefIdeal.Gen.facts,
  trivial,
  @Cert.FfnClaim.act Cert.ActIdeal.Gen.facts Cert.ActRefIdeal.Gen.facts Cert.FfnClaim.act_facts,
  trivial,
  @Cert.FfnClaim.norm Cert.NormIdeal.Gen.facts Cert.NormRefIdeal.Gen.facts Cert.FfnClaim.norm_facts,
  trivial,
  @Cert.FfnClaim.downGrad Cert.DownGradIdeal.Gen.facts Cert.DownGradRefIdeal.Gen.facts,
  trivial,
  @Cert.FfnClaim.gateUpGrad Cert.GateUpGradIdeal.Gen.facts Cert.GateUpGradRefIdeal.Gen.facts,
  trivial,
  @Cert.MixClaim.branches Cert.BranchesIdeal.Gen.facts Cert.BranchesRefIdeal.Gen.facts,
  trivial,
  @Cert.MixClaim.outProj Cert.OutProjIdeal.Gen.facts Cert.OutProjRefIdeal.Gen.facts,
  trivial,
  @Cert.MixClaim.branchGrad Cert.BranchGradIdeal.Gen.facts Cert.BranchGradRefIdeal.Gen.facts,
  trivial,
  @Cert.MixClaim.outGrad Cert.OutGradIdeal.Gen.facts Cert.OutGradRefIdeal.Gen.facts,
  trivial,
  @Cert.MixClaim.inGrad Cert.InGradIdeal.Gen.facts Cert.InGradRefIdeal.Gen.facts,
  trivial,
  @Cert.HgrnClaim.hgrn Cert.HgrnIdeal.Gen.facts Cert.HgrnRefIdeal.Gen.facts Cert.HgrnClaim.finite_facts Cert.HgrnClaim.columns_facts,
  @Cert.HgrnQueryClaim.query Cert.HgrnIdeal.Gen.facts Cert.HgrnQueryRefIdeal.Gen.facts Cert.HgrnQueryClaim.finite_facts Cert.HgrnQueryClaim.columns_facts,
  trivial,
  @Cert.ProjClaim.inProj Cert.InProjIdeal.Gen.facts Cert.InProjRefIdeal.Gen.facts,
  trivial,
  @Cert.ProjClaim.mergeGrad Cert.MergeGradIdeal.Gen.facts Cert.MergeGradRefIdeal.Gen.facts,
  trivial,
  @Cert.ProjClaim.unGrad Cert.UnGradIdeal.Gen.facts Cert.UnGradRefIdeal.Gen.facts Cert.ProjClaim.un_facts,
  trivial,
  @Cert.DtClaim.downNorm Cert.DownNormIdeal.Gen.facts Cert.DownNormRefIdeal.Gen.facts,
  trivial,
  @Cert.DtClaim.inProjDt Cert.InProjDtIdeal.Gen.facts Cert.InProjDtRefIdeal.Gen.facts,
  trivial,
  @Cert.DtClaim.unGradDt Cert.UnGradDtIdeal.Gen.facts Cert.UnGradDtRefIdeal.Gen.facts,
  trivial,
  @Cert.DtClaim.inGradDt Cert.InGradDtIdeal.Gen.facts Cert.InGradDtRefIdeal.Gen.facts,
  trivial,
  @Cert.ConvFwdClaim.convFwd Cert.ConvFwdIdeal.Gen.facts Cert.ConvFwdRefIdeal.Gen.facts⟩

end Cert.Proof

end
